-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9))).1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9))).2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9))).2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9))).2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9))).2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9))).2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9))).2.2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9))).2.2.2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9))).2.2.2.2.2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9))).2.2.2.2.2.2.2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9))).1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9))).2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9))).2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9))).2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9))).2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9))).2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9))).2.2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9))).2.2.2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9))).2.2.2.2.2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9))).2.2.2.2.2.2.2.2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))).2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))).2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))).2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))).2.2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))).2.2.2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))).2.2.2.2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))).2.2.2.2.2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))).2.2.2.2.2.2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8))).2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8))).2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8))).2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8))).2.2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8))).2.2.2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8))).2.2.2.2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8))).2.2.2.2.2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) (m ((c.tc : Thread Cert.Reference11Ideal.nD Cert.Reference11Ideal.τ).loc Cert.Reference11Ideal.main_arg6)) (m ((c.tc : Thread Cert.Reference11Ideal.nD Cert.Reference11Ideal.τ).loc Cert.Reference11Ideal.main_arg7)) (m ((c.tc : Thread Cert.Reference11Ideal.nD Cert.Reference11Ideal.τ).loc Cert.Reference11Ideal.main_arg8))).2.2.2.2.2.2.2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8))).2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8))).2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8))).2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8))).2.2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8))).2.2.2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8))).2.2.2.2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8))).2.2.2.2.2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8))).2.2.2.2.2.2.2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8))).2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8))).2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8))).2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8))).2.2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8))).2.2.2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8))).2.2.2.2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8))).2.2.2.2.2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8))).2.2.2.2.2.2.2.2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Kernel24Ideal_finite24 [hPre_finite24 : Cert.Pre_finite24.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4))).1 = (fun _ => 1#1)
    ∧ (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4))).2.1 = (fun _ => 1#1)
    ∧ (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4))).2.2 = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_finite24 [hPre_finite24 : Cert.Pre_finite24.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3)) (m ((c.tc : Thread Cert.Reference24Ideal.nD Cert.Reference24Ideal.τ).loc Cert.Reference24Ideal.main_arg4))).1 = (fun _ => 1#1)
    ∧ (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3)) (m ((c.tc : Thread Cert.Reference24Ideal.nD Cert.Reference24Ideal.τ).loc Cert.Reference24Ideal.main_arg4))).2.1 = (fun _ => 1#1)
    ∧ (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3)) (m ((c.tc : Thread Cert.Reference24Ideal.nD Cert.Reference24Ideal.τ).loc Cert.Reference24Ideal.main_arg4))).2.2 = (fun _ => 1#1)

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Kernel24Ideal_pre_finite24 [hKernel24Ideal : Cert.Kernel24Ideal.Facts] [hPre_finite24 : Cert.Pre_finite24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal_finite24 m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Reference24Ideal_pre_finite24 [hReference24Ideal : Cert.Reference24Ideal.Facts] [hPre_finite24 : Cert.Pre_finite24.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_finite24 m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5)
      ∧ r.2.mem ((c.tc : Thread Cert.Kernel26.nD Cert.Kernel26.τ).loc Cert.Kernel26.main_arg6) = m ((c.tc : Thread Cert.Kernel26.nD Cert.Kernel26.τ).loc Cert.Kernel26.main_arg6)
      ∧ r.2.mem ((c.tc : Thread Cert.Kernel26.nD Cert.Kernel26.τ).loc Cert.Kernel26.main_arg7) = m ((c.tc : Thread Cert.Kernel26.nD Cert.Kernel26.τ).loc Cert.Kernel26.main_arg7)
      ∧ r.2.mem ((c.tc : Thread Cert.Kernel26.nD Cert.Kernel26.τ).loc Cert.Kernel26.main_arg8) = m ((c.tc : Thread Cert.Kernel26.nD Cert.Kernel26.τ).loc Cert.Kernel26.main_arg8)
      ∧ r.2.mem ((c.tc : Thread Cert.Kernel26.nD Cert.Kernel26.τ).loc Cert.Kernel26.main_arg9) = m ((c.tc : Thread Cert.Kernel26.nD Cert.Kernel26.τ).loc Cert.Kernel26.main_arg9))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
      ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
      ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7)
      ∧ r.2.mem ((c.tc : Thread Cert.Kernel26Ideal.nD Cert.Kernel26Ideal.τ).loc Cert.Kernel26Ideal.main_arg8) = m ((c.tc : Thread Cert.Kernel26Ideal.nD Cert.Kernel26Ideal.τ).loc Cert.Kernel26Ideal.main_arg8)
      ∧ r.2.mem ((c.tc : Thread Cert.Kernel26Ideal.nD Cert.Kernel26Ideal.τ).loc Cert.Kernel26Ideal.main_arg9) = m ((c.tc : Thread Cert.Kernel26Ideal.nD Cert.Kernel26Ideal.τ).loc Cert.Kernel26Ideal.main_arg9))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5)
      ∧ r.2.mem ((c.tc : Thread Cert.Reference26Ideal.nD Cert.Reference26Ideal.τ).loc Cert.Reference26Ideal.main_arg6) = m ((c.tc : Thread Cert.Reference26Ideal.nD Cert.Reference26Ideal.τ).loc Cert.Reference26Ideal.main_arg6)
      ∧ r.2.mem ((c.tc : Thread Cert.Reference26Ideal.nD Cert.Reference26Ideal.τ).loc Cert.Reference26Ideal.main_arg7) = m ((c.tc : Thread Cert.Reference26Ideal.nD Cert.Reference26Ideal.τ).loc Cert.Reference26Ideal.main_arg7)
      ∧ r.2.mem ((c.tc : Thread Cert.Reference26Ideal.nD Cert.Reference26Ideal.τ).loc Cert.Reference26Ideal.main_arg8) = m ((c.tc : Thread Cert.Reference26Ideal.nD Cert.Reference26Ideal.τ).loc Cert.Reference26Ideal.main_arg8)
      ∧ r.2.mem ((c.tc : Thread Cert.Reference26Ideal.nD Cert.Reference26Ideal.τ).loc Cert.Reference26Ideal.main_arg9) = m ((c.tc : Thread Cert.Reference26Ideal.nD Cert.Reference26Ideal.τ).loc Cert.Reference26Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_v34) = v4 c
          ∧ r.2.mem ((c.tc : Thread Cert.ReferenceIdeal.nD Cert.ReferenceIdeal.τ).loc Cert.ReferenceIdeal.main_v35) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_v10) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)) →
    ∃ (v0 : (c : Dev Cert.Kernel9Ideal.nD) → Buf (Elt Ideal) ((c.tc : Thread Cert.Kernel9Ideal.nD Cert.Kernel9Ideal.τ).loc Cert.Kernel9Ideal.main_v8_0)) (v1 : (c : Dev Cert.Kernel9Ideal.nD) → Buf (Elt Ideal) ((c.tc : Thread Cert.Kernel9Ideal.nD Cert.Kernel9Ideal.τ).loc Cert.Kernel9Ideal.main_v8_1)) (v2 : (c : Dev Cert.Kernel9Ideal.nD) → Buf (Elt Ideal) ((c.tc : Thread Cert.Kernel9Ideal.nD Cert.Kernel9Ideal.τ).loc Cert.Kernel9Ideal.main_v8_2)) (v3 : (c : Dev Cert.Kernel9Ideal.nD) → Buf (Elt Ideal) ((c.tc : Thread Cert.Kernel9Ideal.nD Cert.Kernel9Ideal.τ).loc Cert.Kernel9Ideal.main_v8_3)) (v4 : (c : Dev Cert.Kernel9Ideal.nD) → Buf (Elt Ideal) ((c.tc : Thread Cert.Kernel9Ideal.nD Cert.Kernel9Ideal.τ).loc Cert.Kernel9Ideal.main_v8_4)) (v5 : (c : Dev Cert.Kernel9Ideal.nD) → Buf (Elt Ideal) ((c.tc : Thread Cert.Kernel9Ideal.nD Cert.Kernel9Ideal.τ).loc Cert.Kernel9Ideal.main_v8_5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8_0) = v0 c
          ∧ r.2.mem ((c.tc : Thread Cert.Kernel9Ideal.nD Cert.Kernel9Ideal.τ).loc Cert.Kernel9Ideal.main_v8_1) = v1 c
          ∧ r.2.mem ((c.tc : Thread Cert.Kernel9Ideal.nD Cert.Kernel9Ideal.τ).loc Cert.Kernel9Ideal.main_v8_2) = v2 c
          ∧ r.2.mem ((c.tc : Thread Cert.Kernel9Ideal.nD Cert.Kernel9Ideal.τ).loc Cert.Kernel9Ideal.main_v8_3) = v3 c
          ∧ r.2.mem ((c.tc : Thread Cert.Kernel9Ideal.nD Cert.Kernel9Ideal.τ).loc Cert.Kernel9Ideal.main_v8_4) = v4 c
          ∧ r.2.mem ((c.tc : Thread Cert.Kernel9Ideal.nD Cert.Kernel9Ideal.τ).loc Cert.Kernel9Ideal.main_v8_5) = v5 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v17) = v0 c
          ∧ r.2.mem ((c.tc : Thread Cert.Reference9Ideal.nD Cert.Reference9Ideal.τ).loc Cert.Reference9Ideal.main_v19) = v1 c
          ∧ r.2.mem ((c.tc : Thread Cert.Reference9Ideal.nD Cert.Reference9Ideal.τ).loc Cert.Reference9Ideal.main_v61) = v2 c
          ∧ r.2.mem ((c.tc : Thread Cert.Reference9Ideal.nD Cert.Reference9Ideal.τ).loc Cert.Reference9Ideal.main_v25) = v3 c
          ∧ r.2.mem ((c.tc : Thread Cert.Reference9Ideal.nD Cert.Reference9Ideal.τ).loc Cert.Reference9Ideal.main_v30) = v4 c
          ∧ r.2.mem ((c.tc : Thread Cert.Reference9Ideal.nD Cert.Reference9Ideal.τ).loc Cert.Reference9Ideal.main_v62) = v5 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)) →
    ∃ (v0 : (c : Dev Cert.Kernel10Ideal.nD) → Buf (Elt Ideal) ((c.tc : Thread Cert.Kernel10Ideal.nD Cert.Kernel10Ideal.τ).loc Cert.Kernel10Ideal.main_v24_0)) (v1 : (c : Dev Cert.Kernel10Ideal.nD) → Buf (Elt Ideal) ((c.tc : Thread Cert.Kernel10Ideal.nD Cert.Kernel10Ideal.τ).loc Cert.Kernel10Ideal.main_v24_1)) (v2 : (c : Dev Cert.Kernel10Ideal.nD) → Buf (Elt Ideal) ((c.tc : Thread Cert.Kernel10Ideal.nD Cert.Kernel10Ideal.τ).loc Cert.Kernel10Ideal.main_v24_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v24_0) = v0 c
          ∧ r.2.mem ((c.tc : Thread Cert.Kernel10Ideal.nD Cert.Kernel10Ideal.τ).loc Cert.Kernel10Ideal.main_v24_1) = v1 c
          ∧ r.2.mem ((c.tc : Thread Cert.Kernel10Ideal.nD Cert.Kernel10Ideal.τ).loc Cert.Kernel10Ideal.main_v24_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v97) = v0 c
          ∧ r.2.mem ((c.tc : Thread Cert.Reference10Ideal.nD Cert.Reference10Ideal.τ).loc Cert.Reference10Ideal.main_v107) = v1 c
          ∧ r.2.mem ((c.tc : Thread Cert.Reference10Ideal.nD Cert.Reference10Ideal.τ).loc Cert.Reference10Ideal.main_v106) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)) →
    ∃ (v0 : (c : Dev Cert.Kernel11Ideal.nD) → Buf (Elt Ideal) ((c.tc : Thread Cert.Kernel11Ideal.nD Cert.Kernel11Ideal.τ).loc Cert.Kernel11Ideal.main_v7_0)) (v1 : (c : Dev Cert.Kernel11Ideal.nD) → Buf (Elt Ideal) ((c.tc : Thread Cert.Kernel11Ideal.nD Cert.Kernel11Ideal.τ).loc Cert.Kernel11Ideal.main_v7_1)) (v2 : (c : Dev Cert.Kernel11Ideal.nD) → Buf (Elt Ideal) ((c.tc : Thread Cert.Kernel11Ideal.nD Cert.Kernel11Ideal.τ).loc Cert.Kernel11Ideal.main_v7_2)) (v3 : (c : Dev Cert.Kernel11Ideal.nD) → Buf (Elt Ideal) ((c.tc : Thread Cert.Kernel11Ideal.nD Cert.Kernel11Ideal.τ).loc Cert.Kernel11Ideal.main_v7_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v7_0) = v0 c
          ∧ r.2.mem ((c.tc : Thread Cert.Kernel11Ideal.nD Cert.Kernel11Ideal.τ).loc Cert.Kernel11Ideal.main_v7_1) = v1 c
          ∧ r.2.mem ((c.tc : Thread Cert.Kernel11Ideal.nD Cert.Kernel11Ideal.τ).loc Cert.Kernel11Ideal.main_v7_2) = v2 c
          ∧ r.2.mem ((c.tc : Thread Cert.Kernel11Ideal.nD Cert.Kernel11Ideal.τ).loc Cert.Kernel11Ideal.main_v7_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v113) = v0 c
          ∧ r.2.mem ((c.tc : Thread Cert.Reference11Ideal.nD Cert.Reference11Ideal.τ).loc Cert.Reference11Ideal.main_v123) = v1 c
          ∧ r.2.mem ((c.tc : Thread Cert.Reference11Ideal.nD Cert.Reference11Ideal.τ).loc Cert.Reference11Ideal.main_v122) = v2 c
          ∧ r.2.mem ((c.tc : Thread Cert.Reference11Ideal.nD Cert.Reference11Ideal.τ).loc Cert.Reference11Ideal.main_v124) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)) →
    ∃ (v0 : (c : Dev Cert.Kernel12Ideal.nD) → Buf (Elt Ideal) ((c.tc : Thread Cert.Kernel12Ideal.nD Cert.Kernel12Ideal.τ).loc Cert.Kernel12Ideal.main_v7_0)) (v1 : (c : Dev Cert.Kernel12Ideal.nD) → Buf (Elt Ideal) ((c.tc : Thread Cert.Kernel12Ideal.nD Cert.Kernel12Ideal.τ).loc Cert.Kernel12Ideal.main_v7_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v7_0) = v0 c
          ∧ r.2.mem ((c.tc : Thread Cert.Kernel12Ideal.nD Cert.Kernel12Ideal.τ).loc Cert.Kernel12Ideal.main_v7_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v148) = v0 c
          ∧ r.2.mem ((c.tc : Thread Cert.Reference12Ideal.nD Cert.Reference12Ideal.τ).loc Cert.Reference12Ideal.main_v159) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_v28) = v1 c
          ∧ r.2.mem ((c.tc : Thread Cert.Reference13Ideal.nD Cert.Reference13Ideal.τ).loc Cert.Reference13Ideal.main_v9) = v2 c
          ∧ r.2.mem ((c.tc : Thread Cert.Reference13Ideal.nD Cert.Reference13Ideal.τ).loc Cert.Reference13Ideal.main_v15) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_v28) = v1 c
          ∧ r.2.mem ((c.tc : Thread Cert.Reference14Ideal.nD Cert.Reference14Ideal.τ).loc Cert.Reference14Ideal.main_v9) = v2 c
          ∧ r.2.mem ((c.tc : Thread Cert.Reference14Ideal.nD Cert.Reference14Ideal.τ).loc Cert.Reference14Ideal.main_v15) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_v30) = v1 c
          ∧ r.2.mem ((c.tc : Thread Cert.Reference15Ideal.nD Cert.Reference15Ideal.τ).loc Cert.Reference15Ideal.main_v11) = v2 c
          ∧ r.2.mem ((c.tc : Thread Cert.Reference15Ideal.nD Cert.Reference15Ideal.τ).loc Cert.Reference15Ideal.main_v17) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_v30) = v1 c
          ∧ r.2.mem ((c.tc : Thread Cert.Reference16Ideal.nD Cert.Reference16Ideal.τ).loc Cert.Reference16Ideal.main_v11) = v2 c
          ∧ r.2.mem ((c.tc : Thread Cert.Reference16Ideal.nD Cert.Reference16Ideal.τ).loc Cert.Reference16Ideal.main_v17) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_v30) = v1 c
          ∧ r.2.mem ((c.tc : Thread Cert.Reference17Ideal.nD Cert.Reference17Ideal.τ).loc Cert.Reference17Ideal.main_v11) = v2 c
          ∧ r.2.mem ((c.tc : Thread Cert.Reference17Ideal.nD Cert.Reference17Ideal.τ).loc Cert.Reference17Ideal.main_v17) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v6_0)) (v1 : (c : Dev Cert.Kernel23Ideal.nD) → Buf (Elt Ideal) ((c.tc : Thread Cert.Kernel23Ideal.nD Cert.Kernel23Ideal.τ).loc Cert.Kernel23Ideal.main_v6_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v6_0) = v0 c
          ∧ r.2.mem ((c.tc : Thread Cert.Kernel23Ideal.nD Cert.Kernel23Ideal.τ).loc Cert.Kernel23Ideal.main_v6_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v75) = v0 c
          ∧ r.2.mem ((c.tc : Thread Cert.Reference23Ideal.nD Cert.Reference23Ideal.τ).loc Cert.Reference23Ideal.main_v76) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def preserves_Kernel24_Kernel24Ideal : Prop :=
  True

def algebraic_Kernel24Ideal_Reference24Ideal_pre_finite24 [hKernel24Ideal : Cert.Kernel24Ideal.Facts] [hReference24Ideal : Cert.Reference24Ideal.Facts] [hPre_finite24 : Cert.Pre_finite24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal_finite24 m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v8_0)) (v1 : (c : Dev Cert.Kernel24Ideal.nD) → Buf (Elt Ideal) ((c.tc : Thread Cert.Kernel24Ideal.nD Cert.Kernel24Ideal.τ).loc Cert.Kernel24Ideal.main_v8_1)) (v2 : (c : Dev Cert.Kernel24Ideal.nD) → Buf (Elt Ideal) ((c.tc : Thread Cert.Kernel24Ideal.nD Cert.Kernel24Ideal.τ).loc Cert.Kernel24Ideal.main_v8_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v8_0) = v0 c
          ∧ r.2.mem ((c.tc : Thread Cert.Kernel24Ideal.nD Cert.Kernel24Ideal.τ).loc Cert.Kernel24Ideal.main_v8_1) = v1 c
          ∧ r.2.mem ((c.tc : Thread Cert.Kernel24Ideal.nD Cert.Kernel24Ideal.τ).loc Cert.Kernel24Ideal.main_v8_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v18) = v0 c
          ∧ r.2.mem ((c.tc : Thread Cert.Reference24Ideal.nD Cert.Reference24Ideal.τ).loc Cert.Reference24Ideal.main_v26) = v1 c
          ∧ r.2.mem ((c.tc : Thread Cert.Reference24Ideal.nD Cert.Reference24Ideal.τ).loc Cert.Reference24Ideal.main_v27) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v12) = v0 c
          ∧ r.2.mem ((c.tc : Thread Cert.Reference25Ideal.nD Cert.Reference25Ideal.τ).loc Cert.Reference25Ideal.main_v14) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)
      ∧ m' ((c.tc : Thread Cert.Reference26Ideal.nD Cert.Reference26Ideal.τ).loc Cert.Reference26Ideal.main_arg6) = m ((c.tc : Thread Cert.Kernel26Ideal.nD Cert.Kernel26Ideal.τ).loc Cert.Kernel26Ideal.main_arg6)
      ∧ m' ((c.tc : Thread Cert.Reference26Ideal.nD Cert.Reference26Ideal.τ).loc Cert.Reference26Ideal.main_arg7) = m ((c.tc : Thread Cert.Kernel26Ideal.nD Cert.Kernel26Ideal.τ).loc Cert.Kernel26Ideal.main_arg7)
      ∧ m' ((c.tc : Thread Cert.Reference26Ideal.nD Cert.Reference26Ideal.τ).loc Cert.Reference26Ideal.main_arg8) = m ((c.tc : Thread Cert.Kernel26Ideal.nD Cert.Kernel26Ideal.τ).loc Cert.Kernel26Ideal.main_arg8)
      ∧ m' ((c.tc : Thread Cert.Reference26Ideal.nD Cert.Reference26Ideal.τ).loc Cert.Reference26Ideal.main_arg9) = m ((c.tc : Thread Cert.Kernel26Ideal.nD Cert.Kernel26Ideal.τ).loc Cert.Kernel26Ideal.main_arg9)) →
    ∃ (v0 : (c : Dev Cert.Kernel26Ideal.nD) → Buf (Elt Ideal) ((c.tc : Thread Cert.Kernel26Ideal.nD Cert.Kernel26Ideal.τ).loc Cert.Kernel26Ideal.main_v14_0)) (v1 : (c : Dev Cert.Kernel26Ideal.nD) → Buf (Elt Ideal) ((c.tc : Thread Cert.Kernel26Ideal.nD Cert.Kernel26Ideal.τ).loc Cert.Kernel26Ideal.main_v14_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v14_0) = v0 c
          ∧ r.2.mem ((c.tc : Thread Cert.Kernel26Ideal.nD Cert.Kernel26Ideal.τ).loc Cert.Kernel26Ideal.main_v14_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
          ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
          ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7)
          ∧ r.2.mem ((c.tc : Thread Cert.Kernel26Ideal.nD Cert.Kernel26Ideal.τ).loc Cert.Kernel26Ideal.main_arg8) = m ((c.tc : Thread Cert.Kernel26Ideal.nD Cert.Kernel26Ideal.τ).loc Cert.Kernel26Ideal.main_arg8)
          ∧ r.2.mem ((c.tc : Thread Cert.Kernel26Ideal.nD Cert.Kernel26Ideal.τ).loc Cert.Kernel26Ideal.main_arg9) = m ((c.tc : Thread Cert.Kernel26Ideal.nD Cert.Kernel26Ideal.τ).loc Cert.Kernel26Ideal.main_arg9))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v94) = v0 c
          ∧ r.2.mem ((c.tc : Thread Cert.Reference26Ideal.nD Cert.Reference26Ideal.τ).loc Cert.Reference26Ideal.main_v95) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5)
          ∧ r.2.mem ((c.tc : Thread Cert.Reference26Ideal.nD Cert.Reference26Ideal.τ).loc Cert.Reference26Ideal.main_arg6) = m' ((c.tc : Thread Cert.Reference26Ideal.nD Cert.Reference26Ideal.τ).loc Cert.Reference26Ideal.main_arg6)
          ∧ r.2.mem ((c.tc : Thread Cert.Reference26Ideal.nD Cert.Reference26Ideal.τ).loc Cert.Reference26Ideal.main_arg7) = m' ((c.tc : Thread Cert.Reference26Ideal.nD Cert.Reference26Ideal.τ).loc Cert.Reference26Ideal.main_arg7)
          ∧ r.2.mem ((c.tc : Thread Cert.Reference26Ideal.nD Cert.Reference26Ideal.τ).loc Cert.Reference26Ideal.main_arg8) = m' ((c.tc : Thread Cert.Reference26Ideal.nD Cert.Reference26Ideal.τ).loc Cert.Reference26Ideal.main_arg8)
          ∧ r.2.mem ((c.tc : Thread Cert.Reference26Ideal.nD Cert.Reference26Ideal.τ).loc Cert.Reference26Ideal.main_arg9) = m' ((c.tc : Thread Cert.Reference26Ideal.nD Cert.Reference26Ideal.τ).loc Cert.Reference26Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite2 : Cert.Pre_finite2.Facts) (hPre_finite10 : Cert.Pre_finite10.Facts) (hPre_finite11 : Cert.Pre_finite11.Facts) (hPre_finite12 : Cert.Pre_finite12.Facts) (hPre_finite24 : Cert.Pre_finite24.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Kernel24Ideal_pre_finite24 (hKernel24Ideal := hKernel24Ideal) (hPre_finite24 := hPre_finite24)
    ∧ quiescent_Reference24Ideal (hReference24Ideal := hReference24Ideal)
    ∧ quiescent_Reference24Ideal_pre_finite24 (hReference24Ideal := hReference24Ideal) (hPre_finite24 := hPre_finite24)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal_pre_finite24 (hKernel24Ideal := hKernel24Ideal) (hReference24Ideal := hReference24Ideal) (hPre_finite24 := hPre_finite24)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_finite10.lean ====
abbrev S4096x2816 : Shape := ⟨2, ![4096, 2816]⟩
abbrev S1024x2816 : Shape := ⟨2, ![1024, 2816]⟩
abbrev S4096x1024 : Shape := ⟨2, ![4096, 1024]⟩
abbrev S1x6144 : Shape := ⟨2, ![1, 6144]⟩
abbrev S1024 : Shape := ⟨1, ![1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  bcast_S_S1024x2816 : S_.BroadcastsInDim S1024x2816 (![] : Fin 0 → Fin S1024x2816.rank)
  bcast_S_S4096x1024 : S_.BroadcastsInDim S4096x1024 (![] : Fin 0 → Fin S4096x1024.rank)
  bcast_S_S1x6144 : S_.BroadcastsInDim S1x6144 (![] : Fin 0 → Fin S1x6144.rank)
  bcast_S_S1024 : S_.BroadcastsInDim S1024 (![] : Fin 0 → Fin S1024.rank)

variable [Facts]

def fn_part1 {F : FTy → Type} [FloatOps F] (main_arg6 : FVec F S4096x1024 .f32) (main_arg7 : FVec F S1x6144 .f32) (main_arg8 : FVec F S1024 .f32) (main_arg9 : FVec F S1024 .f32) (main_v3 : IVec S4096x2816 1) (main_v7 : IVec S4096x2816 1) (main_v10 : IVec S1024x2816 1) (main_v13 : IVec S1024x2816 1) (main_v16 : IVec S4096x1024 1) (main_v17 : FVec F S4096x1024 .f32) (main_cst_4 : FVec F S_ .f32) : IVec S4096x2816 1 × IVec S4096x2816 1 × IVec S1024x2816 1 × IVec S1024x2816 1 × IVec S4096x1024 1 × IVec S4096x1024 1 × IVec S4096x1024 1 × IVec S1x6144 1 × IVec S1024 1 × IVec S1024 1 :=
  let main_v18 : FVec F S4096x1024 .f32 := broadcastInDim S4096x1024 ![] bcast_S_S4096x1024 main_cst_4
  let main_v19 : IVec S4096x1024 1 := cmpf .olt main_v17 main_v18
  let main_v20 : FVec F S4096x1024 .f32 := Host.absf main_arg6
  let main_cst_5 : FVec F S_ .f32 := constant S_ .f32 0x7F800000#32
  let main_v21 : FVec F S4096x1024 .f32 := broadcastInDim S4096x1024 ![] bcast_S_S4096x1024 main_cst_5
  let main_v22 : IVec S4096x1024 1 := cmpf .olt main_v20 main_v21
  let main_v23 : FVec F S1x6144 .f32 := Host.absf main_arg7
  let main_cst_6 : FVec F S_ .f32 := constant S_ .f32 0x7F800000#32
  let main_v24 : FVec F S1x6144 .f32 := broadcastInDim S1x6144 ![] bcast_S_S1x6144 main_cst_6
  let main_v25 : IVec S1x6144 1 := cmpf .olt main_v23 main_v24
  let main_v26 : FVec F S1024 .f32 := Host.absf main_arg8
  let main_cst_7 : FVec F S_ .f32 := constant S_ .f32 0x7F800000#32
  let main_v27 : FVec F S1024 .f32 := broadcastInDim S1024 ![] bcast_S_S1024 main_cst_7
  let main_v28 : IVec S1024 1 := cmpf .olt main_v26 main_v27
  let main_v29 : FVec F S1024 .f32 := Host.absf main_arg9
  let main_cst_8 : FVec F S_ .f32 := constant S_ .f32 0x7F800000#32
  let main_v30 : FVec F S1024 .f32 := broadcastInDim S1024 ![] bcast_S_S1024 main_cst_8
  let main_v31 : IVec S1024 1 := cmpf .olt main_v29 main_v30
  (main_v3, main_v7, main_v10, main_v13, main_v16, main_v19, main_v22, main_v25, main_v28, main_v31)

def fn {F : FTy → Type} [FloatOps F] (main_arg0 : FVec F S4096x2816 .bf16) (main_arg1 : FVec F S4096x2816 .bf16) (main_arg2 : FVec F S1024x2816 .f32) (main_arg3 : FVec F S1024x2816 .f32) (main_arg4 : FVec F S4096x1024 .f32) (main_arg5 : FVec F S4096x1024 .f32) (main_arg6 : FVec F S4096x1024 .f32) (main_arg7 : FVec F S1x6144 .f32) (main_arg8 : FVec F S1024 .f32) (main_arg9 : FVec F S1024 .f32) : IVec S4096x2816 1 × IVec S4096x2816 1 × IVec S1024x2816 1 × IVec S1024x2816 1 × IVec S4096x1024 1 × IVec S4096x1024 1 × IVec S4096x1024 1 × IVec S1x6144 1 × IVec S1024 1 × IVec S1024 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_v4 : FVec F S4096x2816 .f32 := (extf .f32 · bitsLt_bf16_f32) main_arg1
  let main_v5 : FVec F S4096x2816 .f32 := Host.absf main_v4
  let main_cst_0 : FVec F S_ .f32 := constant S_ .f32 0x7F800000#32
  let main_v6 : FVec F S4096x2816 .f32 := broadcastInDim S4096x2816 ![] bcast_S_S4096x2816 main_cst_0
  let main_v7 : IVec S4096x2816 1 := cmpf .olt main_v5 main_v6
  let main_v8 : FVec F S1024x2816 .f32 := Host.absf main_arg2
  let main_cst_1 : FVec F S_ .f32 := constant S_ .f32 0x7F800000#32
  let main_v9 : FVec F S1024x2816 .f32 := broadcastInDim S1024x2816 ![] bcast_S_S1024x2816 main_cst_1
  let main_v10 : IVec S1024x2816 1 := cmpf .olt main_v8 main_v9
  let main_v11 : FVec F S1024x2816 .f32 := Host.absf main_arg3
  let main_cst_2 : FVec F S_ .f32 := constant S_ .f32 0x7F800000#32
  let main_v12 : FVec F S1024x2816 .f32 := broadcastInDim S1024x2816 ![] bcast_S_S1024x2816 main_cst_2
  let main_v13 : IVec S1024x2816 1 := cmpf .olt main_v11 main_v12
  let main_v14 : FVec F S4096x1024 .f32 := Host.absf main_arg4
  let main_cst_3 : FVec F S_ .f32 := constant S_ .f32 0x7F800000#32
  let main_v15 : FVec F S4096x1024 .f32 := broadcastInDim S4096x1024 ![] bcast_S_S4096x1024 main_cst_3
  let main_v16 : IVec S4096x1024 1 := cmpf .olt main_v14 main_v15
  let main_v17 : FVec F S4096x1024 .f32 := Host.absf main_arg5
  let main_cst_4 : FVec F S_ .f32 := constant S_ .f32 0x7F800000#32
  fn_part1 (F := F) main_arg6 main_arg7 main_arg8 main_arg9 main_v3 main_v7 main_v10 main_v13 main_v16 main_v17 main_cst_4
-- ==== Pre_finite11.lean ====
abbrev S4096x2816 : Shape := ⟨2, ![4096, 2816]⟩
abbrev S2816x1024 : Shape := ⟨2, ![2816, 1024]⟩
abbrev S4096x1024 : Shape := ⟨2, ![4096, 1024]⟩
abbrev S1x6144 : Shape := ⟨2, ![1, 6144]⟩
abbrev S1024 : Shape := ⟨1, ![1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)
  bcast_S_S1x6144 : S_.BroadcastsInDim S1x6144 (![] : Fin 0 → Fin S1x6144.rank)
  bcast_S_S1024 : S_.BroadcastsInDim S1024 (![] : Fin 0 → Fin S1024.rank)

variable [Facts]

def fn_part1 {F : FTy → Type} [FloatOps F] (main_arg6 : FVec F S1024 .f32) (main_arg7 : FVec F S1024 .f32) (main_arg8 : FVec F S1024 .f32) (main_v3 : IVec S4096x2816 1) (main_v6 : IVec S2816x1024 1) (main_v9 : IVec S4096x1024 1) (main_v12 : IVec S4096x1024 1) (main_v15 : IVec S1x6144 1) (main_v16 : FVec F S1024 .f32) (main_v17 : FVec F S1024 .f32) : IVec S4096x2816 1 × IVec S2816x1024 1 × IVec S4096x1024 1 × IVec S4096x1024 1 × IVec S1x6144 1 × IVec S1024 1 × IVec S1024 1 × IVec S1024 1 × IVec S1024 1 :=
  let main_v18 : IVec S1024 1 := cmpf .olt main_v16 main_v17
  let main_v19 : FVec F S1024 .f32 := Host.absf main_arg6
  let main_cst_5 : FVec F S_ .f32 := constant S_ .f32 0x7F800000#32
  let main_v20 : FVec F S1024 .f32 := broadcastInDim S1024 ![] bcast_S_S1024 main_cst_5
  let main_v21 : IVec S1024 1 := cmpf .olt main_v19 main_v20
  let main_v22 : FVec F S1024 .f32 := Host.absf main_arg7
  let main_cst_6 : FVec F S_ .f32 := constant S_ .f32 0x7F800000#32
  let main_v23 : FVec F S1024 .f32 := broadcastInDim S1024 ![] bcast_S_S1024 main_cst_6
  let main_v24 : IVec S1024 1 := cmpf .olt main_v22 main_v23
  let main_v25 : FVec F S1024 .f32 := Host.absf main_arg8
  let main_cst_7 : FVec F S_ .f32 := constant S_ .f32 0x7F800000#32
  let main_v26 : FVec F S1024 .f32 := broadcastInDim S1024 ![] bcast_S_S1024 main_cst_7
  let main_v27 : IVec S1024 1 := cmpf .olt main_v25 main_v26
  (main_v3, main_v6, main_v9, main_v12, main_v15, main_v18, main_v21, main_v24, main_v27)

def fn {F : FTy → Type} [FloatOps F] (main_arg0 : FVec F S4096x2816 .bf16) (main_arg1 : FVec F S2816x1024 .f32) (main_arg2 : FVec F S4096x1024 .f32) (main_arg3 : FVec F S4096x1024 .f32) (main_arg4 : FVec F S1x6144 .f32) (main_arg5 : FVec F S1024 .f32) (main_arg6 : FVec F S1024 .f32) (main_arg7 : FVec F S1024 .f32) (main_arg8 : FVec F S1024 .f32) : IVec S4096x2816 1 × IVec S2816x1024 1 × IVec S4096x1024 1 × IVec S4096x1024 1 × IVec S1x6144 1 × IVec S1024 1 × IVec S1024 1 × IVec S1024 1 × IVec S1024 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S4096x1024 .f32 := Host.absf main_arg2
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  let main_v10 : FVec F S4096x1024 .f32 := Host.absf main_arg3
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_v13 : FVec F S1x6144 .f32 := Host.absf main_arg4
  let main_cst_3 : FVec F S_ .f32 := constant S_ .f32 0x7F800000#32
  let main_v14 : FVec F S1x6144 .f32 := broadcastInDim S1x6144 ![] bcast_S_S1x6144 main_cst_3
  let main_v15 : IVec S1x6144 1 := cmpf .olt main_v13 main_v14
  let main_v16 : FVec F S1024 .f32 := Host.absf main_arg5
  let main_cst_4 : FVec F S_ .f32 := constant S_ .f32 0x7F800000#32
  let main_v17 : FVec F S1024 .f32 := broadcastInDim S1024 ![] bcast_S_S1024 main_cst_4
  fn_part1 (F := F) main_arg6 main_arg7 main_arg8 main_v3 main_v6 main_v9 main_v12 main_v15 main_v16 main_v17
-- ==== Pre_finite12.lean ====
abbrev S4352x6912 : Shape := ⟨2, ![4352, 6912]⟩
abbrev S1024x6912 : Shape := ⟨2, ![1024, 6912]⟩
abbrev S4096x1024 : Shape := ⟨2, ![4096, 1024]⟩
abbrev S256x1024 : Shape := ⟨2, ![256, 1024]⟩
abbrev S1024 : Shape := ⟨1, ![1024]⟩
abbrev S1x6144 : Shape := ⟨2, ![1, 6144]⟩
abbrev S6144 : Shape := ⟨1, ![6144]⟩
abbrev S_ : Shape := ⟨0, ![]⟩

class Facts : Prop where
  bitsLt_bf16_f32 : FTy.bits .bf16 < FTy.bits .f32
  bcast_S_S4352x6912 : S_.BroadcastsInDim S4352x6912 (![] : Fin 0 → Fin S4352x6912.rank)
  bcast_S_S1024x6912 : S_.BroadcastsInDim S1024x6912 (![] : Fin 0 → Fin S1024x6912.rank)
  bcast_S_S4096x1024 : S_.BroadcastsInDim S4096x1024 (![] : Fin 0 → Fin S4096x1024.rank)
  bcast_S_S256x1024 : S_.BroadcastsInDim S256x1024 (![] : Fin 0 → Fin S256x1024.rank)
  bcast_S_S1024 : S_.BroadcastsInDim S1024 (![] : Fin 0 → Fin S1024.rank)
  bcast_S_S1x6144 : S_.BroadcastsInDim S1x6144 (![] : Fin 0 → Fin S1x6144.rank)
  bcast_S_S6144 : S_.BroadcastsInDim S6144 (![] : Fin 0 → Fin S6144.rank)

variable [Facts]

def fn_part1 {F : FTy → Type} [FloatOps F] (main_arg6 : FVec F S1024 .f32) (main_arg7 : FVec F S1x6144 .f32) (main_arg8 : FVec F S6144 .f32) (main_v3 : IVec S4352x6912 1) (main_v6 : IVec S1024x6912 1) (main_v9 : IVec S4096x1024 1) (main_v12 : IVec S4096x1024 1) (main_v15 : IVec S256x1024 1) (main_v16 : FVec F S1024 .f32) (main_v17 : FVec F S1024 .f32) : IVec S4352x6912 1 × IVec S1024x6912 1 × IVec S4096x1024 1 × IVec S4096x1024 1 × IVec S256x1024 1 × IVec S1024 1 × IVec S1024 1 × IVec S1x6144 1 × IVec S6144 1 :=
  let main_v18 : IVec S1024 1 := cmpf .olt main_v16 main_v17
  let main_v19 : FVec F S1024 .f32 := Host.absf main_arg6
  let main_cst_5 : FVec F S_ .f32 := constant S_ .f32 0x7F800000#32
  let main_v20 : FVec F S1024 .f32 := broadcastInDim S1024 ![] bcast_S_S1024 main_cst_5
  let main_v21 : IVec S1024 1 := cmpf .olt main_v19 main_v20
  let main_v22 : FVec F S1x6144 .f32 := Host.absf main_arg7
  let main_cst_6 : FVec F S_ .f32 := constant S_ .f32 0x7F800000#32
  let main_v23 : FVec F S1x6144 .f32 := broadcastInDim S1x6144 ![] bcast_S_S1x6144 main_cst_6
  let main_v24 : IVec S1x6144 1 := cmpf .olt main_v22 main_v23
  let main_v25 : FVec F S6144 .f32 := Host.absf main_arg8
  let main_cst_7 : FVec F S_ .f32 := constant S_ .f32 0x7F800000#32
  let main_v26 : FVec F S6144 .f32 := broadcastInDim S6144 ![] bcast_S_S6144 main_cst_7
  let main_v27 : IVec S6144 1 := cmpf .olt main_v25 main_v26
  (main_v3, main_v6, main_v9, main_v12, main_v15, main_v18, main_v21, main_v24, main_v27)

def fn {F : FTy → Type} [FloatOps F] (main_arg0 : FVec F S4352x6912 .bf16) (main_arg1 : FVec F S1024x6912 .f32) (main_arg2 : FVec F S4096x1024 .f32) (main_arg3 : FVec F S4096x1024 .f32) (main_arg4 : FVec F S256x1024 .f32) (main_arg5 : FVec F S1024 .f32) (main_arg6 : FVec F S1024 .f32) (main_arg7 : FVec F S1x6144 .f32) (main_arg8 : FVec F S6144 .f32) : IVec S4352x6912 1 × IVec S1024x6912 1 × IVec S4096x1024 1 × IVec S4096x1024 1 × IVec S256x1024 1 × IVec S1024 1 × IVec S1024 1 × IVec S1x6144 1 × IVec S6144 1 :=
  let main_v0 : FVec F S4352x6912 .f32 := (extf .f32 · bitsLt_bf16_f32) main_arg0
  let main_v1 : FVec F S4352x6912 .f32 := Host.absf main_v0
  let main_cst : FVec F S_ .f32 := constant S_ .f32 0x7F800000#32
  let main_v2 : FVec F S4352x6912 .f32 := broadcastInDim S4352x6912 ![] bcast_S_S4352x6912 main_cst
  let main_v3 : IVec S4352x6912 1 := cmpf .olt main_v1 main_v2
  let main_v4 : FVec F S1024x6912 .f32 := Host.absf main_arg1
  let main_cst_0 : FVec F S_ .f32 := constant S_ .f32 0x7F800000#32
  let main_v5 : FVec F S1024x6912 .f32 := broadcastInDim S1024x6912 ![] bcast_S_S1024x6912 main_cst_0
  let main_v6 : IVec S1024x6912 1 := cmpf .olt main_v4 main_v5
  let main_v7 : FVec F S4096x1024 .f32 := Host.absf main_arg2
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  let main_v10 : FVec F S4096x1024 .f32 := Host.absf main_arg3
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_v13 : FVec F S256x1024 .f32 := Host.absf main_arg4
  let main_cst_3 : FVec F S_ .f32 := constant S_ .f32 0x7F800000#32
  let main_v14 : FVec F S256x1024 .f32 := broadcastInDim S256x1024 ![] bcast_S_S256x1024 main_cst_3
  let main_v15 : IVec S256x1024 1 := cmpf .olt main_v13 main_v14
  let main_v16 : FVec F S1024 .f32 := Host.absf main_arg5
  let main_cst_4 : FVec F S_ .f32 := constant S_ .f32 0x7F800000#32
  let main_v17 : FVec F S1024 .f32 := broadcastInDim S1024 ![] bcast_S_S1024 main_cst_4
  fn_part1 (F := F) main_arg6 main_arg7 main_arg8 main_v3 main_v6 main_v9 main_v12 main_v15 main_v16 main_v17
-- ==== Pre_finite2.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .bf16) (main_arg1 : FVec F S4096x1024 .bf16) (main_arg2 : FVec F S1024x2816 .f32) (main_arg3 : FVec F S1024x2816 .f32) (main_arg4 : FVec F S2816x1024 .f32) : IVec S4096x1024 1 × IVec S4096x1024 1 × IVec S1024x2816 1 × IVec S1024x2816 1 × IVec S2816x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S1024x2816 .f32 := Host.absf main_arg2
  let main_cst_1 : FVec F S_ .f32 := constant S_ .f32 0x7F800000#32
  let main_v9 : FVec F S1024x2816 .f32 := broadcastInDim S1024x2816 ![] bcast_S_S1024x2816 main_cst_1
  let main_v10 : IVec S1024x2816 1 := cmpf .olt main_v8 main_v9
  let main_v11 : FVec F S1024x2816 .f32 := Host.absf main_arg3
  let main_cst_2 : FVec F S_ .f32 := constant S_ .f32 0x7F800000#32
  let main_v12 : FVec F S1024x2816 .f32 := broadcastInDim S1024x2816 ![] bcast_S_S1024x2816 main_cst_2
  let main_v13 : IVec S1024x2816 1 := cmpf .olt main_v11 main_v12
  let main_v14 : FVec F S2816x1024 .f32 := Host.absf main_arg4
  let main_cst_3 : FVec F S_ .f32 := constant S_ .f32 0x7F800000#32
  let main_v15 : FVec F S2816x1024 .f32 := broadcastInDim S2816x1024 ![] bcast_S_S2816x1024 main_cst_3
  let main_v16 : IVec S2816x1024 1 := cmpf .olt main_v14 main_v15
  (main_v3, main_v7, main_v10, main_v13, main_v16)
-- ==== Pre_finite24.lean ====
abbrev S8x1024 : Shape := ⟨2, ![8, 1024]⟩
abbrev S1024 : Shape := ⟨1, ![1024]⟩
abbrev S8x2x6144 : Shape := ⟨3, ![8, 2, 6144]⟩
abbrev S8x2x768 : Shape := ⟨3, ![8, 2, 768]⟩
abbrev S1024x768 : Shape := ⟨2, ![1024, 768]⟩
abbrev S_ : Shape := ⟨0, ![]⟩

class Facts : Prop where
  bcast_S_S1024 : S_.BroadcastsInDim S1024 (![] : Fin 0 → Fin S1024.rank)
  bcast_S_S8x2x768 : S_.BroadcastsInDim S8x2x768 (![] : Fin 0 → Fin S8x2x768.rank)
  bcast_S_S1024x768 : S_.BroadcastsInDim S1024x768 (![] : Fin 0 → Fin S1024x768.rank)

variable [Facts]

def fn {F : FTy → Type} [FloatOps F] (main_arg0 : FVec F S8x1024 .f32) (main_arg1 : FVec F S1024 .f32) (main_arg2 : FVec F S8x2x6144 .f32) (main_arg3 : FVec F S8x2x768 .f32) (main_arg4 : FVec F S1024x768 .f32) : IVec S1024 1 × IVec S8x2x768 1 × IVec S1024x768 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S8x2x768 .f32 := Host.absf main_arg3
  let main_cst_0 : FVec F S_ .f32 := constant S_ .f32 0x7F800000#32
  let main_v4 : FVec F S8x2x768 .f32 := broadcastInDim S8x2x768 ![] bcast_S_S8x2x768 main_cst_0
  let main_v5 : IVec S8x2x768 1 := cmpf .olt main_v3 main_v4
  let main_v6 : FVec F S1024x768 .f32 := Host.absf main_arg4
  let main_cst_1 : FVec F S_ .f32 := constant S_ .f32 0x7F800000#32
  let main_v7 : FVec F S1024x768 .f32 := broadcastInDim S1024x768 ![] bcast_S_S1024x768 main_cst_1
  let main_v8 : IVec S1024x768 1 := cmpf .olt main_v6 main_v7
  (main_v2, main_v5, main_v8)
-- ==== Kernel.lean ====
abbrev S4096x1024 : Shape := ⟨2, ![4096, 1024]⟩
abbrev S4352x6912 : Shape := ⟨2, ![4352, 6912]⟩
abbrev S2048 : Shape := ⟨1, ![2048]⟩
abbrev S1024x1024 : Shape := ⟨2, ![1024, 1024]⟩
abbrev S1x2048 : Shape := ⟨2, ![1, 2048]⟩
abbrev S8x2048 : Shape := ⟨2, ![8, 2048]⟩
abbrev S256x1024 : Shape := ⟨2, ![256, 1024]⟩
abbrev S256x2048 : Shape := ⟨2, ![256, 2048]⟩
abbrev S1x1024 : Shape := ⟨2, ![1, 1024]⟩
abbrev S1024 : Shape := ⟨1, ![1024]⟩

abbrev nBuf : Space → Nat
  | .hbm => 21
  | .vmem => 23
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S4352x6912, .f32⟩
  | .hbm, ⟨4, _⟩ => ⟨S2048, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S4352x6912, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S4096x1024, .f32⟩
  | .hbm, ⟨13, _⟩ => ⟨S4096x1024, .f32⟩
  | .hbm, ⟨14, _⟩ => ⟨S1x2048, .f32⟩
  | .hbm, ⟨15, _⟩ => ⟨S4352x6912, .bf16⟩
  | .hbm, ⟨16, _⟩ => ⟨S4096x1024, .bf16⟩
  | .hbm, ⟨17, _⟩ => ⟨S4096x1024, .bf16⟩
  | .hbm, ⟨18, _⟩ => ⟨S8x2048, .f32⟩
  | .hbm, ⟨19, _⟩ => ⟨S4096x1024, .f32⟩
  | .hbm, ⟨20, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S256x2048, .bf16⟩
  | .local _ .vmem, ⟨13, _⟩ => ⟨S256x2048, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S8x2048, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4096x1024 : Shape := ⟨2, ![4096, 1024]⟩
abbrev S4352x6912 : Shape := ⟨2, ![4352, 6912]⟩
abbrev S2048 : Shape := ⟨1, ![2048]⟩
abbrev S1024x1024 : Shape := ⟨2, ![1024, 1024]⟩
abbrev S4096x2048 : Shape := ⟨2, ![4096, 2048]⟩
abbrev S1x2048 : Shape := ⟨2, ![1, 2048]⟩
abbrev S_ : Shape := ⟨0, ![]⟩
abbrev S8x2048 : Shape := ⟨2, ![8, 2048]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S4352x6912, .f32⟩
  | .hbm, ⟨4, _⟩ => ⟨S2048, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S4352x6912, .bf16⟩
  | .hbm, ⟨9, _⟩ => ⟨S4096x2048, .f32⟩
  | .hbm, ⟨10, _⟩ => ⟨S4096x1024, .f32⟩
  | .hbm, ⟨11, _⟩ => ⟨S4096x1024, .f32⟩
  | .hbm, ⟨12, _⟩ => ⟨S1x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x2048, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S_, .f32⟩
  | .hbm, ⟨49, _⟩ => ⟨S2048, .f32⟩
  | .hbm, ⟨50, _⟩ => ⟨S4096x1024, .f32⟩
  | .hbm, ⟨51, _⟩ => ⟨S4096x1024, .f32⟩
  | .hbm, ⟨52, _⟩ => ⟨S4096x2048, .bf16⟩
  | .hbm, ⟨53, _⟩ => ⟨S_, .i32⟩
  | .hbm, ⟨54, _⟩ => ⟨S_, .i32⟩
  | .hbm, ⟨55, _⟩ => ⟨S4352x6912, .bf16⟩
  | .hbm, ⟨56, _⟩ => ⟨S4096x1024, .bf16⟩
  | .hbm, ⟨57, _⟩ => ⟨S4096x1024, .bf16⟩
  | .hbm, ⟨58, _⟩ => ⟨S1x2048, .f32⟩
  | .hbm, ⟨59, _⟩ => ⟨S_, .i32⟩
  | .hbm, ⟨60, _⟩ => ⟨S_, .f32⟩
  | .hbm, ⟨61, _⟩ => ⟨S8x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_7 : Ref sig .tc := ⟨.hbm, 59, rfl⟩
abbrev main_call0_v0 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Kernel2.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S4096x1408 : Shape := ⟨2, ![4096, 1408]⟩
abbrev S4096x5632 : Shape := ⟨2, ![4096, 5632]⟩
abbrev S512x1024 : Shape := ⟨2, ![512, 1024]⟩
abbrev S1408x1024 : Shape := ⟨2, ![1408, 1024]⟩
abbrev S512x2816 : Shape := ⟨2, ![512, 2816]⟩
abbrev S512x1408 : Shape := ⟨2, ![512, 1408]⟩

abbrev nBuf : Space → Nat
  | .hbm => 15
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S4096x1408, .f32⟩
  | .hbm, ⟨12, _⟩ => ⟨S4096x5632, .f32⟩
  | .hbm, ⟨13, _⟩ => ⟨S2816x1024, .bf16⟩
  | .hbm, ⟨14, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x2816, .f32⟩
  | .local _ .vmem, ⟨5, _⟩ => ⟨S512x2816, .f32⟩
  | .local _ .vmem, ⟨6, _⟩ => ⟨S512x2816, .bf16⟩
  | .local _ .vmem, ⟨7, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S4096x1408 : Shape := ⟨2, ![4096, 1408]⟩
abbrev S4096x5632 : Shape := ⟨2, ![4096, 5632]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S4096x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S4096x1408, .f32⟩
  | .hbm, ⟨35, _⟩ => ⟨S4096x5632, .f32⟩
  | .hbm, ⟨36, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩

abbrev nD : Nat := 1
abbrev τ : Topo := Topo.v7x

variable {F : FTy → Type} [FloatOps F]
-- ==== Kernel3.lean ====
abbrev S4096x1024 : Shape := ⟨2, ![4096, 1024]⟩
abbrev S1024x2816 : Shape := ⟨2, ![1024, 2816]⟩
abbrev S2816x1024 : Shape := ⟨2, ![2816, 1024]⟩
abbrev S1408x1024 : Shape := ⟨2, ![1408, 1024]⟩
abbrev S5632x1024 : Shape := ⟨2, ![5632, 1024]⟩
abbrev S4096x5632 : Shape := ⟨2, ![4096, 5632]⟩
abbrev S4096x2816 : Shape := ⟨2, ![4096, 2816]⟩
abbrev S512x1024 : Shape := ⟨2, ![512, 1024]⟩
abbrev S512x2816 : Shape := ⟨2, ![512, 2816]⟩
abbrev S512x1408 : Shape := ⟨2, ![512, 1408]⟩

abbrev nBuf : Space → Nat
  | .hbm => 14
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2816x1024, .bf16⟩
  | .hbm, ⟨5, _⟩ => ⟨S2816x1024, .f32⟩
  | .hbm, ⟨6, _⟩ => ⟨S2816x1024, .bf16⟩
  | .hbm, ⟨7, _⟩ => ⟨S1408x1024, .bf16⟩
  | .hbm, ⟨8, _⟩ => ⟨S1408x1024, .bf16⟩
  | .hbm, ⟨9, _⟩ => ⟨S1408x1024, .bf16⟩
  | .hbm, ⟨10, _⟩ => ⟨S1408x1024, .bf16⟩
  | .hbm, ⟨11, _⟩ => ⟨S5632x1024, .bf16⟩
  | .hbm, ⟨12, _⟩ => ⟨S4096x5632, .f32⟩
  | .hbm, ⟨13, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2816x1024, .bf16⟩
  | .local _ .vmem, ⟨4, _⟩ => ⟨S512x2816, .f32⟩
  | .local _ .vmem, ⟨5, _⟩ => ⟨S512x2816, .f32⟩
  | .local _ .vmem, ⟨6, _⟩ => ⟨S512x1408, .bf16⟩
  | .local _ .vmem, ⟨7, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4096x1024 : Shape := ⟨2, ![4096, 1024]⟩
abbrev S1024x2816 : Shape := ⟨2, ![1024, 2816]⟩
abbrev S4096x2816 : Shape := ⟨2, ![4096, 2816]⟩
abbrev S4096x1408 : Shape := ⟨2, ![4096, 1408]⟩
abbrev S4096x5632 : Shape := ⟨2, ![4096, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .f32⟩
  | .hbm, ⟨2, _⟩ => ⟨S1024x2816, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x5632, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Kernel4.lean ====
abbrev S4096x5632 : Shape := ⟨2, ![4096, 5632]⟩
abbrev S4096x1024 : Shape := ⟨2, ![4096, 1024]⟩
abbrev S5632x1024 : Shape := ⟨2, ![5632, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4352x512 : Shape := ⟨2, ![4352, 512]⟩
abbrev S4352x6912 : Shape := ⟨2, ![4352, 6912]⟩
abbrev S512x6912 : Shape := ⟨2, ![512, 6912]⟩
abbrev S4352x1152 : Shape := ⟨2, ![4352, 1152]⟩
abbrev S512x1152 : Shape := ⟨2, ![512, 1152]⟩

abbrev nBuf : Space → Nat
  | .hbm => 3
  | .vmem => 5
  | .smem => 0
  | _ => 0

abbrev bufTy : (tb : Table) → Fin (tcTables nBuf tb) → BufTy
  | .hbm, ⟨0, _⟩ => ⟨S4352x512, .bf16⟩
  | .hbm, ⟨1, _⟩ => ⟨S4352x6912, .bf16⟩
  | .hbm, ⟨2, _⟩ => ⟨S512x6912, .bf16⟩
  | .local _ .vmem, ⟨0, _⟩ => ⟨S4352x512, .bf16⟩
  | .local _ .vmem, ⟨1, _⟩ => ⟨S4352x1152, .bf16⟩
  | .local _ .vmem, ⟨2, _⟩ => ⟨S4352x1152, .bf16⟩
  | .local _ .vmem, ⟨3, _⟩ => ⟨S512x1152, .bf16⟩
  | .local _ .vmem, ⟨4, _⟩ => ⟨S512x1152, .bf16⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4352x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4352x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4352x512 : Shape := ⟨2, ![4352, 512]⟩
abbrev S4352x6912 : Shape := ⟨2, ![4352, 6912]⟩
abbrev S_ : Shape := ⟨0, ![]⟩
abbrev S512x6912 : Shape := ⟨2, ![512, 6912]⟩
abbrev S6912x512 : Shape := ⟨2, ![6912, 512]⟩

abbrev nBuf : Space → Nat
  | .hbm => 10
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S4352x6912, .bf16⟩
  | .hbm, ⟨2, _⟩ => ⟨S_, .f32⟩
  | .hbm, ⟨3, _⟩ => ⟨S512x6912, .f32⟩
  | .hbm, ⟨4, _⟩ => ⟨S4352x512, .f32⟩
  | .hbm, ⟨5, _⟩ => ⟨S4352x6912, .f32⟩
  | .hbm, ⟨6, _⟩ => ⟨S4352x6912, .f32⟩
  | .hbm, ⟨7, _⟩ => ⟨S6912x512, .f32⟩
  | .hbm, ⟨8, _⟩ => ⟨S512x6912, .f32⟩
  | .hbm, ⟨9, _⟩ => ⟨S512x6912, .bf16⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4352x1024 : Shape := ⟨2, ![4352, 1024]⟩
abbrev S1024x6912 : Shape := ⟨2, ![1024, 6912]⟩
abbrev S4352x6912 : Shape := ⟨2, ![4352, 6912]⟩
abbrev S2176x1024 : Shape := ⟨2, ![2176, 1024]⟩
abbrev S1024x1152 : Shape := ⟨2, ![1024, 1152]⟩
abbrev S2176x1152 : Shape := ⟨2, ![2176, 1152]⟩

abbrev nBuf : Space → Nat
  | .hbm => 4
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x6912, .f32⟩
  | .hbm, ⟨2, _⟩ => ⟨S1024x6912, .bf16⟩
  | .hbm, ⟨3, _⟩ => ⟨S4352x6912, .f32⟩
  | .local _ .vmem, ⟨0, _⟩ => ⟨S2176x1024, .bf16⟩
  | .local _ .vmem, ⟨1, _⟩ => ⟨S2176x1024, .bf16⟩
  | .local _ .vmem, ⟨2, _⟩ => ⟨S1024x1152, .bf16⟩
  | .local _ .vmem, ⟨3, _⟩ => ⟨S1024x1152, .bf16⟩
  | .local _ .vmem, ⟨4, _⟩ => ⟨S2176x1152, .f32⟩
  | .local _ .vmem, ⟨5, _⟩ => ⟨S2176x1152, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4352x1024 : Shape := ⟨2, ![4352, 1024]⟩
abbrev S1024x6912 : Shape := ⟨2, ![1024, 6912]⟩
abbrev S4352x6912 : Shape := ⟨2, ![4352, 6912]⟩

abbrev nBuf : Space → Nat
  | .hbm => 4
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x6912, .f32⟩
  | .hbm, ⟨2, _⟩ => ⟨S4352x1024, .f32⟩
  | .hbm, ⟨3, _⟩ => ⟨S4352x6912, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S4096x1024 : Shape := ⟨2, ![4096, 1024]⟩
abbrev S4352x6912 : Shape := ⟨2, ![4352, 6912]⟩
abbrev S2048 : Shape := ⟨1, ![2048]⟩
abbrev S1024x1024 : Shape := ⟨2, ![1024, 1024]⟩
abbrev S1x6144 : Shape := ⟨2, ![1, 6144]⟩
abbrev S1024 : Shape := ⟨1, ![1024]⟩
abbrev S6x1024 : Shape := ⟨2, ![6, 1024]⟩
abbrev S_ : Shape := ⟨0, ![]⟩
abbrev S8x1024 : Shape := ⟨2, ![8, 1024]⟩
abbrev S1x2048 : Shape := ⟨2, ![1, 2048]⟩
abbrev S1x1024 : Shape := ⟨2, ![1, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 27
  | .vmem => 27
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4352x6912, .f32⟩
  | .hbm, ⟨3, _⟩ => ⟨S2048, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S1x6144, .f32⟩
  | .hbm, ⟨9, _⟩ => ⟨S1024, .f32⟩
  | .hbm, ⟨10, _⟩ => ⟨S1024, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S6x1024, .f32⟩
  | .hbm, ⟨15, _⟩ => ⟨S_, .i32⟩
  | .hbm, ⟨16, _⟩ => ⟨S_, .f32⟩
  | .hbm, ⟨17, _⟩ => ⟨S8x1024, .f32⟩
  | .hbm, ⟨18, _⟩ => ⟨S1x2048, .f32⟩
  | .hbm, ⟨19, _⟩ => ⟨S1x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S4096x1024, .f32⟩
  | .hbm, ⟨25, _⟩ => ⟨S4096x1024, .f32⟩
  | .hbm, ⟨26, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S256x1024, .f32⟩
  | .local _ .vmem, ⟨11, _⟩ => ⟨S256x1024, .f32⟩
  | .local _ .vmem, ⟨12, _⟩ => ⟨S8x1024, .f32⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .bf16⟩
  | .local _ .vmem, ⟨26, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_v8_3 : Ref sig .tc := ⟨.hbm, 24, rfl⟩
abbrev main_v8_4 : Ref sig .tc := ⟨.hbm, 25, rfl⟩
abbrev main_v8_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference9Ideal.lean ====
abbrev S4096x1024 : Shape := ⟨2, ![4096, 1024]⟩
abbrev S4352x6912 : Shape := ⟨2, ![4352, 6912]⟩
abbrev S2048 : Shape := ⟨1, ![2048]⟩
abbrev S1024x1024 : Shape := ⟨2, ![1024, 1024]⟩
abbrev S1x6144 : Shape := ⟨2, ![1, 6144]⟩
abbrev S1024 : Shape := ⟨1, ![1024]⟩
abbrev S1x1024 : Shape := ⟨2, ![1, 1024]⟩
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4352x6912, .f32⟩
  | .hbm, ⟨3, _⟩ => ⟨S2048, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4096x1024, .f32⟩
  | .hbm, ⟨8, _⟩ => ⟨S1x6144, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S4096x2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1x1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .bf16⟩
  | .hbm, ⟨82, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_7 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩

abbrev nD : Nat := 1
abbrev τ : Topo := Topo.v7x

variable {F : FTy → Type} [FloatOps F]
-- ==== Kernel10.lean ====
abbrev S4096x2816 : Shape := ⟨2, ![4096, 2816]⟩
abbrev S1024x2816 : Shape := ⟨2, ![1024, 2816]⟩
abbrev S4096x1024 : Shape := ⟨2, ![4096, 1024]⟩
abbrev S1x6144 : Shape := ⟨2, ![1, 6144]⟩
abbrev S1024 : Shape := ⟨1, ![1024]⟩
abbrev S2816x1024 : Shape := ⟨2, ![2816, 1024]⟩
abbrev S1408x1024 : Shape := ⟨2, ![1408, 1024]⟩
abbrev S5632x1024 : Shape := ⟨2, ![5632, 1024]⟩
abbrev S4096x1408 : Shape := ⟨2, ![4096, 1408]⟩
abbrev S4096x5632 : Shape := ⟨2, ![4096, 5632]⟩
abbrev S_ : Shape := ⟨0, ![]⟩
abbrev S1x1024 : Shape := ⟨2, ![1, 1024]⟩
abbrev S6x1024 : Shape := ⟨2, ![6, 1024]⟩
abbrev S8x1024 : Shape := ⟨2, ![8, 1024]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩

abbrev nBuf : Space → Nat
  | .hbm => 40
  | .vmem => 17
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x6144, .f32⟩
  | .hbm, ⟨8, _⟩ => ⟨S1024, .f32⟩
  | .hbm, ⟨9, _⟩ => ⟨S1024, .f32⟩
  | .hbm, ⟨10, _⟩ => ⟨S2816x1024, .f32⟩
  | .hbm, ⟨11, _⟩ => ⟨S2816x1024, .bf16⟩
  | .hbm, ⟨12, _⟩ => ⟨S2816x1024, .f32⟩
  | .hbm, ⟨13, _⟩ => ⟨S2816x1024, .bf16⟩
  | .hbm, ⟨14, _⟩ => ⟨S1408x1024, .bf16⟩
  | .hbm, ⟨15, _⟩ => ⟨S1408x1024, .bf16⟩
  | .hbm, ⟨16, _⟩ => ⟨S1408x1024, .bf16⟩
  | .hbm, ⟨17, _⟩ => ⟨S1408x1024, .bf16⟩
  | .hbm, ⟨18, _⟩ => ⟨S5632x1024, .bf16⟩
  | .hbm, ⟨19, _⟩ => ⟨S4096x1408, .bf16⟩
  | .hbm, ⟨20, _⟩ => ⟨S4096x1408, .bf16⟩
  | .hbm, ⟨21, _⟩ => ⟨S4096x1408, .bf16⟩
  | .hbm, ⟨22, _⟩ => ⟨S4096x1408, .bf16⟩
  | .hbm, ⟨23, _⟩ => ⟨S4096x5632, .bf16⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S6x1024, .f32⟩
  | .hbm, ⟨32, _⟩ => ⟨S_, .i32⟩
  | .hbm, ⟨33, _⟩ => ⟨S_, .f32⟩
  | .hbm, ⟨34, _⟩ => ⟨S8x1024, .f32⟩
  | .hbm, ⟨35, _⟩ => ⟨S1x1024, .f32⟩
  | .hbm, ⟨36, _⟩ => ⟨S1x1024, .f32⟩
  | .hbm, ⟨37, _⟩ => ⟨S4096x1024, .f32⟩
  | .hbm, ⟨38, _⟩ => ⟨S4096x1024, .bf16⟩
  | .hbm, ⟨39, _⟩ => ⟨S8x1024, .f32⟩
  | .local _ .vmem, ⟨0, _⟩ => ⟨S256x5632, .bf16⟩
  | .local _ .vmem, ⟨1, _⟩ => ⟨S256x5632, .bf16⟩
  | .local _ .vmem, ⟨2, _⟩ => ⟨S5632x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S8x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S8x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_call0_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference10Ideal.lean ====
abbrev S4096x2816 : Shape := ⟨2, ![4096, 2816]⟩
abbrev S1024x2816 : Shape := ⟨2, ![1024, 2816]⟩
abbrev S4096x1024 : Shape := ⟨2, ![4096, 1024]⟩
abbrev S1x6144 : Shape := ⟨2, ![1, 6144]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S3x1024 : Shape := ⟨2, ![3, 1024]⟩
abbrev S8x1024 : Shape := ⟨2, ![8, 1024]⟩

abbrev nBuf : Space → Nat
  | .hbm => 144
  | .vmem => 0
  | .smem => 0
  | _ => 0

abbrev hbmTy0_0 (i : Nat) : BufTy := match i % 128 with
  | 0 => ⟨S4096x2816, .bf16⟩
  | 1 => ⟨S4096x2816, .bf16⟩
  | 2 => ⟨S1024x2816, .f32⟩
  | 3 => ⟨S1024x2816, .f32⟩
  | 4 => ⟨S4096x1024, .f32⟩
  | 5 => ⟨S4096x1024, .f32⟩
  | 6 => ⟨S4096x1024, .f32⟩
  | 7 => ⟨S1x6144, .f32⟩
  | 8 => ⟨S1024, .f32⟩
  | 9 => ⟨S1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S4096x2816, .f32⟩
  | 17 => ⟨S4096x2816, .f32⟩
  | 18 => ⟨S_, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S4096x1024, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S_, .f32⟩
  | 37 => ⟨S4096, .f32⟩
  | 38 => ⟨S4096x1, .f32⟩
  | 39 => ⟨S_, .f32⟩
  | 40 => ⟨S4096x1, .f32⟩
  | 41 => ⟨S4096x1, .f32⟩
  | 42 => ⟨S4096x1024, .f32⟩
  | 43 => ⟨S4096x1024, .f32⟩
  | 44 => ⟨S_, .f32⟩
  | 45 => ⟨S4096x1, .f32⟩
  | 46 => ⟨S4096x1, .f32⟩
  | 47 => ⟨S4096x1, .f32⟩
  | 48 => ⟨S4096x1, .f32⟩
  | 49 => ⟨S_, .f32⟩
  | 50 => ⟨S4096x1, .f32⟩
  | 51 => ⟨S4096x1, .f32⟩
  | 52 => ⟨S4096x1024, .f32⟩
  | 53 => ⟨S4096x1024, .f32⟩
  | 54 => ⟨S1x1024, .f32⟩
  | 55 => ⟨S4096x1024, .f32⟩
  | 56 => ⟨S4096x1024, .f32⟩
  | 57 => ⟨S1x1024, .f32⟩
  | 58 => ⟨S4096x1024, .f32⟩
  | 59 => ⟨S4096x1024, .f32⟩
  | 60 => ⟨S_, .f32⟩
  | 61 => ⟨S1x1024, .f32⟩
  | 62 => ⟨S1x1024, .f32⟩
  | 63 => ⟨S4096x1024, .f32⟩
  | 64 => ⟨S4096x1024, .f32⟩
  | 65 => ⟨S4096x1024, .f32⟩
  | 66 => ⟨S4096x1024, .f32⟩
  | 67 => ⟨S_, .f32⟩
  | 68 => ⟨S4096x1024, .f32⟩
  | 69 => ⟨S4096x1024, .f32⟩
  | 70 => ⟨S4096x2816, .f32⟩
  | 71 => ⟨S4096x2816, .f32⟩
  | 72 => ⟨S4096x1024, .f32⟩
  | 73 => ⟨S4096x1024, .f32⟩
  | 74 => ⟨S4096x1024, .f32⟩
  | 75 => ⟨S_, .f32⟩
  | 76 => ⟨S4096x1024, .f32⟩
  | 77 => ⟨S4096x1024, .f32⟩
  | 78 => ⟨S_, .f32⟩
  | 79 => ⟨S1024, .f32⟩
  | 80 => ⟨S1x1024, .f32⟩
  | 81 => ⟨S4096x1024, .f32⟩
  | 82 => ⟨S_, .f32⟩
  | 83 => ⟨S1024, .f32⟩
  | 84 => ⟨S1x1024, .f32⟩
  | 85 => ⟨S4096x1024, .f32⟩
  | 86 => ⟨S4096x1024, .f32⟩
  | 87 => ⟨S4096x1024, .f32⟩
  | 88 => ⟨S_, .f32⟩
  | 89 => ⟨S1024, .f32⟩
  | 90 => ⟨S1x1024, .f32⟩
  | 91 => ⟨S_, .f32⟩
  | 92 => ⟨S1024, .f32⟩
  | 93 => ⟨S4096x1024, .f32⟩
  | 94 => ⟨S_, .f32⟩
  | 95 => ⟨S1024, .f32⟩
  | 96 => ⟨S1x1024, .f32⟩
  | 97 => ⟨S4096x1024, .f32⟩
  | 98 => ⟨S4096x1024, .f32⟩
  | 99 => ⟨S_, .f32⟩
  | 100 => ⟨S1024, .f32⟩
  | 101 => ⟨S4096x1024, .f32⟩
  | 102 => ⟨S_, .f32⟩
  | 103 => ⟨S4096, .f32⟩
  | 104 => ⟨S4096x1, .f32⟩
  | 105 => ⟨S4096x1024, .f32⟩
  | 106 => ⟨S4096x1024, .f32⟩
  | 107 => ⟨S4096x1, .f32⟩
  | 108 => ⟨S4096x1024, .f32⟩
  | 109 => ⟨S_, .f32⟩
  | 110 => ⟨S4096, .f32⟩
  | 111 => ⟨S4096x1, .f32⟩
  | 112 => ⟨S_, .f32⟩
  | 113 => ⟨S4096x1, .f32⟩
  | 114 => ⟨S4096x1, .f32⟩
  | 115 => ⟨S_, .f32⟩
  | 116 => ⟨S4096, .f32⟩
  | 117 => ⟨S4096x1024, .f32⟩
  | 118 => ⟨S4096x1024, .f32⟩
  | 119 => ⟨S4096x1024, .f32⟩
  | 120 => ⟨S_, .f32⟩
  | 121 => ⟨S4096, .f32⟩
  | 122 => ⟨S4096x1, .f32⟩
  | 123 => ⟨S4096x1024, .f32⟩
  | 124 => ⟨S4096x1, .f32⟩
  | 125 => ⟨S_, .f32⟩
  | 126 => ⟨S4096x1, .f32⟩
  | 127 => ⟨S4096x1, .f32⟩
  | _ => ⟨S4096x2816, .bf16⟩

abbrev hbmTy0_1 (i : Nat) : BufTy := match i % 128 with
  | 0 => ⟨S_, .f32⟩
  | 1 => ⟨S4096, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S_, .f32⟩
  | 8 => ⟨S1024, .f32⟩
  | 9 => ⟨S1x1024, .f32⟩
  | 10 => ⟨S1x1024, .f32⟩
  | 11 => ⟨S1x1024, .f32⟩
  | 12 => ⟨S_, .f32⟩
  | 13 => ⟨S3x1024, .f32⟩
  | 14 => ⟨S8x1024, .f32⟩
  | 15 => ⟨S4096x1024, .bf16⟩
  | _ => ⟨S4096x2816, .bf16⟩

abbrev hbmTy (i : Nat) : BufTy := match i / 128 with
  | 0 => hbmTy0_0 i
  | 1 => hbmTy0_1 i
  | _ => ⟨S4096x2816, .bf16⟩

abbrev bufTy : (tb : Table) → Fin (tcTables nBuf tb) → BufTy
  | .hbm, ⟨i, _⟩ => hbmTy i
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_15 : Ref sig .tc := ⟨.hbm, 99, rfl⟩
abbrev main_v73 : Ref sig .tc := ⟨.hbm, 100, rfl⟩
abbrev main_v74 : Ref sig .tc := ⟨.hbm, 101, rfl⟩
abbrev main_cst_16 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_17 : Ref sig .tc := ⟨.hbm, 109, rfl⟩
abbrev main_v81 : Ref sig .tc := ⟨.hbm, 110, rfl⟩
abbrev main_v82 : Ref sig .tc := ⟨.hbm, 111, rfl⟩
abbrev main_cst_18 : Ref sig .tc := ⟨.hbm, 112, rfl⟩
abbrev main_v83 : Ref sig .tc := ⟨.hbm, 113, rfl⟩
abbrev main_v84 : Ref sig .tc := ⟨.hbm, 114, rfl⟩
abbrev main_cst_19 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_20 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_21 : Ref sig .tc := ⟨.hbm, 125, rfl⟩
abbrev main_v93 : Ref sig .tc := ⟨.hbm, 126, rfl⟩
abbrev main_v94 : Ref sig .tc := ⟨.hbm, 127, rfl⟩
abbrev main_cst_22 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_23 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_24 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩

abbrev nD : Nat := 1
abbrev τ : Topo := Topo.v7x

variable {F : FTy → Type} [FloatOps F]
-- ==== Kernel11.lean ====
abbrev S4096x2816 : Shape := ⟨2, ![4096, 2816]⟩
abbrev S2816x1024 : Shape := ⟨2, ![2816, 1024]⟩
abbrev S4096x1024 : Shape := ⟨2, ![4096, 1024]⟩
abbrev S1x6144 : Shape := ⟨2, ![1, 6144]⟩
abbrev S1024 : Shape := ⟨1, ![1024]⟩
abbrev S6x1024 : Shape := ⟨2, ![6, 1024]⟩
abbrev S_ : Shape := ⟨0, ![]⟩
abbrev S8x1024 : Shape := ⟨2, ![8, 1024]⟩
abbrev S1x1024 : Shape := ⟨2, ![1, 1024]⟩
abbrev S8x128 : Shape := ⟨2, ![8, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 22
  | .vmem => 18
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1x6144, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S2816x1024, .bf16⟩
  | .hbm, ⟨10, _⟩ => ⟨S6x1024, .f32⟩
  | .hbm, ⟨11, _⟩ => ⟨S_, .i32⟩
  | .hbm, ⟨12, _⟩ => ⟨S_, .f32⟩
  | .hbm, ⟨13, _⟩ => ⟨S8x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S4096x1024, .f32⟩
  | .hbm, ⟨19, _⟩ => ⟨S4096x1024, .bf16⟩
  | .hbm, ⟨20, _⟩ => ⟨S8x1024, .f32⟩
  | .hbm, ⟨21, _⟩ => ⟨S8x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S8x1024, .f32⟩
  | .local _ .vmem, ⟨17, _⟩ => ⟨S8x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference11Ideal.lean ====
abbrev S4096x2816 : Shape := ⟨2, ![4096, 2816]⟩
abbrev S2816x1024 : Shape := ⟨2, ![2816, 1024]⟩
abbrev S4096x1024 : Shape := ⟨2, ![4096, 1024]⟩
abbrev S1x6144 : Shape := ⟨2, ![1, 6144]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S5x1024 : Shape := ⟨2, ![5, 1024]⟩
abbrev S8x1024 : Shape := ⟨2, ![8, 1024]⟩
abbrev S8x128 : Shape := ⟨2, ![8, 128]⟩

abbrev nBuf : Space → Nat
  | .hbm => 168
  | .vmem => 0
  | .smem => 0
  | _ => 0

abbrev hbmTy0_0 (i : Nat) : BufTy := match i % 128 with
  | 0 => ⟨S4096x2816, .bf16⟩
  | 1 => ⟨S2816x1024, .f32⟩
  | 2 => ⟨S4096x1024, .f32⟩
  | 3 => ⟨S4096x1024, .f32⟩
  | 4 => ⟨S1x6144, .f32⟩
  | 5 => ⟨S1024, .f32⟩
  | 6 => ⟨S1024, .f32⟩
  | 7 => ⟨S1024, .f32⟩
  | 8 => ⟨S1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S4096x1024, .f32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S4096x1024, .f32⟩
  | 31 => ⟨S4096x1024, .f32⟩
  | 32 => ⟨S_, .f32⟩
  | 33 => ⟨S4096x1, .f32⟩
  | 34 => ⟨S4096x1, .f32⟩
  | 35 => ⟨S4096x1, .f32⟩
  | 36 => ⟨S4096x1024, .f32⟩
  | 37 => ⟨S4096x1024, .f32⟩
  | 38 => ⟨S1x1024, .f32⟩
  | 39 => ⟨S4096x1024, .f32⟩
  | 40 => ⟨S4096x1024, .f32⟩
  | 41 => ⟨S1x1024, .f32⟩
  | 42 => ⟨S4096x1024, .f32⟩
  | 43 => ⟨S4096x1024, .f32⟩
  | 44 => ⟨S_, .f32⟩
  | 45 => ⟨S4096x1024, .f32⟩
  | 46 => ⟨S4096x1024, .f32⟩
  | 47 => ⟨S4096x2816, .f32⟩
  | 48 => ⟨S4096x1024, .f32⟩
  | 49 => ⟨S4096x1024, .f32⟩
  | 50 => ⟨S4096x1024, .f32⟩
  | 51 => ⟨S4096x1024, .f32⟩
  | 52 => ⟨S_, .f32⟩
  | 53 => ⟨S4096, .f32⟩
  | 54 => ⟨S4096x1, .f32⟩
  | 55 => ⟨S_, .f32⟩
  | 56 => ⟨S4096x1, .f32⟩
  | 57 => ⟨S4096x1, .f32⟩
  | 58 => ⟨S4096x1024, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S_, .f32⟩
  | 65 => ⟨S4096, .f32⟩
  | 66 => ⟨S4096x1, .f32⟩
  | 67 => ⟨S_, .f32⟩
  | 68 => ⟨S4096x1, .f32⟩
  | 69 => ⟨S4096x1, .f32⟩
  | 70 => ⟨S4096x1024, .f32⟩
  | 71 => ⟨S4096x1024, .f32⟩
  | 72 => ⟨S_, .f32⟩
  | 73 => ⟨S4096x1, .f32⟩
  | 74 => ⟨S4096x1, .f32⟩
  | 75 => ⟨S4096x1, .f32⟩
  | 76 => ⟨S4096x1, .f32⟩
  | 77 => ⟨S_, .f32⟩
  | 78 => ⟨S4096x1, .f32⟩
  | 79 => ⟨S4096x1, .f32⟩
  | 80 => ⟨S4096x1024, .f32⟩
  | 81 => ⟨S4096x1024, .f32⟩
  | 82 => ⟨S1x1024, .f32⟩
  | 83 => ⟨S4096x1024, .f32⟩
  | 84 => ⟨S4096x1024, .f32⟩
  | 85 => ⟨S1x1024, .f32⟩
  | 86 => ⟨S4096x1024, .f32⟩
  | 87 => ⟨S4096x1024, .f32⟩
  | 88 => ⟨S4096x1024, .f32⟩
  | 89 => ⟨S4096x1024, .f32⟩
  | 90 => ⟨S_, .f32⟩
  | 91 => ⟨S4096x1024, .f32⟩
  | 92 => ⟨S4096x1024, .f32⟩
  | 93 => ⟨S_, .f32⟩
  | 94 => ⟨S4096, .f32⟩
  | 95 => ⟨S_, .f32⟩
  | 96 => ⟨S4096, .f32⟩
  | 97 => ⟨S4096, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S4096, .f32⟩
  | 106 => ⟨S_, .f32⟩
  | 107 => ⟨S4096, .f32⟩
  | 108 => ⟨S4096, .f32⟩
  | 109 => ⟨S4096x1024, .f32⟩
  | 110 => ⟨S4096x1024, .f32⟩
  | 111 => ⟨S_, .f32⟩
  | 112 => ⟨S1024, .f32⟩
  | 113 => ⟨S1x1024, .f32⟩
  | 114 => ⟨S_, .f32⟩
  | 115 => ⟨S1024, .f32⟩
  | 116 => ⟨S4096x1024, .f32⟩
  | 117 => ⟨S_, .f32⟩
  | 118 => ⟨S1024, .f32⟩
  | 119 => ⟨S1x1024, .f32⟩
  | 120 => ⟨S4096x1024, .f32⟩
  | 121 => ⟨S4096x1024, .f32⟩
  | 122 => ⟨S_, .f32⟩
  | 123 => ⟨S1024, .f32⟩
  | 124 => ⟨S4096x1024, .f32⟩
  | 125 => ⟨S_, .f32⟩
  | 126 => ⟨S4096, .f32⟩
  | 127 => ⟨S4096x1, .f32⟩
  | _ => ⟨S4096x2816, .bf16⟩

abbrev hbmTy0_1 (i : Nat) : BufTy := match i % 128 with
  | 0 => ⟨S4096x1024, .f32⟩
  | 1 => ⟨S4096x1024, .f32⟩
  | 2 => ⟨S4096x1, .f32⟩
  | 3 => ⟨S4096x1024, .f32⟩
  | 4 => ⟨S_, .f32⟩
  | 5 => ⟨S4096, .f32⟩
  | 6 => ⟨S4096x1, .f32⟩
  | 7 => ⟨S_, .f32⟩
  | 8 => ⟨S4096x1, .f32⟩
  | 9 => ⟨S4096x1, .f32⟩
  | 10 => ⟨S_, .f32⟩
  | 11 => ⟨S4096, .f32⟩
  | 12 => ⟨S4096x1024, .f32⟩
  | 13 => ⟨S4096x1024, .f32⟩
  | 14 => ⟨S4096x1024, .f32⟩
  | 15 => ⟨S_, .f32⟩
  | 16 => ⟨S4096, .f32⟩
  | 17 => ⟨S4096x1, .f32⟩
  | 18 => ⟨S4096x1024, .f32⟩
  | 19 => ⟨S4096x1, .f32⟩
  | 20 => ⟨S_, .f32⟩
  | 21 => ⟨S4096x1, .f32⟩
  | 22 => ⟨S4096x1, .f32⟩
  | 23 => ⟨S_, .f32⟩
  | 24 => ⟨S4096, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S_, .f32⟩
  | 31 => ⟨S1024, .f32⟩
  | 32 => ⟨S1x1024, .f32⟩
  | 33 => ⟨S1x1024, .f32⟩
  | 34 => ⟨S1x1024, .f32⟩
  | 35 => ⟨S_, .f32⟩
  | 36 => ⟨S5x1024, .f32⟩
  | 37 => ⟨S8x1024, .f32⟩
  | 38 => ⟨S4096x1024, .bf16⟩
  | 39 => ⟨S8x128, .f32⟩
  | _ => ⟨S4096x2816, .bf16⟩

abbrev hbmTy (i : Nat) : BufTy := match i / 128 with
  | 0 => hbmTy0_0 i
  | 1 => hbmTy0_1 i
  | _ => ⟨S4096x2816, .bf16⟩

abbrev bufTy : (tb : Table) → Fin (tcTables nBuf tb) → BufTy
  | .hbm, ⟨i, _⟩ => hbmTy i
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_v69 : Ref sig .tc := ⟨.hbm, 92, rfl⟩
abbrev main_cst_13 : Ref sig .tc := ⟨.hbm, 93, rfl⟩
abbrev main_v70 : Ref sig .tc := ⟨.hbm, 94, rfl⟩
abbrev main_cst_14 : Ref sig .tc := ⟨.hbm, 95, rfl⟩
abbrev main_v71 : Ref sig .tc := ⟨.hbm, 96, rfl⟩
abbrev main_v72 : Ref sig .tc := ⟨.hbm, 97, rfl⟩
abbrev main_cst_15 : Ref sig .tc := ⟨.hbm, 98, rfl⟩
abbrev main_v73 : Ref sig .tc := ⟨.hbm, 99, rfl⟩
abbrev main_cst_16 : Ref sig .tc := ⟨.hbm, 100, rfl⟩
abbrev main_v74 : Ref sig .tc := ⟨.hbm, 101, rfl⟩
abbrev main_cst_17 : Ref sig .tc := ⟨.hbm, 102, rfl⟩
abbrev main_cst_18 : Ref sig .tc := ⟨.hbm, 103, rfl⟩
abbrev main_v75 : Ref sig .tc := ⟨.hbm, 104, rfl⟩
abbrev main_v76 : Ref sig .tc := ⟨.hbm, 105, rfl⟩
abbrev main_cst_19 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_20 : Ref sig .tc := ⟨.hbm, 111, rfl⟩
abbrev main_v81 : Ref sig .tc := ⟨.hbm, 112, rfl⟩
abbrev main_v82 : Ref sig .tc := ⟨.hbm, 113, rfl⟩
abbrev main_cst_21 : Ref sig .tc := ⟨.hbm, 114, rfl⟩
abbrev main_v83 : Ref sig .tc := ⟨.hbm, 115, rfl⟩
abbrev main_v84 : Ref sig .tc := ⟨.hbm, 116, rfl⟩
abbrev main_cst_22 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_23 : Ref sig .tc := ⟨.hbm, 122, rfl⟩
abbrev main_v89 : Ref sig .tc := ⟨.hbm, 123, rfl⟩
abbrev main_v90 : Ref sig .tc := ⟨.hbm, 124, rfl⟩
abbrev main_cst_24 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_25 : Ref sig .tc := ⟨.hbm, 132, rfl⟩
abbrev main_v97 : Ref sig .tc := ⟨.hbm, 133, rfl⟩
abbrev main_v98 : Ref sig .tc := ⟨.hbm, 134, rfl⟩
abbrev main_cst_26 : Ref sig .tc := ⟨.hbm, 135, rfl⟩
abbrev main_v99 : Ref sig .tc := ⟨.hbm, 136, rfl⟩
abbrev main_v100 : Ref sig .tc := ⟨.hbm, 137, rfl⟩
abbrev main_cst_27 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_28 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_29 : Ref sig .tc := ⟨.hbm, 148, rfl⟩
abbrev main_v109 : Ref sig .tc := ⟨.hbm, 149, rfl⟩
abbrev main_v110 : Ref sig .tc := ⟨.hbm, 150, rfl⟩
abbrev main_cst_30 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_31 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_32 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩

abbrev nD : Nat := 1
abbrev τ : Topo := Topo.v7x

variable {F : FTy → Type} [FloatOps F]
-- ==== Kernel12.lean ====
abbrev S4352x6912 : Shape := ⟨2, ![4352, 6912]⟩
abbrev S1024x6912 : Shape := ⟨2, ![1024, 6912]⟩
abbrev S4096x1024 : Shape := ⟨2, ![4096, 1024]⟩
abbrev S256x1024 : Shape := ⟨2, ![256, 1024]⟩
abbrev S1024 : Shape := ⟨1, ![1024]⟩
abbrev S1x6144 : Shape := ⟨2, ![1, 6144]⟩
abbrev S6144 : Shape := ⟨1, ![6144]⟩
abbrev S1x1024 : Shape := ⟨2, ![1, 1024]⟩
abbrev S6x1024 : Shape := ⟨2, ![6, 1024]⟩
abbrev S_ : Shape := ⟨0, ![]⟩
abbrev S8x1024 : Shape := ⟨2, ![8, 1024]⟩
abbrev S256x6912 : Shape := ⟨2, ![256, 6912]⟩
abbrev S256 : Shape := ⟨1, ![256]⟩
abbrev S256x1 : Shape := ⟨2, ![256, 1]⟩

abbrev nBuf : Space → Nat
  | .hbm => 22
  | .vmem => 15
  | .smem => 0
  | _ => 0

abbrev bufTy : (tb : Table) → Fin (tcTables nBuf tb) → BufTy
  | .hbm, ⟨0, _⟩ => ⟨S4352x6912, .bf16⟩
  | .hbm, ⟨1, _⟩ => ⟨S1024x6912, .f32⟩
  | .hbm, ⟨2, _⟩ => ⟨S4096x1024, .f32⟩
  | .hbm, ⟨3, _⟩ => ⟨S4096x1024, .f32⟩
  | .hbm, ⟨4, _⟩ => ⟨S256x1024, .f32⟩
  | .hbm, ⟨5, _⟩ => ⟨S1024, .f32⟩
  | .hbm, ⟨6, _⟩ => ⟨S1024, .f32⟩
  | .hbm, ⟨7, _⟩ => ⟨S1x6144, .f32⟩
  | .hbm, ⟨8, _⟩ => ⟨S6144, .f32⟩
  | .hbm, ⟨9, _⟩ => ⟨S1024x6912, .bf16⟩
  | .hbm, ⟨10, _⟩ => ⟨S1x1024, .f32⟩
  | .hbm, ⟨11, _⟩ => ⟨S1x1024, .f32⟩
  | .hbm, ⟨12, _⟩ => ⟨S6x1024, .f32⟩
  | .hbm, ⟨13, _⟩ => ⟨S_, .i32⟩
  | .hbm, ⟨14, _⟩ => ⟨S_, .f32⟩
  | .hbm, ⟨15, _⟩ => ⟨S8x1024, .f32⟩
  | .hbm, ⟨16, _⟩ => ⟨S6x1024, .f32⟩
  | .hbm, ⟨17, _⟩ => ⟨S_, .i32⟩
  | .hbm, ⟨18, _⟩ => ⟨S_, .f32⟩
  | .hbm, ⟨19, _⟩ => ⟨S8x1024, .f32⟩
  | .hbm, ⟨20, _⟩ => ⟨S4096x1024, .f32⟩
  | .hbm, ⟨21, _⟩ => ⟨S8x1024, .f32⟩
  | .local _ .vmem, ⟨0, _⟩ => ⟨S256x6912, .bf16⟩
  | .local _ .vmem, ⟨1, _⟩ => ⟨S256x6912, .bf16⟩
  | .local _ .vmem, ⟨2, _⟩ => ⟨S1024x6912, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S8x1024, .f32⟩
  | .local _ .vmem, ⟨11, _⟩ => ⟨S8x1024, .f32⟩
  | .local _ .vmem, ⟨12, _⟩ => ⟨S256x1024, .f32⟩
  | .local _ .vmem, ⟨13, _⟩ => ⟨S256x1024, .f32⟩
  | .local _ .vmem, ⟨14, _⟩ => ⟨S8x1024, .f32⟩
  | _, _ => ⟨S4352x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32_52 : BitVec 32 := 16#32
  let v94 : BitVec 1 := Scalar.cmpi .slt arg0 c16_i32_52
  let v95 : BitVec 32 := Scalar.extui v94
  let c0_i32_53 : BitVec 32 := 0#32
  let v96 : BitVec 1 := Scalar.cmpi .ne v95 c0_i32_53
  v96

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6912 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6912 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference12Ideal.lean ====
abbrev S4352x6912 : Shape := ⟨2, ![4352, 6912]⟩
abbrev S1024x6912 : Shape := ⟨2, ![1024, 6912]⟩
abbrev S4096x1024 : Shape := ⟨2, ![4096, 1024]⟩
abbrev S256x1024 : Shape := ⟨2, ![256, 1024]⟩
abbrev S1024 : Shape := ⟨1, ![1024]⟩
abbrev S1x6144 : Shape := ⟨2, ![1, 6144]⟩
abbrev S6144 : Shape := ⟨1, ![6144]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S256 : Shape := ⟨1, ![256]⟩
abbrev S256x1 : Shape := ⟨2, ![256, 1]⟩
abbrev S4096x6912 : Shape := ⟨2, ![4096, 6912]⟩
abbrev S256x6912 : Shape := ⟨2, ![256, 6912]⟩
abbrev S6x1024 : Shape := ⟨2, ![6, 1024]⟩
abbrev S2x1024 : Shape := ⟨2, ![2, 1024]⟩
abbrev S8x1024 : Shape := ⟨2, ![8, 1024]⟩

abbrev nBuf : Space → Nat
  | .hbm => 207
  | .vmem => 0
  | .smem => 0
  | _ => 0

abbrev hbmTy0_0 (i : Nat) : BufTy := match i % 128 with
  | 0 => ⟨S4352x6912, .bf16⟩
  | 1 => ⟨S1024x6912, .f32⟩
  | 2 => ⟨S4096x1024, .f32⟩
  | 3 => ⟨S4096x1024, .f32⟩
  | 4 => ⟨S256x1024, .f32⟩
  | 5 => ⟨S1024, .f32⟩
  | 6 => ⟨S1024, .f32⟩
  | 7 => ⟨S1x6144, .f32⟩
  | 8 => ⟨S6144, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1024, .f32⟩
  | 16 => ⟨S1024, .f32⟩
  | 17 => ⟨S1024, .f32⟩
  | 18 => ⟨S1024, .f32⟩
  | 19 => ⟨S1024, .f32⟩
  | 20 => ⟨S1024, .f32⟩
  | 21 => ⟨S4352x6912, .f32⟩
  | 22 => ⟨S_, .f32⟩
  | 23 => ⟨S4096, .f32⟩
  | 24 => ⟨S4096x1, .f32⟩
  | 25 => ⟨S_, .f32⟩
  | 26 => ⟨S4096x1, .f32⟩
  | 27 => ⟨S4096x1, .f32⟩
  | 28 => ⟨S4096x1024, .f32⟩
  | 29 => ⟨S4096x1024, .f32⟩
  | 30 => ⟨S4096x1024, .f32⟩
  | 31 => ⟨S_, .f32⟩
  | 32 => ⟨S4096x1024, .f32⟩
  | 33 => ⟨S4096x1024, .f32⟩
  | 34 => ⟨S_, .f32⟩
  | 35 => ⟨S4096, .f32⟩
  | 36 => ⟨S4096x1, .f32⟩
  | 37 => ⟨S_, .f32⟩
  | 38 => ⟨S4096x1, .f32⟩
  | 39 => ⟨S4096x1, .f32⟩
  | 40 => ⟨S4096x1024, .f32⟩
  | 41 => ⟨S4096x1024, .f32⟩
  | 42 => ⟨S_, .f32⟩
  | 43 => ⟨S4096x1, .f32⟩
  | 44 => ⟨S4096x1, .f32⟩
  | 45 => ⟨S4096x1, .f32⟩
  | 46 => ⟨S4096x1, .f32⟩
  | 47 => ⟨S_, .f32⟩
  | 48 => ⟨S4096x1, .f32⟩
  | 49 => ⟨S4096x1, .f32⟩
  | 50 => ⟨S4096x1024, .f32⟩
  | 51 => ⟨S4096x1024, .f32⟩
  | 52 => ⟨S1x1024, .f32⟩
  | 53 => ⟨S4096x1024, .f32⟩
  | 54 => ⟨S4096x1024, .f32⟩
  | 55 => ⟨S1x1024, .f32⟩
  | 56 => ⟨S4096x1024, .f32⟩
  | 57 => ⟨S4096x1024, .f32⟩
  | 58 => ⟨S_, .f32⟩
  | 59 => ⟨S256, .f32⟩
  | 60 => ⟨S256x1, .f32⟩
  | 61 => ⟨S_, .f32⟩
  | 62 => ⟨S256x1, .f32⟩
  | 63 => ⟨S256x1, .f32⟩
  | 64 => ⟨S256x1024, .f32⟩
  | 65 => ⟨S256x1024, .f32⟩
  | 66 => ⟨S256x1024, .f32⟩
  | 67 => ⟨S_, .f32⟩
  | 68 => ⟨S256, .f32⟩
  | 69 => ⟨S256x1, .f32⟩
  | 70 => ⟨S_, .f32⟩
  | 71 => ⟨S256x1, .f32⟩
  | 72 => ⟨S256x1, .f32⟩
  | 73 => ⟨S256x1024, .f32⟩
  | 74 => ⟨S256x1024, .f32⟩
  | 75 => ⟨S_, .f32⟩
  | 76 => ⟨S256x1, .f32⟩
  | 77 => ⟨S256x1, .f32⟩
  | 78 => ⟨S256x1, .f32⟩
  | 79 => ⟨S256x1024, .f32⟩
  | 80 => ⟨S256x1024, .f32⟩
  | 81 => ⟨S1x1024, .f32⟩
  | 82 => ⟨S256x1024, .f32⟩
  | 83 => ⟨S256x1024, .f32⟩
  | 84 => ⟨S1x1024, .f32⟩
  | 85 => ⟨S256x1024, .f32⟩
  | 86 => ⟨S256x1024, .f32⟩
  | 87 => ⟨S_, .f32⟩
  | 88 => ⟨S4096x1024, .f32⟩
  | 89 => ⟨S4096x1024, .f32⟩
  | 90 => ⟨S_, .f32⟩
  | 91 => ⟨S1x1024, .f32⟩
  | 92 => ⟨S1x1024, .f32⟩
  | 93 => ⟨S4096x1024, .f32⟩
  | 94 => ⟨S4096x1024, .f32⟩
  | 95 => ⟨S4096x1024, .f32⟩
  | 96 => ⟨S4096x1024, .f32⟩
  | 97 => ⟨S4096x6912, .f32⟩
  | 98 => ⟨S_, .f32⟩
  | 99 => ⟨S1024, .f32⟩
  | 100 => ⟨S1024, .f32⟩
  | 101 => ⟨S1x1024, .f32⟩
  | 102 => ⟨S256x1024, .f32⟩
  | 103 => ⟨S256x1024, .f32⟩
  | 104 => ⟨S1x1024, .f32⟩
  | 105 => ⟨S256x1024, .f32⟩
  | 106 => ⟨S256x1024, .f32⟩
  | 107 => ⟨S256x6912, .f32⟩
  | 108 => ⟨S4096x6912, .f32⟩
  | 109 => ⟨S256x6912, .f32⟩
  | 110 => ⟨S256x1024, .f32⟩
  | 111 => ⟨S_, .f32⟩
  | 112 => ⟨S1024, .f32⟩
  | 113 => ⟨S1x1024, .f32⟩
  | 114 => ⟨S_, .f32⟩
  | 115 => ⟨S1024, .f32⟩
  | 116 => ⟨S256x1024, .f32⟩
  | 117 => ⟨S_, .f32⟩
  | 118 => ⟨S1024, .f32⟩
  | 119 => ⟨S1x1024, .f32⟩
  | 120 => ⟨S256x1024, .f32⟩
  | 121 => ⟨S256x1024, .f32⟩
  | 122 => ⟨S_, .f32⟩
  | 123 => ⟨S1024, .f32⟩
  | 124 => ⟨S4096x1024, .f32⟩
  | 125 => ⟨S_, .f32⟩
  | 126 => ⟨S1024, .f32⟩
  | 127 => ⟨S1x1024, .f32⟩
  | _ => ⟨S4352x6912, .bf16⟩

abbrev hbmTy0_1 (i : Nat) : BufTy := match i % 128 with
  | 0 => ⟨S4096x1024, .f32⟩
  | 1 => ⟨S_, .f32⟩
  | 2 => ⟨S1024, .f32⟩
  | 3 => ⟨S1x1024, .f32⟩
  | 4 => ⟨S4096x1024, .f32⟩
  | 5 => ⟨S4096x1024, .f32⟩
  | 6 => ⟨S_, .f32⟩
  | 7 => ⟨S4096x1024, .f32⟩
  | 8 => ⟨S4096x1024, .f32⟩
  | 9 => ⟨S4096x1024, .f32⟩
  | 10 => ⟨S_, .f32⟩
  | 11 => ⟨S1024, .f32⟩
  | 12 => ⟨S1x1024, .f32⟩
  | 13 => ⟨S_, .f32⟩
  | 14 => ⟨S1024, .f32⟩
  | 15 => ⟨S256x1024, .f32⟩
  | 16 => ⟨S_, .f32⟩
  | 17 => ⟨S1024, .f32⟩
  | 18 => ⟨S1x1024, .f32⟩
  | 19 => ⟨S_, .f32⟩
  | 20 => ⟨S1024, .f32⟩
  | 21 => ⟨S_, .f32⟩
  | 22 => ⟨S1024, .f32⟩
  | 23 => ⟨S1x1024, .f32⟩
  | 24 => ⟨S_, .f32⟩
  | 25 => ⟨S1024, .f32⟩
  | 26 => ⟨S1024, .f32⟩
  | 27 => ⟨S4096x1024, .f32⟩
  | 28 => ⟨S_, .f32⟩
  | 29 => ⟨S1024, .f32⟩
  | 30 => ⟨S1x1024, .f32⟩
  | 31 => ⟨S4096x1024, .f32⟩
  | 32 => ⟨S4096x1024, .f32⟩
  | 33 => ⟨S_, .f32⟩
  | 34 => ⟨S1024, .f32⟩
  | 35 => ⟨S1024, .f32⟩
  | 36 => ⟨S4096x1024, .f32⟩
  | 37 => ⟨S_, .f32⟩
  | 38 => ⟨S4096, .f32⟩
  | 39 => ⟨S4096x1, .f32⟩
  | 40 => ⟨S4096x1024, .f32⟩
  | 41 => ⟨S4096x1024, .f32⟩
  | 42 => ⟨S4096x1, .f32⟩
  | 43 => ⟨S4096x1024, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S_, .f32⟩
  | 51 => ⟨S4096, .f32⟩
  | 52 => ⟨S4096x1024, .f32⟩
  | 53 => ⟨S4096x1024, .f32⟩
  | 54 => ⟨S4096x1024, .f32⟩
  | 55 => ⟨S_, .f32⟩
  | 56 => ⟨S4096, .f32⟩
  | 57 => ⟨S4096x1, .f32⟩
  | 58 => ⟨S4096x1024, .f32⟩
  | 59 => ⟨S4096x1, .f32⟩
  | 60 => ⟨S_, .f32⟩
  | 61 => ⟨S4096x1, .f32⟩
  | 62 => ⟨S4096x1, .f32⟩
  | 63 => ⟨S_, .f32⟩
  | 64 => ⟨S4096, .f32⟩
  | 65 => ⟨S4096x1024, .f32⟩
  | 66 => ⟨S4096x1024, .f32⟩
  | 67 => ⟨S1024, .f32⟩
  | 68 => ⟨S1024, .f32⟩
  | 69 => ⟨S1x1024, .f32⟩
  | 70 => ⟨S1x1024, .f32⟩
  | 71 => ⟨S1x1024, .f32⟩
  | 72 => ⟨S1x1024, .f32⟩
  | 73 => ⟨S1x1024, .f32⟩
  | 74 => ⟨S1x1024, .f32⟩
  | 75 => ⟨S6x1024, .f32⟩
  | 76 => ⟨S_, .f32⟩
  | 77 => ⟨S2x1024, .f32⟩
  | 78 => ⟨S8x1024, .f32⟩
  | _ => ⟨S4352x6912, .bf16⟩

abbrev hbmTy (i : Nat) : BufTy := match i / 128 with
  | 0 => hbmTy0_0 i
  | 1 => hbmTy0_1 i
  | _ => ⟨S4352x6912, .bf16⟩

abbrev bufTy : (tb : Table) → Fin (tcTables nBuf tb) → BufTy
  | .hbm, ⟨i, _⟩ => hbmTy i
  | _, _ => ⟨S4352x6912, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_13 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_14 : Ref sig .tc := ⟨.hbm, 111, rfl⟩
abbrev main_v87 : Ref sig .tc := ⟨.hbm, 112, rfl⟩
abbrev main_v88 : Ref sig .tc := ⟨.hbm, 113, rfl⟩
abbrev main_cst_15 : Ref sig .tc := ⟨.hbm, 114, rfl⟩
abbrev main_v89 : Ref sig .tc := ⟨.hbm, 115, rfl⟩
abbrev main_v90 : Ref sig .tc := ⟨.hbm, 116, rfl⟩
abbrev main_cst_16 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_17 : Ref sig .tc := ⟨.hbm, 122, rfl⟩
abbrev main_v95 : Ref sig .tc := ⟨.hbm, 123, rfl⟩
abbrev main_v96 : Ref sig .tc := ⟨.hbm, 124, rfl⟩
abbrev main_cst_18 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_19 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_20 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_21 : Ref sig .tc := ⟨.hbm, 138, rfl⟩
abbrev main_v107 : Ref sig .tc := ⟨.hbm, 139, rfl⟩
abbrev main_v108 : Ref sig .tc := ⟨.hbm, 140, rfl⟩
abbrev main_cst_22 : Ref sig .tc := ⟨.hbm, 141, rfl⟩
abbrev main_v109 : Ref sig .tc := ⟨.hbm, 142, rfl⟩
abbrev main_v110 : Ref sig .tc := ⟨.hbm, 143, rfl⟩
abbrev main_cst_23 : Ref sig .tc := ⟨.hbm, 144, rfl⟩
abbrev main_v111 : Ref sig .tc := ⟨.hbm, 145, rfl⟩
abbrev main_v112 : Ref sig .tc := ⟨.hbm, 146, rfl⟩
abbrev main_cst_24 : Ref sig .tc := ⟨.hbm, 147, rfl⟩
abbrev main_v113 : Ref sig .tc := ⟨.hbm, 148, rfl⟩
abbrev main_cst_25 : Ref sig .tc := ⟨.hbm, 149, rfl⟩
abbrev main_v114 : Ref sig .tc := ⟨.hbm, 150, rfl⟩
abbrev main_v115 : Ref sig .tc := ⟨.hbm, 151, rfl⟩
abbrev main_cst_26 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_27 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_28 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_cst_29 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_cst_30 : Ref sig .tc := ⟨.hbm, 172, rfl⟩
abbrev main_v132 : Ref sig .tc := ⟨.hbm, 173, rfl⟩
abbrev main_v133 : Ref sig .tc := ⟨.hbm, 174, rfl⟩
abbrev main_cst_31 : Ref sig .tc := ⟨.hbm, 175, rfl⟩
abbrev main_v134 : Ref sig .tc := ⟨.hbm, 176, rfl⟩
abbrev main_v135 : Ref sig .tc := ⟨.hbm, 177, rfl⟩
abbrev main_cst_32 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_cst_33 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_34 : Ref sig .tc := ⟨.hbm, 188, rfl⟩
abbrev main_v144 : Ref sig .tc := ⟨.hbm, 189, rfl⟩
abbrev main_v145 : Ref sig .tc := ⟨.hbm, 190, rfl⟩
abbrev main_cst_35 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_cst_36 : Ref sig .tc := ⟨.hbm, 204, rfl⟩
abbrev main_v158 : Ref sig .tc := ⟨.hbm, 205, rfl⟩
abbrev main_v159 : Ref sig .tc := ⟨.hbm, 206, rfl⟩

abbrev nD : Nat := 1
abbrev τ : Topo := Topo.v7x

variable {F : FTy → Type} [FloatOps F]
-- ==== Kernel13.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .bf16⟩
  | .local _ .vmem, ⟨3, _⟩ => ⟨S176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S8x352x1024 : Shape := ⟨3, ![8, 352, 1024]⟩
abbrev S352x1024 : Shape := ⟨2, ![352, 1024]⟩
abbrev S1x352x1024 : Shape := ⟨3, ![1, 352, 1024]⟩
abbrev S7x352x1024 : Shape := ⟨3, ![7, 352, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S1x352x1024, .bf16⟩
  | .hbm, ⟨6, _⟩ => ⟨S7x352x1024, .bf16⟩
  | .hbm, ⟨7, _⟩ => ⟨S8x352x1024, .bf16⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | .hbm, ⟨40, _⟩ => ⟨S352x1024, .f32⟩
  | .hbm, ⟨41, _⟩ => ⟨S_, .f32⟩
  | .hbm, ⟨42, _⟩ => ⟨S352x1024, .f32⟩
  | .hbm, ⟨43, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel14.lean ====
abbrev S8x1024x836 : Shape := ⟨3, ![8, 1024, 836]⟩
abbrev S1024x836 : Shape := ⟨2, ![1024, 836]⟩
abbrev S8x256x836 : Shape := ⟨3, ![8, 256, 836]⟩
abbrev S256x836 : Shape := ⟨2, ![256, 836]⟩
abbrev S1x256x836 : Shape := ⟨3, ![1, 256, 836]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x836, .bf16⟩
  | .hbm, ⟨1, _⟩ => ⟨S1024x836, .bf16⟩
  | .hbm, ⟨2, _⟩ => ⟨S1024x836, .f32⟩
  | .hbm, ⟨3, _⟩ => ⟨S1024x836, .f32⟩
  | .hbm, ⟨4, _⟩ => ⟨S1024x836, .f32⟩
  | .hbm, ⟨5, _⟩ => ⟨S1024x836, .f32⟩
  | .hbm, ⟨6, _⟩ => ⟨S1024x836, .f32⟩
  | .hbm, ⟨7, _⟩ => ⟨S1024x836, .f32⟩
  | .hbm, ⟨8, _⟩ => ⟨S1024x836, .f32⟩
  | .local _ .vmem, ⟨0, _⟩ => ⟨S8x256x836, .bf16⟩
  | .local _ .vmem, ⟨1, _⟩ => ⟨S8x256x836, .bf16⟩
  | .local _ .vmem, ⟨2, _⟩ => ⟨S256x836, .bf16⟩
  | .local _ .vmem, ⟨3, _⟩ => ⟨S256x836, .bf16⟩
  | .local _ .vmem, ⟨4, _⟩ => ⟨S256x836, .f32⟩
  | .local _ .vmem, ⟨5, _⟩ => ⟨S256x836, .f32⟩
  | .local _ .vmem, ⟨6, _⟩ => ⟨S256x836, .f32⟩
  | .local _ .vmem, ⟨7, _⟩ => ⟨S256x836, .f32⟩
  | .local _ .vmem, ⟨8, _⟩ => ⟨S256x836, .f32⟩
  | .local _ .vmem, ⟨9, _⟩ => ⟨S256x836, .f32⟩
  | .local _ .vmem, ⟨10, _⟩ => ⟨S256x836, .f32⟩
  | .local _ .vmem, ⟨11, _⟩ => ⟨S256x836, .f32⟩
  | .local _ .vmem, ⟨12, _⟩ => ⟨S256x836, .f32⟩
  | .local _ .vmem, ⟨13, _⟩ => ⟨S256x836, .f32⟩
  | .local _ .vmem, ⟨14, _⟩ => ⟨S256x836, .f32⟩
  | .local _ .vmem, ⟨15, _⟩ => ⟨S256x836, .f32⟩
  | .local _ .vmem, ⟨16, _⟩ => ⟨S256x836, .f32⟩
  | .local _ .vmem, ⟨17, _⟩ => ⟨S256x836, .f32⟩
  | _, _ => ⟨S8x1024x836, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x836 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x836 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x836 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x836 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x836 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x836 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x836 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x836 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x836 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S8x1024x836 : Shape := ⟨3, ![8, 1024, 836]⟩
abbrev S1024x836 : Shape := ⟨2, ![1024, 836]⟩
abbrev S1x1024x836 : Shape := ⟨3, ![1, 1024, 836]⟩
abbrev S7x1024x836 : Shape := ⟨3, ![7, 1024, 836]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x1024x836, .bf16⟩
  | .hbm, ⟨1, _⟩ => ⟨S1024x836, .bf16⟩
  | .hbm, ⟨2, _⟩ => ⟨S1024x836, .f32⟩
  | .hbm, ⟨3, _⟩ => ⟨S1024x836, .f32⟩
  | .hbm, ⟨4, _⟩ => ⟨S1024x836, .f32⟩
  | .hbm, ⟨5, _⟩ => ⟨S1x1024x836, .bf16⟩
  | .hbm, ⟨6, _⟩ => ⟨S7x1024x836, .bf16⟩
  | .hbm, ⟨7, _⟩ => ⟨S8x1024x836, .bf16⟩
  | .hbm, ⟨8, _⟩ => ⟨S8x1024x836, .f32⟩
  | .hbm, ⟨9, _⟩ => ⟨S_, .f32⟩
  | .hbm, ⟨10, _⟩ => ⟨S1024x836, .f32⟩
  | .hbm, ⟨11, _⟩ => ⟨S_, .f32⟩
  | .hbm, ⟨12, _⟩ => ⟨S1024x836, .f32⟩
  | .hbm, ⟨13, _⟩ => ⟨S1024x836, .f32⟩
  | .hbm, ⟨14, _⟩ => ⟨S_, .f32⟩
  | .hbm, ⟨15, _⟩ => ⟨S1024x836, .f32⟩
  | .hbm, ⟨16, _⟩ => ⟨S1024x836, .f32⟩
  | .hbm, ⟨17, _⟩ => ⟨S1024x836, .f32⟩
  | .hbm, ⟨18, _⟩ => ⟨S_, .f32⟩
  | .hbm, ⟨19, _⟩ => ⟨S1024x836, .f32⟩
  | .hbm, ⟨20, _⟩ => ⟨S1024x836, .f32⟩
  | .hbm, ⟨21, _⟩ => ⟨S1024x836, .f32⟩
  | .hbm, ⟨22, _⟩ => ⟨S_, .f32⟩
  | .hbm, ⟨23, _⟩ => ⟨S1024x836, .f32⟩
  | .hbm, ⟨24, _⟩ => ⟨S1024x836, .f32⟩
  | .hbm, ⟨25, _⟩ => ⟨S1024x836, .f32⟩
  | .hbm, ⟨26, _⟩ => ⟨S_, .f32⟩
  | .hbm, ⟨27, _⟩ => ⟨S1024x836, .f32⟩
  | .hbm, ⟨28, _⟩ => ⟨S1024x836, .f32⟩
  | .hbm, ⟨29, _⟩ => ⟨S_, .f32⟩
  | .hbm, ⟨30, _⟩ => ⟨S1024x836, .f32⟩
  | .hbm, ⟨31, _⟩ => ⟨S1024x836, .f32⟩
  | .hbm, ⟨32, _⟩ => ⟨S1024x836, .f32⟩
  | .hbm, ⟨33, _⟩ => ⟨S_, .f32⟩
  | .hbm, ⟨34, _⟩ => ⟨S1024x836, .f32⟩
  | .hbm, ⟨35, _⟩ => ⟨S1024x836, .f32⟩
  | .hbm, ⟨36, _⟩ => ⟨S1024x836, .f32⟩
  | .hbm, ⟨37, _⟩ => ⟨S_, .f32⟩
  | .hbm, ⟨38, _⟩ => ⟨S1024x836, .f32⟩
  | .hbm, ⟨39, _⟩ => ⟨S1024x836, .f32⟩
  | .hbm, ⟨40, _⟩ => ⟨S1024x836, .f32⟩
  | .hbm, ⟨41, _⟩ => ⟨S_, .f32⟩
  | .hbm, ⟨42, _⟩ => ⟨S1024x836, .f32⟩
  | .hbm, ⟨43, _⟩ => ⟨S1024x836, .f32⟩
  | _, _ => ⟨S8x1024x836, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel15.lean ====
abbrev S8x384x1024 : Shape := ⟨3, ![8, 384, 1024]⟩
abbrev S384x1024 : Shape := ⟨2, ![384, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x384x1024, .bf16⟩
  | .hbm, ⟨1, _⟩ => ⟨S384x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S8x128x1024, .bf16⟩
  | .local _ .vmem, ⟨1, _⟩ => ⟨S128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | _, _ => ⟨S8x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference15Ideal.lean ====
abbrev S8x384x1024 : Shape := ⟨3, ![8, 384, 1024]⟩
abbrev S384x1024 : Shape := ⟨2, ![384, 1024]⟩
abbrev S128x1024 : Shape := ⟨2, ![128, 1024]⟩
abbrev S8x128x1024 : Shape := ⟨3, ![8, 128, 1024]⟩
abbrev S1x128x1024 : Shape := ⟨3, ![1, 128, 1024]⟩
abbrev S7x128x1024 : Shape := ⟨3, ![7, 128, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8x384x1024, .bf16⟩
  | .hbm, ⟨1, _⟩ => ⟨S384x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S8x128x1024, .bf16⟩
  | .hbm, ⟨6, _⟩ => ⟨S128x1024, .bf16⟩
  | .hbm, ⟨7, _⟩ => ⟨S1x128x1024, .bf16⟩
  | .hbm, ⟨8, _⟩ => ⟨S7x128x1024, .bf16⟩
  | .hbm, ⟨9, _⟩ => ⟨S8x128x1024, .bf16⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | _, _ => ⟨S8x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Kernel16.lean ====
abbrev S8x384x1024 : Shape := ⟨3, ![8, 384, 1024]⟩
abbrev S384x1024 : Shape := ⟨2, ![384, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x384x1024, .bf16⟩
  | .hbm, ⟨1, _⟩ => ⟨S384x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S8x128x1024, .bf16⟩
  | .local _ .vmem, ⟨1, _⟩ => ⟨S128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | _, _ => ⟨S8x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference16Ideal.lean ====
abbrev S8x384x1024 : Shape := ⟨3, ![8, 384, 1024]⟩
abbrev S384x1024 : Shape := ⟨2, ![384, 1024]⟩
abbrev S128x1024 : Shape := ⟨2, ![128, 1024]⟩
abbrev S8x128x1024 : Shape := ⟨3, ![8, 128, 1024]⟩
abbrev S1x128x1024 : Shape := ⟨3, ![1, 128, 1024]⟩
abbrev S7x128x1024 : Shape := ⟨3, ![7, 128, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8x384x1024, .bf16⟩
  | .hbm, ⟨1, _⟩ => ⟨S384x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S8x128x1024, .bf16⟩
  | .hbm, ⟨6, _⟩ => ⟨S128x1024, .bf16⟩
  | .hbm, ⟨7, _⟩ => ⟨S1x128x1024, .bf16⟩
  | .hbm, ⟨8, _⟩ => ⟨S7x128x1024, .bf16⟩
  | .hbm, ⟨9, _⟩ => ⟨S8x128x1024, .bf16⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | _, _ => ⟨S8x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Kernel17.lean ====
abbrev S8x384x1024 : Shape := ⟨3, ![8, 384, 1024]⟩
abbrev S384x1024 : Shape := ⟨2, ![384, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x384x1024, .bf16⟩
  | .hbm, ⟨1, _⟩ => ⟨S384x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S8x128x1024, .bf16⟩
  | .local _ .vmem, ⟨1, _⟩ => ⟨S128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | _, _ => ⟨S8x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference17Ideal.lean ====
abbrev S8x384x1024 : Shape := ⟨3, ![8, 384, 1024]⟩
abbrev S384x1024 : Shape := ⟨2, ![384, 1024]⟩
abbrev S128x1024 : Shape := ⟨2, ![128, 1024]⟩
abbrev S8x128x1024 : Shape := ⟨3, ![8, 128, 1024]⟩
abbrev S1x128x1024 : Shape := ⟨3, ![1, 128, 1024]⟩
abbrev S7x128x1024 : Shape := ⟨3, ![7, 128, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8x384x1024, .bf16⟩
  | .hbm, ⟨1, _⟩ => ⟨S384x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S8x128x1024, .bf16⟩
  | .hbm, ⟨6, _⟩ => ⟨S128x1024, .bf16⟩
  | .hbm, ⟨7, _⟩ => ⟨S1x128x1024, .bf16⟩
  | .hbm, ⟨8, _⟩ => ⟨S7x128x1024, .bf16⟩
  | .hbm, ⟨9, _⟩ => ⟨S8x128x1024, .bf16⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | _, _ => ⟨S8x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Kernel18.lean ====
abbrev S1024x768 : Shape := ⟨2, ![1024, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S160x1024 : Shape := ⟨2, ![160, 1024]⟩

abbrev nBuf : Space → Nat
  | .hbm => 7
  | .vmem => 7
  | .smem => 0
  | _ => 0

abbrev bufTy : (tb : Table) → Fin (tcTables nBuf tb) → BufTy
  | .hbm, ⟨0, _⟩ => ⟨S160x1024, .f32⟩
  | .hbm, ⟨1, _⟩ => ⟨S160x1024, .f32⟩
  | .hbm, ⟨2, _⟩ => ⟨S160x1024, .f32⟩
  | .hbm, ⟨3, _⟩ => ⟨S160x1024, .f32⟩
  | .hbm, ⟨4, _⟩ => ⟨S160x1024, .f32⟩
  | .hbm, ⟨5, _⟩ => ⟨S160x1024, .f32⟩
  | .hbm, ⟨6, _⟩ => ⟨S160x1024, .f32⟩
  | .local _ .vmem, ⟨0, _⟩ => ⟨S160x1024, .f32⟩
  | .local _ .vmem, ⟨1, _⟩ => ⟨S160x1024, .f32⟩
  | .local _ .vmem, ⟨2, _⟩ => ⟨S160x1024, .f32⟩
  | .local _ .vmem, ⟨3, _⟩ => ⟨S160x1024, .f32⟩
  | .local _ .vmem, ⟨4, _⟩ => ⟨S160x1024, .f32⟩
  | .local _ .vmem, ⟨5, _⟩ => ⟨S160x1024, .f32⟩
  | .local _ .vmem, ⟨6, _⟩ => ⟨S160x1024, .f32⟩
  | _, _ => ⟨S160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S160x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S160x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S160x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S160x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S160x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S160x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S160x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S160x1024 : Shape := ⟨2, ![160, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S160x1024, .f32⟩
  | .hbm, ⟨1, _⟩ => ⟨S160x1024, .f32⟩
  | .hbm, ⟨2, _⟩ => ⟨S160x1024, .f32⟩
  | .hbm, ⟨3, _⟩ => ⟨S160x1024, .f32⟩
  | .hbm, ⟨4, _⟩ => ⟨S_, .f32⟩
  | .hbm, ⟨5, _⟩ => ⟨S160x1024, .f32⟩
  | .hbm, ⟨6, _⟩ => ⟨S160x1024, .f32⟩
  | .hbm, ⟨7, _⟩ => ⟨S_, .f32⟩
  | .hbm, ⟨8, _⟩ => ⟨S160x1024, .f32⟩
  | .hbm, ⟨9, _⟩ => ⟨S160x1024, .f32⟩
  | .hbm, ⟨10, _⟩ => ⟨S160x1024, .f32⟩
  | .hbm, ⟨11, _⟩ => ⟨S_, .f32⟩
  | .hbm, ⟨12, _⟩ => ⟨S160x1024, .f32⟩
  | .hbm, ⟨13, _⟩ => ⟨S160x1024, .f32⟩
  | .hbm, ⟨14, _⟩ => ⟨S160x1024, .f32⟩
  | .hbm, ⟨15, _⟩ => ⟨S_, .f32⟩
  | .hbm, ⟨16, _⟩ => ⟨S160x1024, .f32⟩
  | .hbm, ⟨17, _⟩ => ⟨S160x1024, .f32⟩
  | .hbm, ⟨18, _⟩ => ⟨S160x1024, .f32⟩
  | .hbm, ⟨19, _⟩ => ⟨S_, .f32⟩
  | .hbm, ⟨20, _⟩ => ⟨S160x1024, .f32⟩
  | .hbm, ⟨21, _⟩ => ⟨S160x1024, .f32⟩
  | .hbm, ⟨22, _⟩ => ⟨S_, .f32⟩
  | .hbm, ⟨23, _⟩ => ⟨S160x1024, .f32⟩
  | .hbm, ⟨24, _⟩ => ⟨S160x1024, .f32⟩
  | .hbm, ⟨25, _⟩ => ⟨S160x1024, .f32⟩
  | .hbm, ⟨26, _⟩ => ⟨S_, .f32⟩
  | .hbm, ⟨27, _⟩ => ⟨S160x1024, .f32⟩
  | .hbm, ⟨28, _⟩ => ⟨S160x1024, .f32⟩
  | .hbm, ⟨29, _⟩ => ⟨S160x1024, .f32⟩
  | .hbm, ⟨30, _⟩ => ⟨S_, .f32⟩
  | .hbm, ⟨31, _⟩ => ⟨S160x1024, .f32⟩
  | .hbm, ⟨32, _⟩ => ⟨S160x1024, .f32⟩
  | .hbm, ⟨33, _⟩ => ⟨S160x1024, .f32⟩
  | .hbm, ⟨34, _⟩ => ⟨S_, .f32⟩
  | .hbm, ⟨35, _⟩ => ⟨S160x1024, .f32⟩
  | .hbm, ⟨36, _⟩ => ⟨S160x1024, .f32⟩
  | _, _ => ⟨S160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S8x24x1024 : Shape := ⟨3, ![8, 24, 1024]⟩
abbrev S24x1024 : Shape := ⟨2, ![24, 1024]⟩
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x24x1024, .f32⟩
  | .hbm, ⟨1, _⟩ => ⟨S24x1024, .f32⟩
  | .local _ .vmem, ⟨0, _⟩ => ⟨S8x8x1024, .f32⟩
  | .local _ .vmem, ⟨1, _⟩ => ⟨S8x8x1024, .f32⟩
  | .local _ .vmem, ⟨2, _⟩ => ⟨S8x1024, .f32⟩
  | .local _ .vmem, ⟨3, _⟩ => ⟨S8x1024, .f32⟩
  | _, _ => ⟨S8x24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference20Ideal.lean ====
abbrev S8x24x1024 : Shape := ⟨3, ![8, 24, 1024]⟩
abbrev S_ : Shape := ⟨0, ![]⟩
abbrev S24x1024 : Shape := ⟨2, ![24, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x24x1024, .f32⟩
  | .hbm, ⟨1, _⟩ => ⟨S_, .f32⟩
  | .hbm, ⟨2, _⟩ => ⟨S24x1024, .f32⟩
  | _, _ => ⟨S8x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel21.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .local _ .vmem, ⟨0, _⟩ => ⟨S8x128x1024, .bf16⟩
  | .local _ .vmem, ⟨1, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference21Ideal.lean ====
abbrev S8x128x1024 : Shape := ⟨3, ![8, 128, 1024]⟩
abbrev S_ : Shape := ⟨0, ![]⟩
abbrev S128x1024 : Shape := ⟨2, ![128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .f32⟩
  | .hbm, ⟨2, _⟩ => ⟨S_, .f32⟩
  | .hbm, ⟨3, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel22.lean ====
abbrev S16x1024 : Shape := ⟨2, ![16, 1024]⟩
abbrev S1024x768 : Shape := ⟨2, ![1024, 768]⟩
abbrev S1x768 : Shape := ⟨2, ![1, 768]⟩
abbrev S16x768 : Shape := ⟨2, ![16, 768]⟩

abbrev nBuf : Space → Nat
  | .hbm => 4
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S1x768, .f32⟩
  | .hbm, ⟨3, _⟩ => ⟨S16x768, .f32⟩
  | .local _ .vmem, ⟨0, _⟩ => ⟨S16x1024, .f32⟩
  | .local _ .vmem, ⟨1, _⟩ => ⟨S1024x768, .f32⟩
  | .local _ .vmem, ⟨2, _⟩ => ⟨S1x768, .f32⟩
  | .local _ .vmem, ⟨3, _⟩ => ⟨S16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference22Ideal.lean ====
abbrev S16x1024 : Shape := ⟨2, ![16, 1024]⟩
abbrev S1024x768 : Shape := ⟨2, ![1024, 768]⟩
abbrev S1x768 : Shape := ⟨2, ![1, 768]⟩
abbrev S_ : Shape := ⟨0, ![]⟩
abbrev S16x768 : Shape := ⟨2, ![16, 768]⟩

abbrev nBuf : Space → Nat
  | .hbm => 15
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S1x768, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x768, .f32⟩
  | .hbm, ⟨13, _⟩ => ⟨S16x768, .f32⟩
  | .hbm, ⟨14, _⟩ => ⟨S16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel23.lean ====
abbrev S4096x1024 : Shape := ⟨2, ![4096, 1024]⟩
abbrev S256x1024 : Shape := ⟨2, ![256, 1024]⟩
abbrev S1024 : Shape := ⟨1, ![1024]⟩
abbrev S1x6144 : Shape := ⟨2, ![1, 6144]⟩
abbrev S6144 : Shape := ⟨1, ![6144]⟩
abbrev S1x1024 : Shape := ⟨2, ![1, 1024]⟩
abbrev S6x1024 : Shape := ⟨2, ![6, 1024]⟩
abbrev S_ : Shape := ⟨0, ![]⟩
abbrev S8x1024 : Shape := ⟨2, ![8, 1024]⟩
abbrev S4352x1024 : Shape := ⟨2, ![4352, 1024]⟩
abbrev S256 : Shape := ⟨1, ![256]⟩
abbrev S256x1 : Shape := ⟨2, ![256, 1]⟩

abbrev nBuf : Space → Nat
  | .hbm => 18
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S1024, .f32⟩
  | .hbm, ⟨3, _⟩ => ⟨S1024, .f32⟩
  | .hbm, ⟨4, _⟩ => ⟨S1x6144, .f32⟩
  | .hbm, ⟨5, _⟩ => ⟨S6144, .f32⟩
  | .hbm, ⟨6, _⟩ => ⟨S1x1024, .f32⟩
  | .hbm, ⟨7, _⟩ => ⟨S1x1024, .f32⟩
  | .hbm, ⟨8, _⟩ => ⟨S6x1024, .f32⟩
  | .hbm, ⟨9, _⟩ => ⟨S_, .i32⟩
  | .hbm, ⟨10, _⟩ => ⟨S_, .f32⟩
  | .hbm, ⟨11, _⟩ => ⟨S8x1024, .f32⟩
  | .hbm, ⟨12, _⟩ => ⟨S6x1024, .f32⟩
  | .hbm, ⟨13, _⟩ => ⟨S_, .i32⟩
  | .hbm, ⟨14, _⟩ => ⟨S_, .f32⟩
  | .hbm, ⟨15, _⟩ => ⟨S8x1024, .f32⟩
  | .hbm, ⟨16, _⟩ => ⟨S4352x1024, .f32⟩
  | .hbm, ⟨17, _⟩ => ⟨S4352x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S4096x1024 : Shape := ⟨2, ![4096, 1024]⟩
abbrev S256x1024 : Shape := ⟨2, ![256, 1024]⟩
abbrev S1024 : Shape := ⟨1, ![1024]⟩
abbrev S1x6144 : Shape := ⟨2, ![1, 6144]⟩
abbrev S6144 : Shape := ⟨1, ![6144]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S256 : Shape := ⟨1, ![256]⟩
abbrev S256x1 : Shape := ⟨2, ![256, 1]⟩
abbrev S4352x1024 : Shape := ⟨2, ![4352, 1024]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S1024, .f32⟩
  | .hbm, ⟨3, _⟩ => ⟨S1024, .f32⟩
  | .hbm, ⟨4, _⟩ => ⟨S1x6144, .f32⟩
  | .hbm, ⟨5, _⟩ => ⟨S6144, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S256, .f32⟩
  | .hbm, ⟨49, _⟩ => ⟨S256x1, .f32⟩
  | .hbm, ⟨50, _⟩ => ⟨S_, .f32⟩
  | .hbm, ⟨51, _⟩ => ⟨S256x1, .f32⟩
  | .hbm, ⟨52, _⟩ => ⟨S256x1, .f32⟩
  | .hbm, ⟨53, _⟩ => ⟨S256x1024, .f32⟩
  | .hbm, ⟨54, _⟩ => ⟨S256x1024, .f32⟩
  | .hbm, ⟨55, _⟩ => ⟨S256x1024, .f32⟩
  | .hbm, ⟨56, _⟩ => ⟨S_, .f32⟩
  | .hbm, ⟨57, _⟩ => ⟨S256, .f32⟩
  | .hbm, ⟨58, _⟩ => ⟨S256x1, .f32⟩
  | .hbm, ⟨59, _⟩ => ⟨S_, .f32⟩
  | .hbm, ⟨60, _⟩ => ⟨S256x1, .f32⟩
  | .hbm, ⟨61, _⟩ => ⟨S256x1, .f32⟩
  | .hbm, ⟨62, _⟩ => ⟨S256x1024, .f32⟩
  | .hbm, ⟨63, _⟩ => ⟨S256x1024, .f32⟩
  | .hbm, ⟨64, _⟩ => ⟨S_, .f32⟩
  | .hbm, ⟨65, _⟩ => ⟨S256x1, .f32⟩
  | .hbm, ⟨66, _⟩ => ⟨S256x1, .f32⟩
  | .hbm, ⟨67, _⟩ => ⟨S256x1, .f32⟩
  | .hbm, ⟨68, _⟩ => ⟨S256x1024, .f32⟩
  | .hbm, ⟨69, _⟩ => ⟨S256x1024, .f32⟩
  | .hbm, ⟨70, _⟩ => ⟨S1x1024, .f32⟩
  | .hbm, ⟨71, _⟩ => ⟨S256x1024, .f32⟩
  | .hbm, ⟨72, _⟩ => ⟨S256x1024, .f32⟩
  | .hbm, ⟨73, _⟩ => ⟨S1x1024, .f32⟩
  | .hbm, ⟨74, _⟩ => ⟨S256x1024, .f32⟩
  | .hbm, ⟨75, _⟩ => ⟨S256x1024, .f32⟩
  | .hbm, ⟨76, _⟩ => ⟨S_, .f32⟩
  | .hbm, ⟨77, _⟩ => ⟨S1x1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S1024, .f32⟩
  | .hbm, ⟨86, _⟩ => ⟨S1x1024, .f32⟩
  | .hbm, ⟨87, _⟩ => ⟨S256x1024, .f32⟩
  | .hbm, ⟨88, _⟩ => ⟨S256x1024, .f32⟩
  | .hbm, ⟨89, _⟩ => ⟨S1x1024, .f32⟩
  | .hbm, ⟨90, _⟩ => ⟨S256x1024, .f32⟩
  | .hbm, ⟨91, _⟩ => ⟨S256x1024, .f32⟩
  | .hbm, ⟨92, _⟩ => ⟨S4352x1024, .f32⟩
  | .hbm, ⟨93, _⟩ => ⟨S4352x1024, .f32⟩
  | .hbm, ⟨94, _⟩ => ⟨S4352x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_10 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩

abbrev nD : Nat := 1
abbrev τ : Topo := Topo.v7x

variable {F : FTy → Type} [FloatOps F]
-- ==== Kernel24.lean ====
abbrev S8x1024 : Shape := ⟨2, ![8, 1024]⟩
abbrev S1024 : Shape := ⟨1, ![1024]⟩
abbrev S8x2x6144 : Shape := ⟨3, ![8, 2, 6144]⟩
abbrev S8x2x768 : Shape := ⟨3, ![8, 2, 768]⟩
abbrev S1024x768 : Shape := ⟨2, ![1024, 768]⟩
abbrev S1x1024 : Shape := ⟨2, ![1, 1024]⟩
abbrev S8x1x1024 : Shape := ⟨3, ![8, 1, 1024]⟩
abbrev S8x2x1024 : Shape := ⟨3, ![8, 2, 1024]⟩
abbrev S16x1024 : Shape := ⟨2, ![16, 1024]⟩
abbrev S16x6144 : Shape := ⟨2, ![16, 6144]⟩
abbrev S16x768 : Shape := ⟨2, ![16, 768]⟩
abbrev S8x6144 : Shape := ⟨2, ![8, 6144]⟩
abbrev S6144 : Shape := ⟨1, ![6144]⟩
abbrev S1x6144 : Shape := ⟨2, ![1, 6144]⟩
abbrev S768 : Shape := ⟨1, ![768]⟩
abbrev S1x768 : Shape := ⟨2, ![1, 768]⟩
abbrev S8x768 : Shape := ⟨2, ![8, 768]⟩

abbrev nBuf : Space → Nat
  | .hbm => 16
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S8x2x6144, .f32⟩
  | .hbm, ⟨3, _⟩ => ⟨S8x2x768, .f32⟩
  | .hbm, ⟨4, _⟩ => ⟨S1024x768, .f32⟩
  | .hbm, ⟨5, _⟩ => ⟨S1x1024, .f32⟩
  | .hbm, ⟨6, _⟩ => ⟨S8x1024, .f32⟩
  | .hbm, ⟨7, _⟩ => ⟨S8x1x1024, .f32⟩
  | .hbm, ⟨8, _⟩ => ⟨S8x1x1024, .f32⟩
  | .hbm, ⟨9, _⟩ => ⟨S8x2x1024, .f32⟩
  | .hbm, ⟨10, _⟩ => ⟨S16x1024, .f32⟩
  | .hbm, ⟨11, _⟩ => ⟨S16x6144, .f32⟩
  | .hbm, ⟨12, _⟩ => ⟨S16x768, .f32⟩
  | .hbm, ⟨13, _⟩ => ⟨S1024x768, .f32⟩
  | .hbm, ⟨14, _⟩ => ⟨S8x6144, .f32⟩
  | .hbm, ⟨15, _⟩ => ⟨S8x1024, .f32⟩
  | .local _ .vmem, ⟨0, _⟩ => ⟨S16x1024, .f32⟩
  | .local _ .vmem, ⟨1, _⟩ => ⟨S16x6144, .f32⟩
  | .local _ .vmem, ⟨2, _⟩ => ⟨S16x768, .f32⟩
  | .local _ .vmem, ⟨3, _⟩ => ⟨S1024x768, .f32⟩
  | .local _ .vmem, ⟨4, _⟩ => ⟨S1024x768, .f32⟩
  | .local _ .vmem, ⟨5, _⟩ => ⟨S8x6144, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference24Ideal.lean ====
abbrev S8x1024 : Shape := ⟨2, ![8, 1024]⟩
abbrev S1024 : Shape := ⟨1, ![1024]⟩
abbrev S8x2x6144 : Shape := ⟨3, ![8, 2, 6144]⟩
abbrev S8x2x768 : Shape := ⟨3, ![8, 2, 768]⟩
abbrev S1024x768 : Shape := ⟨2, ![1024, 768]⟩
abbrev S_ : Shape := ⟨0, ![]⟩
abbrev S8x768 : Shape := ⟨2, ![8, 768]⟩
abbrev S1x1024 : Shape := ⟨2, ![1, 1024]⟩
abbrev S1x768 : Shape := ⟨2, ![1, 768]⟩
abbrev S8x1x768 : Shape := ⟨3, ![8, 1, 768]⟩
abbrev S768 : Shape := ⟨1, ![768]⟩
abbrev S768x1024 : Shape := ⟨2, ![768, 1024]⟩
abbrev S8x1x6144 : Shape := ⟨3, ![8, 1, 6144]⟩
abbrev S8x6144 : Shape := ⟨2, ![8, 6144]⟩
abbrev S6144 : Shape := ⟨1, ![6144]⟩

abbrev nBuf : Space → Nat
  | .hbm => 60
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S8x2x6144, .f32⟩
  | .hbm, ⟨3, _⟩ => ⟨S8x2x768, .f32⟩
  | .hbm, ⟨4, _⟩ => ⟨S1024x768, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x768, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x768, .f32⟩
  | .hbm, ⟨30, _⟩ => ⟨S8x1x768, .f32⟩
  | .hbm, ⟨31, _⟩ => ⟨S8x768, .f32⟩
  | .hbm, ⟨32, _⟩ => ⟨S8x1x768, .f32⟩
  | .hbm, ⟨33, _⟩ => ⟨S8x768, .f32⟩
  | .hbm, ⟨34, _⟩ => ⟨S_, .f32⟩
  | .hbm, ⟨35, _⟩ => ⟨S768, .f32⟩
  | .hbm, ⟨36, _⟩ => ⟨S1x768, .f32⟩
  | .hbm, ⟨37, _⟩ => ⟨S768x1024, .f32⟩
  | .hbm, ⟨38, _⟩ => ⟨S1024x768, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S768x1024, .f32⟩
  | .hbm, ⟨47, _⟩ => ⟨S1024x768, .f32⟩
  | .hbm, ⟨48, _⟩ => ⟨S1024x768, .f32⟩
  | .hbm, ⟨49, _⟩ => ⟨S8x1x6144, .f32⟩
  | .hbm, ⟨50, _⟩ => ⟨S8x6144, .f32⟩
  | .hbm, ⟨51, _⟩ => ⟨S_, .f32⟩
  | .hbm, ⟨52, _⟩ => ⟨S6144, .f32⟩
  | .hbm, ⟨53, _⟩ => ⟨S8x1x6144, .f32⟩
  | .hbm, ⟨54, _⟩ => ⟨S8x6144, .f32⟩
  | .hbm, ⟨55, _⟩ => ⟨S_, .f32⟩
  | .hbm, ⟨56, _⟩ => ⟨S6144, .f32⟩
  | .hbm, ⟨57, _⟩ => ⟨S6144, .f32⟩
  | .hbm, ⟨58, _⟩ => ⟨S8x6144, .f32⟩
  | .hbm, ⟨59, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_v3_2 : Ref sig .tc := ⟨.hbm, 23, rfl⟩
abbrev main_call1_cst_1 : Ref sig .tc := ⟨.hbm, 24, rfl⟩
abbrev main_call1_v6 : Ref sig .tc := ⟨.hbm, 25, rfl⟩
abbrev main_call1_v7 : Ref sig .tc := ⟨.hbm, 26, rfl⟩
abbrev main_v3_1 : Ref sig .tc := ⟨.hbm, 27, rfl⟩
abbrev main_v3_0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v14 : Ref sig .tc := ⟨.hbm, 43, rfl⟩
abbrev main_cst_0 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_1 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_2 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩

abbrev nD : Nat := 1
abbrev τ : Topo := Topo.v7x

variable {F : FTy → Type} [FloatOps F]
-- ==== Kernel25.lean ====
abbrev S4352x128 : Shape := ⟨2, ![4352, 128]⟩
abbrev S4352x6912 : Shape := ⟨2, ![4352, 6912]⟩
abbrev S8x128 : Shape := ⟨2, ![8, 128]⟩
abbrev S256x128 : Shape := ⟨2, ![256, 128]⟩
abbrev S256x256 : Shape := ⟨2, ![256, 256]⟩
abbrev S1x128 : Shape := ⟨2, ![1, 128]⟩
abbrev S128 : Shape := ⟨1, ![128]⟩

abbrev nBuf : Space → Nat
  | .hbm => 5
  | .vmem => 7
  | .smem => 0
  | _ => 0

abbrev bufTy : (tb : Table) → Fin (tcTables nBuf tb) → BufTy
  | .hbm, ⟨0, _⟩ => ⟨S4352x128, .f32⟩
  | .hbm, ⟨1, _⟩ => ⟨S4352x128, .f32⟩
  | .hbm, ⟨2, _⟩ => ⟨S4352x6912, .bf16⟩
  | .hbm, ⟨3, _⟩ => ⟨S4352x6912, .bf16⟩
  | .hbm, ⟨4, _⟩ => ⟨S8x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x256, .bf16⟩
  | .local _ .vmem, ⟨5, _⟩ => ⟨S256x256, .bf16⟩
  | .local _ .vmem, ⟨6, _⟩ => ⟨S8x128, .f32⟩
  | _, _ => ⟨S4352x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c26_i32 : BitVec 32 := 26#32
  let c0_i32 : BitVec 32 := 0#32
  ![arg0.toNat, c26_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference25Ideal.lean ====
abbrev S4352x128 : Shape := ⟨2, ![4352, 128]⟩
abbrev S4352x6912 : Shape := ⟨2, ![4352, 6912]⟩
abbrev S_ : Shape := ⟨0, ![]⟩
abbrev S128 : Shape := ⟨1, ![128]⟩
abbrev S1x128 : Shape := ⟨2, ![1, 128]⟩
abbrev S4352x256 : Shape := ⟨2, ![4352, 256]⟩
abbrev S8x128 : Shape := ⟨2, ![8, 128]⟩

abbrev nBuf : Space → Nat
  | .hbm => 28
  | .vmem => 0
  | .smem => 0
  | _ => 0

abbrev bufTy : (tb : Table) → Fin (tcTables nBuf tb) → BufTy
  | .hbm, ⟨0, _⟩ => ⟨S4352x128, .f32⟩
  | .hbm, ⟨1, _⟩ => ⟨S4352x128, .f32⟩
  | .hbm, ⟨2, _⟩ => ⟨S4352x6912, .bf16⟩
  | .hbm, ⟨3, _⟩ => ⟨S_, .f32⟩
  | .hbm, ⟨4, _⟩ => ⟨S4352x128, .f32⟩
  | .hbm, ⟨5, _⟩ => ⟨S_, .f32⟩
  | .hbm, ⟨6, _⟩ => ⟨S128, .f32⟩
  | .hbm, ⟨7, _⟩ => ⟨S1x128, .f32⟩
  | .hbm, ⟨8, _⟩ => ⟨S4352x128, .f32⟩
  | .hbm, ⟨9, _⟩ => ⟨S4352x128, .f32⟩
  | .hbm, ⟨10, _⟩ => ⟨S4352x128, .f32⟩
  | .hbm, ⟨11, _⟩ => ⟨S4352x128, .f32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S_, .f32⟩
  | .hbm, ⟨16, _⟩ => ⟨S128, .f32⟩
  | .hbm, ⟨17, _⟩ => ⟨S4352x128, .bf16⟩
  | .hbm, ⟨18, _⟩ => ⟨S_, .i32⟩
  | .hbm, ⟨19, _⟩ => ⟨S_, .bf16⟩
  | .hbm, ⟨20, _⟩ => ⟨S4352x256, .bf16⟩
  | .hbm, ⟨21, _⟩ => ⟨S_, .i32⟩
  | .hbm, ⟨22, _⟩ => ⟨S_, .i32⟩
  | .hbm, ⟨23, _⟩ => ⟨S4352x6912, .bf16⟩
  | .hbm, ⟨24, _⟩ => ⟨S1x128, .f32⟩
  | .hbm, ⟨25, _⟩ => ⟨S_, .i32⟩
  | .hbm, ⟨26, _⟩ => ⟨S_, .f32⟩
  | .hbm, ⟨27, _⟩ => ⟨S8x128, .f32⟩
  | _, _ => ⟨S4352x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_c_3 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_c_5 : Ref sig .tc := ⟨.hbm, 25, rfl⟩
abbrev main_call1_v0 : Ref sig .tc := ⟨.hbm, 26, rfl⟩
abbrev main_v14 : Ref sig .tc := ⟨.hbm, 27, rfl⟩

abbrev nD : Nat := 1
abbrev τ : Topo := Topo.v7x

variable {F : FTy → Type} [FloatOps F]
-- ==== Kernel26.lean ====
abbrev S4352x1024 : Shape := ⟨2, ![4352, 1024]⟩
abbrev S4352x6912 : Shape := ⟨2, ![4352, 6912]⟩
abbrev S4352x1536 : Shape := ⟨2, ![4352, 1536]⟩
abbrev S2x16 : Shape := ⟨2, ![2, 16]⟩
abbrev S1024 : Shape := ⟨1, ![1024]⟩
abbrev S8x128x128 : Shape := ⟨3, ![8, 128, 128]⟩
abbrev S8x128 : Shape := ⟨2, ![8, 128]⟩
abbrev S1x16 : Shape := ⟨2, ![1, 16]⟩
abbrev S16 : Shape := ⟨1, ![16]⟩
abbrev S16x64 : Shape := ⟨2, ![16, 64]⟩
abbrev S1x1024 : Shape := ⟨2, ![1, 1024]⟩
abbrev S128x8 : Shape := ⟨2, ![128, 8]⟩
abbrev S_ : Shape := ⟨0, ![]⟩
abbrev S128x128 : Shape := ⟨2, ![128, 128]⟩
abbrev S4096x1024 : Shape := ⟨2, ![4096, 1024]⟩
abbrev S256x1024 : Shape := ⟨2, ![256, 1024]⟩
abbrev S256 : Shape := ⟨1, ![256]⟩
abbrev S256x1 : Shape := ⟨2, ![256, 1]⟩
abbrev S1x128x128 : Shape := ⟨3, ![1, 128, 128]⟩
abbrev S128x1 : Shape := ⟨2, ![128, 1]⟩

abbrev nBuf : Space → Nat
  | .hbm => 28
  | .vmem => 22
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x6912, .f32⟩
  | .hbm, ⟨3, _⟩ => ⟨S4352x1536, .f32⟩
  | .hbm, ⟨4, _⟩ => ⟨S2x16, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S8x128x128, .f32⟩
  | .hbm, ⟨9, _⟩ => ⟨S8x128, .f32⟩
  | .hbm, ⟨10, _⟩ => ⟨S1x16, .f32⟩
  | .hbm, ⟨11, _⟩ => ⟨S16, .f32⟩
  | .hbm, ⟨12, _⟩ => ⟨S1x16, .f32⟩
  | .hbm, ⟨13, _⟩ => ⟨S16, .f32⟩
  | .hbm, ⟨14, _⟩ => ⟨S16, .f32⟩
  | .hbm, ⟨15, _⟩ => ⟨S16x64, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S8x128x128, .bf16⟩
  | .hbm, ⟨22, _⟩ => ⟨S128x8, .f32⟩
  | .hbm, ⟨23, _⟩ => ⟨S_, .i32⟩
  | .hbm, ⟨24, _⟩ => ⟨S_, .f32⟩
  | .hbm, ⟨25, _⟩ => ⟨S128x128, .f32⟩
  | .hbm, ⟨26, _⟩ => ⟨S4096x1024, .bf16⟩
  | .hbm, ⟨27, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S8x128x128, .bf16⟩
  | .local _ .vmem, ⟨17, _⟩ => ⟨S128x128, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_call0_v0 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference26Ideal.lean ====
abbrev S4352x1024 : Shape := ⟨2, ![4352, 1024]⟩
abbrev S4352x6912 : Shape := ⟨2, ![4352, 6912]⟩
abbrev S4352x1536 : Shape := ⟨2, ![4352, 1536]⟩
abbrev S2x16 : Shape := ⟨2, ![2, 16]⟩
abbrev S1024 : Shape := ⟨1, ![1024]⟩
abbrev S8x128x128 : Shape := ⟨3, ![8, 128, 128]⟩
abbrev S8x128 : Shape := ⟨2, ![8, 128]⟩
abbrev S4096x1024 : Shape := ⟨2, ![4096, 1024]⟩
abbrev S_ : Shape := ⟨0, ![]⟩
abbrev S4096x16x64 : Shape := ⟨3, ![4096, 16, 64]⟩
abbrev S1x16 : Shape := ⟨2, ![1, 16]⟩
abbrev S16 : Shape := ⟨1, ![16]⟩
abbrev S16x1 : Shape := ⟨2, ![16, 1]⟩
abbrev S1x16x1 : Shape := ⟨3, ![1, 16, 1]⟩
abbrev S4096 : Shape := ⟨1, ![4096]⟩
abbrev S4096x1 : Shape := ⟨2, ![4096, 1]⟩
abbrev S1x1024 : Shape := ⟨2, ![1, 1024]⟩
abbrev S32x128x8x128 : Shape := ⟨4, ![32, 128, 8, 128]⟩
abbrev S8x32x128x128 : Shape := ⟨4, ![8, 32, 128, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 130
  | .vmem => 0
  | .smem => 0
  | _ => 0

abbrev hbmTy0_0 (i : Nat) : BufTy := match i % 128 with
  | 0 => ⟨S4352x1024, .f32⟩
  | 1 => ⟨S4352x1024, .f32⟩
  | 2 => ⟨S4352x6912, .f32⟩
  | 3 => ⟨S4352x1536, .f32⟩
  | 4 => ⟨S2x16, .f32⟩
  | 5 => ⟨S1024, .f32⟩
  | 6 => ⟨S1024, .f32⟩
  | 7 => ⟨S1024, .f32⟩
  | 8 => ⟨S8x128x128, .f32⟩
  | 9 => ⟨S8x128, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S_, .f32⟩
  | 18 => ⟨S4096x1024, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S_, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S4096x1024, .f32⟩
  | 50 => ⟨S4096x16x64, .f32⟩
  | 51 => ⟨S1x16, .f32⟩
  | 52 => ⟨S16, .f32⟩
  | 53 => ⟨S1x16, .f32⟩
  | 54 => ⟨S16, .f32⟩
  | 55 => ⟨S16, .f32⟩
  | 56 => ⟨S16x1, .f32⟩
  | 57 => ⟨S1x16x1, .f32⟩
  | 58 => ⟨S4096x16x64, .f32⟩
  | 59 => ⟨S4096x16x64, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S_, .f32⟩
  | 75 => ⟨S4096, .f32⟩
  | 76 => ⟨S4096x1, .f32⟩
  | 77 => ⟨S_, .f32⟩
  | 78 => ⟨S4096x1, .f32⟩
  | 79 => ⟨S4096x1, .f32⟩
  | 80 => ⟨S_, .f32⟩
  | 81 => ⟨S4096x1, .f32⟩
  | 82 => ⟨S4096x1, .f32⟩
  | 83 => ⟨S4096x1, .f32⟩
  | 84 => ⟨S4096x1024, .f32⟩
  | 85 => ⟨S4096x1024, .f32⟩
  | 86 => ⟨S1x1024, .f32⟩
  | 87 => ⟨S4096x1024, .f32⟩
  | 88 => ⟨S4096x1024, .f32⟩
  | 89 => ⟨S_, .f32⟩
  | 90 => ⟨S4096, .f32⟩
  | 91 => ⟨S4096x1, .f32⟩
  | 92 => ⟨S_, .f32⟩
  | 93 => ⟨S4096x1, .f32⟩
  | 94 => ⟨S4096x1, .f32⟩
  | 95 => ⟨S4096x1024, .f32⟩
  | 96 => ⟨S4096x1024, .f32⟩
  | 97 => ⟨S4096x1024, .f32⟩
  | 98 => ⟨S_, .f32⟩
  | 99 => ⟨S4096, .f32⟩
  | 100 => ⟨S4096x1, .f32⟩
  | 101 => ⟨S_, .f32⟩
  | 102 => ⟨S4096x1, .f32⟩
  | 103 => ⟨S4096x1, .f32⟩
  | 104 => ⟨S4096x1024, .f32⟩
  | 105 => ⟨S4096x1024, .f32⟩
  | 106 => ⟨S_, .f32⟩
  | 107 => ⟨S4096x1, .f32⟩
  | 108 => ⟨S4096x1, .f32⟩
  | 109 => ⟨S4096x1, .f32⟩
  | 110 => ⟨S4096x1024, .f32⟩
  | 111 => ⟨S4096x1024, .f32⟩
  | 112 => ⟨S1x1024, .f32⟩
  | 113 => ⟨S4096x1024, .f32⟩
  | 114 => ⟨S4096x1024, .f32⟩
  | 115 => ⟨S1x1024, .f32⟩
  | 116 => ⟨S4096x1024, .f32⟩
  | 117 => ⟨S4096x1024, .f32⟩
  | 118 => ⟨S32x128x8x128, .f32⟩
  | 119 => ⟨S8x32x128x128, .f32⟩
  | 120 => ⟨S32x128x8x128, .f32⟩
  | 121 => ⟨S128x8, .f32⟩
  | 122 => ⟨S128x8x1, .f32⟩
  | 123 => ⟨S1x128x8x1, .f32⟩
  | 124 => ⟨S32x128x8x128, .f32⟩
  | 125 => ⟨S32x128x8x128, .f32⟩
  | 126 => ⟨S4096x1024, .f32⟩
  | 127 => ⟨S4096x1024, .f32⟩
  | _ => ⟨S4352x1024, .f32⟩

abbrev hbmTy0_1 (i : Nat) : BufTy := match i % 128 with
  | 0 => ⟨S4096x1024, .bf16⟩
  | 1 => ⟨S4096x1024, .bf16⟩
  | _ => ⟨S4352x1024, .f32⟩

abbrev hbmTy (i : Nat) : BufTy := match i / 128 with
  | 0 => hbmTy0_0 i
  | 1 => hbmTy0_1 i
  | _ => ⟨S4352x1024, .f32⟩

abbrev bufTy : (tb : Table) → Fin (tcTables nBuf tb) → BufTy
  | .hbm, ⟨i, _⟩ => hbmTy i
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_7 : Ref sig .tc := ⟨.hbm, 74, rfl⟩
abbrev main_v48 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_10 : Ref sig .tc := ⟨.hbm, 89, rfl⟩
abbrev main_v60 : Ref sig .tc := ⟨.hbm, 90, rfl⟩
abbrev main_v61 : Ref sig .tc := ⟨.hbm, 91, rfl⟩
abbrev main_cst_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_12 : Ref sig .tc := ⟨.hbm, 98, rfl⟩
abbrev main_v67 : Ref sig .tc := ⟨.hbm, 99, rfl⟩
abbrev main_v68 : Ref sig .tc := ⟨.hbm, 100, rfl⟩
abbrev main_cst_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_14 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]
-- ==== Proof.LatentRuns.lean ====
/- The runs of the body of the backward kernel of the first projection over the latent rows: one for the first
   grid point, one for the points with latent rows, and one for the last point, whose rows are the context's. -/
module

public import proofs.«01_k».proof.Proof.Gen.Kernel12Ideal.Frame
public import proofs.«01_k».proof.Proof.Gen.Kernel12Ideal.Skeleton
public import proofs.«01_k».proof.Proof.Gen.Kernel12Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel12Ideal.Gen.Latent

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition under which the body clears the sums. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 17 = 0 :=
  (fun t => by
    have ht : t.val < 17 := Nat.lt_of_lt_of_eq t.isLt N_0
    have e0 : (grid0.coords t 0).val = t.val / 1 % 17 := Pipeline.Grid.coords_val t 0 (by decide) rfl
    simp only [cond0_0, e0]
    word_cmp
   : ∀ t : Fin grid0.N, cond0_0 (grid0.coords t) ↔ t.val % 17 = 0)

/-- The condition under which the body stores the gradient of `x`. -/
abbrev cond0_1 (i : grid0.Coords) : Prop := k0_cond2 i = 1#1
/-- It holds at the points before the last. -/
theorem hcond0_1 : ∀ t : Fin cfg0.N, cond0_1 (grid0.coords t) ↔ t.val < 16 :=
  (by decide +kernel : ∀ t : Fin grid0.N, cond0_1 (grid0.coords t) ↔ t.val < 16)

/-! ## Which windows the body uses at each point -/

/-- The body uses window 0, an input, at every point. -/
theorem liveAt0_0 : ∀ t : Fin cfg0.N, cfg0.idle 0 (grid0.coords t) = false := fun _ => rfl
/-- The body uses window 1, an input, at every point. -/
theorem liveAt0_1 : ∀ t : Fin cfg0.N, cfg0.idle 1 (grid0.coords t) = false := fun _ => rfl
/-- The body uses window 2, an input, at every point. -/
theorem liveAt0_2 : ∀ t : Fin cfg0.N, cfg0.idle 2 (grid0.coords t) = false := fun _ => rfl
/-- The body uses window 3, an input, at every point. -/
theorem liveAt0_3 : ∀ t : Fin cfg0.N, cfg0.idle 3 (grid0.coords t) = false := fun _ => rfl
/-- The body uses window 4, an input, at every point. -/
theorem liveAt0_4 : ∀ t : Fin cfg0.N, cfg0.idle 4 (grid0.coords t) = false := fun _ => rfl
/-- The body uses window 5, an input, at every point. -/
theorem liveAt0_5 : ∀ t : Fin cfg0.N, cfg0.idle 5 (grid0.coords t) = false := fun _ => rfl
/-- The body uses window 6, an input, at every point. -/
theorem liveAt0_6 : ∀ t : Fin cfg0.N, cfg0.idle 6 (grid0.coords t) = false := fun _ => rfl
/-- The body uses window 7, an input, at every point. -/
theorem liveAt0_7 : ∀ t : Fin cfg0.N, cfg0.idle 7 (grid0.coords t) = false := fun _ => rfl
/-- The body uses window 8, an input, at every point. -/
theorem liveAt0_8 : ∀ t : Fin cfg0.N, cfg0.idle 8 (grid0.coords t) = false := fun _ => rfl
/-- Window 9, the block of `grad_x`, is written back at the last grid point, where the body leaves it alone. -/
theorem flush_last : ∀ t : Fin cfg0.N, ¬ t.val < 16 → (cfg0.win 9).flush t = true :=
  (by decide +kernel : ∀ t : Fin grid0.N, ¬ t.val < 16 → win0_9.flush t = true)
/-- It is not written back at the point before that. -/
theorem kept_before_last : ∀ t : Fin cfg0.N, t.val = 15 → (cfg0.win 9).flush t = false :=
  (by decide +kernel : ∀ t : Fin grid0.N, t.val = 15 → win0_9.flush t = false)
/-- The body stores into it at every point but the last. -/
theorem live_latent : ∀ t : Fin cfg0.N, t.val < 16 → cfg0.idle 9 (grid0.coords t) = false :=
  (by decide +kernel : ∀ t : Fin grid0.N, t.val < 16 → cfg0.idle 9 (grid0.coords t) = false)
/-- The body stores into window 10, the sums, at every point. -/
theorem liveAt0_10 : ∀ t : Fin cfg0.N, cfg0.idle 10 (grid0.coords t) = false := fun _ => rfl
/-! ## The body on any buffers -/

/-- A buffer for window 9, through which its contents are stated. -/
abbrev VO0_9 : View sig .tc .vmem S256x1024 .f32 := (Memref.whole cc0_stg9_0 : Memref sig .tc .vmem S256x1024 .f32).view
/-- A buffer for window 10, through which its contents are stated. -/
abbrev VO0_10 : View sig .tc .vmem S8x1024 .f32 := (Memref.whole cc0_stg10_0 : Memref sig .tc .vmem S8x1024 .f32).view
/-- The buffer of each window at point `t`. -/
abbrev ms0_0 (t : Fin cfg0.N) : Memref sig .tc .vmem S256x6912 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x6912 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x1024 .f32 := win0_10.stage (cfg0.slots t 10)
abbrev hs0_10 (t : Fin cfg0.N) : (ms0_10 t).IsWhole := hstage0_10 ((cfg0.slots t 10).cast nbuf0_10)

set_option maxHeartbeats 1000000 in
/-- What the body stores in each output's buffer at the first point, the newest store first, and its run. -/
noncomputable def kernelRun0_A (c : Dev nD) (i : grid0.Coords) (arg1 : Memref sig .tc .vmem S256x6912 .bf16) (harg1 : arg1.IsWhole) (arg2 : Memref sig .tc .vmem S1024x6912 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S256x1024 .f32) (harg10 : arg10.IsWhole) (arg11 : Memref sig .tc .vmem S8x1024 .f32) (harg11 : arg11.IsWhole) (hc0 : cond0_0 i) (hc1 : cond0_1 i)
    (x0 : Vec F S256x6912 .bf16) (x1 : Vec F S1024x6912 .bf16) (x2 : Vec F S256x1024 .f32) (x3 : Vec F S256x1024 .f32) (x4 : Vec F S256x1024 .f32) (x5 : Vec F S1x1024 .f32) (x6 : Vec F S1x1024 .f32) (x7 : Vec F S8x1024 .f32) (x8 : Vec F S8x1024 .f32) :
    Σ' (L9 : List (View.Piece (Elt F) S256x1024 .f32)), { L10 : List (View.Piece (Elt F) S8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10)) -∗ K ⟨⟩))
          ⊢ wp frame (wpE (defs₀ (F := F)) Variants.none c none) E (cc0_mm_dh1_ln0bwd i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_mm_dh1_ln0bwd_eq_skeleton]; unfold cc0_mm_dh1_ln0bwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    iexists _; iexact H10

set_option maxHeartbeats 1000000 in
/-- What the body stores in each output's buffer at a point with latent rows after the first, the newest store first, and its run. -/
noncomputable def kernelRun0_B (c : Dev nD) (i : grid0.Coords) (arg1 : Memref sig .tc .vmem S256x6912 .bf16) (harg1 : arg1.IsWhole) (arg2 : Memref sig .tc .vmem S1024x6912 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S256x1024 .f32) (harg10 : arg10.IsWhole) (arg11 : Memref sig .tc .vmem S8x1024 .f32) (harg11 : arg11.IsWhole) (hc0 : ¬cond0_0 i) (hc1 : cond0_1 i)
    (x0 : Vec F S256x6912 .bf16) (x1 : Vec F S1024x6912 .bf16) (x2 : Vec F S256x1024 .f32) (x3 : Vec F S256x1024 .f32) (x4 : Vec F S256x1024 .f32) (x5 : Vec F S1x1024 .f32) (x6 : Vec F S1x1024 .f32) (x7 : Vec F S8x1024 .f32) (x8 : Vec F S8x1024 .f32) (xo10 : Vec F S8x1024 .f32) :
    Σ' (L9 : List (View.Piece (Elt F) S256x1024 .f32)), { L10 : List (View.Piece (Elt F) S8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xo10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (arg11.view.loc (c : Thread nD τ) ↦[arg11.view.set]{fullShare} arg11.view.writes (Elt F) (harg11.unread xo10) L10)) -∗ K ⟨⟩))
          ⊢ wp frame (wpE (defs₀ (F := F)) Variants.none c none) E (cc0_mm_dh1_ln0bwd i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_mm_dh1_ln0bwd_eq_skeleton]; unfold cc0_mm_dh1_ln0bwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    iexact H10

set_option maxHeartbeats 1000000 in
/-- What the body stores in each output's buffer at the last point, the newest store first, and its run. -/
noncomputable def kernelRun0_C (c : Dev nD) (i : grid0.Coords) (arg1 : Memref sig .tc .vmem S256x6912 .bf16) (harg1 : arg1.IsWhole) (arg2 : Memref sig .tc .vmem S1024x6912 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S256x1024 .f32) (harg10 : arg10.IsWhole) (arg11 : Memref sig .tc .vmem S8x1024 .f32) (harg11 : arg11.IsWhole) (hc0 : ¬cond0_0 i) (hc1 : ¬cond0_1 i)
    (x0 : Vec F S256x6912 .bf16) (x1 : Vec F S1024x6912 .bf16) (x2 : Vec F S256x1024 .f32) (x3 : Vec F S256x1024 .f32) (x4 : Vec F S256x1024 .f32) (x5 : Vec F S1x1024 .f32) (x6 : Vec F S1x1024 .f32) (x7 : Vec F S8x1024 .f32) (x8 : Vec F S8x1024 .f32) (xo9 : Vec F S256x1024 .f32) (xo10 : Vec F S8x1024 .f32) :
    Σ' (L9 : List (View.Piece (Elt F) S256x1024 .f32)), { L10 : List (View.Piece (Elt F) S8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xo9 ∗ owns (c : Thread nD τ) arg11 fullShare xo10
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xo9 ∗ (arg11.view.loc (c : Thread nD τ) ↦[arg11.view.set]{fullShare} arg11.view.writes (Elt F) (harg11.unread xo10) L10)) -∗ K ⟨⟩))
          ⊢ wp frame (wpE (defs₀ (F := F)) Variants.none c none) E (cc0_mm_dh1_ln0bwd i arg1 harg1 arg2 harg2 arg3 harg3 arg4 harg4 arg5 harg5 arg6 harg6 arg7 harg7 arg8 harg8 arg9 harg9 arg10 harg10 arg11 harg11) K } := by
  refine ⟨[], ?_, fun E K => ?run⟩
  case run =>
    simp only [cc0_mm_dh1_ln0bwd_eq_skeleton]; unfold cc0_mm_dh1_ln0bwd_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexact H10

end Cert.Kernel12Ideal.Gen.Latent

end
-- ==== Proof.LatentFrame.lean ====
/- What the backward kernel of the first projection leaves in its two results, point by point, and its run. -/
module

public import proofs.«01_k».proof.Proof.LatentRuns
public import Idealize.ShloMosaic.Lib.Claim

@[expose] public section

set_option maxRecDepth 16384

noncomputable section

namespace Cert.Kernel12Ideal.Gen.Latent

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores at the first point cover the block of output 9. -/
theorem cover0_A_9 (c : Dev nD) (i : grid0.Coords) (arg1 : Memref sig .tc .vmem S256x6912 .bf16) (harg1 : arg1.IsWhole) (arg2 : Memref sig .tc .vmem S1024x6912 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S256x1024 .f32) (harg10 : arg10.IsWhole) (arg11 : Memref sig .tc .vmem S8x1024 .f32) (harg11 : arg11.IsWhole) (hc0 : cond0_0 i) (hc1 : cond0_1 i)
    (x0 : Vec F S256x6912 .bf16) (x1 : Vec F S1024x6912 .bf16) (x2 : Vec F S256x1024 .f32) (x3 : Vec F S256x1024 .f32) (x4 : Vec F S256x1024 .f32) (x5 : Vec F S1x1024 .f32) (x6 : Vec F S1x1024 .f32) (x7 : Vec F S8x1024 .f32) (x8 : Vec F S8x1024 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).1 S256x1024.size (by sl_kernel_rfl) y

/-- What the first point leaves in the block of output 9. -/
def out0_A_9 (c : Dev nD) (i : grid0.Coords) (arg1 : Memref sig .tc .vmem S256x6912 .bf16) (harg1 : arg1.IsWhole) (arg2 : Memref sig .tc .vmem S1024x6912 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S256x1024 .f32) (harg10 : arg10.IsWhole) (arg11 : Memref sig .tc .vmem S8x1024 .f32) (harg11 : arg11.IsWhole) (hc0 : cond0_0 i) (hc1 : cond0_1 i)
    (x0 : Vec F S256x6912 .bf16) (x1 : Vec F S1024x6912 .bf16) (x2 : Vec F S256x1024 .f32) (x3 : Vec F S256x1024 .f32) (x4 : Vec F S256x1024 .f32) (x5 : Vec F S1x1024 .f32) (x6 : Vec F S1x1024 .f32) (x7 : Vec F S8x1024 .f32) (x8 : Vec F S8x1024 .f32) : Vec F S256x1024 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).1)

/-- The stores at the first point cover the block of output 10. -/
theorem cover0_A_10 (c : Dev nD) (i : grid0.Coords) (arg1 : Memref sig .tc .vmem S256x6912 .bf16) (harg1 : arg1.IsWhole) (arg2 : Memref sig .tc .vmem S1024x6912 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S256x1024 .f32) (harg10 : arg10.IsWhole) (arg11 : Memref sig .tc .vmem S8x1024 .f32) (harg11 : arg11.IsWhole) (hc0 : cond0_0 i) (hc1 : cond0_1 i)
    (x0 : Vec F S256x6912 .bf16) (x1 : Vec F S1024x6912 .bf16) (x2 : Vec F S256x1024 .f32) (x3 : Vec F S256x1024 .f32) (x4 : Vec F S256x1024 .f32) (x5 : Vec F S1x1024 .f32) (x6 : Vec F S1x1024 .f32) (x7 : Vec F S8x1024 .f32) (x8 : Vec F S8x1024 .f32) (y : S8x1024.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).2.1 ![1, 1024] (by sl_kernel_rfl) y

/-- What the first point leaves in the block of output 10. -/
def out0_A_10 (c : Dev nD) (i : grid0.Coords) (arg1 : Memref sig .tc .vmem S256x6912 .bf16) (harg1 : arg1.IsWhole) (arg2 : Memref sig .tc .vmem S1024x6912 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S256x1024 .f32) (harg10 : arg10.IsWhole) (arg11 : Memref sig .tc .vmem S8x1024 .f32) (harg11 : arg11.IsWhole) (hc0 : cond0_0 i) (hc1 : cond0_1 i)
    (x0 : Vec F S256x6912 .bf16) (x1 : Vec F S1024x6912 .bf16) (x2 : Vec F S256x1024 .f32) (x3 : Vec F S256x1024 .f32) (x4 : Vec F S256x1024 .f32) (x5 : Vec F S1x1024 .f32) (x6 : Vec F S1x1024 .f32) (x7 : Vec F S8x1024 .f32) (x8 : Vec F S8x1024 .f32) : Vec F S8x1024 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).2.1)

/-- The stores at a point with latent rows after the first cover the block of output 9. -/
theorem cover0_B_9 (c : Dev nD) (i : grid0.Coords) (arg1 : Memref sig .tc .vmem S256x6912 .bf16) (harg1 : arg1.IsWhole) (arg2 : Memref sig .tc .vmem S1024x6912 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S256x1024 .f32) (harg10 : arg10.IsWhole) (arg11 : Memref sig .tc .vmem S8x1024 .f32) (harg11 : arg11.IsWhole) (hc0 : ¬cond0_0 i) (hc1 : cond0_1 i)
    (x0 : Vec F S256x6912 .bf16) (x1 : Vec F S1024x6912 .bf16) (x2 : Vec F S256x1024 .f32) (x3 : Vec F S256x1024 .f32) (x4 : Vec F S256x1024 .f32) (x5 : Vec F S1x1024 .f32) (x6 : Vec F S1x1024 .f32) (x7 : Vec F S8x1024 .f32) (x8 : Vec F S8x1024 .f32) (xo10 : Vec F S8x1024 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xo10).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xo10).1 S256x1024.size (by sl_kernel_rfl) y

/-- What a point with latent rows after the first leaves in the block of output 9. -/
def out0_B_9 (c : Dev nD) (i : grid0.Coords) (arg1 : Memref sig .tc .vmem S256x6912 .bf16) (harg1 : arg1.IsWhole) (arg2 : Memref sig .tc .vmem S1024x6912 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S256x1024 .f32) (harg10 : arg10.IsWhole) (arg11 : Memref sig .tc .vmem S8x1024 .f32) (harg11 : arg11.IsWhole) (hc0 : ¬cond0_0 i) (hc1 : cond0_1 i)
    (x0 : Vec F S256x6912 .bf16) (x1 : Vec F S1024x6912 .bf16) (x2 : Vec F S256x1024 .f32) (x3 : Vec F S256x1024 .f32) (x4 : Vec F S256x1024 .f32) (x5 : Vec F S1x1024 .f32) (x6 : Vec F S1x1024 .f32) (x7 : Vec F S8x1024 .f32) (x8 : Vec F S8x1024 .f32) (xo10 : Vec F S8x1024 .f32) : Vec F S256x1024 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xo10).1)

/-- What a point with latent rows after the first leaves in the block of output 10. -/
def out0_B_10 (c : Dev nD) (i : grid0.Coords) (arg1 : Memref sig .tc .vmem S256x6912 .bf16) (harg1 : arg1.IsWhole) (arg2 : Memref sig .tc .vmem S1024x6912 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S256x1024 .f32) (harg10 : arg10.IsWhole) (arg11 : Memref sig .tc .vmem S8x1024 .f32) (harg11 : arg11.IsWhole) (hc0 : ¬cond0_0 i) (hc1 : cond0_1 i)
    (x0 : Vec F S256x6912 .bf16) (x1 : Vec F S1024x6912 .bf16) (x2 : Vec F S256x1024 .f32) (x3 : Vec F S256x1024 .f32) (x4 : Vec F S256x1024 .f32) (x5 : Vec F S1x1024 .f32) (x6 : Vec F S1x1024 .f32) (x7 : Vec F S8x1024 .f32) (x8 : Vec F S8x1024 .f32) (xo10 : Vec F S8x1024 .f32) : Vec F S8x1024 .f32 :=
  arg11.view.read (Elt F) (arg11.view.writes (Elt F) (harg11.unread xo10) (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xo10).2.1)

/-- The last point leaves the block of output 9 as it was. -/
def out0_C_9 (c : Dev nD) (i : grid0.Coords) (arg1 : Memref sig .tc .vmem S256x6912 .bf16) (harg1 : arg1.IsWhole) (arg2 : Memref sig .tc .vmem S1024x6912 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S256x1024 .f32) (harg10 : arg10.IsWhole) (arg11 : Memref sig .tc .vmem S8x1024 .f32) (harg11 : arg11.IsWhole) (hc0 : ¬cond0_0 i) (hc1 : ¬cond0_1 i)
    (x0 : Vec F S256x6912 .bf16) (x1 : Vec F S1024x6912 .bf16) (x2 : Vec F S256x1024 .f32) (x3 : Vec F S256x1024 .f32) (x4 : Vec F S256x1024 .f32) (x5 : Vec F S1x1024 .f32) (x6 : Vec F S1x1024 .f32) (x7 : Vec F S8x1024 .f32) (x8 : Vec F S8x1024 .f32) (xo9 : Vec F S256x1024 .f32) (xo10 : Vec F S8x1024 .f32) : Vec F S256x1024 .f32 := xo9

/-- What the last point leaves in the block of output 10. -/
def out0_C_10 (c : Dev nD) (i : grid0.Coords) (arg1 : Memref sig .tc .vmem S256x6912 .bf16) (harg1 : arg1.IsWhole) (arg2 : Memref sig .tc .vmem S1024x6912 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S256x1024 .f32) (harg10 : arg10.IsWhole) (arg11 : Memref sig .tc .vmem S8x1024 .f32) (harg11 : arg11.IsWhole) (hc0 : ¬cond0_0 i) (hc1 : ¬cond0_1 i)
    (x0 : Vec F S256x6912 .bf16) (x1 : Vec F S1024x6912 .bf16) (x2 : Vec F S256x1024 .f32) (x3 : Vec F S256x1024 .f32) (x4 : Vec F S256x1024 .f32) (x5 : Vec F S1x1024 .f32) (x6 : Vec F S1x1024 .f32) (x7 : Vec F S8x1024 .f32) (x8 : Vec F S8x1024 .f32) (xo9 : Vec F S256x1024 .f32) (xo10 : Vec F S8x1024 .f32) : Vec F S8x1024 .f32 :=
  arg11.view.read (Elt F) (arg11.view.writes (Elt F) (harg11.unread xo10) (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xo9 xo10).2.1)

/-! ## What the outputs hold after each point -/

/-- What the two outputs hold after the body at each point, each from the point before. -/
def outsAt0 (c : Dev nD) : (n : ℕ) → n < cfg0.N → Vec F S256x1024 .f32 × Vec F S8x1024 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 17 = 0 then
      if h1 : (n + 1) < 16 then
        (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
      else
        False.elim (by have hN : n + 1 < 17 := lt_of_lt_of_eq hn (show cfg0.N = 17 from N_0); omega)
    else
      if h1 : (n + 1) < 16 then
        (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2)
      else
        (out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1 (outsAt0 c n (Nat.lt_of_succ_lt hn)).2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).1 (outsAt0 c n (Nat.lt_of_succ_lt hn)).2)

/-- The same at the first point. -/
theorem outsAt0_A (c : Dev nD) (t : Fin cfg0.N) (h0 : t.val % 17 = 0) (h1 : t.val < 16) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans ((dif_pos h1).trans rfl)

/-- The same at a point with latent rows after the first. -/
theorem outsAt0_B (c : Dev nD) (t : Fin cfg0.N) (h0 : ¬t.val % 17 = 0) (h1 : t.val < 16) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The same at the last point. -/
theorem outsAt0_C (c : Dev nD) (t : Fin cfg0.N) (h0 : ¬t.val % 17 = 0) (h1 : ¬t.val < 16) :
    outsAt0 m c t.val t.isLt = (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-! ## What the run holds -/

/-- What the arrays and the buffers hold during the run, on one core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2
  Φ _ := Pipeline.ΦA spec0 c
  q _ := fullShare
  owed _ := 0

/-- The arrays start as the host code leaves them. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2 := by dsimp only [dats]

/-- Each input buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
/-- At a point with latent rows after the first the buffer of the sums holds what the point before left. -/
theorem before0_10_B (c : Dev nD) (t : Fin cfg0.N) (h0 : ¬t.val % 17 = 0) (h1 : t.val < 16) (d) :
    (dats m 0 c).before 10 t d = (outsAt0 m c (t.val - 1) (Nat.lt_of_le_of_lt (Nat.sub_le _ _) t.isLt)).2 := by
  have hN : t.val < 17 := lt_of_lt_of_eq t.isLt (show cfg0.N = 17 from N_0)
  rw [Dat.before_out_kept _ 10 rfl t (by omega) (Bool.eq_false_iff.mpr fun h => by have := (flush0_10 _).mp h; dsimp only at this; omega)
    (fun _ => rfl) (fun _ _ => rfl)]
  dsimp only [dats]
/-- At the last grid point the block of `grad_x` is what the point before left: it was stored there, and not written back. -/
theorem before0_9_C (c : Dev nD) (t : Fin cfg0.N) (h0 : ¬t.val % 17 = 0) (h1 : ¬t.val < 16) (d) :
    (dats m 0 c).before 9 t d = (outsAt0 m c (t.val - 1) (Nat.lt_of_le_of_lt (Nat.sub_le _ _) t.isLt)).1 := by
  have hN : t.val < 17 := lt_of_lt_of_eq t.isLt (show cfg0.N = 17 from N_0)
  rw [(dats m 0 c).before_of_pos 9 t (by omega) ((cfg0.win 9).fetch_out rfl t),
    kept_before_last _ (by dsimp only; omega), if_neg Bool.false_ne_true]
  unfold Dat.left
  rw [live_latent _ (by dsimp only; omega)]
  unfold Dat.kept
  rw [Pipeline.fill_of_clip_none 9 _ (fun _ => rfl) d ((dats m 0 c).after 9 _), Window.fill_cut]
  dsimp only [dats]
/-- At the last point the buffer of the sums holds what the point before left. -/
theorem before0_10_C (c : Dev nD) (t : Fin cfg0.N) (h0 : ¬t.val % 17 = 0) (h1 : ¬t.val < 16) (d) :
    (dats m 0 c).before 10 t d = (outsAt0 m c (t.val - 1) (Nat.lt_of_le_of_lt (Nat.sub_le _ _) t.isLt)).2 := by
  have hN : t.val < 17 := lt_of_lt_of_eq t.isLt (show cfg0.N = 17 from N_0)
  rw [Dat.before_out_kept _ 10 rfl t (by omega) (Bool.eq_false_iff.mpr fun h => by have := (flush0_10 _).mp h; dsimp only at this; omega)
    (fun _ => rfl) (fun _ _ => rfl)]
  dsimp only [dats]

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 2400000 in
/-- The body at any point: by the kind of point, the run proved for it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl]
  have hN : t.val < 17 := lt_of_lt_of_eq t.isLt (show cfg0.N = 17 from N_0)
  by_cases h0 : t.val % 17 = 0
  · by_cases h1 : t.val < 16
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [live_latent t h1], after0_9]
      rw [show (dats m 0 c).leavesExact 10 t = owns (c : Thread nD τ) (ms0_10 t) fullShare ((dats m 0 c).after 10 t) from by
      unfold Dat.leavesExact; rw [liveAt0_10 t], after0_10]
      rw [outsAt0_A m c t h0 h1]
      unfold out0_A_9 out0_A_10; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      iintro ⟨H0, H1, H2, H3, H4, H5, H6, H7, H8, ⟨%e9, H9⟩, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _)
    · exfalso; omega
  · by_cases h1 : t.val < 16
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [live_latent t h1], after0_9]
      rw [show (dats m 0 c).leavesExact 10 t = owns (c : Thread nD τ) (ms0_10 t) fullShare ((dats m 0 c).after 10 t) from by
      unfold Dat.leavesExact; rw [liveAt0_10 t], after0_10]
      rw [outsAt0_B m c t h0 h1]
      simp only [before0_10_B m c t h0 h1]
      unfold out0_B_9 out0_B_10; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      iintro ⟨H0, H1, H2, H3, H4, H5, H6, H7, H8, ⟨%e9, H9⟩, H10⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _)
      unfold owns; iexists _; isplitr
      swap; · iexact H10
      ipureintro; rfl
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [flush_last t h1]; split <;> rfl, after0_9]
      rw [show (dats m 0 c).leavesExact 10 t = owns (c : Thread nD τ) (ms0_10 t) fullShare ((dats m 0 c).after 10 t) from by
      unfold Dat.leavesExact; rw [liveAt0_10 t], after0_10]
      rw [outsAt0_C m c t h0 h1]
      simp only [before0_9_C m c t h0 h1, before0_10_C m c t h0 h1]
      unfold out0_C_9 out0_C_10; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_C c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, H10⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; rfl

/-- The body as the pipeline calls it. -/
theorem defs₀_row (t : Fin cfg0.N) :
    defs₀ (F := F) .tc cfg0.body (cfg0.bodyArgs t (cfg0.slots t)) = bodyAt0 t := by
  unfold defs₀; rw [Defs.onTc_tc]

/-- The body does at every point what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The whole run, with every semaphore at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole run: the arrays end with what the points wrote back. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel12Ideal.Gen.Latent

end
-- ==== Proof.LatentSame.lean ====
/- The frame of the backward kernel of the first projection over the latent rows, at floating-point values: the program
   reads the same as the one whose run was proved for any values. -/
module

public import proofs.«01_k».proof.Defs
public import proofs.«01_k».proof.Proof.LatentFrame
public import proofs.«01_k».proof.Proof.Gen.Kernel12

@[expose] public section

set_option maxRecDepth 16384

namespace Cert.Kernel12

open Idealize.ShloMosaic

variable {F : FTy → Type} [FloatOps F]

/-- Both programs give the one label of the pipeline the same body. -/
theorem body_same : @defs₀ F _ Gen.facts = @Kernel12Ideal.defs₀ F _ Kernel12Ideal.Gen.facts := by
  refine congrArg Defs.onTc (funext fun l => funext fun a => ?_)
  match l, a with
  | ⟨0, _⟩, (t, s) => rfl
  | ⟨n + 1, h⟩, _ => exact absurd h (by omega)

/-- So they call the same definitions. -/
theorem defs_same : @defs F _ Gen.facts = @Kernel12Ideal.defs F _ Kernel12Ideal.Gen.facts :=
  congrArg (Pipeline.defs _) body_same

/-- The frame, at the values of the machine. -/
theorem frame_same : Cert.quiescent_Kernel12 (hKernel12 := Gen.facts) := fun m ρ _ => by
  rw [defs_same]
  exact Kernel12Ideal.Gen.Latent.frame (F := Bits) m ρ

end Cert.Kernel12

end
-- ==== Proof.Pieces.lean ====
/- A buffer written by several stores, read back at one index: the newest store whose rectangle holds the index, else
   the stores before it. Used by every module that opens a body's stores of PARTS of a block. -/
module

public import Idealize.ShloMosaic.Lib.Pipeline.ValueKit
public import Idealize.ShloMosaic.Lib.WritesUnit

@[expose] public section

noncomputable section

namespace Cert.Pieces

open Idealize.ShloMosaic

variable {Val : EltTy → Type} {e : EltTy} {s : Shape}

/-- The canonical contents of a list of unit-stride stores, at an index: under the newest rectangle its payload at the
    index minus the offsets, elsewhere the contents of the rest of the list. -/
theorem canon_cons_unit [∀ e, Nonempty (Val e)] {off size : Fin s.rank → ℕ} (inb : ∀ a, off a + size a ≤ s.size a)
    (w : (Rect.unit off size inb).shape.Idx → Val e) (L : List (View.Piece Val s e)) (y : s.Idx) :
    View.canon ((⟨Rect.unit off size inb, w⟩ : View.Piece Val s e) :: L) y
      = if h : ∀ a, off a ≤ (y a).val ∧ (y a).val < off a + size a then
          w (Rect.unitLocal (s := s) (off := off) (size := size) y h)
        else View.canon L y := by
  by_cases h : ∀ a, off a ≤ (y a).val ∧ (y a).val < off a + size a
  · rw [dif_pos h]
    have hy : (Rect.unit off size inb).emb (Rect.unitLocal (s := s) (off := off) (size := size) y h) = y := by
      refine Rect.emb_eq_of_coords _ _ _ fun a => ?_
      have := h a
      rw [Rect.unitLocal_val]
      show (y a).val = off a + 1 * ((y a).val - off a)
      omega
    conv_lhs => rw [← hy]
    exact View.canon_cons_emb _ w L _
  · rw [dif_neg h]
    refine View.canon_cons_of_not_mem _ L fun hm => h ?_
    exact (Rect.mem_set_unit (inb := inb)).mp hm

end Cert.Pieces

end
-- ==== Proof.MergeBlocks.lean ====
module

public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.KernelIdeal.RefValue

open KernelIdeal KernelIdeal.Gen Idealize.ShloMosaic Idealize.ShloMosaic.TcCoe Idealize.SL.Sem
open Idealize.ShloMosaic.Pipeline (Dat)
open ReferenceIdeal.Read

variable (m : (ℓ : Loc nD τ sig) → Buf (Elt Ideal) ℓ)

/-! The arguments of the call, at a device. -/

abbrev arg0 (c : Dev nD) := m (c.tc.loc main_arg0)
abbrev arg1 (c : Dev nD) := m (c.tc.loc main_arg1)
abbrev arg2 (c : Dev nD) := m (c.tc.loc main_arg2)
abbrev arg3 (c : Dev nD) := m (c.tc.loc main_arg3)
abbrev arg4 (c : Dev nD) := m (c.tc.loc main_arg4)
abbrev arg5 (c : Dev nD) := m (c.tc.loc main_arg5)
abbrev arg6 (c : Dev nD) := m (c.tc.loc main_arg6)
abbrev arg7 (c : Dev nD) := m (c.tc.loc main_arg7)
abbrev arg8 (c : Dev nD) := m (c.tc.loc main_arg8)

theorem read_a1 (c : Dev nD) : V m c main_v3 = val_main_v1 (F := Ideal) (arg1 m c) (arg5 m c) := by
  entry_read; rfl
theorem read_a2 (c : Dev nD) : V m c main_v4 = val_main_v2 (F := Ideal) (arg2 m c) (arg6 m c) := by
  entry_read; rfl
theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 2] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 2] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)

theorem point_lt (t : Fin cfg0.N) : t.val < 16 := t.isLt

/-- The gate block of a point: rows `256 t …`, columns `4096 …` of the projection. -/
theorem X3 (c : Dev nD) (t : Fin cfg0.N) (j : S256x2048.Idx) :
    X0_3 m c t j = (m (c.tc.loc main_arg3) (ix2 ⟨t.val * 256 + (j 0).val, by have := point_lt t; have : (j 0).val < 256 := (j 0).isLt; omega⟩ ⟨4096 + (j 1).val, by have : (j 1).val < 2048 := (j 1).isLt; omega⟩) : EReal) := by
  unfold X0_3 Pipeline.Window.fill
  refine (dif_pos (moved0_3 t j)).trans ?_
  blk_ext! [iblk, V, idx3]

/-- What the body computes at point `t` for the gate of branch 1: the reference's gate gradient at the point's rows. -/
theorem dg1 (c : Dev nD) (t : Fin cfg0.N) (x : S256x1024.Idx) :
    k0_pay14 (iblk m c 0 t) (iblk m c 5 t) (X0_3 m c t) (iblk m c 4 t) (iblk m c 1 t) x
      = val_main_v30 (F := Ideal) (arg0 m c) (arg1 m c) (arg2 m c) (arg3 m c) (arg4 m c) (arg5 m c) (arg6 m c) (arg7 m c)
        (ix2 ⟨t.val * 256 + (x 0).val, by have := point_lt t; have : (x 0).val < 256 := (x 0).isLt; omega⟩ ⟨(x 1).val, by have : (x 1).val < 1024 := (x 1).isLt; omega⟩) := by
  have hx : (x 1).val < 1024 := (x 1).isLt
  have hx0 : t.val * 256 + (x 0).val < 4096 := by have := point_lt t; have : (x 0).val < 256 := (x 0).isLt; omega
  unfold_payloads
  pointwise [X3, Ideal.logistic, val_main_v0, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_v20, val_main_v21, val_main_v22, val_main_v23, val_main_v24, val_main_cst_2, val_main_v25, val_main_v26, val_main_v27, val_main_cst_3, val_main_v28, val_main_v29, val_main_v30, val_main_cst_4, val_main_v31, val_main_v32, val_main_cst_5, val_main_v33, val_main_v34, val_main_v35, val_main_v36, val_main_c, val_main_c_6, val_main_v37, val_main_v38, val_main_v39, val_main_v40, val_main_c_7, val_main_call0_v0, val_main_v41]
  have h1 : ¬ 1024 ≤ (x 1).val := by omega
  simp only [h1, hx, hx0, and_self, and_false, false_and, dite_true, dite_false, zero_add, add_zero, mul_assoc]
  blk_point [iblk, read_a1, idx0, idx1, idx2, idx5, idx3, idx4]

/-- What the body computes at point `t` for the gate of branch 2: the reference's gate gradient at the point's rows. -/
theorem dg2 (c : Dev nD) (t : Fin cfg0.N) (x : S256x1024.Idx) :
    k0_pay15 (iblk m c 0 t) (iblk m c 5 t) (X0_3 m c t) (iblk m c 4 t) (iblk m c 2 t) x
      = val_main_v30 (F := Ideal) (arg0 m c) (arg1 m c) (arg2 m c) (arg3 m c) (arg4 m c) (arg5 m c) (arg6 m c) (arg7 m c)
        (ix2 ⟨t.val * 256 + (x 0).val, by have := point_lt t; have : (x 0).val < 256 := (x 0).isLt; omega⟩ ⟨1024 + (x 1).val, by have : (x 1).val < 1024 := (x 1).isLt; omega⟩) := by
  have hx : (x 1).val < 1024 := (x 1).isLt
  have hx0 : t.val * 256 + (x 0).val < 4096 := by have := point_lt t; have : (x 0).val < 256 := (x 0).isLt; omega
  unfold_payloads
  pointwise [X3, Ideal.logistic, val_main_v0, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_v20, val_main_v21, val_main_v22, val_main_v23, val_main_v24, val_main_cst_2, val_main_v25, val_main_v26, val_main_v27, val_main_cst_3, val_main_v28, val_main_v29, val_main_v30, val_main_cst_4, val_main_v31, val_main_v32, val_main_cst_5, val_main_v33, val_main_v34, val_main_v35, val_main_v36, val_main_c, val_main_c_6, val_main_v37, val_main_v38, val_main_v39, val_main_v40, val_main_c_7, val_main_call0_v0, val_main_v41]
  have h1 : ¬ 1024 ≤ (x 1).val := by omega
  simp only [h1, hx, hx0, and_self, and_false, false_and, dite_true, dite_false, zero_add, add_zero, mul_assoc]
  blk_point [iblk, read_a2, idx0, idx1, idx2, idx5, idx3, idx4]

theorem final_9 (c : Dev nD) : (dats m 0 c).arrAt 9 cfg0.N
    = val_main_v38 (F := Ideal) (arg0 m c) (arg3 m c) (arg4 m c) (arg7 m c) := by
  refine (dats m 0 c).arrAt_eq_of_covers 9 _ (by decide +kernel) fun t hf y => ?_
  blk_simp
  rw [after0_9]
  have e : (outsAt0 m c t.val t.isLt).2.1 = (k0_pay12 (iblk m c 0 t) (iblk m c 5 t) (X0_3 m c t) (iblk m c 4 t)) := by
    by_cases h0 : t.val % 16 = 0
    · rw [outsAt0_A m c t h0]; frame_out
    · rw [outsAt0_B m c t h0]; frame_out
  rw [e]
  unfold_payloads
  pointwise [X3, Ideal.logistic, val_main_v0, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_v20, val_main_v21, val_main_v22, val_main_v23, val_main_v24, val_main_cst_2, val_main_v25, val_main_v26, val_main_v27, val_main_cst_3, val_main_v28, val_main_v29, val_main_v30, val_main_cst_4, val_main_v31, val_main_v32, val_main_cst_5, val_main_v33, val_main_v34, val_main_v35, val_main_v36, val_main_c, val_main_c_6, val_main_v37, val_main_v38, val_main_v39, val_main_v40, val_main_c_7, val_main_call0_v0, val_main_v41]
  blk_point [iblk, V, idx0, idx5, idx3, idx4, idx6, idx7, idx9]

theorem final_10 (c : Dev nD) : (dats m 0 c).arrAt 10 cfg0.N
    = val_main_v39 (F := Ideal) (arg0 m c) (arg3 m c) (arg4 m c) (arg7 m c) := by
  refine (dats m 0 c).arrAt_eq_of_covers 10 _ (by decide +kernel) fun t hf y => ?_
  blk_simp
  rw [after0_10]
  have e : (outsAt0 m c t.val t.isLt).2.2.1 = (k0_pay13 (iblk m c 0 t) (iblk m c 5 t) (X0_3 m c t) (iblk m c 4 t)) := by
    by_cases h0 : t.val % 16 = 0
    · rw [outsAt0_A m c t h0]; frame_out
    · rw [outsAt0_B m c t h0]; frame_out
  rw [e]
  unfold_payloads
  pointwise [X3, Ideal.logistic, val_main_v0, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_v20, val_main_v21, val_main_v22, val_main_v23, val_main_v24, val_main_cst_2, val_main_v25, val_main_v26, val_main_v27, val_main_cst_3, val_main_v28, val_main_v29, val_main_v30, val_main_cst_4, val_main_v31, val_main_v32, val_main_cst_5, val_main_v33, val_main_v34, val_main_v35, val_main_v36, val_main_c, val_main_c_6, val_main_v37, val_main_v38, val_main_v39, val_main_v40, val_main_c_7, val_main_call0_v0, val_main_v41]
  blk_point [iblk, V, idx0, idx5, idx3, idx4, idx6, idx7, idx10]

theorem final_12 (c : Dev nD) : (dats m 0 c).arrAt 12 cfg0.N
    = val_main_v34 (F := Ideal) (arg0 m c) (arg3 m c) (arg4 m c) (arg5 m c) (arg7 m c) := by
  refine (dats m 0 c).arrAt_eq_of_covers 12 _ (by decide +kernel) fun t hf y => ?_
  blk_simp
  rw [after0_12]
  have e : (outsAt0 m c t.val t.isLt).2.2.2.2.1 = k0_pay5 (k0_pay12 (iblk m c 0 t) (iblk m c 5 t) (X0_3 m c t) (iblk m c 4 t)) (iblk m c 6 t) := by
    by_cases h0 : t.val % 16 = 0
    · rw [outsAt0_A m c t h0]; frame_out
    · rw [outsAt0_B m c t h0]; frame_out
  rw [e]
  unfold_payloads
  pointwise [X3, Ideal.logistic, val_main_v0, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_v20, val_main_v21, val_main_v22, val_main_v23, val_main_v24, val_main_cst_2, val_main_v25, val_main_v26, val_main_v27, val_main_cst_3, val_main_v28, val_main_v29, val_main_v30, val_main_cst_4, val_main_v31, val_main_v32, val_main_cst_5, val_main_v33, val_main_v34, val_main_v35, val_main_v36, val_main_c, val_main_c_6, val_main_v37, val_main_v38, val_main_v39, val_main_v40, val_main_c_7, val_main_call0_v0, val_main_v41]
  blk_point [iblk, V, idx0, idx5, idx3, idx4, idx6, idx7, idx12]

theorem final_13 (c : Dev nD) : (dats m 0 c).arrAt 13 cfg0.N
    = val_main_v35 (F := Ideal) (arg0 m c) (arg3 m c) (arg4 m c) (arg6 m c) (arg7 m c) := by
  refine (dats m 0 c).arrAt_eq_of_covers 13 _ (by decide +kernel) fun t hf y => ?_
  blk_simp
  rw [after0_13]
  have e : (outsAt0 m c t.val t.isLt).2.2.2.2.2 = k0_pay6 (k0_pay13 (iblk m c 0 t) (iblk m c 5 t) (X0_3 m c t) (iblk m c 4 t)) (iblk m c 7 t) := by
    by_cases h0 : t.val % 16 = 0
    · rw [outsAt0_A m c t h0]; frame_out
    · rw [outsAt0_B m c t h0]; frame_out
  rw [e]
  unfold_payloads
  pointwise [X3, Ideal.logistic, val_main_v0, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_v20, val_main_v21, val_main_v22, val_main_v23, val_main_v24, val_main_cst_2, val_main_v25, val_main_v26, val_main_v27, val_main_cst_3, val_main_v28, val_main_v29, val_main_v30, val_main_cst_4, val_main_v31, val_main_v32, val_main_cst_5, val_main_v33, val_main_v34, val_main_v35, val_main_v36, val_main_c, val_main_c_6, val_main_v37, val_main_v38, val_main_v39, val_main_v40, val_main_c_7, val_main_call0_v0, val_main_v41]
  blk_point [iblk, V, idx0, idx5, idx3, idx4, idx6, idx7, idx13]

end Cert.KernelIdeal.RefValue

end
-- ==== Proof.MergeArrays.lean ====
module

public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.ValueKit
public import Idealize.ShloMosaic.Lib.Pointwise

public import proofs.«01_k».proof.Proof.Pieces
public import proofs.«01_k».proof.Proof.MergeBlocks

@[expose] public section

set_option maxRecDepth 16384

noncomputable section

namespace Cert.KernelIdeal.RefValue

open KernelIdeal KernelIdeal.Gen Idealize.ShloMosaic Idealize.ShloMosaic.TcCoe Idealize.SL.Sem
open Idealize.ShloMosaic.Pipeline (Dat)
open ReferenceIdeal.Read

variable (m : (ℓ : Loc nD τ sig) → Buf (Elt Ideal) ℓ)

theorem ix2_congr {n k : ℕ} {a a' : Fin n} {b b' : Fin k} (ha : a.val = a'.val) (hb : b.val = b'.val) : ix2 a b = ix2 a' b' := by
  rw [Fin.ext ha, Fin.ext hb]

theorem pay3_apply (v : FVec Ideal S256x1024 .f32) (x) : k0_pay3 v x = (v x : EReal) := rfl
theorem pay4_apply (v : FVec Ideal S256x1024 .f32) (x) : k0_pay4 v x = (v x : EReal) := rfl

/-- The reference's update of the projection's gradient, at an index: the gate gradient in rows below 4096 of the
    columns 4096 … 6143, the array it is written into elsewhere. -/
theorem v37_apply (x0) (x1 x2) (x3) (x4) (x5 x6 x7) (x8) (i : S4352x6912.Idx) :
    val_main_v37 (F := Ideal) x0 x1 x2 x3 x4 x5 x6 x7 x8 i
      = (if h : (i 0).val < 4096 ∧ 4096 ≤ (i 1).val ∧ (i 1).val < 6144 then
          val_main_v30 (F := Ideal) x0 x1 x2 x3 x4 x5 x6 x7 (ix2 ⟨(i 0).val, h.1⟩ ⟨(i 1).val - 4096, by omega⟩)
        else x8 i : EReal) := by
  unfold val_main_v37
  rw [Host.dynamicUpdateSlice_apply]
  have s : ∀ a : Fin 2, Host.clampedStart ReferenceIdeal.S4352x6912 ReferenceIdeal.S4096x2048 rfl
      (fun k => (((![val_main_c (F := Ideal), val_main_c_6 (F := Ideal)] : Fin 2 → (⟨ReferenceIdeal.S_, .i32⟩ : BufTy).Contents (Elt Ideal))) k (Shape.Idx.first ReferenceIdeal.Gen.h_S_)).toInt) a = ![0, 4096] a := by
    intro a; fin_cases a <;> rfl
  by_cases h : (i 0).val < 4096 ∧ 4096 ≤ (i 1).val ∧ (i 1).val < 6144
  · rw [dif_pos h, dif_pos]
    · unfold val_main_v36
      refine congrArg (val_main_v30 (F := Ideal) x0 x1 x2 x3 x4 x5 x6 x7) ?_
      funext a
      apply Fin.ext
      fin_cases a
      · show (i 0).val - Host.clampedStart _ _ _ _ 0 = (i 0).val
        rw [s 0]; rfl
      · show (i 1).val - Host.clampedStart _ _ _ _ 1 = (i 1).val - 4096
        rw [s 1]; rfl
    · intro a
      rw [s a]
      fin_cases a
      · exact ⟨Nat.zero_le _, by show (i 0).val < 0 + 4096; omega⟩
      · exact ⟨h.2.1, by show (i 1).val < 4096 + 2048; omega⟩
  · rw [dif_neg h, dif_neg]
    intro hall
    have h0 := hall 0
    have h1 := hall 1
    rw [s 0] at h0
    rw [s 1] at h1
    have h0' : (i 0).val < 0 + 4096 := h0.2
    have h1' : (i 1).val < 4096 + 2048 := h1.2
    have h1'' : 4096 ≤ (i 1).val := h1.1
    exact h ⟨by omega, h1'', by omega⟩

theorem final_8 (c : Dev nD) : (dats m 0 c).arrAt 8 cfg0.N
    = val_main_v37 (F := Ideal) (arg0 m c) (arg1 m c) (arg2 m c) (arg3 m c) (arg4 m c) (arg5 m c) (arg6 m c) (arg7 m c) (arg8 m c) := by
  refine ((dats m 0 c).arrAt_eq_of_coversWhere 8 (val_main_v37 (F := Ideal) (arg0 m c) (arg1 m c) (arg2 m c) (arg3 m c) (arg4 m c) (arg5 m c) (arg6 m c) (arg7 m c) (arg8 m c))
    (fun β => β (0 : Fin _) < 16 ∧ β (1 : Fin _) = 2) (P := fun i => (i 0 : ℕ) / 256 < 16 ∧ (i 1 : ℕ) / 2048 = 2)
    (by decide +kernel) (fun t hf y => ?_) (fun j => Iff.rfl)).trans ?_
  · blk_simp
    rw [after0_8, v37_apply]
    have e0 : ((((View.whole main_v6_0).slice (win0_8.rect t)).emb y) 0).val = t.val * 256 + (y 0).val := by
      have e : win0_8.index t 0 = t.val := congrFun (idx8 t) 0
      show win0_8.index t 0 * 256 + 1 * (y 0).val = _
      rw [e]; omega
    have e1 : ((((View.whole main_v6_0).slice (win0_8.rect t)).emb y) 1).val = 4096 + (y 1).val := by
      have e : win0_8.index t 1 = 2 := congrFun (idx8 t) 1
      show win0_8.index t 1 * 2048 + 1 * (y 1).val = _
      rw [e]; omega
    generalize ((View.whole main_v6_0).slice (win0_8.rect t)).emb y = i at e0 e1 ⊢
    have ht := point_lt t
    have hy0 : (y 0).val < 256 := ((cfg0.win 8).xinj (cfg0.grid.coords t) y 0).isLt
    have hy1 : (y 1).val < 2048 := ((cfg0.win 8).xinj (cfg0.grid.coords t) y 1).isLt
    rw [dif_pos ⟨by omega, by omega, by omega⟩]
    by_cases h0 : t.val % 16 = 0
    · rw [outsAt0_A m c t h0]; frame_out
      canon_tiles x h
      · have hx0 : (y 0).val = (x 0).val := h0
        have hx1 : (y 1).val = 1024 + (x 1).val := h1
        refine (pay4_apply _ _).trans ((dg2 m c t x).trans ?_)
        refine congrArg (val_main_v30 (F := Ideal) (arg0 m c) (arg1 m c) (arg2 m c) (arg3 m c) (arg4 m c) (arg5 m c) (arg6 m c) (arg7 m c)) ?_
        refine ix2_congr ?_ ?_
        · show t.val * 256 + (x 0).val = (i 0).val
          omega
        · show 1024 + (x 1).val = (i 1).val - 4096
          omega
      · have hx0 : (y 0).val = (x 0).val := h0
        have hx1 : (y 1).val = (x 1).val := h1
        refine (pay3_apply _ _).trans ((dg1 m c t x).trans ?_)
        refine congrArg (val_main_v30 (F := Ideal) (arg0 m c) (arg1 m c) (arg2 m c) (arg3 m c) (arg4 m c) (arg5 m c) (arg6 m c) (arg7 m c)) ?_
        refine ix2_congr ?_ ?_
        · show t.val * 256 + (x 0).val = (i 0).val
          omega
        · show (x 1).val = (i 1).val - 4096
          omega
    · rw [outsAt0_B m c t h0]; frame_out
      canon_tiles x h
      · have hx0 : (y 0).val = (x 0).val := h0
        have hx1 : (y 1).val = 1024 + (x 1).val := h1
        refine (pay4_apply _ _).trans ((dg2 m c t x).trans ?_)
        refine congrArg (val_main_v30 (F := Ideal) (arg0 m c) (arg1 m c) (arg2 m c) (arg3 m c) (arg4 m c) (arg5 m c) (arg6 m c) (arg7 m c)) ?_
        refine ix2_congr ?_ ?_
        · show t.val * 256 + (x 0).val = (i 0).val
          omega
        · show 1024 + (x 1).val = (i 1).val - 4096
          omega
      · have hx0 : (y 0).val = (x 0).val := h0
        have hx1 : (y 1).val = (x 1).val := h1
        refine (pay3_apply _ _).trans ((dg1 m c t x).trans ?_)
        refine congrArg (val_main_v30 (F := Ideal) (arg0 m c) (arg1 m c) (arg2 m c) (arg3 m c) (arg4 m c) (arg5 m c) (arg6 m c) (arg7 m c)) ?_
        refine ix2_congr ?_ ?_
        · show t.val * 256 + (x 0).val = (i 0).val
          omega
        · show (x 1).val = (i 1).val - 4096
          omega
  · funext i
    by_cases h : (i 0 : ℕ) / 256 < 16 ∧ (i 1 : ℕ) / 2048 = 2
    · exact if_pos h
    · refine (if_neg h).trans ?_
      rw [v37_apply, dif_neg (by omega)]
      exact congrFun (by entry_read; rfl : V m c main_v6_0 = m (c.tc.loc main_arg8)) i

theorem pay1_apply (v : FVec Ideal S256x1024 .f32) (w : FVec Ideal S1x1024 .f32) (x : S1x1024.Idx) :
    k0_pay1 v w x = (w x + ∑ k : Fin 256, v (ix2 k ⟨(x 1).val, (x 1).isLt⟩) : EReal) := by
  unfold_payloads
  pointwise

theorem pay2_apply (v : FVec Ideal S256x1024 .f32) (w : FVec Ideal S1x1024 .f32) (x : S1x1024.Idx) :
    k0_pay2 v w x = (w x + ∑ k : Fin 256, v (ix2 k ⟨(x 1).val, (x 1).isLt⟩) : EReal) := by
  unfold_payloads
  pointwise

/-- What point `t` adds to the accumulated column sums: the sum of its rows of the gate gradient, in row 0. -/
def term (c : Dev nD) (t : Fin cfg0.N) (i : S8x2048.Idx) : EReal :=
  if (i 0).val = 0 then
    ∑ k : Fin 256, val_main_v30 (F := Ideal) (arg0 m c) (arg1 m c) (arg2 m c) (arg3 m c) (arg4 m c) (arg5 m c) (arg6 m c) (arg7 m c) (ix2 ⟨t.val * 256 + k.val, by have := point_lt t; omega⟩ ⟨(i 1).val, (i 1).isLt⟩)
  else 0

theorem pay7_apply (x : S8x2048.Idx) : k0_pay7 (F := Ideal) x = (0 : EReal) := by
  unfold_payloads
  pointwise

/-- Column sums of the point's gate gradient of branch 1: what the point adds in the columns below 1024. -/
theorem sum_dg1 (c : Dev nD) (t : Fin cfg0.N) (i : S8x2048.Idx) (b : Fin 1024) (hi : (i 0).val = 0) (hb : (i 1).val = b.val) :
    (∑ k : Fin 256, k0_pay14 (iblk m c 0 t) (iblk m c 5 t) (X0_3 m c t) (iblk m c 4 t) (iblk m c 1 t) (ix2 k b) : EReal)
      = term m c t i := by
  unfold term
  rw [if_pos hi]
  refine Finset.sum_congr rfl fun k _ => (dg1 m c t (ix2 k b)).trans ?_
  exact congrArg (val_main_v30 (F := Ideal) (arg0 m c) (arg1 m c) (arg2 m c) (arg3 m c) (arg4 m c) (arg5 m c) (arg6 m c) (arg7 m c)) (ix2_congr rfl hb.symm)

/-- The same for branch 2, in the columns from 1024 on. -/
theorem sum_dg2 (c : Dev nD) (t : Fin cfg0.N) (i : S8x2048.Idx) (b : Fin 1024) (hi : (i 0).val = 0) (hb : (i 1).val = 1024 + b.val) :
    (∑ k : Fin 256, k0_pay15 (iblk m c 0 t) (iblk m c 5 t) (X0_3 m c t) (iblk m c 4 t) (iblk m c 2 t) (ix2 k b) : EReal)
      = term m c t i := by
  unfold term
  rw [if_pos hi]
  refine Finset.sum_congr rfl fun k _ => (dg2 m c t (ix2 k b)).trans ?_
  exact congrArg (val_main_v30 (F := Ideal) (arg0 m c) (arg1 m c) (arg2 m c) (arg3 m c) (arg4 m c) (arg5 m c) (arg6 m c) (arg7 m c)) (ix2_congr rfl hb.symm)

theorem step_first (c : Dev nD) (t : Fin cfg0.N) (h0 : t.val % 16 = 0) (i : S8x2048.Idx) :
    (outsAt0 m c t.val t.isLt).2.2.2.1 i = ((0 : S8x2048.Idx → EReal) i + term m c t i : EReal) := by
  rw [outsAt0_A m c t h0]; frame_out
  rw [Pieces.canon_cons_unit]
  split
  next h =>
    have a0 : (i 0).val = 0 := by have : (i 0).val < 0 + 1 := (h 0).2; omega
    have a1 : 1024 ≤ (i 1).val := (h 1).1
    refine (pay2_apply _ _ _).trans (congrArg₂ (· + ·) ?_ (sum_dg2 m c t i _ a0 ?_))
    · rw [View.readCov_eq_canon']
      beta_reduce
      rw [Pieces.canon_cons_unit, dif_neg, Pieces.canon_cons_unit, dif_pos]
      · exact pay7_apply _
      · intro a
        fin_cases a
        · exact ⟨Nat.zero_le _, by show 0 + 1 * ((i 0).val - 0) < 0 + 8; omega⟩
        · have : (i 1).val < 2048 := (i 1).isLt
          exact ⟨Nat.zero_le _, by show 1024 + 1 * ((i 1).val - 1024) < 0 + 2048; omega⟩
      · intro hh
        have : 1024 + 1 * ((i 1).val - 1024) < 0 + 1024 := (hh 1).2
        omega
    · show (i 1).val = 1024 + ((i 1).val - 1024)
      omega
  next h =>
    rw [Pieces.canon_cons_unit]
    split
    next h =>
      have a0 : (i 0).val = 0 := by have : (i 0).val < 0 + 1 := (h 0).2; omega
      refine (pay1_apply _ _ _).trans (congrArg₂ (· + ·) ?_ (sum_dg1 m c t i _ a0 ?_))
      · rw [View.readCov_eq_canon']
        beta_reduce
        rw [Pieces.canon_cons_unit, dif_pos]
        · exact pay7_apply _
        · intro a
          fin_cases a
          · exact ⟨Nat.zero_le _, by show 0 + 1 * ((i 0).val - 0) < 0 + 8; omega⟩
          · have : (i 1).val < 2048 := (i 1).isLt
            exact ⟨Nat.zero_le _, by show 0 + 1 * ((i 1).val - 0) < 0 + 2048; omega⟩
      · show (i 1).val = (i 1).val - 0
        omega
    next h' =>
      have b0 : ¬ (i 0).val = 0 := by
        intro hi
        have b1 : (i 1).val < 2048 := (i 1).isLt
        by_cases hc : (i 1).val < 1024
        · refine h' fun a => ?_
          fin_cases a
          · exact ⟨Nat.zero_le _, by show (i 0).val < 0 + 1; omega⟩
          · exact ⟨Nat.zero_le _, by show (i 1).val < 0 + 1024; omega⟩
        · refine h fun a => ?_
          fin_cases a
          · exact ⟨Nat.zero_le _, by show (i 0).val < 0 + 1; omega⟩
          · exact ⟨by show 1024 ≤ (i 1).val; omega, by show (i 1).val < 1024 + 1024; omega⟩
      rw [Pieces.canon_cons_unit, dif_pos]
      · refine (pay7_apply _).trans ?_
        unfold term
        rw [if_neg b0]
        exact (zero_add _).symm
      · intro a
        fin_cases a
        · exact ⟨Nat.zero_le _, by show (i 0).val < 0 + 8; have : (i 0).val < 8 := (i 0).isLt; omega⟩
        · exact ⟨Nat.zero_le _, by show (i 1).val < 0 + 2048; have : (i 1).val < 2048 := (i 1).isLt; omega⟩

theorem step_next (c : Dev nD) (t : Fin cfg0.N) (h0 : ¬ t.val % 16 = 0) (i : S8x2048.Idx) :
    (outsAt0 m c t.val t.isLt).2.2.2.1 i
      = ((outsAt0 m c (t.val - 1) (Nat.lt_of_le_of_lt (Nat.sub_le _ _) t.isLt)).2.2.2.1 i + term m c t i : EReal) := by
  rw [outsAt0_B m c t h0]; frame_out
  generalize (outsAt0 m c (t.val - 1) _).2.2.2.1 = prev
  rw [View.read_writes_cons_unit (heq := rfl)]
  split
  next h =>
    have a0 : (i 0).val = 0 := by have : (i 0).val < 0 + 1 := (h 0).2; omega
    have a1 : 1024 ≤ (i 1).val := (h 1).1
    refine (pay2_apply _ _ _).trans (congrArg₂ (· + ·) ?_ (sum_dg2 m c t i _ a0 ?_))
    · rw [View.ld_apply]
      refine congrArg prev (funext fun a => Fin.ext ?_)
      fin_cases a
      · show 0 + 1 * ((i 0).val - 0) = (i 0).val
        omega
      · show 1024 + 1 * ((i 1).val - 1024) = (i 1).val
        omega
    · show (i 1).val = 1024 + ((i 1).val - 1024)
      omega
  next h =>
    rw [View.read_writes_cons_unit (heq := rfl)]
    split
    next h =>
      have a0 : (i 0).val = 0 := by have : (i 0).val < 0 + 1 := (h 0).2; omega
      refine (pay1_apply _ _ _).trans (congrArg₂ (· + ·) ?_ (sum_dg1 m c t i _ a0 ?_))
      · rw [View.ld_apply]
        refine congrArg prev (funext fun a => Fin.ext ?_)
        fin_cases a
        · show 0 + 1 * ((i 0).val - 0) = (i 0).val
          omega
        · show 0 + 1 * ((i 1).val - 0) = (i 1).val
          omega
      · show (i 1).val = (i 1).val - 0
        omega
    next h' =>
      have b0 : ¬ (i 0).val = 0 := by
        intro hi
        have b1 : (i 1).val < 2048 := (i 1).isLt
        by_cases hc : (i 1).val < 1024
        · refine h' fun a => ?_
          fin_cases a
          · exact ⟨Nat.zero_le _, by show (i 0).val < 0 + 1; omega⟩
          · exact ⟨Nat.zero_le _, by show (i 1).val < 0 + 1024; omega⟩
        · refine h fun a => ?_
          fin_cases a
          · exact ⟨Nat.zero_le _, by show (i 0).val < 0 + 1; omega⟩
          · exact ⟨by show 1024 ≤ (i 1).val; omega, by show (i 1).val < 1024 + 1024; omega⟩
      refine (congrFun (Memref.IsWhole.read_unread _ prev) i).trans ?_
      unfold term
      rw [if_neg b0]
      exact (add_zero _).symm

theorem v41_apply (x0) (x1 x2) (x3) (x4) (x5 x6 x7) (i : S8x2048.Idx) :
    val_main_v41 (F := Ideal) x0 x1 x2 x3 x4 x5 x6 x7 i
      = (if (i 0).val = 0 then ∑ l : Fin 4096, val_main_v30 (F := Ideal) x0 x1 x2 x3 x4 x5 x6 x7 (ix2 l ⟨(i 1).val, (i 1).isLt⟩) else 0 : EReal) := by
  pointwise [val_main_v41, val_main_call0_v0, val_main_c_7, val_main_v40, val_main_v33, val_main_v32, val_main_v31, val_main_cst_4, val_main_cst_5]
  by_cases h : (i 0).val = 0
  · rw [dif_pos (by omega), if_pos h]
    exact Fin.sum_univ_one _
  · rw [dif_neg (by omega), if_neg h]
    show ((((0#32 : BitVec 32).toInt : ℤ) : ℝ) : EReal) = 0
    simp

theorem final_11 (c : Dev nD) : (dats m 0 c).arrAt 11 cfg0.N = val_main_v41 (F := Ideal) (arg0 m c) (arg1 m c) (arg2 m c) (arg3 m c) (arg4 m c) (arg5 m c) (arg6 m c) (arg7 m c) := by
  refine (dats m 0 c).arrAt_eq_of_after_last 11 ⟨15, by decide⟩ (by decide +kernel) _ fun j => ?_
  rw [after0_11]
  have e := Pipeline.eq_sum_fin_of_reset_step_apply_last (fun n h => ((outsAt0 m c n h).2.2.2.1 : S8x2048.Idx → EReal)) 16 0
    (term m c) (step_first m c) (step_next m c) (by decide) ⟨15, by decide⟩ (by decide) j
  refine e.trans ?_
  refine (zero_add _).trans ?_
  refine Eq.trans ?_ (v41_apply _ _ _ _ _ _ _ _ _).symm
  have ej : (((cfg0.win 11).arr.view.emb j) : S8x2048.Idx) = j := rfl
  rw [ej]
  unfold term
  by_cases h : (j 0).val = 0
  · simp only [if_pos h]
    exact Fin.sum_mul_add_fin 16 256 (fun l : Fin 4096 => val_main_v30 (F := Ideal) (arg0 m c) (arg1 m c) (arg2 m c) (arg3 m c) (arg4 m c) (arg5 m c) (arg6 m c) (arg7 m c) (ix2 l ⟨(j 1).val, (j 1).isLt⟩))
  · simp only [if_neg h]
    exact Finset.sum_const_zero

end Cert.KernelIdeal.RefValue

end
-- ==== Proof.MergeClaim.lean ====
/- The value claim of the gate gradient: the kernel's six result arrays are the reference's. -/
module

public import proofs.«01_k».proof.Defs
public import proofs.«01_k».proof.Proof.MergeArrays

@[expose] public section

set_option maxRecDepth 16384

noncomputable section

namespace Cert.KernelIdeal.RefValue

open KernelIdeal KernelIdeal.Gen Idealize.ShloMosaic Idealize.ShloMosaic.TcCoe Idealize.SL.Sem
open ReferenceIdeal.Read

/-- The reference runs, keeps its arguments, and leaves every semaphore at zero. -/
theorem reference_quiescent [hR : ReferenceIdeal.Facts] : Cert.quiescent_ReferenceIdeal (hReferenceIdeal := hR) := by
  intro m ρ _
  refine (θ_run ReferenceIdeal.defs _ _).mono (fun r h => ⟨fun c => ?_, sem_eq_zero_of_no_sems (by decide) r.2⟩)
    (ReferenceIdeal.Value.run (F := Ideal) m ρ)
  exact (h c).2.2.2.2.2.2

/-- Both programs, from memories agreeing on the arguments, run and end with equal results. -/
theorem algebraic [hK : KernelIdeal.Facts] [hR : ReferenceIdeal.Facts] :
    Cert.algebraic_KernelIdeal_ReferenceIdeal (hKernelIdeal := hK) (hReferenceIdeal := hR) := by
  intro m ρ m' ρ' _ hagree
  refine ⟨fun c => val_main_v37 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)), fun c => val_main_v38 (F := Ideal) (m (c.tc.loc main_arg0)) (m (c.tc.loc main_arg3)) (m (c.tc.loc main_arg4)) (m (c.tc.loc main_arg7)), fun c => val_main_v39 (F := Ideal) (m (c.tc.loc main_arg0)) (m (c.tc.loc main_arg3)) (m (c.tc.loc main_arg4)) (m (c.tc.loc main_arg7)), fun c => val_main_v41 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)), fun c => val_main_v34 (F := Ideal) (m (c.tc.loc main_arg0)) (m (c.tc.loc main_arg3)) (m (c.tc.loc main_arg4)) (m (c.tc.loc main_arg5)) (m (c.tc.loc main_arg7)), fun c => val_main_v35 (F := Ideal) (m (c.tc.loc main_arg0)) (m (c.tc.loc main_arg3)) (m (c.tc.loc main_arg4)) (m (c.tc.loc main_arg6)) (m (c.tc.loc main_arg7)), ?_, ?_⟩
  · refine (θ_run KernelIdeal.defs _ _).mono (fun r h c => ?_) (KernelIdeal.Value.run_blocks m ρ)
    obtain ⟨h0, h1, h2, h3, h4, h5, hk⟩ := h c
    exact ⟨h0.trans (final_8 m c), h1.trans (final_9 m c), h2.trans (final_10 m c), h3.trans (final_11 m c), h4.trans (final_12 m c), h5.trans (final_13 m c), hk⟩
  · refine (θ_run ReferenceIdeal.defs _ _).mono (fun r h c => ?_) (ReferenceIdeal.Value.run (F := Ideal) m' ρ')
    obtain ⟨h0, h1, h2, h3, h4, h5, hk⟩ := h c
    obtain ⟨e0, e1, e2, e3, e4, e5, e6, e7, e8⟩ := hagree c
    refine ⟨h0.trans ?_, h1.trans ?_, h2.trans ?_, h3.trans ?_, h4.trans ?_, h5.trans ?_, hk⟩
    · rw [e0, e1, e2, e3, e4, e5, e6, e7, e8]
      exact val_main_v37_eq _ _ _ _ _ _ _ _ _
    · rw [e0, e3, e4, e7]
      exact val_main_v38_eq _ _ _ _
    · rw [e0, e3, e4, e7]
      exact val_main_v39_eq _ _ _ _
    · rw [e0, e1, e2, e3, e4, e5, e6, e7]
      exact val_main_v41_eq _ _ _ _ _ _ _ _
    · rw [e0, e3, e4, e5, e7]
      exact val_main_v34_eq _ _ _ _ _
    · rw [e0, e3, e4, e6, e7]
      exact val_main_v35_eq _ _ _ _ _

end Cert.KernelIdeal.RefValue

end
-- ==== Proof.Sums.lean ====
/- Sums over the extended reals, as the products of several calls read them. -/
module

public import Idealize.ShloMosaic.Lib.Pointwise
public import Mathlib.Data.EReal.Operations
public import Mathlib.Algebra.BigOperators.Fin

@[expose] public section

namespace Cert.Sums

/-- The sum of the products of two rows. -/
noncomputable abbrev dot {n : ℕ} (f g : Fin n → EReal) : EReal := ∑ k, f k * g k

/-- Two sums of products that name the factors in opposite orders agree where the factors do. -/
theorem sum_swap {n : ℕ} {f g f' g' : Fin n → EReal} (h : ∀ k, f k = f' k) (h' : ∀ k, g k = g' k) :
    ∑ k, f k * g k = ∑ k, g' k * f' k :=
  Finset.sum_congr rfl fun k _ => by rw [h, h']; exact EReal.mul_comm _ _

/-- Two sums of products agree where the factors do. -/
theorem sum_same {n : ℕ} {f g f' g' : Fin n → EReal} (h : ∀ k, f k = f' k) (h' : ∀ k, g k = g' k) :
    ∑ k, f k * g k = ∑ k, f' k * g' k :=
  Finset.sum_congr rfl fun k _ => by rw [h, h']

/-- A sum cut in two halves, the products of each half naming their factors in the opposite order. -/
theorem sum_two_swap {a n : ℕ} (hn : n = a + a) {f g : Fin n → EReal} {u v u' v' : Fin a → EReal}
    (h : ∀ k : Fin a, u k = f ⟨k.val, by omega⟩) (h' : ∀ k : Fin a, v k = g ⟨k.val, by omega⟩)
    (e : ∀ k : Fin a, u' k = f ⟨a + k.val, by omega⟩) (e' : ∀ k : Fin a, v' k = g ⟨a + k.val, by omega⟩) :
    ∑ k, u k * v k + ∑ k, u' k * v' k = ∑ k, g k * f k := by
  subst hn
  rw [Fin.sum_univ_add]
  exact congrArg₂ (· + ·) (sum_swap h h') (sum_swap e e')

/-- A sum cut in four parts of one length, the terms of two sums in turn. -/
theorem sum_interleaved {a b n : ℕ} (hb : b = a + a) (hn : n = b + b) {f : Fin n → EReal} {u v : Fin b → EReal}
    (h1 : ∀ r : Fin a, f ⟨r.val, by omega⟩ = u ⟨r.val, by omega⟩) (h2 : ∀ r : Fin a, f ⟨a + r.val, by omega⟩ = v ⟨r.val, by omega⟩)
    (h3 : ∀ r : Fin a, f ⟨b + r.val, by omega⟩ = u ⟨a + r.val, by omega⟩) (h4 : ∀ r : Fin a, f ⟨b + (a + r.val), by omega⟩ = v ⟨a + r.val, by omega⟩) :
    ∑ k, f k = ∑ k, v k + ∑ k, u k := by
  subst hb hn
  rw [Fin.sum_univ_add f, Fin.sum_univ_add fun i => f (Fin.castAdd (a + a) i), Fin.sum_univ_add fun i => f (Fin.natAdd (a + a) i),
    Fin.sum_univ_add u, Fin.sum_univ_add v]
  have e1 : ∑ r : Fin a, f (Fin.castAdd (a + a) (Fin.castAdd a r)) = ∑ r : Fin a, u (Fin.castAdd a r) := Finset.sum_congr rfl fun r _ => h1 r
  have e2 : ∑ r : Fin a, f (Fin.castAdd (a + a) (Fin.natAdd a r)) = ∑ r : Fin a, v (Fin.castAdd a r) := Finset.sum_congr rfl fun r _ => h2 r
  have e3 : ∑ r : Fin a, f (Fin.natAdd (a + a) (Fin.castAdd a r)) = ∑ r : Fin a, u (Fin.natAdd a r) := Finset.sum_congr rfl fun r _ => h3 r
  have e4 : ∑ r : Fin a, f (Fin.natAdd (a + a) (Fin.natAdd a r)) = ∑ r : Fin a, v (Fin.natAdd a r) := Finset.sum_congr rfl fun r _ => h4 r
  rw [e1, e2, e3, e4]
  exact (add_add_add_comm _ _ _ _).trans (add_comm _ _)

/-- A sum of eight terms, each named on its own. -/
theorem sum_eight {z a b c d e f g h : EReal} {t : Fin 8 → EReal} (hz : z = 0) (h0 : a = t 0) (h1 : b = t 1) (h2 : c = t 2) (h3 : d = t 3)
    (h4 : e = t 4) (h5 : f = t 5) (h6 : g = t 6) (h7 : h = t 7) : a + b + c + d + e + f + g + h = z + ∑ k, t k := by
  rw [hz, zero_add, Fin.sum_univ_eight, h0, h1, h2, h3, h4, h5, h6, h7]

/-- A two-dimensional array read at one row and at columns of one number. -/
theorem read_column {α : Type*} {n0 n1 : ℕ} (f : (⟨2, ![n0, n1]⟩ : Idealize.ShloMosaic.Shape).Idx → α) {a : Fin n0} {b b' : Fin n1}
    (h : b.val = b'.val) : f (Idealize.ShloMosaic.ValueIdx.ix2 a b) = f (Idealize.ShloMosaic.ValueIdx.ix2 a b') := by
  rw [Fin.ext h]

open Idealize.ShloMosaic in
/-- Every two-dimensional argument is a pair. -/
theorem pair {n k : ℕ} (z : (⟨2, ![n, k]⟩ : Shape).Idx) : ∃ (p : Fin n) (q : Fin k), z = ValueIdx.ix2 p q :=
  ⟨z 0, z 1, by funext a; fin_cases a <;> rfl⟩

end Cert.Sums

end
-- ==== Proof.Finite.lean ====
/- Extended reals that are real numbers: where the finiteness check puts them, and what keeps them there. -/
module

public import Idealize.ShloMosaic.Lib.Pointwise
public import Mathlib.Data.EReal.Operations
public import Mathlib.Algebra.BigOperators.Fin
public import proofs.«01_k».proof.Proof.Sums

@[expose] public section

namespace Cert.Finite

open Idealize.ShloMosaic

/-- An extended real that is a real number. -/
def Real (x : EReal) : Prop := ∃ r : ℝ, x = (r : EReal)

/-- A number whose absolute value compares below infinity is real. -/
theorem of_check {x : EReal} (h : Ideal.cmp .olt (max x (-x)) ⊤ = 1#1) : Real x := by
  induction x with
  | bot => simp [Ideal.cmp] at h
  | top => simp [Ideal.cmp] at h
  | coe r => exact ⟨r, rfl⟩

/-- The same check, infinity given by its 32-bit pattern. -/
theorem of_check_bits {x : EReal} (h : Ideal.cmp .olt (max x (-x)) (Ideal.ofBits .f32 0x7F800000#32) = 1#1) : Real x :=
  of_check (by rwa [show Ideal.ofBits .f32 0x7F800000#32 = ⊤ by simp [Ideal.ofBits, Ideal.ieee]] at h)

theorem zero : Real 0 := ⟨0, rfl⟩

theorem add {x y : EReal} (hx : Real x) (hy : Real y) : Real (x + y) := by
  obtain ⟨a, rfl⟩ := hx
  obtain ⟨b, rfl⟩ := hy
  exact ⟨a + b, (EReal.coe_add a b).symm⟩

theorem sub {x y : EReal} (hx : Real x) (hy : Real y) : Real (x - y) := by
  obtain ⟨a, rfl⟩ := hx
  obtain ⟨b, rfl⟩ := hy
  exact ⟨a - b, (EReal.coe_sub a b).symm⟩

theorem mul {x y : EReal} (hx : Real x) (hy : Real y) : Real (x * y) := by
  obtain ⟨a, rfl⟩ := hx
  obtain ⟨b, rfl⟩ := hy
  exact ⟨a * b, (EReal.coe_mul a b).symm⟩

theorem sum {n : ℕ} {f : Fin n → EReal} (h : ∀ k, Real (f k)) : Real (∑ k, f k) := by
  choose g hg using h
  refine ⟨∑ k, g k, ?_⟩
  rw [Finset.sum_congr rfl fun k _ => hg k]
  exact (map_sum (⟨⟨Real.toEReal, rfl⟩, fun a b => EReal.coe_add a b⟩ : ℝ →+ EReal) g Finset.univ).symm

/-- The product of two rows of real numbers is real. -/
theorem dot {n : ℕ} {f g : Fin n → EReal} (hf : ∀ k, Real (f k)) (hg : ∀ k, Real (g k)) : Real (∑ k, f k * g k) :=
  sum fun k => mul (hf k) (hg k)

/-- A real factor passes into a sum of real numbers. -/
theorem mul_sum {n : ℕ} {c : EReal} {f : Fin n → EReal} (hc : Real c) (h : ∀ k, Real (f k)) : c * ∑ k, f k = ∑ k, c * f k := by
  obtain ⟨c, rfl⟩ := hc
  choose g hg using h
  have e : ∀ u : Fin n → ℝ, ∑ k, (u k : EReal) = ((∑ k, u k : ℝ) : EReal) := fun u =>
    (map_sum (⟨⟨Real.toEReal, rfl⟩, fun a b => EReal.coe_add a b⟩ : ℝ →+ EReal) u Finset.univ).symm
  rw [Finset.sum_congr rfl fun k _ => hg k, e, ← EReal.coe_mul, Finset.mul_sum, ← e]
  exact Finset.sum_congr rfl fun k _ => by rw [hg k, EReal.coe_mul]

/-- A product of three factors, the first moved to the end. -/
theorem factor_last (d a s : EReal) : d * a * s = a * s * d := by
  rw [EReal.mul_comm d a, mul_assoc, mul_assoc, EReal.mul_comm d s]

/-- `a · σ(a)` of a real number is real. -/
theorem silu {a : EReal} (ha : Real a) : Real (a * Ideal.div 1 (1 + Ideal.exp (-a))) := by
  obtain ⟨a, rfl⟩ := ha
  have e : Ideal.div 1 (1 + Ideal.exp (-(a : EReal))) = (((1 + Real.exp (-a))⁻¹ : ℝ) : EReal) := Ideal.logistic_coe a
  rw [e]
  exact ⟨_, (EReal.coe_mul a _).symm⟩

/-- The derivative of `a · σ(a)` written out as a product, and gathered over one factor. -/
theorem gate_gradient {a b d : EReal} (ha : Real a) (hb : Real b) (hd : Real d) :
    d * b * (Ideal.div 1 (1 + Ideal.exp (-a)) * (1 + a * (1 - Ideal.div 1 (1 + Ideal.exp (-a)))))
      = d * b * Ideal.div 1 (1 + Ideal.exp (-a)) + a * (d * b) * (Ideal.div 1 (1 + Ideal.exp (-a)) * (1 - Ideal.div 1 (1 + Ideal.exp (-a)))) := by
  obtain ⟨a, rfl⟩ := ha
  obtain ⟨b, rfl⟩ := hb
  obtain ⟨d, rfl⟩ := hd
  have e : Ideal.div 1 (1 + Ideal.exp (-(a : EReal))) = (((1 + Real.exp (-a))⁻¹ : ℝ) : EReal) := Ideal.logistic_coe a
  rw [e]
  norm_cast
  ring

end Cert.Finite

end
-- ==== Proof.GluBackward.lean ====
/- The gradient through the gated pair of the feed-forward part, interleaved by halves of 1408 columns. -/
module

public import proofs.«01_k».proof.Proof.Gen.Kernel2Ideal.Value
public import proofs.«01_k».proof.Proof.Gen.Reference2Ideal.Run
public import proofs.«01_k».proof.Proof.Gen.Reference2Ideal.Read
public import proofs.«01_k».proof.Proof.Sums
public import proofs.«01_k».proof.Proof.Finite
public import Idealize.ShloMosaic.Lib.Pipeline.ValueKit
public import Idealize.ShloMosaic.Lib.Pointwise

@[expose] public section

set_option maxRecDepth 16384

noncomputable section

namespace Cert.Kernel2Ideal.RefValue

open Kernel2Ideal Kernel2Ideal.Gen Idealize.ShloMosaic Idealize.ShloMosaic.TcCoe Idealize.SL.Sem
open Idealize.ShloMosaic.Pipeline (Dat)
open Reference2Ideal.Read

variable (m : (ℓ : Loc nD τ sig) → Buf (Elt Ideal) ℓ)

/-! The arguments of the call, at a device. -/

abbrev arg0 (c : Dev nD) := m (c.tc.loc main_arg0)
abbrev arg1 (c : Dev nD) := m (c.tc.loc main_arg1)
abbrev arg2 (c : Dev nD) := m (c.tc.loc main_arg2)
abbrev arg3 (c : Dev nD) := m (c.tc.loc main_arg3)
abbrev arg4 (c : Dev nD) := m (c.tc.loc main_arg4)

/-! The block each window visits at a grid point. -/

theorem idx0 : ∀ t : Fin cfg0.N, win0_0.index t = ![t.val % 8, 0] := (by decide +kernel : ∀ t : Fin grid0.N, _)
theorem idx1 : ∀ t : Fin cfg0.N, win0_1.index t = ![t.val / 8, 0] := (by decide +kernel : ∀ t : Fin grid0.N, _)
theorem idx2 : ∀ t : Fin cfg0.N, win0_2.index t = ![t.val % 8, t.val / 8] := (by decide +kernel : ∀ t : Fin grid0.N, _)
theorem idx3 : ∀ t : Fin cfg0.N, win0_3.index t = ![t.val % 8, t.val / 8] := (by decide +kernel : ∀ t : Fin grid0.N, _)

/-- The interleaved products when the call starts. -/
theorem stacked (c : Dev nD) : V m c main_v7 = concatenate S4096x5632 1 [⟨S4096x1408, extractStridedSlice S4096x1408 ![0, 0] (val_main_v1 (F := Ideal) (arg1 m c) (arg2 m c)) slices_S4096x2816_S4096x1408_0_0⟩, ⟨S4096x1408, extractStridedSlice S4096x1408 ![0, 0] (val_main_v2 (F := Ideal) (arg1 m c) (arg3 m c)) slices_S4096x2816_S4096x1408_0_0⟩, ⟨S4096x1408, extractStridedSlice S4096x1408 ![0, 1408] (val_main_v1 (F := Ideal) (arg1 m c) (arg2 m c)) slices_S4096x2816_S4096x1408_0_1408⟩, ⟨S4096x1408, extractStridedSlice S4096x1408 ![0, 1408] (val_main_v2 (F := Ideal) (arg1 m c) (arg3 m c)) slices_S4096x2816_S4096x1408_0_1408⟩] concatenates_S4096x1408_S4096x1408_S4096x1408_S4096x1408_S4096x5632_d1 := by
  show StableHlo.after hostOps0 (fun b => m (c, b)) (Proc.devRef .tc main_v7) = _
  simp only [hostOps0, List.flatten_cons, List.flatten_nil, List.append_nil, List.cons_append, List.nil_append]
  after_results <;> rfl

/-- Columns of the interleaved products that hold the first product's. -/
theorem products1 (c : Dev nD) (j r : ℕ) (hj : j < 2) (hr : r < 1408) (i : S4096x5632.Idx) (h : (i 1).val = j * 2816 + r) :
    V m c main_v7 i = val_main_v1 (F := Ideal) (arg1 m c) (arg2 m c) (ValueIdx.ix2 (i 0) ⟨j * 1408 + r, by omega⟩) := by
  rw [stacked]
  pointwise []
  obtain rfl | rfl : j = 0 ∨ j = 1 := by omega
  all_goals split_ifs <;> first | (exfalso; omega) | (refine Sums.read_column _ ?_; dsimp only; omega)

/-- Columns of the interleaved products that hold the second product's. -/
theorem products3 (c : Dev nD) (j r : ℕ) (hj : j < 2) (hr : r < 1408) (i : S4096x5632.Idx) (h : (i 1).val = j * 2816 + 1408 + r) :
    V m c main_v7 i = val_main_v2 (F := Ideal) (arg1 m c) (arg3 m c) (ValueIdx.ix2 (i 0) ⟨j * 1408 + r, by omega⟩) := by
  rw [stacked]
  pointwise []
  obtain rfl | rfl : j = 0 ∨ j = 1 := by omega
  all_goals split_ifs <;> first | (exfalso; omega) | (refine Sums.read_column _ ?_; dsimp only; omega)

/-- Columns of the reference's interleaved gradient that hold the first product's gradient. -/
theorem columns1 (c : Dev nD) (j r : ℕ) (hj : j < 2) (hr : r < 1408) (i : Reference2Ideal.S4096x5632.Idx) (h : (i 1).val = j * 2816 + r) :
    val_main_v16 (F := Ideal) (arg0 m c) (arg1 m c) (arg2 m c) (arg3 m c) (arg4 m c) i = val_main_v10 (F := Ideal) (arg0 m c) (arg1 m c) (arg2 m c) (arg3 m c) (arg4 m c) (ValueIdx.ix2 (i 0) ⟨j * 1408 + r, by omega⟩) := by
  pointwise [val_main_v16, val_main_v15, val_main_v14, val_main_v13, val_main_v12, val_main_v11]
  obtain rfl | rfl : j = 0 ∨ j = 1 := by omega
  all_goals split_ifs <;> first | (exfalso; omega) | (refine Sums.read_column _ ?_; dsimp only; omega)

/-- Columns of the reference's interleaved gradient that hold the second product's gradient. -/
theorem columns3 (c : Dev nD) (j r : ℕ) (hj : j < 2) (hr : r < 1408) (i : Reference2Ideal.S4096x5632.Idx) (h : (i 1).val = j * 2816 + 1408 + r) :
    val_main_v16 (F := Ideal) (arg0 m c) (arg1 m c) (arg2 m c) (arg3 m c) (arg4 m c) i = val_main_v8 (F := Ideal) (arg0 m c) (arg1 m c) (arg2 m c) (arg4 m c) (ValueIdx.ix2 (i 0) ⟨j * 1408 + r, by omega⟩) := by
  pointwise [val_main_v16, val_main_v15, val_main_v14, val_main_v13, val_main_v12, val_main_v11]
  obtain rfl | rfl : j = 0 ∨ j = 1 := by omega
  all_goals split_ifs <;> first | (exfalso; omega) | (refine Sums.read_column _ ?_; dsimp only; omega)

/-- A block's product with the last weight is the reference's gradient of the gated activation. -/
theorem dproduct (c : Dev nD) (t : Fin cfg0.N) (p : Fin 512) (q : Fin 1408) (i : Reference2Ideal.S4096x2816.Idx)
    (h0 : (i 0).val = t.val % 8 * 512 + p.val) (h1 : (i 1).val = t.val / 8 * 1408 + q.val) :
    Sums.dot (fun k : Fin 1024 => iblk m c 0 t (ValueIdx.ix2 p k)) (fun k : Fin 1024 => iblk m c 1 t (ValueIdx.ix2 q k)) = val_main_v7 (F := Ideal) (arg0 m c) (arg4 m c) i := by
  pointwise [val_main_v0, val_main_call0_v0, val_main_call0_v1, val_main_call0_cst, val_main_call0_v2, val_main_call0_v3, val_main_call0_cst_0, val_main_call0_v4, val_main_v3_2, val_main_call0_cst_1, val_main_call0_v6, val_main_call0_v7, val_main_v3_1, val_main_v3_0, val_main_v4, val_main_v5, val_main_v6, val_main_v7, val_main_v8, val_main_v9, val_main_call1_v0, val_main_call1_v1, val_main_call1_v2, val_main_v10, val_main_v11, val_main_v12, val_main_v13, val_main_v14, val_main_v15, val_main_v16]
  have e : V m c main_v8 = (truncf .bf16 (arg4 m c : FVec Ideal S2816x1024 .f32) bitsLt_bf16_f32 : FVec Ideal S2816x1024 .bf16) := by entry_read; rfl
  refine Sums.sum_same (fun k => ?_) (fun k => ?_)
  · blk_ext! [iblk, V, idx0]
    exact h0.symm
  · show V m c main_v8 (((cfg0.win 1).blk t).view.emb (ValueIdx.ix2 q k)) = _
    rw [e]
    pointwise []
    blk_ext! [idx1]
    exact h1.symm

/-- Two arguments with the same row and column numbers are one. -/
theorem same_index {n k : ℕ} {i j : (⟨2, ![n, k]⟩ : Shape).Idx} (h0 : (i 0).val = (j 0).val) (h1 : (i 1).val = (j 1).val) : i = j := by
  funext a
  apply Fin.ext
  fin_cases a
  · exact h0
  · exact h1

/-- The columns of a block of interleaved products that are the first product's. -/
theorem block1 (c : Dev nD) (t : Fin cfg0.N) (p : Fin 512) (q : Fin 1408) (i : Reference2Ideal.S4096x2816.Idx)
    (h0 : (i 0).val = t.val % 8 * 512 + p.val) (h1 : (i 1).val = t.val / 8 * 1408 + q.val) :
    iblk m c 2 t (ValueIdx.ix2 p ⟨q.val, by omega⟩) = val_main_v1 (F := Ideal) (arg1 m c) (arg2 m c) i := by
  have ht : t.val / 8 < 2 := by have := lt_of_lt_of_eq t.isLt N_0; omega
  refine (products1 m c (t.val / 8) q.val ht q.isLt (((cfg0.win 2).blk t).view.emb (ValueIdx.ix2 p ⟨q.val, by omega⟩)) ?_).trans (congrArg (val_main_v1 (F := Ideal) (arg1 m c) (arg2 m c)) (same_index ?_ ?_))
  · blk_simp [idx2]

  · refine Eq.trans ?_ h0.symm
    show ((((cfg0.win 2).blk t).view.emb (ValueIdx.ix2 p ⟨q.val, by omega⟩)) 0).val = _
    blk_simp [idx2]
    rfl
  · exact h1.symm

/-- The columns of a block of interleaved products that are the second product's. -/
theorem block3 (c : Dev nD) (t : Fin cfg0.N) (p : Fin 512) (q : Fin 1408) (i : Reference2Ideal.S4096x2816.Idx)
    (h0 : (i 0).val = t.val % 8 * 512 + p.val) (h1 : (i 1).val = t.val / 8 * 1408 + q.val) :
    iblk m c 2 t (ValueIdx.ix2 p ⟨1408 + q.val, by omega⟩) = val_main_v2 (F := Ideal) (arg1 m c) (arg3 m c) i := by
  have ht : t.val / 8 < 2 := by have := lt_of_lt_of_eq t.isLt N_0; omega
  refine (products3 m c (t.val / 8) q.val ht q.isLt (((cfg0.win 2).blk t).view.emb (ValueIdx.ix2 p ⟨1408 + q.val, by omega⟩)) ?_).trans (congrArg (val_main_v2 (F := Ideal) (arg1 m c) (arg3 m c)) (same_index ?_ ?_))
  · blk_simp [idx2]
    have e : (ValueIdx.ix2 p (⟨1408 + q.val, by omega⟩ : Fin 2816) 1).val = 1408 + q.val := rfl
    omega
  · refine Eq.trans ?_ h0.symm
    show ((((cfg0.win 2).blk t).view.emb (ValueIdx.ix2 p ⟨1408 + q.val, by omega⟩)) 0).val = _
    blk_simp [idx2]
    rfl
  · exact h1.symm

/-- The interleaved gradient is the reference's, where the arguments are real numbers. -/
theorem final_3 (c : Dev nD) (r1 : ∀ i, Finite.Real (val_main_v1 (F := Ideal) (arg1 m c) (arg2 m c) i)) (r2 : ∀ i, Finite.Real (val_main_v2 (F := Ideal) (arg1 m c) (arg3 m c) i))
    (r7 : ∀ i, Finite.Real (val_main_v7 (F := Ideal) (arg0 m c) (arg4 m c) i)) :
    (dats m 0 c).arrAt 3 cfg0.N = val_main_v16 (F := Ideal) (arg0 m c) (arg1 m c) (arg2 m c) (arg3 m c) (arg4 m c) := by
  refine (dats m 0 c).arrAt_eq_of_covers 3 _ (by decide +kernel) fun t hf y => ?_
  have ht : t.val / 8 < 2 := by have := lt_of_lt_of_eq t.isLt N_0; omega
  blk_simp
  rw [after0_3]
  unfold out0_3
  have h0 : ((((View.whole main_v9).slice (win0_3.rect t)).emb y) 0).val = t.val % 8 * 512 + (y 0).val := by blk_simp [idx3]
  have h1 : ((((View.whole main_v9).slice (win0_3.rect t)).emb y) 1).val = t.val / 8 * 2816 + (y 1).val := by blk_simp [idx3]
  generalize ((View.whole main_v9).slice (win0_3.rect t)).emb y = i at h0 h1 ⊢
  canon_tiles x h
  · rw [columns3 m c (t.val / 8) (x 1).val ht x1_lt i (by omega)]
    unfold_payloads
    pointwise [Ideal.logistic, val_main_v0, val_main_call0_v0, val_main_call0_v1, val_main_call0_cst, val_main_call0_v2, val_main_call0_v3, val_main_call0_cst_0, val_main_call0_v4, val_main_v3_2, val_main_call0_cst_1, val_main_call0_v6, val_main_call0_v7, val_main_v3_1, val_main_v3_0, val_main_v4, val_main_v5, val_main_v6, val_main_v8, val_main_v9, val_main_call1_v0, val_main_call1_v1, val_main_call1_v2, val_main_v10, val_main_v11, val_main_v12, val_main_v13, val_main_v14, val_main_v15, val_main_v16]
    have p := dproduct m c t (x 0) (x 1) (ValueIdx.ix2 (i 0) ⟨t.val / 8 * 1408 + (x 1).val, by omega⟩) (by show (i 0).val = _; omega) rfl
    have p1 := block1 m c t (x 0) (x 1) (ValueIdx.ix2 (i 0) ⟨t.val / 8 * 1408 + (x 1).val, by omega⟩) (by show (i 0).val = _; omega) rfl
    refine (congrArg₂ (fun d a : EReal => d * a * Ideal.div 1 (1 + Ideal.exp (-a))) p p1).trans ?_
    exact Finite.factor_last _ _ _
  · rw [columns1 m c (t.val / 8) (x 1).val ht x1_lt i (by omega)]
    unfold_payloads
    pointwise [Ideal.logistic, val_main_v0, val_main_call0_v0, val_main_call0_v1, val_main_call0_cst, val_main_call0_v2, val_main_call0_v3, val_main_call0_cst_0, val_main_call0_v4, val_main_v3_2, val_main_call0_cst_1, val_main_call0_v6, val_main_call0_v7, val_main_v3_1, val_main_v3_0, val_main_v4, val_main_v5, val_main_v6, val_main_v8, val_main_v9, val_main_call1_v0, val_main_call1_v1, val_main_call1_v2, val_main_v10, val_main_v11, val_main_v12, val_main_v13, val_main_v14, val_main_v15, val_main_v16]
    have p := dproduct m c t (x 0) (x 1) (ValueIdx.ix2 (i 0) ⟨t.val / 8 * 1408 + (x 1).val, by omega⟩) (by show (i 0).val = _; omega) rfl
    have p1 := block1 m c t (x 0) (x 1) (ValueIdx.ix2 (i 0) ⟨t.val / 8 * 1408 + (x 1).val, by omega⟩) (by show (i 0).val = _; omega) rfl
    have p3 := block3 m c t (x 0) (x 1) (ValueIdx.ix2 (i 0) ⟨t.val / 8 * 1408 + (x 1).val, by omega⟩) (by show (i 0).val = _; omega) rfl
    refine (congrArg₂ (fun (d : EReal) (a : EReal × EReal) => d * a.2 * (Ideal.div 1 (1 + Ideal.exp (-a.1)) * (1 + a.1 * (1 - Ideal.div 1 (1 + Ideal.exp (-a.1)))))) p (Prod.ext p1 p3 : ((_, _) : EReal × EReal) = (_, _))).trans ?_
    exact Finite.gate_gradient (r1 _) (r2 _) (r7 _)

end Cert.Kernel2Ideal.RefValue

end
-- ==== Proof.GluBackwardClaim.lean ====
/- The value claim of the gradient through the gated pair. -/
module

public import proofs.«01_k».proof.Defs
public import proofs.«01_k».proof.Proof.GluBackward

@[expose] public section

set_option maxRecDepth 16384

noncomputable section

namespace Cert.Kernel2Ideal.RefValue

open Kernel2Ideal Kernel2Ideal.Gen Idealize.ShloMosaic Idealize.ShloMosaic.TcCoe Idealize.SL.Sem
open Reference2Ideal.Read

/-- The reference runs, keeps its arguments, and leaves every semaphore at zero. -/
theorem reference_quiescent [hR : Reference2Ideal.Facts] : Cert.quiescent_Reference2Ideal (hReference2Ideal := hR) := by
  intro m ρ _
  refine (θ_run Reference2Ideal.defs _ _).mono (fun r h => ⟨fun c => ?_, sem_eq_zero_of_no_sems (by decide) r.2⟩)
    (Reference2Ideal.Value.run (F := Ideal) m ρ)
  exact (h c).2

/-- The side conditions of the finiteness check. -/
theorem precondition_facts : Pre_finite2.Facts := by
  constructor <;> first | (intro a; exact Fin.elim0 a) | decide

/-- Where the check holds, argument 0 holds real numbers. -/
theorem real0 [Pre_finite2.Facts] {m : (ℓ : Loc nD τ sig) → Buf (Elt Ideal) ℓ} (h : Pre_Kernel2Ideal_finite2 m) (c : Dev nD) (i) :
    Finite.Real (m (c.tc.loc main_arg0) i) :=
  Finite.of_check_bits (congrFun (h c).1 i)

/-- Where the check holds, argument 1 holds real numbers. -/
theorem real1 [Pre_finite2.Facts] {m : (ℓ : Loc nD τ sig) → Buf (Elt Ideal) ℓ} (h : Pre_Kernel2Ideal_finite2 m) (c : Dev nD) (i) :
    Finite.Real (m (c.tc.loc main_arg1) i) :=
  Finite.of_check_bits (congrFun (h c).2.1 i)

/-- Where the check holds, argument 2 holds real numbers. -/
theorem real2 [Pre_finite2.Facts] {m : (ℓ : Loc nD τ sig) → Buf (Elt Ideal) ℓ} (h : Pre_Kernel2Ideal_finite2 m) (c : Dev nD) (i) :
    Finite.Real (m (c.tc.loc main_arg2) i) :=
  Finite.of_check_bits (congrFun (h c).2.2.1 i)

/-- Where the check holds, argument 3 holds real numbers. -/
theorem real3 [Pre_finite2.Facts] {m : (ℓ : Loc nD τ sig) → Buf (Elt Ideal) ℓ} (h : Pre_Kernel2Ideal_finite2 m) (c : Dev nD) (i) :
    Finite.Real (m (c.tc.loc main_arg3) i) :=
  Finite.of_check_bits (congrFun (h c).2.2.2.1 i)

/-- Where the check holds, argument 4 holds real numbers. -/
theorem real4 [Pre_finite2.Facts] {m : (ℓ : Loc nD τ sig) → Buf (Elt Ideal) ℓ} (h : Pre_Kernel2Ideal_finite2 m) (c : Dev nD) (i) :
    Finite.Real (m (c.tc.loc main_arg4) i) :=
  Finite.of_check_bits (congrFun (h c).2.2.2.2 i)

/-- The product is real there. -/
theorem product_real1 [Pre_finite2.Facts] {m : (ℓ : Loc nD τ sig) → Buf (Elt Ideal) ℓ} (h : Pre_Kernel2Ideal_finite2 m) (c : Dev nD) (i) :
    Finite.Real (val_main_v1 (F := Ideal) (m (c.tc.loc main_arg1)) (m (c.tc.loc main_arg2)) i) := by
  pointwise [val_main_v1, val_main_v0]
  exact Finite.dot (fun k => real1 h c _) (fun k => real2 h c _)

/-- The product is real there. -/
theorem product_real2 [Pre_finite2.Facts] {m : (ℓ : Loc nD τ sig) → Buf (Elt Ideal) ℓ} (h : Pre_Kernel2Ideal_finite2 m) (c : Dev nD) (i) :
    Finite.Real (val_main_v2 (F := Ideal) (m (c.tc.loc main_arg1)) (m (c.tc.loc main_arg3)) i) := by
  pointwise [val_main_v2, val_main_v0]
  exact Finite.dot (fun k => real1 h c _) (fun k => real3 h c _)

/-- The product is real there. -/
theorem product_real7 [Pre_finite2.Facts] {m : (ℓ : Loc nD τ sig) → Buf (Elt Ideal) ℓ} (h : Pre_Kernel2Ideal_finite2 m) (c : Dev nD) (i) :
    Finite.Real (val_main_v7 (F := Ideal) (m (c.tc.loc main_arg0)) (m (c.tc.loc main_arg4)) i) := by
  pointwise [val_main_v7, val_main_v5, val_main_v6]
  exact Finite.dot (fun k => real0 h c _) (fun k => real4 h c _)

/-- Both programs, from memories agreeing on the arguments, run and end with equal results. -/
theorem algebraic [hK : Kernel2Ideal.Facts] [hR : Reference2Ideal.Facts] [hPre : Pre_finite2.Facts] :
    Cert.algebraic_Kernel2Ideal_Reference2Ideal_pre_finite2 (hKernel2Ideal := hK) (hReference2Ideal := hR) (hPre_finite2 := hPre) := by
  intro m ρ m' ρ' hpre hagree
  refine ⟨fun c => val_main_v16 (F := Ideal) (m (c.tc.loc main_arg0)) (m (c.tc.loc main_arg1)) (m (c.tc.loc main_arg2)) (m (c.tc.loc main_arg3)) (m (c.tc.loc main_arg4)), ?_, ?_⟩
  · refine (θ_run Kernel2Ideal.defs _ _).mono (fun r h c => ?_) (Kernel2Ideal.Value.run_blocks m ρ)
    obtain ⟨h0, hk⟩ := h c
    exact ⟨h0.trans (final_3 m c (product_real1 hpre c) (product_real2 hpre c) (product_real7 hpre c)), hk⟩
  · refine (θ_run Reference2Ideal.defs _ _).mono (fun r h c => ?_) (Reference2Ideal.Value.run (F := Ideal) m' ρ')
    obtain ⟨h0, hk⟩ := h c
    obtain ⟨e0, e1, e2, e3, e4⟩ := hagree c
    refine ⟨h0.trans ?_, hk⟩
    · refine (val_main_v16_eq _ _).trans ?_
      beta_reduce
      rw [e0, e1, e2, e3, e4]

end Cert.Kernel2Ideal.RefValue

end
-- ==== Proof.GluForward.lean ====
/- The gated pair of the feed-forward part: both products, interleaved by halves of 1408 columns, and the gated activation. -/
module

public import proofs.«01_k».proof.Proof.Gen.Kernel3Ideal.Value
public import proofs.«01_k».proof.Proof.Gen.Reference3Ideal.Run
public import proofs.«01_k».proof.Proof.Gen.Reference3Ideal.Read
public import proofs.«01_k».proof.Proof.Sums
public import Idealize.ShloMosaic.Lib.Pipeline.ValueKit
public import Idealize.ShloMosaic.Lib.Pointwise

@[expose] public section

set_option maxRecDepth 16384

noncomputable section

namespace Cert.Kernel3Ideal.RefValue

open Kernel3Ideal Kernel3Ideal.Gen Idealize.ShloMosaic Idealize.ShloMosaic.TcCoe Idealize.SL.Sem
open Idealize.ShloMosaic.Pipeline (Dat)
open Reference3Ideal.Read

variable (m : (ℓ : Loc nD τ sig) → Buf (Elt Ideal) ℓ)

/-! The block each window visits at a grid point. -/

theorem idx0 : ∀ t : Fin cfg0.N, win0_0.index t = ![t.val % 8, 0] := (by decide +kernel : ∀ t : Fin grid0.N, _)
theorem idx1 : ∀ t : Fin cfg0.N, win0_1.index t = ![t.val / 8, 0] := (by decide +kernel : ∀ t : Fin grid0.N, _)
theorem idx2 : ∀ t : Fin cfg0.N, win0_2.index t = ![t.val % 8, t.val / 8] := (by decide +kernel : ∀ t : Fin grid0.N, _)
theorem idx3 : ∀ t : Fin cfg0.N, win0_3.index t = ![t.val % 8, t.val / 8] := (by decide +kernel : ∀ t : Fin grid0.N, _)

/-- The stacked transposed weights when the call starts. -/
theorem stacked (c : Dev nD) : V m c main_v8 = concatenate S5632x1024 0 [⟨S1408x1024, extractStridedSlice S1408x1024 ![0, 0] (truncf .bf16 (transpose S2816x1024 [1, 0] (m (c.tc.loc main_arg1)) transposes_S1024x2816_S2816x1024_1_0 : FVec Ideal S2816x1024 .f32) bitsLt_bf16_f32) slices_S2816x1024_S1408x1024_0_0⟩, ⟨S1408x1024, extractStridedSlice S1408x1024 ![0, 0] (truncf .bf16 (transpose S2816x1024 [1, 0] (m (c.tc.loc main_arg2)) transposes_S1024x2816_S2816x1024_1_0 : FVec Ideal S2816x1024 .f32) bitsLt_bf16_f32) slices_S2816x1024_S1408x1024_0_0⟩, ⟨S1408x1024, extractStridedSlice S1408x1024 ![1408, 0] (truncf .bf16 (transpose S2816x1024 [1, 0] (m (c.tc.loc main_arg1)) transposes_S1024x2816_S2816x1024_1_0 : FVec Ideal S2816x1024 .f32) bitsLt_bf16_f32) slices_S2816x1024_S1408x1024_1408_0⟩, ⟨S1408x1024, extractStridedSlice S1408x1024 ![1408, 0] (truncf .bf16 (transpose S2816x1024 [1, 0] (m (c.tc.loc main_arg2)) transposes_S1024x2816_S2816x1024_1_0 : FVec Ideal S2816x1024 .f32) bitsLt_bf16_f32) slices_S2816x1024_S1408x1024_1408_0⟩] concatenates_S1408x1024_S1408x1024_S1408x1024_S1408x1024_S5632x1024_d0 := by
  show StableHlo.after hostOps0 (fun b => m (c, b)) (Proc.devRef .tc main_v8) = _
  simp only [hostOps0, List.flatten_cons, List.flatten_nil, List.append_nil, List.cons_append, List.nil_append]
  after_results <;> rfl

/-- Rows of the stacked transposed weights that hold the first weight's columns. -/
theorem weights1 (c : Dev nD) (j r : ℕ) (hj : j < 2) (hr : r < 1408) (i : S5632x1024.Idx) (h : (i 0).val = j * 2816 + r) :
    V m c main_v8 i = m (c.tc.loc main_arg1) (ValueIdx.ix2 (i 1) ⟨j * 1408 + r, by omega⟩) := by
  rw [stacked]
  pointwise []
  obtain rfl | rfl : j = 0 ∨ j = 1 := by omega
  all_goals split_ifs <;> first | (exfalso; omega) | (refine Sums.read_column _ ?_; dsimp only; omega)

/-- Rows of the stacked transposed weights that hold the second weight's columns. -/
theorem weights3 (c : Dev nD) (j r : ℕ) (hj : j < 2) (hr : r < 1408) (i : S5632x1024.Idx) (h : (i 0).val = j * 2816 + 1408 + r) :
    V m c main_v8 i = m (c.tc.loc main_arg2) (ValueIdx.ix2 (i 1) ⟨j * 1408 + r, by omega⟩) := by
  rw [stacked]
  pointwise []
  obtain rfl | rfl : j = 0 ∨ j = 1 := by omega
  all_goals split_ifs <;> first | (exfalso; omega) | (refine Sums.read_column _ ?_; dsimp only; omega)

/-- Columns of the interleaved products that hold the first product's. -/
theorem columns1 (c : Dev nD) (j r : ℕ) (hj : j < 2) (hr : r < 1408) (i : Reference3Ideal.S4096x5632.Idx) (h : (i 1).val = j * 2816 + r) :
    val_main_v7 (F := Ideal) (m (c.tc.loc main_arg0)) (m (c.tc.loc main_arg1)) (m (c.tc.loc main_arg2)) i = val_main_v1 (F := Ideal) (m (c.tc.loc main_arg0)) (m (c.tc.loc main_arg1)) (ValueIdx.ix2 (i 0) ⟨j * 1408 + r, by omega⟩) := by
  pointwise [val_main_v7, val_main_v6, val_main_v5, val_main_v4, val_main_v3]
  obtain rfl | rfl : j = 0 ∨ j = 1 := by omega
  all_goals split_ifs <;> first | (exfalso; omega) | (refine Sums.read_column _ ?_; dsimp only; omega)

/-- Columns of the interleaved products that hold the second product's. -/
theorem columns3 (c : Dev nD) (j r : ℕ) (hj : j < 2) (hr : r < 1408) (i : Reference3Ideal.S4096x5632.Idx) (h : (i 1).val = j * 2816 + 1408 + r) :
    val_main_v7 (F := Ideal) (m (c.tc.loc main_arg0)) (m (c.tc.loc main_arg1)) (m (c.tc.loc main_arg2)) i = val_main_v2 (F := Ideal) (m (c.tc.loc main_arg0)) (m (c.tc.loc main_arg2)) (ValueIdx.ix2 (i 0) ⟨j * 1408 + r, by omega⟩) := by
  pointwise [val_main_v7, val_main_v6, val_main_v5, val_main_v4, val_main_v3]
  obtain rfl | rfl : j = 0 ∨ j = 1 := by omega
  all_goals split_ifs <;> first | (exfalso; omega) | (refine Sums.read_column _ ?_; dsimp only; omega)

/-- The half of a block's product that is the first product's block. -/
theorem product1 (c : Dev nD) (t : Fin cfg0.N) (p : Fin 512) (r : ℕ) (hr : r < 1408) (q : Fin 2816) (hq : q.val = r)
    (i : Reference3Ideal.S4096x2816.Idx) (h0 : (i 0).val = t.val % 8 * 512 + p.val) (h1 : (i 1).val = t.val / 8 * 1408 + r) :
    Sums.dot (fun k : Fin 1024 => iblk m c 0 t (ValueIdx.ix2 p k)) (fun k : Fin 1024 => iblk m c 1 t (ValueIdx.ix2 q k)) = val_main_v1 (F := Ideal) (m (c.tc.loc main_arg0)) (m (c.tc.loc main_arg1)) i := by
  pointwise [val_main_v1, val_main_v0]
  have ht : t.val / 8 < 2 := by have := lt_of_lt_of_eq t.isLt N_0; omega
  refine Sums.sum_same (fun k => ?_) (fun k => ?_)
  · blk_ext! [iblk, V, idx0]
    exact h0.symm
  · refine (weights1 m c (t.val / 8) r ht hr (((cfg0.win 1).blk t).view.emb (ValueIdx.ix2 q k)) ?_).trans ?_
    · blk_simp [idx1]
      have e : (ValueIdx.ix2 q k 0).val = q.val := rfl
      omega
    · blk_ext! [idx1]
      show (((View.whole main_v8).slice (win0_1.rect t)).emb (ValueIdx.ix2 q k) 1).val = k.val
      blk_simp [idx1]
      rfl

/-- The half of a block's product that is the second product's block. -/
theorem product3 (c : Dev nD) (t : Fin cfg0.N) (p : Fin 512) (r : ℕ) (hr : r < 1408) (q : Fin 2816) (hq : q.val = 1408 + r)
    (i : Reference3Ideal.S4096x2816.Idx) (h0 : (i 0).val = t.val % 8 * 512 + p.val) (h1 : (i 1).val = t.val / 8 * 1408 + r) :
    Sums.dot (fun k : Fin 1024 => iblk m c 0 t (ValueIdx.ix2 p k)) (fun k : Fin 1024 => iblk m c 1 t (ValueIdx.ix2 q k)) = val_main_v2 (F := Ideal) (m (c.tc.loc main_arg0)) (m (c.tc.loc main_arg2)) i := by
  pointwise [val_main_v2, val_main_v0]
  have ht : t.val / 8 < 2 := by have := lt_of_lt_of_eq t.isLt N_0; omega
  refine Sums.sum_same (fun k => ?_) (fun k => ?_)
  · blk_ext! [iblk, V, idx0]
    exact h0.symm
  · refine (weights3 m c (t.val / 8) r ht hr (((cfg0.win 1).blk t).view.emb (ValueIdx.ix2 q k)) ?_).trans ?_
    · blk_simp [idx1]
      have e : (ValueIdx.ix2 q k 0).val = q.val := rfl
      omega
    · blk_ext! [idx1]
      show (((View.whole main_v8).slice (win0_1.rect t)).emb (ValueIdx.ix2 q k) 1).val = k.val
      blk_simp [idx1]
      rfl

/-- The interleaved products are the reference's. -/
theorem final_2 (c : Dev nD) : (dats m 0 c).arrAt 2 cfg0.N = val_main_v7 (F := Ideal) (m (c.tc.loc main_arg0)) (m (c.tc.loc main_arg1)) (m (c.tc.loc main_arg2)) := by
  refine (dats m 0 c).arrAt_eq_of_covers 2 _ (by decide +kernel) fun t hf y => ?_
  have ht : t.val / 8 < 2 := by have := lt_of_lt_of_eq t.isLt N_0; omega
  blk_simp
  rw [after0_2]
  have e : out0_2 (iblk m c 0 t) (iblk m c 1 t) = k0_pay1 (iblk m c 0 t) (iblk m c 1 t) := by frame_out
  rw [e]
  unfold_payloads
  pointwise []
  let i := ((View.whole main_v9_0).slice (win0_2.rect t)).emb y
  have h0 : (i 0).val = t.val % 8 * 512 + (y 0).val := by blk_simp [i, idx2]
  have h1 : (i 1).val = t.val / 8 * 2816 + (y 1).val := by blk_simp [i, idx2]
  have hy := (y 1).isLt
  by_cases h : (y 1).val < 1408
  · exact (product1 m c t (y 0) (y 1).val h (y 1) rfl (ValueIdx.ix2 (i 0) ⟨t.val / 8 * 1408 + (y 1).val, by omega⟩) h0 rfl).trans
      (columns1 m c (t.val / 8) (y 1).val ht h i h1).symm
  · have h2 : (y 1).val - 1408 < 1408 := by have : (y 1).val < 2816 := hy; omega
    exact (product3 m c t (y 0) ((y 1).val - 1408) h2 (y 1) (by omega) (ValueIdx.ix2 (i 0) ⟨t.val / 8 * 1408 + ((y 1).val - 1408), by omega⟩) h0 rfl).trans
      (columns3 m c (t.val / 8) ((y 1).val - 1408) ht h2 i (by omega)).symm

/-- The gated activation is the reference's. -/
theorem final_3 (c : Dev nD) : (dats m 0 c).arrAt 3 cfg0.N = val_main_v10 (F := Ideal) (m (c.tc.loc main_arg0)) (m (c.tc.loc main_arg1)) (m (c.tc.loc main_arg2)) := by
  refine (dats m 0 c).arrAt_eq_of_covers 3 _ (by decide +kernel) fun t hf y => ?_
  blk_simp
  rw [after0_3]
  have e : out0_3 (iblk m c 0 t) (iblk m c 1 t) = k0_pay2 (iblk m c 0 t) (iblk m c 1 t) := by frame_out
  rw [e]
  unfold_payloads
  pointwise [Ideal.logistic, val_main_v0, val_main_v3, val_main_v4, val_main_v5, val_main_v6, val_main_v7, val_main_call0_v0, val_main_call0_v1, val_main_call0_cst, val_main_call0_v2, val_main_call0_v3, val_main_call0_cst_0, val_main_call0_v4, val_main_call0_v5, val_main_v8, val_main_v9, val_main_v10]
  let i := ((View.whole main_v9_1).slice (win0_3.rect t)).emb y
  have h0 : (i 0).val = t.val % 8 * 512 + (y 0).val := by blk_simp [i, idx3]
  have h1 : (i 1).val = t.val / 8 * 1408 + (y 1).val := by blk_simp [i, idx3]
  have p1 := product1 m c t (y 0) (y 1).val (y 1).isLt ⟨(y 1).val, lt_of_lt_of_le (y 1).isLt (show 1408 ≤ 2816 by decide)⟩ rfl i h0 h1
  have p3 := product3 m c t (y 0) (y 1).val (y 1).isLt ⟨1408 + (y 1).val, Nat.add_lt_add_left (y 1).isLt 1408⟩ rfl i h0 h1
  exact congrArg₂ (fun a b : EReal => a * Ideal.div 1 (1 + Ideal.exp (-a)) * b) p1 p3

end Cert.Kernel3Ideal.RefValue

end
-- ==== Proof.GluForwardClaim.lean ====
/- The value claim of the gated pair of the feed-forward part. -/
module

public import proofs.«01_k».proof.Defs
public import proofs.«01_k».proof.Proof.GluForward

@[expose] public section

set_option maxRecDepth 16384

noncomputable section

namespace Cert.Kernel3Ideal.RefValue

open Kernel3Ideal Kernel3Ideal.Gen Idealize.ShloMosaic Idealize.ShloMosaic.TcCoe Idealize.SL.Sem
open Reference3Ideal.Read

/-- The reference runs, keeps its arguments, and leaves every semaphore at zero. -/
theorem reference_quiescent [hR : Reference3Ideal.Facts] : Cert.quiescent_Reference3Ideal (hReference3Ideal := hR) := by
  intro m ρ _
  refine (θ_run Reference3Ideal.defs _ _).mono (fun r h => ⟨fun c => ?_, sem_eq_zero_of_no_sems (by decide) r.2⟩)
    (Reference3Ideal.Value.run (F := Ideal) m ρ)
  exact (h c).2.2

/-- Both programs, from memories agreeing on the arguments, run and end with equal results. -/
theorem algebraic [hK : Kernel3Ideal.Facts] [hR : Reference3Ideal.Facts] :
    Cert.algebraic_Kernel3Ideal_Reference3Ideal (hKernel3Ideal := hK) (hReference3Ideal := hR) := by
  intro m ρ m' ρ' _ hagree
  refine ⟨fun c => val_main_v7 (F := Ideal) (m (c.tc.loc main_arg0)) (m (c.tc.loc main_arg1)) (m (c.tc.loc main_arg2)), fun c => val_main_v10 (F := Ideal) (m (c.tc.loc main_arg0)) (m (c.tc.loc main_arg1)) (m (c.tc.loc main_arg2)), ?_, ?_⟩
  · refine (θ_run Kernel3Ideal.defs _ _).mono (fun r h c => ?_) (Kernel3Ideal.Value.run_blocks m ρ)
    obtain ⟨h0, h1, hk⟩ := h c
    exact ⟨h0.trans (final_2 m c), h1.trans (final_3 m c), hk⟩
  · refine (θ_run Reference3Ideal.defs _ _).mono (fun r h c => ?_) (Reference3Ideal.Value.run (F := Ideal) m' ρ')
    obtain ⟨h0, h1, hk⟩ := h c
    obtain ⟨e0, e1, e2⟩ := hagree c
    refine ⟨h0.trans ?_, h1.trans ?_, hk⟩
    · rw [e0, e1, e2]
      exact val_main_v7_eq _ _ _
    · rw [e0, e1, e2]
      exact val_main_v10_eq _ _ _

end Cert.Kernel3Ideal.RefValue

end
-- ==== Proof.GluWeights.lean ====
/- The gradient of the two gated weights of the feed-forward part: the activations transposed times the cotangents. -/
module

public import proofs.«01_k».proof.Proof.Gen.Kernel4Ideal.Value
public import proofs.«01_k».proof.Proof.Gen.Reference4Ideal.Run
public import proofs.«01_k».proof.Proof.Gen.Reference4Ideal.Read
public import proofs.«01_k».proof.Proof.Sums
public import Idealize.ShloMosaic.Lib.Pipeline.ValueKit
public import Idealize.ShloMosaic.Lib.Pointwise

@[expose] public section

set_option maxRecDepth 16384

noncomputable section

namespace Cert.Kernel4Ideal.RefValue

open Kernel4Ideal Kernel4Ideal.Gen Idealize.ShloMosaic Idealize.ShloMosaic.TcCoe Idealize.SL.Sem
open Idealize.ShloMosaic.Pipeline (Dat)
open Reference4Ideal.Read

variable (m : (ℓ : Loc nD τ sig) → Buf (Elt Ideal) ℓ)

/-! The block each window visits at a grid point. -/

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The product's array is the reference's: each block is a block of the whole product, every term of its sums in it. -/
theorem final_2 (c : Dev nD) : (dats m 0 c).arrAt 2 cfg0.N = val_main_v7 (F := Ideal) (m (c.tc.loc main_arg0)) (m (c.tc.loc main_arg1)) := by
  refine (dats m 0 c).arrAt_eq_of_covers 2 _ (by decide +kernel) fun t hf y => ?_
  blk_simp
  rw [after0_2]
  have e : out0_2 (iblk m c 0 t) (iblk m c 1 t) = k0_pay1 (iblk m c 0 t) (iblk m c 1 t) := by frame_out
  rw [e]
  unfold_payloads
  pointwise [val_main_cst, val_main_v0, val_main_v1, val_main_v2, val_main_v3, val_main_v4, val_main_v5, val_main_v6, val_main_v7]
  refine Sums.sum_same (fun k => ?_) (fun k => ?_)
  all_goals blk_point [iblk, V, idx0, idx1, idx2]

end Cert.Kernel4Ideal.RefValue

end
-- ==== Proof.GluWeightsClaim.lean ====
/- The value claim of the gradient of the gated pair's weights. -/
module

public import proofs.«01_k».proof.Defs
public import proofs.«01_k».proof.Proof.GluWeights

@[expose] public section

set_option maxRecDepth 16384

noncomputable section

namespace Cert.Kernel4Ideal.RefValue

open Kernel4Ideal Kernel4Ideal.Gen Idealize.ShloMosaic Idealize.ShloMosaic.TcCoe Idealize.SL.Sem
open Reference4Ideal.Read

/-- The reference runs, keeps its arguments, and leaves every semaphore at zero. -/
theorem reference_quiescent [hR : Reference4Ideal.Facts] : Cert.quiescent_Reference4Ideal (hReference4Ideal := hR) := by
  intro m ρ _
  refine (θ_run Reference4Ideal.defs _ _).mono (fun r h => ⟨fun c => ?_, sem_eq_zero_of_no_sems (by decide) r.2⟩)
    (Reference4Ideal.Value.run (F := Ideal) m ρ)
  exact (h c).2

/-- Both programs, from memories agreeing on the arguments, run and end with equal results. -/
theorem algebraic [hK : Kernel4Ideal.Facts] [hR : Reference4Ideal.Facts] :
    Cert.algebraic_Kernel4Ideal_Reference4Ideal (hKernel4Ideal := hK) (hReference4Ideal := hR) := by
  intro m ρ m' ρ' _ hagree
  refine ⟨fun c => val_main_v7 (F := Ideal) (m (c.tc.loc main_arg0)) (m (c.tc.loc main_arg1)), ?_, ?_⟩
  · refine (θ_run Kernel4Ideal.defs _ _).mono (fun r h c => ?_) (Kernel4Ideal.Value.run_blocks m ρ)
    obtain ⟨h0, hk⟩ := h c
    exact ⟨h0.trans (final_2 m c), hk⟩
  · refine (θ_run Reference4Ideal.defs _ _).mono (fun r h c => ?_) (Reference4Ideal.Value.run (F := Ideal) m' ρ')
    obtain ⟨h0, hk⟩ := h c
    obtain ⟨e0, e1⟩ := hagree c
    refine ⟨h0.trans ?_, hk⟩
    · rw [e0, e1]
      exact val_main_v7_eq _ _

end Cert.Kernel4Ideal.RefValue

end
-- ==== Proof.FfOutWeight.lean ====
/- The gradient of the output weight of the feed-forward part: the gated activations transposed times the cotangents. -/
module

public import proofs.«01_k».proof.Proof.Gen.Kernel5Ideal.Value
public import proofs.«01_k».proof.Proof.Gen.Reference5Ideal.Run
public import proofs.«01_k».proof.Proof.Gen.Reference5Ideal.Read
public import proofs.«01_k».proof.Proof.Sums
public import Idealize.ShloMosaic.Lib.Pipeline.ValueKit
public import Idealize.ShloMosaic.Lib.Pointwise

@[expose] public section

set_option maxRecDepth 16384

noncomputable section

namespace Cert.Kernel5Ideal.RefValue

open Kernel5Ideal Kernel5Ideal.Gen Idealize.ShloMosaic Idealize.ShloMosaic.TcCoe Idealize.SL.Sem
open Idealize.ShloMosaic.Pipeline (Dat)
open Reference5Ideal.Read

variable (m : (ℓ : Loc nD τ sig) → Buf (Elt Ideal) ℓ)

/-! The block each window visits at a grid point. -/

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The product's array is the reference's: each block is a block of the whole product, every term of its sums in it. -/
theorem final_2 (c : Dev nD) : (dats m 0 c).arrAt 2 cfg0.N = val_main_v6 (F := Ideal) (m (c.tc.loc main_arg0)) (m (c.tc.loc main_arg1)) := by
  refine (dats m 0 c).arrAt_eq_of_covers 2 _ (by decide +kernel) fun t hf y => ?_
  blk_simp
  rw [after0_2]
  have e : out0_2 (iblk m c 0 t) (iblk m c 1 t) = k0_pay1 (iblk m c 0 t) (iblk m c 1 t) := by frame_out
  rw [e]
  unfold_payloads
  pointwise [val_main_cst, val_main_v0, val_main_v1, val_main_v2, val_main_v3, val_main_v4, val_main_v5, val_main_v6]
  refine Sums.sum_swap (fun k => ?_) (fun k => ?_)
  all_goals blk_point [iblk, V, idx0, idx1, idx2]

end Cert.Kernel5Ideal.RefValue

end
-- ==== Proof.FfOutWeightClaim.lean ====
/- The value claim of the gradient of the feed-forward part's last weight. -/
module

public import proofs.«01_k».proof.Defs
public import proofs.«01_k».proof.Proof.FfOutWeight

@[expose] public section

set_option maxRecDepth 16384

noncomputable section

namespace Cert.Kernel5Ideal.RefValue

open Kernel5Ideal Kernel5Ideal.Gen Idealize.ShloMosaic Idealize.ShloMosaic.TcCoe Idealize.SL.Sem
open Reference5Ideal.Read

/-- The reference runs, keeps its arguments, and leaves every semaphore at zero. -/
theorem reference_quiescent [hR : Reference5Ideal.Facts] : Cert.quiescent_Reference5Ideal (hReference5Ideal := hR) := by
  intro m ρ _
  refine (θ_run Reference5Ideal.defs _ _).mono (fun r h => ⟨fun c => ?_, sem_eq_zero_of_no_sems (by decide) r.2⟩)
    (Reference5Ideal.Value.run (F := Ideal) m ρ)
  exact (h c).2

/-- Both programs, from memories agreeing on the arguments, run and end with equal results. -/
theorem algebraic [hK : Kernel5Ideal.Facts] [hR : Reference5Ideal.Facts] :
    Cert.algebraic_Kernel5Ideal_Reference5Ideal (hKernel5Ideal := hK) (hReference5Ideal := hR) := by
  intro m ρ m' ρ' _ hagree
  refine ⟨fun c => val_main_v6 (F := Ideal) (m (c.tc.loc main_arg0)) (m (c.tc.loc main_arg1)), ?_, ?_⟩
  · refine (θ_run Kernel5Ideal.defs _ _).mono (fun r h c => ?_) (Kernel5Ideal.Value.run_blocks m ρ)
    obtain ⟨h0, hk⟩ := h c
    exact ⟨h0.trans (final_2 m c), hk⟩
  · refine (θ_run Reference5Ideal.defs _ _).mono (fun r h c => ?_) (Reference5Ideal.Value.run (F := Ideal) m' ρ')
    obtain ⟨h0, hk⟩ := h c
    obtain ⟨e0, e1⟩ := hagree c
    refine ⟨h0.trans ?_, hk⟩
    · rw [e0, e1]
      exact val_main_v6_eq _ _

end Cert.Kernel5Ideal.RefValue

end
-- ==== Proof.ProjectionWeight.lean ====
/- The gradient of a square projection weight: activations transposed times cotangents, its rows summed in two halves. -/
module

public import proofs.«01_k».proof.Proof.Gen.Kernel6Ideal.Value
public import proofs.«01_k».proof.Proof.Gen.Reference6Ideal.Run
public import proofs.«01_k».proof.Proof.Gen.Reference6Ideal.Read
public import proofs.«01_k».proof.Proof.Sums
public import Idealize.ShloMosaic.Lib.Pipeline.ValueKit
public import Idealize.ShloMosaic.Lib.Pointwise

@[expose] public section

set_option maxRecDepth 16384

noncomputable section

namespace Cert.Kernel6Ideal.RefValue

open Kernel6Ideal Kernel6Ideal.Gen Idealize.ShloMosaic Idealize.ShloMosaic.TcCoe Idealize.SL.Sem
open Idealize.ShloMosaic.Pipeline (Dat)
open Reference6Ideal.Read

variable (m : (ℓ : Loc nD τ sig) → Buf (Elt Ideal) ℓ)

/-! The block each window visits at a grid point. -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)

/-- The array is written back once, after the second half of the rows. -/
theorem last_2 : ∀ t : Fin cfg0.N, (cfg0.win 2).flush t = true → t.val = 1 := (by decide +kernel : ∀ t : Fin grid0.N, _)

/-- What the accumulator holds after the first half of the rows: that half's product. -/
theorem first_half (c : Dev nD) (n : ℕ) (hn : n < cfg0.N) (h : n = 0) :
    (outsAt0 m c n hn).2 = k0_pay2 (iblk m c 0 ⟨n, hn⟩) (iblk m c 1 ⟨n, hn⟩) := by
  have e := outsAt0_A m c ⟨n, hn⟩ (by show n % 2 = 0; omega) (by show ¬n % 2 = 1; omega)
  rw [show outsAt0 m c n hn = _ from e]
  frame_out

/-- The product's array is the reference's: the two halves of each sum add up to the sum. -/
theorem final_2 (c : Dev nD) : (dats m 0 c).arrAt 2 cfg0.N = val_main_v6 (F := Ideal) (m (c.tc.loc main_arg0)) (m (c.tc.loc main_arg1)) := by
  refine (dats m 0 c).arrAt_eq_of_covers 2 _ (by decide +kernel) fun t hf y => ?_
  have ht := last_2 t hf
  blk_simp
  rw [after0_2]
  have e : (outsAt0 m c t.val t.isLt).1 = k0_pay4 (iblk m c 0 t) (iblk m c 1 t) (outsAt0 m c (t.val - 1) (Nat.lt_of_le_of_lt (Nat.sub_le _ _) t.isLt)).2 := by
    rw [outsAt0_B m c t (by omega) (by omega)]; frame_out
    exact congrArg (k0_pay4 _ _) (Memref.IsWhole.read_unread _ _)
  rw [e, first_half m c _ _ (by omega)]
  unfold_payloads
  pointwise [val_main_cst, val_main_v0, val_main_v1, val_main_v2, val_main_v3, val_main_v4, val_main_v5, val_main_v6]
  refine Sums.sum_two_swap rfl (fun k => ?_) (fun k => ?_) (fun k => ?_) (fun k => ?_)
  all_goals blk_point [iblk, V, idx0, idx1, idx2]

end Cert.Kernel6Ideal.RefValue

end
-- ==== Proof.ProjectionWeightClaim.lean ====
/- The value claim of the gradient of a 1024 x 1024 projection. -/
module

public import proofs.«01_k».proof.Defs
public import proofs.«01_k».proof.Proof.ProjectionWeight

@[expose] public section

set_option maxRecDepth 16384

noncomputable section

namespace Cert.Kernel6Ideal.RefValue

open Kernel6Ideal Kernel6Ideal.Gen Idealize.ShloMosaic Idealize.ShloMosaic.TcCoe Idealize.SL.Sem
open Reference6Ideal.Read

/-- The reference runs, keeps its arguments, and leaves every semaphore at zero. -/
theorem reference_quiescent [hR : Reference6Ideal.Facts] : Cert.quiescent_Reference6Ideal (hReference6Ideal := hR) := by
  intro m ρ _
  refine (θ_run Reference6Ideal.defs _ _).mono (fun r h => ⟨fun c => ?_, sem_eq_zero_of_no_sems (by decide) r.2⟩)
    (Reference6Ideal.Value.run (F := Ideal) m ρ)
  exact (h c).2

/-- Both programs, from memories agreeing on the arguments, run and end with equal results. -/
theorem algebraic [hK : Kernel6Ideal.Facts] [hR : Reference6Ideal.Facts] :
    Cert.algebraic_Kernel6Ideal_Reference6Ideal (hKernel6Ideal := hK) (hReference6Ideal := hR) := by
  intro m ρ m' ρ' _ hagree
  refine ⟨fun c => val_main_v6 (F := Ideal) (m (c.tc.loc main_arg0)) (m (c.tc.loc main_arg1)), ?_, ?_⟩
  · refine (θ_run Kernel6Ideal.defs _ _).mono (fun r h c => ?_) (Kernel6Ideal.Value.run_blocks m ρ)
    obtain ⟨h0, hk⟩ := h c
    exact ⟨h0.trans (final_2 m c), hk⟩
  · refine (θ_run Reference6Ideal.defs _ _).mono (fun r h c => ?_) (Reference6Ideal.Value.run (F := Ideal) m' ρ')
    obtain ⟨h0, hk⟩ := h c
    obtain ⟨e0, e1⟩ := hagree c
    refine ⟨h0.trans ?_, hk⟩
    · rw [e0, e1]
      exact val_main_v6_eq _ _

end Cert.Kernel6Ideal.RefValue

end
-- ==== Proof.InWeight.lean ====
/- One half of the gradient of the input projection: half of the columns of the normalised input transposed, times the cotangents of the projection. -/
module

public import proofs.«01_k».proof.Proof.Gen.Kernel7Ideal.Value
public import proofs.«01_k».proof.Proof.Gen.Reference7Ideal.Run
public import proofs.«01_k».proof.Proof.Gen.Reference7Ideal.Read
public import proofs.«01_k».proof.Proof.Sums
public import Idealize.ShloMosaic.Lib.Pipeline.ValueKit
public import Idealize.ShloMosaic.Lib.Pointwise

@[expose] public section

set_option maxRecDepth 16384

noncomputable section

namespace Cert.Kernel7Ideal.RefValue

open Kernel7Ideal Kernel7Ideal.Gen Idealize.ShloMosaic Idealize.ShloMosaic.TcCoe Idealize.SL.Sem
open Idealize.ShloMosaic.Pipeline (Dat)
open Reference7Ideal.Read

variable (m : (ℓ : Loc nD τ sig) → Buf (Elt Ideal) ℓ)

/-! The block each window visits at a grid point. -/

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The product's array is the reference's: each block is a block of the whole product, every term of its sums in it. -/
theorem final_2 (c : Dev nD) : (dats m 0 c).arrAt 2 cfg0.N = val_main_v6 (F := Ideal) (m (c.tc.loc main_arg0)) (m (c.tc.loc main_arg1)) := by
  refine (dats m 0 c).arrAt_eq_of_covers 2 _ (by decide +kernel) fun t hf y => ?_
  blk_simp
  rw [after0_2]
  have e : out0_2 (iblk m c 0 t) (iblk m c 1 t) = k0_pay1 (iblk m c 0 t) (iblk m c 1 t) := by frame_out
  rw [e]
  unfold_payloads
  pointwise [val_main_cst, val_main_v0, val_main_v1, val_main_v2, val_main_v3, val_main_v4, val_main_v5, val_main_v6]
  refine Sums.sum_swap (fun k => ?_) (fun k => ?_)
  all_goals blk_point [iblk, V, idx0, idx1, idx2]

end Cert.Kernel7Ideal.RefValue

end
-- ==== Proof.InWeightClaim.lean ====
/- The value claim of the gradient of half of the input projection. -/
module

public import proofs.«01_k».proof.Defs
public import proofs.«01_k».proof.Proof.InWeight

@[expose] public section

set_option maxRecDepth 16384

noncomputable section

namespace Cert.Kernel7Ideal.RefValue

open Kernel7Ideal Kernel7Ideal.Gen Idealize.ShloMosaic Idealize.ShloMosaic.TcCoe Idealize.SL.Sem
open Reference7Ideal.Read

/-- The reference runs, keeps its arguments, and leaves every semaphore at zero. -/
theorem reference_quiescent [hR : Reference7Ideal.Facts] : Cert.quiescent_Reference7Ideal (hReference7Ideal := hR) := by
  intro m ρ _
  refine (θ_run Reference7Ideal.defs _ _).mono (fun r h => ⟨fun c => ?_, sem_eq_zero_of_no_sems (by decide) r.2⟩)
    (Reference7Ideal.Value.run (F := Ideal) m ρ)
  exact (h c).2

/-- Both programs, from memories agreeing on the arguments, run and end with equal results. -/
theorem algebraic [hK : Kernel7Ideal.Facts] [hR : Reference7Ideal.Facts] :
    Cert.algebraic_Kernel7Ideal_Reference7Ideal (hKernel7Ideal := hK) (hReference7Ideal := hR) := by
  intro m ρ m' ρ' _ hagree
  refine ⟨fun c => val_main_v6 (F := Ideal) (m (c.tc.loc main_arg0)) (m (c.tc.loc main_arg1)), ?_, ?_⟩
  · refine (θ_run Kernel7Ideal.defs _ _).mono (fun r h c => ?_) (Kernel7Ideal.Value.run_blocks m ρ)
    obtain ⟨h0, hk⟩ := h c
    exact ⟨h0.trans (final_2 m c), hk⟩
  · refine (θ_run Reference7Ideal.defs _ _).mono (fun r h c => ?_) (Reference7Ideal.Value.run (F := Ideal) m' ρ')
    obtain ⟨h0, hk⟩ := h c
    obtain ⟨e0, e1⟩ := hagree c
    refine ⟨h0.trans ?_, hk⟩
    · rw [e0, e1]
      exact val_main_v6_eq _ _

end Cert.Kernel7Ideal.RefValue

end
-- ==== Proof.InProjection.lean ====
/- The input projection: the normalised input times the input weight. -/
module

public import proofs.«01_k».proof.Proof.Gen.Kernel8Ideal.Value
public import proofs.«01_k».proof.Proof.Gen.Reference8Ideal.Run
public import proofs.«01_k».proof.Proof.Gen.Reference8Ideal.Read
public import proofs.«01_k».proof.Proof.Sums
public import Idealize.ShloMosaic.Lib.Pipeline.ValueKit
public import Idealize.ShloMosaic.Lib.Pointwise

@[expose] public section

set_option maxRecDepth 16384

noncomputable section

namespace Cert.Kernel8Ideal.RefValue

open Kernel8Ideal Kernel8Ideal.Gen Idealize.ShloMosaic Idealize.ShloMosaic.TcCoe Idealize.SL.Sem
open Idealize.ShloMosaic.Pipeline (Dat)
open Reference8Ideal.Read

variable (m : (ℓ : Loc nD τ sig) → Buf (Elt Ideal) ℓ)

/-! The block each window visits at a grid point. -/

theorem idx0 : ∀ t : Fin cfg0.N, win0_0.index t = ![t.val / 6, 0] := (by decide +kernel : ∀ t : Fin grid0.N, _)
theorem idx1 : ∀ t : Fin cfg0.N, win0_1.index t = ![0, t.val % 6] := (by decide +kernel : ∀ t : Fin grid0.N, _)
theorem idx2 : ∀ t : Fin cfg0.N, win0_2.index t = ![t.val / 6, t.val % 6] := (by decide +kernel : ∀ t : Fin grid0.N, _)

/-- The product's array is the reference's: each block is a block of the whole product, every term of its sums in it. -/
theorem final_2 (c : Dev nD) : (dats m 0 c).arrAt 2 cfg0.N = val_main_v1 (F := Ideal) (m (c.tc.loc main_arg0)) (m (c.tc.loc main_arg1)) := by
  refine (dats m 0 c).arrAt_eq_of_covers 2 _ (by decide +kernel) fun t hf y => ?_
  blk_simp
  rw [after0_2]
  have e : out0_2 (iblk m c 0 t) (iblk m c 1 t) = k0_pay1 (iblk m c 0 t) (iblk m c 1 t) := by frame_out
  rw [e]
  unfold_payloads
  pointwise [val_main_v0, val_main_v1]
  blk_point [iblk, V, idx0, idx1, idx2]

end Cert.Kernel8Ideal.RefValue

end
-- ==== Proof.InProjectionClaim.lean ====
/- The value claim of the input projection. -/
module

public import proofs.«01_k».proof.Defs
public import proofs.«01_k».proof.Proof.InProjection

@[expose] public section

set_option maxRecDepth 16384

noncomputable section

namespace Cert.Kernel8Ideal.RefValue

open Kernel8Ideal Kernel8Ideal.Gen Idealize.ShloMosaic Idealize.ShloMosaic.TcCoe Idealize.SL.Sem
open Reference8Ideal.Read

/-- The reference runs, keeps its arguments, and leaves every semaphore at zero. -/
theorem reference_quiescent [hR : Reference8Ideal.Facts] : Cert.quiescent_Reference8Ideal (hReference8Ideal := hR) := by
  intro m ρ _
  refine (θ_run Reference8Ideal.defs _ _).mono (fun r h => ⟨fun c => ?_, sem_eq_zero_of_no_sems (by decide) r.2⟩)
    (Reference8Ideal.Value.run (F := Ideal) m ρ)
  exact (h c).2

/-- Both programs, from memories agreeing on the arguments, run and end with equal results. -/
theorem algebraic [hK : Kernel8Ideal.Facts] [hR : Reference8Ideal.Facts] :
    Cert.algebraic_Kernel8Ideal_Reference8Ideal (hKernel8Ideal := hK) (hReference8Ideal := hR) := by
  intro m ρ m' ρ' _ hagree
  refine ⟨fun c => val_main_v1 (F := Ideal) (m (c.tc.loc main_arg0)) (m (c.tc.loc main_arg1)), ?_, ?_⟩
  · refine (θ_run Kernel8Ideal.defs _ _).mono (fun r h c => ?_) (Kernel8Ideal.Value.run_blocks m ρ)
    obtain ⟨h0, hk⟩ := h c
    exact ⟨h0.trans (final_2 m c), hk⟩
  · refine (θ_run Reference8Ideal.defs _ _).mono (fun r h c => ?_) (Reference8Ideal.Value.run (F := Ideal) m' ρ')
    obtain ⟨h0, hk⟩ := h c
    obtain ⟨e0, e1⟩ := hagree c
    refine ⟨h0.trans ?_, hk⟩
    · rw [e0, e1]
      exact val_main_v1_eq _ _

end Cert.Kernel8Ideal.RefValue

end
-- ==== Proof.MergeForward.lean ====
/- The forward pass of the gated merge, its output projection, the residual and the second normalisation. -/
module

public import proofs.«01_k».proof.Proof.Gen.Kernel9Ideal.Value
public import proofs.«01_k».proof.Proof.Gen.Reference9Ideal.Run
public import proofs.«01_k».proof.Proof.Gen.Reference9Ideal.Read
public import proofs.«01_k».proof.Proof.Sums
public import Idealize.ShloMosaic.Lib.Pipeline.ValueKit
public import Idealize.ShloMosaic.Lib.Pointwise

@[expose] public section

set_option maxRecDepth 16384

noncomputable section

namespace Cert.Kernel9Ideal.RefValue

open Kernel9Ideal Kernel9Ideal.Gen Idealize.ShloMosaic Idealize.ShloMosaic.TcCoe Idealize.SL.Sem
open Idealize.ShloMosaic.Pipeline (Dat)
open Reference9Ideal.Read

variable (m : (ℓ : Loc nD τ sig) → Buf (Elt Ideal) ℓ)

/-! The arguments of the call, at a device. -/

abbrev arg0 (c : Dev nD) := m (c.tc.loc main_arg0)
abbrev arg1 (c : Dev nD) := m (c.tc.loc main_arg1)
abbrev arg2 (c : Dev nD) := m (c.tc.loc main_arg2)
abbrev arg3 (c : Dev nD) := m (c.tc.loc main_arg3)
abbrev arg4 (c : Dev nD) := m (c.tc.loc main_arg4)
abbrev arg5 (c : Dev nD) := m (c.tc.loc main_arg5)
abbrev arg6 (c : Dev nD) := m (c.tc.loc main_arg6)
abbrev arg7 (c : Dev nD) := m (c.tc.loc main_arg7)
abbrev arg8 (c : Dev nD) := m (c.tc.loc main_arg8)
abbrev arg9 (c : Dev nD) := m (c.tc.loc main_arg9)
abbrev arg10 (c : Dev nD) := m (c.tc.loc main_arg10)

/-! The block each window visits at a grid point. -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx7 : ∀ t : Fin cfg0.N, win0_7.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val, 0] := (by decide +kernel : ∀ t : Fin grid0.N, _)
theorem idx2 : ∀ t : Fin cfg0.N, win0_2.index t = ![t.val, 2] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)

theorem point_lt (t : Fin cfg0.N) : t.val < 16 := lt_of_lt_of_eq t.isLt N_0

/-! What each input window holds at a grid point. -/

/-- The gate block of a point: rows `256 t …`, columns `4096 …` of the projection. -/
theorem block2 (c : Dev nD) (t : Fin cfg0.N) (j : S256x2048.Idx) :
    X0_2 m c t j = (arg2 m c (ValueIdx.ix2 ⟨t.val * 256 + (j 0).val, by have := point_lt t; have : (j 0).val < 256 := (j 0).isLt; omega⟩ ⟨4096 + (j 1).val, by have : (j 1).val < 2048 := (j 1).isLt; omega⟩) : EReal) := by
  unfold X0_2 Pipeline.Window.fill
  refine (dif_pos (moved0_2 t j)).trans ?_
  blk_ext! [iblk, V, idx2]

theorem block0 (c : Dev nD) (t : Fin cfg0.N) (j : S256x1024.Idx) :
    iblk m c 0 t j = (arg0 m c (ValueIdx.ix2 ⟨t.val * 256 + (j 0).val, by have := point_lt t; have : (j 0).val < 256 := (j 0).isLt; omega⟩ (j 1)) : EReal) := by
  blk_ext! [iblk, V, idx0]

theorem block1 (c : Dev nD) (t : Fin cfg0.N) (j : S256x1024.Idx) :
    iblk m c 1 t j = (arg1 m c (ValueIdx.ix2 ⟨t.val * 256 + (j 0).val, by have := point_lt t; have : (j 0).val < 256 := (j 0).isLt; omega⟩ (j 1)) : EReal) := by
  blk_ext! [iblk, V, idx1]

theorem block7 (c : Dev nD) (t : Fin cfg0.N) (j : S256x1024.Idx) :
    iblk m c 7 t j = (arg7 m c (ValueIdx.ix2 ⟨t.val * 256 + (j 0).val, by have := point_lt t; have : (j 0).val < 256 := (j 0).isLt; omega⟩ (j 1)) : EReal) := by
  blk_ext! [iblk, V, idx7]

theorem read_v1 (c : Dev nD) : V m c main_v1 = (truncf .bf16 (arg4 m c : FVec Ideal S1024x1024 .f32) bitsLt_bf16_f32 : FVec Ideal S1024x1024 .bf16) := by
  entry_read; rfl

theorem block4 (c : Dev nD) (t : Fin cfg0.N) (j : S1024x1024.Idx) : iblk m c 4 t j = (arg4 m c j : EReal) := by
  show V m c main_v1 (((cfg0.win 4).blk t).view.emb j) = _
  rw [read_v1]
  pointwise []
  blk_ext! [idx4]

theorem read_v2 (c : Dev nD) : V m c main_v2 = (truncf .bf16 (arg5 m c : FVec Ideal S1024x1024 .f32) bitsLt_bf16_f32 : FVec Ideal S1024x1024 .bf16) := by
  entry_read; rfl

theorem block5 (c : Dev nD) (t : Fin cfg0.N) (j : S1024x1024.Idx) : iblk m c 5 t j = (arg5 m c j : EReal) := by
  show V m c main_v2 (((cfg0.win 5).blk t).view.emb j) = _
  rw [read_v2]
  pointwise []
  blk_ext! [idx5]

theorem read_v0 (c : Dev nD) : V m c main_v0 = (truncf .bf16 (arg6 m c : FVec Ideal S1024x1024 .f32) bitsLt_bf16_f32 : FVec Ideal S1024x1024 .bf16) := by
  entry_read; rfl

theorem block6 (c : Dev nD) (t : Fin cfg0.N) (j : S1024x1024.Idx) : iblk m c 6 t j = (arg6 m c j : EReal) := by
  show V m c main_v0 (((cfg0.win 6).blk t).view.emb j) = _
  rw [read_v0]
  pointwise []
  blk_ext! [idx6]

theorem read_v5 (c : Dev nD) : V m c main_v5 = shapeCast S1x2048 (arg3 m c) shapeCasts_S2048_S1x2048 := by
  entry_read; rfl

theorem block3 (c : Dev nD) (t : Fin cfg0.N) (j : S1x2048.Idx) : iblk m c 3 t j = (arg3 m c (ValueIdx.ix1 (j 1)) : EReal) := by
  show V m c main_v5 (((cfg0.win 3).blk t).view.emb j) = _
  rw [read_v5]
  pointwise []
  blk_ext! [idx3]

theorem read_v6 (c : Dev nD) : V m c main_v6 = shapeCast S1x1024 (arg9 m c) shapeCasts_S1024_S1x1024 := by
  entry_read; rfl

theorem block9 (c : Dev nD) (t : Fin cfg0.N) (j : S1x1024.Idx) : iblk m c 9 t j = (arg9 m c (ValueIdx.ix1 (j 1)) : EReal) := by
  show V m c main_v6 (((cfg0.win 9).blk t).view.emb j) = _
  rw [read_v6]
  pointwise []
  blk_ext! [idx9]

theorem read_v7 (c : Dev nD) : V m c main_v7 = shapeCast S1x1024 (arg10 m c) shapeCasts_S1024_S1x1024 := by
  entry_read; rfl

theorem block10 (c : Dev nD) (t : Fin cfg0.N) (j : S1x1024.Idx) : iblk m c 10 t j = (arg10 m c (ValueIdx.ix1 (j 1)) : EReal) := by
  show V m c main_v7 (((cfg0.win 10).blk t).view.emb j) = _
  rw [read_v7]
  pointwise []
  blk_ext! [idx10]

theorem read_v4 (c : Dev nD) : V m c main_v4 = pad S8x1024 ![0, 0] ![2, 0] ![0, 0] (shapeCast S6x1024 (arg8 m c) shapeCasts_S1x6144_S6x1024) (sitofp (F := Ideal) .f32 (constantI S_ 32 0#32) : FVec Ideal S_ .f32) pads_S6x1024_S8x1024_020_000 h_S_ := by
  entry_read; rfl

/-- Row `r` of the six modulation rows, stacked and padded to eight. -/
theorem padded (x : FVec Ideal S1x6144 .f32) (v : FVec Ideal S_ .f32) (r : Fin 8) (q : Fin 1024) (h : r.val < 6) :
    pad S8x1024 ![0, 0] ![2, 0] ![0, 0] (shapeCast S6x1024 x shapeCasts_S1x6144_S6x1024) v pads_S6x1024_S8x1024_020_000 h_S_ (ValueIdx.ix2 r q)
      = (x (ValueIdx.ix2 0 ⟨r.val * 1024 + q.val, by omega⟩) : EReal) := by
  pointwise []
  exact dif_pos h

/-- Row 2 of the modulation block. -/
theorem row2 (c : Dev nD) (t : Fin cfg0.N) (q : Fin 1024) : iblk m c 8 t (ValueIdx.ix2 (⟨2, by decide⟩ : Fin 8) q) = (arg8 m c (ValueIdx.ix2 0 ⟨2048 + q.val, by omega⟩) : EReal) := by
  show V m c main_v4 (((cfg0.win 8).blk t).view.emb (ValueIdx.ix2 (⟨2, by decide⟩ : Fin 8) q)) = _
  rw [read_v4]
  have h : ((cfg0.win 8).blk t).view.emb (ValueIdx.ix2 (⟨2, by decide⟩ : Fin 8) q) = ValueIdx.ix2 (⟨2, by decide⟩ : Fin 8) q := by
    blk_ext! [idx8]
  rw [h]
  exact padded (arg8 m c) _ _ _ (show 2 < 6 by decide)

/-- Row 3 of the modulation block. -/
theorem row3 (c : Dev nD) (t : Fin cfg0.N) (q : Fin 1024) : iblk m c 8 t (ValueIdx.ix2 (⟨3, by decide⟩ : Fin 8) q) = (arg8 m c (ValueIdx.ix2 0 ⟨3072 + q.val, by omega⟩) : EReal) := by
  show V m c main_v4 (((cfg0.win 8).blk t).view.emb (ValueIdx.ix2 (⟨3, by decide⟩ : Fin 8) q)) = _
  rw [read_v4]
  have h : ((cfg0.win 8).blk t).view.emb (ValueIdx.ix2 (⟨3, by decide⟩ : Fin 8) q) = ValueIdx.ix2 (⟨3, by decide⟩ : Fin 8) q := by
    blk_ext! [idx8]
  rw [h]
  exact padded (arg8 m c) _ _ _ (show 3 < 6 by decide)

/-- Row 4 of the modulation block. -/
theorem row4 (c : Dev nD) (t : Fin cfg0.N) (q : Fin 1024) : iblk m c 8 t (ValueIdx.ix2 (⟨4, by decide⟩ : Fin 8) q) = (arg8 m c (ValueIdx.ix2 0 ⟨4096 + q.val, by omega⟩) : EReal) := by
  show V m c main_v4 (((cfg0.win 8).blk t).view.emb (ValueIdx.ix2 (⟨4, by decide⟩ : Fin 8) q)) = _
  rw [read_v4]
  have h : ((cfg0.win 8).blk t).view.emb (ValueIdx.ix2 (⟨4, by decide⟩ : Fin 8) q) = ValueIdx.ix2 (⟨4, by decide⟩ : Fin 8) q := by
    blk_ext! [idx8]
  rw [h]
  exact padded (arg8 m c) _ _ _ (show 4 < 6 by decide)

/-! What the body computes at a grid point: the reference's arrays at the point's rows. -/

theorem merged (c : Dev nD) (t : Fin cfg0.N) (z : S256x1024.Idx) :
    k0_pay4 (iblk m c 0 t) (iblk m c 4 t) (iblk m c 1 t) (iblk m c 5 t) (X0_2 m c t) (iblk m c 3 t) z = val_main_v24 (F := Ideal) (arg0 m c) (arg1 m c) (arg2 m c) (arg3 m c) (arg4 m c) (arg5 m c) (ValueIdx.ix2 ⟨t.val * 256 + (z 0).val, by have := point_lt t; have : (z 0).val < 256 := (z 0).isLt; omega⟩ (z 1)) := by
  unfold_payloads
  pointwise [Ideal.logistic, val_main_v0, val_main_v1, val_main_v2, val_main_v3, val_main_v4, val_main_v5, val_main_v6, val_main_v7, val_main_v8, val_main_v9, val_main_v10, val_main_v11, val_main_cst, val_main_v12, val_main_v13, val_main_cst_0, val_main_v14, val_main_v15, val_main_v16, val_main_v17, val_main_v18, val_main_v19, val_main_v20, val_main_v21, val_main_v22, val_main_v23, val_main_v24, val_main_cst_1, val_main_v26, val_main_v27, val_main_v28, val_main_v29, val_main_v30, val_main_cst_2, val_main_v31, val_main_v32, val_main_cst_3, val_main_v33, val_main_v34, val_main_v35, val_main_v36, val_main_v37, val_main_cst_4, val_main_v38, val_main_v39, val_main_cst_5, val_main_v40, val_main_v41, val_main_v42, val_main_v43, val_main_cst_6, val_main_v44, val_main_v45, val_main_v46, val_main_v47, val_main_v48, val_main_v49, val_main_v50, val_main_v51, val_main_v52, val_main_v53, val_main_v54, val_main_cst_7, val_main_v55, val_main_v56, val_main_v57, val_main_v58, val_main_v59, val_main_v60, val_main_v61, val_main_v62]
  simp only [block0, block1, block2, block3, block4, block5, block6, block7, block9, block10]
  rfl

theorem projected (c : Dev nD) (t : Fin cfg0.N) (z : S256x1024.Idx) :
    k0_pay6 (iblk m c 0 t) (iblk m c 4 t) (iblk m c 1 t) (iblk m c 5 t) (X0_2 m c t) (iblk m c 3 t) (iblk m c 6 t) z = val_main_v25 (F := Ideal) (arg0 m c) (arg1 m c) (arg2 m c) (arg3 m c) (arg4 m c) (arg5 m c) (arg6 m c) (ValueIdx.ix2 ⟨t.val * 256 + (z 0).val, by have := point_lt t; have : (z 0).val < 256 := (z 0).isLt; omega⟩ (z 1)) := by
  unfold k0_pay6
  pointwise [val_main_v25]
  exact Sums.sum_same (fun k => merged m c t (ValueIdx.ix2 (z 0) k)) (fun k => block6 m c t (ValueIdx.ix2 k (z 1)))

theorem residual (c : Dev nD) (t : Fin cfg0.N) (z : S256x1024.Idx) :
    (k0_pay7 (k0_pay6 (iblk m c 0 t) (iblk m c 4 t) (iblk m c 1 t) (iblk m c 5 t) (X0_2 m c t) (iblk m c 3 t) (iblk m c 6 t)) (iblk m c 7 t) (View.ld (iblk m c 8 t) (Rect.unit ![2, 0] ![1, 1024] inb_S8x1024_S1x1024_2_0))) z = val_main_v30 (F := Ideal) (arg0 m c) (arg1 m c) (arg2 m c) (arg3 m c) (arg4 m c) (arg5 m c) (arg6 m c) (arg7 m c) (arg8 m c) (ValueIdx.ix2 ⟨t.val * 256 + (z 0).val, by have := point_lt t; have : (z 0).val < 256 := (z 0).isLt; omega⟩ (z 1)) := by
  unfold k0_pay7
  pointwise [val_main_v0, val_main_v1, val_main_v2, val_main_v3, val_main_v4, val_main_v5, val_main_v6, val_main_v7, val_main_v8, val_main_v9, val_main_v10, val_main_v11, val_main_cst, val_main_v12, val_main_v13, val_main_cst_0, val_main_v14, val_main_v15, val_main_v16, val_main_v17, val_main_v18, val_main_v19, val_main_v20, val_main_v21, val_main_v22, val_main_v23, val_main_v24, val_main_cst_1, val_main_v26, val_main_v27, val_main_v28, val_main_v29, val_main_v30, val_main_cst_2, val_main_cst_3, val_main_v33, val_main_v34, val_main_v35, val_main_v36, val_main_v37, val_main_cst_4, val_main_v38, val_main_v39, val_main_cst_5, val_main_v40, val_main_v41, val_main_v42, val_main_v43, val_main_cst_6, val_main_v44, val_main_v45, val_main_v46, val_main_v47, val_main_v48, val_main_v49, val_main_v50, val_main_v51, val_main_v52, val_main_v53, val_main_v54, val_main_cst_7, val_main_v55, val_main_v56, val_main_v57, val_main_v58, val_main_v59, val_main_v60, val_main_v61, val_main_v62]
  simp only [projected, block0, block1, block2, block3, block4, block5, block6, block7, block9, block10]
  refine congrArg₂ (· + ·) rfl (congrArg₂ (· * ·) (row2 m c t (z 1)) rfl)

theorem normalised (c : Dev nD) (t : Fin cfg0.N) (z : S256x1024.Idx) :
    k0_pay1 (k0_pay8 (k0_pay6 (iblk m c 0 t) (iblk m c 4 t) (iblk m c 1 t) (iblk m c 5 t) (X0_2 m c t) (iblk m c 3 t) (iblk m c 6 t)) (iblk m c 7 t) (View.ld (iblk m c 8 t) (Rect.unit ![2, 0] ![1, 1024] inb_S8x1024_S1x1024_2_0)) (iblk m c 9 t) (iblk m c 10 t) (View.ld (iblk m c 8 t) (Rect.unit ![4, 0] ![1, 1024] inb_S8x1024_S1x1024_4_0))) (View.ld (iblk m c 8 t) (Rect.unit ![3, 0] ![1, 1024] inb_S8x1024_S1x1024_3_0)) z = val_main_v62 (F := Ideal) (arg0 m c) (arg1 m c) (arg2 m c) (arg3 m c) (arg4 m c) (arg5 m c) (arg6 m c) (arg7 m c) (arg8 m c) (arg9 m c) (arg10 m c) (ValueIdx.ix2 ⟨t.val * 256 + (z 0).val, by have := point_lt t; have : (z 0).val < 256 := (z 0).isLt; omega⟩ (z 1)) := by
  unfold k0_pay1 k0_pay8
  pointwise [val_main_v0, val_main_v1, val_main_v2, val_main_v3, val_main_v4, val_main_v5, val_main_v6, val_main_v7, val_main_v8, val_main_v9, val_main_v10, val_main_v11, val_main_cst, val_main_v12, val_main_v13, val_main_cst_0, val_main_v14, val_main_v15, val_main_v16, val_main_v17, val_main_v18, val_main_v19, val_main_v20, val_main_v21, val_main_v22, val_main_v23, val_main_v24, val_main_v25, val_main_cst_1, val_main_v26, val_main_v27, val_main_v28, val_main_v29, val_main_cst_2, val_main_v31, val_main_v32, val_main_cst_3, val_main_v33, val_main_v34, val_main_v35, val_main_v36, val_main_v37, val_main_cst_4, val_main_v38, val_main_v39, val_main_cst_5, val_main_v40, val_main_v41, val_main_v42, val_main_v43, val_main_cst_6, val_main_v44, val_main_v45, val_main_v46, val_main_v47, val_main_v48, val_main_v49, val_main_v50, val_main_v51, val_main_v52, val_main_v53, val_main_v54, val_main_cst_7, val_main_v55, val_main_v56, val_main_v57, val_main_v58, val_main_v59, val_main_v60, val_main_v61, val_main_v62]
  simp only [residual, block0, block1, block2, block3, block4, block5, block6, block7, block9, block10]
  exact congrArg₂ (· + ·) (congrArg₂ (· * ·) rfl (congrArg (1 + ·) (row4 m c t (z 1)))) (row3 m c t (z 1))

theorem branch1 (c : Dev nD) (t : Fin cfg0.N) (z : S256x1024.Idx) : k0_pay2 (iblk m c 0 t) (iblk m c 4 t) z = val_main_v17 (F := Ideal) (arg0 m c) (arg4 m c) (ValueIdx.ix2 ⟨t.val * 256 + (z 0).val, by have := point_lt t; have : (z 0).val < 256 := (z 0).isLt; omega⟩ (z 1)) := by
  unfold_payloads
  pointwise [val_main_v17, val_main_v16]
  exact Sums.sum_same (fun k => block0 m c t (ValueIdx.ix2 (z 0) k)) (fun k => block4 m c t (ValueIdx.ix2 k (z 1)))

theorem branch2 (c : Dev nD) (t : Fin cfg0.N) (z : S256x1024.Idx) : k0_pay3 (iblk m c 1 t) (iblk m c 5 t) z = val_main_v19 (F := Ideal) (arg1 m c) (arg5 m c) (ValueIdx.ix2 ⟨t.val * 256 + (z 0).val, by have := point_lt t; have : (z 0).val < 256 := (z 0).isLt; omega⟩ (z 1)) := by
  unfold_payloads
  pointwise [val_main_v19, val_main_v18]
  exact Sums.sum_same (fun k => block1 m c t (ValueIdx.ix2 (z 0) k)) (fun k => block5 m c t (ValueIdx.ix2 k (z 1)))

theorem merged_stored (c : Dev nD) (t : Fin cfg0.N) (z : S256x1024.Idx) : k0_pay5 (iblk m c 0 t) (iblk m c 4 t) (iblk m c 1 t) (iblk m c 5 t) (X0_2 m c t) (iblk m c 3 t) z = val_main_v61 (F := Ideal) (arg0 m c) (arg1 m c) (arg2 m c) (arg3 m c) (arg4 m c) (arg5 m c) (ValueIdx.ix2 ⟨t.val * 256 + (z 0).val, by have := point_lt t; have : (z 0).val < 256 := (z 0).isLt; omega⟩ (z 1)) :=
  merged m c t z

theorem final_11 (c : Dev nD) : (dats m 0 c).arrAt 11 cfg0.N = val_main_v17 (F := Ideal) (arg0 m c) (arg4 m c) := by
  refine (dats m 0 c).arrAt_eq_of_covers 11 _ (by decide +kernel) fun t hf y => ?_
  blk_simp
  rw [after0_11]
  have e : (outsAt0 m c t).1 = k0_pay2 (iblk m c 0 t) (iblk m c 4 t) := by frame_out
  rw [e]
  refine (branch1 m c t y).trans (congrArg (val_main_v17 (F := Ideal) (arg0 m c) (arg4 m c)) ?_)
  blk_ext! [idx11]

theorem final_12 (c : Dev nD) : (dats m 0 c).arrAt 12 cfg0.N = val_main_v19 (F := Ideal) (arg1 m c) (arg5 m c) := by
  refine (dats m 0 c).arrAt_eq_of_covers 12 _ (by decide +kernel) fun t hf y => ?_
  blk_simp
  rw [after0_12]
  have e : (outsAt0 m c t).2.1 = k0_pay3 (iblk m c 1 t) (iblk m c 5 t) := by frame_out
  rw [e]
  refine (branch2 m c t y).trans (congrArg (val_main_v19 (F := Ideal) (arg1 m c) (arg5 m c)) ?_)
  blk_ext! [idx12]

theorem final_13 (c : Dev nD) : (dats m 0 c).arrAt 13 cfg0.N = val_main_v61 (F := Ideal) (arg0 m c) (arg1 m c) (arg2 m c) (arg3 m c) (arg4 m c) (arg5 m c) := by
  refine (dats m 0 c).arrAt_eq_of_covers 13 _ (by decide +kernel) fun t hf y => ?_
  blk_simp
  rw [after0_13]
  have e : (outsAt0 m c t).2.2.1 = k0_pay5 (iblk m c 0 t) (iblk m c 4 t) (iblk m c 1 t) (iblk m c 5 t) (X0_2 m c t) (iblk m c 3 t) := by frame_out
  rw [e]
  refine (merged_stored m c t y).trans (congrArg (val_main_v61 (F := Ideal) (arg0 m c) (arg1 m c) (arg2 m c) (arg3 m c) (arg4 m c) (arg5 m c)) ?_)
  blk_ext! [idx13]

theorem final_14 (c : Dev nD) : (dats m 0 c).arrAt 14 cfg0.N = val_main_v25 (F := Ideal) (arg0 m c) (arg1 m c) (arg2 m c) (arg3 m c) (arg4 m c) (arg5 m c) (arg6 m c) := by
  refine (dats m 0 c).arrAt_eq_of_covers 14 _ (by decide +kernel) fun t hf y => ?_
  blk_simp
  rw [after0_14]
  have e : (outsAt0 m c t).2.2.2.1 = (k0_pay6 (iblk m c 0 t) (iblk m c 4 t) (iblk m c 1 t) (iblk m c 5 t) (X0_2 m c t) (iblk m c 3 t) (iblk m c 6 t)) := by frame_out
  rw [e]
  refine (projected m c t y).trans (congrArg (val_main_v25 (F := Ideal) (arg0 m c) (arg1 m c) (arg2 m c) (arg3 m c) (arg4 m c) (arg5 m c) (arg6 m c)) ?_)
  blk_ext! [idx14]

theorem final_15 (c : Dev nD) : (dats m 0 c).arrAt 15 cfg0.N = val_main_v30 (F := Ideal) (arg0 m c) (arg1 m c) (arg2 m c) (arg3 m c) (arg4 m c) (arg5 m c) (arg6 m c) (arg7 m c) (arg8 m c) := by
  refine (dats m 0 c).arrAt_eq_of_covers 15 _ (by decide +kernel) fun t hf y => ?_
  blk_simp
  rw [after0_15]
  have e : (outsAt0 m c t).2.2.2.2.1 = (k0_pay7 (k0_pay6 (iblk m c 0 t) (iblk m c 4 t) (iblk m c 1 t) (iblk m c 5 t) (X0_2 m c t) (iblk m c 3 t) (iblk m c 6 t)) (iblk m c 7 t) (View.ld (iblk m c 8 t) (Rect.unit ![2, 0] ![1, 1024] inb_S8x1024_S1x1024_2_0))) := by frame_out; rfl
  rw [e]
  refine (residual m c t y).trans (congrArg (val_main_v30 (F := Ideal) (arg0 m c) (arg1 m c) (arg2 m c) (arg3 m c) (arg4 m c) (arg5 m c) (arg6 m c) (arg7 m c) (arg8 m c)) ?_)
  blk_ext! [idx15]

theorem final_16 (c : Dev nD) : (dats m 0 c).arrAt 16 cfg0.N = val_main_v62 (F := Ideal) (arg0 m c) (arg1 m c) (arg2 m c) (arg3 m c) (arg4 m c) (arg5 m c) (arg6 m c) (arg7 m c) (arg8 m c) (arg9 m c) (arg10 m c) := by
  refine (dats m 0 c).arrAt_eq_of_covers 16 _ (by decide +kernel) fun t hf y => ?_
  blk_simp
  rw [after0_16]
  have e : (outsAt0 m c t).2.2.2.2.2 = k0_pay1 (k0_pay8 (k0_pay6 (iblk m c 0 t) (iblk m c 4 t) (iblk m c 1 t) (iblk m c 5 t) (X0_2 m c t) (iblk m c 3 t) (iblk m c 6 t)) (iblk m c 7 t) (View.ld (iblk m c 8 t) (Rect.unit ![2, 0] ![1, 1024] inb_S8x1024_S1x1024_2_0)) (iblk m c 9 t) (iblk m c 10 t) (View.ld (iblk m c 8 t) (Rect.unit ![4, 0] ![1, 1024] inb_S8x1024_S1x1024_4_0))) (View.ld (iblk m c 8 t) (Rect.unit ![3, 0] ![1, 1024] inb_S8x1024_S1x1024_3_0)) := by frame_out; rfl
  rw [e]
  refine (normalised m c t y).trans (congrArg (val_main_v62 (F := Ideal) (arg0 m c) (arg1 m c) (arg2 m c) (arg3 m c) (arg4 m c) (arg5 m c) (arg6 m c) (arg7 m c) (arg8 m c) (arg9 m c) (arg10 m c)) ?_)
  blk_ext! [idx16]

end Cert.Kernel9Ideal.RefValue

end
-- ==== Proof.MergeForwardClaim.lean ====
/- The value claim of the forward pass of the gated merge. -/
module

public import proofs.«01_k».proof.Defs
public import proofs.«01_k».proof.Proof.MergeForward

@[expose] public section

set_option maxRecDepth 16384

noncomputable section

namespace Cert.Kernel9Ideal.RefValue

open Kernel9Ideal Kernel9Ideal.Gen Idealize.ShloMosaic Idealize.ShloMosaic.TcCoe Idealize.SL.Sem
open Reference9Ideal.Read

/-- The reference runs, keeps its arguments, and leaves every semaphore at zero. -/
theorem reference_quiescent [hR : Reference9Ideal.Facts] : Cert.quiescent_Reference9Ideal (hReference9Ideal := hR) := by
  intro m ρ _
  refine (θ_run Reference9Ideal.defs _ _).mono (fun r h => ⟨fun c => ?_, sem_eq_zero_of_no_sems (by decide) r.2⟩)
    (Reference9Ideal.Value.run (F := Ideal) m ρ)
  exact (h c).2.2.2.2.2.2

/-- Both programs, from memories agreeing on the arguments, run and end with equal results. -/
theorem algebraic [hK : Kernel9Ideal.Facts] [hR : Reference9Ideal.Facts] :
    Cert.algebraic_Kernel9Ideal_Reference9Ideal (hKernel9Ideal := hK) (hReference9Ideal := hR) := by
  intro m ρ m' ρ' _ hagree
  refine ⟨fun c => val_main_v17 (F := Ideal) (m (c.tc.loc main_arg0)) (m (c.tc.loc main_arg4)), fun c => val_main_v19 (F := Ideal) (m (c.tc.loc main_arg1)) (m (c.tc.loc main_arg5)), fun c => val_main_v61 (F := Ideal) (m (c.tc.loc main_arg0)) (m (c.tc.loc main_arg1)) (m (c.tc.loc main_arg2)) (m (c.tc.loc main_arg3)) (m (c.tc.loc main_arg4)) (m (c.tc.loc main_arg5)), fun c => val_main_v25 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)), fun c => val_main_v30 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)), fun c => val_main_v62 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)), ?_, ?_⟩
  · refine (θ_run Kernel9Ideal.defs _ _).mono (fun r h c => ?_) (Kernel9Ideal.Value.run_blocks m ρ)
    obtain ⟨h0, h1, h2, h3, h4, h5, hk⟩ := h c
    exact ⟨h0.trans (final_11 m c), h1.trans (final_12 m c), h2.trans (final_13 m c), h3.trans (final_14 m c), h4.trans (final_15 m c), h5.trans (final_16 m c), hk⟩
  · refine (θ_run Reference9Ideal.defs _ _).mono (fun r h c => ?_) (Reference9Ideal.Value.run (F := Ideal) m' ρ')
    obtain ⟨h0, h1, h2, h3, h4, h5, hk⟩ := h c
    obtain ⟨e0, e1, e2, e3, e4, e5, e6, e7, e8, e9, e10⟩ := hagree c
    refine ⟨h0.trans ?_, h1.trans ?_, h2.trans ?_, h3.trans ?_, h4.trans ?_, h5.trans ?_, hk⟩
    · rw [e0, e4]
      exact val_main_v17_eq _ _
    · rw [e1, e5]
      exact val_main_v19_eq _ _
    · rw [e0, e1, e2, e3, e4, e5]
      exact val_main_v61_eq _ _ _ _ _ _
    · rw [e0, e1, e2, e3, e4, e5, e6]
      exact val_main_v25_eq _ _ _ _ _ _ _
    · rw [e0, e1, e2, e3, e4, e5, e6, e7, e8]
      exact val_main_v30_eq _ _ _ _ _ _ _ _ _
    · refine (val_main_v62_eq _ _).trans ?_
      beta_reduce
      rw [e0, e1, e2, e3, e4, e5, e6, e7, e8, e9, e10]

end Cert.Kernel9Ideal.RefValue

end
-- ==== Proof.LayerNorm.lean ====
/- The gradient of the layer norm of a row of real numbers: as the calls compute it, and as differentiation writes it. -/
module

public import proofs.«01_k».proof.Proof.Finite

@[expose] public section

noncomputable section

namespace Cert.LayerNorm

open Idealize.ShloMosaic

/-- The number of features, as the programs' constant. -/
abbrev width : EReal := Ideal.ofBits .f32 0x44800000#32
/-- The number added to the variance. -/
abbrev eps : EReal := Ideal.ofBits .f32 0x3727C5AC#32
/-- Half of minus one, and two. -/
abbrev mhalf : EReal := Ideal.ofBits .f32 0xBF000000#32
abbrev two : EReal := Ideal.ofBits .f32 0x40000000#32

theorem width_coe : width = ((1024 : ℝ) : EReal) := by
  simp [width, Ideal.ofBits, Ideal.ieee, -EReal.coe_mul]; norm_num
theorem mhalf_coe : mhalf = ((-1 / 2 : ℝ) : EReal) := by
  simp [mhalf, Ideal.ofBits, Ideal.ieee, -EReal.coe_mul]; norm_num
theorem two_coe : two = ((2 : ℝ) : EReal) := by
  refine Eq.trans (b := ((8388608 * (2 ^ 22)⁻¹ : ℝ) : EReal)) ?_ (congrArg _ (by norm_num))
  simp [two, Ideal.ofBits, Ideal.ieee]
theorem eps_coe : ∃ e : ℝ, 0 < e ∧ eps = (e : EReal) := by
  refine ⟨10995116 / 2 ^ 40, by norm_num, ?_⟩
  simp [eps, Ideal.ofBits, Ideal.ieee, -EReal.coe_mul]; norm_num

/-- A row of features. -/
abbrev Row := Fin 1024 → EReal

abbrev mean (f : Row) : EReal := Ideal.div (∑ k, f k) width
/-- The row less its mean. -/
def centred (r : Row) : Row := fun j => r j - mean r
/-- The variance of the row, and a little. -/
def spread (r : Row) : EReal := mean (fun k => centred r k * centred r k) + eps
/-- The row normalised. -/
def hat (r : Row) : Row := fun j => centred r j * Ideal.rsqrt (spread r)

/-- The gradient of the norm at `r` of a cotangent `d`, as the calls compute it. -/
def back (r d : Row) : Row := fun j =>
  Ideal.rsqrt (spread r) * (d j - mean d - hat r j * mean (fun k => d k * hat r k))

/-- What differentiation gives through the factor of each feature. -/
def through (r d : Row) : Row := fun j => d j * Ideal.rsqrt (spread r)
/-- What it gives of the variance. -/
def slope (r d : Row) : EReal :=
  Ideal.div ((∑ k, centred r k * d k) * (mhalf * Ideal.div (Ideal.rsqrt (spread r)) (spread r))) width
/-- What it gives through the variance. -/
def around (r d : Row) : Row := fun j => slope r d * (two * centred r j)
/-- The gradient as differentiation writes it: the two parts, and what both give through the mean. -/
def grad (r d : Row) : Row := fun j =>
  through r d j + around r d j + Ideal.div ((∑ k, -through r d k) + ∑ k, -around r d k) width

theorem sum_coe {n : ℕ} (f : Fin n → ℝ) : (∑ k, (f k : EReal)) = ((∑ k, f k : ℝ) : EReal) :=
  (map_sum (⟨⟨Real.toEReal, rfl⟩, fun a b => EReal.coe_add a b⟩ : ℝ →+ EReal) f Finset.univ).symm

theorem div_width (x : ℝ) : Ideal.div (x : EReal) width = ((x / 1024 : ℝ) : EReal) := by
  rw [width_coe, Ideal.div_coe (by norm_num)]
  norm_cast
  ring

/-- The row less its mean, over the reals. -/
def rc (r : Fin 1024 → ℝ) (j : Fin 1024) : ℝ := r j - (∑ k, r k) / 1024

theorem centred_coe (r : Fin 1024 → ℝ) (j : Fin 1024) : centred (fun k => (r k : EReal)) j = (rc r j : EReal) := by
  unfold centred rc
  rw [mean, sum_coe, div_width, EReal.coe_sub]

theorem sum_rc (r : Fin 1024 → ℝ) : ∑ k, rc r k = 0 := by
  unfold rc
  rw [Finset.sum_sub_distrib]
  simp
  ring

theorem spread_coe (r : Fin 1024 → ℝ) : ∃ v : ℝ, 0 < v ∧ spread (fun k => (r k : EReal)) = (v : EReal) := by
  obtain ⟨e, he, hE⟩ := eps_coe
  refine ⟨(∑ k, rc r k * rc r k) / 1024 + e, ?_, ?_⟩
  · have : 0 ≤ ∑ k, rc r k * rc r k := Finset.sum_nonneg fun k _ => mul_self_nonneg _
    positivity
  · unfold spread
    simp only [centred_coe, ← EReal.coe_mul]
    rw [mean, sum_coe, div_width, hE, ← EReal.coe_add]

theorem rsqrt_pos {v : ℝ} (h : 0 < v) : Ideal.rsqrt (v : EReal) = (((Real.sqrt v)⁻¹ : ℝ) : EReal) := by
  rw [Ideal.rsqrt_coe, if_neg (not_lt.mpr h.le), if_neg h.ne']

/-- On real rows the two agree, and are real. -/
theorem grad_eq_back {r d : Row} (hr : ∀ k, Finite.Real (r k)) (hd : ∀ k, Finite.Real (d k)) (j : Fin 1024) :
    grad r d j = back r d j ∧ Finite.Real (back r d j) := by
  choose r' hr using hr
  choose d' hd using hd
  obtain rfl : r = fun k => (r' k : EReal) := funext hr
  obtain rfl : d = fun k => (d' k : EReal) := funext hd
  obtain ⟨v, hv, hs⟩ := spread_coe r'
  have hq := rsqrt_pos hv
  have ht : ∀ k, through (fun k => (r' k : EReal)) (fun k => (d' k : EReal)) k = ((d' k * (Real.sqrt v)⁻¹ : ℝ) : EReal) := by
    intro k
    unfold through
    rw [hs, hq, EReal.coe_mul]
  have hl : slope (fun k => (r' k : EReal)) (fun k => (d' k : EReal))
      = (((∑ k, rc r' k * d' k) * (-1 / 2 * ((Real.sqrt v)⁻¹ * (1 / v))) / 1024 : ℝ) : EReal) := by
    unfold slope
    simp only [centred_coe, ← EReal.coe_mul]
    rw [sum_coe, hs, hq, Ideal.div_coe hv.ne', mhalf_coe]
    simp only [← EReal.coe_mul]
    rw [div_width]
  have ha : ∀ k, around (fun k => (r' k : EReal)) (fun k => (d' k : EReal)) k
      = (((∑ k, rc r' k * d' k) * (-1 / 2 * ((Real.sqrt v)⁻¹ * (1 / v))) / 1024 * (2 * rc r' k) : ℝ) : EReal) := by
    intro k
    unfold around
    rw [hl, two_coe, centred_coe]
    simp only [← EReal.coe_mul]
  have hh : ∀ k, hat (fun k => (r' k : EReal)) k = ((rc r' k * (Real.sqrt v)⁻¹ : ℝ) : EReal) := by
    intro k
    unfold hat
    rw [centred_coe, hs, hq, EReal.coe_mul]
  have hb : back (fun k => (r' k : EReal)) (fun k => (d' k : EReal)) j
      = (((Real.sqrt v)⁻¹ * (d' j - (∑ k, d' k) / 1024 - rc r' j * (Real.sqrt v)⁻¹ * ((∑ k, d' k * (rc r' k * (Real.sqrt v)⁻¹)) / 1024)) : ℝ) : EReal) := by
    unfold back mean
    rw [hs, hq]
    simp only [hh, ← EReal.coe_mul]
    rw [sum_coe, sum_coe, div_width, div_width]
    simp only [← EReal.coe_mul, ← EReal.coe_sub]
  refine ⟨?_, _, hb⟩
  rw [hb]
  unfold grad
  simp only [ht, ha, ← EReal.coe_neg]
  rw [sum_coe, sum_coe]
  simp only [← EReal.coe_add]
  rw [div_width, ← EReal.coe_add]
  refine congrArg _ ?_
  have hi : (Real.sqrt v)⁻¹ * (1 / v) = (Real.sqrt v)⁻¹ * (Real.sqrt v)⁻¹ * (Real.sqrt v)⁻¹ := by
    rw [mul_assoc, ← mul_inv, Real.mul_self_sqrt hv.le, one_div]
  have e1 : ∑ k, -(d' k * (Real.sqrt v)⁻¹) = -((∑ k, d' k) * (Real.sqrt v)⁻¹) := by
    rw [Finset.sum_neg_distrib, Finset.sum_mul]
  have e2 : ∀ C : ℝ, ∑ k, -(C * (2 * rc r' k)) = 0 := by
    intro C
    rw [Finset.sum_neg_distrib, ← Finset.mul_sum, ← Finset.mul_sum, sum_rc]
    simp
  have e3 : ∑ k, d' k * (rc r' k * (Real.sqrt v)⁻¹) = (∑ k, rc r' k * d' k) * (Real.sqrt v)⁻¹ := by
    rw [Finset.sum_mul]
    exact Finset.sum_congr rfl fun k _ => by ring
  rw [e1, e2, e3, hi]
  ring

/-- The mean of real numbers is real. -/
theorem mean_real {f : Row} (h : ∀ k, Finite.Real (f k)) : Finite.Real (mean f) := by
  obtain ⟨s, hs⟩ := Finite.sum h
  exact ⟨s / 1024, (congrArg (fun x => Ideal.div x width) hs).trans (div_width s)⟩

/-- The normalised row of real numbers is real. -/
theorem hat_real {r : Row} (h : ∀ k, Finite.Real (r k)) (j : Fin 1024) : Finite.Real (hat r j) := by
  choose g hg using h
  obtain rfl : r = fun k => (g k : EReal) := funext hg
  obtain ⟨v, hv, e⟩ := spread_coe g
  unfold hat
  rw [e, rsqrt_pos hv, centred_coe]
  exact ⟨_, (EReal.coe_mul _ _).symm⟩

end Cert.LayerNorm

end
-- ==== Proof.ResidualRows.lean ====
/- The layer norm of a row and its gradient, as the call that passes the gradient back through the second residual computes them, and as its reference does. -/
module

public import proofs.«01_k».proof.Proof.Gen.Kernel10Ideal.Value
public import proofs.«01_k».proof.Proof.Gen.Reference10Ideal.Run
public import proofs.«01_k».proof.Proof.Gen.Reference10Ideal.Read
public import proofs.«01_k».proof.Proof.LayerNorm
public import Idealize.ShloMosaic.Lib.Pipeline.ValueKit
public import Idealize.ShloMosaic.Lib.Pointwise

@[expose] public section

set_option maxRecDepth 16384

noncomputable section

namespace Cert.Kernel10Ideal.RefValue

open Kernel10Ideal Kernel10Ideal.Gen Idealize.ShloMosaic Idealize.ShloMosaic.TcCoe Idealize.SL.Sem
open Idealize.ShloMosaic.Pipeline (Dat)
open Reference10Ideal.Read

variable (m : (ℓ : Loc nD τ sig) → Buf (Elt Ideal) ℓ)

/-! The arguments of the call, at a device. -/

abbrev arg0 (c : Dev nD) := m (c.tc.loc main_arg0)
abbrev arg1 (c : Dev nD) := m (c.tc.loc main_arg1)
abbrev arg2 (c : Dev nD) := m (c.tc.loc main_arg2)
abbrev arg3 (c : Dev nD) := m (c.tc.loc main_arg3)
abbrev arg4 (c : Dev nD) := m (c.tc.loc main_arg4)
abbrev arg5 (c : Dev nD) := m (c.tc.loc main_arg5)
abbrev arg6 (c : Dev nD) := m (c.tc.loc main_arg6)
abbrev arg7 (c : Dev nD) := m (c.tc.loc main_arg7)
abbrev arg8 (c : Dev nD) := m (c.tc.loc main_arg8)
abbrev arg9 (c : Dev nD) := m (c.tc.loc main_arg9)

/-! What the body's own functions compute of a block's rows. -/

theorem centred_apply (v8 : FVec Ideal S256x1024 .f32) (z : S256x1024.Idx) :
    k0_pay6 (F := Ideal) v8 z = LayerNorm.centred (fun k => v8 (ValueIdx.ix2 (z 0) k)) (z 1) := by
  obtain ⟨p, q, rfl⟩ := Sums.pair z
  unfold k0_pay6
  pointwise []
  rfl

theorem rsqrt_apply (v8 : FVec Ideal S256x1024 .f32) (z : S256x1.Idx) :
    k0_pay7 (F := Ideal) v8 z = Ideal.rsqrt (LayerNorm.spread (fun k => v8 (ValueIdx.ix2 (z 0) k))) := by
  unfold k0_pay7
  pointwise []
  simp only [centred_apply]
  rfl

theorem hat_apply (v8 : FVec Ideal S256x1024 .f32) (z : S256x1024.Idx) :
    k0_pay8 (F := Ideal) v8 z = LayerNorm.hat (fun k => v8 (ValueIdx.ix2 (z 0) k)) (z 1) := by
  obtain ⟨p, q, rfl⟩ := Sums.pair z
  unfold k0_pay8
  pointwise []
  simp only [centred_apply, rsqrt_apply]
  rfl

theorem back_apply (v8 v43 : FVec Ideal S256x1024 .f32) (v70 : FVec Ideal S1x1024 .f32) (z : S256x1024.Idx) :
    k0_pay1 (F := Ideal) (k0_pay7 v8) (k0_pay8 v8) v43 v70 z
      = LayerNorm.back (fun k => v8 (ValueIdx.ix2 (z 0) k)) (fun k => v43 (ValueIdx.ix2 (z 0) k) * v70 (ValueIdx.ix2 0 k)) (z 1) := by
  obtain ⟨p, q, rfl⟩ := Sums.pair z
  unfold k0_pay1
  pointwise []
  simp only [hat_apply, rsqrt_apply]
  rfl

/-! What the reference's arrays hold of a row. -/

theorem v35_apply (x5 x6 x7) (p : Fin 4096) (q : Fin 1024) : val_main_v35 (F := Ideal) x5 x6 x7 (ValueIdx.ix2 p q)
    = LayerNorm.hat (fun k => val_main_v12 (F := Ideal) x5 x6 x7 (ValueIdx.ix2 p k)) q := by
  pointwise [val_main_v0, val_main_v1, val_main_v2, val_main_v3, val_main_v4, val_main_v5, val_main_v6, val_main_v7, val_main_cst, val_main_v8, val_main_v9, val_main_v10, val_main_v11, val_main_cst_0, val_main_v13, val_main_v14, val_main_cst_1, val_main_v15, val_main_v16, val_main_v17, val_main_v18, val_main_v19, val_main_cst_2, val_main_v20, val_main_v21, val_main_cst_3, val_main_v22, val_main_v23, val_main_cst_4, val_main_v24, val_main_v25, val_main_v26, val_main_v27, val_main_cst_5, val_main_v28, val_main_v29, val_main_v30, val_main_v31, val_main_cst_6, val_main_v32, val_main_v33, val_main_v34, val_main_v35, val_main_v36, val_main_v37, val_main_v38, val_main_v39, val_main_v40, val_main_v41, val_main_cst_7, val_main_v42, val_main_v43, val_main_v44, val_main_v45, val_main_v46, val_main_v47, val_main_cst_8, val_main_v48, val_main_v49, val_main_v50, val_main_v51, val_main_v52, val_main_v53, val_main_v54, val_main_cst_9, val_main_v55, val_main_v56, val_main_cst_10, val_main_v57, val_main_v58, val_main_v59, val_main_cst_11, val_main_v60, val_main_v61, val_main_v62, val_main_v63, val_main_v64, val_main_cst_12, val_main_v65, val_main_v66, val_main_cst_13, val_main_v67, val_main_v68, val_main_cst_14, val_main_v69, val_main_v70, val_main_v71, val_main_v72, val_main_cst_15, val_main_v73, val_main_v74, val_main_cst_16, val_main_v75, val_main_v76, val_main_v77, val_main_v78, val_main_v79, val_main_v80, val_main_cst_17, val_main_v81, val_main_v82, val_main_cst_18, val_main_v83, val_main_v84, val_main_cst_19, val_main_v85, val_main_v86, val_main_v87, val_main_v88, val_main_cst_20, val_main_v89, val_main_v90, val_main_v91, val_main_v92, val_main_cst_21, val_main_v93, val_main_v94, val_main_cst_22, val_main_v95, val_main_v96, val_main_v97, val_main_v98, val_main_v99, val_main_v100, val_main_cst_23, val_main_v101, val_main_v102, val_main_v103, val_main_v104, val_main_cst_24, val_main_v105, val_main_v106, val_main_v107]
  rfl

theorem v97_apply (x0 x1 x2 x3 x4 x5 x6 x7 x8) (p : Fin 4096) (q : Fin 1024) : val_main_v97 (F := Ideal) x0 x1 x2 x3 x4 x5 x6 x7 x8 (ValueIdx.ix2 p q)
    = LayerNorm.grad (fun k => val_main_v12 (F := Ideal) x5 x6 x7 (ValueIdx.ix2 p k)) (fun k => val_main_v72 (F := Ideal) x0 x1 x2 x3 x4 x7 x8 (ValueIdx.ix2 p k)) q := by
  pointwise [val_main_v0, val_main_v1, val_main_v2, val_main_v3, val_main_v4, val_main_v5, val_main_v6, val_main_v7, val_main_cst, val_main_v8, val_main_v9, val_main_v10, val_main_v11, val_main_cst_0, val_main_v13, val_main_v14, val_main_cst_1, val_main_v15, val_main_v16, val_main_v17, val_main_v18, val_main_v19, val_main_cst_2, val_main_v20, val_main_v21, val_main_cst_3, val_main_v22, val_main_v23, val_main_cst_4, val_main_v24, val_main_v25, val_main_v26, val_main_v27, val_main_cst_5, val_main_v28, val_main_v29, val_main_v30, val_main_v31, val_main_cst_6, val_main_v32, val_main_v33, val_main_v34, val_main_v35, val_main_v36, val_main_v37, val_main_v38, val_main_v39, val_main_v40, val_main_v41, val_main_cst_7, val_main_v42, val_main_v43, val_main_v44, val_main_v45, val_main_v46, val_main_v47, val_main_cst_8, val_main_v48, val_main_v49, val_main_v50, val_main_v51, val_main_v52, val_main_v53, val_main_v54, val_main_cst_9, val_main_v55, val_main_v56, val_main_cst_10, val_main_v57, val_main_v58, val_main_v59, val_main_cst_11, val_main_v60, val_main_v61, val_main_v62, val_main_v63, val_main_v64, val_main_cst_12, val_main_v65, val_main_v66, val_main_cst_13, val_main_v67, val_main_v68, val_main_cst_14, val_main_v69, val_main_v70, val_main_v71, val_main_cst_15, val_main_v73, val_main_v74, val_main_cst_16, val_main_v75, val_main_v76, val_main_v77, val_main_v78, val_main_v79, val_main_v80, val_main_cst_17, val_main_v81, val_main_v82, val_main_cst_18, val_main_v83, val_main_v84, val_main_cst_19, val_main_v85, val_main_v86, val_main_v87, val_main_v88, val_main_cst_20, val_main_v89, val_main_v90, val_main_v91, val_main_v92, val_main_cst_21, val_main_v93, val_main_v94, val_main_cst_22, val_main_v95, val_main_v96, val_main_v97, val_main_v98, val_main_v99, val_main_v100, val_main_cst_23, val_main_v101, val_main_v102, val_main_v103, val_main_v104, val_main_cst_24, val_main_v105, val_main_v106, val_main_v107]
  simp only [Fin.sum_univ_one]
  rfl

end Cert.Kernel10Ideal.RefValue

end
-- ==== Proof.ResidualBackward.lean ====
/- The gradient through the second residual: the product with the two weights of the feed-forward part, the layer norm, and the gate. -/
module

public import proofs.«01_k».proof.Proof.Gen.Kernel10Ideal.Value
public import proofs.«01_k».proof.Proof.Gen.Reference10Ideal.Run
public import proofs.«01_k».proof.Proof.Gen.Reference10Ideal.Read
public import proofs.«01_k».proof.Proof.Sums
public import proofs.«01_k».proof.Proof.ResidualRows
public import Idealize.ShloMosaic.Lib.Pipeline.ValueKit
public import Idealize.ShloMosaic.Lib.Pointwise

@[expose] public section

set_option maxRecDepth 16384

noncomputable section

namespace Cert.Kernel10Ideal.RefValue

open Kernel10Ideal Kernel10Ideal.Gen Idealize.ShloMosaic Idealize.ShloMosaic.TcCoe Idealize.SL.Sem
open Idealize.ShloMosaic.Pipeline (Dat)
open Reference10Ideal.Read

variable (m : (ℓ : Loc nD τ sig) → Buf (Elt Ideal) ℓ)

/-! The block each window visits at a grid point. -/

theorem idx0 : ∀ t : Fin cfg0.N, win0_0.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx1 : ∀ t : Fin cfg0.N, win0_1.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)

theorem point_lt (t : Fin cfg0.N) : t.val < 16 := lt_of_lt_of_eq t.isLt N_0

/-! What each input window holds at a grid point. -/

theorem block2 (c : Dev nD) (t : Fin cfg0.N) (j : S256x1024.Idx) :
    iblk m c 2 t j = (arg4 m c (ValueIdx.ix2 ⟨t.val * 256 + (j 0).val, by have := point_lt t; have : (j 0).val < 256 := (j 0).isLt; omega⟩ (j 1)) : EReal) := by
  blk_ext! [iblk, V, idx2]

theorem block4 (c : Dev nD) (t : Fin cfg0.N) (j : S256x1024.Idx) :
    iblk m c 4 t j = (arg6 m c (ValueIdx.ix2 ⟨t.val * 256 + (j 0).val, by have := point_lt t; have : (j 0).val < 256 := (j 0).isLt; omega⟩ (j 1)) : EReal) := by
  blk_ext! [iblk, V, idx4]

theorem read_v19 (c : Dev nD) : V m c main_v19 = val_main_v12 (F := Ideal) (arg5 m c) (arg6 m c) (arg7 m c) := by
  entry_read; rfl

theorem block3 (c : Dev nD) (t : Fin cfg0.N) (j : S256x1024.Idx) :
    iblk m c 3 t j = (val_main_v12 (F := Ideal) (arg5 m c) (arg6 m c) (arg7 m c) (ValueIdx.ix2 ⟨t.val * 256 + (j 0).val, by have := point_lt t; have : (j 0).val < 256 := (j 0).isLt; omega⟩ (j 1)) : EReal) := by
  show V m c main_v19 (((cfg0.win 3).blk t).view.emb j) = _
  rw [read_v19]
  blk_ext! [idx3]

theorem read_v22 (c : Dev nD) : V m c main_v22 = shapeCast S1x1024 (arg8 m c) shapeCasts_S1024_S1x1024 := by
  entry_read; rfl

theorem block6 (c : Dev nD) (t : Fin cfg0.N) (j : S1x1024.Idx) : iblk m c 6 t j = (arg8 m c (ValueIdx.ix1 (j 1)) : EReal) := by
  show V m c main_v22 (((cfg0.win 6).blk t).view.emb j) = _
  rw [read_v22]
  pointwise []
  blk_ext! [idx6]

theorem read_v23 (c : Dev nD) : V m c main_v23 = shapeCast S1x1024 (arg9 m c) shapeCasts_S1024_S1x1024 := by
  entry_read; rfl

theorem block7 (c : Dev nD) (t : Fin cfg0.N) (j : S1x1024.Idx) : iblk m c 7 t j = (arg9 m c (ValueIdx.ix1 (j 1)) : EReal) := by
  show V m c main_v23 (((cfg0.win 7).blk t).view.emb j) = _
  rw [read_v23]
  pointwise []
  blk_ext! [idx7]

theorem read_v21 (c : Dev nD) : V m c main_v21 = pad S8x1024 ![0, 0] ![2, 0] ![0, 0] (shapeCast S6x1024 (arg7 m c) shapeCasts_S1x6144_S6x1024) (sitofp (F := Ideal) .f32 (constantI S_ 32 0#32) : FVec Ideal S_ .f32) pads_S6x1024_S8x1024_020_000 h_S_ := by
  entry_read; rfl

/-- Row `r` of the six modulation rows, stacked and padded to eight. -/
theorem padded (x : FVec Ideal S1x6144 .f32) (v : FVec Ideal S_ .f32) (r : Fin 8) (q : Fin 1024) (h : r.val < 6) :
    pad S8x1024 ![0, 0] ![2, 0] ![0, 0] (shapeCast S6x1024 x shapeCasts_S1x6144_S6x1024) v pads_S6x1024_S8x1024_020_000 h_S_ (ValueIdx.ix2 r q)
      = (x (ValueIdx.ix2 0 ⟨r.val * 1024 + q.val, by omega⟩) : EReal) := by
  pointwise []
  exact dif_pos h

/-- Row 2 of the modulation block. -/
theorem row2 (c : Dev nD) (t : Fin cfg0.N) (q : Fin 1024) : iblk m c 5 t (ValueIdx.ix2 (⟨2, by decide⟩ : Fin 8) q) = (arg7 m c (ValueIdx.ix2 0 ⟨2048 + q.val, by omega⟩) : EReal) := by
  show V m c main_v21 (((cfg0.win 5).blk t).view.emb (ValueIdx.ix2 (⟨2, by decide⟩ : Fin 8) q)) = _
  rw [read_v21]
  have h : ((cfg0.win 5).blk t).view.emb (ValueIdx.ix2 (⟨2, by decide⟩ : Fin 8) q) = ValueIdx.ix2 (⟨2, by decide⟩ : Fin 8) q := by
    blk_ext! [idx5]
  rw [h]
  exact padded (arg7 m c) _ _ _ (show 2 < 6 by decide)

/-- Row 4 of the modulation block. -/
theorem row4 (c : Dev nD) (t : Fin cfg0.N) (q : Fin 1024) : iblk m c 5 t (ValueIdx.ix2 (⟨4, by decide⟩ : Fin 8) q) = (arg7 m c (ValueIdx.ix2 0 ⟨4096 + q.val, by omega⟩) : EReal) := by
  show V m c main_v21 (((cfg0.win 5).blk t).view.emb (ValueIdx.ix2 (⟨4, by decide⟩ : Fin 8) q)) = _
  rw [read_v21]
  have h : ((cfg0.win 5).blk t).view.emb (ValueIdx.ix2 (⟨4, by decide⟩ : Fin 8) q) = ValueIdx.ix2 (⟨4, by decide⟩ : Fin 8) q := by
    blk_ext! [idx5]
  rw [h]
  exact padded (arg7 m c) _ _ _ (show 4 < 6 by decide)

/-- The two gradients, interleaved by halves, when the call starts. -/
theorem gradients (c : Dev nD) : V m c main_v13 = concatenate S4096x5632 1 [⟨S4096x1408, extractStridedSlice S4096x1408 ![0, 0] ((arg0 m c)) slices_S4096x2816_S4096x1408_0_0⟩, ⟨S4096x1408, extractStridedSlice S4096x1408 ![0, 0] ((arg1 m c)) slices_S4096x2816_S4096x1408_0_0⟩, ⟨S4096x1408, extractStridedSlice S4096x1408 ![0, 1408] ((arg0 m c)) slices_S4096x2816_S4096x1408_0_1408⟩, ⟨S4096x1408, extractStridedSlice S4096x1408 ![0, 1408] ((arg1 m c)) slices_S4096x2816_S4096x1408_0_1408⟩] concatenates_S4096x1408_S4096x1408_S4096x1408_S4096x1408_S4096x5632_d1 := by
  show StableHlo.after hostOps0 (fun b => m (c, b)) (Proc.devRef .tc main_v13) = _
  simp only [hostOps0, List.flatten_cons, List.flatten_nil, List.append_nil, List.cons_append, List.nil_append]
  after_results <;> rfl

/-- The two weights, transposed and interleaved by halves, when the call starts. -/
theorem weights (c : Dev nD) : V m c main_v8 = concatenate S5632x1024 0 [⟨S1408x1024, extractStridedSlice S1408x1024 ![0, 0] ((truncf .bf16 (transpose S2816x1024 [1, 0] (arg2 m c) transposes_S1024x2816_S2816x1024_1_0 : FVec Ideal S2816x1024 .f32) bitsLt_bf16_f32 : FVec Ideal S2816x1024 .bf16)) slices_S2816x1024_S1408x1024_0_0⟩, ⟨S1408x1024, extractStridedSlice S1408x1024 ![0, 0] ((truncf .bf16 (transpose S2816x1024 [1, 0] (arg3 m c) transposes_S1024x2816_S2816x1024_1_0 : FVec Ideal S2816x1024 .f32) bitsLt_bf16_f32 : FVec Ideal S2816x1024 .bf16)) slices_S2816x1024_S1408x1024_0_0⟩, ⟨S1408x1024, extractStridedSlice S1408x1024 ![1408, 0] ((truncf .bf16 (transpose S2816x1024 [1, 0] (arg2 m c) transposes_S1024x2816_S2816x1024_1_0 : FVec Ideal S2816x1024 .f32) bitsLt_bf16_f32 : FVec Ideal S2816x1024 .bf16)) slices_S2816x1024_S1408x1024_1408_0⟩, ⟨S1408x1024, extractStridedSlice S1408x1024 ![1408, 0] ((truncf .bf16 (transpose S2816x1024 [1, 0] (arg3 m c) transposes_S1024x2816_S2816x1024_1_0 : FVec Ideal S2816x1024 .f32) bitsLt_bf16_f32 : FVec Ideal S2816x1024 .bf16)) slices_S2816x1024_S1408x1024_1408_0⟩] concatenates_S1408x1024_S1408x1024_S1408x1024_S1408x1024_S5632x1024_d0 := by
  show StableHlo.after hostOps0 (fun b => m (c, b)) (Proc.devRef .tc main_v8) = _
  simp only [hostOps0, List.flatten_cons, List.flatten_nil, List.append_nil, List.cons_append, List.nil_append]
  after_results <;> rfl

theorem gradients1 (c : Dev nD) (j r : ℕ) (hj : j < 2) (hr : r < 1408) (i : S4096x5632.Idx) (h : (i 1).val = j * 2816 + r) :
    V m c main_v13 i = (arg0 m c (ValueIdx.ix2 (i 0) ⟨j * 1408 + r, by omega⟩) : EReal) := by
  rw [gradients]
  pointwise []
  obtain rfl | rfl : j = 0 ∨ j = 1 := by omega
  all_goals split_ifs <;> first | (exfalso; omega) | (refine Sums.read_column _ ?_; dsimp only; omega)

theorem gradients3 (c : Dev nD) (j r : ℕ) (hj : j < 2) (hr : r < 1408) (i : S4096x5632.Idx) (h : (i 1).val = j * 2816 + 1408 + r) :
    V m c main_v13 i = (arg1 m c (ValueIdx.ix2 (i 0) ⟨j * 1408 + r, by omega⟩) : EReal) := by
  rw [gradients]
  pointwise []
  obtain rfl | rfl : j = 0 ∨ j = 1 := by omega
  all_goals split_ifs <;> first | (exfalso; omega) | (refine Sums.read_column _ ?_; dsimp only; omega)

theorem weights1 (c : Dev nD) (j r : ℕ) (hj : j < 2) (hr : r < 1408) (i : S5632x1024.Idx) (h : (i 0).val = j * 2816 + r) :
    V m c main_v8 i = (arg2 m c (ValueIdx.ix2 (i 1) ⟨j * 1408 + r, by omega⟩) : EReal) := by
  rw [weights]
  pointwise []
  obtain rfl | rfl : j = 0 ∨ j = 1 := by omega
  all_goals split_ifs <;> first | (exfalso; omega) | (refine Sums.read_column _ ?_; dsimp only; omega)

theorem weights3 (c : Dev nD) (j r : ℕ) (hj : j < 2) (hr : r < 1408) (i : S5632x1024.Idx) (h : (i 0).val = j * 2816 + 1408 + r) :
    V m c main_v8 i = (arg3 m c (ValueIdx.ix2 (i 1) ⟨j * 1408 + r, by omega⟩) : EReal) := by
  rw [weights]
  pointwise []
  obtain rfl | rfl : j = 0 ∨ j = 1 := by omega
  all_goals split_ifs <;> first | (exfalso; omega) | (refine Sums.read_column _ ?_; dsimp only; omega)

/-! What the body computes at a grid point: the reference's arrays at the point's rows. -/

theorem product_apply (x : FVec Ideal S256x5632 .bf16) (w : FVec Ideal S5632x1024 .bf16) (z : S256x1024.Idx) :
    k0_pay5 (F := Ideal) x w z = (∑ k : Fin 5632, x (ValueIdx.ix2 (z 0) k) * w (ValueIdx.ix2 k (z 1)) : EReal) := by
  unfold k0_pay5
  pointwise []
  rfl

theorem v54_apply (x0 x1 x2 x3) (p : Fin 4096) (q : Fin 1024) : val_main_v54 (F := Ideal) x0 x1 x2 x3 (ValueIdx.ix2 p q)
    = (∑ k : Fin 2816, x1 (ValueIdx.ix2 p k) * x3 (ValueIdx.ix2 q k) + ∑ k : Fin 2816, x0 (ValueIdx.ix2 p k) * x2 (ValueIdx.ix2 q k) : EReal) := by
  pointwise [val_main_v54, val_main_v52, val_main_v53, val_main_v6, val_main_v7]
  rfl

theorem dh2 (c : Dev nD) (t : Fin cfg0.N) (z : S256x1024.Idx) : (k0_pay5 (iblk m c 0 t) (iblk m c 1 t)) z = (val_main_v54 (F := Ideal) (arg0 m c) (arg1 m c) (arg2 m c) (arg3 m c) (ValueIdx.ix2 ⟨t.val * 256 + (z 0).val, by have := point_lt t; have : (z 0).val < 256 := (z 0).isLt; omega⟩ (z 1)) : EReal) := by
  refine (product_apply _ _ z).trans (Eq.trans ?_ (v54_apply _ _ _ _ _ _).symm)
  have ht := point_lt t
  have e0 : ∀ k : Fin 5632, ((((cfg0.win 0).blk t).view.emb (ValueIdx.ix2 (z 0) k)) 0) = (⟨t.val * 256 + (z 0).val, by have : (z 0).val < 256 := (z 0).isLt; omega⟩ : Fin 4096) := by
    intro k; apply Fin.ext; blk_simp [idx0]; try rfl
  have e1 : ∀ k : Fin 5632, ((((cfg0.win 0).blk t).view.emb (ValueIdx.ix2 (z 0) k)) 1).val = k.val := by
    intro k; blk_simp [idx0]; try rfl
  have w0 : ∀ k : Fin 5632, ((((cfg0.win 1).blk t).view.emb (ValueIdx.ix2 k (z 1))) 0).val = k.val := by
    intro k; blk_simp [idx1]; try rfl
  have w1 : ∀ k : Fin 5632, ((((cfg0.win 1).blk t).view.emb (ValueIdx.ix2 k (z 1))) 1) = (z 1) := by
    intro k; apply Fin.ext; blk_simp [idx1]; try rfl
  refine Sums.sum_interleaved (a := 1408) (b := 2816) rfl rfl (fun r => ?_) (fun r => ?_) (fun r => ?_) (fun r => ?_)
  · refine congrArg₂ (· * ·) ((gradients1 m c 0 r.val (by decide) r.isLt _ (by rw [e1] <;> (try dsimp only) <;> omega)).trans ?_) ((weights1 m c 0 r.val (by decide) r.isLt _ (by rw [w0] <;> (try dsimp only) <;> omega)).trans ?_)
    · rw [e0] <;> exact Sums.read_column _ (by (try dsimp only) <;> omega)
    · rw [w1] <;> exact Sums.read_column _ (by (try dsimp only) <;> omega)
  · refine congrArg₂ (· * ·) ((gradients3 m c 0 r.val (by decide) r.isLt _ (by rw [e1] <;> (try dsimp only) <;> omega)).trans ?_) ((weights3 m c 0 r.val (by decide) r.isLt _ (by rw [w0] <;> (try dsimp only) <;> omega)).trans ?_)
    · rw [e0] <;> exact Sums.read_column _ (by (try dsimp only) <;> omega)
    · rw [w1] <;> exact Sums.read_column _ (by (try dsimp only) <;> omega)
  · refine congrArg₂ (· * ·) ((gradients1 m c 1 r.val (by decide) r.isLt _ (by rw [e1] <;> (try dsimp only) <;> omega)).trans ?_) ((weights1 m c 1 r.val (by decide) r.isLt _ (by rw [w0] <;> (try dsimp only) <;> omega)).trans ?_)
    · rw [e0] <;> exact Sums.read_column _ (by (try dsimp only) <;> omega)
    · rw [w1] <;> exact Sums.read_column _ (by (try dsimp only) <;> omega)
  · refine congrArg₂ (· * ·) ((gradients3 m c 1 r.val (by decide) r.isLt _ (by rw [e1] <;> (try dsimp only) <;> omega)).trans ?_) ((weights3 m c 1 r.val (by decide) r.isLt _ (by rw [w0] <;> (try dsimp only) <;> omega)).trans ?_)
    · rw [e0] <;> exact Sums.read_column _ (by (try dsimp only) <;> omega)
    · rw [w1] <;> exact Sums.read_column _ (by (try dsimp only) <;> omega)

theorem dx1 (c : Dev nD) (t : Fin cfg0.N) (z : S256x1024.Idx) : (k0_pay11 (k0_pay5 (iblk m c 0 t) (iblk m c 1 t)) (k0_pay10 (iblk m c 2 t)) (View.ld (iblk m c 5 t) (Rect.unit ![4, 0] ![1, 1024] inb_S8x1024_S1x1024_4_0))) z = (val_main_v64 (F := Ideal) (arg0 m c) (arg1 m c) (arg2 m c) (arg3 m c) (arg4 m c) (arg7 m c) (ValueIdx.ix2 ⟨t.val * 256 + (z 0).val, by have := point_lt t; have : (z 0).val < 256 := (z 0).isLt; omega⟩ (z 1)) : EReal) := by
  unfold k0_pay11 k0_pay10
  pointwise [val_main_v0, val_main_v1, val_main_v2, val_main_v3, val_main_v4, val_main_v5, val_main_v6, val_main_v7, val_main_cst, val_main_v8, val_main_v9, val_main_v10, val_main_v11, val_main_v12, val_main_cst_0, val_main_v13, val_main_v14, val_main_cst_1, val_main_v15, val_main_v16, val_main_v17, val_main_v18, val_main_v19, val_main_cst_2, val_main_v20, val_main_v21, val_main_cst_3, val_main_v22, val_main_v23, val_main_cst_4, val_main_v24, val_main_v25, val_main_v26, val_main_v27, val_main_cst_5, val_main_v28, val_main_v29, val_main_v30, val_main_v31, val_main_cst_6, val_main_v32, val_main_v33, val_main_v34, val_main_v35, val_main_v36, val_main_v37, val_main_v38, val_main_v39, val_main_v40, val_main_v41, val_main_cst_7, val_main_v42, val_main_v43, val_main_v44, val_main_v45, val_main_v46, val_main_v47, val_main_cst_8, val_main_v48, val_main_v49, val_main_v50, val_main_v51, val_main_v52, val_main_v53, val_main_cst_9, val_main_v55, val_main_v56, val_main_cst_10, val_main_v57, val_main_v58, val_main_v59, val_main_cst_11, val_main_v60, val_main_v61, val_main_v62, val_main_v63, val_main_v64, val_main_cst_12, val_main_v65, val_main_v66, val_main_cst_13, val_main_v67, val_main_v68, val_main_cst_14, val_main_v69, val_main_v70, val_main_v71, val_main_v72, val_main_cst_15, val_main_v73, val_main_v74, val_main_cst_16, val_main_v75, val_main_v76, val_main_v77, val_main_v78, val_main_v79, val_main_v80, val_main_cst_17, val_main_v81, val_main_v82, val_main_cst_18, val_main_v83, val_main_v84, val_main_cst_19, val_main_v85, val_main_v86, val_main_v87, val_main_v88, val_main_cst_20, val_main_v89, val_main_v90, val_main_v91, val_main_v92, val_main_cst_21, val_main_v93, val_main_v94, val_main_cst_22, val_main_v95, val_main_v96, val_main_v97, val_main_v98, val_main_v99, val_main_v100, val_main_cst_23, val_main_v101, val_main_v102, val_main_v103, val_main_v104, val_main_cst_24, val_main_v105, val_main_v106, val_main_v107]
  simp only [dh2, block2]
  exact congrArg₂ (· + ·) rfl (congrArg₂ (· * ·) rfl (congrArg (1 + ·) (row4 m c t (z 1))))

theorem hat (c : Dev nD) (t : Fin cfg0.N) (z : S256x1024.Idx) : k0_pay8 (iblk m c 3 t) z = (val_main_v35 (F := Ideal) (arg5 m c) (arg6 m c) (arg7 m c) (ValueIdx.ix2 ⟨t.val * 256 + (z 0).val, by have := point_lt t; have : (z 0).val < 256 := (z 0).isLt; omega⟩ (z 1)) : EReal) := by
  refine (hat_apply _ z).trans (Eq.trans ?_ (v35_apply _ _ _ _ _).symm)
  exact congrArg (fun r => LayerNorm.hat r (z 1)) (funext fun k => block3 m c t _)

theorem x1 (c : Dev nD) (t : Fin cfg0.N) (z : S256x1024.Idx) : k0_pay9 (iblk m c 3 t) (iblk m c 6 t) (iblk m c 7 t) z = (val_main_v41 (F := Ideal) (arg5 m c) (arg6 m c) (arg7 m c) (arg8 m c) (arg9 m c) (ValueIdx.ix2 ⟨t.val * 256 + (z 0).val, by have := point_lt t; have : (z 0).val < 256 := (z 0).isLt; omega⟩ (z 1)) : EReal) := by
  unfold k0_pay9
  pointwise [val_main_v41, val_main_v40, val_main_v39, val_main_v38, val_main_v37, val_main_v36]
  simp only [hat, block6, block7]
  rfl

/-- The gradient of the first residual's sum, where the row and its cotangent are real numbers. -/
theorem back (c : Dev nD) (t : Fin cfg0.N) (z : S256x1024.Idx)
    (hr : ∀ i, Finite.Real (val_main_v12 (F := Ideal) (arg5 m c) (arg6 m c) (arg7 m c) i)) (hd : ∀ i, Finite.Real (val_main_v72 (F := Ideal) (arg0 m c) (arg1 m c) (arg2 m c) (arg3 m c) (arg4 m c) (arg7 m c) (arg8 m c) i)) :
    (k0_pay1 (k0_pay7 (iblk m c 3 t)) (k0_pay8 (iblk m c 3 t)) (k0_pay11 (k0_pay5 (iblk m c 0 t) (iblk m c 1 t)) (k0_pay10 (iblk m c 2 t)) (View.ld (iblk m c 5 t) (Rect.unit ![4, 0] ![1, 1024] inb_S8x1024_S1x1024_4_0))) (iblk m c 6 t)) z = (val_main_v97 (F := Ideal) (arg0 m c) (arg1 m c) (arg2 m c) (arg3 m c) (arg4 m c) (arg5 m c) (arg6 m c) (arg7 m c) (arg8 m c) (ValueIdx.ix2 ⟨t.val * 256 + (z 0).val, by have := point_lt t; have : (z 0).val < 256 := (z 0).isLt; omega⟩ (z 1)) : EReal) := by
  refine (back_apply _ _ _ z).trans (Eq.trans ?_ (v97_apply _ _ _ _ _ _ _ _ _ _ _).symm)
  refine Eq.trans ?_ (LayerNorm.grad_eq_back (fun k => hr _) (fun k => hd _) _).1.symm
  refine congrArg₂ (fun r d => LayerNorm.back r d (z 1)) (funext fun k => block3 m c t _) (funext fun k => ?_)
  refine (congrArg₂ (· * ·) (dx1 m c t (ValueIdx.ix2 (z 0) k)) (block6 m c t (ValueIdx.ix2 0 k))).trans ?_
  pointwise [val_main_v72, val_main_v71, val_main_v36]
  rfl

theorem dout (c : Dev nD) (t : Fin cfg0.N) (z : S256x1024.Idx)
    (hr : ∀ i, Finite.Real (val_main_v12 (F := Ideal) (arg5 m c) (arg6 m c) (arg7 m c) i)) (hd : ∀ i, Finite.Real (val_main_v72 (F := Ideal) (arg0 m c) (arg1 m c) (arg2 m c) (arg3 m c) (arg4 m c) (arg7 m c) (arg8 m c) i)) :
    k0_pay3 (k0_pay7 (iblk m c 3 t)) (k0_pay8 (iblk m c 3 t)) (k0_pay11 (k0_pay5 (iblk m c 0 t) (iblk m c 1 t)) (k0_pay10 (iblk m c 2 t)) (View.ld (iblk m c 5 t) (Rect.unit ![4, 0] ![1, 1024] inb_S8x1024_S1x1024_4_0))) (iblk m c 6 t) (View.ld (iblk m c 5 t) (Rect.unit ![2, 0] ![1, 1024] inb_S8x1024_S1x1024_2_0)) z = (val_main_v107 (F := Ideal) (arg0 m c) (arg1 m c) (arg2 m c) (arg3 m c) (arg4 m c) (arg5 m c) (arg6 m c) (arg7 m c) (arg8 m c) (ValueIdx.ix2 ⟨t.val * 256 + (z 0).val, by have := point_lt t; have : (z 0).val < 256 := (z 0).isLt; omega⟩ (z 1)) : EReal) := by
  unfold k0_pay3
  pointwise [val_main_v107, val_main_v99, val_main_v98, val_main_v2]
  exact congrArg₂ (· * ·) (row2 m c t (z 1)) (back m c t z hr hd)

theorem final_8 (c : Dev nD)
    (hr : ∀ i, Finite.Real (val_main_v12 (F := Ideal) (arg5 m c) (arg6 m c) (arg7 m c) i)) (hd : ∀ i, Finite.Real (val_main_v72 (F := Ideal) (arg0 m c) (arg1 m c) (arg2 m c) (arg3 m c) (arg4 m c) (arg7 m c) (arg8 m c) i)) :
    (dats m 0 c).arrAt 8 cfg0.N = val_main_v97 (F := Ideal) (arg0 m c) (arg1 m c) (arg2 m c) (arg3 m c) (arg4 m c) (arg5 m c) (arg6 m c) (arg7 m c) (arg8 m c) := by
  refine (dats m 0 c).arrAt_eq_of_covers 8 _ (by decide +kernel) fun t hf y => ?_
  blk_simp
  rw [after0_8]
  have e : (outsAt0 m c t.val t.isLt).1 = (k0_pay1 (k0_pay7 (iblk m c 3 t)) (k0_pay8 (iblk m c 3 t)) (k0_pay11 (k0_pay5 (iblk m c 0 t) (iblk m c 1 t)) (k0_pay10 (iblk m c 2 t)) (View.ld (iblk m c 5 t) (Rect.unit ![4, 0] ![1, 1024] inb_S8x1024_S1x1024_4_0))) (iblk m c 6 t)) := by
    by_cases h0 : t.val % 16 = 0
    · rw [outsAt0_A m c t h0]; frame_out; rfl
    · rw [outsAt0_B m c t h0]; frame_out; rfl
  rw [e]
  refine (back m c t y hr hd).trans (congrArg (val_main_v97 (F := Ideal) (arg0 m c) (arg1 m c) (arg2 m c) (arg3 m c) (arg4 m c) (arg5 m c) (arg6 m c) (arg7 m c) (arg8 m c)) ?_)
  blk_ext! [idx8]

theorem final_9 (c : Dev nD)
    (hr : ∀ i, Finite.Real (val_main_v12 (F := Ideal) (arg5 m c) (arg6 m c) (arg7 m c) i)) (hd : ∀ i, Finite.Real (val_main_v72 (F := Ideal) (arg0 m c) (arg1 m c) (arg2 m c) (arg3 m c) (arg4 m c) (arg7 m c) (arg8 m c) i)) :
    (dats m 0 c).arrAt 9 cfg0.N = val_main_v107 (F := Ideal) (arg0 m c) (arg1 m c) (arg2 m c) (arg3 m c) (arg4 m c) (arg5 m c) (arg6 m c) (arg7 m c) (arg8 m c) := by
  refine (dats m 0 c).arrAt_eq_of_covers 9 _ (by decide +kernel) fun t hf y => ?_
  blk_simp
  rw [after0_9]
  have e : (outsAt0 m c t.val t.isLt).2.1 = k0_pay3 (k0_pay7 (iblk m c 3 t)) (k0_pay8 (iblk m c 3 t)) (k0_pay11 (k0_pay5 (iblk m c 0 t) (iblk m c 1 t)) (k0_pay10 (iblk m c 2 t)) (View.ld (iblk m c 5 t) (Rect.unit ![4, 0] ![1, 1024] inb_S8x1024_S1x1024_4_0))) (iblk m c 6 t) (View.ld (iblk m c 5 t) (Rect.unit ![2, 0] ![1, 1024] inb_S8x1024_S1x1024_2_0)) := by
    by_cases h0 : t.val % 16 = 0
    · rw [outsAt0_A m c t h0]; frame_out; rfl
    · rw [outsAt0_B m c t h0]; frame_out; rfl
  rw [e]
  refine (dout m c t y hr hd).trans (congrArg (val_main_v107 (F := Ideal) (arg0 m c) (arg1 m c) (arg2 m c) (arg3 m c) (arg4 m c) (arg5 m c) (arg6 m c) (arg7 m c) (arg8 m c)) ?_)
  blk_ext! [idx9]

end Cert.Kernel10Ideal.RefValue

end
-- ==== Proof.ResidualSums.lean ====
/- The column sums of the gradient through the second residual: five rows, accumulated over the grid. -/
module

public import proofs.«01_k».proof.Proof.Gen.Kernel10Ideal.Value
public import proofs.«01_k».proof.Proof.Gen.Reference10Ideal.Run
public import proofs.«01_k».proof.Proof.Gen.Reference10Ideal.Read
public import proofs.«01_k».proof.Proof.Pieces
public import proofs.«01_k».proof.Proof.ResidualBackward
public import Idealize.ShloMosaic.Lib.Pipeline.ValueKit
public import Idealize.ShloMosaic.Lib.Pointwise

@[expose] public section

set_option maxRecDepth 16384

noncomputable section

namespace Cert.Kernel10Ideal.RefValue

open Kernel10Ideal Kernel10Ideal.Gen Idealize.ShloMosaic Idealize.ShloMosaic.TcCoe Idealize.SL.Sem
open Idealize.ShloMosaic.Pipeline (Dat)
open Reference10Ideal.Read

variable (m : (ℓ : Loc nD τ sig) → Buf (Elt Ideal) ℓ)

/-- Entry `l`, `q` of the array whose column sums are row `r`. -/
def entry (x0 x1 : (⟨Reference10Ideal.S4096x2816, .bf16⟩ : BufTy).Contents (Elt Ideal)) (x2 x3 : (⟨Reference10Ideal.S1024x2816, .f32⟩ : BufTy).Contents (Elt Ideal)) (x4 x5 x6 : (⟨Reference10Ideal.S4096x1024, .f32⟩ : BufTy).Contents (Elt Ideal)) (x7 : (⟨Reference10Ideal.S1x6144, .f32⟩ : BufTy).Contents (Elt Ideal)) (x8 x9 : (⟨Reference10Ideal.S1024, .f32⟩ : BufTy).Contents (Elt Ideal))  (r : ℕ) (l : Fin 4096) (q : Fin 1024) : EReal :=
  match r with
  | 0 => val_main_v59 (F := Ideal) x0 x1 x2 x3 x5 x6 x7 x8 x9 (ValueIdx.ix2 l q)
  | 1 => val_main_v54 (F := Ideal) x0 x1 x2 x3 (ValueIdx.ix2 l q)
  | 2 => val_main_v68 (F := Ideal) x0 x1 x2 x3 x4 x5 x6 x7 (ValueIdx.ix2 l q)
  | 3 => val_main_v64 (F := Ideal) x0 x1 x2 x3 x4 x7 (ValueIdx.ix2 l q)
  | 4 => val_main_v100 (F := Ideal) x0 x1 x2 x3 x4 x5 x6 x7 x8 (ValueIdx.ix2 l q)
  | _ => 0

/-- What point `t` adds to the accumulated sums: those of its 256 rows. -/
def term (c : Dev nD) (t : Fin cfg0.N) (i : S8x1024.Idx) : EReal :=
  ∑ k : Fin 256, entry (arg0 m c) (arg1 m c) (arg2 m c) (arg3 m c) (arg4 m c) (arg5 m c) (arg6 m c) (arg7 m c) (arg8 m c) (arg9 m c) (i 0).val ⟨t.val * 256 + k.val, by have := point_lt t; omega⟩ (i 1)

theorem zeros_apply (x : S8x1024.Idx) : k0_pay4 (F := Ideal) x = (0 : EReal) := by
  unfold_payloads
  pointwise

theorem eq_add_sum {p w : EReal} {f g : Fin 256 → EReal} (h : p = w) (e : ∀ k, f k = g k) : p + ∑ k, f k = w + ∑ k, g k := by
  rw [h, Finset.sum_congr rfl fun k _ => e k]

/-! What each row's payload is, over what the row held. -/

theorem pay12_apply (v7 v33 : FVec Ideal S256x1024 .f32) (w : FVec Ideal S1x1024 .f32) (x : S1x1024.Idx) :
    k0_pay12 (F := Ideal) v7 v33 w x = (w x + ∑ k : Fin 256, v7 (ValueIdx.ix2 k (x 1)) * v33 (ValueIdx.ix2 k (x 1)) : EReal) := by
  unfold k0_pay12
  pointwise []
  rfl

theorem pay13_apply (v7 : FVec Ideal S256x1024 .f32) (w : FVec Ideal S1x1024 .f32) (x : S1x1024.Idx) :
    k0_pay13 (F := Ideal) v7 w x = (w x + ∑ k : Fin 256, v7 (ValueIdx.ix2 k (x 1)) : EReal) := by
  unfold k0_pay13
  pointwise []
  rfl

theorem pay14_apply (v7 v25 v36 : FVec Ideal S256x1024 .f32) (v37 : FVec Ideal S1x1024 .f32) (w : FVec Ideal S1x1024 .f32) (x : S1x1024.Idx) :
    k0_pay14 (F := Ideal) v7 v25 v36 v37 w x = (w x + ∑ k : Fin 256, k0_pay11 v7 v36 v37 (ValueIdx.ix2 k (x 1)) * v25 (ValueIdx.ix2 k (x 1)) : EReal) := by
  unfold k0_pay14
  pointwise []
  rfl

theorem pay15_apply (v7 v36 : FVec Ideal S256x1024 .f32) (v37 : FVec Ideal S1x1024 .f32) (w : FVec Ideal S1x1024 .f32) (x : S1x1024.Idx) :
    k0_pay15 (F := Ideal) v7 v36 v37 w x = (w x + ∑ k : Fin 256, k0_pay11 v7 v36 v37 (ValueIdx.ix2 k (x 1)) : EReal) := by
  unfold k0_pay15
  pointwise []
  rfl

theorem pay2_apply (v23 : FVec Ideal S256x1 .f32) (v25 v43 : FVec Ideal S256x1024 .f32) (v70 : FVec Ideal S1x1024 .f32) (v92 : FVec Ideal S256x1024 .f32) (w : FVec Ideal S1x1024 .f32) (x : S1x1024.Idx) :
    k0_pay2 (F := Ideal) v23 v25 v43 v70 w v92 x = (w x + ∑ k : Fin 256, k0_pay1 v23 v25 v43 v70 (ValueIdx.ix2 k (x 1)) * v92 (ValueIdx.ix2 k (x 1)) : EReal) := by
  unfold k0_pay2
  pointwise []
  rfl

/-- The payload of row 0 at a point. -/
theorem payload0 (c : Dev nD) (t : Fin cfg0.N) (w : FVec Ideal S1x1024 .f32) (x : S1x1024.Idx) (p : EReal) (i : S8x1024.Idx)
    (h0 : (i 0).val = 0) (h1 : (x 1).val = (i 1).val) (hw : w x = p) :
    k0_pay12 (F := Ideal) (k0_pay5 (iblk m c 0 t) (iblk m c 1 t)) (k0_pay9 (iblk m c 3 t) (iblk m c 6 t) (iblk m c 7 t)) w x = (p + term m c t i : EReal) := by
  refine (pay12_apply _ _ w x).trans ?_
  unfold term
  refine eq_add_sum hw fun k => ?_
  rw [h0, show (i 1 : Fin 1024) = (x 1 : Fin 1024) from Fin.ext h1.symm]
  exact (congrArg₂ (· * ·) (dh2 m c t (ValueIdx.ix2 k (x 1))) (x1 m c t (ValueIdx.ix2 k (x 1)))).trans (EReal.mul_comm _ _)

/-- The payload of row 1 at a point. -/
theorem payload1 (c : Dev nD) (t : Fin cfg0.N) (w : FVec Ideal S1x1024 .f32) (x : S1x1024.Idx) (p : EReal) (i : S8x1024.Idx)
    (h0 : (i 0).val = 1) (h1 : (x 1).val = (i 1).val) (hw : w x = p) :
    k0_pay13 (F := Ideal) (k0_pay5 (iblk m c 0 t) (iblk m c 1 t)) w x = (p + term m c t i : EReal) := by
  refine (pay13_apply _ w x).trans ?_
  unfold term
  refine eq_add_sum hw fun k => ?_
  rw [h0, show (i 1 : Fin 1024) = (x 1 : Fin 1024) from Fin.ext h1.symm]
  exact dh2 m c t (ValueIdx.ix2 k (x 1))

/-- The payload of row 2 at a point. -/
theorem payload2 (c : Dev nD) (t : Fin cfg0.N) (w : FVec Ideal S1x1024 .f32) (x : S1x1024.Idx) (p : EReal) (i : S8x1024.Idx)
    (h0 : (i 0).val = 2) (h1 : (x 1).val = (i 1).val) (hw : w x = p) :
    k0_pay14 (F := Ideal) (k0_pay5 (iblk m c 0 t) (iblk m c 1 t)) (k0_pay8 (iblk m c 3 t)) (k0_pay10 (iblk m c 2 t)) (View.ld (iblk m c 5 t) (Rect.unit ![4, 0] ![1, 1024] inb_S8x1024_S1x1024_4_0)) w x = (p + term m c t i : EReal) := by
  refine (pay14_apply _ _ _ _ w x).trans ?_
  unfold term
  refine eq_add_sum hw fun k => ?_
  rw [h0, show (i 1 : Fin 1024) = (x 1 : Fin 1024) from Fin.ext h1.symm]
  exact (congrArg₂ (· * ·) (dx1 m c t (ValueIdx.ix2 k (x 1))) (hat m c t (ValueIdx.ix2 k (x 1)))).trans (EReal.mul_comm _ _)

/-- The payload of row 3 at a point. -/
theorem payload3 (c : Dev nD) (t : Fin cfg0.N) (w : FVec Ideal S1x1024 .f32) (x : S1x1024.Idx) (p : EReal) (i : S8x1024.Idx)
    (h0 : (i 0).val = 3) (h1 : (x 1).val = (i 1).val) (hw : w x = p) :
    k0_pay15 (F := Ideal) (k0_pay5 (iblk m c 0 t) (iblk m c 1 t)) (k0_pay10 (iblk m c 2 t)) (View.ld (iblk m c 5 t) (Rect.unit ![4, 0] ![1, 1024] inb_S8x1024_S1x1024_4_0)) w x = (p + term m c t i : EReal) := by
  refine (pay15_apply _ _ _ w x).trans ?_
  unfold term
  refine eq_add_sum hw fun k => ?_
  rw [h0, show (i 1 : Fin 1024) = (x 1 : Fin 1024) from Fin.ext h1.symm]
  exact dx1 m c t (ValueIdx.ix2 k (x 1))

/-- The payload of row 4 at a point. -/
theorem payload4 (c : Dev nD) (t : Fin cfg0.N)
    (hr : ∀ i, Finite.Real (val_main_v12 (F := Ideal) (arg5 m c) (arg6 m c) (arg7 m c) i)) (hd : ∀ i, Finite.Real (val_main_v72 (F := Ideal) (arg0 m c) (arg1 m c) (arg2 m c) (arg3 m c) (arg4 m c) (arg7 m c) (arg8 m c) i)) (w : FVec Ideal S1x1024 .f32) (x : S1x1024.Idx) (p : EReal) (i : S8x1024.Idx)
    (h0 : (i 0).val = 4) (h1 : (x 1).val = (i 1).val) (hw : w x = p) :
    k0_pay2 (F := Ideal) (k0_pay7 (iblk m c 3 t)) (k0_pay8 (iblk m c 3 t)) (k0_pay11 (k0_pay5 (iblk m c 0 t) (iblk m c 1 t)) (k0_pay10 (iblk m c 2 t)) (View.ld (iblk m c 5 t) (Rect.unit ![4, 0] ![1, 1024] inb_S8x1024_S1x1024_4_0))) (iblk m c 6 t) w (iblk m c 4 t) x = (p + term m c t i : EReal) := by
  refine (pay2_apply _ _ _ _ _ w x).trans ?_
  unfold term
  refine eq_add_sum hw fun k => ?_
  rw [h0, show (i 1 : Fin 1024) = (x 1 : Fin 1024) from Fin.ext h1.symm]
  exact congrArg₂ (· * ·) (back m c t (ValueIdx.ix2 k (x 1)) hr hd) (block4 m c t (ValueIdx.ix2 k (x 1)))

/-- A row of the sums that no payload reaches gets nothing. -/
theorem term_rest (c : Dev nD) (t : Fin cfg0.N) (i : S8x1024.Idx) (h : 5 ≤ (i 0).val) : term m c t i = 0 := by
  unfold term
  refine Finset.sum_eq_zero fun k _ => ?_
  unfold entry
  split <;> first | rfl | (exfalso; omega)

/-- An index of the row a payload is stored in. -/
theorem in_row {R : ℕ} {i : S8x1024.Idx} (h : (i 0).val = R) (a : Fin 2) : (![R, 0] : Fin 2 → ℕ) a ≤ (i a).val ∧ (i a).val < (![R, 0] : Fin 2 → ℕ) a + (![1, 1024] : Fin 2 → ℕ) a := by
  have : (i 1).val < 1024 := (i 1).isLt
  fin_cases a
  · exact ⟨by show R ≤ (i 0).val; omega, by show (i 0).val < R + 1; omega⟩
  · exact ⟨Nat.zero_le _, by show (i 1).val < 0 + 1024; omega⟩

theorem row_of {R : ℕ} {i : S8x1024.Idx} (h : ∀ a : Fin 2, (![R, 0] : Fin 2 → ℕ) a ≤ (i a).val ∧ (i a).val < (![R, 0] : Fin 2 → ℕ) a + (![1, 1024] : Fin 2 → ℕ) a) : (i 0).val = R := by
  have h1 : R ≤ (i 0).val := (h 0).1
  have h2 : (i 0).val < R + 1 := (h 0).2
  omega

theorem in_all (i : S8x1024.Idx) (a : Fin 2) : (![0, 0] : Fin 2 → ℕ) a ≤ (i a).val ∧ (i a).val < (![0, 0] : Fin 2 → ℕ) a + (![8, 1024] : Fin 2 → ℕ) a := by
  have : (i 0).val < 8 := (i 0).isLt
  have : (i 1).val < 1024 := (i 1).isLt
  fin_cases a
  · exact ⟨Nat.zero_le _, by show (i 0).val < 0 + 8; omega⟩
  · exact ⟨Nat.zero_le _, by show (i 1).val < 0 + 1024; omega⟩

theorem step_first (c : Dev nD)
    (hr : ∀ i, Finite.Real (val_main_v12 (F := Ideal) (arg5 m c) (arg6 m c) (arg7 m c) i)) (hd : ∀ i, Finite.Real (val_main_v72 (F := Ideal) (arg0 m c) (arg1 m c) (arg2 m c) (arg3 m c) (arg4 m c) (arg7 m c) (arg8 m c) i)) (t : Fin cfg0.N) (h0 : t.val % 16 = 0) (i : S8x1024.Idx) :
    (outsAt0 m c t.val t.isLt).2.2 i = ((0 : S8x1024.Idx → EReal) i + term m c t i : EReal) := by
  rw [outsAt0_A m c t h0]; frame_out
  rw [Pieces.canon_cons_unit]
  split
  next h =>
    have e0 : (i 0).val = 4 := row_of h
    refine payload4 m c t hr hd _ _ _ i e0 (by show (i 1).val - 0 = (i 1).val; omega) ?_
    rw [View.readCov_eq_canon']
    beta_reduce
    rw [Pieces.canon_cons_unit, dif_neg (fun h' => absurd (row_of h') (by show ¬ 4 + 1 * ((i 0).val - 4) = 3; omega))]
    rw [Pieces.canon_cons_unit, dif_neg (fun h' => absurd (row_of h') (by show ¬ 4 + 1 * ((i 0).val - 4) = 2; omega))]
    rw [Pieces.canon_cons_unit, dif_neg (fun h' => absurd (row_of h') (by show ¬ 4 + 1 * ((i 0).val - 4) = 1; omega))]
    rw [Pieces.canon_cons_unit, dif_neg (fun h' => absurd (row_of h') (by show ¬ 4 + 1 * ((i 0).val - 4) = 0; omega))]
    rw [Pieces.canon_cons_unit, dif_pos (in_all _)]
    exact zeros_apply _
  next h4 =>
    rw [Pieces.canon_cons_unit]
    split
    next h =>
      have e0 : (i 0).val = 3 := row_of h
      refine payload3 m c t _ _ _ i e0 (by show (i 1).val - 0 = (i 1).val; omega) ?_
      rw [View.readCov_eq_canon']
      beta_reduce
      rw [Pieces.canon_cons_unit, dif_neg (fun h' => absurd (row_of h') (by show ¬ 3 + 1 * ((i 0).val - 3) = 2; omega))]
      rw [Pieces.canon_cons_unit, dif_neg (fun h' => absurd (row_of h') (by show ¬ 3 + 1 * ((i 0).val - 3) = 1; omega))]
      rw [Pieces.canon_cons_unit, dif_neg (fun h' => absurd (row_of h') (by show ¬ 3 + 1 * ((i 0).val - 3) = 0; omega))]
      rw [Pieces.canon_cons_unit, dif_pos (in_all _)]
      exact zeros_apply _
    next h3 =>
      rw [Pieces.canon_cons_unit]
      split
      next h =>
        have e0 : (i 0).val = 2 := row_of h
        refine payload2 m c t _ _ _ i e0 (by show (i 1).val - 0 = (i 1).val; omega) ?_
        rw [View.readCov_eq_canon']
        beta_reduce
        rw [Pieces.canon_cons_unit, dif_neg (fun h' => absurd (row_of h') (by show ¬ 2 + 1 * ((i 0).val - 2) = 1; omega))]
        rw [Pieces.canon_cons_unit, dif_neg (fun h' => absurd (row_of h') (by show ¬ 2 + 1 * ((i 0).val - 2) = 0; omega))]
        rw [Pieces.canon_cons_unit, dif_pos (in_all _)]
        exact zeros_apply _
      next h2 =>
        rw [Pieces.canon_cons_unit]
        split
        next h =>
          have e0 : (i 0).val = 1 := row_of h
          refine payload1 m c t _ _ _ i e0 (by show (i 1).val - 0 = (i 1).val; omega) ?_
          rw [View.readCov_eq_canon']
          beta_reduce
          rw [Pieces.canon_cons_unit, dif_neg (fun h' => absurd (row_of h') (by show ¬ 1 + 1 * ((i 0).val - 1) = 0; omega))]
          rw [Pieces.canon_cons_unit, dif_pos (in_all _)]
          exact zeros_apply _
        next h1 =>
          rw [Pieces.canon_cons_unit]
          split
          next h =>
            have e0 : (i 0).val = 0 := row_of h
            refine payload0 m c t _ _ _ i e0 (by show (i 1).val - 0 = (i 1).val; omega) ?_
            rw [View.readCov_eq_canon']
            beta_reduce
            rw [Pieces.canon_cons_unit, dif_pos (in_all _)]
            exact zeros_apply _
          next h0 =>
            have e : 5 ≤ (i 0).val := by
              by_contra hc
              obtain e | e | e | e | e : (i 0).val = 0 ∨ (i 0).val = 1 ∨ (i 0).val = 2 ∨ (i 0).val = 3 ∨ (i 0).val = 4 := by omega
              · exact h0 (in_row e)
              · exact h1 (in_row e)
              · exact h2 (in_row e)
              · exact h3 (in_row e)
              · exact h4 (in_row e)
            rw [Pieces.canon_cons_unit, dif_pos (in_all _), term_rest m c t i e]
            refine (zeros_apply _).trans ?_
            exact (zero_add _).symm

theorem step_next (c : Dev nD)
    (hr : ∀ i, Finite.Real (val_main_v12 (F := Ideal) (arg5 m c) (arg6 m c) (arg7 m c) i)) (hd : ∀ i, Finite.Real (val_main_v72 (F := Ideal) (arg0 m c) (arg1 m c) (arg2 m c) (arg3 m c) (arg4 m c) (arg7 m c) (arg8 m c) i)) (t : Fin cfg0.N) (h0 : ¬ t.val % 16 = 0) (i : S8x1024.Idx) :
    (outsAt0 m c t.val t.isLt).2.2 i
      = ((outsAt0 m c (t.val - 1) (Nat.lt_of_le_of_lt (Nat.sub_le _ _) t.isLt)).2.2 i + term m c t i : EReal) := by
  rw [outsAt0_B m c t h0]; frame_out
  generalize (outsAt0 m c (t.val - 1) _).2.2 = prev
  rw [View.read_writes_cons_unit (heq := rfl)]
  split
  next h =>
    have e0 : (i 0).val = 4 := row_of h
    refine payload4 m c t hr hd _ _ _ i e0 (by show (i 1).val - 0 = (i 1).val; omega) ?_
    rw [View.ld_apply]
    refine congrArg prev (funext fun a => Fin.ext ?_)
    fin_cases a
    · show 4 + 1 * ((i 0).val - 4) = (i 0).val
      omega
    · show 0 + 1 * ((i 1).val - 0) = (i 1).val
      omega
  next h4 =>
    rw [View.read_writes_cons_unit (heq := rfl)]
    split
    next h =>
      have e0 : (i 0).val = 3 := row_of h
      refine payload3 m c t _ _ _ i e0 (by show (i 1).val - 0 = (i 1).val; omega) ?_
      rw [View.ld_apply]
      refine congrArg prev (funext fun a => Fin.ext ?_)
      fin_cases a
      · show 3 + 1 * ((i 0).val - 3) = (i 0).val
        omega
      · show 0 + 1 * ((i 1).val - 0) = (i 1).val
        omega
    next h3 =>
      rw [View.read_writes_cons_unit (heq := rfl)]
      split
      next h =>
        have e0 : (i 0).val = 2 := row_of h
        refine payload2 m c t _ _ _ i e0 (by show (i 1).val - 0 = (i 1).val; omega) ?_
        rw [View.ld_apply]
        refine congrArg prev (funext fun a => Fin.ext ?_)
        fin_cases a
        · show 2 + 1 * ((i 0).val - 2) = (i 0).val
          omega
        · show 0 + 1 * ((i 1).val - 0) = (i 1).val
          omega
      next h2 =>
        rw [View.read_writes_cons_unit (heq := rfl)]
        split
        next h =>
          have e0 : (i 0).val = 1 := row_of h
          refine payload1 m c t _ _ _ i e0 (by show (i 1).val - 0 = (i 1).val; omega) ?_
          rw [View.ld_apply]
          refine congrArg prev (funext fun a => Fin.ext ?_)
          fin_cases a
          · show 1 + 1 * ((i 0).val - 1) = (i 0).val
            omega
          · show 0 + 1 * ((i 1).val - 0) = (i 1).val
            omega
        next h1 =>
          rw [View.read_writes_cons_unit (heq := rfl)]
          split
          next h =>
            have e0 : (i 0).val = 0 := row_of h
            refine payload0 m c t _ _ _ i e0 (by show (i 1).val - 0 = (i 1).val; omega) ?_
            rw [View.ld_apply]
            refine congrArg prev (funext fun a => Fin.ext ?_)
            fin_cases a
            · show 0 + 1 * ((i 0).val - 0) = (i 0).val
              omega
            · show 0 + 1 * ((i 1).val - 0) = (i 1).val
              omega
          next h0 =>
            have e : 5 ≤ (i 0).val := by
              by_contra hc
              obtain e | e | e | e | e : (i 0).val = 0 ∨ (i 0).val = 1 ∨ (i 0).val = 2 ∨ (i 0).val = 3 ∨ (i 0).val = 4 := by omega
              · exact h0 (in_row e)
              · exact h1 (in_row e)
              · exact h2 (in_row e)
              · exact h3 (in_row e)
              · exact h4 (in_row e)
            refine (congrFun (Memref.IsWhole.read_unread _ prev) i).trans ?_
            rw [term_rest m c t i e]
            exact (add_zero _).symm

/-- The reference's stacked sums, at an index. -/
theorem v106_apply (x0 x1 x2 x3 x4 x5 x6 x7 x8 x9) (i : S8x1024.Idx) :
    val_main_v106 (F := Ideal) x0 x1 x2 x3 x4 x5 x6 x7 x8 x9 i = (∑ l : Fin 4096, entry x0 x1 x2 x3 x4 x5 x6 x7 x8 x9 (i 0).val l (i 1) : EReal) := by
  unfold val_main_v106
  pointwise [val_main_v0, val_main_v1, val_main_v2, val_main_v3, val_main_v4, val_main_v5, val_main_v6, val_main_v7, val_main_cst, val_main_v8, val_main_v9, val_main_v10, val_main_v11, val_main_v12, val_main_cst_0, val_main_v13, val_main_v14, val_main_cst_1, val_main_v15, val_main_v16, val_main_v17, val_main_v18, val_main_v19, val_main_cst_2, val_main_v20, val_main_v21, val_main_cst_3, val_main_v22, val_main_v23, val_main_cst_4, val_main_v24, val_main_v25, val_main_v26, val_main_v27, val_main_cst_5, val_main_v28, val_main_v29, val_main_v30, val_main_v31, val_main_cst_6, val_main_v32, val_main_v33, val_main_v34, val_main_v35, val_main_v36, val_main_v37, val_main_v38, val_main_v39, val_main_v40, val_main_v41, val_main_cst_7, val_main_v42, val_main_v43, val_main_v44, val_main_v45, val_main_v46, val_main_v47, val_main_cst_8, val_main_v48, val_main_v49, val_main_v50, val_main_v51, val_main_v52, val_main_v53, val_main_cst_9, val_main_v55, val_main_v56, val_main_cst_10, val_main_v57, val_main_v58, val_main_cst_11, val_main_v60, val_main_v61, val_main_v62, val_main_v63, val_main_cst_12, val_main_v65, val_main_v66, val_main_cst_13, val_main_v67, val_main_cst_14, val_main_v69, val_main_v70, val_main_v71, val_main_v72, val_main_cst_15, val_main_v73, val_main_v74, val_main_cst_16, val_main_v75, val_main_v76, val_main_v77, val_main_v78, val_main_v79, val_main_v80, val_main_cst_17, val_main_v81, val_main_v82, val_main_cst_18, val_main_v83, val_main_v84, val_main_cst_19, val_main_v85, val_main_v86, val_main_v87, val_main_v88, val_main_cst_20, val_main_v89, val_main_v90, val_main_v91, val_main_v92, val_main_cst_21, val_main_v93, val_main_v94, val_main_cst_22, val_main_v95, val_main_v96, val_main_v97, val_main_v98, val_main_v99, val_main_cst_23, val_main_v101, val_main_v102, val_main_v103, val_main_v104, val_main_cst_24, val_main_v105, val_main_v107]
  by_cases h5 : 5 ≤ (i 0).val
  · split_ifs <;> first | (exfalso; omega) | skip
    refine (Finset.sum_eq_zero fun k _ => ?_).symm
    unfold entry
    split <;> first | rfl | (exfalso; omega)
  · obtain e | e | e | e | e : (i 0).val = 0 ∨ (i 0).val = 1 ∨ (i 0).val = 2 ∨ (i 0).val = 3 ∨ (i 0).val = 4 := by omega
    all_goals split_ifs <;> first | (exfalso; omega) | skip
    all_goals (rw [e]; try simp only [Fin.sum_univ_one])
    all_goals rfl

theorem final_10 (c : Dev nD)
    (hr : ∀ i, Finite.Real (val_main_v12 (F := Ideal) (arg5 m c) (arg6 m c) (arg7 m c) i)) (hd : ∀ i, Finite.Real (val_main_v72 (F := Ideal) (arg0 m c) (arg1 m c) (arg2 m c) (arg3 m c) (arg4 m c) (arg7 m c) (arg8 m c) i)) :
    (dats m 0 c).arrAt 10 cfg0.N = val_main_v106 (F := Ideal) (arg0 m c) (arg1 m c) (arg2 m c) (arg3 m c) (arg4 m c) (arg5 m c) (arg6 m c) (arg7 m c) (arg8 m c) (arg9 m c) := by
  refine (dats m 0 c).arrAt_eq_of_after_last 10 ⟨15, by decide⟩ (by decide +kernel) _ fun j => ?_
  rw [after0_10]
  have e := Pipeline.eq_sum_fin_of_reset_step_apply_last (fun n h => ((outsAt0 m c n h).2.2 : S8x1024.Idx → EReal)) 16 0
    (term m c) (step_first m c hr hd) (step_next m c hr hd) (by decide) ⟨15, by decide⟩ (by decide) j
  refine e.trans ?_
  refine (zero_add _).trans ?_
  refine Eq.trans ?_ (v106_apply _ _ _ _ _ _ _ _ _ _ _).symm
  have ej : (((cfg0.win 10).arr.view.emb j) : S8x1024.Idx) = j := rfl
  rw [ej]
  unfold term
  exact Fin.sum_mul_add_fin 16 256 (fun l : Fin 4096 => entry (arg0 m c) (arg1 m c) (arg2 m c) (arg3 m c) (arg4 m c) (arg5 m c) (arg6 m c) (arg7 m c) (arg8 m c) (arg9 m c) (j 0).val l (j 1))

end Cert.Kernel10Ideal.RefValue

end
-- ==== Proof.ResidualBackwardClaim.lean ====
/- The value claim of the gradient through the second residual. -/
module

public import proofs.«01_k».proof.Defs
public import proofs.«01_k».proof.Proof.ResidualSums

@[expose] public section

set_option maxRecDepth 16384

noncomputable section

namespace Cert.Kernel10Ideal.RefValue

open Kernel10Ideal Kernel10Ideal.Gen Idealize.ShloMosaic Idealize.ShloMosaic.TcCoe Idealize.SL.Sem
open Reference10Ideal.Read

/-- The reference runs, keeps its arguments, and leaves every semaphore at zero. -/
theorem reference_quiescent [hR : Reference10Ideal.Facts] : Cert.quiescent_Reference10Ideal (hReference10Ideal := hR) := by
  intro m ρ _
  refine (θ_run Reference10Ideal.defs _ _).mono (fun r h => ⟨fun c => ?_, sem_eq_zero_of_no_sems (by decide) r.2⟩)
    (Reference10Ideal.Value.run (F := Ideal) m ρ)
  exact (h c).2.2.2

/-- The side conditions of the finiteness check. -/
theorem precondition_facts : Pre_finite10.Facts := by
  constructor <;> first | (intro a; exact Fin.elim0 a) | decide

/-- Where the check holds, argument 0 holds real numbers. -/
theorem real0 [Pre_finite10.Facts] {m : (ℓ : Loc nD τ sig) → Buf (Elt Ideal) ℓ} (h : Pre_Kernel10Ideal_finite10 m) (c : Dev nD) (i) :
    Finite.Real (m (c.tc.loc main_arg0) i) :=
  Finite.of_check_bits (congrFun (h c).1 i)

/-- Where the check holds, argument 1 holds real numbers. -/
theorem real1 [Pre_finite10.Facts] {m : (ℓ : Loc nD τ sig) → Buf (Elt Ideal) ℓ} (h : Pre_Kernel10Ideal_finite10 m) (c : Dev nD) (i) :
    Finite.Real (m (c.tc.loc main_arg1) i) :=
  Finite.of_check_bits (congrFun (h c).2.1 i)

/-- Where the check holds, argument 2 holds real numbers. -/
theorem real2 [Pre_finite10.Facts] {m : (ℓ : Loc nD τ sig) → Buf (Elt Ideal) ℓ} (h : Pre_Kernel10Ideal_finite10 m) (c : Dev nD) (i) :
    Finite.Real (m (c.tc.loc main_arg2) i) :=
  Finite.of_check_bits (congrFun (h c).2.2.1 i)

/-- Where the check holds, argument 3 holds real numbers. -/
theorem real3 [Pre_finite10.Facts] {m : (ℓ : Loc nD τ sig) → Buf (Elt Ideal) ℓ} (h : Pre_Kernel10Ideal_finite10 m) (c : Dev nD) (i) :
    Finite.Real (m (c.tc.loc main_arg3) i) :=
  Finite.of_check_bits (congrFun (h c).2.2.2.1 i)

/-- Where the check holds, argument 4 holds real numbers. -/
theorem real4 [Pre_finite10.Facts] {m : (ℓ : Loc nD τ sig) → Buf (Elt Ideal) ℓ} (h : Pre_Kernel10Ideal_finite10 m) (c : Dev nD) (i) :
    Finite.Real (m (c.tc.loc main_arg4) i) :=
  Finite.of_check_bits (congrFun (h c).2.2.2.2.1 i)

/-- Where the check holds, argument 5 holds real numbers. -/
theorem real5 [Pre_finite10.Facts] {m : (ℓ : Loc nD τ sig) → Buf (Elt Ideal) ℓ} (h : Pre_Kernel10Ideal_finite10 m) (c : Dev nD) (i) :
    Finite.Real (m (c.tc.loc main_arg5) i) :=
  Finite.of_check_bits (congrFun (h c).2.2.2.2.2.1 i)

/-- Where the check holds, argument 6 holds real numbers. -/
theorem real6 [Pre_finite10.Facts] {m : (ℓ : Loc nD τ sig) → Buf (Elt Ideal) ℓ} (h : Pre_Kernel10Ideal_finite10 m) (c : Dev nD) (i) :
    Finite.Real (m (c.tc.loc main_arg6) i) :=
  Finite.of_check_bits (congrFun (h c).2.2.2.2.2.2.1 i)

/-- Where the check holds, argument 7 holds real numbers. -/
theorem real7 [Pre_finite10.Facts] {m : (ℓ : Loc nD τ sig) → Buf (Elt Ideal) ℓ} (h : Pre_Kernel10Ideal_finite10 m) (c : Dev nD) (i) :
    Finite.Real (m (c.tc.loc main_arg7) i) :=
  Finite.of_check_bits (congrFun (h c).2.2.2.2.2.2.2.1 i)

/-- Where the check holds, argument 8 holds real numbers. -/
theorem real8 [Pre_finite10.Facts] {m : (ℓ : Loc nD τ sig) → Buf (Elt Ideal) ℓ} (h : Pre_Kernel10Ideal_finite10 m) (c : Dev nD) (i) :
    Finite.Real (m (c.tc.loc main_arg8) i) :=
  Finite.of_check_bits (congrFun (h c).2.2.2.2.2.2.2.2.1 i)

/-- Where the check holds, argument 9 holds real numbers. -/
theorem real9 [Pre_finite10.Facts] {m : (ℓ : Loc nD τ sig) → Buf (Elt Ideal) ℓ} (h : Pre_Kernel10Ideal_finite10 m) (c : Dev nD) (i) :
    Finite.Real (m (c.tc.loc main_arg9) i) :=
  Finite.of_check_bits (congrFun (h c).2.2.2.2.2.2.2.2.2 i)

theorem constant_real : Finite.Real (Ideal.ofBits .f32 0x3F9837F0#32) := by
  refine ⟨9975792 * (2 ^ 23)⁻¹, ?_⟩
  simp [Ideal.ofBits, Ideal.ieee]

theorem one_real : Finite.Real 1 := ⟨1, rfl⟩

/-- The sum of the first residual is real there. -/
theorem residual_real [Pre_finite10.Facts] {m : (ℓ : Loc nD τ sig) → Buf (Elt Ideal) ℓ} (h : Pre_Kernel10Ideal_finite10 m) (c : Dev nD) (i) :
    Finite.Real (val_main_v12 (F := Ideal) (m (c.tc.loc main_arg5)) (m (c.tc.loc main_arg6)) (m (c.tc.loc main_arg7)) i) := by
  pointwise [val_main_v12, val_main_v11, val_main_v10, val_main_v9, val_main_v8, val_main_v2, val_main_cst]
  exact Finite.add (Finite.mul constant_real (real5 h c _)) (Finite.mul (real7 h c _) (real6 h c _))

/-- So is its cotangent, before the norm's scale … -/
theorem product_real [Pre_finite10.Facts] {m : (ℓ : Loc nD τ sig) → Buf (Elt Ideal) ℓ} (h : Pre_Kernel10Ideal_finite10 m) (c : Dev nD) (i) :
    Finite.Real (val_main_v54 (F := Ideal) (m (c.tc.loc main_arg0)) (m (c.tc.loc main_arg1)) (m (c.tc.loc main_arg2)) (m (c.tc.loc main_arg3)) i) := by
  pointwise [val_main_v54, val_main_v52, val_main_v53, val_main_v6, val_main_v7]
  exact Finite.add (Finite.dot (fun k => real1 h c _) (fun k => real3 h c _)) (Finite.dot (fun k => real0 h c _) (fun k => real2 h c _))

/-- … and after it. -/
theorem cotangent_real [Pre_finite10.Facts] {m : (ℓ : Loc nD τ sig) → Buf (Elt Ideal) ℓ} (h : Pre_Kernel10Ideal_finite10 m) (c : Dev nD) (i) :
    Finite.Real (val_main_v72 (F := Ideal) (m (c.tc.loc main_arg0)) (m (c.tc.loc main_arg1)) (m (c.tc.loc main_arg2)) (m (c.tc.loc main_arg3)) (m (c.tc.loc main_arg4)) (m (c.tc.loc main_arg7)) (m (c.tc.loc main_arg8)) i) := by
  pointwise [val_main_v72, val_main_v71, val_main_v36, val_main_v64, val_main_v63, val_main_v62, val_main_v56, val_main_v55, val_main_cst_9, val_main_v43, val_main_v42, val_main_v4, val_main_cst_7]
  exact Finite.mul (Finite.add (Finite.mul constant_real (real4 h c _)) (Finite.mul (product_real h c _) (Finite.add one_real (real7 h c _)))) (real8 h c _)

/-- Both programs, from memories agreeing on the arguments, run and end with equal results. -/
theorem algebraic [hK : Kernel10Ideal.Facts] [hR : Reference10Ideal.Facts] [hPre : Pre_finite10.Facts] :
    Cert.algebraic_Kernel10Ideal_Reference10Ideal_pre_finite10 (hKernel10Ideal := hK) (hReference10Ideal := hR) (hPre_finite10 := hPre) := by
  intro m ρ m' ρ' hpre hagree
  refine ⟨fun c => val_main_v97 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)), fun c => val_main_v107 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)), fun c => val_main_v106 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)), ?_, ?_⟩
  · refine (θ_run Kernel10Ideal.defs _ _).mono (fun r h c => ?_) (Kernel10Ideal.Value.run_blocks m ρ)
    obtain ⟨h0, h1, h2, hk⟩ := h c
    exact ⟨h0.trans (final_8 m c (residual_real hpre c) (cotangent_real hpre c)), h1.trans (final_9 m c (residual_real hpre c) (cotangent_real hpre c)), h2.trans (final_10 m c (residual_real hpre c) (cotangent_real hpre c)), hk⟩
  · refine (θ_run Reference10Ideal.defs _ _).mono (fun r h c => ?_) (Reference10Ideal.Value.run (F := Ideal) m' ρ')
    obtain ⟨h0, h1, h2, hk⟩ := h c
    obtain ⟨e0, e1, e2, e3, e4, e5, e6, e7, e8, e9⟩ := hagree c
    refine ⟨h0.trans ?_, h1.trans ?_, h2.trans ?_, hk⟩
    · refine (val_main_v97_eq _ _).trans ?_
      beta_reduce
      rw [e0, e1, e2, e3, e4, e5, e6, e7, e8]
    · refine (val_main_v107_eq _ _).trans ?_
      beta_reduce
      rw [e0, e1, e2, e3, e4, e5, e6, e7, e8]
    · refine (val_main_v106_eq _ _).trans ?_
      beta_reduce
      rw [e0, e1, e2, e3, e4, e5, e6, e7, e8, e9]

end Cert.Kernel10Ideal.RefValue

end
-- ==== Proof.LossRows.lean ====
/- The two layer norms of a row, and the gradient of the second, as the call that ends the forward pass computes them, and as its reference does. -/
module

public import proofs.«01_k».proof.Proof.Gen.Kernel11Ideal.Value
public import proofs.«01_k».proof.Proof.Gen.Reference11Ideal.Run
public import proofs.«01_k».proof.Proof.Gen.Reference11Ideal.Read
public import proofs.«01_k».proof.Proof.LayerNorm
public import Idealize.ShloMosaic.Lib.Pipeline.ValueKit
public import Idealize.ShloMosaic.Lib.Pointwise

@[expose] public section

set_option maxRecDepth 16384

noncomputable section

namespace Cert.Kernel11Ideal.RefValue

open Kernel11Ideal Kernel11Ideal.Gen Idealize.ShloMosaic Idealize.ShloMosaic.TcCoe Idealize.SL.Sem
open Idealize.ShloMosaic.Pipeline (Dat)
open Reference11Ideal.Read

variable (m : (ℓ : Loc nD τ sig) → Buf (Elt Ideal) ℓ)

/-! The arguments of the call, at a device. -/

abbrev arg0 (c : Dev nD) := m (c.tc.loc main_arg0)
abbrev arg1 (c : Dev nD) := m (c.tc.loc main_arg1)
abbrev arg2 (c : Dev nD) := m (c.tc.loc main_arg2)
abbrev arg3 (c : Dev nD) := m (c.tc.loc main_arg3)
abbrev arg4 (c : Dev nD) := m (c.tc.loc main_arg4)
abbrev arg5 (c : Dev nD) := m (c.tc.loc main_arg5)
abbrev arg6 (c : Dev nD) := m (c.tc.loc main_arg6)
abbrev arg7 (c : Dev nD) := m (c.tc.loc main_arg7)
abbrev arg8 (c : Dev nD) := m (c.tc.loc main_arg8)

/-! What the body's own functions compute of a block's rows. -/

theorem first_apply (v7 : FVec Ideal S512x1024 .f32) (v24 v28 : FVec Ideal S1x1024 .f32) (z : S512x1024.Idx) :
    k0_pay7 (F := Ideal) v7 v24 v28 z
      = (Ideal.ofBits .f32 0x3F9837F0#32 * (LayerNorm.hat (fun k => v7 (ValueIdx.ix2 (z 0) k)) (z 1) * v24 (ValueIdx.ix2 0 (z 1)) + v28 (ValueIdx.ix2 0 (z 1))) : EReal) := by
  obtain ⟨p, q, rfl⟩ := Sums.pair z
  unfold k0_pay7
  pointwise []
  rfl

theorem centred_apply (o q g : FVec Ideal S512x1024 .f32) (z : S512x1024.Idx) :
    k0_pay9 (F := Ideal) o q g z = LayerNorm.centred (fun k => q (ValueIdx.ix2 (z 0) k) + g (ValueIdx.ix2 (z 0) k) * o (ValueIdx.ix2 (z 0) k)) (z 1) := by
  obtain ⟨p, r, rfl⟩ := Sums.pair z
  unfold k0_pay9
  pointwise []
  rfl

theorem rsqrt_apply (o q g : FVec Ideal S512x1024 .f32) (z : S512x1.Idx) :
    k0_pay10 (F := Ideal) o q g z = Ideal.rsqrt (LayerNorm.spread (fun k => q (ValueIdx.ix2 (z 0) k) + g (ValueIdx.ix2 (z 0) k) * o (ValueIdx.ix2 (z 0) k))) := by
  unfold k0_pay10
  pointwise []
  simp only [centred_apply]
  rfl

theorem hat_apply (o q g : FVec Ideal S512x1024 .f32) (z : S512x1024.Idx) :
    k0_pay11 (F := Ideal) o q g z = LayerNorm.hat (fun k => q (ValueIdx.ix2 (z 0) k) + g (ValueIdx.ix2 (z 0) k) * o (ValueIdx.ix2 (z 0) k)) (z 1) := by
  obtain ⟨p, r, rfl⟩ := Sums.pair z
  unfold k0_pay11
  pointwise []
  simp only [centred_apply, rsqrt_apply]
  rfl

theorem back_apply (o q g : FVec Ideal S512x1024 .f32) (e : FVec Ideal S512x1024 .f32) (v94 : FVec Ideal S1x1024 .f32) (z : S512x1024.Idx) :
    k0_pay17 (F := Ideal) (k0_pay10 o q g) (k0_pay11 o q g) e v94 z
      = LayerNorm.back (fun k => q (ValueIdx.ix2 (z 0) k) + g (ValueIdx.ix2 (z 0) k) * o (ValueIdx.ix2 (z 0) k)) (fun k => k0_pay14 (F := Ideal) e (ValueIdx.ix2 (z 0) k) * v94 (ValueIdx.ix2 0 k)) (z 1) := by
  obtain ⟨p, r, rfl⟩ := Sums.pair z
  unfold k0_pay17
  pointwise []
  simp only [hat_apply, rsqrt_apply]
  rfl

/-! What the reference's arrays hold of a row. -/

theorem v23_apply (x2) (p : Fin 4096) (q : Fin 1024) : val_main_v23 (F := Ideal) x2 (ValueIdx.ix2 p q)
    = LayerNorm.hat (fun k => x2 (ValueIdx.ix2 p k)) q := by
  pointwise [val_main_v0, val_main_v1, val_main_v2, val_main_v3, val_main_v4, val_main_v5, val_main_cst, val_main_v6, val_main_v7, val_main_cst_0, val_main_v8, val_main_v9, val_main_v10, val_main_v11, val_main_v12, val_main_cst_1, val_main_v13, val_main_v14, val_main_cst_2, val_main_v15, val_main_v16, val_main_v17, val_main_v18, val_main_cst_3, val_main_v19, val_main_v20, val_main_v21, val_main_v22, val_main_v23, val_main_v24, val_main_v25, val_main_v26, val_main_v27, val_main_v28, val_main_v29, val_main_cst_4, val_main_v30, val_main_v31, val_main_v32, val_main_v33, val_main_v34, val_main_v35, val_main_v36, val_main_cst_5, val_main_v37, val_main_v38, val_main_cst_6, val_main_v39, val_main_v40, val_main_v41, val_main_v42, val_main_v43, val_main_cst_7, val_main_v44, val_main_v45, val_main_cst_8, val_main_v46, val_main_v47, val_main_cst_9, val_main_v48, val_main_v49, val_main_v50, val_main_v51, val_main_cst_10, val_main_v52, val_main_v53, val_main_v54, val_main_v55, val_main_cst_11, val_main_v56, val_main_v57, val_main_v58, val_main_v59, val_main_v60, val_main_v61, val_main_v62, val_main_v63, val_main_v64, val_main_v65, val_main_v66, val_main_v67, val_main_cst_12, val_main_v68, val_main_v69, val_main_cst_13, val_main_v70, val_main_cst_14, val_main_v71, val_main_v72, val_main_cst_15, val_main_v73, val_main_cst_16, val_main_v74, val_main_cst_17, val_main_cst_18, val_main_v75, val_main_v76, val_main_cst_19, val_main_v77, val_main_v78, val_main_v79, val_main_v80, val_main_cst_20, val_main_v81, val_main_v82, val_main_cst_21, val_main_v83, val_main_v84, val_main_cst_22, val_main_v85, val_main_v86, val_main_v87, val_main_v88, val_main_cst_23, val_main_v89, val_main_v90, val_main_cst_24, val_main_v91, val_main_v92, val_main_v93, val_main_v94, val_main_v95, val_main_v96, val_main_cst_25, val_main_v97, val_main_v98, val_main_cst_26, val_main_v99, val_main_v100, val_main_cst_27, val_main_v101, val_main_v102, val_main_v103, val_main_v104, val_main_cst_28, val_main_v105, val_main_v106, val_main_v107, val_main_v108, val_main_cst_29, val_main_v109, val_main_v110, val_main_cst_30, val_main_v111, val_main_v112, val_main_v113, val_main_v114, val_main_v115, val_main_v116, val_main_cst_31, val_main_v117, val_main_v118, val_main_v119, val_main_v120, val_main_cst_32, val_main_v121, val_main_v122, val_main_v123, val_main_v124]
  rfl

theorem v59_apply (x0 x1 x2 x4 x5 x6) (p : Fin 4096) (q : Fin 1024) : val_main_v59 (F := Ideal) x0 x1 x2 x4 x5 x6 (ValueIdx.ix2 p q)
    = LayerNorm.hat (fun k => val_main_v36 (F := Ideal) x0 x1 x2 x4 x5 x6 (ValueIdx.ix2 p k)) q := by
  pointwise [val_main_v0, val_main_v1, val_main_v2, val_main_v3, val_main_v4, val_main_v5, val_main_cst, val_main_v6, val_main_v7, val_main_cst_0, val_main_v8, val_main_v9, val_main_v10, val_main_v11, val_main_v12, val_main_cst_1, val_main_v13, val_main_v14, val_main_cst_2, val_main_v15, val_main_v16, val_main_v17, val_main_v18, val_main_cst_3, val_main_v19, val_main_v20, val_main_v21, val_main_v22, val_main_v23, val_main_v24, val_main_v25, val_main_v26, val_main_v27, val_main_v28, val_main_v29, val_main_cst_4, val_main_v30, val_main_v31, val_main_v32, val_main_v33, val_main_v34, val_main_v35, val_main_cst_5, val_main_v37, val_main_v38, val_main_cst_6, val_main_v39, val_main_v40, val_main_v41, val_main_v42, val_main_v43, val_main_cst_7, val_main_v44, val_main_v45, val_main_cst_8, val_main_v46, val_main_v47, val_main_cst_9, val_main_v48, val_main_v49, val_main_v50, val_main_v51, val_main_cst_10, val_main_v52, val_main_v53, val_main_v54, val_main_v55, val_main_cst_11, val_main_v56, val_main_v57, val_main_v58, val_main_v59, val_main_v60, val_main_v61, val_main_v62, val_main_v63, val_main_v64, val_main_v65, val_main_v66, val_main_v67, val_main_cst_12, val_main_v68, val_main_v69, val_main_cst_13, val_main_v70, val_main_cst_14, val_main_v71, val_main_v72, val_main_cst_15, val_main_v73, val_main_cst_16, val_main_v74, val_main_cst_17, val_main_cst_18, val_main_v75, val_main_v76, val_main_cst_19, val_main_v77, val_main_v78, val_main_v79, val_main_v80, val_main_cst_20, val_main_v81, val_main_v82, val_main_cst_21, val_main_v83, val_main_v84, val_main_cst_22, val_main_v85, val_main_v86, val_main_v87, val_main_v88, val_main_cst_23, val_main_v89, val_main_v90, val_main_cst_24, val_main_v91, val_main_v92, val_main_v93, val_main_v94, val_main_v95, val_main_v96, val_main_cst_25, val_main_v97, val_main_v98, val_main_cst_26, val_main_v99, val_main_v100, val_main_cst_27, val_main_v101, val_main_v102, val_main_v103, val_main_v104, val_main_cst_28, val_main_v105, val_main_v106, val_main_v107, val_main_v108, val_main_cst_29, val_main_v109, val_main_v110, val_main_cst_30, val_main_v111, val_main_v112, val_main_v113, val_main_v114, val_main_v115, val_main_v116, val_main_cst_31, val_main_v117, val_main_v118, val_main_v119, val_main_v120, val_main_cst_32, val_main_v121, val_main_v122, val_main_v123, val_main_v124]
  rfl

theorem v113_apply (x0 x1 x2 x3 x4 x5 x6 x7 x8) (p : Fin 4096) (q : Fin 1024) : val_main_v113 (F := Ideal) x0 x1 x2 x3 x4 x5 x6 x7 x8 (ValueIdx.ix2 p q)
    = LayerNorm.grad (fun k => val_main_v36 (F := Ideal) x0 x1 x2 x4 x5 x6 (ValueIdx.ix2 p k)) (fun k => val_main_v88 (F := Ideal) x0 x1 x2 x3 x4 x5 x6 x7 x8 (ValueIdx.ix2 p k)) q := by
  pointwise [val_main_v0, val_main_v1, val_main_v2, val_main_v3, val_main_v4, val_main_v5, val_main_cst, val_main_v6, val_main_v7, val_main_cst_0, val_main_v8, val_main_v9, val_main_v10, val_main_v11, val_main_v12, val_main_cst_1, val_main_v13, val_main_v14, val_main_cst_2, val_main_v15, val_main_v16, val_main_v17, val_main_v18, val_main_cst_3, val_main_v19, val_main_v20, val_main_v21, val_main_v22, val_main_v23, val_main_v24, val_main_v25, val_main_v26, val_main_v27, val_main_v28, val_main_v29, val_main_cst_4, val_main_v30, val_main_v31, val_main_v32, val_main_v33, val_main_v34, val_main_v35, val_main_cst_5, val_main_v37, val_main_v38, val_main_cst_6, val_main_v39, val_main_v40, val_main_v41, val_main_v42, val_main_v43, val_main_cst_7, val_main_v44, val_main_v45, val_main_cst_8, val_main_v46, val_main_v47, val_main_cst_9, val_main_v48, val_main_v49, val_main_v50, val_main_v51, val_main_cst_10, val_main_v52, val_main_v53, val_main_v54, val_main_v55, val_main_cst_11, val_main_v56, val_main_v57, val_main_v58, val_main_v59, val_main_v60, val_main_v61, val_main_v62, val_main_v63, val_main_v64, val_main_v65, val_main_v66, val_main_v67, val_main_cst_12, val_main_v68, val_main_v69, val_main_cst_13, val_main_v70, val_main_cst_14, val_main_v71, val_main_v72, val_main_cst_15, val_main_v73, val_main_cst_16, val_main_v74, val_main_cst_17, val_main_cst_18, val_main_v75, val_main_v76, val_main_cst_19, val_main_v77, val_main_v78, val_main_v79, val_main_v80, val_main_cst_20, val_main_v81, val_main_v82, val_main_cst_21, val_main_v83, val_main_v84, val_main_cst_22, val_main_v85, val_main_v86, val_main_v87, val_main_cst_23, val_main_v89, val_main_v90, val_main_cst_24, val_main_v91, val_main_v92, val_main_v93, val_main_v94, val_main_v95, val_main_v96, val_main_cst_25, val_main_v97, val_main_v98, val_main_cst_26, val_main_v99, val_main_v100, val_main_cst_27, val_main_v101, val_main_v102, val_main_v103, val_main_v104, val_main_cst_28, val_main_v105, val_main_v106, val_main_v107, val_main_v108, val_main_cst_29, val_main_v109, val_main_v110, val_main_cst_30, val_main_v111, val_main_v112, val_main_v113, val_main_v114, val_main_v115, val_main_v116, val_main_cst_31, val_main_v117, val_main_v118, val_main_v119, val_main_v120, val_main_cst_32, val_main_v121, val_main_v122, val_main_v123, val_main_v124]
  simp only [Fin.sum_univ_one]
  rfl

end Cert.Kernel11Ideal.RefValue

end
-- ==== Proof.LossBackward.lean ====
/- The loss and the gradient through the second residual and its layer norm: what the call computes at each grid point. -/
module

public import proofs.«01_k».proof.Proof.Gen.Kernel11Ideal.Value
public import proofs.«01_k».proof.Proof.Gen.Reference11Ideal.Run
public import proofs.«01_k».proof.Proof.Gen.Reference11Ideal.Read
public import proofs.«01_k».proof.Proof.Sums
public import proofs.«01_k».proof.Proof.LossRows
public import Idealize.ShloMosaic.Lib.Pipeline.ValueKit
public import Idealize.ShloMosaic.Lib.Pointwise

@[expose] public section

set_option maxRecDepth 16384

noncomputable section

namespace Cert.Kernel11Ideal.RefValue

open Kernel11Ideal Kernel11Ideal.Gen Idealize.ShloMosaic Idealize.ShloMosaic.TcCoe Idealize.SL.Sem
open Idealize.ShloMosaic.Pipeline (Dat)
open Reference11Ideal.Read

variable (m : (ℓ : Loc nD τ sig) → Buf (Elt Ideal) ℓ)

/-! The block each window visits at a grid point. -/

theorem idx0 : ∀ t : Fin cfg0.N, win0_0.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx1 : ∀ t : Fin cfg0.N, win0_1.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)

theorem point_lt (t : Fin cfg0.N) : t.val < 8 := lt_of_lt_of_eq t.isLt N_0

/-! What each input window holds at a grid point. -/

theorem block0 (c : Dev nD) (t : Fin cfg0.N) (j : S512x2816.Idx) :
    iblk m c 0 t j = (arg0 m c (ValueIdx.ix2 ⟨t.val * 512 + (j 0).val, by have := point_lt t; have : (j 0).val < 512 := (j 0).isLt; omega⟩ (j 1)) : EReal) := by
  blk_ext! [iblk, V, idx0]

theorem block2 (c : Dev nD) (t : Fin cfg0.N) (j : S512x1024.Idx) :
    iblk m c 2 t j = (arg2 m c (ValueIdx.ix2 ⟨t.val * 512 + (j 0).val, by have := point_lt t; have : (j 0).val < 512 := (j 0).isLt; omega⟩ (j 1)) : EReal) := by
  blk_ext! [iblk, V, idx2]

theorem block3 (c : Dev nD) (t : Fin cfg0.N) (j : S512x1024.Idx) :
    iblk m c 3 t j = (arg3 m c (ValueIdx.ix2 ⟨t.val * 512 + (j 0).val, by have := point_lt t; have : (j 0).val < 512 := (j 0).isLt; omega⟩ (j 1)) : EReal) := by
  blk_ext! [iblk, V, idx3]

theorem read_v0 (c : Dev nD) : V m c main_v0 = (truncf .bf16 (arg1 m c : FVec Ideal S2816x1024 .f32) bitsLt_bf16_f32 : FVec Ideal S2816x1024 .bf16) := by
  entry_read; rfl

theorem block1 (c : Dev nD) (t : Fin cfg0.N) (j : S2816x1024.Idx) : iblk m c 1 t j = (arg1 m c j : EReal) := by
  show V m c main_v0 (((cfg0.win 1).blk t).view.emb j) = _
  rw [read_v0]
  pointwise []
  blk_ext! [idx1]

theorem read_v3 (c : Dev nD) : V m c main_v3 = shapeCast S1x1024 (arg5 m c) shapeCasts_S1024_S1x1024 := by
  entry_read; rfl

theorem block5 (c : Dev nD) (t : Fin cfg0.N) (j : S1x1024.Idx) : iblk m c 5 t j = (arg5 m c (ValueIdx.ix1 (j 1)) : EReal) := by
  show V m c main_v3 (((cfg0.win 5).blk t).view.emb j) = _
  rw [read_v3]
  pointwise []
  blk_ext! [idx5]

theorem read_v4 (c : Dev nD) : V m c main_v4 = shapeCast S1x1024 (arg6 m c) shapeCasts_S1024_S1x1024 := by
  entry_read; rfl

theorem block6 (c : Dev nD) (t : Fin cfg0.N) (j : S1x1024.Idx) : iblk m c 6 t j = (arg6 m c (ValueIdx.ix1 (j 1)) : EReal) := by
  show V m c main_v4 (((cfg0.win 6).blk t).view.emb j) = _
  rw [read_v4]
  pointwise []
  blk_ext! [idx6]

theorem read_v5 (c : Dev nD) : V m c main_v5 = shapeCast S1x1024 (arg7 m c) shapeCasts_S1024_S1x1024 := by
  entry_read; rfl

theorem block7 (c : Dev nD) (t : Fin cfg0.N) (j : S1x1024.Idx) : iblk m c 7 t j = (arg7 m c (ValueIdx.ix1 (j 1)) : EReal) := by
  show V m c main_v5 (((cfg0.win 7).blk t).view.emb j) = _
  rw [read_v5]
  pointwise []
  blk_ext! [idx7]

theorem read_v6 (c : Dev nD) : V m c main_v6 = shapeCast S1x1024 (arg8 m c) shapeCasts_S1024_S1x1024 := by
  entry_read; rfl

theorem block8 (c : Dev nD) (t : Fin cfg0.N) (j : S1x1024.Idx) : iblk m c 8 t j = (arg8 m c (ValueIdx.ix1 (j 1)) : EReal) := by
  show V m c main_v6 (((cfg0.win 8).blk t).view.emb j) = _
  rw [read_v6]
  pointwise []
  blk_ext! [idx8]

theorem read_v2 (c : Dev nD) : V m c main_v2 = pad S8x1024 ![0, 0] ![2, 0] ![0, 0] (shapeCast S6x1024 (arg4 m c) shapeCasts_S1x6144_S6x1024) (sitofp (F := Ideal) .f32 (constantI S_ 32 0#32) : FVec Ideal S_ .f32) pads_S6x1024_S8x1024_020_000 h_S_ := by
  entry_read; rfl

/-- Row `r` of the six modulation rows, stacked and padded to eight. -/
theorem padded (x : FVec Ideal S1x6144 .f32) (v : FVec Ideal S_ .f32) (r : Fin 8) (q : Fin 1024) (h : r.val < 6) :
    pad S8x1024 ![0, 0] ![2, 0] ![0, 0] (shapeCast S6x1024 x shapeCasts_S1x6144_S6x1024) v pads_S6x1024_S8x1024_020_000 h_S_ (ValueIdx.ix2 r q)
      = (x (ValueIdx.ix2 0 ⟨r.val * 1024 + q.val, by omega⟩) : EReal) := by
  pointwise []
  exact dif_pos h

/-- Row 5 of the modulation block. -/
theorem row5 (c : Dev nD) (t : Fin cfg0.N) (q : Fin 1024) : iblk m c 4 t (ValueIdx.ix2 (⟨5, by decide⟩ : Fin 8) q) = (arg4 m c (ValueIdx.ix2 0 ⟨5120 + q.val, by omega⟩) : EReal) := by
  show V m c main_v2 (((cfg0.win 4).blk t).view.emb (ValueIdx.ix2 (⟨5, by decide⟩ : Fin 8) q)) = _
  rw [read_v2]
  have h : ((cfg0.win 4).blk t).view.emb (ValueIdx.ix2 (⟨5, by decide⟩ : Fin 8) q) = ValueIdx.ix2 (⟨5, by decide⟩ : Fin 8) q := by
    blk_ext! [idx4]
  rw [h]
  exact padded (arg4 m c) _ _ _ (show 5 < 6 by decide)

/-! What the body computes at a grid point: the reference's arrays at the point's rows. -/

theorem product (c : Dev nD) (t : Fin cfg0.N) (z : S512x1024.Idx) : (k0_pay5 (iblk m c 0 t) (iblk m c 1 t)) z = (val_main_v33 (F := Ideal) (arg0 m c) (arg1 m c) (ValueIdx.ix2 ⟨t.val * 512 + (z 0).val, by have := point_lt t; have : (z 0).val < 512 := (z 0).isLt; omega⟩ (z 1)) : EReal) := by
  unfold k0_pay5
  pointwise [val_main_v33, val_main_v32]
  exact Sums.sum_same (fun k => block0 m c t (ValueIdx.ix2 (z 0) k)) (fun k => block1 m c t (ValueIdx.ix2 k (z 1)))

theorem first (c : Dev nD) (t : Fin cfg0.N) (z : S512x1024.Idx) : (k0_pay7 (iblk m c 2 t) (iblk m c 5 t) (iblk m c 6 t)) z = (val_main_v31 (F := Ideal) (arg2 m c) (arg5 m c) (arg6 m c) (ValueIdx.ix2 ⟨t.val * 512 + (z 0).val, by have := point_lt t; have : (z 0).val < 512 := (z 0).isLt; omega⟩ (z 1)) : EReal) := by
  refine (first_apply _ _ _ z).trans ?_
  pointwise [val_main_v31, val_main_v30, val_main_cst_4, val_main_v29, val_main_v28, val_main_v27, val_main_v26, val_main_v25, val_main_v24]
  refine congrArg (fun x : EReal => Ideal.ofBits .f32 0x3F9837F0#32 * x) (congrArg₂ (· + ·) (congrArg₂ (· * ·) (Eq.trans ?_ (v23_apply _ _ _).symm) (block5 m c t (ValueIdx.ix2 0 (z 1)))) (block6 m c t (ValueIdx.ix2 0 (z 1))))
  exact congrArg (fun r => LayerNorm.hat r (z 1)) (funext fun k => block2 m c t (ValueIdx.ix2 (z 0) k))

theorem residual (c : Dev nD) (t : Fin cfg0.N) (z : S512x1024.Idx) : ((k0_pay7 (iblk m c 2 t) (iblk m c 5 t) (iblk m c 6 t)) z + (k0_pay8 (View.ld (iblk m c 4 t) (Rect.unit ![5, 0] ![1, 1024] inb_S8x1024_S1x1024_5_0))) z * (k0_pay5 (iblk m c 0 t) (iblk m c 1 t)) z : EReal) = val_main_v36 (F := Ideal) (arg0 m c) (arg1 m c) (arg2 m c) (arg4 m c) (arg5 m c) (arg6 m c) (ValueIdx.ix2 ⟨t.val * 512 + (z 0).val, by have := point_lt t; have : (z 0).val < 512 := (z 0).isLt; omega⟩ (z 1)) := by
  pointwise [val_main_v36, val_main_v35, val_main_v34, val_main_v5]
  refine congrArg₂ (· + ·) (first m c t z) (congrArg₂ (· * ·) ?_ (product m c t z))
  unfold k0_pay8 k0_pay6
  pointwise []
  exact row5 m c t (z 1)

theorem hat (c : Dev nD) (t : Fin cfg0.N) (z : S512x1024.Idx) : k0_pay11 (k0_pay5 (iblk m c 0 t) (iblk m c 1 t)) (k0_pay7 (iblk m c 2 t) (iblk m c 5 t) (iblk m c 6 t)) (k0_pay8 (View.ld (iblk m c 4 t) (Rect.unit ![5, 0] ![1, 1024] inb_S8x1024_S1x1024_5_0))) z = (val_main_v59 (F := Ideal) (arg0 m c) (arg1 m c) (arg2 m c) (arg4 m c) (arg5 m c) (arg6 m c) (ValueIdx.ix2 ⟨t.val * 512 + (z 0).val, by have := point_lt t; have : (z 0).val < 512 := (z 0).isLt; omega⟩ (z 1)) : EReal) := by
  refine (hat_apply _ _ _ z).trans (Eq.trans ?_ (v59_apply _ _ _ _ _ _ _ _).symm)
  exact congrArg (fun r => LayerNorm.hat r (z 1)) (funext fun k => residual m c t (ValueIdx.ix2 (z 0) k))

theorem error (c : Dev nD) (t : Fin cfg0.N) (z : S512x1024.Idx) : (k0_pay12 (k0_pay5 (iblk m c 0 t) (iblk m c 1 t)) (k0_pay7 (iblk m c 2 t) (iblk m c 5 t) (iblk m c 6 t)) (k0_pay8 (View.ld (iblk m c 4 t) (Rect.unit ![5, 0] ![1, 1024] inb_S8x1024_S1x1024_5_0))) (iblk m c 7 t) (iblk m c 8 t) (iblk m c 3 t)) z = (val_main_v66 (F := Ideal) (arg0 m c) (arg1 m c) (arg2 m c) (arg3 m c) (arg4 m c) (arg5 m c) (arg6 m c) (arg7 m c) (arg8 m c) (ValueIdx.ix2 ⟨t.val * 512 + (z 0).val, by have := point_lt t; have : (z 0).val < 512 := (z 0).isLt; omega⟩ (z 1)) : EReal) := by
  unfold k0_pay12
  pointwise [val_main_v66, val_main_v65, val_main_v64, val_main_v63, val_main_v62, val_main_v61, val_main_v60]
  simp only [hat, block7, block8, block3]
  rfl

/-- The factor of the error in its gradient: twice a half, over the number of features. -/
theorem factor (e : EReal) : e * Ideal.ofBits .f32 0x3A800000#32
    = Ideal.div (Ideal.ofBits .f32 0x3F000000#32) LayerNorm.width * (LayerNorm.two * e) := by
  have a : Ideal.ofBits .f32 0x3A800000#32 = ((1 / 1024 : ℝ) : EReal) := by
    simp [Ideal.ofBits, Ideal.ieee, -EReal.coe_mul]; norm_num
  have b : Ideal.ofBits .f32 0x3F000000#32 = ((1 / 2 : ℝ) : EReal) := by
    simp [Ideal.ofBits, Ideal.ieee, -EReal.coe_mul]; norm_num
  rw [a, b, LayerNorm.div_width, LayerNorm.two_coe, ← mul_assoc, ← EReal.coe_mul, EReal.mul_comm]
  exact congrArg (fun x : ℝ => (x : EReal) * e) (by norm_num)

theorem derror (c : Dev nD) (t : Fin cfg0.N) (z : S512x1024.Idx) : k0_pay14 (k0_pay12 (k0_pay5 (iblk m c 0 t) (iblk m c 1 t)) (k0_pay7 (iblk m c 2 t) (iblk m c 5 t) (iblk m c 6 t)) (k0_pay8 (View.ld (iblk m c 4 t) (Rect.unit ![5, 0] ![1, 1024] inb_S8x1024_S1x1024_5_0))) (iblk m c 7 t) (iblk m c 8 t) (iblk m c 3 t)) z = (val_main_v80 (F := Ideal) (arg0 m c) (arg1 m c) (arg2 m c) (arg3 m c) (arg4 m c) (arg5 m c) (arg6 m c) (arg7 m c) (arg8 m c) (ValueIdx.ix2 ⟨t.val * 512 + (z 0).val, by have := point_lt t; have : (z 0).val < 512 := (z 0).isLt; omega⟩ (z 1)) : EReal) := by
  unfold k0_pay14
  pointwise [val_main_v80, val_main_v79, val_main_v78, val_main_v77, val_main_v76, val_main_v75, val_main_v69, val_main_v68, val_main_cst_12, val_main_cst_17, val_main_cst_18, val_main_cst_19]
  exact (congrArg (· * Ideal.ofBits .f32 0x3A800000#32) (error m c t z)).trans (factor _)

/-- The gradient of the second residual's sum, where the row and its cotangent are real numbers. -/
theorem back (c : Dev nD) (t : Fin cfg0.N) (z : S512x1024.Idx)
    (hr : ∀ i, Finite.Real (val_main_v36 (F := Ideal) (arg0 m c) (arg1 m c) (arg2 m c) (arg4 m c) (arg5 m c) (arg6 m c) i)) (hd : ∀ i, Finite.Real (val_main_v88 (F := Ideal) (arg0 m c) (arg1 m c) (arg2 m c) (arg3 m c) (arg4 m c) (arg5 m c) (arg6 m c) (arg7 m c) (arg8 m c) i)) :
    (k0_pay17 (k0_pay10 (k0_pay5 (iblk m c 0 t) (iblk m c 1 t)) (k0_pay7 (iblk m c 2 t) (iblk m c 5 t) (iblk m c 6 t)) (k0_pay8 (View.ld (iblk m c 4 t) (Rect.unit ![5, 0] ![1, 1024] inb_S8x1024_S1x1024_5_0)))) (k0_pay11 (k0_pay5 (iblk m c 0 t) (iblk m c 1 t)) (k0_pay7 (iblk m c 2 t) (iblk m c 5 t) (iblk m c 6 t)) (k0_pay8 (View.ld (iblk m c 4 t) (Rect.unit ![5, 0] ![1, 1024] inb_S8x1024_S1x1024_5_0)))) (k0_pay12 (k0_pay5 (iblk m c 0 t) (iblk m c 1 t)) (k0_pay7 (iblk m c 2 t) (iblk m c 5 t) (iblk m c 6 t)) (k0_pay8 (View.ld (iblk m c 4 t) (Rect.unit ![5, 0] ![1, 1024] inb_S8x1024_S1x1024_5_0))) (iblk m c 7 t) (iblk m c 8 t) (iblk m c 3 t)) (iblk m c 7 t)) z = (val_main_v113 (F := Ideal) (arg0 m c) (arg1 m c) (arg2 m c) (arg3 m c) (arg4 m c) (arg5 m c) (arg6 m c) (arg7 m c) (arg8 m c) (ValueIdx.ix2 ⟨t.val * 512 + (z 0).val, by have := point_lt t; have : (z 0).val < 512 := (z 0).isLt; omega⟩ (z 1)) : EReal) := by
  refine (back_apply _ _ _ _ _ z).trans (Eq.trans ?_ (v113_apply _ _ _ _ _ _ _ _ _ _ _).symm)
  refine Eq.trans ?_ (LayerNorm.grad_eq_back (fun k => hr _) (fun k => hd _) _).1.symm
  refine congrArg₂ (fun r d => LayerNorm.back r d (z 1)) (funext fun k => residual m c t (ValueIdx.ix2 (z 0) k)) (funext fun k => ?_)
  refine (congrArg₂ (· * ·) (derror m c t (ValueIdx.ix2 (z 0) k)) (block7 m c t (ValueIdx.ix2 0 k))).trans ?_
  pointwise [val_main_v88, val_main_v87, val_main_v60]
  rfl

theorem dout (c : Dev nD) (t : Fin cfg0.N) (z : S512x1024.Idx)
    (hr : ∀ i, Finite.Real (val_main_v36 (F := Ideal) (arg0 m c) (arg1 m c) (arg2 m c) (arg4 m c) (arg5 m c) (arg6 m c) i)) (hd : ∀ i, Finite.Real (val_main_v88 (F := Ideal) (arg0 m c) (arg1 m c) (arg2 m c) (arg3 m c) (arg4 m c) (arg5 m c) (arg6 m c) (arg7 m c) (arg8 m c) i)) :
    k0_pay2 (k0_pay6 (View.ld (iblk m c 4 t) (Rect.unit ![5, 0] ![1, 1024] inb_S8x1024_S1x1024_5_0))) (k0_pay17 (k0_pay10 (k0_pay5 (iblk m c 0 t) (iblk m c 1 t)) (k0_pay7 (iblk m c 2 t) (iblk m c 5 t) (iblk m c 6 t)) (k0_pay8 (View.ld (iblk m c 4 t) (Rect.unit ![5, 0] ![1, 1024] inb_S8x1024_S1x1024_5_0)))) (k0_pay11 (k0_pay5 (iblk m c 0 t) (iblk m c 1 t)) (k0_pay7 (iblk m c 2 t) (iblk m c 5 t) (iblk m c 6 t)) (k0_pay8 (View.ld (iblk m c 4 t) (Rect.unit ![5, 0] ![1, 1024] inb_S8x1024_S1x1024_5_0)))) (k0_pay12 (k0_pay5 (iblk m c 0 t) (iblk m c 1 t)) (k0_pay7 (iblk m c 2 t) (iblk m c 5 t) (iblk m c 6 t)) (k0_pay8 (View.ld (iblk m c 4 t) (Rect.unit ![5, 0] ![1, 1024] inb_S8x1024_S1x1024_5_0))) (iblk m c 7 t) (iblk m c 8 t) (iblk m c 3 t)) (iblk m c 7 t)) z = (val_main_v123 (F := Ideal) (arg0 m c) (arg1 m c) (arg2 m c) (arg3 m c) (arg4 m c) (arg5 m c) (arg6 m c) (arg7 m c) (arg8 m c) (ValueIdx.ix2 ⟨t.val * 512 + (z 0).val, by have := point_lt t; have : (z 0).val < 512 := (z 0).isLt; omega⟩ (z 1)) : EReal) := by
  unfold k0_pay2 k0_pay6
  pointwise [val_main_v123, val_main_v115, val_main_v114, val_main_v5]
  exact congrArg₂ (· * ·) (row5 m c t (z 1)) (back m c t z hr hd)

theorem final_9 (c : Dev nD)
    (hr : ∀ i, Finite.Real (val_main_v36 (F := Ideal) (arg0 m c) (arg1 m c) (arg2 m c) (arg4 m c) (arg5 m c) (arg6 m c) i)) (hd : ∀ i, Finite.Real (val_main_v88 (F := Ideal) (arg0 m c) (arg1 m c) (arg2 m c) (arg3 m c) (arg4 m c) (arg5 m c) (arg6 m c) (arg7 m c) (arg8 m c) i)) :
    (dats m 0 c).arrAt 9 cfg0.N = val_main_v113 (F := Ideal) (arg0 m c) (arg1 m c) (arg2 m c) (arg3 m c) (arg4 m c) (arg5 m c) (arg6 m c) (arg7 m c) (arg8 m c) := by
  refine (dats m 0 c).arrAt_eq_of_covers 9 _ (by decide +kernel) fun t hf y => ?_
  blk_simp
  rw [after0_9]
  have e : (outsAt0 m c t.val t.isLt).1 = (k0_pay17 (k0_pay10 (k0_pay5 (iblk m c 0 t) (iblk m c 1 t)) (k0_pay7 (iblk m c 2 t) (iblk m c 5 t) (iblk m c 6 t)) (k0_pay8 (View.ld (iblk m c 4 t) (Rect.unit ![5, 0] ![1, 1024] inb_S8x1024_S1x1024_5_0)))) (k0_pay11 (k0_pay5 (iblk m c 0 t) (iblk m c 1 t)) (k0_pay7 (iblk m c 2 t) (iblk m c 5 t) (iblk m c 6 t)) (k0_pay8 (View.ld (iblk m c 4 t) (Rect.unit ![5, 0] ![1, 1024] inb_S8x1024_S1x1024_5_0)))) (k0_pay12 (k0_pay5 (iblk m c 0 t) (iblk m c 1 t)) (k0_pay7 (iblk m c 2 t) (iblk m c 5 t) (iblk m c 6 t)) (k0_pay8 (View.ld (iblk m c 4 t) (Rect.unit ![5, 0] ![1, 1024] inb_S8x1024_S1x1024_5_0))) (iblk m c 7 t) (iblk m c 8 t) (iblk m c 3 t)) (iblk m c 7 t)) := by
    by_cases h0 : t.val % 8 = 0
    · rw [outsAt0_A m c t h0]; frame_out; rfl
    · rw [outsAt0_B m c t h0]; frame_out; rfl
  rw [e]
  refine (back m c t y hr hd).trans (congrArg (val_main_v113 (F := Ideal) (arg0 m c) (arg1 m c) (arg2 m c) (arg3 m c) (arg4 m c) (arg5 m c) (arg6 m c) (arg7 m c) (arg8 m c)) ?_)
  blk_ext! [idx9]

theorem final_10 (c : Dev nD)
    (hr : ∀ i, Finite.Real (val_main_v36 (F := Ideal) (arg0 m c) (arg1 m c) (arg2 m c) (arg4 m c) (arg5 m c) (arg6 m c) i)) (hd : ∀ i, Finite.Real (val_main_v88 (F := Ideal) (arg0 m c) (arg1 m c) (arg2 m c) (arg3 m c) (arg4 m c) (arg5 m c) (arg6 m c) (arg7 m c) (arg8 m c) i)) :
    (dats m 0 c).arrAt 10 cfg0.N = val_main_v123 (F := Ideal) (arg0 m c) (arg1 m c) (arg2 m c) (arg3 m c) (arg4 m c) (arg5 m c) (arg6 m c) (arg7 m c) (arg8 m c) := by
  refine (dats m 0 c).arrAt_eq_of_covers 10 _ (by decide +kernel) fun t hf y => ?_
  blk_simp
  rw [after0_10]
  have e : (outsAt0 m c t.val t.isLt).2.1 = k0_pay2 (k0_pay6 (View.ld (iblk m c 4 t) (Rect.unit ![5, 0] ![1, 1024] inb_S8x1024_S1x1024_5_0))) (k0_pay17 (k0_pay10 (k0_pay5 (iblk m c 0 t) (iblk m c 1 t)) (k0_pay7 (iblk m c 2 t) (iblk m c 5 t) (iblk m c 6 t)) (k0_pay8 (View.ld (iblk m c 4 t) (Rect.unit ![5, 0] ![1, 1024] inb_S8x1024_S1x1024_5_0)))) (k0_pay11 (k0_pay5 (iblk m c 0 t) (iblk m c 1 t)) (k0_pay7 (iblk m c 2 t) (iblk m c 5 t) (iblk m c 6 t)) (k0_pay8 (View.ld (iblk m c 4 t) (Rect.unit ![5, 0] ![1, 1024] inb_S8x1024_S1x1024_5_0)))) (k0_pay12 (k0_pay5 (iblk m c 0 t) (iblk m c 1 t)) (k0_pay7 (iblk m c 2 t) (iblk m c 5 t) (iblk m c 6 t)) (k0_pay8 (View.ld (iblk m c 4 t) (Rect.unit ![5, 0] ![1, 1024] inb_S8x1024_S1x1024_5_0))) (iblk m c 7 t) (iblk m c 8 t) (iblk m c 3 t)) (iblk m c 7 t)) := by
    by_cases h0 : t.val % 8 = 0
    · rw [outsAt0_A m c t h0]; frame_out; rfl
    · rw [outsAt0_B m c t h0]; frame_out; rfl
  rw [e]
  refine (dout m c t y hr hd).trans (congrArg (val_main_v123 (F := Ideal) (arg0 m c) (arg1 m c) (arg2 m c) (arg3 m c) (arg4 m c) (arg5 m c) (arg6 m c) (arg7 m c) (arg8 m c)) ?_)
  blk_ext! [idx10]

end Cert.Kernel11Ideal.RefValue

end
-- ==== Proof.LossSums.lean ====
/- The loss, and the column sums of the gradient through the second residual: accumulated over the grid. -/
module

public import proofs.«01_k».proof.Proof.Gen.Kernel11Ideal.Value
public import proofs.«01_k».proof.Proof.Gen.Reference11Ideal.Run
public import proofs.«01_k».proof.Proof.Gen.Reference11Ideal.Read
public import proofs.«01_k».proof.Proof.Pieces
public import proofs.«01_k».proof.Proof.LossBackward
public import Idealize.ShloMosaic.Lib.Pipeline.ValueKit
public import Idealize.ShloMosaic.Lib.Pointwise

@[expose] public section

set_option maxRecDepth 16384

noncomputable section

namespace Cert.Kernel11Ideal.RefValue

open Kernel11Ideal Kernel11Ideal.Gen Idealize.ShloMosaic Idealize.ShloMosaic.TcCoe Idealize.SL.Sem
open Idealize.ShloMosaic.Pipeline (Dat)
open Reference11Ideal.Read

variable (m : (ℓ : Loc nD τ sig) → Buf (Elt Ideal) ℓ)

/-- Entry `l`, `q` of the array whose column sums are row `r`. -/
def entry (x0 : (⟨Reference11Ideal.S4096x2816, .bf16⟩ : BufTy).Contents (Elt Ideal)) (x1 : (⟨Reference11Ideal.S2816x1024, .f32⟩ : BufTy).Contents (Elt Ideal)) (x2 x3 : (⟨Reference11Ideal.S4096x1024, .f32⟩ : BufTy).Contents (Elt Ideal)) (x4 : (⟨Reference11Ideal.S1x6144, .f32⟩ : BufTy).Contents (Elt Ideal)) (x5 x6 x7 x8 : (⟨Reference11Ideal.S1024, .f32⟩ : BufTy).Contents (Elt Ideal))  (r : ℕ) (l : Fin 4096) (q : Fin 1024) : EReal :=
  match r with
  | 0 => val_main_v84 (F := Ideal) x0 x1 x2 x3 x4 x5 x6 x7 x8 (ValueIdx.ix2 l q)
  | 1 => val_main_v80 (F := Ideal) x0 x1 x2 x3 x4 x5 x6 x7 x8 (ValueIdx.ix2 l q)
  | 2 => val_main_v116 (F := Ideal) x0 x1 x2 x3 x4 x5 x6 x7 x8 (ValueIdx.ix2 l q)
  | _ => 0

/-- What point `t` adds to the accumulated sums: those of its 512 rows. -/
def term (c : Dev nD) (t : Fin cfg0.N) (i : S8x1024.Idx) : EReal :=
  ∑ k : Fin 512, entry (arg0 m c) (arg1 m c) (arg2 m c) (arg3 m c) (arg4 m c) (arg5 m c) (arg6 m c) (arg7 m c) (arg8 m c) (i 0).val ⟨t.val * 512 + k.val, by have := point_lt t; omega⟩ (i 1)

theorem zeros_apply (x : S8x1024.Idx) : k0_pay3 (F := Ideal) x = (0 : EReal) := by
  unfold_payloads
  pointwise

theorem eq_add_sum {n : ℕ} {p w : EReal} {f g : Fin n → EReal} (h : p = w) (e : ∀ k, f k = g k) : p + ∑ k, f k = w + ∑ k, g k := by
  rw [h, Finset.sum_congr rfl fun k _ => e k]

/-! What each row's payload is, over what the row held. -/

theorem pay18_apply (w : FVec Ideal S1x1024 .f32) (x : S1x1024.Idx) : k0_pay18 (F := Ideal) w x = (w x : EReal) := by
  unfold k0_pay18
  pointwise []

theorem pay15_apply (v54 v64 : FVec Ideal S512x1024 .f32) (w : FVec Ideal S1x1024 .f32) (x : S1x1024.Idx) :
    k0_pay15 (F := Ideal) v54 v64 w x = (w x + ∑ k : Fin 512, k0_pay14 (F := Ideal) v64 (ValueIdx.ix2 k (x 1)) * v54 (ValueIdx.ix2 k (x 1)) : EReal) := by
  unfold k0_pay15
  pointwise []
  rfl

theorem pay16_apply (v64 : FVec Ideal S512x1024 .f32) (w : FVec Ideal S1x1024 .f32) (x : S1x1024.Idx) :
    k0_pay16 (F := Ideal) v64 w x = (w x + ∑ k : Fin 512, k0_pay14 (F := Ideal) v64 (ValueIdx.ix2 k (x 1)) : EReal) := by
  unfold k0_pay16
  pointwise []
  rfl

theorem pay1_apply (v6 v113 : FVec Ideal S512x1024 .f32) (w : FVec Ideal S1x1024 .f32) (x : S1x1024.Idx) :
    k0_pay1 (F := Ideal) v6 v113 w x = (w x + ∑ k : Fin 512, v113 (ValueIdx.ix2 k (x 1)) * v6 (ValueIdx.ix2 k (x 1)) : EReal) := by
  unfold k0_pay1
  pointwise []
  rfl

/-- The payload of row 0 at a point. -/
theorem payload0 (c : Dev nD) (t : Fin cfg0.N) (w : FVec Ideal S1x1024 .f32) (x : S1x1024.Idx) (p : EReal) (i : S8x1024.Idx)
    (h0 : (i 0).val = 0) (h1 : (x 1).val = (i 1).val) (hw : w x = p) :
    k0_pay15 (F := Ideal) (k0_pay11 (k0_pay5 (iblk m c 0 t) (iblk m c 1 t)) (k0_pay7 (iblk m c 2 t) (iblk m c 5 t) (iblk m c 6 t)) (k0_pay8 (View.ld (iblk m c 4 t) (Rect.unit ![5, 0] ![1, 1024] inb_S8x1024_S1x1024_5_0)))) (k0_pay12 (k0_pay5 (iblk m c 0 t) (iblk m c 1 t)) (k0_pay7 (iblk m c 2 t) (iblk m c 5 t) (iblk m c 6 t)) (k0_pay8 (View.ld (iblk m c 4 t) (Rect.unit ![5, 0] ![1, 1024] inb_S8x1024_S1x1024_5_0))) (iblk m c 7 t) (iblk m c 8 t) (iblk m c 3 t)) w x = (p + term m c t i : EReal) := by
  refine (pay15_apply _ _ _ x).trans ?_
  unfold term
  refine eq_add_sum (hw) fun k => ?_
  rw [h0, show (i 1 : Fin 1024) = (x 1 : Fin 1024) from Fin.ext h1.symm]
  exact (congrArg₂ (· * ·) (derror m c t (ValueIdx.ix2 k (x 1))) (hat m c t (ValueIdx.ix2 k (x 1)))).trans (EReal.mul_comm _ _)

/-- The payload of row 1 at a point. -/
theorem payload1 (c : Dev nD) (t : Fin cfg0.N) (w : FVec Ideal S1x1024 .f32) (x : S1x1024.Idx) (p : EReal) (i : S8x1024.Idx)
    (h0 : (i 0).val = 1) (h1 : (x 1).val = (i 1).val) (hw : w x = p) :
    k0_pay16 (F := Ideal) (k0_pay12 (k0_pay5 (iblk m c 0 t) (iblk m c 1 t)) (k0_pay7 (iblk m c 2 t) (iblk m c 5 t) (iblk m c 6 t)) (k0_pay8 (View.ld (iblk m c 4 t) (Rect.unit ![5, 0] ![1, 1024] inb_S8x1024_S1x1024_5_0))) (iblk m c 7 t) (iblk m c 8 t) (iblk m c 3 t)) w x = (p + term m c t i : EReal) := by
  refine (pay16_apply _ _ x).trans ?_
  unfold term
  refine eq_add_sum (hw) fun k => ?_
  rw [h0, show (i 1 : Fin 1024) = (x 1 : Fin 1024) from Fin.ext h1.symm]
  exact derror m c t (ValueIdx.ix2 k (x 1))

/-- The payload of row 2 at a point. -/
theorem payload2 (c : Dev nD) (t : Fin cfg0.N)
    (hr : ∀ i, Finite.Real (val_main_v36 (F := Ideal) (arg0 m c) (arg1 m c) (arg2 m c) (arg4 m c) (arg5 m c) (arg6 m c) i)) (hd : ∀ i, Finite.Real (val_main_v88 (F := Ideal) (arg0 m c) (arg1 m c) (arg2 m c) (arg3 m c) (arg4 m c) (arg5 m c) (arg6 m c) (arg7 m c) (arg8 m c) i)) (w : FVec Ideal S1x1024 .f32) (x : S1x1024.Idx) (p : EReal) (i : S8x1024.Idx)
    (h0 : (i 0).val = 2) (h1 : (x 1).val = (i 1).val) (hw : w x = p) :
    k0_pay1 (F := Ideal) (k0_pay5 (iblk m c 0 t) (iblk m c 1 t)) (k0_pay17 (k0_pay10 (k0_pay5 (iblk m c 0 t) (iblk m c 1 t)) (k0_pay7 (iblk m c 2 t) (iblk m c 5 t) (iblk m c 6 t)) (k0_pay8 (View.ld (iblk m c 4 t) (Rect.unit ![5, 0] ![1, 1024] inb_S8x1024_S1x1024_5_0)))) (k0_pay11 (k0_pay5 (iblk m c 0 t) (iblk m c 1 t)) (k0_pay7 (iblk m c 2 t) (iblk m c 5 t) (iblk m c 6 t)) (k0_pay8 (View.ld (iblk m c 4 t) (Rect.unit ![5, 0] ![1, 1024] inb_S8x1024_S1x1024_5_0)))) (k0_pay12 (k0_pay5 (iblk m c 0 t) (iblk m c 1 t)) (k0_pay7 (iblk m c 2 t) (iblk m c 5 t) (iblk m c 6 t)) (k0_pay8 (View.ld (iblk m c 4 t) (Rect.unit ![5, 0] ![1, 1024] inb_S8x1024_S1x1024_5_0))) (iblk m c 7 t) (iblk m c 8 t) (iblk m c 3 t)) (iblk m c 7 t)) (k0_pay18 w) x = (p + term m c t i : EReal) := by
  refine (pay1_apply _ _ _ x).trans ?_
  unfold term
  refine eq_add_sum ((pay18_apply w x).trans hw) fun k => ?_
  rw [h0, show (i 1 : Fin 1024) = (x 1 : Fin 1024) from Fin.ext h1.symm]
  exact congrArg₂ (· * ·) (back m c t (ValueIdx.ix2 k (x 1)) hr hd) (product m c t (ValueIdx.ix2 k (x 1)))

/-- A row of the sums that no payload reaches gets nothing. -/
theorem term_rest (c : Dev nD) (t : Fin cfg0.N) (i : S8x1024.Idx) (h : 3 ≤ (i 0).val) : term m c t i = 0 := by
  unfold term
  refine Finset.sum_eq_zero fun k _ => ?_
  unfold entry
  split <;> first | rfl | (exfalso; omega)

/-- An index of the row a payload is stored in. -/
theorem in_row {R : ℕ} {i : S8x1024.Idx} (h : (i 0).val = R) (a : Fin 2) : (![R, 0] : Fin 2 → ℕ) a ≤ (i a).val ∧ (i a).val < (![R, 0] : Fin 2 → ℕ) a + (![1, 1024] : Fin 2 → ℕ) a := by
  have : (i 1).val < 1024 := (i 1).isLt
  fin_cases a
  · exact ⟨by show R ≤ (i 0).val; omega, by show (i 0).val < R + 1; omega⟩
  · exact ⟨Nat.zero_le _, by show (i 1).val < 0 + 1024; omega⟩

theorem row_of {R : ℕ} {i : S8x1024.Idx} (h : ∀ a : Fin 2, (![R, 0] : Fin 2 → ℕ) a ≤ (i a).val ∧ (i a).val < (![R, 0] : Fin 2 → ℕ) a + (![1, 1024] : Fin 2 → ℕ) a) : (i 0).val = R := by
  have h1 : R ≤ (i 0).val := (h 0).1
  have h2 : (i 0).val < R + 1 := (h 0).2
  omega

theorem in_all (i : S8x1024.Idx) (a : Fin 2) : (![0, 0] : Fin 2 → ℕ) a ≤ (i a).val ∧ (i a).val < (![0, 0] : Fin 2 → ℕ) a + (![8, 1024] : Fin 2 → ℕ) a := by
  have : (i 0).val < 8 := (i 0).isLt
  have : (i 1).val < 1024 := (i 1).isLt
  fin_cases a
  · exact ⟨Nat.zero_le _, by show (i 0).val < 0 + 8; omega⟩
  · exact ⟨Nat.zero_le _, by show (i 1).val < 0 + 1024; omega⟩

theorem step_first (c : Dev nD)
    (hr : ∀ i, Finite.Real (val_main_v36 (F := Ideal) (arg0 m c) (arg1 m c) (arg2 m c) (arg4 m c) (arg5 m c) (arg6 m c) i)) (hd : ∀ i, Finite.Real (val_main_v88 (F := Ideal) (arg0 m c) (arg1 m c) (arg2 m c) (arg3 m c) (arg4 m c) (arg5 m c) (arg6 m c) (arg7 m c) (arg8 m c) i)) (t : Fin cfg0.N) (h0 : t.val % 8 = 0) (i : S8x1024.Idx) :
    (outsAt0 m c t.val t.isLt).2.2.1 i = ((0 : S8x1024.Idx → EReal) i + term m c t i : EReal) := by
  rw [outsAt0_A m c t h0]; frame_out
  rw [Pieces.canon_cons_unit]
  split
  next h =>
    have e0 : (i 0).val = 2 := row_of h
    refine payload2 m c t hr hd _ _ _ i e0 (by show (i 1).val - 0 = (i 1).val; omega) ?_
    rw [View.readCov_eq_canon']
    beta_reduce
    rw [Pieces.canon_cons_unit, dif_neg (fun h' => absurd (row_of h') (by show ¬ 2 + 1 * ((i 0).val - 2) = 1; omega))]
    rw [Pieces.canon_cons_unit, dif_neg (fun h' => absurd (row_of h') (by show ¬ 2 + 1 * ((i 0).val - 2) = 0; omega))]
    rw [Pieces.canon_cons_unit, dif_pos (in_all _)]
    exact zeros_apply _
  next h2 =>
    rw [Pieces.canon_cons_unit]
    split
    next h =>
      have e0 : (i 0).val = 1 := row_of h
      refine payload1 m c t _ _ _ i e0 (by show (i 1).val - 0 = (i 1).val; omega) ?_
      rw [View.readCov_eq_canon']
      beta_reduce
      rw [Pieces.canon_cons_unit, dif_neg (fun h' => absurd (row_of h') (by show ¬ 1 + 1 * ((i 0).val - 1) = 0; omega))]
      rw [Pieces.canon_cons_unit, dif_pos (in_all _)]
      exact zeros_apply _
    next h1 =>
      rw [Pieces.canon_cons_unit]
      split
      next h =>
        have e0 : (i 0).val = 0 := row_of h
        refine payload0 m c t _ _ _ i e0 (by show (i 1).val - 0 = (i 1).val; omega) ?_
        rw [View.readCov_eq_canon']
        beta_reduce
        rw [Pieces.canon_cons_unit, dif_pos (in_all _)]
        exact zeros_apply _
      next h0 =>
        have e : 3 ≤ (i 0).val := by
          by_contra hc
          obtain e | e | e : (i 0).val = 0 ∨ (i 0).val = 1 ∨ (i 0).val = 2 := by omega
          · exact h0 (in_row e)
          · exact h1 (in_row e)
          · exact h2 (in_row e)
        rw [Pieces.canon_cons_unit, dif_pos (in_all _), term_rest m c t i e]
        refine (zeros_apply _).trans ?_
        exact (zero_add _).symm

theorem step_next (c : Dev nD)
    (hr : ∀ i, Finite.Real (val_main_v36 (F := Ideal) (arg0 m c) (arg1 m c) (arg2 m c) (arg4 m c) (arg5 m c) (arg6 m c) i)) (hd : ∀ i, Finite.Real (val_main_v88 (F := Ideal) (arg0 m c) (arg1 m c) (arg2 m c) (arg3 m c) (arg4 m c) (arg5 m c) (arg6 m c) (arg7 m c) (arg8 m c) i)) (t : Fin cfg0.N) (h0 : ¬ t.val % 8 = 0) (i : S8x1024.Idx) :
    (outsAt0 m c t.val t.isLt).2.2.1 i
      = ((outsAt0 m c (t.val - 1) (Nat.lt_of_le_of_lt (Nat.sub_le _ _) t.isLt)).2.2.1 i + term m c t i : EReal) := by
  rw [outsAt0_B m c t h0]; frame_out
  generalize (outsAt0 m c (t.val - 1) _).2.2.1 = prev
  rw [View.read_writes_cons_unit (heq := rfl)]
  split
  next h =>
    have e0 : (i 0).val = 2 := row_of h
    refine payload2 m c t hr hd _ _ _ i e0 (by show (i 1).val - 0 = (i 1).val; omega) ?_
    rw [View.ld_apply]
    refine congrArg prev (funext fun a => Fin.ext ?_)
    fin_cases a
    · show 2 + 1 * ((i 0).val - 2) = (i 0).val
      omega
    · show 0 + 1 * ((i 1).val - 0) = (i 1).val
      omega
  next h2 =>
    rw [View.read_writes_cons_unit (heq := rfl)]
    split
    next h =>
      have e0 : (i 0).val = 1 := row_of h
      refine payload1 m c t _ _ _ i e0 (by show (i 1).val - 0 = (i 1).val; omega) ?_
      rw [View.ld_apply]
      refine congrArg prev (funext fun a => Fin.ext ?_)
      fin_cases a
      · show 1 + 1 * ((i 0).val - 1) = (i 0).val
        omega
      · show 0 + 1 * ((i 1).val - 0) = (i 1).val
        omega
    next h1 =>
      rw [View.read_writes_cons_unit (heq := rfl)]
      split
      next h =>
        have e0 : (i 0).val = 0 := row_of h
        refine payload0 m c t _ _ _ i e0 (by show (i 1).val - 0 = (i 1).val; omega) ?_
        rw [View.ld_apply]
        refine congrArg prev (funext fun a => Fin.ext ?_)
        fin_cases a
        · show 0 + 1 * ((i 0).val - 0) = (i 0).val
          omega
        · show 0 + 1 * ((i 1).val - 0) = (i 1).val
          omega
      next h0 =>
        have e : 3 ≤ (i 0).val := by
          by_contra hc
          obtain e | e | e : (i 0).val = 0 ∨ (i 0).val = 1 ∨ (i 0).val = 2 := by omega
          · exact h0 (in_row e)
          · exact h1 (in_row e)
          · exact h2 (in_row e)
        refine (congrFun (Memref.IsWhole.read_unread _ prev) i).trans ?_
        rw [term_rest m c t i e]
        exact (add_zero _).symm

/-- The reference's stacked sums, at an index. -/
theorem v122_apply (x0 x1 x2 x3 x4 x5 x6 x7 x8) (i : S8x1024.Idx) :
    val_main_v122 (F := Ideal) x0 x1 x2 x3 x4 x5 x6 x7 x8 i = (∑ l : Fin 4096, entry x0 x1 x2 x3 x4 x5 x6 x7 x8 (i 0).val l (i 1) : EReal) := by
  unfold val_main_v122
  pointwise [val_main_v0, val_main_v1, val_main_v2, val_main_v3, val_main_v4, val_main_v5, val_main_cst, val_main_v6, val_main_v7, val_main_cst_0, val_main_v8, val_main_v9, val_main_v10, val_main_v11, val_main_v12, val_main_cst_1, val_main_v13, val_main_v14, val_main_cst_2, val_main_v15, val_main_v16, val_main_v17, val_main_v18, val_main_cst_3, val_main_v19, val_main_v20, val_main_v21, val_main_v22, val_main_v23, val_main_v24, val_main_v25, val_main_v26, val_main_v27, val_main_v28, val_main_v29, val_main_cst_4, val_main_v30, val_main_v31, val_main_v32, val_main_v33, val_main_v34, val_main_v35, val_main_v36, val_main_cst_5, val_main_v37, val_main_v38, val_main_cst_6, val_main_v39, val_main_v40, val_main_v41, val_main_v42, val_main_v43, val_main_cst_7, val_main_v44, val_main_v45, val_main_cst_8, val_main_v46, val_main_v47, val_main_cst_9, val_main_v48, val_main_v49, val_main_v50, val_main_v51, val_main_cst_10, val_main_v52, val_main_v53, val_main_v54, val_main_v55, val_main_cst_11, val_main_v56, val_main_v57, val_main_v58, val_main_v59, val_main_v60, val_main_v61, val_main_v62, val_main_v63, val_main_v64, val_main_v65, val_main_v66, val_main_v67, val_main_cst_12, val_main_v68, val_main_v69, val_main_cst_13, val_main_v70, val_main_cst_14, val_main_v71, val_main_v72, val_main_cst_15, val_main_v73, val_main_cst_16, val_main_v74, val_main_cst_17, val_main_cst_18, val_main_v75, val_main_v76, val_main_cst_19, val_main_v77, val_main_v78, val_main_v79, val_main_cst_20, val_main_v81, val_main_v82, val_main_cst_21, val_main_v83, val_main_cst_22, val_main_v85, val_main_v86, val_main_v87, val_main_v88, val_main_cst_23, val_main_v89, val_main_v90, val_main_cst_24, val_main_v91, val_main_v92, val_main_v93, val_main_v94, val_main_v95, val_main_v96, val_main_cst_25, val_main_v97, val_main_v98, val_main_cst_26, val_main_v99, val_main_v100, val_main_cst_27, val_main_v101, val_main_v102, val_main_v103, val_main_v104, val_main_cst_28, val_main_v105, val_main_v106, val_main_v107, val_main_v108, val_main_cst_29, val_main_v109, val_main_v110, val_main_cst_30, val_main_v111, val_main_v112, val_main_v113, val_main_v114, val_main_v115, val_main_cst_31, val_main_v117, val_main_v118, val_main_v119, val_main_v120, val_main_cst_32, val_main_v121, val_main_v123, val_main_v124]
  by_cases h5 : 3 ≤ (i 0).val
  · split_ifs <;> first | (exfalso; omega) | skip
    refine (Finset.sum_eq_zero fun k _ => ?_).symm
    unfold entry
    split <;> first | rfl | (exfalso; omega)
  · obtain e | e | e : (i 0).val = 0 ∨ (i 0).val = 1 ∨ (i 0).val = 2 := by omega
    all_goals split_ifs <;> first | (exfalso; omega) | skip
    all_goals (rw [e]; try simp only [Fin.sum_univ_one])
    all_goals rfl

theorem final_11 (c : Dev nD)
    (hr : ∀ i, Finite.Real (val_main_v36 (F := Ideal) (arg0 m c) (arg1 m c) (arg2 m c) (arg4 m c) (arg5 m c) (arg6 m c) i)) (hd : ∀ i, Finite.Real (val_main_v88 (F := Ideal) (arg0 m c) (arg1 m c) (arg2 m c) (arg3 m c) (arg4 m c) (arg5 m c) (arg6 m c) (arg7 m c) (arg8 m c) i)) :
    (dats m 0 c).arrAt 11 cfg0.N = val_main_v122 (F := Ideal) (arg0 m c) (arg1 m c) (arg2 m c) (arg3 m c) (arg4 m c) (arg5 m c) (arg6 m c) (arg7 m c) (arg8 m c) := by
  refine (dats m 0 c).arrAt_eq_of_after_last 11 ⟨7, by decide⟩ (by decide +kernel) _ fun j => ?_
  rw [after0_11]
  have e := Pipeline.eq_sum_fin_of_reset_step_apply_last (fun n h => ((outsAt0 m c n h).2.2.1 : S8x1024.Idx → EReal)) 8 0
    (term m c) (step_first m c hr hd) (step_next m c hr hd) (by decide) ⟨7, by decide⟩ (by decide) j
  refine e.trans ?_
  refine (zero_add _).trans ?_
  refine Eq.trans ?_ (v122_apply _ _ _ _ _ _ _ _ _ _).symm
  have ej : (((cfg0.win 11).arr.view.emb j) : S8x1024.Idx) = j := rfl
  rw [ej]
  unfold term
  exact Fin.sum_mul_add_fin 8 512 (fun l : Fin 4096 => entry (arg0 m c) (arg1 m c) (arg2 m c) (arg3 m c) (arg4 m c) (arg5 m c) (arg6 m c) (arg7 m c) (arg8 m c) (j 0).val l (j 1))

/-! The loss. -/

/-- What point `t` adds to the loss: half the mean squared errors of its 512 rows. -/
def lossTerm (c : Dev nD) (t : Fin cfg0.N) (_ : S8x128.Idx) : EReal :=
  Ideal.ofBits .f32 0x3F000000#32 * ∑ k : Fin 512, val_main_v72 (F := Ideal) (arg0 m c) (arg1 m c) (arg2 m c) (arg3 m c) (arg4 m c) (arg5 m c) (arg6 m c) (arg7 m c) (arg8 m c) (ValueIdx.ix1 ⟨t.val * 512 + k.val, by have := point_lt t; omega⟩)

theorem lossZeros_apply (x : S8x128.Idx) : k0_pay4 (F := Ideal) x = (0 : EReal) := by
  unfold_payloads
  pointwise

theorem v72_apply (x0 x1 x2 x3 x4 x5 x6 x7 x8) (l : Fin 4096) : val_main_v72 (F := Ideal) x0 x1 x2 x3 x4 x5 x6 x7 x8 (ValueIdx.ix1 l)
    = LayerNorm.mean (fun k => val_main_v66 (F := Ideal) x0 x1 x2 x3 x4 x5 x6 x7 x8 (ValueIdx.ix2 l k) * val_main_v66 (F := Ideal) x0 x1 x2 x3 x4 x5 x6 x7 x8 (ValueIdx.ix2 l k)) := by
  pointwise [val_main_v0, val_main_v1, val_main_v2, val_main_v3, val_main_v4, val_main_v5, val_main_cst, val_main_v6, val_main_v7, val_main_cst_0, val_main_v8, val_main_v9, val_main_v10, val_main_v11, val_main_v12, val_main_cst_1, val_main_v13, val_main_v14, val_main_cst_2, val_main_v15, val_main_v16, val_main_v17, val_main_v18, val_main_cst_3, val_main_v19, val_main_v20, val_main_v21, val_main_v22, val_main_v23, val_main_v24, val_main_v25, val_main_v26, val_main_v27, val_main_v28, val_main_v29, val_main_cst_4, val_main_v30, val_main_v31, val_main_v32, val_main_v33, val_main_v34, val_main_v35, val_main_v36, val_main_cst_5, val_main_v37, val_main_v38, val_main_cst_6, val_main_v39, val_main_v40, val_main_v41, val_main_v42, val_main_v43, val_main_cst_7, val_main_v44, val_main_v45, val_main_cst_8, val_main_v46, val_main_v47, val_main_cst_9, val_main_v48, val_main_v49, val_main_v50, val_main_v51, val_main_cst_10, val_main_v52, val_main_v53, val_main_v54, val_main_v55, val_main_cst_11, val_main_v56, val_main_v57, val_main_v58, val_main_v59, val_main_v60, val_main_v61, val_main_v62, val_main_v63, val_main_v64, val_main_v65, val_main_v67, val_main_cst_12, val_main_v68, val_main_v69, val_main_cst_13, val_main_v70, val_main_cst_14, val_main_v71, val_main_v72, val_main_cst_15, val_main_v73, val_main_cst_16, val_main_v74, val_main_cst_17, val_main_cst_18, val_main_v75, val_main_v76, val_main_cst_19, val_main_v77, val_main_v78, val_main_v79, val_main_v80, val_main_cst_20, val_main_v81, val_main_v82, val_main_cst_21, val_main_v83, val_main_v84, val_main_cst_22, val_main_v85, val_main_v86, val_main_v87, val_main_v88, val_main_cst_23, val_main_v89, val_main_v90, val_main_cst_24, val_main_v91, val_main_v92, val_main_v93, val_main_v94, val_main_v95, val_main_v96, val_main_cst_25, val_main_v97, val_main_v98, val_main_cst_26, val_main_v99, val_main_v100, val_main_cst_27, val_main_v101, val_main_v102, val_main_v103, val_main_v104, val_main_cst_28, val_main_v105, val_main_v106, val_main_v107, val_main_v108, val_main_cst_29, val_main_v109, val_main_v110, val_main_cst_30, val_main_v111, val_main_v112, val_main_v113, val_main_v114, val_main_v115, val_main_v116, val_main_cst_31, val_main_v117, val_main_v118, val_main_v119, val_main_v120, val_main_cst_32, val_main_v121, val_main_v122, val_main_v123, val_main_v124]
  rfl

theorem pay13_apply (o q g : FVec Ideal S512x1024 .f32) (u v : FVec Ideal S1x1024 .f32) (y : FVec Ideal S512x1024 .f32) (w : FVec Ideal S8x128 .f32) (x : S8x128.Idx) :
    k0_pay13 (F := Ideal) o q g u v y w x = (w x + Ideal.ofBits .f32 0x3F000000#32 * ∑ k : Fin 512, LayerNorm.mean (fun j => k0_pay12 (F := Ideal) o q g u v y (ValueIdx.ix2 k j) * k0_pay12 (F := Ideal) o q g u v y (ValueIdx.ix2 k j)) : EReal) := by
  unfold k0_pay13
  pointwise []
  rfl

theorem lossPayload (c : Dev nD) (t : Fin cfg0.N) (w : FVec Ideal S8x128 .f32) (x : S8x128.Idx) (p : EReal) (hw : w x = p) :
    k0_pay13 (F := Ideal) (k0_pay5 (iblk m c 0 t) (iblk m c 1 t)) (k0_pay7 (iblk m c 2 t) (iblk m c 5 t) (iblk m c 6 t)) (k0_pay8 (View.ld (iblk m c 4 t) (Rect.unit ![5, 0] ![1, 1024] inb_S8x1024_S1x1024_5_0))) (iblk m c 7 t) (iblk m c 8 t) (iblk m c 3 t) w x = (p + lossTerm m c t x : EReal) := by
  refine (pay13_apply _ _ _ _ _ _ w x).trans ?_
  unfold lossTerm
  rw [hw]
  refine congrArg (fun y : EReal => p + Ideal.ofBits .f32 0x3F000000#32 * y) (Finset.sum_congr rfl fun k _ => Eq.trans ?_ (v72_apply _ _ _ _ _ _ _ _ _ _).symm)
  refine congrArg (fun f : LayerNorm.Row => LayerNorm.mean f) (funext fun j => ?_)
  exact congrArg₂ (· * ·) (error m c t (ValueIdx.ix2 k j)) (error m c t (ValueIdx.ix2 k j))

theorem loss_first (c : Dev nD) (t : Fin cfg0.N) (h0 : t.val % 8 = 0) (i : S8x128.Idx) :
    (outsAt0 m c t.val t.isLt).2.2.2 i = ((0 : S8x128.Idx → EReal) i + lossTerm m c t i : EReal) := by
  rw [outsAt0_A m c t h0]; frame_out
  exact lossPayload m c t _ i _ (lossZeros_apply _)

theorem loss_next (c : Dev nD) (t : Fin cfg0.N) (h0 : ¬ t.val % 8 = 0) (i : S8x128.Idx) :
    (outsAt0 m c t.val t.isLt).2.2.2 i
      = ((outsAt0 m c (t.val - 1) (Nat.lt_of_le_of_lt (Nat.sub_le _ _) t.isLt)).2.2.2 i + lossTerm m c t i : EReal) := by
  rw [outsAt0_B m c t h0]; frame_out
  exact lossPayload m c t _ i _ rfl

theorem v124_apply (x0 x1 x2 x3 x4 x5 x6 x7 x8) (i : S8x128.Idx) : val_main_v124 (F := Ideal) x0 x1 x2 x3 x4 x5 x6 x7 x8 i
    = (Ideal.ofBits .f32 0x3F000000#32 * ∑ l : Fin 4096, val_main_v72 (F := Ideal) x0 x1 x2 x3 x4 x5 x6 x7 x8 (ValueIdx.ix1 l) : EReal) := by
  pointwise [val_main_v124, val_main_v74, val_main_v73, val_main_cst_16, val_main_cst_15]
  rfl

theorem half_real : Finite.Real (Ideal.ofBits .f32 0x3F000000#32) := ⟨1 / 2, by
  simp [Ideal.ofBits, Ideal.ieee, -EReal.coe_mul]; norm_num⟩

theorem final_12 (c : Dev nD) (he : ∀ i, Finite.Real (val_main_v72 (F := Ideal) (arg0 m c) (arg1 m c) (arg2 m c) (arg3 m c) (arg4 m c) (arg5 m c) (arg6 m c) (arg7 m c) (arg8 m c) i)) :
    (dats m 0 c).arrAt 12 cfg0.N = val_main_v124 (F := Ideal) (arg0 m c) (arg1 m c) (arg2 m c) (arg3 m c) (arg4 m c) (arg5 m c) (arg6 m c) (arg7 m c) (arg8 m c) := by
  refine (dats m 0 c).arrAt_eq_of_after_last 12 ⟨7, by decide⟩ (by decide +kernel) _ fun j => ?_
  rw [after0_12]
  have e := Pipeline.eq_sum_fin_of_reset_step_apply_last (fun n h => ((outsAt0 m c n h).2.2.2 : S8x128.Idx → EReal)) 8 0
    (lossTerm m c) (loss_first m c) (loss_next m c) (by decide) ⟨7, by decide⟩ (by decide) j
  refine e.trans ?_
  refine (zero_add _).trans ?_
  refine Eq.trans ?_ (v124_apply _ _ _ _ _ _ _ _ _ _).symm
  unfold lossTerm
  rw [Finite.mul_sum half_real fun l => he _]
  refine (Finset.sum_congr rfl fun t _ => Finite.mul_sum half_real fun k => he _).trans ?_
  exact Fin.sum_mul_add_fin 8 512 (fun l : Fin 4096 => Ideal.ofBits .f32 0x3F000000#32 * val_main_v72 (F := Ideal) (arg0 m c) (arg1 m c) (arg2 m c) (arg3 m c) (arg4 m c) (arg5 m c) (arg6 m c) (arg7 m c) (arg8 m c) (ValueIdx.ix1 l))

end Cert.Kernel11Ideal.RefValue

end
-- ==== Proof.LossBackwardClaim.lean ====
/- The value claim of the loss and the gradient through the second residual. -/
module

public import proofs.«01_k».proof.Defs
public import proofs.«01_k».proof.Proof.LossSums

@[expose] public section

set_option maxRecDepth 16384

noncomputable section

namespace Cert.Kernel11Ideal.RefValue

open Kernel11Ideal Kernel11Ideal.Gen Idealize.ShloMosaic Idealize.ShloMosaic.TcCoe Idealize.SL.Sem
open Reference11Ideal.Read

/-- The reference runs, keeps its arguments, and leaves every semaphore at zero. -/
theorem reference_quiescent [hR : Reference11Ideal.Facts] : Cert.quiescent_Reference11Ideal (hReference11Ideal := hR) := by
  intro m ρ _
  refine (θ_run Reference11Ideal.defs _ _).mono (fun r h => ⟨fun c => ?_, sem_eq_zero_of_no_sems (by decide) r.2⟩)
    (Reference11Ideal.Value.run (F := Ideal) m ρ)
  exact (h c).2.2.2.2

/-- The side conditions of the finiteness check. -/
theorem precondition_facts : Pre_finite11.Facts := by
  constructor <;> first | (intro a; exact Fin.elim0 a) | decide

/-- Where the check holds, argument 0 holds real numbers. -/
theorem real0 [Pre_finite11.Facts] {m : (ℓ : Loc nD τ sig) → Buf (Elt Ideal) ℓ} (h : Pre_Kernel11Ideal_finite11 m) (c : Dev nD) (i) :
    Finite.Real (m (c.tc.loc main_arg0) i) :=
  Finite.of_check_bits (congrFun (h c).1 i)

/-- Where the check holds, argument 1 holds real numbers. -/
theorem real1 [Pre_finite11.Facts] {m : (ℓ : Loc nD τ sig) → Buf (Elt Ideal) ℓ} (h : Pre_Kernel11Ideal_finite11 m) (c : Dev nD) (i) :
    Finite.Real (m (c.tc.loc main_arg1) i) :=
  Finite.of_check_bits (congrFun (h c).2.1 i)

/-- Where the check holds, argument 2 holds real numbers. -/
theorem real2 [Pre_finite11.Facts] {m : (ℓ : Loc nD τ sig) → Buf (Elt Ideal) ℓ} (h : Pre_Kernel11Ideal_finite11 m) (c : Dev nD) (i) :
    Finite.Real (m (c.tc.loc main_arg2) i) :=
  Finite.of_check_bits (congrFun (h c).2.2.1 i)

/-- Where the check holds, argument 3 holds real numbers. -/
theorem real3 [Pre_finite11.Facts] {m : (ℓ : Loc nD τ sig) → Buf (Elt Ideal) ℓ} (h : Pre_Kernel11Ideal_finite11 m) (c : Dev nD) (i) :
    Finite.Real (m (c.tc.loc main_arg3) i) :=
  Finite.of_check_bits (congrFun (h c).2.2.2.1 i)

/-- Where the check holds, argument 4 holds real numbers. -/
theorem real4 [Pre_finite11.Facts] {m : (ℓ : Loc nD τ sig) → Buf (Elt Ideal) ℓ} (h : Pre_Kernel11Ideal_finite11 m) (c : Dev nD) (i) :
    Finite.Real (m (c.tc.loc main_arg4) i) :=
  Finite.of_check_bits (congrFun (h c).2.2.2.2.1 i)

/-- Where the check holds, argument 5 holds real numbers. -/
theorem real5 [Pre_finite11.Facts] {m : (ℓ : Loc nD τ sig) → Buf (Elt Ideal) ℓ} (h : Pre_Kernel11Ideal_finite11 m) (c : Dev nD) (i) :
    Finite.Real (m (c.tc.loc main_arg5) i) :=
  Finite.of_check_bits (congrFun (h c).2.2.2.2.2.1 i)

/-- Where the check holds, argument 6 holds real numbers. -/
theorem real6 [Pre_finite11.Facts] {m : (ℓ : Loc nD τ sig) → Buf (Elt Ideal) ℓ} (h : Pre_Kernel11Ideal_finite11 m) (c : Dev nD) (i) :
    Finite.Real (m (c.tc.loc main_arg6) i) :=
  Finite.of_check_bits (congrFun (h c).2.2.2.2.2.2.1 i)

/-- Where the check holds, argument 7 holds real numbers. -/
theorem real7 [Pre_finite11.Facts] {m : (ℓ : Loc nD τ sig) → Buf (Elt Ideal) ℓ} (h : Pre_Kernel11Ideal_finite11 m) (c : Dev nD) (i) :
    Finite.Real (m (c.tc.loc main_arg7) i) :=
  Finite.of_check_bits (congrFun (h c).2.2.2.2.2.2.2.1 i)

/-- Where the check holds, argument 8 holds real numbers. -/
theorem real8 [Pre_finite11.Facts] {m : (ℓ : Loc nD τ sig) → Buf (Elt Ideal) ℓ} (h : Pre_Kernel11Ideal_finite11 m) (c : Dev nD) (i) :
    Finite.Real (m (c.tc.loc main_arg8) i) :=
  Finite.of_check_bits (congrFun (h c).2.2.2.2.2.2.2.2 i)

theorem constant_real : Finite.Real (Ideal.ofBits .f32 0x3F9837F0#32) := by
  refine ⟨9975792 * (2 ^ 23)⁻¹, ?_⟩
  simp [Ideal.ofBits, Ideal.ieee]

theorem two_real : Finite.Real (Ideal.ofBits .f32 0x40000000#32) := ⟨2, LayerNorm.two_coe⟩

theorem half_width_real : Finite.Real (Ideal.div (Ideal.ofBits .f32 0x3F000000#32) LayerNorm.width) := by
  obtain ⟨x, hx⟩ := half_real
  exact ⟨x / 1024, (congrArg (fun y => Ideal.div y LayerNorm.width) hx).trans (LayerNorm.div_width x)⟩

/-- The sum of the second residual is real there. -/
theorem residual_real [Pre_finite11.Facts] {m : (ℓ : Loc nD τ sig) → Buf (Elt Ideal) ℓ} (h : Pre_Kernel11Ideal_finite11 m) (c : Dev nD) (i) :
    Finite.Real (val_main_v36 (F := Ideal) (m (c.tc.loc main_arg0)) (m (c.tc.loc main_arg1)) (m (c.tc.loc main_arg2)) (m (c.tc.loc main_arg4)) (m (c.tc.loc main_arg5)) (m (c.tc.loc main_arg6)) i) := by
  obtain ⟨p, q, rfl⟩ := Sums.pair i
  have e : Finite.Real (val_main_v23 (F := Ideal) (m (c.tc.loc main_arg2)) (ValueIdx.ix2 p q)) :=
    (congrArg Finite.Real (v23_apply _ p q)).mpr (LayerNorm.hat_real (fun k => real2 h c _) q)
  pointwise [val_main_v36, val_main_v31, val_main_v30, val_main_cst_4, val_main_v29, val_main_v28, val_main_v27, val_main_v26, val_main_v25, val_main_v24, val_main_v35, val_main_v34, val_main_v5, val_main_v33, val_main_v32]
  exact Finite.add (Finite.mul constant_real (Finite.add (Finite.mul e (real5 h c _)) (real6 h c _)))
    (Finite.mul (real4 h c _) (Finite.dot (fun k => real0 h c _) (fun k => real1 h c _)))

/-- So is the error of the norm … -/
theorem error_real [Pre_finite11.Facts] {m : (ℓ : Loc nD τ sig) → Buf (Elt Ideal) ℓ} (h : Pre_Kernel11Ideal_finite11 m) (c : Dev nD) (i) :
    Finite.Real (val_main_v66 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) i) := by
  obtain ⟨p, q, rfl⟩ := Sums.pair i
  have e : Finite.Real (val_main_v59 (F := Ideal) (m (c.tc.loc main_arg0)) (m (c.tc.loc main_arg1)) (m (c.tc.loc main_arg2)) (m (c.tc.loc main_arg4)) (m (c.tc.loc main_arg5)) (m (c.tc.loc main_arg6)) (ValueIdx.ix2 p q)) :=
    (congrArg Finite.Real (v59_apply _ _ _ _ _ _ p q)).mpr (LayerNorm.hat_real (fun k => residual_real h c _) q)
  pointwise [val_main_v66, val_main_v65, val_main_v64, val_main_v63, val_main_v62, val_main_v61, val_main_v60]
  exact Finite.sub (Finite.add (Finite.mul e (real7 h c _)) (real8 h c _)) (real3 h c _)

/-- … the mean of its squares … -/
theorem mean_square_real [Pre_finite11.Facts] {m : (ℓ : Loc nD τ sig) → Buf (Elt Ideal) ℓ} (h : Pre_Kernel11Ideal_finite11 m) (c : Dev nD) (i) :
    Finite.Real (val_main_v72 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) i) := by
  obtain ⟨p, rfl⟩ : ∃ p : Fin 4096, i = ValueIdx.ix1 p := ⟨i 0, funext fun a => by fin_cases a; rfl⟩
  exact (congrArg Finite.Real (v72_apply _ _ _ _ _ _ _ _ _ _)).mpr
    (LayerNorm.mean_real fun k => Finite.mul (error_real h c _) (error_real h c _))

/-- … and the cotangent before the norm's scale. -/
theorem cotangent_real [Pre_finite11.Facts] {m : (ℓ : Loc nD τ sig) → Buf (Elt Ideal) ℓ} (h : Pre_Kernel11Ideal_finite11 m) (c : Dev nD) (i) :
    Finite.Real (val_main_v88 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) i) := by
  pointwise [val_main_v88, val_main_v87, val_main_v60, val_main_v80, val_main_v79, val_main_v78, val_main_v77, val_main_v76, val_main_v75, val_main_v69, val_main_v68, val_main_cst_12, val_main_cst_17, val_main_cst_18, val_main_cst_19]
  exact Finite.mul (Finite.mul half_width_real (Finite.mul two_real (error_real h c _))) (real7 h c _)

/-- Both programs, from memories agreeing on the arguments, run and end with equal results. -/
theorem algebraic [hK : Kernel11Ideal.Facts] [hR : Reference11Ideal.Facts] [hPre : Pre_finite11.Facts] :
    Cert.algebraic_Kernel11Ideal_Reference11Ideal_pre_finite11 (hKernel11Ideal := hK) (hReference11Ideal := hR) (hPre_finite11 := hPre) := by
  intro m ρ m' ρ' hpre hagree
  refine ⟨fun c => val_main_v113 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)), fun c => val_main_v123 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)), fun c => val_main_v122 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)), fun c => val_main_v124 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)), ?_, ?_⟩
  · refine (θ_run Kernel11Ideal.defs _ _).mono (fun r h c => ?_) (Kernel11Ideal.Value.run_blocks m ρ)
    obtain ⟨h0, h1, h2, h3, hk⟩ := h c
    exact ⟨h0.trans (final_9 m c (residual_real hpre c) (cotangent_real hpre c)), h1.trans (final_10 m c (residual_real hpre c) (cotangent_real hpre c)), h2.trans (final_11 m c (residual_real hpre c) (cotangent_real hpre c)), h3.trans (final_12 m c (mean_square_real hpre c)), hk⟩
  · refine (θ_run Reference11Ideal.defs _ _).mono (fun r h c => ?_) (Reference11Ideal.Value.run (F := Ideal) m' ρ')
    obtain ⟨h0, h1, h2, h3, hk⟩ := h c
    obtain ⟨e0, e1, e2, e3, e4, e5, e6, e7, e8⟩ := hagree c
    refine ⟨h0.trans ?_, h1.trans ?_, h2.trans ?_, h3.trans ?_, hk⟩
    · refine (val_main_v113_eq _).trans ?_
      show val_main_v113 (F := Ideal) (m' (c.tc.loc Reference11Ideal.main_arg0)) (m' (c.tc.loc Reference11Ideal.main_arg1)) (m' (c.tc.loc Reference11Ideal.main_arg2)) (m' (c.tc.loc Reference11Ideal.main_arg3)) (m' (c.tc.loc Reference11Ideal.main_arg4)) (m' (c.tc.loc Reference11Ideal.main_arg5)) (m' (c.tc.loc Reference11Ideal.main_arg6)) (m' (c.tc.loc Reference11Ideal.main_arg7)) (m' (c.tc.loc Reference11Ideal.main_arg8)) = _
      rw [e0, e1, e2, e3, e4, e5, e6, e7, e8]
    · refine (val_main_v123_eq _).trans ?_
      show val_main_v123 (F := Ideal) (m' (c.tc.loc Reference11Ideal.main_arg0)) (m' (c.tc.loc Reference11Ideal.main_arg1)) (m' (c.tc.loc Reference11Ideal.main_arg2)) (m' (c.tc.loc Reference11Ideal.main_arg3)) (m' (c.tc.loc Reference11Ideal.main_arg4)) (m' (c.tc.loc Reference11Ideal.main_arg5)) (m' (c.tc.loc Reference11Ideal.main_arg6)) (m' (c.tc.loc Reference11Ideal.main_arg7)) (m' (c.tc.loc Reference11Ideal.main_arg8)) = _
      rw [e0, e1, e2, e3, e4, e5, e6, e7, e8]
    · refine (val_main_v122_eq _).trans ?_
      show val_main_v122 (F := Ideal) (m' (c.tc.loc Reference11Ideal.main_arg0)) (m' (c.tc.loc Reference11Ideal.main_arg1)) (m' (c.tc.loc Reference11Ideal.main_arg2)) (m' (c.tc.loc Reference11Ideal.main_arg3)) (m' (c.tc.loc Reference11Ideal.main_arg4)) (m' (c.tc.loc Reference11Ideal.main_arg5)) (m' (c.tc.loc Reference11Ideal.main_arg6)) (m' (c.tc.loc Reference11Ideal.main_arg7)) (m' (c.tc.loc Reference11Ideal.main_arg8)) = _
      rw [e0, e1, e2, e3, e4, e5, e6, e7, e8]
    · refine (val_main_v124_eq _).trans ?_
      show val_main_v124 (F := Ideal) (m' (c.tc.loc Reference11Ideal.main_arg0)) (m' (c.tc.loc Reference11Ideal.main_arg1)) (m' (c.tc.loc Reference11Ideal.main_arg2)) (m' (c.tc.loc Reference11Ideal.main_arg3)) (m' (c.tc.loc Reference11Ideal.main_arg4)) (m' (c.tc.loc Reference11Ideal.main_arg5)) (m' (c.tc.loc Reference11Ideal.main_arg6)) (m' (c.tc.loc Reference11Ideal.main_arg7)) (m' (c.tc.loc Reference11Ideal.main_arg8)) = _
      rw [e0, e1, e2, e3, e4, e5, e6, e7, e8]

end Cert.Kernel11Ideal.RefValue

end
-- ==== Proof.LatentValue.lean ====
/- What the arrays hold after the run of the backward kernel of the first projection. -/
module

public import proofs.«01_k».proof.Proof.LatentFrame
public import Idealize.ShloMosaic.Lib.Pipeline.Value

@[expose] public section

set_option maxRecDepth 16384

noncomputable section

namespace Cert.Kernel12Ideal.Gen.Latent

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the run the array of window 9 holds what the grid points wrote back. -/
theorem post9 (r : PUnit × MemSt nD τ sig (Elt F)) (h : Pipeline.FramePost cfgs (dats m) 0 (V m) r) (c : Dev nD) :
    r.2.mem (c.tc.loc main_v7_0) = (dats m 0 c).arrAt 9 cfg0.N :=
  (h c).1 9

/-- After the run the array of window 10 holds what the grid points wrote back. -/
theorem post10 (r : PUnit × MemSt nD τ sig (Elt F)) (h : Pipeline.FramePost cfgs (dats m) 0 (V m) r) (c : Dev nD) :
    r.2.mem (c.tc.loc main_v7_1) = (dats m 0 c).arrAt 10 cfg0.N :=
  (h c).1 10

/-- After the run argument `main_arg0` is as it was. -/
theorem kept_main_arg0 (r : PUnit × MemSt nD τ sig (Elt F)) (h : Pipeline.FramePost cfgs (dats m) 0 (V m) r) (c : Dev nD) :
    r.2.mem (c.tc.loc main_arg0) = m (c.tc.loc main_arg0) :=
  ((h c).1 0).trans (((dats m 0 c).arrAt_in 0 rfl _).trans ((A_eq m c 0).trans (V_main_arg0 m c)))

/-- After the run argument `main_arg1` is as it was. -/
theorem kept_main_arg1 (r : PUnit × MemSt nD τ sig (Elt F)) (h : Pipeline.FramePost cfgs (dats m) 0 (V m) r) (c : Dev nD) :
    r.2.mem (c.tc.loc main_arg1) = m (c.tc.loc main_arg1) :=
  ((h c).2 main_arg1 (Pipeline.mem_restRefs_of main_arg1 (by decide) (by decide))).trans (V_main_arg1 m c)

/-- After the run argument `main_arg2` is as it was. -/
theorem kept_main_arg2 (r : PUnit × MemSt nD τ sig (Elt F)) (h : Pipeline.FramePost cfgs (dats m) 0 (V m) r) (c : Dev nD) :
    r.2.mem (c.tc.loc main_arg2) = m (c.tc.loc main_arg2) :=
  ((h c).1 2).trans (((dats m 0 c).arrAt_in 2 rfl _).trans ((A_eq m c 2).trans (V_main_arg2 m c)))

/-- After the run argument `main_arg3` is as it was. -/
theorem kept_main_arg3 (r : PUnit × MemSt nD τ sig (Elt F)) (h : Pipeline.FramePost cfgs (dats m) 0 (V m) r) (c : Dev nD) :
    r.2.mem (c.tc.loc main_arg3) = m (c.tc.loc main_arg3) :=
  ((h c).1 3).trans (((dats m 0 c).arrAt_in 3 rfl _).trans ((A_eq m c 3).trans (V_main_arg3 m c)))

/-- After the run argument `main_arg4` is as it was. -/
theorem kept_main_arg4 (r : PUnit × MemSt nD τ sig (Elt F)) (h : Pipeline.FramePost cfgs (dats m) 0 (V m) r) (c : Dev nD) :
    r.2.mem (c.tc.loc main_arg4) = m (c.tc.loc main_arg4) :=
  ((h c).1 4).trans (((dats m 0 c).arrAt_in 4 rfl _).trans ((A_eq m c 4).trans (V_main_arg4 m c)))

/-- After the run argument `main_arg5` is as it was. -/
theorem kept_main_arg5 (r : PUnit × MemSt nD τ sig (Elt F)) (h : Pipeline.FramePost cfgs (dats m) 0 (V m) r) (c : Dev nD) :
    r.2.mem (c.tc.loc main_arg5) = m (c.tc.loc main_arg5) :=
  ((h c).2 main_arg5 (Pipeline.mem_restRefs_of main_arg5 (by decide) (by decide))).trans (V_main_arg5 m c)

/-- After the run argument `main_arg6` is as it was. -/
theorem kept_main_arg6 (r : PUnit × MemSt nD τ sig (Elt F)) (h : Pipeline.FramePost cfgs (dats m) 0 (V m) r) (c : Dev nD) :
    r.2.mem (c.tc.loc main_arg6) = m (c.tc.loc main_arg6) :=
  ((h c).2 main_arg6 (Pipeline.mem_restRefs_of main_arg6 (by decide) (by decide))).trans (V_main_arg6 m c)

/-- After the run argument `main_arg7` is as it was. -/
theorem kept_main_arg7 (r : PUnit × MemSt nD τ sig (Elt F)) (h : Pipeline.FramePost cfgs (dats m) 0 (V m) r) (c : Dev nD) :
    r.2.mem (c.tc.loc main_arg7) = m (c.tc.loc main_arg7) :=
  ((h c).2 main_arg7 (Pipeline.mem_restRefs_of main_arg7 (by decide) (by decide))).trans (V_main_arg7 m c)

/-- After the run argument `main_arg8` is as it was. -/
theorem kept_main_arg8 (r : PUnit × MemSt nD τ sig (Elt F)) (h : Pipeline.FramePost cfgs (dats m) 0 (V m) r) (c : Dev nD) :
    r.2.mem (c.tc.loc main_arg8) = m (c.tc.loc main_arg8) :=
  ((h c).2 main_arg8 (Pipeline.mem_restRefs_of main_arg8 (by decide) (by decide))).trans (V_main_arg8 m c)

/-- The run: the two results are what the grid points wrote back, and the arguments are as they were. -/
theorem run_blocks : θ_run defs (onTc (τ := τ) (main (F := F))) ⟨m, fun _ => 0, ρ⟩ fun r => ∀ c : Dev nD,
      r.2.mem (c.tc.loc main_v7_0) = (dats m 0 c).arrAt 9 cfg0.N
      ∧ r.2.mem (c.tc.loc main_v7_1) = (dats m 0 c).arrAt 10 cfg0.N
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8) :=
  (θ_run defs _ _).mono (fun r h c => ⟨post9 m r h c,
      post10 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.Kernel12Ideal.Gen.Latent

end
-- ==== Proof.LatentRows.lean ====
/- The layer norm and the products of a block of rows, as the backward kernel of the first projection computes them, and as its reference does. -/
module

public import proofs.«01_k».proof.Proof.LatentValue
public import proofs.«01_k».proof.Proof.Gen.Reference12Ideal.Run
public import proofs.«01_k».proof.Proof.Gen.Reference12Ideal.Read
public import proofs.«01_k».proof.Proof.LayerNorm
public import Idealize.ShloMosaic.Lib.Pipeline.ValueKit
public import Idealize.ShloMosaic.Lib.Pointwise

@[expose] public section

set_option maxRecDepth 16384

noncomputable section

namespace Cert.Kernel12Ideal.RefValue

open Kernel12Ideal Kernel12Ideal.Gen Kernel12Ideal.Gen.Latent Idealize.ShloMosaic Idealize.ShloMosaic.TcCoe Idealize.SL.Sem
open Idealize.ShloMosaic.Pipeline (Dat)
open Reference12Ideal.Read

variable (m : (ℓ : Loc nD τ sig) → Buf (Elt Ideal) ℓ)

/-! The arguments of the call, at a device. -/

abbrev arg0 (c : Dev nD) := m (c.tc.loc main_arg0)
abbrev arg1 (c : Dev nD) := m (c.tc.loc main_arg1)
abbrev arg2 (c : Dev nD) := m (c.tc.loc main_arg2)
abbrev arg3 (c : Dev nD) := m (c.tc.loc main_arg3)
abbrev arg4 (c : Dev nD) := m (c.tc.loc main_arg4)
abbrev arg5 (c : Dev nD) := m (c.tc.loc main_arg5)
abbrev arg6 (c : Dev nD) := m (c.tc.loc main_arg6)
abbrev arg7 (c : Dev nD) := m (c.tc.loc main_arg7)
abbrev arg8 (c : Dev nD) := m (c.tc.loc main_arg8)

/-- Whether a grid point is the last, whose rows are the context's: the bit the body computes. -/
abbrev last (i : grid0.Coords) : BitVec 1 := Scalar.cmpi .eq (BitVec.ofNat 32 (i 0).val) 16#32

theorem last_latent : ∀ t : Fin cfg0.N, t.val < 16 → last (grid0.coords t) = 0#1 :=
  (by decide +kernel : ∀ t : Fin grid0.N, t.val < 16 → last (grid0.coords t) = 0#1)
theorem last_context : ∀ t : Fin cfg0.N, ¬ t.val < 16 → last (grid0.coords t) = 1#1 :=
  (by decide +kernel : ∀ t : Fin grid0.N, ¬ t.val < 16 → last (grid0.coords t) = 1#1)

/-- The rows a point works on: the context's at the last point, else the latent ones. -/
def rows (i : grid0.Coords) (y x : FVec Ideal S256x1024 .f32) : FVec Ideal S256x1024 .f32 := Scalar.select (last i) y x

theorem select_zero {α : Type} {b : BitVec 1} (h : b = 0#1) (x y : α) : Scalar.select b x y = y := by subst h; rfl
theorem select_one {α : Type} {b : BitVec 1} (h : b = 1#1) (x y : α) : Scalar.select b x y = x := by subst h; rfl

theorem rows_latent {i : grid0.Coords} (h : last i = 0#1) (y x : FVec Ideal S256x1024 .f32) : rows i y x = x := select_zero h y x
theorem rows_context {i : grid0.Coords} (h : last i = 1#1) (y x : FVec Ideal S256x1024 .f32) : rows i y x = y := select_one h y x

/-! What the body's own functions compute of a block's rows. -/

theorem centred_apply (i : grid0.Coords) (y x : FVec Ideal S256x1024 .f32) (z : S256x1024.Idx) :
    k0_pay7 (F := Ideal) i y x z = LayerNorm.centred (fun k => rows i y x (ValueIdx.ix2 (z 0) k)) (z 1) := by
  obtain ⟨p, q, rfl⟩ := Sums.pair z
  unfold k0_pay7 rows last
  dsimp only
  generalize Scalar.select _ y x = v
  pointwise []
  rfl

theorem rsqrt_apply (i : grid0.Coords) (y x : FVec Ideal S256x1024 .f32) (z : S256x1.Idx) :
    k0_pay8 (F := Ideal) i y x z = Ideal.rsqrt (LayerNorm.spread (fun k => rows i y x (ValueIdx.ix2 (z 0) k))) := by
  unfold k0_pay8
  pointwise []
  simp only [centred_apply]
  rfl

theorem hat_apply (i : grid0.Coords) (y x : FVec Ideal S256x1024 .f32) (z : S256x1024.Idx) :
    k0_pay9 (F := Ideal) i y x z = LayerNorm.hat (fun k => rows i y x (ValueIdx.ix2 (z 0) k)) (z 1) := by
  obtain ⟨p, q, rfl⟩ := Sums.pair z
  unfold k0_pay9
  pointwise []
  simp only [centred_apply, rsqrt_apply]
  rfl

theorem back_apply (i : grid0.Coords) (y x d : FVec Ideal S256x1024 .f32) (g : FVec Ideal S1x1024 .f32) (z : S256x1024.Idx) :
    k0_pay5 (F := Ideal) (k0_pay8 i y x) (k0_pay9 i y x) d g z
      = LayerNorm.back (fun k => rows i y x (ValueIdx.ix2 (z 0) k)) (fun k => d (ValueIdx.ix2 (z 0) k) * g (ValueIdx.ix2 0 k)) (z 1) := by
  obtain ⟨p, q, rfl⟩ := Sums.pair z
  unfold k0_pay5
  pointwise []
  simp only [hat_apply, rsqrt_apply]
  rfl

theorem product_apply (x : FVec Ideal S256x6912 .bf16) (w : FVec Ideal S1024x6912 .bf16) (z : S256x1024.Idx) :
    k0_pay12 (F := Ideal) x w z = (∑ k : Fin 6912, x (ValueIdx.ix2 (z 0) k) * w (ValueIdx.ix2 (z 1) k) : EReal) := by
  unfold k0_pay12
  pointwise []
  rfl

theorem weight_latent {b : BitVec 1} (h : b = 0#1) : k0_pay13 (F := Ideal) b = (1 : EReal) := by
  unfold k0_pay13
  refine (select_zero h _ _).trans ?_
  refine Eq.trans (b := ((8388608 * (2 ^ 23)⁻¹ : ℝ) : EReal)) ?_ ((congrArg _ (by norm_num)).trans EReal.coe_one)
  simp [Scalar.ofBits, Ideal.ofBits, Ideal.ieee]

theorem weight_context {b : BitVec 1} (h : b = 1#1) : k0_pay13 (F := Ideal) b = (0 : EReal) := by
  unfold k0_pay13
  refine (select_one h _ _).trans ?_
  simp [Scalar.ofBits, Ideal.ofBits, Ideal.ieee]

theorem cotangent_apply (b : BitVec 1) (s : FVec Ideal S1x1024 .f32) (x : FVec Ideal S256x6912 .bf16) (w : FVec Ideal S1024x6912 .bf16) (d : FVec Ideal S256x1024 .f32) (z : S256x1024.Idx) :
    k0_pay14 (F := Ideal) b s x w d z
      = (k0_pay12 (F := Ideal) x w z * (1 + s (ValueIdx.ix2 0 (z 1))) + k0_pay13 (F := Ideal) b * Ideal.ofBits .f32 0x3F9837F0#32 * d z : EReal) := by
  obtain ⟨p, q, rfl⟩ := Sums.pair z
  unfold k0_pay14
  generalize k0_pay13 (F := Ideal) b = l
  pointwise []
  rfl

/-! What the reference's arrays hold of a row. -/

theorem v35_apply (x3) (p : Fin 4096) (q : Fin 1024) : val_main_v35 (F := Ideal) x3 (ValueIdx.ix2 p q)
    = LayerNorm.hat (fun k => x3 (ValueIdx.ix2 p k)) q := by
  pointwise [val_main_cst, val_main_v13, val_main_v14, val_main_cst_0, val_main_v15, val_main_v16, val_main_v17, val_main_v18, val_main_v19, val_main_cst_2, val_main_v22, val_main_v23, val_main_cst_3, val_main_v24, val_main_v25, val_main_v26, val_main_v27, val_main_cst_4, val_main_v28, val_main_v29, val_main_v30, val_main_v34, val_main_v35]
  rfl

theorem v59_apply (x4) (p : Fin 256) (q : Fin 1024) : val_main_v59 (F := Ideal) x4 (ValueIdx.ix2 p q)
    = LayerNorm.hat (fun k => x4 (ValueIdx.ix2 p k)) q := by
  pointwise [val_main_cst_6, val_main_v42, val_main_v43, val_main_cst_7, val_main_v44, val_main_v45, val_main_v46, val_main_v47, val_main_v48, val_main_cst_8, val_main_v49, val_main_v50, val_main_cst_9, val_main_v51, val_main_v52, val_main_v53, val_main_v54, val_main_cst_10, val_main_v55, val_main_v56, val_main_v57, val_main_v58, val_main_v59]
  rfl

theorem v148_apply (x0 x1 x2 x3 x5 x7) (p : Fin 4096) (q : Fin 1024) : val_main_v148 (F := Ideal) x0 x1 x2 x3 x5 x7 (ValueIdx.ix2 p q)
    = LayerNorm.grad (fun k => x3 (ValueIdx.ix2 p k)) (fun k => val_main_v122 (F := Ideal) x0 x1 x2 x5 x7 (ValueIdx.ix2 p k)) q := by
  pointwise [val_main_cst, val_main_v13, val_main_v14, val_main_cst_0, val_main_v15, val_main_v16, val_main_v17, val_main_v18, val_main_v19, val_main_cst_1, val_main_v20, val_main_v21, val_main_cst_2, val_main_v22, val_main_v23, val_main_cst_3, val_main_v24, val_main_v25, val_main_v26, val_main_v27, val_main_cst_4, val_main_v28, val_main_v29, val_main_v30, val_main_v31, val_main_cst_5, val_main_v32, val_main_v33, val_main_v125, val_main_cst_29, val_main_v126, val_main_v127, val_main_v128, val_main_v129, val_main_v130, val_main_v131, val_main_cst_30, val_main_v132, val_main_v133, val_main_cst_31, val_main_v134, val_main_v135, val_main_cst_32, val_main_v136, val_main_v137, val_main_v138, val_main_v139, val_main_cst_33, val_main_v140, val_main_v141, val_main_v142, val_main_v143, val_main_cst_34, val_main_v144, val_main_v145, val_main_cst_35, val_main_v146, val_main_v147, val_main_v148]
  simp only [Fin.sum_univ_one]
  rfl

theorem v96_apply (x0 x1) (p : Fin 4096) (q : Fin 1024) : val_main_v96 (F := Ideal) x0 x1 (ValueIdx.ix2 p q)
    = (∑ k : Fin 6912, x0 (ValueIdx.ix2 ⟨p.val, by omega⟩ k) * x1 (ValueIdx.ix2 q k) : EReal) := by
  pointwise [val_main_v12, val_main_v84, val_main_v96]
  rfl

theorem v86_apply (x0 x1) (p : Fin 256) (q : Fin 1024) : val_main_v86 (F := Ideal) x0 x1 (ValueIdx.ix2 p q)
    = (∑ k : Fin 6912, x0 (ValueIdx.ix2 ⟨4096 + p.val, by omega⟩ k) * x1 (ValueIdx.ix2 q k) : EReal) := by
  pointwise [val_main_v12, val_main_v85, val_main_v86]
  rfl

end Cert.Kernel12Ideal.RefValue

end
-- ==== Proof.LatentBackward.lean ====
/- The gradient through the first projection: the product with its weight, the modulation, and the layer norm. -/
module

public import proofs.«01_k».proof.Proof.LatentValue
public import proofs.«01_k».proof.Proof.Gen.Reference12Ideal.Run
public import proofs.«01_k».proof.Proof.Gen.Reference12Ideal.Read
public import proofs.«01_k».proof.Proof.LatentRows
public import Idealize.ShloMosaic.Lib.Pipeline.ValueKit
public import Idealize.ShloMosaic.Lib.Pointwise

@[expose] public section

set_option maxRecDepth 16384

noncomputable section

namespace Cert.Kernel12Ideal.RefValue

open Kernel12Ideal Kernel12Ideal.Gen Kernel12Ideal.Gen.Latent Idealize.ShloMosaic Idealize.ShloMosaic.TcCoe Idealize.SL.Sem
open Idealize.ShloMosaic.Pipeline (Dat)
open Reference12Ideal.Read

variable (m : (ℓ : Loc nD τ sig) → Buf (Elt Ideal) ℓ)

/-! The block each window visits at a grid point. -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![min t.val 15, 0] := (by decide +kernel : ∀ t : Fin grid0.N, _)
theorem idx3 : ∀ t : Fin cfg0.N, win0_3.index t = ![min t.val 15, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![min t.val 15, 0] := (by decide +kernel : ∀ t : Fin grid0.N, _)
theorem idx10 : ∀ t : Fin cfg0.N, win0_10.index t = ![0, 0] := (by decide +kernel : ∀ t : Fin grid0.N, _)

theorem point_lt (t : Fin cfg0.N) : t.val < 17 := lt_of_lt_of_eq t.isLt N_0

/-! What each input window holds at a grid point. -/

theorem block0 (c : Dev nD) (t : Fin cfg0.N) (j : S256x6912.Idx) :
    iblk m c 0 t j = (arg0 m c (ValueIdx.ix2 ⟨t.val * 256 + (j 0).val, by have := point_lt t; have : (j 0).val < 256 := (j 0).isLt; omega⟩ (j 1)) : EReal) := by
  blk_ext! [iblk, V, idx0]

theorem read_v0 (c : Dev nD) : V m c main_v0 = (truncf .bf16 (arg1 m c) bitsLt_bf16_f32 : FVec Ideal S1024x6912 .bf16) := by
  entry_read; rfl

theorem block1 (c : Dev nD) (t : Fin cfg0.N) (j : S1024x6912.Idx) : iblk m c 1 t j = (arg1 m c j : EReal) := by
  show V m c main_v0 (((cfg0.win 1).blk t).view.emb j) = _
  rw [read_v0]
  pointwise []
  blk_ext! [idx1]

theorem block4 (c : Dev nD) (t : Fin cfg0.N) (j : S256x1024.Idx) : iblk m c 4 t j = (arg4 m c j : EReal) := by
  blk_ext! [iblk, V, idx4]

theorem block2 (c : Dev nD) (t : Fin cfg0.N) (h : t.val < 16) (j : S256x1024.Idx) :
    iblk m c 2 t j = (arg2 m c (ValueIdx.ix2 ⟨t.val * 256 + (j 0).val, by have : (j 0).val < 256 := (j 0).isLt; omega⟩ (j 1)) : EReal) := by
  have hm : min t.val 15 = t.val := by omega
  blk_ext! [iblk, V, idx2, hm]

theorem block3 (c : Dev nD) (t : Fin cfg0.N) (h : t.val < 16) (j : S256x1024.Idx) :
    iblk m c 3 t j = (arg3 m c (ValueIdx.ix2 ⟨t.val * 256 + (j 0).val, by have : (j 0).val < 256 := (j 0).isLt; omega⟩ (j 1)) : EReal) := by
  have hm : min t.val 15 = t.val := by omega
  blk_ext! [iblk, V, idx3, hm]

theorem read_v1 (c : Dev nD) : V m c main_v1 = shapeCast S1x1024 (arg5 m c) shapeCasts_S1024_S1x1024 := by
  entry_read; rfl

theorem block5 (c : Dev nD) (t : Fin cfg0.N) (j : S1x1024.Idx) : iblk m c 5 t j = (arg5 m c (ValueIdx.ix1 (j 1)) : EReal) := by
  show V m c main_v1 (((cfg0.win 5).blk t).view.emb j) = _
  rw [read_v1]
  pointwise []
  blk_ext! [idx5]

theorem read_v2 (c : Dev nD) : V m c main_v2 = shapeCast S1x1024 (arg6 m c) shapeCasts_S1024_S1x1024 := by
  entry_read; rfl

theorem block6 (c : Dev nD) (t : Fin cfg0.N) (j : S1x1024.Idx) : iblk m c 6 t j = (arg6 m c (ValueIdx.ix1 (j 1)) : EReal) := by
  show V m c main_v2 (((cfg0.win 6).blk t).view.emb j) = _
  rw [read_v2]
  pointwise []
  blk_ext! [idx6]

theorem read_v4 (c : Dev nD) : V m c main_v4 = pad S8x1024 ![0, 0] ![2, 0] ![0, 0] (shapeCast S6x1024 (arg7 m c) shapeCasts_S1x6144_S6x1024) (sitofp (F := Ideal) .f32 (constantI S_ 32 0#32) : FVec Ideal S_ .f32) pads_S6x1024_S8x1024_020_000 h_S_ := by
  entry_read; rfl

theorem read_v6 (c : Dev nD) : V m c main_v6 = pad S8x1024 ![0, 0] ![2, 0] ![0, 0] (shapeCast S6x1024 (arg8 m c) shapeCasts_S6144_S6x1024) (sitofp (F := Ideal) .f32 (constantI S_ 32 0#32) : FVec Ideal S_ .f32) pads_S6x1024_S8x1024_020_000 h_S_ := by
  entry_read; rfl

/-- Row 1 of the latents' six modulation rows, stacked and padded to eight. -/
theorem padded_latent (x : FVec Ideal S1x6144 .f32) (v : FVec Ideal S_ .f32) (q : Fin 1024) :
    pad S8x1024 ![0, 0] ![2, 0] ![0, 0] (shapeCast S6x1024 x shapeCasts_S1x6144_S6x1024) v pads_S6x1024_S8x1024_020_000 h_S_ (ValueIdx.ix2 (⟨1, by decide⟩ : Fin 8) q)
      = (x (ValueIdx.ix2 0 ⟨1024 + q.val, by omega⟩) : EReal) := by
  pointwise []
  rfl

/-- Row 1 of the context's. -/
theorem padded_context (x : FVec Ideal S6144 .f32) (v : FVec Ideal S_ .f32) (q : Fin 1024) :
    pad S8x1024 ![0, 0] ![2, 0] ![0, 0] (shapeCast S6x1024 x shapeCasts_S6144_S6x1024) v pads_S6x1024_S8x1024_020_000 h_S_ (ValueIdx.ix2 (⟨1, by decide⟩ : Fin 8) q)
      = (x (ValueIdx.ix1 ⟨1024 + q.val, by omega⟩) : EReal) := by
  pointwise []
  rfl

theorem scale_latent (c : Dev nD) (t : Fin cfg0.N) (q : Fin 1024) : iblk m c 7 t (ValueIdx.ix2 (⟨1, by decide⟩ : Fin 8) q) = (arg7 m c (ValueIdx.ix2 0 ⟨1024 + q.val, by omega⟩) : EReal) := by
  show V m c main_v4 (((cfg0.win 7).blk t).view.emb (ValueIdx.ix2 (⟨1, by decide⟩ : Fin 8) q)) = _
  rw [read_v4]
  have h : ((cfg0.win 7).blk t).view.emb (ValueIdx.ix2 (⟨1, by decide⟩ : Fin 8) q) = ValueIdx.ix2 (⟨1, by decide⟩ : Fin 8) q := by
    blk_ext! [idx7]
  rw [h]
  exact padded_latent (arg7 m c) _ _

theorem scale_context (c : Dev nD) (t : Fin cfg0.N) (q : Fin 1024) : iblk m c 8 t (ValueIdx.ix2 (⟨1, by decide⟩ : Fin 8) q) = (arg8 m c (ValueIdx.ix1 ⟨1024 + q.val, by omega⟩) : EReal) := by
  show V m c main_v6 (((cfg0.win 8).blk t).view.emb (ValueIdx.ix2 (⟨1, by decide⟩ : Fin 8) q)) = _
  rw [read_v6]
  have h : ((cfg0.win 8).blk t).view.emb (ValueIdx.ix2 (⟨1, by decide⟩ : Fin 8) q) = ValueIdx.ix2 (⟨1, by decide⟩ : Fin 8) q := by
    blk_ext! [idx8]
  rw [h]
  exact padded_context (arg8 m c) _ _

/-! What the body computes at a grid point with latent rows: the reference's arrays at the point's rows. -/

theorem dh_latent (c : Dev nD) (t : Fin cfg0.N) (h : t.val < 16) (z : S256x1024.Idx) : (k0_pay12 (F := Ideal) (iblk m c 0 t) (iblk m c 1 t)) z = (val_main_v96 (F := Ideal) (arg0 m c) (arg1 m c) (ValueIdx.ix2 ⟨t.val * 256 + (z 0).val, by have : (z 0).val < 256 := (z 0).isLt; omega⟩ (z 1)) : EReal) := by
  refine (product_apply _ _ z).trans (Eq.trans ?_ (v96_apply _ _ _ _).symm)
  exact Finset.sum_congr rfl fun k _ => congrArg₂ (· * ·) (block0 m c t _) (block1 m c t _)

theorem hat_latent (c : Dev nD) (t : Fin cfg0.N) (h : t.val < 16) (z : S256x1024.Idx) : (k0_pay9 (F := Ideal) (grid0.coords t) (iblk m c 4 t) (iblk m c 3 t)) z = (val_main_v35 (F := Ideal) (arg3 m c) (ValueIdx.ix2 ⟨t.val * 256 + (z 0).val, by have : (z 0).val < 256 := (z 0).isLt; omega⟩ (z 1)) : EReal) := by
  refine (hat_apply _ _ _ z).trans (Eq.trans ?_ (v35_apply _ _ _).symm)
  rw [rows_latent (last_latent t h)]
  exact congrArg (fun r => LayerNorm.hat r (z 1)) (funext fun k => block3 m c t h _)

theorem xn_latent (c : Dev nD) (t : Fin cfg0.N) (h : t.val < 16) (z : S256x1024.Idx) : (k0_pay10 (F := Ideal) (grid0.coords t) (iblk m c 4 t) (iblk m c 3 t) (iblk m c 5 t) (iblk m c 6 t)) z = (val_main_v41 (F := Ideal) (arg3 m c) (arg5 m c) (arg6 m c) (ValueIdx.ix2 ⟨t.val * 256 + (z 0).val, by have : (z 0).val < 256 := (z 0).isLt; omega⟩ (z 1)) : EReal) := by
  unfold k0_pay10
  pointwise [val_main_v41, val_main_v40, val_main_v39, val_main_v38, val_main_v37, val_main_v36]
  simp only [hat_latent m c t h, block5, block6]
  rfl

theorem scaled_latent (c : Dev nD) (t : Fin cfg0.N) (h : t.val < 16) (q : Fin 1024) : (k0_pay11 (F := Ideal) (grid0.coords t) (View.ld (iblk m c 8 t) (Rect.unit ![1, 0] ![1, 1024] inb_S8x1024_S1x1024_1_0)) (View.ld (iblk m c 7 t) (Rect.unit ![1, 0] ![1, 1024] inb_S8x1024_S1x1024_1_0))) (ValueIdx.ix2 0 q) = (arg7 m c (ValueIdx.ix2 0 ⟨1024 + q.val, by omega⟩) : EReal) := by
  refine Eq.trans ?_ (scale_latent m c t q)
  refine (congrFun (select_zero (last_latent t h) _ _) _).trans ?_
  pointwise []
  rfl

theorem dx_latent (c : Dev nD) (t : Fin cfg0.N) (h : t.val < 16) (z : S256x1024.Idx) : (k0_pay14 (F := Ideal) (last (grid0.coords t)) (k0_pay11 (F := Ideal) (grid0.coords t) (View.ld (iblk m c 8 t) (Rect.unit ![1, 0] ![1, 1024] inb_S8x1024_S1x1024_1_0)) (View.ld (iblk m c 7 t) (Rect.unit ![1, 0] ![1, 1024] inb_S8x1024_S1x1024_1_0))) (iblk m c 0 t) (iblk m c 1 t) (iblk m c 2 t)) z = (val_main_v106 (F := Ideal) (arg0 m c) (arg1 m c) (arg2 m c) (arg7 m c) (ValueIdx.ix2 ⟨t.val * 256 + (z 0).val, by have : (z 0).val < 256 := (z 0).isLt; omega⟩ (z 1)) : EReal) := by
  refine (cotangent_apply _ _ _ _ _ z).trans ?_
  rw [weight_latent (last_latent t h), one_mul]
  pointwise [val_main_v1, val_main_cst_12, val_main_v68, val_main_v69, val_main_v102, val_main_v103, val_main_cst_20, val_main_v104, val_main_v105, val_main_v106]
  exact congrArg₂ (· + ·) (congrArg₂ (· * ·) (dh_latent m c t h z) (congrArg (1 + ·) (scaled_latent m c t h (z 1)))) (congrArg₂ (· * ·) rfl (block2 m c t h z))

/-- The gradient of `x`, where the row and its cotangent are real numbers. -/
theorem back_latent (c : Dev nD) (t : Fin cfg0.N) (h : t.val < 16) (z : S256x1024.Idx)
    (hr : ∀ i, Finite.Real (arg3 m c i)) (hd : ∀ i, Finite.Real (val_main_v122 (F := Ideal) (arg0 m c) (arg1 m c) (arg2 m c) (arg5 m c) (arg7 m c) i)) :
    (k0_pay5 (F := Ideal) (k0_pay8 (F := Ideal) (grid0.coords t) (iblk m c 4 t) (iblk m c 3 t)) (k0_pay9 (F := Ideal) (grid0.coords t) (iblk m c 4 t) (iblk m c 3 t)) (k0_pay14 (F := Ideal) (last (grid0.coords t)) (k0_pay11 (F := Ideal) (grid0.coords t) (View.ld (iblk m c 8 t) (Rect.unit ![1, 0] ![1, 1024] inb_S8x1024_S1x1024_1_0)) (View.ld (iblk m c 7 t) (Rect.unit ![1, 0] ![1, 1024] inb_S8x1024_S1x1024_1_0))) (iblk m c 0 t) (iblk m c 1 t) (iblk m c 2 t)) (iblk m c 5 t)) z = (val_main_v148 (F := Ideal) (arg0 m c) (arg1 m c) (arg2 m c) (arg3 m c) (arg5 m c) (arg7 m c) (ValueIdx.ix2 ⟨t.val * 256 + (z 0).val, by have : (z 0).val < 256 := (z 0).isLt; omega⟩ (z 1)) : EReal) := by
  refine (back_apply _ _ _ _ _ z).trans (Eq.trans ?_ (v148_apply _ _ _ _ _ _ _ _).symm)
  refine Eq.trans ?_ (LayerNorm.grad_eq_back (fun k => hr _) (fun k => hd _) _).1.symm
  rw [rows_latent (last_latent t h)]
  refine congrArg₂ (fun r d => LayerNorm.back r d (z 1)) (funext fun k => block3 m c t h _) (funext fun k => ?_)
  refine (congrArg₂ (· * ·) (dx_latent m c t h (ValueIdx.ix2 (z 0) k)) (block5 m c t (ValueIdx.ix2 0 k))).trans ?_
  pointwise [val_main_v122, val_main_v121, val_main_v36]
  rfl

/-! What it computes at the last point, whose rows are the context's. -/

theorem dh_context (c : Dev nD) (t : Fin cfg0.N) (h : ¬ t.val < 16) (z : S256x1024.Idx) : (k0_pay12 (F := Ideal) (iblk m c 0 t) (iblk m c 1 t)) z = (val_main_v86 (F := Ideal) (arg0 m c) (arg1 m c) z : EReal) := by
  obtain ⟨p, q, rfl⟩ := Sums.pair z
  refine (product_apply _ _ _).trans (Eq.trans ?_ (v86_apply _ _ _ _).symm)
  refine Finset.sum_congr rfl fun k _ => congrArg₂ (· * ·) ((block0 m c t _).trans ?_) (block1 m c t _)
  refine congrArg (arg0 m c) (congrArg (fun r => ValueIdx.ix2 r k) (Fin.ext ?_))
  have := point_lt t
  show t.val * 256 + p.val = 4096 + p.val
  omega

theorem hat_context (c : Dev nD) (t : Fin cfg0.N) (h : ¬ t.val < 16) (z : S256x1024.Idx) : (k0_pay9 (F := Ideal) (grid0.coords t) (iblk m c 4 t) (iblk m c 3 t)) z = (val_main_v59 (F := Ideal) (arg4 m c) z : EReal) := by
  obtain ⟨p, q, rfl⟩ := Sums.pair z
  refine (hat_apply _ _ _ _).trans (Eq.trans ?_ (v59_apply _ _ _).symm)
  rw [rows_context (last_context t h)]
  exact congrArg (fun r => LayerNorm.hat r q) (funext fun k => block4 m c t _)

theorem xn_context (c : Dev nD) (t : Fin cfg0.N) (h : ¬ t.val < 16) (z : S256x1024.Idx) : (k0_pay10 (F := Ideal) (grid0.coords t) (iblk m c 4 t) (iblk m c 3 t) (iblk m c 5 t) (iblk m c 6 t)) z = (val_main_v65 (F := Ideal) (arg4 m c) (arg5 m c) (arg6 m c) z : EReal) := by
  obtain ⟨p, q, rfl⟩ := Sums.pair z
  unfold k0_pay10
  pointwise [val_main_v65, val_main_v64, val_main_v63, val_main_v62, val_main_v61, val_main_v60]
  simp only [hat_context m c t h, block5, block6]
  rfl

theorem scaled_context (c : Dev nD) (t : Fin cfg0.N) (h : ¬ t.val < 16) (q : Fin 1024) : (k0_pay11 (F := Ideal) (grid0.coords t) (View.ld (iblk m c 8 t) (Rect.unit ![1, 0] ![1, 1024] inb_S8x1024_S1x1024_1_0)) (View.ld (iblk m c 7 t) (Rect.unit ![1, 0] ![1, 1024] inb_S8x1024_S1x1024_1_0))) (ValueIdx.ix2 0 q) = (arg8 m c (ValueIdx.ix1 ⟨1024 + q.val, by omega⟩) : EReal) := by
  refine Eq.trans ?_ (scale_context m c t q)
  refine (congrFun (select_one (last_context t h) _ _) _).trans ?_
  pointwise []
  rfl

theorem dx_context (c : Dev nD) (t : Fin cfg0.N) (h : ¬ t.val < 16) (z : S256x1024.Idx) : (k0_pay14 (F := Ideal) (last (grid0.coords t)) (k0_pay11 (F := Ideal) (grid0.coords t) (View.ld (iblk m c 8 t) (Rect.unit ![1, 0] ![1, 1024] inb_S8x1024_S1x1024_1_0)) (View.ld (iblk m c 7 t) (Rect.unit ![1, 0] ![1, 1024] inb_S8x1024_S1x1024_1_0))) (iblk m c 0 t) (iblk m c 1 t) (iblk m c 2 t)) z = (val_main_v94 (F := Ideal) (arg0 m c) (arg1 m c) (arg8 m c) z : EReal) := by
  obtain ⟨p, q, rfl⟩ := Sums.pair z
  refine (cotangent_apply _ _ _ _ _ _).trans ?_
  rw [weight_context (last_context t h), zero_mul, zero_mul, add_zero]
  pointwise [val_main_v7, val_main_cst_13, val_main_v75, val_main_v76, val_main_v77, val_main_v93, val_main_v94]
  exact congrArg₂ (· * ·) (dh_context m c t h _) (congrArg (1 + ·) (scaled_context m c t h q))

/-! What is left in the block of `grad_x`. -/

theorem left_latent (c : Dev nD) (t : Fin cfg0.N) (h : t.val < 16) : (outsAt0 m c t.val t.isLt).1 = (k0_pay5 (F := Ideal) (k0_pay8 (F := Ideal) (grid0.coords t) (iblk m c 4 t) (iblk m c 3 t)) (k0_pay9 (F := Ideal) (grid0.coords t) (iblk m c 4 t) (iblk m c 3 t)) (k0_pay14 (F := Ideal) (last (grid0.coords t)) (k0_pay11 (F := Ideal) (grid0.coords t) (View.ld (iblk m c 8 t) (Rect.unit ![1, 0] ![1, 1024] inb_S8x1024_S1x1024_1_0)) (View.ld (iblk m c 7 t) (Rect.unit ![1, 0] ![1, 1024] inb_S8x1024_S1x1024_1_0))) (iblk m c 0 t) (iblk m c 1 t) (iblk m c 2 t)) (iblk m c 5 t)) := by
  by_cases h0 : t.val % 17 = 0
  · rw [outsAt0_A m c t h0 h]; frame_out; rfl
  · rw [outsAt0_B m c t h0 h]; frame_out; rfl

/-- The last point leaves what the point before it left. -/
theorem left_context (c : Dev nD) (t : Fin cfg0.N) (h : ¬ t.val < 16) :
    (outsAt0 m c t.val t.isLt).1 = (outsAt0 m c (t.val - 1) (Nat.lt_of_le_of_lt (Nat.sub_le _ _) t.isLt)).1 := by
  rw [outsAt0_C m c t (by have := point_lt t; omega) h]
  rfl

theorem left_apply (c : Dev nD) (t : Fin cfg0.N)
    (hr : ∀ i, Finite.Real (arg3 m c i)) (hd : ∀ i, Finite.Real (val_main_v122 (F := Ideal) (arg0 m c) (arg1 m c) (arg2 m c) (arg5 m c) (arg7 m c) i)) (z : S256x1024.Idx) :
    (outsAt0 m c t.val t.isLt).1 z = (val_main_v148 (F := Ideal) (arg0 m c) (arg1 m c) (arg2 m c) (arg3 m c) (arg5 m c) (arg7 m c) (ValueIdx.ix2 ⟨min t.val 15 * 256 + (z 0).val, by have : (z 0).val < 256 := (z 0).isLt; omega⟩ (z 1)) : EReal) := by
  by_cases h : t.val < 16
  · rw [left_latent m c t h]
    refine (back_latent m c t h z hr hd).trans (congrArg (val_main_v148 (F := Ideal) (arg0 m c) (arg1 m c) (arg2 m c) (arg3 m c) (arg5 m c) (arg7 m c)) (congrArg (fun r => ValueIdx.ix2 r (z 1)) (Fin.ext ?_)))
    show t.val * 256 + (z 0).val = min t.val 15 * 256 + (z 0).val
    omega
  · rw [left_context m c t h]
    have ht := point_lt t
    have h' : t.val - 1 < 16 := by omega
    refine (congrFun (left_latent m c ⟨t.val - 1, Nat.lt_of_le_of_lt (Nat.sub_le _ _) t.isLt⟩ h') z).trans ?_
    refine (back_latent m c ⟨t.val - 1, Nat.lt_of_le_of_lt (Nat.sub_le _ _) t.isLt⟩ h' z hr hd).trans (congrArg (val_main_v148 (F := Ideal) (arg0 m c) (arg1 m c) (arg2 m c) (arg3 m c) (arg5 m c) (arg7 m c)) (congrArg (fun r => ValueIdx.ix2 r (z 1)) (Fin.ext ?_)))
    show (t.val - 1) * 256 + (z 0).val = min t.val 15 * 256 + (z 0).val
    omega

theorem final_9 (c : Dev nD)
    (hr : ∀ i, Finite.Real (arg3 m c i)) (hd : ∀ i, Finite.Real (val_main_v122 (F := Ideal) (arg0 m c) (arg1 m c) (arg2 m c) (arg5 m c) (arg7 m c) i)) :
    (dats m 0 c).arrAt 9 cfg0.N = val_main_v148 (F := Ideal) (arg0 m c) (arg1 m c) (arg2 m c) (arg3 m c) (arg5 m c) (arg7 m c) := by
  refine (dats m 0 c).arrAt_eq_of_covers 9 _ (by decide +kernel) fun t hf y => ?_
  blk_simp
  rw [after0_9]
  refine (left_apply m c t hr hd y).trans (congrArg (val_main_v148 (F := Ideal) (arg0 m c) (arg1 m c) (arg2 m c) (arg3 m c) (arg5 m c) (arg7 m c)) ?_)
  blk_ext! [idx9]

end Cert.Kernel12Ideal.RefValue

end
-- ==== Proof.LatentSums.lean ====
/- The column sums of the gradient through the first projection: six rows, accumulated over the grid. -/
module

public import proofs.«01_k».proof.Proof.LatentValue
public import proofs.«01_k».proof.Proof.Gen.Reference12Ideal.Run
public import proofs.«01_k».proof.Proof.Gen.Reference12Ideal.Read
public import proofs.«01_k».proof.Proof.Pieces
public import proofs.«01_k».proof.Proof.LatentBackward
public import Idealize.ShloMosaic.Lib.Pipeline.ValueKit
public import Idealize.ShloMosaic.Lib.Pointwise

@[expose] public section

set_option maxRecDepth 16384

noncomputable section

namespace Cert.Kernel12Ideal.RefValue

open Kernel12Ideal Kernel12Ideal.Gen Kernel12Ideal.Gen.Latent Idealize.ShloMosaic Idealize.ShloMosaic.TcCoe Idealize.SL.Sem
open Idealize.ShloMosaic.Pipeline (Dat)
open Reference12Ideal.Read

variable (m : (ℓ : Loc nD τ sig) → Buf (Elt Ideal) ℓ)

/-- Entry `l`, `q` of the array over the latent rows whose column sums go to row `r`. -/
def latent (x0 : (⟨Reference12Ideal.S4352x6912, .bf16⟩ : BufTy).Contents (Elt Ideal)) (x1 : (⟨Reference12Ideal.S1024x6912, .f32⟩ : BufTy).Contents (Elt Ideal)) (x2 : (⟨Reference12Ideal.S4096x1024, .f32⟩ : BufTy).Contents (Elt Ideal)) (x3 : (⟨Reference12Ideal.S4096x1024, .f32⟩ : BufTy).Contents (Elt Ideal)) (x4 : (⟨Reference12Ideal.S256x1024, .f32⟩ : BufTy).Contents (Elt Ideal)) (x5 : (⟨Reference12Ideal.S1024, .f32⟩ : BufTy).Contents (Elt Ideal)) (x6 : (⟨Reference12Ideal.S1024, .f32⟩ : BufTy).Contents (Elt Ideal)) (x7 : (⟨Reference12Ideal.S1x6144, .f32⟩ : BufTy).Contents (Elt Ideal)) (x8 : (⟨Reference12Ideal.S6144, .f32⟩ : BufTy).Contents (Elt Ideal)) (r : ℕ) (l : Fin 4096) (q : Fin 1024) : EReal :=
  match r with
  | 0 => val_main_v96 (F := Ideal) x0 x1 (ValueIdx.ix2 l q)
  | 1 => val_main_v99 (F := Ideal) x0 x1 x3 x5 x6 (ValueIdx.ix2 l q)
  | 4 => val_main_v118 (F := Ideal) x0 x1 x2 x3 x7 (ValueIdx.ix2 l q)
  | 5 => val_main_v106 (F := Ideal) x0 x1 x2 x7 (ValueIdx.ix2 l q)
  | _ => 0

/-- Entry `l`, `q` of the array over the context's rows whose column sums go to row `r`. -/
def context (x0 : (⟨Reference12Ideal.S4352x6912, .bf16⟩ : BufTy).Contents (Elt Ideal)) (x1 : (⟨Reference12Ideal.S1024x6912, .f32⟩ : BufTy).Contents (Elt Ideal)) (x2 : (⟨Reference12Ideal.S4096x1024, .f32⟩ : BufTy).Contents (Elt Ideal)) (x3 : (⟨Reference12Ideal.S4096x1024, .f32⟩ : BufTy).Contents (Elt Ideal)) (x4 : (⟨Reference12Ideal.S256x1024, .f32⟩ : BufTy).Contents (Elt Ideal)) (x5 : (⟨Reference12Ideal.S1024, .f32⟩ : BufTy).Contents (Elt Ideal)) (x6 : (⟨Reference12Ideal.S1024, .f32⟩ : BufTy).Contents (Elt Ideal)) (x7 : (⟨Reference12Ideal.S1x6144, .f32⟩ : BufTy).Contents (Elt Ideal)) (x8 : (⟨Reference12Ideal.S6144, .f32⟩ : BufTy).Contents (Elt Ideal)) (r : ℕ) (l : Fin 256) (q : Fin 1024) : EReal :=
  match r with
  | 2 => val_main_v86 (F := Ideal) x0 x1 (ValueIdx.ix2 l q)
  | 3 => val_main_v90 (F := Ideal) x0 x1 x4 x5 x6 (ValueIdx.ix2 l q)
  | 4 => val_main_v110 (F := Ideal) x0 x1 x4 x8 (ValueIdx.ix2 l q)
  | 5 => val_main_v94 (F := Ideal) x0 x1 x8 (ValueIdx.ix2 l q)
  | _ => 0

/-- What point `t` adds to the accumulated sums: those of its 256 rows. -/
def term (c : Dev nD) (t : Fin cfg0.N) (i : S8x1024.Idx) : EReal :=
  if h : t.val < 16 then ∑ k : Fin 256, latent (arg0 m c) (arg1 m c) (arg2 m c) (arg3 m c) (arg4 m c) (arg5 m c) (arg6 m c) (arg7 m c) (arg8 m c) (i 0).val ⟨t.val * 256 + k.val, by omega⟩ (i 1)
  else ∑ k : Fin 256, context (arg0 m c) (arg1 m c) (arg2 m c) (arg3 m c) (arg4 m c) (arg5 m c) (arg6 m c) (arg7 m c) (arg8 m c) (i 0).val k (i 1)

theorem term_latent (c : Dev nD) (t : Fin cfg0.N) (h : t.val < 16) (i : S8x1024.Idx) :
    term m c t i = ∑ k : Fin 256, latent (arg0 m c) (arg1 m c) (arg2 m c) (arg3 m c) (arg4 m c) (arg5 m c) (arg6 m c) (arg7 m c) (arg8 m c) (i 0).val ⟨t.val * 256 + k.val, by omega⟩ (i 1) := dif_pos h

theorem term_context (c : Dev nD) (t : Fin cfg0.N) (h : ¬ t.val < 16) (i : S8x1024.Idx) :
    term m c t i = ∑ k : Fin 256, context (arg0 m c) (arg1 m c) (arg2 m c) (arg3 m c) (arg4 m c) (arg5 m c) (arg6 m c) (arg7 m c) (arg8 m c) (i 0).val k (i 1) := dif_neg h

theorem zeros_apply (x : S8x1024.Idx) : k0_pay6 (F := Ideal) x = (0 : EReal) := by
  unfold_payloads
  pointwise

theorem one_sub_one : (1 : EReal) - 1 = 0 := by
  show ((1 : ℝ) : EReal) - ((1 : ℝ) : EReal) = ((0 : ℝ) : EReal)
  rw [← EReal.coe_sub, sub_self]

theorem one_sub_zero : (1 : EReal) - 0 = 1 := by
  show ((1 : ℝ) : EReal) - ((0 : ℝ) : EReal) = ((1 : ℝ) : EReal)
  rw [← EReal.coe_sub, sub_zero]

theorem eq_add_sum {p w l : EReal} {f g : Fin 256 → EReal} (h : w = p) (hl : l = 1) (e : ∀ k, f k = g k) : w + l * ∑ k, f k = p + ∑ k, g k := by
  rw [h, hl, one_mul, Finset.sum_congr rfl fun k _ => e k]

theorem eq_add_zero {p w l s : EReal} {g : Fin 256 → EReal} (h : w = p) (hl : l = 0) (e : ∀ k, g k = 0) : w + l * s = p + ∑ k, g k := by
  rw [h, hl, zero_mul, Finset.sum_eq_zero fun k _ => e k]

theorem eq_add_plain {p w : EReal} {f g : Fin 256 → EReal} (h : w = p) (e : ∀ k, f k = g k) : w + ∑ k, f k = p + ∑ k, g k := by
  rw [h, Finset.sum_congr rfl fun k _ => e k]

/-! What each row's payload is, over what the row held. -/

theorem pay15_apply (x : FVec Ideal S256x6912 .bf16) (y : FVec Ideal S1024x6912 .bf16) (z : S1x1024.Idx) : k0_pay15 (F := Ideal) x y z = (∑ k : Fin 256, k0_pay12 (F := Ideal) x y (ValueIdx.ix2 k (z 1)) : EReal) := by
  unfold k0_pay15
  pointwise []
  rfl

theorem pay16_apply (u : FVec Ideal S256x1024 .f32) (x : FVec Ideal S256x6912 .bf16) (y : FVec Ideal S1024x6912 .bf16) (z : S1x1024.Idx) : k0_pay16 (F := Ideal) u x y z = (∑ k : Fin 256, k0_pay12 (F := Ideal) x y (ValueIdx.ix2 k (z 1)) * u (ValueIdx.ix2 k (z 1)) : EReal) := by
  unfold k0_pay16
  pointwise []
  rfl

theorem row0_apply (l : BitVec 1) (x : FVec Ideal S256x6912 .bf16) (y : FVec Ideal S1024x6912 .bf16) (w : FVec Ideal S1x1024 .f32) (z : S1x1024.Idx) :
    k0_pay17 (F := Ideal) l x y w z = (w z + k0_pay13 (F := Ideal) l * ∑ k : Fin 256, k0_pay12 (F := Ideal) x y (ValueIdx.ix2 k (z 1)) : EReal) := by
  unfold k0_pay17
  generalize k0_pay13 (F := Ideal) l = e
  pointwise []
  rw [← pay15_apply]

theorem row1_apply (l : BitVec 1) (u : FVec Ideal S256x1024 .f32) (x : FVec Ideal S256x6912 .bf16) (y : FVec Ideal S1024x6912 .bf16) (w : FVec Ideal S1x1024 .f32) (z : S1x1024.Idx) :
    k0_pay18 (F := Ideal) l u x y w z = (w z + k0_pay13 (F := Ideal) l * ∑ k : Fin 256, k0_pay12 (F := Ideal) x y (ValueIdx.ix2 k (z 1)) * u (ValueIdx.ix2 k (z 1)) : EReal) := by
  unfold k0_pay18
  generalize k0_pay13 (F := Ideal) l = e
  pointwise []
  rw [← pay16_apply]

theorem row2_apply (l : BitVec 1) (x : FVec Ideal S256x6912 .bf16) (y : FVec Ideal S1024x6912 .bf16) (w : FVec Ideal S1x1024 .f32) (z : S1x1024.Idx) :
    k0_pay1 (F := Ideal) (k0_pay19 w) (k0_pay20 l x y) z = (w z + (1 - k0_pay13 (F := Ideal) l) * ∑ k : Fin 256, k0_pay12 (F := Ideal) x y (ValueIdx.ix2 k (z 1)) : EReal) := by
  unfold k0_pay1 k0_pay19 k0_pay20
  generalize k0_pay13 (F := Ideal) l = e
  pointwise []
  rw [← pay15_apply]

theorem row3_apply (e : EReal) (u : FVec Ideal S256x1024 .f32) (x : FVec Ideal S256x6912 .bf16) (y : FVec Ideal S1024x6912 .bf16) (w : FVec Ideal S1x1024 .f32) (z : S1x1024.Idx) :
    k0_pay2 (F := Ideal) e (k0_pay16 (F := Ideal) u x y) w z = (w z + (1 - e) * ∑ k : Fin 256, k0_pay12 (F := Ideal) x y (ValueIdx.ix2 k (z 1)) * u (ValueIdx.ix2 k (z 1)) : EReal) := by
  unfold k0_pay2
  pointwise []
  rw [← pay16_apply]

theorem row4_apply (u d : FVec Ideal S256x1024 .f32) (w : FVec Ideal S1x1024 .f32) (z : S1x1024.Idx) :
    k0_pay3 (F := Ideal) u d w z = (w z + ∑ k : Fin 256, d (ValueIdx.ix2 k (z 1)) * u (ValueIdx.ix2 k (z 1)) : EReal) := by
  unfold k0_pay3
  pointwise []
  rfl

theorem row5_apply (d : FVec Ideal S256x1024 .f32) (w : FVec Ideal S1x1024 .f32) (z : S1x1024.Idx) :
    k0_pay4 (F := Ideal) d w z = (w z + ∑ k : Fin 256, d (ValueIdx.ix2 k (z 1)) : EReal) := by
  unfold k0_pay4
  pointwise []
  rfl

/-- The payload of row 0 at a point. -/
theorem payload0 (c : Dev nD) (t : Fin cfg0.N) (w : FVec Ideal S1x1024 .f32) (x : S1x1024.Idx) (p : EReal) (i : S8x1024.Idx)
    (h0 : (i 0).val = 0) (h1 : (x 1).val = (i 1).val) (hw : w x = p) :
    k0_pay17 (F := Ideal) (last (grid0.coords t)) (iblk m c 0 t) (iblk m c 1 t) w x = (p + term m c t i : EReal) := by
  have hq : (i 1 : Fin 1024) = (x 1 : Fin 1024) := Fin.ext h1.symm
  refine (row0_apply _ _ _ w x).trans ?_
  by_cases h : t.val < 16
  · rw [term_latent m c t h, h0, hq]
    exact eq_add_sum hw (weight_latent (last_latent t h)) fun k => dh_latent m c t h (ValueIdx.ix2 k (x 1))
  · rw [term_context m c t h, h0, hq]
    exact eq_add_zero hw (weight_context (last_context t h)) fun k => rfl

/-- The payload of row 1 at a point. -/
theorem payload1 (c : Dev nD) (t : Fin cfg0.N) (w : FVec Ideal S1x1024 .f32) (x : S1x1024.Idx) (p : EReal) (i : S8x1024.Idx)
    (h0 : (i 0).val = 1) (h1 : (x 1).val = (i 1).val) (hw : w x = p) :
    k0_pay18 (F := Ideal) (last (grid0.coords t)) (k0_pay10 (F := Ideal) (grid0.coords t) (iblk m c 4 t) (iblk m c 3 t) (iblk m c 5 t) (iblk m c 6 t)) (iblk m c 0 t) (iblk m c 1 t) w x = (p + term m c t i : EReal) := by
  have hq : (i 1 : Fin 1024) = (x 1 : Fin 1024) := Fin.ext h1.symm
  refine (row1_apply _ _ _ _ w x).trans ?_
  by_cases h : t.val < 16
  · rw [term_latent m c t h, h0, hq]
    exact eq_add_sum hw (weight_latent (last_latent t h)) fun k => (congrArg₂ (· * ·) (dh_latent m c t h (ValueIdx.ix2 k (x 1))) (xn_latent m c t h (ValueIdx.ix2 k (x 1)))).trans (EReal.mul_comm _ _)
  · rw [term_context m c t h, h0, hq]
    exact eq_add_zero hw (weight_context (last_context t h)) fun k => rfl

/-- The payload of row 2 at a point. -/
theorem payload2 (c : Dev nD) (t : Fin cfg0.N) (w : FVec Ideal S1x1024 .f32) (x : S1x1024.Idx) (p : EReal) (i : S8x1024.Idx)
    (h0 : (i 0).val = 2) (h1 : (x 1).val = (i 1).val) (hw : w x = p) :
    k0_pay1 (F := Ideal) (k0_pay19 w) (k0_pay20 (last (grid0.coords t)) (iblk m c 0 t) (iblk m c 1 t)) x = (p + term m c t i : EReal) := by
  have hq : (i 1 : Fin 1024) = (x 1 : Fin 1024) := Fin.ext h1.symm
  refine (row2_apply _ _ _ w x).trans ?_
  by_cases h : t.val < 16
  · rw [term_latent m c t h, h0, hq]
    exact eq_add_zero hw ((congrArg (1 - ·) (weight_latent (last_latent t h))).trans one_sub_one) fun k => rfl
  · rw [term_context m c t h, h0, hq]
    exact eq_add_sum hw ((congrArg (1 - ·) (weight_context (last_context t h))).trans one_sub_zero) fun k => dh_context m c t h (ValueIdx.ix2 k (x 1))

/-- The payload of row 3 at a point. -/
theorem payload3 (c : Dev nD) (t : Fin cfg0.N) (w : FVec Ideal S1x1024 .f32) (x : S1x1024.Idx) (p : EReal) (i : S8x1024.Idx)
    (h0 : (i 0).val = 3) (h1 : (x 1).val = (i 1).val) (hw : w x = p) :
    k0_pay2 (F := Ideal) (k0_pay13 (last (grid0.coords t))) (k0_pay16 (F := Ideal) (k0_pay10 (F := Ideal) (grid0.coords t) (iblk m c 4 t) (iblk m c 3 t) (iblk m c 5 t) (iblk m c 6 t)) (iblk m c 0 t) (iblk m c 1 t)) w x = (p + term m c t i : EReal) := by
  have hq : (i 1 : Fin 1024) = (x 1 : Fin 1024) := Fin.ext h1.symm
  refine (row3_apply _ _ _ _ w x).trans ?_
  by_cases h : t.val < 16
  · rw [term_latent m c t h, h0, hq]
    exact eq_add_zero hw ((congrArg (1 - ·) (weight_latent (last_latent t h))).trans one_sub_one) fun k => rfl
  · rw [term_context m c t h, h0, hq]
    exact eq_add_sum hw ((congrArg (1 - ·) (weight_context (last_context t h))).trans one_sub_zero) fun k => (congrArg₂ (· * ·) (dh_context m c t h (ValueIdx.ix2 k (x 1))) (xn_context m c t h (ValueIdx.ix2 k (x 1)))).trans (EReal.mul_comm _ _)

/-- The payload of row 4 at a point. -/
theorem payload4 (c : Dev nD) (t : Fin cfg0.N) (w : FVec Ideal S1x1024 .f32) (x : S1x1024.Idx) (p : EReal) (i : S8x1024.Idx)
    (h0 : (i 0).val = 4) (h1 : (x 1).val = (i 1).val) (hw : w x = p) :
    k0_pay3 (F := Ideal) (k0_pay9 (F := Ideal) (grid0.coords t) (iblk m c 4 t) (iblk m c 3 t)) (k0_pay14 (F := Ideal) (last (grid0.coords t)) (k0_pay11 (F := Ideal) (grid0.coords t) (View.ld (iblk m c 8 t) (Rect.unit ![1, 0] ![1, 1024] inb_S8x1024_S1x1024_1_0)) (View.ld (iblk m c 7 t) (Rect.unit ![1, 0] ![1, 1024] inb_S8x1024_S1x1024_1_0))) (iblk m c 0 t) (iblk m c 1 t) (iblk m c 2 t)) w x = (p + term m c t i : EReal) := by
  have hq : (i 1 : Fin 1024) = (x 1 : Fin 1024) := Fin.ext h1.symm
  refine (row4_apply _ _ w x).trans ?_
  by_cases h : t.val < 16
  · rw [term_latent m c t h, h0, hq]
    exact eq_add_plain hw fun k => (congrArg₂ (· * ·) (dx_latent m c t h (ValueIdx.ix2 k (x 1))) (hat_latent m c t h (ValueIdx.ix2 k (x 1)))).trans (EReal.mul_comm _ _)
  · rw [term_context m c t h, h0, hq]
    exact eq_add_plain hw fun k => (congrArg₂ (· * ·) (dx_context m c t h (ValueIdx.ix2 k (x 1))) (hat_context m c t h (ValueIdx.ix2 k (x 1)))).trans (EReal.mul_comm _ _)

/-- The payload of row 5 at a point. -/
theorem payload5 (c : Dev nD) (t : Fin cfg0.N) (w : FVec Ideal S1x1024 .f32) (x : S1x1024.Idx) (p : EReal) (i : S8x1024.Idx)
    (h0 : (i 0).val = 5) (h1 : (x 1).val = (i 1).val) (hw : w x = p) :
    k0_pay4 (F := Ideal) (k0_pay14 (F := Ideal) (last (grid0.coords t)) (k0_pay11 (F := Ideal) (grid0.coords t) (View.ld (iblk m c 8 t) (Rect.unit ![1, 0] ![1, 1024] inb_S8x1024_S1x1024_1_0)) (View.ld (iblk m c 7 t) (Rect.unit ![1, 0] ![1, 1024] inb_S8x1024_S1x1024_1_0))) (iblk m c 0 t) (iblk m c 1 t) (iblk m c 2 t)) w x = (p + term m c t i : EReal) := by
  have hq : (i 1 : Fin 1024) = (x 1 : Fin 1024) := Fin.ext h1.symm
  refine (row5_apply _ w x).trans ?_
  by_cases h : t.val < 16
  · rw [term_latent m c t h, h0, hq]
    exact eq_add_plain hw fun k => dx_latent m c t h (ValueIdx.ix2 k (x 1))
  · rw [term_context m c t h, h0, hq]
    exact eq_add_plain hw fun k => dx_context m c t h (ValueIdx.ix2 k (x 1))

/-- A row of the sums that no payload reaches gets nothing. -/
theorem term_rest (c : Dev nD) (t : Fin cfg0.N) (i : S8x1024.Idx) (h : 6 ≤ (i 0).val) : term m c t i = 0 := by
  by_cases ht : t.val < 16
  · rw [term_latent m c t ht]
    refine Finset.sum_eq_zero fun k _ => ?_
    unfold latent
    split <;> first | rfl | (exfalso; omega)
  · rw [term_context m c t ht]
    refine Finset.sum_eq_zero fun k _ => ?_
    unfold context
    split <;> first | rfl | (exfalso; omega)

/-- An index of the row a payload is stored in. -/
theorem in_row {R : ℕ} {i : S8x1024.Idx} (h : (i 0).val = R) (a : Fin 2) : (![R, 0] : Fin 2 → ℕ) a ≤ (i a).val ∧ (i a).val < (![R, 0] : Fin 2 → ℕ) a + (![1, 1024] : Fin 2 → ℕ) a := by
  have : (i 1).val < 1024 := (i 1).isLt
  fin_cases a
  · exact ⟨by show R ≤ (i 0).val; omega, by show (i 0).val < R + 1; omega⟩
  · exact ⟨Nat.zero_le _, by show (i 1).val < 0 + 1024; omega⟩

theorem row_of {R : ℕ} {i : S8x1024.Idx} (h : ∀ a : Fin 2, (![R, 0] : Fin 2 → ℕ) a ≤ (i a).val ∧ (i a).val < (![R, 0] : Fin 2 → ℕ) a + (![1, 1024] : Fin 2 → ℕ) a) : (i 0).val = R := by
  have h1 : R ≤ (i 0).val := (h 0).1
  have h2 : (i 0).val < R + 1 := (h 0).2
  omega

theorem in_all (i : S8x1024.Idx) (a : Fin 2) : (![0, 0] : Fin 2 → ℕ) a ≤ (i a).val ∧ (i a).val < (![0, 0] : Fin 2 → ℕ) a + (![8, 1024] : Fin 2 → ℕ) a := by
  have : (i 0).val < 8 := (i 0).isLt
  have : (i 1).val < 1024 := (i 1).isLt
  fin_cases a
  · exact ⟨Nat.zero_le _, by show (i 0).val < 0 + 8; omega⟩
  · exact ⟨Nat.zero_le _, by show (i 1).val < 0 + 1024; omega⟩

theorem step_first (c : Dev nD) (t : Fin cfg0.N) (h0 : t.val % 17 = 0) (i : S8x1024.Idx) :
    (outsAt0 m c t.val t.isLt).2 i = ((0 : S8x1024.Idx → EReal) i + term m c t i : EReal) := by
  have ht := point_lt t
  rw [outsAt0_A m c t h0 (by omega)]; frame_out
  rw [Pieces.canon_cons_unit]
  split
  next h =>
    have e0 : (i 0).val = 5 := row_of h
    refine payload5 m c t _ _ _ i e0 (by show (i 1).val - 0 = (i 1).val; omega) ?_
    rw [View.readCov_eq_canon']
    beta_reduce
    rw [Pieces.canon_cons_unit, dif_neg (fun h' => absurd (row_of h') (by show ¬ 5 + 1 * ((i 0).val - 5) = 4; omega))]
    rw [Pieces.canon_cons_unit, dif_neg (fun h' => absurd (row_of h') (by show ¬ 5 + 1 * ((i 0).val - 5) = 3; omega))]
    rw [Pieces.canon_cons_unit, dif_neg (fun h' => absurd (row_of h') (by show ¬ 5 + 1 * ((i 0).val - 5) = 2; omega))]
    rw [Pieces.canon_cons_unit, dif_neg (fun h' => absurd (row_of h') (by show ¬ 5 + 1 * ((i 0).val - 5) = 1; omega))]
    rw [Pieces.canon_cons_unit, dif_neg (fun h' => absurd (row_of h') (by show ¬ 5 + 1 * ((i 0).val - 5) = 0; omega))]
    rw [Pieces.canon_cons_unit, dif_pos (in_all _)]
    exact zeros_apply _
  next h5 =>
    rw [Pieces.canon_cons_unit]
    split
    next h =>
      have e0 : (i 0).val = 4 := row_of h
      refine payload4 m c t _ _ _ i e0 (by show (i 1).val - 0 = (i 1).val; omega) ?_
      rw [View.readCov_eq_canon']
      beta_reduce
      rw [Pieces.canon_cons_unit, dif_neg (fun h' => absurd (row_of h') (by show ¬ 4 + 1 * ((i 0).val - 4) = 3; omega))]
      rw [Pieces.canon_cons_unit, dif_neg (fun h' => absurd (row_of h') (by show ¬ 4 + 1 * ((i 0).val - 4) = 2; omega))]
      rw [Pieces.canon_cons_unit, dif_neg (fun h' => absurd (row_of h') (by show ¬ 4 + 1 * ((i 0).val - 4) = 1; omega))]
      rw [Pieces.canon_cons_unit, dif_neg (fun h' => absurd (row_of h') (by show ¬ 4 + 1 * ((i 0).val - 4) = 0; omega))]
      rw [Pieces.canon_cons_unit, dif_pos (in_all _)]
      exact zeros_apply _
    next h4 =>
      rw [Pieces.canon_cons_unit]
      split
      next h =>
        have e0 : (i 0).val = 3 := row_of h
        refine payload3 m c t _ _ _ i e0 (by show (i 1).val - 0 = (i 1).val; omega) ?_
        rw [View.readCov_eq_canon']
        beta_reduce
        rw [Pieces.canon_cons_unit, dif_neg (fun h' => absurd (row_of h') (by show ¬ 3 + 1 * ((i 0).val - 3) = 2; omega))]
        rw [Pieces.canon_cons_unit, dif_neg (fun h' => absurd (row_of h') (by show ¬ 3 + 1 * ((i 0).val - 3) = 1; omega))]
        rw [Pieces.canon_cons_unit, dif_neg (fun h' => absurd (row_of h') (by show ¬ 3 + 1 * ((i 0).val - 3) = 0; omega))]
        rw [Pieces.canon_cons_unit, dif_pos (in_all _)]
        exact zeros_apply _
      next h3 =>
        rw [Pieces.canon_cons_unit]
        split
        next h =>
          have e0 : (i 0).val = 2 := row_of h
          refine payload2 m c t _ _ _ i e0 (by show (i 1).val - 0 = (i 1).val; omega) ?_
          rw [View.readCov_eq_canon']
          beta_reduce
          rw [Pieces.canon_cons_unit, dif_neg (fun h' => absurd (row_of h') (by show ¬ 2 + 1 * ((i 0).val - 2) = 1; omega))]
          rw [Pieces.canon_cons_unit, dif_neg (fun h' => absurd (row_of h') (by show ¬ 2 + 1 * ((i 0).val - 2) = 0; omega))]
          rw [Pieces.canon_cons_unit, dif_pos (in_all _)]
          exact zeros_apply _
        next h2 =>
          rw [Pieces.canon_cons_unit]
          split
          next h =>
            have e0 : (i 0).val = 1 := row_of h
            refine payload1 m c t _ _ _ i e0 (by show (i 1).val - 0 = (i 1).val; omega) ?_
            rw [View.readCov_eq_canon']
            beta_reduce
            rw [Pieces.canon_cons_unit, dif_neg (fun h' => absurd (row_of h') (by show ¬ 1 + 1 * ((i 0).val - 1) = 0; omega))]
            rw [Pieces.canon_cons_unit, dif_pos (in_all _)]
            exact zeros_apply _
          next h1 =>
            rw [Pieces.canon_cons_unit]
            split
            next h =>
              have e0 : (i 0).val = 0 := row_of h
              refine payload0 m c t _ _ _ i e0 (by show (i 1).val - 0 = (i 1).val; omega) ?_
              rw [View.readCov_eq_canon']
              beta_reduce
              rw [Pieces.canon_cons_unit, dif_pos (in_all _)]
              exact zeros_apply _
            next h0 =>
              have e : 6 ≤ (i 0).val := by
                by_contra hc
                obtain e | e | e | e | e | e : (i 0).val = 0 ∨ (i 0).val = 1 ∨ (i 0).val = 2 ∨ (i 0).val = 3 ∨ (i 0).val = 4 ∨ (i 0).val = 5 := by omega
                · exact h0 (in_row e)
                · exact h1 (in_row e)
                · exact h2 (in_row e)
                · exact h3 (in_row e)
                · exact h4 (in_row e)
                · exact h5 (in_row e)
              rw [Pieces.canon_cons_unit, dif_pos (in_all _), term_rest m c t i e]
              refine (zeros_apply _).trans ?_
              exact (zero_add _).symm

theorem step_next (c : Dev nD) (t : Fin cfg0.N) (h0 : ¬ t.val % 17 = 0) (i : S8x1024.Idx) :
    (outsAt0 m c t.val t.isLt).2 i
      = ((outsAt0 m c (t.val - 1) (Nat.lt_of_le_of_lt (Nat.sub_le _ _) t.isLt)).2 i + term m c t i : EReal) := by
  by_cases h1 : t.val < 16
  · rw [outsAt0_B m c t h0 h1]; frame_out
    generalize (outsAt0 m c (t.val - 1) _).2 = prev
    rw [View.read_writes_cons_unit (heq := rfl)]
    split
    next h =>
      have e0 : (i 0).val = 5 := row_of h
      refine payload5 m c t _ _ _ i e0 (by show (i 1).val - 0 = (i 1).val; omega) ?_
      rw [View.ld_apply]
      refine congrArg prev (funext fun a => Fin.ext ?_)
      fin_cases a
      · show 5 + 1 * ((i 0).val - 5) = (i 0).val
        omega
      · show 0 + 1 * ((i 1).val - 0) = (i 1).val
        omega
    next h5 =>
      rw [View.read_writes_cons_unit (heq := rfl)]
      split
      next h =>
        have e0 : (i 0).val = 4 := row_of h
        refine payload4 m c t _ _ _ i e0 (by show (i 1).val - 0 = (i 1).val; omega) ?_
        rw [View.ld_apply]
        refine congrArg prev (funext fun a => Fin.ext ?_)
        fin_cases a
        · show 4 + 1 * ((i 0).val - 4) = (i 0).val
          omega
        · show 0 + 1 * ((i 1).val - 0) = (i 1).val
          omega
      next h4 =>
        rw [View.read_writes_cons_unit (heq := rfl)]
        split
        next h =>
          have e0 : (i 0).val = 3 := row_of h
          refine payload3 m c t _ _ _ i e0 (by show (i 1).val - 0 = (i 1).val; omega) ?_
          rw [View.ld_apply]
          refine congrArg prev (funext fun a => Fin.ext ?_)
          fin_cases a
          · show 3 + 1 * ((i 0).val - 3) = (i 0).val
            omega
          · show 0 + 1 * ((i 1).val - 0) = (i 1).val
            omega
        next h3 =>
          rw [View.read_writes_cons_unit (heq := rfl)]
          split
          next h =>
            have e0 : (i 0).val = 2 := row_of h
            refine payload2 m c t _ _ _ i e0 (by show (i 1).val - 0 = (i 1).val; omega) ?_
            rw [View.ld_apply]
            refine congrArg prev (funext fun a => Fin.ext ?_)
            fin_cases a
            · show 2 + 1 * ((i 0).val - 2) = (i 0).val
              omega
            · show 0 + 1 * ((i 1).val - 0) = (i 1).val
              omega
          next h2 =>
            rw [View.read_writes_cons_unit (heq := rfl)]
            split
            next h =>
              have e0 : (i 0).val = 1 := row_of h
              refine payload1 m c t _ _ _ i e0 (by show (i 1).val - 0 = (i 1).val; omega) ?_
              rw [View.ld_apply]
              refine congrArg prev (funext fun a => Fin.ext ?_)
              fin_cases a
              · show 1 + 1 * ((i 0).val - 1) = (i 0).val
                omega
              · show 0 + 1 * ((i 1).val - 0) = (i 1).val
                omega
            next h1 =>
              rw [View.read_writes_cons_unit (heq := rfl)]
              split
              next h =>
                have e0 : (i 0).val = 0 := row_of h
                refine payload0 m c t _ _ _ i e0 (by show (i 1).val - 0 = (i 1).val; omega) ?_
                rw [View.ld_apply]
                refine congrArg prev (funext fun a => Fin.ext ?_)
                fin_cases a
                · show 0 + 1 * ((i 0).val - 0) = (i 0).val
                  omega
                · show 0 + 1 * ((i 1).val - 0) = (i 1).val
                  omega
              next h0 =>
                have e : 6 ≤ (i 0).val := by
                  by_contra hc
                  obtain e | e | e | e | e | e : (i 0).val = 0 ∨ (i 0).val = 1 ∨ (i 0).val = 2 ∨ (i 0).val = 3 ∨ (i 0).val = 4 ∨ (i 0).val = 5 := by omega
                  · exact h0 (in_row e)
                  · exact h1 (in_row e)
                  · exact h2 (in_row e)
                  · exact h3 (in_row e)
                  · exact h4 (in_row e)
                  · exact h5 (in_row e)
                refine (congrFun (Memref.IsWhole.read_unread _ prev) i).trans ?_
                rw [term_rest m c t i e]
                exact (add_zero _).symm
  · rw [outsAt0_C m c t h0 h1]; frame_out
    generalize (outsAt0 m c (t.val - 1) _).2 = prev
    rw [View.read_writes_cons_unit (heq := rfl)]
    split
    next h =>
      have e0 : (i 0).val = 5 := row_of h
      refine payload5 m c t _ _ _ i e0 (by show (i 1).val - 0 = (i 1).val; omega) ?_
      rw [View.ld_apply]
      refine congrArg prev (funext fun a => Fin.ext ?_)
      fin_cases a
      · show 5 + 1 * ((i 0).val - 5) = (i 0).val
        omega
      · show 0 + 1 * ((i 1).val - 0) = (i 1).val
        omega
    next h5 =>
      rw [View.read_writes_cons_unit (heq := rfl)]
      split
      next h =>
        have e0 : (i 0).val = 4 := row_of h
        refine payload4 m c t _ _ _ i e0 (by show (i 1).val - 0 = (i 1).val; omega) ?_
        rw [View.ld_apply]
        refine congrArg prev (funext fun a => Fin.ext ?_)
        fin_cases a
        · show 4 + 1 * ((i 0).val - 4) = (i 0).val
          omega
        · show 0 + 1 * ((i 1).val - 0) = (i 1).val
          omega
      next h4 =>
        rw [View.read_writes_cons_unit (heq := rfl)]
        split
        next h =>
          have e0 : (i 0).val = 3 := row_of h
          refine payload3 m c t _ _ _ i e0 (by show (i 1).val - 0 = (i 1).val; omega) ?_
          rw [View.ld_apply]
          refine congrArg prev (funext fun a => Fin.ext ?_)
          fin_cases a
          · show 3 + 1 * ((i 0).val - 3) = (i 0).val
            omega
          · show 0 + 1 * ((i 1).val - 0) = (i 1).val
            omega
        next h3 =>
          rw [View.read_writes_cons_unit (heq := rfl)]
          split
          next h =>
            have e0 : (i 0).val = 2 := row_of h
            refine payload2 m c t _ _ _ i e0 (by show (i 1).val - 0 = (i 1).val; omega) ?_
            rw [View.ld_apply]
            refine congrArg prev (funext fun a => Fin.ext ?_)
            fin_cases a
            · show 2 + 1 * ((i 0).val - 2) = (i 0).val
              omega
            · show 0 + 1 * ((i 1).val - 0) = (i 1).val
              omega
          next h2 =>
            rw [View.read_writes_cons_unit (heq := rfl)]
            split
            next h =>
              have e0 : (i 0).val = 1 := row_of h
              refine payload1 m c t _ _ _ i e0 (by show (i 1).val - 0 = (i 1).val; omega) ?_
              rw [View.ld_apply]
              refine congrArg prev (funext fun a => Fin.ext ?_)
              fin_cases a
              · show 1 + 1 * ((i 0).val - 1) = (i 0).val
                omega
              · show 0 + 1 * ((i 1).val - 0) = (i 1).val
                omega
            next h1 =>
              rw [View.read_writes_cons_unit (heq := rfl)]
              split
              next h =>
                have e0 : (i 0).val = 0 := row_of h
                refine payload0 m c t _ _ _ i e0 (by show (i 1).val - 0 = (i 1).val; omega) ?_
                rw [View.ld_apply]
                refine congrArg prev (funext fun a => Fin.ext ?_)
                fin_cases a
                · show 0 + 1 * ((i 0).val - 0) = (i 0).val
                  omega
                · show 0 + 1 * ((i 1).val - 0) = (i 1).val
                  omega
              next h0 =>
                have e : 6 ≤ (i 0).val := by
                  by_contra hc
                  obtain e | e | e | e | e | e : (i 0).val = 0 ∨ (i 0).val = 1 ∨ (i 0).val = 2 ∨ (i 0).val = 3 ∨ (i 0).val = 4 ∨ (i 0).val = 5 := by omega
                  · exact h0 (in_row e)
                  · exact h1 (in_row e)
                  · exact h2 (in_row e)
                  · exact h3 (in_row e)
                  · exact h4 (in_row e)
                  · exact h5 (in_row e)
                refine (congrFun (Memref.IsWhole.read_unread _ prev) i).trans ?_
                rw [term_rest m c t i e]
                exact (add_zero _).symm

/-! The rows of the reference's sums. -/

theorem v151_apply (x0 x1) (z : S1x1024.Idx) : val_main_v151 (F := Ideal) x0 x1 z = (∑ l : Fin 4096, val_main_v96 (F := Ideal) x0 x1 (ValueIdx.ix2 l (z 1)) : EReal) := by
  obtain ⟨p, q, rfl⟩ := Sums.pair z
  pointwise [val_main_cst_18, val_main_v97, val_main_v98, val_main_v149, val_main_v151]
  try simp only [Fin.sum_univ_one]
  rfl

theorem v152_apply (x0 x1 x3 x5 x6) (z : S1x1024.Idx) : val_main_v152 (F := Ideal) x0 x1 x3 x5 x6 z = (∑ l : Fin 4096, val_main_v99 (F := Ideal) x0 x1 x3 x5 x6 (ValueIdx.ix2 l (z 1)) : EReal) := by
  obtain ⟨p, q, rfl⟩ := Sums.pair z
  pointwise [val_main_cst_19, val_main_v100, val_main_v101, val_main_v150, val_main_v152]
  try simp only [Fin.sum_univ_one]
  rfl

theorem v153_apply (x0 x1) (z : S1x1024.Idx) : val_main_v153 (F := Ideal) x0 x1 z = (∑ l : Fin 256, val_main_v86 (F := Ideal) x0 x1 (ValueIdx.ix2 l (z 1)) : EReal) := by
  obtain ⟨p, q, rfl⟩ := Sums.pair z
  pointwise [val_main_cst_14, val_main_v87, val_main_v88, val_main_cst_15, val_main_v89, val_main_v153]
  try simp only [Fin.sum_univ_one]
  rfl

theorem v154_apply (x0 x1 x4 x5 x6) (z : S1x1024.Idx) : val_main_v154 (F := Ideal) x0 x1 x4 x5 x6 z = (∑ l : Fin 256, val_main_v90 (F := Ideal) x0 x1 x4 x5 x6 (ValueIdx.ix2 l (z 1)) : EReal) := by
  obtain ⟨p, q, rfl⟩ := Sums.pair z
  pointwise [val_main_cst_16, val_main_v91, val_main_v92, val_main_cst_17, val_main_v95, val_main_v154]
  try simp only [Fin.sum_univ_one]
  rfl

theorem v155_apply (x0 x1 x2 x3 x4 x7 x8) (z : S1x1024.Idx) : val_main_v155 (F := Ideal) x0 x1 x2 x3 x4 x7 x8 z = (∑ l : Fin 256, val_main_v110 (F := Ideal) x0 x1 x4 x8 (ValueIdx.ix2 l (z 1)) + ∑ l : Fin 4096, val_main_v118 (F := Ideal) x0 x1 x2 x3 x7 (ValueIdx.ix2 l (z 1)) : EReal) := by
  obtain ⟨p, q, rfl⟩ := Sums.pair z
  pointwise [val_main_cst_23, val_main_v111, val_main_v112, val_main_cst_24, val_main_v113, val_main_cst_27, val_main_v119, val_main_v120, val_main_cst_28, val_main_v123, val_main_v124, val_main_v155]
  try simp only [Fin.sum_univ_one]
  rfl

theorem v156_apply (x0 x1 x2 x7 x8) (z : S1x1024.Idx) : val_main_v156 (F := Ideal) x0 x1 x2 x7 x8 z = (∑ l : Fin 256, val_main_v94 (F := Ideal) x0 x1 x8 (ValueIdx.ix2 l (z 1)) + ∑ l : Fin 4096, val_main_v106 (F := Ideal) x0 x1 x2 x7 (ValueIdx.ix2 l (z 1)) : EReal) := by
  obtain ⟨p, q, rfl⟩ := Sums.pair z
  pointwise [val_main_cst_21, val_main_v107, val_main_v108, val_main_cst_22, val_main_v109, val_main_cst_25, val_main_v114, val_main_v115, val_main_cst_26, val_main_v116, val_main_v117, val_main_v156]
  try simp only [Fin.sum_univ_one]
  rfl

/-- The reference's stacked sums, at an index. -/
theorem v159_apply (x0 x1 x2 x3 x4 x5 x6 x7 x8) (i : S8x1024.Idx) :
    val_main_v159 (F := Ideal) x0 x1 x2 x3 x4 x5 x6 x7 x8 i = (∑ l : Fin 4096, latent x0 x1 x2 x3 x4 x5 x6 x7 x8 (i 0).val l (i 1) + ∑ l : Fin 256, context x0 x1 x2 x3 x4 x5 x6 x7 x8 (i 0).val l (i 1) : EReal) := by
  have hl : ∀ r, (∀ l : Fin 4096, latent x0 x1 x2 x3 x4 x5 x6 x7 x8 r l (i 1) = 0) → ∑ l : Fin 4096, latent x0 x1 x2 x3 x4 x5 x6 x7 x8 r l (i 1) = 0 := fun r e => Finset.sum_eq_zero fun l _ => e l
  have hc : ∀ r, (∀ l : Fin 256, context x0 x1 x2 x3 x4 x5 x6 x7 x8 r l (i 1) = 0) → ∑ l : Fin 256, context x0 x1 x2 x3 x4 x5 x6 x7 x8 r l (i 1) = 0 := fun r e => Finset.sum_eq_zero fun l _ => e l
  unfold val_main_v159 val_main_v157
  pointwise [val_main_v158, val_main_cst_36]
  by_cases h6 : 6 ≤ (i 0).val
  · split_ifs <;> first | (exfalso; omega) | skip
    rw [hl _ fun l => by unfold latent; split <;> first | rfl | (exfalso; omega), hc _ fun l => by unfold context; split <;> first | rfl | (exfalso; omega)]
    exact (add_zero _).symm
  · obtain e | e | e | e | e | e : (i 0).val = 0 ∨ (i 0).val = 1 ∨ (i 0).val = 2 ∨ (i 0).val = 3 ∨ (i 0).val = 4 ∨ (i 0).val = 5 := by omega
    all_goals split_ifs <;> first | (exfalso; omega) | skip
    · refine Eq.trans ?_ (congrArg (fun r => ∑ l : Fin 4096, latent x0 x1 x2 x3 x4 x5 x6 x7 x8 r l (i 1) + ∑ l : Fin 256, context x0 x1 x2 x3 x4 x5 x6 x7 x8 r l (i 1)) e.symm)
      refine (v151_apply _ _ _).trans ?_
      beta_reduce
      rw [hc 0 fun l => rfl, add_zero]; rfl
    · refine Eq.trans ?_ (congrArg (fun r => ∑ l : Fin 4096, latent x0 x1 x2 x3 x4 x5 x6 x7 x8 r l (i 1) + ∑ l : Fin 256, context x0 x1 x2 x3 x4 x5 x6 x7 x8 r l (i 1)) e.symm)
      refine (v152_apply _ _ _ _ _ _).trans ?_
      beta_reduce
      rw [hc 1 fun l => rfl, add_zero]; rfl
    · refine Eq.trans ?_ (congrArg (fun r => ∑ l : Fin 4096, latent x0 x1 x2 x3 x4 x5 x6 x7 x8 r l (i 1) + ∑ l : Fin 256, context x0 x1 x2 x3 x4 x5 x6 x7 x8 r l (i 1)) e.symm)
      refine (v153_apply _ _ _).trans ?_
      beta_reduce
      rw [hl 2 fun l => rfl, zero_add]; rfl
    · refine Eq.trans ?_ (congrArg (fun r => ∑ l : Fin 4096, latent x0 x1 x2 x3 x4 x5 x6 x7 x8 r l (i 1) + ∑ l : Fin 256, context x0 x1 x2 x3 x4 x5 x6 x7 x8 r l (i 1)) e.symm)
      refine (v154_apply _ _ _ _ _ _).trans ?_
      beta_reduce
      rw [hl 3 fun l => rfl, zero_add]; rfl
    · refine Eq.trans ?_ (congrArg (fun r => ∑ l : Fin 4096, latent x0 x1 x2 x3 x4 x5 x6 x7 x8 r l (i 1) + ∑ l : Fin 256, context x0 x1 x2 x3 x4 x5 x6 x7 x8 r l (i 1)) e.symm)
      refine (v155_apply _ _ _ _ _ _ _ _).trans ?_
      beta_reduce
      exact add_comm _ _
    · refine Eq.trans ?_ (congrArg (fun r => ∑ l : Fin 4096, latent x0 x1 x2 x3 x4 x5 x6 x7 x8 r l (i 1) + ∑ l : Fin 256, context x0 x1 x2 x3 x4 x5 x6 x7 x8 r l (i 1)) e.symm)
      refine (v156_apply _ _ _ _ _ _).trans ?_
      beta_reduce
      exact add_comm _ _

theorem final_10 (c : Dev nD) : (dats m 0 c).arrAt 10 cfg0.N = val_main_v159 (F := Ideal) (arg0 m c) (arg1 m c) (arg2 m c) (arg3 m c) (arg4 m c) (arg5 m c) (arg6 m c) (arg7 m c) (arg8 m c) := by
  refine (dats m 0 c).arrAt_eq_of_after_last 10 ⟨16, by decide⟩ (by decide +kernel) _ fun j => ?_
  rw [after0_10]
  have e := Pipeline.eq_sum_fin_of_reset_step_apply_last (fun n h => ((outsAt0 m c n h).2 : S8x1024.Idx → EReal)) 17 0
    (term m c) (step_first m c) (step_next m c) (by decide) ⟨16, by decide⟩ (by decide) j
  refine e.trans ?_
  refine (zero_add _).trans ?_
  refine Eq.trans ?_ (v159_apply _ _ _ _ _ _ _ _ _ _).symm
  have ej : (((cfg0.win 10).arr.view.emb j) : S8x1024.Idx) = j := rfl
  rw [ej]
  refine (Fin.sum_univ_castSucc (n := 16) (fun t : Fin 17 => term m c t j)).trans ?_
  refine congrArg₂ (· + ·) ?_ (term_context m c (Fin.last 16) (by decide) j)
  refine Eq.trans (Finset.sum_congr rfl fun t _ => term_latent m c (Fin.castSucc t) t.isLt j) ?_
  exact Fin.sum_mul_add_fin 16 256 (fun l : Fin 4096 => latent (arg0 m c) (arg1 m c) (arg2 m c) (arg3 m c) (arg4 m c) (arg5 m c) (arg6 m c) (arg7 m c) (arg8 m c) (j 0).val l (j 1))

end Cert.Kernel12Ideal.RefValue

end
-- ==== Proof.LatentBackwardClaim.lean ====
/- The value claim of the gradient through the first projection. -/
module

public import proofs.«01_k».proof.Defs
public import proofs.«01_k».proof.Proof.LatentValue
public import proofs.«01_k».proof.Proof.Gen.Reference12Ideal.Run
public import proofs.«01_k».proof.Proof.Gen.Reference12Ideal.Read
public import proofs.«01_k».proof.Proof.LatentSums
public import Idealize.ShloMosaic.Lib.Pipeline.ValueKit
public import Idealize.ShloMosaic.Lib.Pointwise

@[expose] public section

set_option maxRecDepth 16384

noncomputable section

namespace Cert.Kernel12Ideal.RefValue

open Kernel12Ideal Kernel12Ideal.Gen Kernel12Ideal.Gen.Latent Idealize.ShloMosaic Idealize.ShloMosaic.TcCoe Idealize.SL.Sem
open Reference12Ideal.Read

/-- The reference runs, keeps its arguments, and leaves every semaphore at zero. -/
theorem reference_quiescent [hR : Reference12Ideal.Facts] : Cert.quiescent_Reference12Ideal (hReference12Ideal := hR) := by
  intro m ρ _
  refine (θ_run Reference12Ideal.defs _ _).mono (fun r h => ⟨fun c => ?_, sem_eq_zero_of_no_sems (by decide) r.2⟩)
    (Reference12Ideal.Value.run (F := Ideal) m ρ)
  exact (h c).2.2

/-- The side conditions of the finiteness check. -/
theorem precondition_facts : Pre_finite12.Facts := by
  constructor <;> first | (intro a; exact Fin.elim0 a) | decide

/-- Where the check holds, argument 0 holds real numbers. -/
theorem real0 [Pre_finite12.Facts] {m : (ℓ : Loc nD τ sig) → Buf (Elt Ideal) ℓ} (h : Pre_Kernel12Ideal_finite12 m) (c : Dev nD) (i) :
    Finite.Real (m (c.tc.loc main_arg0) i) :=
  Finite.of_check_bits (congrFun (h c).1 i)

/-- Where the check holds, argument 1 holds real numbers. -/
theorem real1 [Pre_finite12.Facts] {m : (ℓ : Loc nD τ sig) → Buf (Elt Ideal) ℓ} (h : Pre_Kernel12Ideal_finite12 m) (c : Dev nD) (i) :
    Finite.Real (m (c.tc.loc main_arg1) i) :=
  Finite.of_check_bits (congrFun (h c).2.1 i)

/-- Where the check holds, argument 2 holds real numbers. -/
theorem real2 [Pre_finite12.Facts] {m : (ℓ : Loc nD τ sig) → Buf (Elt Ideal) ℓ} (h : Pre_Kernel12Ideal_finite12 m) (c : Dev nD) (i) :
    Finite.Real (m (c.tc.loc main_arg2) i) :=
  Finite.of_check_bits (congrFun (h c).2.2.1 i)

/-- Where the check holds, argument 3 holds real numbers. -/
theorem real3 [Pre_finite12.Facts] {m : (ℓ : Loc nD τ sig) → Buf (Elt Ideal) ℓ} (h : Pre_Kernel12Ideal_finite12 m) (c : Dev nD) (i) :
    Finite.Real (m (c.tc.loc main_arg3) i) :=
  Finite.of_check_bits (congrFun (h c).2.2.2.1 i)

/-- Where the check holds, argument 5 holds real numbers. -/
theorem real5 [Pre_finite12.Facts] {m : (ℓ : Loc nD τ sig) → Buf (Elt Ideal) ℓ} (h : Pre_Kernel12Ideal_finite12 m) (c : Dev nD) (i) :
    Finite.Real (m (c.tc.loc main_arg5) i) :=
  Finite.of_check_bits (congrFun (h c).2.2.2.2.2.1 i)

/-- Where the check holds, argument 7 holds real numbers. -/
theorem real7 [Pre_finite12.Facts] {m : (ℓ : Loc nD τ sig) → Buf (Elt Ideal) ℓ} (h : Pre_Kernel12Ideal_finite12 m) (c : Dev nD) (i) :
    Finite.Real (m (c.tc.loc main_arg7) i) :=
  Finite.of_check_bits (congrFun (h c).2.2.2.2.2.2.2.1 i)

theorem constant_real : Finite.Real (Ideal.ofBits .f32 0x3F9837F0#32) := by
  refine ⟨9975792 * (2 ^ 23)⁻¹, ?_⟩
  simp [Ideal.ofBits, Ideal.ieee]

theorem one_real : Finite.Real 1 := ⟨1, rfl⟩

/-- The cotangent of the layer norm of `x` is real there. -/
theorem cotangent_real [Pre_finite12.Facts] {m : (ℓ : Loc nD τ sig) → Buf (Elt Ideal) ℓ} (h : Pre_Kernel12Ideal_finite12 m) (c : Dev nD) (i) :
    Finite.Real (val_main_v122 (F := Ideal) (m (c.tc.loc main_arg0)) (m (c.tc.loc main_arg1)) (m (c.tc.loc main_arg2)) (m (c.tc.loc main_arg5)) (m (c.tc.loc main_arg7)) i) := by
  obtain ⟨p, q, rfl⟩ := Sums.pair i
  pointwise [val_main_v1, val_main_v36, val_main_cst_12, val_main_v68, val_main_v69, val_main_v102, val_main_v103, val_main_cst_20, val_main_v104, val_main_v105, val_main_v106, val_main_v121, val_main_v122]
  rw [v96_apply]
  exact Finite.mul (Finite.add (Finite.mul (Finite.dot (fun k => real0 h c _) (fun k => real1 h c _)) (Finite.add one_real (real7 h c _))) (Finite.mul constant_real (real2 h c _))) (real5 h c _)

/-- Both programs, from memories agreeing on the arguments, run and end with equal results. -/
theorem algebraic [hK : Kernel12Ideal.Facts] [hR : Reference12Ideal.Facts] [hPre : Pre_finite12.Facts] :
    Cert.algebraic_Kernel12Ideal_Reference12Ideal_pre_finite12 (hKernel12Ideal := hK) (hReference12Ideal := hR) (hPre_finite12 := hPre) := by
  intro m ρ m' ρ' hpre hagree
  refine ⟨fun c => val_main_v148 (F := Ideal) (m (c.tc.loc main_arg0)) (m (c.tc.loc main_arg1)) (m (c.tc.loc main_arg2)) (m (c.tc.loc main_arg3)) (m (c.tc.loc main_arg5)) (m (c.tc.loc main_arg7)), fun c => val_main_v159 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)), ?_, ?_⟩
  · refine (θ_run Kernel12Ideal.defs _ _).mono (fun r h c => ?_) (Kernel12Ideal.Gen.Latent.run_blocks m ρ)
    obtain ⟨h0, h1, hk⟩ := h c
    exact ⟨h0.trans (final_9 m c (real3 hpre c) (cotangent_real hpre c)), h1.trans (final_10 m c), hk⟩
  · refine (θ_run Reference12Ideal.defs _ _).mono (fun r h c => ?_) (Reference12Ideal.Value.run (F := Ideal) m' ρ')
    obtain ⟨h0, h1, hk⟩ := h c
    obtain ⟨e0, e1, e2, e3, e4, e5, e6, e7, e8⟩ := hagree c
    refine ⟨h0.trans ?_, h1.trans ?_, hk⟩
    · refine (val_main_v148_eq _).trans ?_
      show val_main_v148 (F := Ideal) (m' ((c : Thread Reference12Ideal.nD Reference12Ideal.τ).loc Reference12Ideal.main_arg0)) (m' ((c : Thread Reference12Ideal.nD Reference12Ideal.τ).loc Reference12Ideal.main_arg1)) (m' ((c : Thread Reference12Ideal.nD Reference12Ideal.τ).loc Reference12Ideal.main_arg2)) (m' ((c : Thread Reference12Ideal.nD Reference12Ideal.τ).loc Reference12Ideal.main_arg3)) (m' ((c : Thread Reference12Ideal.nD Reference12Ideal.τ).loc Reference12Ideal.main_arg5)) (m' ((c : Thread Reference12Ideal.nD Reference12Ideal.τ).loc Reference12Ideal.main_arg7)) = _
      rw [e0, e1, e2, e3, e5, e7]
    · refine (val_main_v159_eq _).trans ?_
      show val_main_v159 (F := Ideal) (m' ((c : Thread Reference12Ideal.nD Reference12Ideal.τ).loc Reference12Ideal.main_arg0)) (m' ((c : Thread Reference12Ideal.nD Reference12Ideal.τ).loc Reference12Ideal.main_arg1)) (m' ((c : Thread Reference12Ideal.nD Reference12Ideal.τ).loc Reference12Ideal.main_arg2)) (m' ((c : Thread Reference12Ideal.nD Reference12Ideal.τ).loc Reference12Ideal.main_arg3)) (m' ((c : Thread Reference12Ideal.nD Reference12Ideal.τ).loc Reference12Ideal.main_arg4)) (m' ((c : Thread Reference12Ideal.nD Reference12Ideal.τ).loc Reference12Ideal.main_arg5)) (m' ((c : Thread Reference12Ideal.nD Reference12Ideal.τ).loc Reference12Ideal.main_arg6)) (m' ((c : Thread Reference12Ideal.nD Reference12Ideal.τ).loc Reference12Ideal.main_arg7)) (m' ((c : Thread Reference12Ideal.nD Reference12Ideal.τ).loc Reference12Ideal.main_arg8)) = _
      rw [e0, e1, e2, e3, e4, e5, e6, e7, e8]

end Cert.Kernel12Ideal.RefValue

end
-- ==== Proof.FfOptimiser.lean ====
/- For a feed-forward weight: the sum of the eight devices' parts of the gradient and the optimiser step, entry by entry. -/
module

public import proofs.«01_k».proof.Proof.Gen.Kernel13Ideal.Value
public import proofs.«01_k».proof.Proof.Gen.Reference13Ideal.Run
public import proofs.«01_k».proof.Proof.Gen.Reference13Ideal.Read
public import proofs.«01_k».proof.Proof.Sums
public import Idealize.ShloMosaic.Lib.Pipeline.ValueKit
public import Idealize.ShloMosaic.Lib.Pointwise

@[expose] public section

set_option maxRecDepth 16384

noncomputable section

namespace Cert.Kernel13Ideal.RefValue

open Kernel13Ideal Kernel13Ideal.Gen Idealize.ShloMosaic Idealize.ShloMosaic.TcCoe Idealize.SL.Sem
open Idealize.ShloMosaic.Pipeline (Dat)
open Reference13Ideal.Read

variable (m : (ℓ : Loc nD τ sig) → Buf (Elt Ideal) ℓ)

/-! The block each window visits at a grid point. -/

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

/-- The sum of the eight devices' parts is the reference's. -/
theorem total (c : Dev nD) (t : Fin cfg0.N) (y : (cfg0.win 5).block.Idx) :
    (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) : FVec Ideal _ .f32) y = val_main_v4 (F := Ideal) (m (c.tc.loc main_arg0)) (m (c.tc.loc main_arg1)) (((View.whole main_v0_0).slice (win0_5.rect t)).emb y) := by
  unfold_payloads
  rw [val_main_v4_apply]
  pointwise []
  refine Sums.sum_eight (by simp only [val_main_cst_apply]; exact Ideal.ofBits_zero_f32) ?_ ?_ ?_ ?_ ?_ ?_ ?_ ?_
  all_goals
    pointwise [val_main_v0, val_main_v1, val_main_v2, val_main_v3, val_main_cst]
    blk_point [iblk, V, idx0, idx1, idx5]

/-- The gradient is the reference's. -/
theorem final_5 (c : Dev nD) : (dats m 0 c).arrAt 5 cfg0.N = val_main_v4 (F := Ideal) (m (c.tc.loc main_arg0)) (m (c.tc.loc main_arg1)) := by
  refine (dats m 0 c).arrAt_eq_of_covers 5 _ (by decide +kernel) fun t hf y => ?_
  blk_simp
  rw [after0_5]
  have e : out0_5 (iblk m c 0 t) (iblk m c 1 t) (iblk m c 2 t) (iblk m c 3 t) (iblk m c 4 t) = k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) := by unfold_out out0_5; frame_out; rfl
  rw [e]
  exact total m c t y

/-- The step is the reference's, entry by entry. -/
theorem final_6 (c : Dev nD) : (dats m 0 c).arrAt 6 cfg0.N = val_main_v28 (F := Ideal) (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t hf y => ?_
  blk_simp
  rw [after0_6]
  have e : out0_6 (iblk m c 0 t) (iblk m c 1 t) (iblk m c 2 t) (iblk m c 3 t) (iblk m c 4 t) = k0_pay3 (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (k0_pay5 (iblk m c 3 t)) (iblk m c 4 t) (iblk m c 2 t) := by unfold_out out0_6; frame_out; rfl
  rw [e]
  have hg := total m c t y
  generalize (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) : FVec Ideal _ .f32) = g at hg ⊢
  replace hg : g y = val_main_v4 (F := Ideal) (m (c.tc.loc main_arg0)) (m (c.tc.loc main_arg1)) (((View.whole main_v0_1).slice (win0_6.rect t)).emb y) := hg
  unfold_payloads
  pointwise [val_main_cst_0, val_main_v5, val_main_v6, val_main_cst_1, val_main_v7, val_main_v8, val_main_v9, val_main_cst_2, val_main_v10, val_main_v11, val_main_v12, val_main_cst_3, val_main_v13, val_main_v14, val_main_v15, val_main_cst_4, val_main_v16, val_main_v17, val_main_cst_5, val_main_v18, val_main_v19, val_main_v20, val_main_cst_6, val_main_v21, val_main_v22, val_main_v23, val_main_cst_7, val_main_v24, val_main_v25, val_main_v26, val_main_cst_8, val_main_v27, val_main_v28]
  have h2 : iblk m c 2 t y = m (c.tc.loc main_arg2) (((View.whole main_v0_1).slice (win0_6.rect t)).emb y) := by
    blk_point [iblk, V, idx2, idx6]
  have h3 : iblk m c 3 t y = m (c.tc.loc main_arg3) (((View.whole main_v0_1).slice (win0_6.rect t)).emb y) := by
    blk_point [iblk, V, idx3, idx6]
  have h4 : iblk m c 4 t y = m (c.tc.loc main_arg4) (((View.whole main_v0_1).slice (win0_6.rect t)).emb y) := by
    blk_point [iblk, V, idx4, idx6]
  simp only [hg, h2, h3, h4]

/-- The first moment is the reference's, entry by entry. -/
theorem final_7 (c : Dev nD) : (dats m 0 c).arrAt 7 cfg0.N = val_main_v9 (F := Ideal) (m (c.tc.loc main_arg0)) (m (c.tc.loc main_arg1)) (m (c.tc.loc main_arg3)) := by
  refine (dats m 0 c).arrAt_eq_of_covers 7 _ (by decide +kernel) fun t hf y => ?_
  blk_simp
  rw [after0_7]
  have e : out0_7 (iblk m c 0 t) (iblk m c 1 t) (iblk m c 2 t) (iblk m c 3 t) (iblk m c 4 t) = k0_pay1 (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (k0_pay5 (iblk m c 3 t)) := by unfold_out out0_7; frame_out; rfl
  rw [e]
  have hg := total m c t y
  generalize (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) : FVec Ideal _ .f32) = g at hg ⊢
  replace hg : g y = val_main_v4 (F := Ideal) (m (c.tc.loc main_arg0)) (m (c.tc.loc main_arg1)) (((View.whole main_v0_2).slice (win0_7.rect t)).emb y) := hg
  unfold_payloads
  pointwise [val_main_cst_0, val_main_v5, val_main_v6, val_main_cst_1, val_main_v7, val_main_v8, val_main_v9, val_main_cst_2, val_main_v10, val_main_v11, val_main_v12, val_main_cst_3, val_main_v13, val_main_v14, val_main_v15, val_main_cst_4, val_main_v16, val_main_v17, val_main_cst_5, val_main_v18, val_main_v19, val_main_v20, val_main_cst_6, val_main_v21, val_main_v22, val_main_v23, val_main_cst_7, val_main_v24, val_main_v25, val_main_v26, val_main_cst_8, val_main_v27, val_main_v28]
  have h3 : iblk m c 3 t y = m (c.tc.loc main_arg3) (((View.whole main_v0_2).slice (win0_7.rect t)).emb y) := by
    blk_point [iblk, V, idx3, idx7]
  simp only [hg, h3]

/-- The second moment is the reference's, entry by entry. -/
theorem final_8 (c : Dev nD) : (dats m 0 c).arrAt 8 cfg0.N = val_main_v15 (F := Ideal) (m (c.tc.loc main_arg0)) (m (c.tc.loc main_arg1)) (m (c.tc.loc main_arg4)) := by
  refine (dats m 0 c).arrAt_eq_of_covers 8 _ (by decide +kernel) fun t hf y => ?_
  blk_simp
  rw [after0_8]
  have e : out0_8 (iblk m c 0 t) (iblk m c 1 t) (iblk m c 2 t) (iblk m c 3 t) (iblk m c 4 t) = k0_pay2 (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 4 t) := by unfold_out out0_8; frame_out; rfl
  rw [e]
  have hg := total m c t y
  generalize (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) : FVec Ideal _ .f32) = g at hg ⊢
  replace hg : g y = val_main_v4 (F := Ideal) (m (c.tc.loc main_arg0)) (m (c.tc.loc main_arg1)) (((View.whole main_v0_3).slice (win0_8.rect t)).emb y) := hg
  unfold_payloads
  pointwise [val_main_cst_0, val_main_v5, val_main_v6, val_main_cst_1, val_main_v7, val_main_v8, val_main_v9, val_main_cst_2, val_main_v10, val_main_v11, val_main_v12, val_main_cst_3, val_main_v13, val_main_v14, val_main_v15, val_main_cst_4, val_main_v16, val_main_v17, val_main_cst_5, val_main_v18, val_main_v19, val_main_v20, val_main_cst_6, val_main_v21, val_main_v22, val_main_v23, val_main_cst_7, val_main_v24, val_main_v25, val_main_v26, val_main_cst_8, val_main_v27, val_main_v28]
  have h4 : iblk m c 4 t y = m (c.tc.loc main_arg4) (((View.whole main_v0_3).slice (win0_8.rect t)).emb y) := by
    blk_point [iblk, V, idx4, idx8]
  simp only [hg, h4]

end Cert.Kernel13Ideal.RefValue

end
-- ==== Proof.FfOptimiserClaim.lean ====
/- The value claim of the optimiser step of a feed-forward weight. -/
module

public import proofs.«01_k».proof.Defs
public import proofs.«01_k».proof.Proof.FfOptimiser

@[expose] public section

set_option maxRecDepth 16384

noncomputable section

namespace Cert.Kernel13Ideal.RefValue

open Kernel13Ideal Kernel13Ideal.Gen Idealize.ShloMosaic Idealize.ShloMosaic.TcCoe Idealize.SL.Sem
open Reference13Ideal.Read

/-- The reference runs, keeps its arguments, and leaves every semaphore at zero. -/
theorem reference_quiescent [hR : Reference13Ideal.Facts] : Cert.quiescent_Reference13Ideal (hReference13Ideal := hR) := by
  intro m ρ _
  refine (θ_run Reference13Ideal.defs _ _).mono (fun r h => ⟨fun c => ?_, sem_eq_zero_of_no_sems (by decide) r.2⟩)
    (Reference13Ideal.Value.run (F := Ideal) m ρ)
  exact (h c).2.2.2.2

/-- Both programs, from memories agreeing on the arguments, run and end with equal results. -/
theorem algebraic [hK : Kernel13Ideal.Facts] [hR : Reference13Ideal.Facts] :
    Cert.algebraic_Kernel13Ideal_Reference13Ideal (hKernel13Ideal := hK) (hReference13Ideal := hR) := by
  intro m ρ m' ρ' _ hagree
  refine ⟨fun c => val_main_v4 (F := Ideal) (m (c.tc.loc main_arg0)) (m (c.tc.loc main_arg1)), fun c => val_main_v28 (F := Ideal) (m (c.tc.loc main_arg0)) (m (c.tc.loc main_arg1)) (m (c.tc.loc main_arg2)) (m (c.tc.loc main_arg3)) (m (c.tc.loc main_arg4)), fun c => val_main_v9 (F := Ideal) (m (c.tc.loc main_arg0)) (m (c.tc.loc main_arg1)) (m (c.tc.loc main_arg3)), fun c => val_main_v15 (F := Ideal) (m (c.tc.loc main_arg0)) (m (c.tc.loc main_arg1)) (m (c.tc.loc main_arg4)), ?_, ?_⟩
  · refine (θ_run Kernel13Ideal.defs _ _).mono (fun r h c => ?_) (Kernel13Ideal.Value.run_blocks m ρ)
    obtain ⟨h0, h1, h2, h3, hk⟩ := h c
    exact ⟨h0.trans (final_5 m c), h1.trans (final_6 m c), h2.trans (final_7 m c), h3.trans (final_8 m c), hk⟩
  · refine (θ_run Reference13Ideal.defs _ _).mono (fun r h c => ?_) (Reference13Ideal.Value.run (F := Ideal) m' ρ')
    obtain ⟨h0, h1, h2, h3, hk⟩ := h c
    obtain ⟨e0, e1, e2, e3, e4⟩ := hagree c
    refine ⟨h0.trans ?_, h1.trans ?_, h2.trans ?_, h3.trans ?_, hk⟩
    · rw [e0, e1]
      exact val_main_v4_eq _ _
    · rw [e0, e1, e2, e3, e4]
      exact val_main_v28_eq _ _ _ _ _
    · rw [e0, e1, e3]
      exact val_main_v9_eq _ _ _
    · rw [e0, e1, e4]
      exact val_main_v15_eq _ _ _

end Cert.Kernel13Ideal.RefValue

end
-- ==== Proof.InOptimiser.lean ====
/- For the input projection: the sum of the eight devices' parts of the gradient and the optimiser step, entry by entry. -/
module

public import proofs.«01_k».proof.Proof.Gen.Kernel14Ideal.Value
public import proofs.«01_k».proof.Proof.Gen.Reference14Ideal.Run
public import proofs.«01_k».proof.Proof.Gen.Reference14Ideal.Read
public import proofs.«01_k».proof.Proof.Sums
public import Idealize.ShloMosaic.Lib.Pipeline.ValueKit
public import Idealize.ShloMosaic.Lib.Pointwise

@[expose] public section

set_option maxRecDepth 16384

noncomputable section

namespace Cert.Kernel14Ideal.RefValue

open Kernel14Ideal Kernel14Ideal.Gen Idealize.ShloMosaic Idealize.ShloMosaic.TcCoe Idealize.SL.Sem
open Idealize.ShloMosaic.Pipeline (Dat)
open Reference14Ideal.Read

variable (m : (ℓ : Loc nD τ sig) → Buf (Elt Ideal) ℓ)

/-! The block each window visits at a grid point. -/

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

/-- The sum of the eight devices' parts is the reference's. -/
theorem total (c : Dev nD) (t : Fin cfg0.N) (y : (cfg0.win 5).block.Idx) :
    (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) : FVec Ideal _ .f32) y = val_main_v4 (F := Ideal) (m (c.tc.loc main_arg0)) (m (c.tc.loc main_arg1)) (((View.whole main_v0_0).slice (win0_5.rect t)).emb y) := by
  unfold_payloads
  rw [val_main_v4_apply]
  pointwise []
  refine Sums.sum_eight (by simp only [val_main_cst_apply]; exact Ideal.ofBits_zero_f32) ?_ ?_ ?_ ?_ ?_ ?_ ?_ ?_
  all_goals
    pointwise [val_main_v0, val_main_v1, val_main_v2, val_main_v3, val_main_cst]
    blk_point [iblk, V, idx0, idx1, idx5]

/-- The gradient is the reference's. -/
theorem final_5 (c : Dev nD) : (dats m 0 c).arrAt 5 cfg0.N = val_main_v4 (F := Ideal) (m (c.tc.loc main_arg0)) (m (c.tc.loc main_arg1)) := by
  refine (dats m 0 c).arrAt_eq_of_covers 5 _ (by decide +kernel) fun t hf y => ?_
  blk_simp
  rw [after0_5]
  have e : out0_5 (iblk m c 0 t) (iblk m c 1 t) (iblk m c 2 t) (iblk m c 3 t) (iblk m c 4 t) = k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) := by unfold_out out0_5; frame_out; rfl
  rw [e]
  exact total m c t y

/-- The step is the reference's, entry by entry. -/
theorem final_6 (c : Dev nD) : (dats m 0 c).arrAt 6 cfg0.N = val_main_v28 (F := Ideal) (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t hf y => ?_
  blk_simp
  rw [after0_6]
  have e : out0_6 (iblk m c 0 t) (iblk m c 1 t) (iblk m c 2 t) (iblk m c 3 t) (iblk m c 4 t) = k0_pay3 (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (k0_pay5 (iblk m c 3 t)) (iblk m c 4 t) (iblk m c 2 t) := by unfold_out out0_6; frame_out; rfl
  rw [e]
  have hg := total m c t y
  generalize (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) : FVec Ideal _ .f32) = g at hg ⊢
  replace hg : g y = val_main_v4 (F := Ideal) (m (c.tc.loc main_arg0)) (m (c.tc.loc main_arg1)) (((View.whole main_v0_1).slice (win0_6.rect t)).emb y) := hg
  unfold_payloads
  pointwise [val_main_cst_0, val_main_v5, val_main_v6, val_main_cst_1, val_main_v7, val_main_v8, val_main_v9, val_main_cst_2, val_main_v10, val_main_v11, val_main_v12, val_main_cst_3, val_main_v13, val_main_v14, val_main_v15, val_main_cst_4, val_main_v16, val_main_v17, val_main_cst_5, val_main_v18, val_main_v19, val_main_v20, val_main_cst_6, val_main_v21, val_main_v22, val_main_v23, val_main_cst_7, val_main_v24, val_main_v25, val_main_v26, val_main_cst_8, val_main_v27, val_main_v28]
  have h2 : iblk m c 2 t y = m (c.tc.loc main_arg2) (((View.whole main_v0_1).slice (win0_6.rect t)).emb y) := by
    blk_point [iblk, V, idx2, idx6]
  have h3 : iblk m c 3 t y = m (c.tc.loc main_arg3) (((View.whole main_v0_1).slice (win0_6.rect t)).emb y) := by
    blk_point [iblk, V, idx3, idx6]
  have h4 : iblk m c 4 t y = m (c.tc.loc main_arg4) (((View.whole main_v0_1).slice (win0_6.rect t)).emb y) := by
    blk_point [iblk, V, idx4, idx6]
  simp only [hg, h2, h3, h4]

/-- The first moment is the reference's, entry by entry. -/
theorem final_7 (c : Dev nD) : (dats m 0 c).arrAt 7 cfg0.N = val_main_v9 (F := Ideal) (m (c.tc.loc main_arg0)) (m (c.tc.loc main_arg1)) (m (c.tc.loc main_arg3)) := by
  refine (dats m 0 c).arrAt_eq_of_covers 7 _ (by decide +kernel) fun t hf y => ?_
  blk_simp
  rw [after0_7]
  have e : out0_7 (iblk m c 0 t) (iblk m c 1 t) (iblk m c 2 t) (iblk m c 3 t) (iblk m c 4 t) = k0_pay1 (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (k0_pay5 (iblk m c 3 t)) := by unfold_out out0_7; frame_out; rfl
  rw [e]
  have hg := total m c t y
  generalize (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) : FVec Ideal _ .f32) = g at hg ⊢
  replace hg : g y = val_main_v4 (F := Ideal) (m (c.tc.loc main_arg0)) (m (c.tc.loc main_arg1)) (((View.whole main_v0_2).slice (win0_7.rect t)).emb y) := hg
  unfold_payloads
  pointwise [val_main_cst_0, val_main_v5, val_main_v6, val_main_cst_1, val_main_v7, val_main_v8, val_main_v9, val_main_cst_2, val_main_v10, val_main_v11, val_main_v12, val_main_cst_3, val_main_v13, val_main_v14, val_main_v15, val_main_cst_4, val_main_v16, val_main_v17, val_main_cst_5, val_main_v18, val_main_v19, val_main_v20, val_main_cst_6, val_main_v21, val_main_v22, val_main_v23, val_main_cst_7, val_main_v24, val_main_v25, val_main_v26, val_main_cst_8, val_main_v27, val_main_v28]
  have h3 : iblk m c 3 t y = m (c.tc.loc main_arg3) (((View.whole main_v0_2).slice (win0_7.rect t)).emb y) := by
    blk_point [iblk, V, idx3, idx7]
  simp only [hg, h3]

/-- The second moment is the reference's, entry by entry. -/
theorem final_8 (c : Dev nD) : (dats m 0 c).arrAt 8 cfg0.N = val_main_v15 (F := Ideal) (m (c.tc.loc main_arg0)) (m (c.tc.loc main_arg1)) (m (c.tc.loc main_arg4)) := by
  refine (dats m 0 c).arrAt_eq_of_covers 8 _ (by decide +kernel) fun t hf y => ?_
  blk_simp
  rw [after0_8]
  have e : out0_8 (iblk m c 0 t) (iblk m c 1 t) (iblk m c 2 t) (iblk m c 3 t) (iblk m c 4 t) = k0_pay2 (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 4 t) := by unfold_out out0_8; frame_out; rfl
  rw [e]
  have hg := total m c t y
  generalize (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) : FVec Ideal _ .f32) = g at hg ⊢
  replace hg : g y = val_main_v4 (F := Ideal) (m (c.tc.loc main_arg0)) (m (c.tc.loc main_arg1)) (((View.whole main_v0_3).slice (win0_8.rect t)).emb y) := hg
  unfold_payloads
  pointwise [val_main_cst_0, val_main_v5, val_main_v6, val_main_cst_1, val_main_v7, val_main_v8, val_main_v9, val_main_cst_2, val_main_v10, val_main_v11, val_main_v12, val_main_cst_3, val_main_v13, val_main_v14, val_main_v15, val_main_cst_4, val_main_v16, val_main_v17, val_main_cst_5, val_main_v18, val_main_v19, val_main_v20, val_main_cst_6, val_main_v21, val_main_v22, val_main_v23, val_main_cst_7, val_main_v24, val_main_v25, val_main_v26, val_main_cst_8, val_main_v27, val_main_v28]
  have h4 : iblk m c 4 t y = m (c.tc.loc main_arg4) (((View.whole main_v0_3).slice (win0_8.rect t)).emb y) := by
    blk_point [iblk, V, idx4, idx8]
  simp only [hg, h4]

end Cert.Kernel14Ideal.RefValue

end
-- ==== Proof.InOptimiserClaim.lean ====
/- The value claim of the optimiser step of the input projection. -/
module

public import proofs.«01_k».proof.Defs
public import proofs.«01_k».proof.Proof.InOptimiser

@[expose] public section

set_option maxRecDepth 16384

noncomputable section

namespace Cert.Kernel14Ideal.RefValue

open Kernel14Ideal Kernel14Ideal.Gen Idealize.ShloMosaic Idealize.ShloMosaic.TcCoe Idealize.SL.Sem
open Reference14Ideal.Read

/-- The reference runs, keeps its arguments, and leaves every semaphore at zero. -/
theorem reference_quiescent [hR : Reference14Ideal.Facts] : Cert.quiescent_Reference14Ideal (hReference14Ideal := hR) := by
  intro m ρ _
  refine (θ_run Reference14Ideal.defs _ _).mono (fun r h => ⟨fun c => ?_, sem_eq_zero_of_no_sems (by decide) r.2⟩)
    (Reference14Ideal.Value.run (F := Ideal) m ρ)
  exact (h c).2.2.2.2

/-- Both programs, from memories agreeing on the arguments, run and end with equal results. -/
theorem algebraic [hK : Kernel14Ideal.Facts] [hR : Reference14Ideal.Facts] :
    Cert.algebraic_Kernel14Ideal_Reference14Ideal (hKernel14Ideal := hK) (hReference14Ideal := hR) := by
  intro m ρ m' ρ' _ hagree
  refine ⟨fun c => val_main_v4 (F := Ideal) (m (c.tc.loc main_arg0)) (m (c.tc.loc main_arg1)), fun c => val_main_v28 (F := Ideal) (m (c.tc.loc main_arg0)) (m (c.tc.loc main_arg1)) (m (c.tc.loc main_arg2)) (m (c.tc.loc main_arg3)) (m (c.tc.loc main_arg4)), fun c => val_main_v9 (F := Ideal) (m (c.tc.loc main_arg0)) (m (c.tc.loc main_arg1)) (m (c.tc.loc main_arg3)), fun c => val_main_v15 (F := Ideal) (m (c.tc.loc main_arg0)) (m (c.tc.loc main_arg1)) (m (c.tc.loc main_arg4)), ?_, ?_⟩
  · refine (θ_run Kernel14Ideal.defs _ _).mono (fun r h c => ?_) (Kernel14Ideal.Value.run_blocks m ρ)
    obtain ⟨h0, h1, h2, h3, hk⟩ := h c
    exact ⟨h0.trans (final_5 m c), h1.trans (final_6 m c), h2.trans (final_7 m c), h3.trans (final_8 m c), hk⟩
  · refine (θ_run Reference14Ideal.defs _ _).mono (fun r h c => ?_) (Reference14Ideal.Value.run (F := Ideal) m' ρ')
    obtain ⟨h0, h1, h2, h3, hk⟩ := h c
    obtain ⟨e0, e1, e2, e3, e4⟩ := hagree c
    refine ⟨h0.trans ?_, h1.trans ?_, h2.trans ?_, h3.trans ?_, hk⟩
    · rw [e0, e1]
      exact val_main_v4_eq _ _
    · rw [e0, e1, e2, e3, e4]
      exact val_main_v28_eq _ _ _ _ _
    · rw [e0, e1, e3]
      exact val_main_v9_eq _ _ _
    · rw [e0, e1, e4]
      exact val_main_v15_eq _ _ _

end Cert.Kernel14Ideal.RefValue

end
-- ==== Proof.SsdProjectionOptimiser.lean ====
/- For the first branch projection: the sum of the eight devices' parts of the gradient and the optimiser step, entry by entry. -/
module

public import proofs.«01_k».proof.Proof.Gen.Kernel15Ideal.Value
public import proofs.«01_k».proof.Proof.Gen.Reference15Ideal.Run
public import proofs.«01_k».proof.Proof.Gen.Reference15Ideal.Read
public import proofs.«01_k».proof.Proof.Sums
public import Idealize.ShloMosaic.Lib.Pipeline.ValueKit
public import Idealize.ShloMosaic.Lib.Pointwise

@[expose] public section

set_option maxRecDepth 16384

noncomputable section

namespace Cert.Kernel15Ideal.RefValue

open Kernel15Ideal Kernel15Ideal.Gen Idealize.ShloMosaic Idealize.ShloMosaic.TcCoe Idealize.SL.Sem
open Idealize.ShloMosaic.Pipeline (Dat)
open Reference15Ideal.Read

variable (m : (ℓ : Loc nD τ sig) → Buf (Elt Ideal) ℓ)

/-! The block each window visits at a grid point. -/

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

/-- The sum of the eight devices' parts is the reference's. -/
theorem total (c : Dev nD) (t : Fin cfg0.N) (y : (cfg0.win 5).block.Idx) :
    (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) : FVec Ideal _ .f32) y = val_main_v6 (F := Ideal) (m (c.tc.loc main_arg0)) (m (c.tc.loc main_arg1)) (((View.whole main_v0_0).slice (win0_5.rect t)).emb y) := by
  unfold_payloads
  rw [val_main_v6_apply]
  pointwise []
  refine Sums.sum_eight (by simp only [val_main_cst_apply]; exact Ideal.ofBits_zero_f32) ?_ ?_ ?_ ?_ ?_ ?_ ?_ ?_
  all_goals
    pointwise [val_main_v0, val_main_v1, val_main_v2, val_main_v3, val_main_v4, val_main_v5, val_main_cst]
    blk_point [iblk, V, idx0, idx1, idx5]

/-- The gradient is the reference's. -/
theorem final_5 (c : Dev nD) : (dats m 0 c).arrAt 5 cfg0.N = val_main_v6 (F := Ideal) (m (c.tc.loc main_arg0)) (m (c.tc.loc main_arg1)) := by
  refine (dats m 0 c).arrAt_eq_of_covers 5 _ (by decide +kernel) fun t hf y => ?_
  blk_simp
  rw [after0_5]
  have e : out0_5 (iblk m c 0 t) (iblk m c 1 t) (iblk m c 2 t) (iblk m c 3 t) (iblk m c 4 t) = k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) := by unfold_out out0_5; frame_out; rfl
  rw [e]
  exact total m c t y

/-- The step is the reference's, entry by entry. -/
theorem final_6 (c : Dev nD) : (dats m 0 c).arrAt 6 cfg0.N = val_main_v30 (F := Ideal) (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t hf y => ?_
  blk_simp
  rw [after0_6]
  have e : out0_6 (iblk m c 0 t) (iblk m c 1 t) (iblk m c 2 t) (iblk m c 3 t) (iblk m c 4 t) = k0_pay3 (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (k0_pay5 (iblk m c 3 t)) (iblk m c 4 t) (iblk m c 2 t) := by unfold_out out0_6; frame_out; rfl
  rw [e]
  have hg := total m c t y
  generalize (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) : FVec Ideal _ .f32) = g at hg ⊢
  replace hg : g y = val_main_v6 (F := Ideal) (m (c.tc.loc main_arg0)) (m (c.tc.loc main_arg1)) (((View.whole main_v0_1).slice (win0_6.rect t)).emb y) := hg
  unfold_payloads
  pointwise [val_main_cst_0, val_main_v7, val_main_v8, val_main_cst_1, val_main_v9, val_main_v10, val_main_v11, val_main_cst_2, val_main_v12, val_main_v13, val_main_v14, val_main_cst_3, val_main_v15, val_main_v16, val_main_v17, val_main_cst_4, val_main_v18, val_main_v19, val_main_cst_5, val_main_v20, val_main_v21, val_main_v22, val_main_cst_6, val_main_v23, val_main_v24, val_main_v25, val_main_cst_7, val_main_v26, val_main_v27, val_main_v28, val_main_cst_8, val_main_v29, val_main_v30]
  have h2 : iblk m c 2 t y = m (c.tc.loc main_arg2) (((View.whole main_v0_1).slice (win0_6.rect t)).emb y) := by
    blk_point [iblk, V, idx2, idx6]
  have h3 : iblk m c 3 t y = m (c.tc.loc main_arg3) (((View.whole main_v0_1).slice (win0_6.rect t)).emb y) := by
    blk_point [iblk, V, idx3, idx6]
  have h4 : iblk m c 4 t y = m (c.tc.loc main_arg4) (((View.whole main_v0_1).slice (win0_6.rect t)).emb y) := by
    blk_point [iblk, V, idx4, idx6]
  simp only [hg, h2, h3, h4]

/-- The first moment is the reference's, entry by entry. -/
theorem final_7 (c : Dev nD) : (dats m 0 c).arrAt 7 cfg0.N = val_main_v11 (F := Ideal) (m (c.tc.loc main_arg0)) (m (c.tc.loc main_arg1)) (m (c.tc.loc main_arg3)) := by
  refine (dats m 0 c).arrAt_eq_of_covers 7 _ (by decide +kernel) fun t hf y => ?_
  blk_simp
  rw [after0_7]
  have e : out0_7 (iblk m c 0 t) (iblk m c 1 t) (iblk m c 2 t) (iblk m c 3 t) (iblk m c 4 t) = k0_pay1 (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (k0_pay5 (iblk m c 3 t)) := by unfold_out out0_7; frame_out; rfl
  rw [e]
  have hg := total m c t y
  generalize (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) : FVec Ideal _ .f32) = g at hg ⊢
  replace hg : g y = val_main_v6 (F := Ideal) (m (c.tc.loc main_arg0)) (m (c.tc.loc main_arg1)) (((View.whole main_v0_2).slice (win0_7.rect t)).emb y) := hg
  unfold_payloads
  pointwise [val_main_cst_0, val_main_v7, val_main_v8, val_main_cst_1, val_main_v9, val_main_v10, val_main_v11, val_main_cst_2, val_main_v12, val_main_v13, val_main_v14, val_main_cst_3, val_main_v15, val_main_v16, val_main_v17, val_main_cst_4, val_main_v18, val_main_v19, val_main_cst_5, val_main_v20, val_main_v21, val_main_v22, val_main_cst_6, val_main_v23, val_main_v24, val_main_v25, val_main_cst_7, val_main_v26, val_main_v27, val_main_v28, val_main_cst_8, val_main_v29, val_main_v30]
  have h3 : iblk m c 3 t y = m (c.tc.loc main_arg3) (((View.whole main_v0_2).slice (win0_7.rect t)).emb y) := by
    blk_point [iblk, V, idx3, idx7]
  simp only [hg, h3]

/-- The second moment is the reference's, entry by entry. -/
theorem final_8 (c : Dev nD) : (dats m 0 c).arrAt 8 cfg0.N = val_main_v17 (F := Ideal) (m (c.tc.loc main_arg0)) (m (c.tc.loc main_arg1)) (m (c.tc.loc main_arg4)) := by
  refine (dats m 0 c).arrAt_eq_of_covers 8 _ (by decide +kernel) fun t hf y => ?_
  blk_simp
  rw [after0_8]
  have e : out0_8 (iblk m c 0 t) (iblk m c 1 t) (iblk m c 2 t) (iblk m c 3 t) (iblk m c 4 t) = k0_pay2 (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 4 t) := by unfold_out out0_8; frame_out; rfl
  rw [e]
  have hg := total m c t y
  generalize (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) : FVec Ideal _ .f32) = g at hg ⊢
  replace hg : g y = val_main_v6 (F := Ideal) (m (c.tc.loc main_arg0)) (m (c.tc.loc main_arg1)) (((View.whole main_v0_3).slice (win0_8.rect t)).emb y) := hg
  unfold_payloads
  pointwise [val_main_cst_0, val_main_v7, val_main_v8, val_main_cst_1, val_main_v9, val_main_v10, val_main_v11, val_main_cst_2, val_main_v12, val_main_v13, val_main_v14, val_main_cst_3, val_main_v15, val_main_v16, val_main_v17, val_main_cst_4, val_main_v18, val_main_v19, val_main_cst_5, val_main_v20, val_main_v21, val_main_v22, val_main_cst_6, val_main_v23, val_main_v24, val_main_v25, val_main_cst_7, val_main_v26, val_main_v27, val_main_v28, val_main_cst_8, val_main_v29, val_main_v30]
  have h4 : iblk m c 4 t y = m (c.tc.loc main_arg4) (((View.whole main_v0_3).slice (win0_8.rect t)).emb y) := by
    blk_point [iblk, V, idx4, idx8]
  simp only [hg, h4]

end Cert.Kernel15Ideal.RefValue

end
-- ==== Proof.SsdProjectionOptimiserClaim.lean ====
/- The value claim of the optimiser step of the first branch projection. -/
module

public import proofs.«01_k».proof.Defs
public import proofs.«01_k».proof.Proof.SsdProjectionOptimiser

@[expose] public section

set_option maxRecDepth 16384

noncomputable section

namespace Cert.Kernel15Ideal.RefValue

open Kernel15Ideal Kernel15Ideal.Gen Idealize.ShloMosaic Idealize.ShloMosaic.TcCoe Idealize.SL.Sem
open Reference15Ideal.Read

/-- The reference runs, keeps its arguments, and leaves every semaphore at zero. -/
theorem reference_quiescent [hR : Reference15Ideal.Facts] : Cert.quiescent_Reference15Ideal (hReference15Ideal := hR) := by
  intro m ρ _
  refine (θ_run Reference15Ideal.defs _ _).mono (fun r h => ⟨fun c => ?_, sem_eq_zero_of_no_sems (by decide) r.2⟩)
    (Reference15Ideal.Value.run (F := Ideal) m ρ)
  exact (h c).2.2.2.2

/-- Both programs, from memories agreeing on the arguments, run and end with equal results. -/
theorem algebraic [hK : Kernel15Ideal.Facts] [hR : Reference15Ideal.Facts] :
    Cert.algebraic_Kernel15Ideal_Reference15Ideal (hKernel15Ideal := hK) (hReference15Ideal := hR) := by
  intro m ρ m' ρ' _ hagree
  refine ⟨fun c => val_main_v6 (F := Ideal) (m (c.tc.loc main_arg0)) (m (c.tc.loc main_arg1)), fun c => val_main_v30 (F := Ideal) (m (c.tc.loc main_arg0)) (m (c.tc.loc main_arg1)) (m (c.tc.loc main_arg2)) (m (c.tc.loc main_arg3)) (m (c.tc.loc main_arg4)), fun c => val_main_v11 (F := Ideal) (m (c.tc.loc main_arg0)) (m (c.tc.loc main_arg1)) (m (c.tc.loc main_arg3)), fun c => val_main_v17 (F := Ideal) (m (c.tc.loc main_arg0)) (m (c.tc.loc main_arg1)) (m (c.tc.loc main_arg4)), ?_, ?_⟩
  · refine (θ_run Kernel15Ideal.defs _ _).mono (fun r h c => ?_) (Kernel15Ideal.Value.run_blocks m ρ)
    obtain ⟨h0, h1, h2, h3, hk⟩ := h c
    exact ⟨h0.trans (final_5 m c), h1.trans (final_6 m c), h2.trans (final_7 m c), h3.trans (final_8 m c), hk⟩
  · refine (θ_run Reference15Ideal.defs _ _).mono (fun r h c => ?_) (Reference15Ideal.Value.run (F := Ideal) m' ρ')
    obtain ⟨h0, h1, h2, h3, hk⟩ := h c
    obtain ⟨e0, e1, e2, e3, e4⟩ := hagree c
    refine ⟨h0.trans ?_, h1.trans ?_, h2.trans ?_, h3.trans ?_, hk⟩
    · rw [e0, e1]
      exact val_main_v6_eq _ _
    · rw [e0, e1, e2, e3, e4]
      exact val_main_v30_eq _ _ _ _ _
    · rw [e0, e1, e3]
      exact val_main_v11_eq _ _ _
    · rw [e0, e1, e4]
      exact val_main_v17_eq _ _ _

end Cert.Kernel15Ideal.RefValue

end
-- ==== Proof.GmProjectionOptimiser.lean ====
/- For the second branch projection: the sum of the eight devices' parts of the gradient and the optimiser step, entry by entry. -/
module

public import proofs.«01_k».proof.Proof.Gen.Kernel16Ideal.Value
public import proofs.«01_k».proof.Proof.Gen.Reference16Ideal.Run
public import proofs.«01_k».proof.Proof.Gen.Reference16Ideal.Read
public import proofs.«01_k».proof.Proof.Sums
public import Idealize.ShloMosaic.Lib.Pipeline.ValueKit
public import Idealize.ShloMosaic.Lib.Pointwise

@[expose] public section

set_option maxRecDepth 16384

noncomputable section

namespace Cert.Kernel16Ideal.RefValue

open Kernel16Ideal Kernel16Ideal.Gen Idealize.ShloMosaic Idealize.ShloMosaic.TcCoe Idealize.SL.Sem
open Idealize.ShloMosaic.Pipeline (Dat)
open Reference16Ideal.Read

variable (m : (ℓ : Loc nD τ sig) → Buf (Elt Ideal) ℓ)

/-! The block each window visits at a grid point. -/

theorem idx0 : ∀ t : Fin cfg0.N, win0_0.index t = ![0, t.val + 1, 0] := (by decide +kernel : ∀ t : Fin grid0.N, _)
theorem idx1 : ∀ t : Fin cfg0.N, win0_1.index t = ![t.val + 1, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

/-- The sum of the eight devices' parts is the reference's. -/
theorem total (c : Dev nD) (t : Fin cfg0.N) (y : (cfg0.win 5).block.Idx) :
    (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) : FVec Ideal _ .f32) y = val_main_v6 (F := Ideal) (m (c.tc.loc main_arg0)) (m (c.tc.loc main_arg1)) (((View.whole main_v0_0).slice (win0_5.rect t)).emb y) := by
  unfold_payloads
  rw [val_main_v6_apply]
  pointwise []
  refine Sums.sum_eight (by simp only [val_main_cst_apply]; exact Ideal.ofBits_zero_f32) ?_ ?_ ?_ ?_ ?_ ?_ ?_ ?_
  all_goals
    pointwise [val_main_v0, val_main_v1, val_main_v2, val_main_v3, val_main_v4, val_main_v5, val_main_cst]
    blk_point [iblk, V, idx0, idx1, idx5]

/-- The gradient is the reference's. -/
theorem final_5 (c : Dev nD) : (dats m 0 c).arrAt 5 cfg0.N = val_main_v6 (F := Ideal) (m (c.tc.loc main_arg0)) (m (c.tc.loc main_arg1)) := by
  refine (dats m 0 c).arrAt_eq_of_covers 5 _ (by decide +kernel) fun t hf y => ?_
  blk_simp
  rw [after0_5]
  have e : out0_5 (iblk m c 0 t) (iblk m c 1 t) (iblk m c 2 t) (iblk m c 3 t) (iblk m c 4 t) = k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) := by unfold_out out0_5; frame_out; rfl
  rw [e]
  exact total m c t y

/-- The step is the reference's, entry by entry. -/
theorem final_6 (c : Dev nD) : (dats m 0 c).arrAt 6 cfg0.N = val_main_v30 (F := Ideal) (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t hf y => ?_
  blk_simp
  rw [after0_6]
  have e : out0_6 (iblk m c 0 t) (iblk m c 1 t) (iblk m c 2 t) (iblk m c 3 t) (iblk m c 4 t) = k0_pay3 (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (k0_pay5 (iblk m c 3 t)) (iblk m c 4 t) (iblk m c 2 t) := by unfold_out out0_6; frame_out; rfl
  rw [e]
  have hg := total m c t y
  generalize (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) : FVec Ideal _ .f32) = g at hg ⊢
  replace hg : g y = val_main_v6 (F := Ideal) (m (c.tc.loc main_arg0)) (m (c.tc.loc main_arg1)) (((View.whole main_v0_1).slice (win0_6.rect t)).emb y) := hg
  unfold_payloads
  pointwise [val_main_cst_0, val_main_v7, val_main_v8, val_main_cst_1, val_main_v9, val_main_v10, val_main_v11, val_main_cst_2, val_main_v12, val_main_v13, val_main_v14, val_main_cst_3, val_main_v15, val_main_v16, val_main_v17, val_main_cst_4, val_main_v18, val_main_v19, val_main_cst_5, val_main_v20, val_main_v21, val_main_v22, val_main_cst_6, val_main_v23, val_main_v24, val_main_v25, val_main_cst_7, val_main_v26, val_main_v27, val_main_v28, val_main_cst_8, val_main_v29, val_main_v30]
  have h2 : iblk m c 2 t y = m (c.tc.loc main_arg2) (((View.whole main_v0_1).slice (win0_6.rect t)).emb y) := by
    blk_point [iblk, V, idx2, idx6]
  have h3 : iblk m c 3 t y = m (c.tc.loc main_arg3) (((View.whole main_v0_1).slice (win0_6.rect t)).emb y) := by
    blk_point [iblk, V, idx3, idx6]
  have h4 : iblk m c 4 t y = m (c.tc.loc main_arg4) (((View.whole main_v0_1).slice (win0_6.rect t)).emb y) := by
    blk_point [iblk, V, idx4, idx6]
  simp only [hg, h2, h3, h4]

/-- The first moment is the reference's, entry by entry. -/
theorem final_7 (c : Dev nD) : (dats m 0 c).arrAt 7 cfg0.N = val_main_v11 (F := Ideal) (m (c.tc.loc main_arg0)) (m (c.tc.loc main_arg1)) (m (c.tc.loc main_arg3)) := by
  refine (dats m 0 c).arrAt_eq_of_covers 7 _ (by decide +kernel) fun t hf y => ?_
  blk_simp
  rw [after0_7]
  have e : out0_7 (iblk m c 0 t) (iblk m c 1 t) (iblk m c 2 t) (iblk m c 3 t) (iblk m c 4 t) = k0_pay1 (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (k0_pay5 (iblk m c 3 t)) := by unfold_out out0_7; frame_out; rfl
  rw [e]
  have hg := total m c t y
  generalize (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) : FVec Ideal _ .f32) = g at hg ⊢
  replace hg : g y = val_main_v6 (F := Ideal) (m (c.tc.loc main_arg0)) (m (c.tc.loc main_arg1)) (((View.whole main_v0_2).slice (win0_7.rect t)).emb y) := hg
  unfold_payloads
  pointwise [val_main_cst_0, val_main_v7, val_main_v8, val_main_cst_1, val_main_v9, val_main_v10, val_main_v11, val_main_cst_2, val_main_v12, val_main_v13, val_main_v14, val_main_cst_3, val_main_v15, val_main_v16, val_main_v17, val_main_cst_4, val_main_v18, val_main_v19, val_main_cst_5, val_main_v20, val_main_v21, val_main_v22, val_main_cst_6, val_main_v23, val_main_v24, val_main_v25, val_main_cst_7, val_main_v26, val_main_v27, val_main_v28, val_main_cst_8, val_main_v29, val_main_v30]
  have h3 : iblk m c 3 t y = m (c.tc.loc main_arg3) (((View.whole main_v0_2).slice (win0_7.rect t)).emb y) := by
    blk_point [iblk, V, idx3, idx7]
  simp only [hg, h3]

/-- The second moment is the reference's, entry by entry. -/
theorem final_8 (c : Dev nD) : (dats m 0 c).arrAt 8 cfg0.N = val_main_v17 (F := Ideal) (m (c.tc.loc main_arg0)) (m (c.tc.loc main_arg1)) (m (c.tc.loc main_arg4)) := by
  refine (dats m 0 c).arrAt_eq_of_covers 8 _ (by decide +kernel) fun t hf y => ?_
  blk_simp
  rw [after0_8]
  have e : out0_8 (iblk m c 0 t) (iblk m c 1 t) (iblk m c 2 t) (iblk m c 3 t) (iblk m c 4 t) = k0_pay2 (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 4 t) := by unfold_out out0_8; frame_out; rfl
  rw [e]
  have hg := total m c t y
  generalize (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) : FVec Ideal _ .f32) = g at hg ⊢
  replace hg : g y = val_main_v6 (F := Ideal) (m (c.tc.loc main_arg0)) (m (c.tc.loc main_arg1)) (((View.whole main_v0_3).slice (win0_8.rect t)).emb y) := hg
  unfold_payloads
  pointwise [val_main_cst_0, val_main_v7, val_main_v8, val_main_cst_1, val_main_v9, val_main_v10, val_main_v11, val_main_cst_2, val_main_v12, val_main_v13, val_main_v14, val_main_cst_3, val_main_v15, val_main_v16, val_main_v17, val_main_cst_4, val_main_v18, val_main_v19, val_main_cst_5, val_main_v20, val_main_v21, val_main_v22, val_main_cst_6, val_main_v23, val_main_v24, val_main_v25, val_main_cst_7, val_main_v26, val_main_v27, val_main_v28, val_main_cst_8, val_main_v29, val_main_v30]
  have h4 : iblk m c 4 t y = m (c.tc.loc main_arg4) (((View.whole main_v0_3).slice (win0_8.rect t)).emb y) := by
    blk_point [iblk, V, idx4, idx8]
  simp only [hg, h4]

end Cert.Kernel16Ideal.RefValue

end
-- ==== Proof.GmProjectionOptimiserClaim.lean ====
/- The value claim of the optimiser step of the second branch projection. -/
module

public import proofs.«01_k».proof.Defs
public import proofs.«01_k».proof.Proof.GmProjectionOptimiser

@[expose] public section

set_option maxRecDepth 16384

noncomputable section

namespace Cert.Kernel16Ideal.RefValue

open Kernel16Ideal Kernel16Ideal.Gen Idealize.ShloMosaic Idealize.ShloMosaic.TcCoe Idealize.SL.Sem
open Reference16Ideal.Read

/-- The reference runs, keeps its arguments, and leaves every semaphore at zero. -/
theorem reference_quiescent [hR : Reference16Ideal.Facts] : Cert.quiescent_Reference16Ideal (hReference16Ideal := hR) := by
  intro m ρ _
  refine (θ_run Reference16Ideal.defs _ _).mono (fun r h => ⟨fun c => ?_, sem_eq_zero_of_no_sems (by decide) r.2⟩)
    (Reference16Ideal.Value.run (F := Ideal) m ρ)
  exact (h c).2.2.2.2

/-- Both programs, from memories agreeing on the arguments, run and end with equal results. -/
theorem algebraic [hK : Kernel16Ideal.Facts] [hR : Reference16Ideal.Facts] :
    Cert.algebraic_Kernel16Ideal_Reference16Ideal (hKernel16Ideal := hK) (hReference16Ideal := hR) := by
  intro m ρ m' ρ' _ hagree
  refine ⟨fun c => val_main_v6 (F := Ideal) (m (c.tc.loc main_arg0)) (m (c.tc.loc main_arg1)), fun c => val_main_v30 (F := Ideal) (m (c.tc.loc main_arg0)) (m (c.tc.loc main_arg1)) (m (c.tc.loc main_arg2)) (m (c.tc.loc main_arg3)) (m (c.tc.loc main_arg4)), fun c => val_main_v11 (F := Ideal) (m (c.tc.loc main_arg0)) (m (c.tc.loc main_arg1)) (m (c.tc.loc main_arg3)), fun c => val_main_v17 (F := Ideal) (m (c.tc.loc main_arg0)) (m (c.tc.loc main_arg1)) (m (c.tc.loc main_arg4)), ?_, ?_⟩
  · refine (θ_run Kernel16Ideal.defs _ _).mono (fun r h c => ?_) (Kernel16Ideal.Value.run_blocks m ρ)
    obtain ⟨h0, h1, h2, h3, hk⟩ := h c
    exact ⟨h0.trans (final_5 m c), h1.trans (final_6 m c), h2.trans (final_7 m c), h3.trans (final_8 m c), hk⟩
  · refine (θ_run Reference16Ideal.defs _ _).mono (fun r h c => ?_) (Reference16Ideal.Value.run (F := Ideal) m' ρ')
    obtain ⟨h0, h1, h2, h3, hk⟩ := h c
    obtain ⟨e0, e1, e2, e3, e4⟩ := hagree c
    refine ⟨h0.trans ?_, h1.trans ?_, h2.trans ?_, h3.trans ?_, hk⟩
    · rw [e0, e1]
      exact val_main_v6_eq _ _
    · rw [e0, e1, e2, e3, e4]
      exact val_main_v30_eq _ _ _ _ _
    · rw [e0, e1, e3]
      exact val_main_v11_eq _ _ _
    · rw [e0, e1, e4]
      exact val_main_v17_eq _ _ _

end Cert.Kernel16Ideal.RefValue

end
-- ==== Proof.OutOptimiser.lean ====
/- For the output projection: the sum of the eight devices' parts of the gradient and the optimiser step, entry by entry. -/
module

public import proofs.«01_k».proof.Proof.Gen.Kernel17Ideal.Value
public import proofs.«01_k».proof.Proof.Gen.Reference17Ideal.Run
public import proofs.«01_k».proof.Proof.Gen.Reference17Ideal.Read
public import proofs.«01_k».proof.Proof.Sums
public import Idealize.ShloMosaic.Lib.Pipeline.ValueKit
public import Idealize.ShloMosaic.Lib.Pointwise

@[expose] public section

set_option maxRecDepth 16384

noncomputable section

namespace Cert.Kernel17Ideal.RefValue

open Kernel17Ideal Kernel17Ideal.Gen Idealize.ShloMosaic Idealize.ShloMosaic.TcCoe Idealize.SL.Sem
open Idealize.ShloMosaic.Pipeline (Dat)
open Reference17Ideal.Read

variable (m : (ℓ : Loc nD τ sig) → Buf (Elt Ideal) ℓ)

/-! The block each window visits at a grid point. -/

theorem idx0 : ∀ t : Fin cfg0.N, win0_0.index t = ![0, t.val + 2, 0] := (by decide +kernel : ∀ t : Fin grid0.N, _)
theorem idx1 : ∀ t : Fin cfg0.N, win0_1.index t = ![t.val + 2, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

/-- The sum of the eight devices' parts is the reference's. -/
theorem total (c : Dev nD) (t : Fin cfg0.N) (y : (cfg0.win 5).block.Idx) :
    (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) : FVec Ideal _ .f32) y = val_main_v6 (F := Ideal) (m (c.tc.loc main_arg0)) (m (c.tc.loc main_arg1)) (((View.whole main_v0_0).slice (win0_5.rect t)).emb y) := by
  unfold_payloads
  rw [val_main_v6_apply]
  pointwise []
  refine Sums.sum_eight (by simp only [val_main_cst_apply]; exact Ideal.ofBits_zero_f32) ?_ ?_ ?_ ?_ ?_ ?_ ?_ ?_
  all_goals
    pointwise [val_main_v0, val_main_v1, val_main_v2, val_main_v3, val_main_v4, val_main_v5, val_main_cst]
    blk_point [iblk, V, idx0, idx1, idx5]

/-- The gradient is the reference's. -/
theorem final_5 (c : Dev nD) : (dats m 0 c).arrAt 5 cfg0.N = val_main_v6 (F := Ideal) (m (c.tc.loc main_arg0)) (m (c.tc.loc main_arg1)) := by
  refine (dats m 0 c).arrAt_eq_of_covers 5 _ (by decide +kernel) fun t hf y => ?_
  blk_simp
  rw [after0_5]
  have e : out0_5 (iblk m c 0 t) (iblk m c 1 t) (iblk m c 2 t) (iblk m c 3 t) (iblk m c 4 t) = k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) := by unfold_out out0_5; frame_out; rfl
  rw [e]
  exact total m c t y

/-- The step is the reference's, entry by entry. -/
theorem final_6 (c : Dev nD) : (dats m 0 c).arrAt 6 cfg0.N = val_main_v30 (F := Ideal) (m (c.tc.loc main_arg0)) (m (c.tc.loc main_arg1)) (m (c.tc.loc main_arg2)) (m (c.tc.loc main_arg3)) (m (c.tc.loc main_arg4)) := by
  refine (dats m 0 c).arrAt_eq_of_covers 6 _ (by decide +kernel) fun t hf y => ?_
  blk_simp
  rw [after0_6]
  have e : out0_6 (iblk m c 0 t) (iblk m c 1 t) (iblk m c 2 t) (iblk m c 3 t) (iblk m c 4 t) = k0_pay3 (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (k0_pay5 (iblk m c 3 t)) (iblk m c 4 t) (iblk m c 2 t) := by unfold_out out0_6; frame_out; rfl
  rw [e]
  have hg := total m c t y
  generalize (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) : FVec Ideal _ .f32) = g at hg ⊢
  replace hg : g y = val_main_v6 (F := Ideal) (m (c.tc.loc main_arg0)) (m (c.tc.loc main_arg1)) (((View.whole main_v0_1).slice (win0_6.rect t)).emb y) := hg
  unfold_payloads
  pointwise [val_main_cst_0, val_main_v7, val_main_v8, val_main_cst_1, val_main_v9, val_main_v10, val_main_v11, val_main_cst_2, val_main_v12, val_main_v13, val_main_v14, val_main_cst_3, val_main_v15, val_main_v16, val_main_v17, val_main_cst_4, val_main_v18, val_main_v19, val_main_cst_5, val_main_v20, val_main_v21, val_main_v22, val_main_cst_6, val_main_v23, val_main_v24, val_main_v25, val_main_cst_7, val_main_v26, val_main_v27, val_main_v28, val_main_cst_8, val_main_v29, val_main_v30]
  have h2 : iblk m c 2 t y = m (c.tc.loc main_arg2) (((View.whole main_v0_1).slice (win0_6.rect t)).emb y) := by
    blk_point [iblk, V, idx2, idx6]
  have h3 : iblk m c 3 t y = m (c.tc.loc main_arg3) (((View.whole main_v0_1).slice (win0_6.rect t)).emb y) := by
    blk_point [iblk, V, idx3, idx6]
  have h4 : iblk m c 4 t y = m (c.tc.loc main_arg4) (((View.whole main_v0_1).slice (win0_6.rect t)).emb y) := by
    blk_point [iblk, V, idx4, idx6]
  simp only [hg, h2, h3, h4]

/-- The first moment is the reference's, entry by entry. -/
theorem final_7 (c : Dev nD) : (dats m 0 c).arrAt 7 cfg0.N = val_main_v11 (F := Ideal) (m (c.tc.loc main_arg0)) (m (c.tc.loc main_arg1)) (m (c.tc.loc main_arg3)) := by
  refine (dats m 0 c).arrAt_eq_of_covers 7 _ (by decide +kernel) fun t hf y => ?_
  blk_simp
  rw [after0_7]
  have e : out0_7 (iblk m c 0 t) (iblk m c 1 t) (iblk m c 2 t) (iblk m c 3 t) (iblk m c 4 t) = k0_pay1 (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (k0_pay5 (iblk m c 3 t)) := by unfold_out out0_7; frame_out; rfl
  rw [e]
  have hg := total m c t y
  generalize (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) : FVec Ideal _ .f32) = g at hg ⊢
  replace hg : g y = val_main_v6 (F := Ideal) (m (c.tc.loc main_arg0)) (m (c.tc.loc main_arg1)) (((View.whole main_v0_2).slice (win0_7.rect t)).emb y) := hg
  unfold_payloads
  pointwise [val_main_cst_0, val_main_v7, val_main_v8, val_main_cst_1, val_main_v9, val_main_v10, val_main_v11, val_main_cst_2, val_main_v12, val_main_v13, val_main_v14, val_main_cst_3, val_main_v15, val_main_v16, val_main_v17, val_main_cst_4, val_main_v18, val_main_v19, val_main_cst_5, val_main_v20, val_main_v21, val_main_v22, val_main_cst_6, val_main_v23, val_main_v24, val_main_v25, val_main_cst_7, val_main_v26, val_main_v27, val_main_v28, val_main_cst_8, val_main_v29, val_main_v30]
  have h3 : iblk m c 3 t y = m (c.tc.loc main_arg3) (((View.whole main_v0_2).slice (win0_7.rect t)).emb y) := by
    blk_point [iblk, V, idx3, idx7]
  simp only [hg, h3]

/-- The second moment is the reference's, entry by entry. -/
theorem final_8 (c : Dev nD) : (dats m 0 c).arrAt 8 cfg0.N = val_main_v17 (F := Ideal) (m (c.tc.loc main_arg0)) (m (c.tc.loc main_arg1)) (m (c.tc.loc main_arg4)) := by
  refine (dats m 0 c).arrAt_eq_of_covers 8 _ (by decide +kernel) fun t hf y => ?_
  blk_simp
  rw [after0_8]
  have e : out0_8 (iblk m c 0 t) (iblk m c 1 t) (iblk m c 2 t) (iblk m c 3 t) (iblk m c 4 t) = k0_pay2 (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 4 t) := by unfold_out out0_8; frame_out; rfl
  rw [e]
  have hg := total m c t y
  generalize (k0_pay4 (iblk m c 1 t) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) : FVec Ideal _ .f32) = g at hg ⊢
  replace hg : g y = val_main_v6 (F := Ideal) (m (c.tc.loc main_arg0)) (m (c.tc.loc main_arg1)) (((View.whole main_v0_3).slice (win0_8.rect t)).emb y) := hg
  unfold_payloads
  pointwise [val_main_cst_0, val_main_v7, val_main_v8, val_main_cst_1, val_main_v9, val_main_v10, val_main_v11, val_main_cst_2, val_main_v12, val_main_v13, val_main_v14, val_main_cst_3, val_main_v15, val_main_v16, val_main_v17, val_main_cst_4, val_main_v18, val_main_v19, val_main_cst_5, val_main_v20, val_main_v21, val_main_v22, val_main_cst_6, val_main_v23, val_main_v24, val_main_v25, val_main_cst_7, val_main_v26, val_main_v27, val_main_v28, val_main_cst_8, val_main_v29, val_main_v30]
  have h4 : iblk m c 4 t y = m (c.tc.loc main_arg4) (((View.whole main_v0_3).slice (win0_8.rect t)).emb y) := by
    blk_point [iblk, V, idx4, idx8]
  simp only [hg, h4]

end Cert.Kernel17Ideal.RefValue

end
-- ==== Proof.OutOptimiserClaim.lean ====
/- The value claim of the optimiser step of the output projection. -/
module

public import proofs.«01_k».proof.Defs
public import proofs.«01_k».proof.Proof.OutOptimiser

@[expose] public section

set_option maxRecDepth 16384

noncomputable section

namespace Cert.Kernel17Ideal.RefValue

open Kernel17Ideal Kernel17Ideal.Gen Idealize.ShloMosaic Idealize.ShloMosaic.TcCoe Idealize.SL.Sem
open Reference17Ideal.Read

/-- The reference runs, keeps its arguments, and leaves every semaphore at zero. -/
theorem reference_quiescent [hR : Reference17Ideal.Facts] : Cert.quiescent_Reference17Ideal (hReference17Ideal := hR) := by
  intro m ρ _
  refine (θ_run Reference17Ideal.defs _ _).mono (fun r h => ⟨fun c => ?_, sem_eq_zero_of_no_sems (by decide) r.2⟩)
    (Reference17Ideal.Value.run (F := Ideal) m ρ)
  exact (h c).2.2.2.2

/-- Both programs, from memories agreeing on the arguments, run and end with equal results. -/
theorem algebraic [hK : Kernel17Ideal.Facts] [hR : Reference17Ideal.Facts] :
    Cert.algebraic_Kernel17Ideal_Reference17Ideal (hKernel17Ideal := hK) (hReference17Ideal := hR) := by
  intro m ρ m' ρ' _ hagree
  refine ⟨fun c => val_main_v6 (F := Ideal) (m (c.tc.loc main_arg0)) (m (c.tc.loc main_arg1)), fun c => val_main_v30 (F := Ideal) (m (c.tc.loc main_arg0)) (m (c.tc.loc main_arg1)) (m (c.tc.loc main_arg2)) (m (c.tc.loc main_arg3)) (m (c.tc.loc main_arg4)), fun c => val_main_v11 (F := Ideal) (m (c.tc.loc main_arg0)) (m (c.tc.loc main_arg1)) (m (c.tc.loc main_arg3)), fun c => val_main_v17 (F := Ideal) (m (c.tc.loc main_arg0)) (m (c.tc.loc main_arg1)) (m (c.tc.loc main_arg4)), ?_, ?_⟩
  · refine (θ_run Kernel17Ideal.defs _ _).mono (fun r h c => ?_) (Kernel17Ideal.Value.run_blocks m ρ)
    obtain ⟨h0, h1, h2, h3, hk⟩ := h c
    exact ⟨h0.trans (final_5 m c), h1.trans (final_6 m c), h2.trans (final_7 m c), h3.trans (final_8 m c), hk⟩
  · refine (θ_run Reference17Ideal.defs _ _).mono (fun r h c => ?_) (Reference17Ideal.Value.run (F := Ideal) m' ρ')
    obtain ⟨h0, h1, h2, h3, hk⟩ := h c
    obtain ⟨e0, e1, e2, e3, e4⟩ := hagree c
    refine ⟨h0.trans ?_, h1.trans ?_, h2.trans ?_, h3.trans ?_, hk⟩
    · rw [e0, e1]
      exact val_main_v6_eq _ _
    · rw [e0, e1, e2, e3, e4]
      exact val_main_v30_eq _ _ _ _ _
    · rw [e0, e1, e3]
      exact val_main_v11_eq _ _ _
    · rw [e0, e1, e4]
      exact val_main_v17_eq _ _ _

end Cert.Kernel17Ideal.RefValue

end
-- ==== Proof.AdaOptimiser.lean ====
/- The optimiser step of the modulation weight, entry by entry. -/
module

public import proofs.«01_k».proof.Proof.Gen.Kernel18Ideal.Value
public import proofs.«01_k».proof.Proof.Gen.Reference18Ideal.Run
public import proofs.«01_k».proof.Proof.Gen.Reference18Ideal.Read
public import proofs.«01_k».proof.Proof.Sums
public import Idealize.ShloMosaic.Lib.Pipeline.ValueKit
public import Idealize.ShloMosaic.Lib.Pointwise

@[expose] public section

set_option maxRecDepth 16384

noncomputable section

namespace Cert.Kernel18Ideal.RefValue

open Kernel18Ideal Kernel18Ideal.Gen Idealize.ShloMosaic Idealize.ShloMosaic.TcCoe Idealize.SL.Sem
open Idealize.ShloMosaic.Pipeline (Dat)
open Reference18Ideal.Read

variable (m : (ℓ : Loc nD τ sig) → Buf (Elt Ideal) ℓ)

/-! The block each window visits at a grid point. -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

/-- The step is the reference's, entry by entry. -/
theorem final_4 (c : Dev nD) : (dats m 0 c).arrAt 4 cfg0.N = val_main_v23 (F := Ideal) (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  have e : out0_4 (iblk m c 0 t) (iblk m c 1 t) (iblk m c 2 t) (iblk m c 3 t) = k0_pay3 (iblk m c 0 t) (iblk m c 2 t) (iblk m c 3 t) (iblk m c 1 t) := by frame_out
  rw [e]
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  have h0 : iblk m c 0 t y = m (c.tc.loc main_arg0) (((View.whole main_v0_0).slice (win0_4.rect t)).emb y) := by
    blk_point [iblk, V, idx0, idx4]
  have h1 : iblk m c 1 t y = m (c.tc.loc main_arg1) (((View.whole main_v0_0).slice (win0_4.rect t)).emb y) := by
    blk_point [iblk, V, idx1, idx4]
  have h2 : iblk m c 2 t y = m (c.tc.loc main_arg2) (((View.whole main_v0_0).slice (win0_4.rect t)).emb y) := by
    blk_point [iblk, V, idx2, idx4]
  have h3 : iblk m c 3 t y = m (c.tc.loc main_arg3) (((View.whole main_v0_0).slice (win0_4.rect t)).emb y) := by
    blk_point [iblk, V, idx3, idx4]
  simp only [h0, h1, h2, h3]

/-- The first moment is the reference's, entry by entry. -/
theorem final_5 (c : Dev nD) : (dats m 0 c).arrAt 5 cfg0.N = val_main_v4 (F := Ideal) (m (c.tc.loc main_arg0)) (m (c.tc.loc main_arg2)) := by
  refine (dats m 0 c).arrAt_eq_of_covers 5 _ (by decide +kernel) fun t hf y => ?_
  blk_simp
  rw [after0_5]
  have e : out0_5 (iblk m c 0 t) (iblk m c 1 t) (iblk m c 2 t) (iblk m c 3 t) = k0_pay1 (iblk m c 0 t) (iblk m c 2 t) := by frame_out
  rw [e]
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  have h0 : iblk m c 0 t y = m (c.tc.loc main_arg0) (((View.whole main_v0_1).slice (win0_5.rect t)).emb y) := by
    blk_point [iblk, V, idx0, idx5]
  have h2 : iblk m c 2 t y = m (c.tc.loc main_arg2) (((View.whole main_v0_1).slice (win0_5.rect t)).emb y) := by
    blk_point [iblk, V, idx2, idx5]
  simp only [h0, h2]

/-- The second moment is the reference's, entry by entry. -/
theorem final_6 (c : Dev nD) : (dats m 0 c).arrAt 6 cfg0.N = val_main_v10 (F := Ideal) (m (c.tc.loc main_arg0)) (m (c.tc.loc main_arg3)) := by
  refine (dats m 0 c).arrAt_eq_of_covers 6 _ (by decide +kernel) fun t hf y => ?_
  blk_simp
  rw [after0_6]
  have e : out0_6 (iblk m c 0 t) (iblk m c 1 t) (iblk m c 2 t) (iblk m c 3 t) = k0_pay2 (iblk m c 0 t) (iblk m c 3 t) := by frame_out
  rw [e]
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  have h0 : iblk m c 0 t y = m (c.tc.loc main_arg0) (((View.whole main_v0_2).slice (win0_6.rect t)).emb y) := by
    blk_point [iblk, V, idx0, idx6]
  have h3 : iblk m c 3 t y = m (c.tc.loc main_arg3) (((View.whole main_v0_2).slice (win0_6.rect t)).emb y) := by
    blk_point [iblk, V, idx3, idx6]
  simp only [h0, h3]

end Cert.Kernel18Ideal.RefValue

end
-- ==== Proof.AdaOptimiserClaim.lean ====
/- The value claim of the optimiser step of the modulation weight. -/
module

public import proofs.«01_k».proof.Defs
public import proofs.«01_k».proof.Proof.AdaOptimiser

@[expose] public section

set_option maxRecDepth 16384

noncomputable section

namespace Cert.Kernel18Ideal.RefValue

open Kernel18Ideal Kernel18Ideal.Gen Idealize.ShloMosaic Idealize.ShloMosaic.TcCoe Idealize.SL.Sem
open Reference18Ideal.Read

/-- The reference runs, keeps its arguments, and leaves every semaphore at zero. -/
theorem reference_quiescent [hR : Reference18Ideal.Facts] : Cert.quiescent_Reference18Ideal (hReference18Ideal := hR) := by
  intro m ρ _
  refine (θ_run Reference18Ideal.defs _ _).mono (fun r h => ⟨fun c => ?_, sem_eq_zero_of_no_sems (by decide) r.2⟩)
    (Reference18Ideal.Value.run (F := Ideal) m ρ)
  exact (h c).2.2.2

/-- Both programs, from memories agreeing on the arguments, run and end with equal results. -/
theorem algebraic [hK : Kernel18Ideal.Facts] [hR : Reference18Ideal.Facts] :
    Cert.algebraic_Kernel18Ideal_Reference18Ideal (hKernel18Ideal := hK) (hReference18Ideal := hR) := by
  intro m ρ m' ρ' _ hagree
  refine ⟨fun c => val_main_v23 (F := Ideal) (m (c.tc.loc main_arg0)) (m (c.tc.loc main_arg1)) (m (c.tc.loc main_arg2)) (m (c.tc.loc main_arg3)), fun c => val_main_v4 (F := Ideal) (m (c.tc.loc main_arg0)) (m (c.tc.loc main_arg2)), fun c => val_main_v10 (F := Ideal) (m (c.tc.loc main_arg0)) (m (c.tc.loc main_arg3)), ?_, ?_⟩
  · refine (θ_run Kernel18Ideal.defs _ _).mono (fun r h c => ?_) (Kernel18Ideal.Value.run_blocks m ρ)
    obtain ⟨h0, h1, h2, hk⟩ := h c
    exact ⟨h0.trans (final_4 m c), h1.trans (final_5 m c), h2.trans (final_6 m c), hk⟩
  · refine (θ_run Reference18Ideal.defs _ _).mono (fun r h c => ?_) (Reference18Ideal.Value.run (F := Ideal) m' ρ')
    obtain ⟨h0, h1, h2, hk⟩ := h c
    obtain ⟨e0, e1, e2, e3⟩ := hagree c
    refine ⟨h0.trans ?_, h1.trans ?_, h2.trans ?_, hk⟩
    · rw [e0, e1, e2, e3]
      exact val_main_v23_eq _ _ _ _
    · rw [e0, e2]
      exact val_main_v4_eq _ _
    · rw [e0, e3]
      exact val_main_v10_eq _ _

end Cert.Kernel18Ideal.RefValue

end
-- ==== Proof.SmallOptimiser.lean ====
/- The optimiser step of the small weights, packed in one array, entry by entry. -/
module

public import proofs.«01_k».proof.Proof.Gen.Kernel19Ideal.Value
public import proofs.«01_k».proof.Proof.Gen.Reference19Ideal.Run
public import proofs.«01_k».proof.Proof.Gen.Reference19Ideal.Read
public import proofs.«01_k».proof.Proof.Sums
public import Idealize.ShloMosaic.Lib.Pipeline.ValueKit
public import Idealize.ShloMosaic.Lib.Pointwise

@[expose] public section

set_option maxRecDepth 16384

noncomputable section

namespace Cert.Kernel19Ideal.RefValue

open Kernel19Ideal Kernel19Ideal.Gen Idealize.ShloMosaic Idealize.ShloMosaic.TcCoe Idealize.SL.Sem
open Idealize.ShloMosaic.Pipeline (Dat)
open Reference19Ideal.Read

variable (m : (ℓ : Loc nD τ sig) → Buf (Elt Ideal) ℓ)

/-! The block each window visits at a grid point. -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

/-- The step is the reference's, entry by entry. -/
theorem final_4 (c : Dev nD) : (dats m 0 c).arrAt 4 cfg0.N = val_main_v23 (F := Ideal) (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  have e : out0_4 (iblk m c 0 t) (iblk m c 1 t) (iblk m c 2 t) (iblk m c 3 t) = k0_pay3 (iblk m c 0 t) (iblk m c 2 t) (iblk m c 3 t) (iblk m c 1 t) := by frame_out
  rw [e]
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  have h0 : iblk m c 0 t y = m (c.tc.loc main_arg0) (((View.whole main_v0_0).slice (win0_4.rect t)).emb y) := by
    blk_point [iblk, V, idx0, idx4]
  have h1 : iblk m c 1 t y = m (c.tc.loc main_arg1) (((View.whole main_v0_0).slice (win0_4.rect t)).emb y) := by
    blk_point [iblk, V, idx1, idx4]
  have h2 : iblk m c 2 t y = m (c.tc.loc main_arg2) (((View.whole main_v0_0).slice (win0_4.rect t)).emb y) := by
    blk_point [iblk, V, idx2, idx4]
  have h3 : iblk m c 3 t y = m (c.tc.loc main_arg3) (((View.whole main_v0_0).slice (win0_4.rect t)).emb y) := by
    blk_point [iblk, V, idx3, idx4]
  simp only [h0, h1, h2, h3]

/-- The first moment is the reference's, entry by entry. -/
theorem final_5 (c : Dev nD) : (dats m 0 c).arrAt 5 cfg0.N = val_main_v4 (F := Ideal) (m (c.tc.loc main_arg0)) (m (c.tc.loc main_arg2)) := by
  refine (dats m 0 c).arrAt_eq_of_covers 5 _ (by decide +kernel) fun t hf y => ?_
  blk_simp
  rw [after0_5]
  have e : out0_5 (iblk m c 0 t) (iblk m c 1 t) (iblk m c 2 t) (iblk m c 3 t) = k0_pay1 (iblk m c 0 t) (iblk m c 2 t) := by frame_out
  rw [e]
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  have h0 : iblk m c 0 t y = m (c.tc.loc main_arg0) (((View.whole main_v0_1).slice (win0_5.rect t)).emb y) := by
    blk_point [iblk, V, idx0, idx5]
  have h2 : iblk m c 2 t y = m (c.tc.loc main_arg2) (((View.whole main_v0_1).slice (win0_5.rect t)).emb y) := by
    blk_point [iblk, V, idx2, idx5]
  simp only [h0, h2]

/-- The second moment is the reference's, entry by entry. -/
theorem final_6 (c : Dev nD) : (dats m 0 c).arrAt 6 cfg0.N = val_main_v10 (F := Ideal) (m (c.tc.loc main_arg0)) (m (c.tc.loc main_arg3)) := by
  refine (dats m 0 c).arrAt_eq_of_covers 6 _ (by decide +kernel) fun t hf y => ?_
  blk_simp
  rw [after0_6]
  have e : out0_6 (iblk m c 0 t) (iblk m c 1 t) (iblk m c 2 t) (iblk m c 3 t) = k0_pay2 (iblk m c 0 t) (iblk m c 3 t) := by frame_out
  rw [e]
  unfold_payloads
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
  have h0 : iblk m c 0 t y = m (c.tc.loc main_arg0) (((View.whole main_v0_2).slice (win0_6.rect t)).emb y) := by
    blk_point [iblk, V, idx0, idx6]
  have h3 : iblk m c 3 t y = m (c.tc.loc main_arg3) (((View.whole main_v0_2).slice (win0_6.rect t)).emb y) := by
    blk_point [iblk, V, idx3, idx6]
  simp only [h0, h3]

end Cert.Kernel19Ideal.RefValue

end
-- ==== Proof.SmallOptimiserClaim.lean ====
/- The value claim of the optimiser step of the small weights. -/
module

public import proofs.«01_k».proof.Defs
public import proofs.«01_k».proof.Proof.SmallOptimiser

@[expose] public section

set_option maxRecDepth 16384

noncomputable section

namespace Cert.Kernel19Ideal.RefValue

open Kernel19Ideal Kernel19Ideal.Gen Idealize.ShloMosaic Idealize.ShloMosaic.TcCoe Idealize.SL.Sem
open Reference19Ideal.Read

/-- The reference runs, keeps its arguments, and leaves every semaphore at zero. -/
theorem reference_quiescent [hR : Reference19Ideal.Facts] : Cert.quiescent_Reference19Ideal (hReference19Ideal := hR) := by
  intro m ρ _
  refine (θ_run Reference19Ideal.defs _ _).mono (fun r h => ⟨fun c => ?_, sem_eq_zero_of_no_sems (by decide) r.2⟩)
    (Reference19Ideal.Value.run (F := Ideal) m ρ)
  exact (h c).2.2.2

/-- Both programs, from memories agreeing on the arguments, run and end with equal results. -/
theorem algebraic [hK : Kernel19Ideal.Facts] [hR : Reference19Ideal.Facts] :
    Cert.algebraic_Kernel19Ideal_Reference19Ideal (hKernel19Ideal := hK) (hReference19Ideal := hR) := by
  intro m ρ m' ρ' _ hagree
  refine ⟨fun c => val_main_v23 (F := Ideal) (m (c.tc.loc main_arg0)) (m (c.tc.loc main_arg1)) (m (c.tc.loc main_arg2)) (m (c.tc.loc main_arg3)), fun c => val_main_v4 (F := Ideal) (m (c.tc.loc main_arg0)) (m (c.tc.loc main_arg2)), fun c => val_main_v10 (F := Ideal) (m (c.tc.loc main_arg0)) (m (c.tc.loc main_arg3)), ?_, ?_⟩
  · refine (θ_run Kernel19Ideal.defs _ _).mono (fun r h c => ?_) (Kernel19Ideal.Value.run_blocks m ρ)
    obtain ⟨h0, h1, h2, hk⟩ := h c
    exact ⟨h0.trans (final_4 m c), h1.trans (final_5 m c), h2.trans (final_6 m c), hk⟩
  · refine (θ_run Reference19Ideal.defs _ _).mono (fun r h c => ?_) (Reference19Ideal.Value.run (F := Ideal) m' ρ')
    obtain ⟨h0, h1, h2, hk⟩ := h c
    obtain ⟨e0, e1, e2, e3⟩ := hagree c
    refine ⟨h0.trans ?_, h1.trans ?_, h2.trans ?_, hk⟩
    · rw [e0, e1, e2, e3]
      exact val_main_v23_eq _ _ _ _
    · rw [e0, e2]
      exact val_main_v4_eq _ _
    · rw [e0, e3]
      exact val_main_v10_eq _ _

end Cert.Kernel19Ideal.RefValue

end
-- ==== Proof.SmallSum.lean ====
/- The sum of the eight devices' parts of the small weights' gradients, entry by entry. -/
module

public import proofs.«01_k».proof.Proof.Gen.Kernel20Ideal.Value
public import proofs.«01_k».proof.Proof.Gen.Reference20Ideal.Run
public import proofs.«01_k».proof.Proof.Gen.Reference20Ideal.Read
public import proofs.«01_k».proof.Proof.Sums
public import Idealize.ShloMosaic.Lib.Pipeline.ValueKit
public import Idealize.ShloMosaic.Lib.Pointwise

@[expose] public section

set_option maxRecDepth 16384

noncomputable section

namespace Cert.Kernel20Ideal.RefValue

open Kernel20Ideal Kernel20Ideal.Gen Idealize.ShloMosaic Idealize.ShloMosaic.TcCoe Idealize.SL.Sem
open Idealize.ShloMosaic.Pipeline (Dat)
open Reference20Ideal.Read

variable (m : (ℓ : Loc nD τ sig) → Buf (Elt Ideal) ℓ)

/-! The block each window visits at a grid point. -/

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)

/-- The sum of the eight devices' parts is the reference's. -/
theorem final_1 (c : Dev nD) : (dats m 0 c).arrAt 1 cfg0.N = val_main_v0 (F := Ideal) (m (c.tc.loc main_arg0)) := by
  refine (dats m 0 c).arrAt_eq_of_covers 1 _ (by decide +kernel) fun t hf y => ?_
  blk_simp
  rw [after0_1]
  have e : out0_1 (iblk m c 0 t) = k0_pay1 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) := by frame_out; rfl
  rw [e]
  unfold_payloads
  rw [val_main_v0_apply]
  pointwise []
  refine Sums.sum_eight (by simp only [val_main_cst_apply]; exact Ideal.ofBits_zero_f32) ?_ ?_ ?_ ?_ ?_ ?_ ?_ ?_
  all_goals
    blk_point [iblk, V, idx0, idx1]

end Cert.Kernel20Ideal.RefValue

end
-- ==== Proof.SmallSumClaim.lean ====
/- The value claim of the sum of the small weights' gradients. -/
module

public import proofs.«01_k».proof.Defs
public import proofs.«01_k».proof.Proof.SmallSum

@[expose] public section

set_option maxRecDepth 16384

noncomputable section

namespace Cert.Kernel20Ideal.RefValue

open Kernel20Ideal Kernel20Ideal.Gen Idealize.ShloMosaic Idealize.ShloMosaic.TcCoe Idealize.SL.Sem
open Reference20Ideal.Read

/-- The reference runs, keeps its arguments, and leaves every semaphore at zero. -/
theorem reference_quiescent [hR : Reference20Ideal.Facts] : Cert.quiescent_Reference20Ideal (hReference20Ideal := hR) := by
  intro m ρ _
  refine (θ_run Reference20Ideal.defs _ _).mono (fun r h => ⟨fun c => ?_, sem_eq_zero_of_no_sems (by decide) r.2⟩)
    (Reference20Ideal.Value.run (F := Ideal) m ρ)
  exact (h c).2

/-- Both programs, from memories agreeing on the arguments, run and end with equal results. -/
theorem algebraic [hK : Kernel20Ideal.Facts] [hR : Reference20Ideal.Facts] :
    Cert.algebraic_Kernel20Ideal_Reference20Ideal (hKernel20Ideal := hK) (hReference20Ideal := hR) := by
  intro m ρ m' ρ' _ hagree
  refine ⟨fun c => val_main_v0 (F := Ideal) (m (c.tc.loc main_arg0)), ?_, ?_⟩
  · refine (θ_run Kernel20Ideal.defs _ _).mono (fun r h c => ?_) (Kernel20Ideal.Value.run_blocks m ρ)
    obtain ⟨h0, hk⟩ := h c
    exact ⟨h0.trans (final_1 m c), hk⟩
  · refine (θ_run Reference20Ideal.defs _ _).mono (fun r h c => ?_) (Reference20Ideal.Value.run (F := Ideal) m' ρ')
    obtain ⟨h0, hk⟩ := h c
    have e0 := hagree c
    refine ⟨h0.trans ?_, hk⟩
    · rw [e0]
      exact val_main_v0_eq _

end Cert.Kernel20Ideal.RefValue

end
-- ==== Proof.SpatialSum.lean ====
/- The sum of the eight devices' parts of the spatial weight's gradient, entry by entry. -/
module

public import proofs.«01_k».proof.Proof.Gen.Kernel21Ideal.Value
public import proofs.«01_k».proof.Proof.Gen.Reference21Ideal.Run
public import proofs.«01_k».proof.Proof.Gen.Reference21Ideal.Read
public import proofs.«01_k».proof.Proof.Sums
public import Idealize.ShloMosaic.Lib.Pipeline.ValueKit
public import Idealize.ShloMosaic.Lib.Pointwise

@[expose] public section

set_option maxRecDepth 16384

noncomputable section

namespace Cert.Kernel21Ideal.RefValue

open Kernel21Ideal Kernel21Ideal.Gen Idealize.ShloMosaic Idealize.ShloMosaic.TcCoe Idealize.SL.Sem
open Idealize.ShloMosaic.Pipeline (Dat)
open Reference21Ideal.Read

variable (m : (ℓ : Loc nD τ sig) → Buf (Elt Ideal) ℓ)

/-! The block each window visits at a grid point. -/

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)

/-- The sum of the eight devices' parts is the reference's. -/
theorem final_1 (c : Dev nD) : (dats m 0 c).arrAt 1 cfg0.N = val_main_v1 (F := Ideal) (m (c.tc.loc main_arg0)) := by
  refine (dats m 0 c).arrAt_eq_of_covers 1 _ (by decide +kernel) fun t hf y => ?_
  blk_simp
  rw [after0_1]
  have e : out0_1 (iblk m c 0 t) = k0_pay1 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) := by frame_out; rfl
  rw [e]
  unfold_payloads
  rw [val_main_v1_apply]
  pointwise []
  refine Sums.sum_eight (by simp only [val_main_cst_apply]; exact Ideal.ofBits_zero_f32) ?_ ?_ ?_ ?_ ?_ ?_ ?_ ?_
  all_goals
    pointwise [val_main_v0]
    blk_point [iblk, V, idx0, idx1]

end Cert.Kernel21Ideal.RefValue

end
-- ==== Proof.SpatialSumClaim.lean ====
/- The value claim of the sum of the spatial weight's gradient. -/
module

public import proofs.«01_k».proof.Defs
public import proofs.«01_k».proof.Proof.SpatialSum

@[expose] public section

set_option maxRecDepth 16384

noncomputable section

namespace Cert.Kernel21Ideal.RefValue

open Kernel21Ideal Kernel21Ideal.Gen Idealize.ShloMosaic Idealize.ShloMosaic.TcCoe Idealize.SL.Sem
open Reference21Ideal.Read

/-- The reference runs, keeps its arguments, and leaves every semaphore at zero. -/
theorem reference_quiescent [hR : Reference21Ideal.Facts] : Cert.quiescent_Reference21Ideal (hReference21Ideal := hR) := by
  intro m ρ _
  refine (θ_run Reference21Ideal.defs _ _).mono (fun r h => ⟨fun c => ?_, sem_eq_zero_of_no_sems (by decide) r.2⟩)
    (Reference21Ideal.Value.run (F := Ideal) m ρ)
  exact (h c).2

/-- Both programs, from memories agreeing on the arguments, run and end with equal results. -/
theorem algebraic [hK : Kernel21Ideal.Facts] [hR : Reference21Ideal.Facts] :
    Cert.algebraic_Kernel21Ideal_Reference21Ideal (hKernel21Ideal := hK) (hReference21Ideal := hR) := by
  intro m ρ m' ρ' _ hagree
  refine ⟨fun c => val_main_v1 (F := Ideal) (m (c.tc.loc main_arg0)), ?_, ?_⟩
  · refine (θ_run Kernel21Ideal.defs _ _).mono (fun r h c => ?_) (Kernel21Ideal.Value.run_blocks m ρ)
    obtain ⟨h0, hk⟩ := h c
    exact ⟨h0.trans (final_1 m c), hk⟩
  · refine (θ_run Reference21Ideal.defs _ _).mono (fun r h c => ?_) (Reference21Ideal.Value.run (F := Ideal) m' ρ')
    obtain ⟨h0, hk⟩ := h c
    have e0 := hagree c
    refine ⟨h0.trans ?_, hk⟩
    · rw [e0]
      exact val_main_v1_eq _

end Cert.Kernel21Ideal.RefValue

end
-- ==== Proof.AdaForward.lean ====
/- The modulation rows: the product of the activated conditioning with a weight, and its bias. -/
module

public import proofs.«01_k».proof.Proof.Gen.Kernel22Ideal.Value
public import proofs.«01_k».proof.Proof.Gen.Reference22Ideal.Run
public import proofs.«01_k».proof.Proof.Gen.Reference22Ideal.Read
public import proofs.«01_k».proof.Proof.Sums
public import Idealize.ShloMosaic.Lib.Pipeline.ValueKit
public import Idealize.ShloMosaic.Lib.Pointwise

@[expose] public section

set_option maxRecDepth 16384

noncomputable section

namespace Cert.Kernel22Ideal.RefValue

open Kernel22Ideal Kernel22Ideal.Gen Idealize.ShloMosaic Idealize.ShloMosaic.TcCoe Idealize.SL.Sem
open Idealize.ShloMosaic.Pipeline (Dat)
open Reference22Ideal.Read

variable (m : (ℓ : Loc nD τ sig) → Buf (Elt Ideal) ℓ)

/-! The block each window visits at a grid point. -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)

/-- The modulation rows are the reference's. -/
theorem final_3 (c : Dev nD) : (dats m 0 c).arrAt 3 cfg0.N = val_main_v3 (F := Ideal) (m (c.tc.loc main_arg0)) (m (c.tc.loc main_arg1)) (m (c.tc.loc main_arg2)) := by
  refine (dats m 0 c).arrAt_eq_of_covers 3 _ (by decide +kernel) fun t hf y => ?_
  blk_simp
  rw [after0_3]
  have e : out0_3 (iblk m c 0 t) (iblk m c 1 t) (iblk m c 2 t) = k0_pay1 (iblk m c 0 t) (iblk m c 1 t) (iblk m c 2 t) := by frame_out
  rw [e]
  unfold_payloads
  pointwise [Ideal.logistic, val_main_call0_v0, val_main_call0_v1, val_main_call0_cst, val_main_call0_v2, val_main_call0_v3, val_main_call0_cst_0, val_main_call0_v4, val_main_call0_v5, val_main_v0, val_main_v1, val_main_v2, val_main_v3]
  refine congrArg₂ (· + ·) (Sums.sum_same (fun k => ?_) fun k => ?_) ?_
  all_goals blk_point [iblk, V, idx0, idx1, idx2, idx3]

end Cert.Kernel22Ideal.RefValue

end
-- ==== Proof.AdaForwardClaim.lean ====
/- The value claim of the modulation rows. -/
module

public import proofs.«01_k».proof.Defs
public import proofs.«01_k».proof.Proof.AdaForward

@[expose] public section

set_option maxRecDepth 16384

noncomputable section

namespace Cert.Kernel22Ideal.RefValue

open Kernel22Ideal Kernel22Ideal.Gen Idealize.ShloMosaic Idealize.ShloMosaic.TcCoe Idealize.SL.Sem
open Reference22Ideal.Read

/-- The reference runs, keeps its arguments, and leaves every semaphore at zero. -/
theorem reference_quiescent [hR : Reference22Ideal.Facts] : Cert.quiescent_Reference22Ideal (hReference22Ideal := hR) := by
  intro m ρ _
  refine (θ_run Reference22Ideal.defs _ _).mono (fun r h => ⟨fun c => ?_, sem_eq_zero_of_no_sems (by decide) r.2⟩)
    (Reference22Ideal.Value.run (F := Ideal) m ρ)
  exact (h c).2

/-- Both programs, from memories agreeing on the arguments, run and end with equal results. -/
theorem algebraic [hK : Kernel22Ideal.Facts] [hR : Reference22Ideal.Facts] :
    Cert.algebraic_Kernel22Ideal_Reference22Ideal (hKernel22Ideal := hK) (hReference22Ideal := hR) := by
  intro m ρ m' ρ' _ hagree
  refine ⟨fun c => val_main_v3 (F := Ideal) (m (c.tc.loc main_arg0)) (m (c.tc.loc main_arg1)) (m (c.tc.loc main_arg2)), ?_, ?_⟩
  · refine (θ_run Kernel22Ideal.defs _ _).mono (fun r h c => ?_) (Kernel22Ideal.Value.run_blocks m ρ)
    obtain ⟨h0, hk⟩ := h c
    exact ⟨h0.trans (final_3 m c), hk⟩
  · refine (θ_run Reference22Ideal.defs _ _).mono (fun r h c => ?_) (Reference22Ideal.Value.run (F := Ideal) m' ρ')
    obtain ⟨h0, hk⟩ := h c
    obtain ⟨e0, e1, e2⟩ := hagree c
    refine ⟨h0.trans ?_, hk⟩
    · rw [e0, e1, e2]
      exact val_main_v3_eq _ _ _

end Cert.Kernel22Ideal.RefValue

end
-- ==== Proof.EntryNorm.lean ====
/- The first layer norm and its modulation, over the latent rows and the context's. -/
module

public import proofs.«01_k».proof.Proof.Gen.Kernel23Ideal.Value
public import proofs.«01_k».proof.Proof.Gen.Reference23Ideal.Run
public import proofs.«01_k».proof.Proof.Gen.Reference23Ideal.Read
public import proofs.«01_k».proof.Proof.Sums
public import proofs.«01_k».proof.Proof.LayerNorm
public import Idealize.ShloMosaic.Lib.Pipeline.ValueKit
public import Idealize.ShloMosaic.Lib.Pointwise

@[expose] public section

set_option maxRecDepth 16384

noncomputable section

namespace Cert.Kernel23Ideal.RefValue

open Kernel23Ideal Kernel23Ideal.Gen Idealize.ShloMosaic Idealize.ShloMosaic.TcCoe Idealize.SL.Sem
open Idealize.ShloMosaic.Pipeline (Dat)
open Reference23Ideal.Read

variable (m : (ℓ : Loc nD τ sig) → Buf (Elt Ideal) ℓ)

/-! The block each window visits at a grid point. -/

theorem idx0 : ∀ t : Fin cfg0.N, win0_0.index t = ![min t.val 15, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

/-- Whether a grid point is the last, whose rows are the context's: the bit the body computes. -/
abbrev last (i : grid0.Coords) : BitVec 1 := Scalar.cmpi .eq (BitVec.ofNat 32 (i 0).val) 16#32

theorem last_latent : ∀ t : Fin cfg0.N, t.val < 16 → last (grid0.coords t) = 0#1 :=
  (by decide +kernel : ∀ t : Fin grid0.N, t.val < 16 → last (grid0.coords t) = 0#1)
theorem last_context : ∀ t : Fin cfg0.N, ¬ t.val < 16 → last (grid0.coords t) = 1#1 :=
  (by decide +kernel : ∀ t : Fin grid0.N, ¬ t.val < 16 → last (grid0.coords t) = 1#1)

theorem select_zero {α : Type} {b : BitVec 1} (h : b = 0#1) (x y : α) : Scalar.select b x y = y := by subst h; rfl
theorem select_one {α : Type} {b : BitVec 1} (h : b = 1#1) (x y : α) : Scalar.select b x y = x := by subst h; rfl

/-! What each input window holds at a grid point. -/

theorem block0 (c : Dev nD) (t : Fin cfg0.N) (h : t.val < 16) (j : S256x1024.Idx) :
    iblk m c 0 t j = ((m (c.tc.loc main_arg0)) (ValueIdx.ix2 ⟨t.val * 256 + (j 0).val, by have : (j 0).val < 256 := (j 0).isLt; omega⟩ (j 1)) : EReal) := by
  have hm : min t.val 15 = t.val := by omega
  blk_ext! [iblk, V, idx0, hm]

theorem block1 (c : Dev nD) (t : Fin cfg0.N) (j : S256x1024.Idx) : iblk m c 1 t j = ((m (c.tc.loc main_arg1)) j : EReal) := by
  blk_ext! [iblk, V, idx1]

theorem read_v0 (c : Dev nD) : V m c main_v0 = shapeCast S1x1024 (m (c.tc.loc main_arg2)) shapeCasts_S1024_S1x1024 := by
  entry_read; rfl

theorem block2 (c : Dev nD) (t : Fin cfg0.N) (j : S1x1024.Idx) : iblk m c 2 t j = ((m (c.tc.loc main_arg2)) (ValueIdx.ix1 (j 1)) : EReal) := by
  show V m c main_v0 (((cfg0.win 2).blk t).view.emb j) = _
  rw [read_v0]
  pointwise []
  blk_ext! [idx2]

theorem read_v1 (c : Dev nD) : V m c main_v1 = shapeCast S1x1024 (m (c.tc.loc main_arg3)) shapeCasts_S1024_S1x1024 := by
  entry_read; rfl

theorem block3 (c : Dev nD) (t : Fin cfg0.N) (j : S1x1024.Idx) : iblk m c 3 t j = ((m (c.tc.loc main_arg3)) (ValueIdx.ix1 (j 1)) : EReal) := by
  show V m c main_v1 (((cfg0.win 3).blk t).view.emb j) = _
  rw [read_v1]
  pointwise []
  blk_ext! [idx3]

theorem read_v3 (c : Dev nD) : V m c main_v3 = pad S8x1024 ![0, 0] ![2, 0] ![0, 0] (shapeCast S6x1024 (m (c.tc.loc main_arg4)) shapeCasts_S1x6144_S6x1024) (sitofp (F := Ideal) .f32 (constantI S_ 32 0#32) : FVec Ideal S_ .f32) pads_S6x1024_S8x1024_020_000 h_S_ := by
  entry_read; rfl

theorem read_v5 (c : Dev nD) : V m c main_v5 = pad S8x1024 ![0, 0] ![2, 0] ![0, 0] (shapeCast S6x1024 (m (c.tc.loc main_arg5)) shapeCasts_S6144_S6x1024) (sitofp (F := Ideal) .f32 (constantI S_ 32 0#32) : FVec Ideal S_ .f32) pads_S6x1024_S8x1024_020_000 h_S_ := by
  entry_read; rfl

/-- A row of the latents' six modulation rows, stacked and padded to eight. -/
theorem padded_latent (x : FVec Ideal S1x6144 .f32) (v : FVec Ideal S_ .f32) (r : Fin 8) (q : Fin 1024) (h : r.val < 6) :
    pad S8x1024 ![0, 0] ![2, 0] ![0, 0] (shapeCast S6x1024 x shapeCasts_S1x6144_S6x1024) v pads_S6x1024_S8x1024_020_000 h_S_ (ValueIdx.ix2 r q)
      = (x (ValueIdx.ix2 0 ⟨r.val * 1024 + q.val, by omega⟩) : EReal) := by
  pointwise []
  exact dif_pos h

/-- A row of the context's. -/
theorem padded_context (x : FVec Ideal S6144 .f32) (v : FVec Ideal S_ .f32) (r : Fin 8) (q : Fin 1024) (h : r.val < 6) :
    pad S8x1024 ![0, 0] ![2, 0] ![0, 0] (shapeCast S6x1024 x shapeCasts_S6144_S6x1024) v pads_S6x1024_S8x1024_020_000 h_S_ (ValueIdx.ix2 r q)
      = (x (ValueIdx.ix1 ⟨r.val * 1024 + q.val, by omega⟩) : EReal) := by
  pointwise []
  exact dif_pos h

theorem row_latent (c : Dev nD) (t : Fin cfg0.N) (r : Fin 8) (q : Fin 1024) (h : r.val < 6) :
    iblk m c 4 t (ValueIdx.ix2 r q) = ((m (c.tc.loc main_arg4)) (ValueIdx.ix2 0 ⟨r.val * 1024 + q.val, by omega⟩) : EReal) := by
  show V m c main_v3 (((cfg0.win 4).blk t).view.emb (ValueIdx.ix2 r q)) = _
  rw [read_v3]
  have e : ((cfg0.win 4).blk t).view.emb (ValueIdx.ix2 r q) = ValueIdx.ix2 r q := by
    blk_ext! [idx4]
  rw [e]
  exact padded_latent _ _ _ _ h

theorem row_context (c : Dev nD) (t : Fin cfg0.N) (r : Fin 8) (q : Fin 1024) (h : r.val < 6) :
    iblk m c 5 t (ValueIdx.ix2 r q) = ((m (c.tc.loc main_arg5)) (ValueIdx.ix1 ⟨r.val * 1024 + q.val, by omega⟩) : EReal) := by
  show V m c main_v5 (((cfg0.win 5).blk t).view.emb (ValueIdx.ix2 r q)) = _
  rw [read_v5]
  have e : ((cfg0.win 5).blk t).view.emb (ValueIdx.ix2 r q) = ValueIdx.ix2 r q := by
    blk_ext! [idx5]
  rw [e]
  exact padded_context _ _ _ _ h

/-! What the body computes of a block's rows. -/

/-- The normalised rows, scaled and shifted. -/
theorem norm_apply (i : grid0.Coords) (y x : FVec Ideal S256x1024 .f32) (g b : FVec Ideal S1x1024 .f32) (z : S256x1024.Idx) :
    k0_pay1 (F := Ideal) (k0_pay5 i y x g) (k0_pay6 b) z
      = (LayerNorm.hat (fun k => Scalar.select (last i) y x (ValueIdx.ix2 (z 0) k)) (z 1) * g (ValueIdx.ix2 0 (z 1)) + b (ValueIdx.ix2 0 (z 1)) : EReal) := by
  obtain ⟨p, q, rfl⟩ := Sums.pair z
  unfold k0_pay1 k0_pay5 k0_pay6 last
  dsimp only
  generalize Scalar.select _ y x = v
  pointwise []
  rfl

/-- The modulated rows. -/
theorem mod_apply (s a : FVec Ideal S1x1024 .f32) (u v : FVec Ideal S256x1024 .f32) (z : S256x1024.Idx) :
    k0_pay2 (F := Ideal) s a u v z
      = (k0_pay1 (F := Ideal) u v z * (Ideal.ofBits .f32 0x3F800000#32 + a (ValueIdx.ix2 0 (z 1))) + s (ValueIdx.ix2 0 (z 1)) : EReal) := by
  obtain ⟨p, q, rfl⟩ := Sums.pair z
  unfold k0_pay2
  generalize k0_pay1 u v = w
  pointwise []
  rfl

theorem ld_row0 (x : Vec Ideal S8x1024 .f32) (q : Fin 1024) : View.ld x r0_1 (ValueIdx.ix2 0 q) = (x (ValueIdx.ix2 (⟨0, by decide⟩ : Fin 8) q) : EReal) := by
  pointwise []
  rfl
theorem ld_row1 (x : Vec Ideal S8x1024 .f32) (q : Fin 1024) : View.ld x r0_2 (ValueIdx.ix2 0 q) = (x (ValueIdx.ix2 (⟨1, by decide⟩ : Fin 8) q) : EReal) := by
  pointwise []
  rfl

theorem shift_latent {i : grid0.Coords} (h : last i = 0#1) (y x : FVec Ideal S1x1024 .f32) : k0_pay3 (F := Ideal) i y x = x := by
  refine (select_zero h _ _).trans ?_
  funext j
  pointwise []
theorem shift_context {i : grid0.Coords} (h : last i = 1#1) (y x : FVec Ideal S1x1024 .f32) : k0_pay3 (F := Ideal) i y x = y := by
  refine (select_one h _ _).trans ?_
  funext j
  pointwise []
theorem scale_latent {i : grid0.Coords} (h : last i = 0#1) (y x : FVec Ideal S1x1024 .f32) : k0_pay4 (F := Ideal) i y x = x := shift_latent h y x
theorem scale_context {i : grid0.Coords} (h : last i = 1#1) (y x : FVec Ideal S1x1024 .f32) : k0_pay4 (F := Ideal) i y x = y := shift_context h y x

/-! What the reference's arrays hold of a row. -/

theorem v35_apply (x0 x2 x3) (p : Fin 4096) (q : Fin 1024) : val_main_v35 (F := Ideal) x0 x2 x3 (ValueIdx.ix2 p q)
    = (LayerNorm.hat (fun k => x0 (ValueIdx.ix2 p k)) q * x2 (ValueIdx.ix1 q) + x3 (ValueIdx.ix1 q) : EReal) := by
  pointwise [val_main_cst, val_main_cst_0, val_main_cst_1, val_main_cst_2, val_main_cst_3, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35]
  rfl

theorem v59_apply (x1 x2 x3) (p : Fin 256) (q : Fin 1024) : val_main_v59 (F := Ideal) x1 x2 x3 (ValueIdx.ix2 p q)
    = (LayerNorm.hat (fun k => x1 (ValueIdx.ix2 p k)) q * x2 (ValueIdx.ix1 q) + x3 (ValueIdx.ix1 q) : EReal) := by
  pointwise [val_main_cst_4, val_main_cst_5, val_main_cst_6, val_main_cst_7, val_main_cst_8, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59]
  rfl

theorem v65_apply (x0 x2 x3 x4) (p : Fin 4096) (q : Fin 1024) : val_main_v65 (F := Ideal) x0 x2 x3 x4 (ValueIdx.ix2 p q)
    = (val_main_v35 (F := Ideal) x0 x2 x3 (ValueIdx.ix2 p q) * (Ideal.ofBits .f32 0x3F800000#32 + x4 (ValueIdx.ix2 0 ⟨1024 + q.val, by omega⟩)) + x4 (ValueIdx.ix2 0 ⟨q.val, by omega⟩) : EReal) := by
  pointwise [val_main_v0, val_main_v1, val_main_cst_9, val_main_v60, val_main_v61, val_main_v62, val_main_v63, val_main_v64, val_main_v65]
  rfl

theorem v73_apply (x1 x2 x3 x5) (p : Fin 256) (q : Fin 1024) : val_main_v73 (F := Ideal) x1 x2 x3 x5 (ValueIdx.ix2 p q)
    = (val_main_v59 (F := Ideal) x1 x2 x3 (ValueIdx.ix2 p q) * (Ideal.ofBits .f32 0x3F800000#32 + x5 (ValueIdx.ix1 ⟨1024 + q.val, by omega⟩)) + x5 (ValueIdx.ix1 ⟨q.val, by omega⟩) : EReal) := by
  pointwise [val_main_v6, val_main_v7, val_main_cst_10, val_main_v66, val_main_v67, val_main_v68, val_main_v69, val_main_v70, val_main_v71, val_main_v72, val_main_v73]
  rfl

/-- Two arguments in one column with equal row numbers. -/
theorem read_row (f : FVec Ideal S256x1024 .f32) {a a' : Fin 256} {b : Fin 1024} (h : a.val = a'.val) : f (ValueIdx.ix2 a b) = f (ValueIdx.ix2 a' b) := by
  rw [Fin.ext h]

/-- A latent row of two stacked arrays. -/
theorem joined_latent (a : FVec Ideal S4096x1024 .f32) (b : FVec Ideal S256x1024 .f32) (hc) (i : S4352x1024.Idx) (h : (i 0).val < 4096) :
    concatenate S4352x1024 0 [⟨S4096x1024, a⟩, ⟨S256x1024, b⟩] hc i = (a (ValueIdx.ix2 ⟨(i 0).val, h⟩ (i 1)) : EReal) := by
  pointwise []
  exact dif_pos h

/-- A context row of two stacked arrays. -/
theorem joined_context (a : FVec Ideal S4096x1024 .f32) (b : FVec Ideal S256x1024 .f32) (hc) (i : S4352x1024.Idx) (p : Fin 256) (h : (i 0).val = 4096 + p.val) :
    concatenate S4352x1024 0 [⟨S4096x1024, a⟩, ⟨S256x1024, b⟩] hc i = (b (ValueIdx.ix2 p (i 1)) : EReal) := by
  pointwise []
  split_ifs <;> first | (exfalso; omega) | exact read_row b (by dsimp only; omega)

theorem v75_latent (x0 x1 x2 x3) (i : S4352x1024.Idx) (h : (i 0).val < 4096) :
    val_main_v75 (F := Ideal) x0 x1 x2 x3 i = val_main_v35 (F := Ideal) x0 x2 x3 (ValueIdx.ix2 ⟨(i 0).val, h⟩ (i 1)) := joined_latent _ _ _ i h
theorem v75_context (x0 x1 x2 x3) (i : S4352x1024.Idx) (p : Fin 256) (h : (i 0).val = 4096 + p.val) :
    val_main_v75 (F := Ideal) x0 x1 x2 x3 i = val_main_v59 (F := Ideal) x1 x2 x3 (ValueIdx.ix2 p (i 1)) := joined_context _ _ _ i p h
theorem v76_latent (x0 x1 x2 x3 x4 x5) (i : S4352x1024.Idx) (h : (i 0).val < 4096) : val_main_v76 (F := Ideal) x0 x1 x2 x3 x4 x5 i
    = (val_main_v75 (F := Ideal) x0 x1 x2 x3 i * (Ideal.ofBits .f32 0x3F800000#32 + x4 (ValueIdx.ix2 0 ⟨1024 + (i 1).val, by have : (i 1).val < 1024 := (i 1).isLt; omega⟩)) + x4 (ValueIdx.ix2 0 ⟨(i 1).val, by have : (i 1).val < 1024 := (i 1).isLt; omega⟩) : EReal) := by
  rw [v75_latent x0 x1 x2 x3 i h]
  have e : val_main_v74 (F := Ideal) x0 x1 x2 x3 x4 x5 i = val_main_v65 (F := Ideal) x0 x2 x3 x4 (ValueIdx.ix2 ⟨(i 0).val, h⟩ (i 1)) := joined_latent _ _ _ i h
  exact e.trans (v65_apply x0 x2 x3 x4 ⟨(i 0).val, h⟩ (i 1))
theorem v76_context (x0 x1 x2 x3 x4 x5) (i : S4352x1024.Idx) (p : Fin 256) (h : (i 0).val = 4096 + p.val) : val_main_v76 (F := Ideal) x0 x1 x2 x3 x4 x5 i
    = (val_main_v75 (F := Ideal) x0 x1 x2 x3 i * (Ideal.ofBits .f32 0x3F800000#32 + x5 (ValueIdx.ix1 ⟨1024 + (i 1).val, by have : (i 1).val < 1024 := (i 1).isLt; omega⟩)) + x5 (ValueIdx.ix1 ⟨(i 1).val, by have : (i 1).val < 1024 := (i 1).isLt; omega⟩) : EReal) := by
  rw [v75_context x0 x1 x2 x3 i p h]
  have e : val_main_v74 (F := Ideal) x0 x1 x2 x3 x4 x5 i = val_main_v73 (F := Ideal) x1 x2 x3 x5 (ValueIdx.ix2 p (i 1)) := joined_context _ _ _ i p h
  exact e.trans (v73_apply x1 x2 x3 x5 p (i 1))

theorem point_lt (t : Fin cfg0.N) : t.val < 17 := lt_of_lt_of_eq t.isLt N_0

/-- The rows a point normalises, as the reference holds them. -/
theorem normalised (c : Dev nD) (t : Fin cfg0.N) (y : S256x1024.Idx) (i : S4352x1024.Idx) (h0 : (i 0).val = t.val * 256 + (y 0).val) (h1 : i 1 = y 1) :
    k0_pay1 (F := Ideal) (k0_pay5 (grid0.coords t) (iblk m c 1 t) (iblk m c 0 t) (iblk m c 2 t)) (k0_pay6 (iblk m c 3 t)) y = (val_main_v75 (F := Ideal) (m (c.tc.loc main_arg0)) (m (c.tc.loc main_arg1)) (m (c.tc.loc main_arg2)) (m (c.tc.loc main_arg3)) i : EReal) := by
  have ht := point_lt t
  have hy : (y 0).val < 256 := (y 0).isLt
  rw [norm_apply, block2, block3]
  by_cases h : t.val < 16
  · rw [select_zero (last_latent t h)]
    simp only [block0 m c t h]
    rw [v75_latent _ _ _ _ i (by omega)]
    refine Eq.trans ?_ (v35_apply _ _ _ ⟨(i 0).val, by omega⟩ (i 1)).symm
    simp only [h0, h1]
  · rw [select_one (last_context t h)]
    simp only [block1 m c t]
    rw [v75_context _ _ _ _ i (y 0) (by omega)]
    refine Eq.trans ?_ (v59_apply _ _ _ (y 0) (i 1)).symm
    simp only [h1]

/-- The normalised rows are the reference's. -/
theorem final_6 (c : Dev nD) : (dats m 0 c).arrAt 6 cfg0.N = val_main_v75 (F := Ideal) (m (c.tc.loc main_arg0)) (m (c.tc.loc main_arg1)) (m (c.tc.loc main_arg2)) (m (c.tc.loc main_arg3)) := by
  refine (dats m 0 c).arrAt_eq_of_covers 6 _ (by decide +kernel) fun t hf y => ?_
  blk_simp
  rw [after0_6]
  have e : out0_6 (grid0.coords t) (iblk m c 0 t) (iblk m c 1 t) (iblk m c 2 t) (iblk m c 3 t) (iblk m c 4 t) (iblk m c 5 t)
      = k0_pay1 (k0_pay5 (grid0.coords t) (iblk m c 1 t) (iblk m c 0 t) (iblk m c 2 t)) (k0_pay6 (iblk m c 3 t)) := by
    unfold_out out0_6
    frame_out
  rw [e]
  refine normalised m c t y _ (by blk_simp [idx6]) (by apply Fin.ext; blk_simp [idx6])

/-- The modulated rows are the reference's. -/
theorem final_7 (c : Dev nD) : (dats m 0 c).arrAt 7 cfg0.N = val_main_v76 (F := Ideal) (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 7 _ (by decide +kernel) fun t hf y => ?_
  blk_simp
  rw [after0_7]
  have e : out0_7 (grid0.coords t) (iblk m c 0 t) (iblk m c 1 t) (iblk m c 2 t) (iblk m c 3 t) (iblk m c 4 t) (iblk m c 5 t)
      = k0_pay2 (k0_pay3 (grid0.coords t) (View.ld (iblk m c 5 t) r0_1) (View.ld (iblk m c 4 t) r0_1)) (k0_pay4 (grid0.coords t) (View.ld (iblk m c 5 t) r0_2) (View.ld (iblk m c 4 t) r0_2))
        (k0_pay5 (grid0.coords t) (iblk m c 1 t) (iblk m c 0 t) (iblk m c 2 t)) (k0_pay6 (iblk m c 3 t)) := by
    unfold_out out0_7
    frame_out
    rfl
  rw [e, mod_apply]
  have h0 : ((((View.whole main_v6_1).slice (win0_7.rect t)).emb y) 0).val = t.val * 256 + (y 0).val := by blk_simp [idx7]
  have h1 : (((View.whole main_v6_1).slice (win0_7.rect t)).emb y) 1 = y 1 := by apply Fin.ext; blk_simp [idx7]
  generalize ((View.whole main_v6_1).slice (win0_7.rect t)).emb y = i at h0 h1 ⊢
  have ht := point_lt t
  have hy : (y 0).val < 256 := (y 0).isLt
  rw [normalised m c t y i h0 h1]
  by_cases h : t.val < 16
  · rw [shift_latent (last_latent t h), scale_latent (last_latent t h), v76_latent _ _ _ _ _ _ i (by omega)]
    have a := row_latent m c t ⟨1, by decide⟩ (y 1) (show 1 < 6 by decide)
    have b := row_latent m c t ⟨0, by decide⟩ (y 1) (show 0 < 6 by decide)
    simp only [Nat.one_mul, Nat.zero_mul, Nat.zero_add] at a b
    simp only [h1]
    exact congrArg₂ (· + ·) (congrArg₂ (· * ·) rfl (congrArg (_ + ·) ((ld_row1 _ _).trans a))) ((ld_row0 _ _).trans b)
  · rw [shift_context (last_context t h), scale_context (last_context t h), v76_context _ _ _ _ _ _ i (y 0) (by omega)]
    have a := row_context m c t ⟨1, by decide⟩ (y 1) (show 1 < 6 by decide)
    have b := row_context m c t ⟨0, by decide⟩ (y 1) (show 0 < 6 by decide)
    simp only [Nat.one_mul, Nat.zero_mul, Nat.zero_add] at a b
    simp only [h1]
    exact congrArg₂ (· + ·) (congrArg₂ (· * ·) rfl (congrArg (_ + ·) ((ld_row1 _ _).trans a))) ((ld_row0 _ _).trans b)

end Cert.Kernel23Ideal.RefValue

end
-- ==== Proof.EntryNormClaim.lean ====
/- The value claim of the first layer norm. -/
module

public import proofs.«01_k».proof.Defs
public import proofs.«01_k».proof.Proof.EntryNorm

@[expose] public section

set_option maxRecDepth 16384

noncomputable section

namespace Cert.Kernel23Ideal.RefValue

open Kernel23Ideal Kernel23Ideal.Gen Idealize.ShloMosaic Idealize.ShloMosaic.TcCoe Idealize.SL.Sem
open Reference23Ideal.Read

/-- The reference runs, keeps its arguments, and leaves every semaphore at zero. -/
theorem reference_quiescent [hR : Reference23Ideal.Facts] : Cert.quiescent_Reference23Ideal (hReference23Ideal := hR) := by
  intro m ρ _
  refine (θ_run Reference23Ideal.defs _ _).mono (fun r h => ⟨fun c => ?_, sem_eq_zero_of_no_sems (by decide) r.2⟩)
    (Reference23Ideal.Value.run (F := Ideal) m ρ)
  exact (h c).2.2

/-- Both programs, from memories agreeing on the arguments, run and end with equal results. -/
theorem algebraic [hK : Kernel23Ideal.Facts] [hR : Reference23Ideal.Facts] :
    Cert.algebraic_Kernel23Ideal_Reference23Ideal (hKernel23Ideal := hK) (hReference23Ideal := hR) := by
  intro m ρ m' ρ' _ hagree
  refine ⟨fun c => val_main_v75 (F := Ideal) (m (c.tc.loc main_arg0)) (m (c.tc.loc main_arg1)) (m (c.tc.loc main_arg2)) (m (c.tc.loc main_arg3)), fun c => val_main_v76 (F := Ideal) (m (c.tc.loc main_arg0)) (m (c.tc.loc main_arg1)) (m (c.tc.loc main_arg2)) (m (c.tc.loc main_arg3)) (m (c.tc.loc main_arg4)) (m (c.tc.loc main_arg5)), ?_, ?_⟩
  · refine (θ_run Kernel23Ideal.defs _ _).mono (fun r h c => ?_) (Kernel23Ideal.Value.run_blocks m ρ)
    obtain ⟨h0, h1, hk⟩ := h c
    exact ⟨h0.trans (final_6 m c), h1.trans (final_7 m c), hk⟩
  · refine (θ_run Reference23Ideal.defs _ _).mono (fun r h c => ?_) (Reference23Ideal.Value.run (F := Ideal) m' ρ')
    obtain ⟨h0, h1, hk⟩ := h c
    obtain ⟨e0, e1, e2, e3, e4, e5⟩ := hagree c
    refine ⟨h0.trans ?_, h1.trans ?_, hk⟩
    · rw [e0, e1, e2, e3]
      exact val_main_v75_eq _ _ _ _
    · refine (val_main_v76_eq _ _).trans ?_
      show val_main_v76 (F := Ideal) (m' ((c : Thread Reference23Ideal.nD Reference23Ideal.τ).loc Reference23Ideal.main_arg0)) (m' ((c : Thread Reference23Ideal.nD Reference23Ideal.τ).loc Reference23Ideal.main_arg1)) (m' ((c : Thread Reference23Ideal.nD Reference23Ideal.τ).loc Reference23Ideal.main_arg2)) (m' ((c : Thread Reference23Ideal.nD Reference23Ideal.τ).loc Reference23Ideal.main_arg3)) (m' ((c : Thread Reference23Ideal.nD Reference23Ideal.τ).loc Reference23Ideal.main_arg4)) (m' ((c : Thread Reference23Ideal.nD Reference23Ideal.τ).loc Reference23Ideal.main_arg5)) = _
      rw [e0, e1, e2, e3, e4, e5]

end Cert.Kernel23Ideal.RefValue

end
-- ==== Proof.AdaBackward.lean ====
/- The gradients of the modulation's weight, bias and context, summed over the devices. -/
module

public import proofs.«01_k».proof.Proof.Gen.Kernel24Ideal.Value
public import proofs.«01_k».proof.Proof.Gen.Reference24Ideal.Run
public import proofs.«01_k».proof.Proof.Gen.Reference24Ideal.Read
public import proofs.«01_k».proof.Proof.Sums
public import proofs.«01_k».proof.Proof.Finite
public import Idealize.ShloMosaic.Lib.Pipeline.ValueKit
public import Idealize.ShloMosaic.Lib.Pointwise

@[expose] public section

set_option maxRecDepth 16384

noncomputable section

namespace Cert.Kernel24Ideal.RefValue

open Kernel24Ideal Kernel24Ideal.Gen Idealize.ShloMosaic Idealize.ShloMosaic.TcCoe Idealize.SL.Sem
open Idealize.ShloMosaic.Pipeline (Dat)
open Reference24Ideal.Read

variable (m : (ℓ : Loc nD τ sig) → Buf (Elt Ideal) ℓ)

/-! The block each window visits at a grid point. -/

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

/-- A sum over sixteen rows, the even rows first. -/
theorem sum_pairs (f : Fin 16 → EReal) : ∑ k, f k = ∑ p : Fin 8, f ⟨2 * p.val, by omega⟩ + ∑ p : Fin 8, f ⟨2 * p.val + 1, by omega⟩ := by
  rw [← Finset.sum_add_distrib, ← Equiv.sum_comp (finProdFinEquiv : Fin 8 × Fin 2 ≃ Fin 16), Fintype.sum_prod_type]
  refine Finset.sum_congr rfl fun p _ => ?_
  rw [Fin.sum_univ_two]
  refine congrArg₂ (· + ·) (congrArg f (Fin.ext ?_)) (congrArg f (Fin.ext ?_))
  · exact Nat.zero_add _
  · exact Nat.add_comm _ _

/-! What each input window holds. -/

theorem read_v5 (c : Dev nD) : V m c main_v5 = shapeCast S16x1024 (concatenate S8x2x1024 1 [⟨S8x1x1024, broadcastInDim S8x1x1024 ![0, 2] bcast_S8x1024_S8x1x1024_0_2 (m (c.tc.loc main_arg0)) ⟩,
    ⟨S8x1x1024, broadcastInDim S8x1x1024 ![0, 2] bcast_S8x1024_S8x1x1024_0_2 (broadcastInDim S8x1024 ![0, 1] bcast_S1x1024_S8x1024_0_1 (shapeCast S1x1024 (m (c.tc.loc main_arg1)) shapeCasts_S1024_S1x1024))⟩] concatenates_S8x1x1024_S8x1x1024_S8x2x1024_d1) shapeCasts_S8x2x1024_S16x1024 := by
  show StableHlo.after hostOps0 (fun b => m (c, b)) (Proc.devRef .tc main_v5) = _
  simp only [hostOps0, List.flatten_cons, List.flatten_nil, List.append_nil, List.cons_append, List.nil_append]
  after_results <;> rfl

theorem read_v6 (c : Dev nD) : V m c main_v6 = shapeCast S16x6144 (m (c.tc.loc main_arg2)) shapeCasts_S8x2x6144_S16x6144 := by
  entry_read; rfl

theorem read_v7 (c : Dev nD) : V m c main_v7 = shapeCast S16x768 (m (c.tc.loc main_arg3)) shapeCasts_S8x2x768_S16x768 := by
  entry_read; rfl

/-- The even rows hold the conditioning. -/
theorem rows_even (c : Dev nD) (t : Fin cfg0.N) (p : Fin 8) (q : Fin 1024) : iblk m c 0 t (ValueIdx.ix2 ⟨2 * p.val, by omega⟩ q) = ((m (c.tc.loc main_arg0)) (ValueIdx.ix2 p q) : EReal) := by
  show V m c main_v5 (((cfg0.win 0).blk t).view.emb (ValueIdx.ix2 ⟨2 * p.val, by omega⟩ q)) = _
  have e : ((cfg0.win 0).blk t).view.emb (ValueIdx.ix2 ⟨2 * p.val, by omega⟩ q) = ValueIdx.ix2 (⟨2 * p.val, by omega⟩ : Fin 16) q := by
    blk_ext! [idx0]
  rw [read_v5, e]
  pointwise []
  rw [dif_pos (by omega)]
  refine congrArg _ (congrArg (fun a : Fin 8 => ValueIdx.ix2 a q) (Fin.ext ?_))
  show 2 * p.val / 2 = p.val
  omega

theorem rows_odd (c : Dev nD) (t : Fin cfg0.N) (p : Fin 8) (q : Fin 1024) : iblk m c 0 t (ValueIdx.ix2 ⟨2 * p.val + 1, by omega⟩ q) = ((m (c.tc.loc main_arg1)) (ValueIdx.ix1 q) : EReal) := by
  show V m c main_v5 (((cfg0.win 0).blk t).view.emb (ValueIdx.ix2 ⟨2 * p.val + 1, by omega⟩ q)) = _
  have e : ((cfg0.win 0).blk t).view.emb (ValueIdx.ix2 ⟨2 * p.val + 1, by omega⟩ q) = ValueIdx.ix2 (⟨2 * p.val + 1, by omega⟩ : Fin 16) q := by
    blk_ext! [idx0]
  rw [read_v5, e]
  pointwise []
  exact dif_neg (by omega)

theorem block1 (c : Dev nD) (t : Fin cfg0.N) (p : Fin 8) (e : Fin 2) (q : Fin 6144) (k : Fin 16) (h : k.val = 2 * p.val + e.val) :
    iblk m c 1 t (ValueIdx.ix2 k q) = ((m (c.tc.loc main_arg2)) (ValueIdx.ix3 p e q) : EReal) := by
  show V m c main_v6 (((cfg0.win 1).blk t).view.emb (ValueIdx.ix2 k q)) = _
  have he : ((cfg0.win 1).blk t).view.emb (ValueIdx.ix2 k q) = ValueIdx.ix2 k q := by
    blk_ext! [idx1]
  rw [read_v6, he]
  exact shapeCast_apply _ shapeCasts_S8x2x6144_S16x6144 _ _ (by
    rewrite [Shape.rowMajor_val_three, Shape.rowMajor_val_two]
    show (p.val * 2 + e.val) * 6144 + q.val = k.val * 6144 + q.val
    omega)

theorem block2 (c : Dev nD) (t : Fin cfg0.N) (p : Fin 8) (e : Fin 2) (q : Fin 768) (k : Fin 16) (h : k.val = 2 * p.val + e.val) :
    iblk m c 2 t (ValueIdx.ix2 k q) = ((m (c.tc.loc main_arg3)) (ValueIdx.ix3 p e q) : EReal) := by
  show V m c main_v7 (((cfg0.win 2).blk t).view.emb (ValueIdx.ix2 k q)) = _
  have he : ((cfg0.win 2).blk t).view.emb (ValueIdx.ix2 k q) = ValueIdx.ix2 k q := by
    blk_ext! [idx2]
  rw [read_v7, he]
  exact shapeCast_apply _ shapeCasts_S8x2x768_S16x768 _ _ (by
    rewrite [Shape.rowMajor_val_three, Shape.rowMajor_val_two]
    show (p.val * 2 + e.val) * 768 + q.val = k.val * 768 + q.val
    omega)

theorem block3 (c : Dev nD) (t : Fin cfg0.N) (j : S1024x768.Idx) : iblk m c 3 t j = ((m (c.tc.loc main_arg4)) j : EReal) := by
  blk_ext! [iblk, V, idx3]

/-! What the body computes. -/

/-- The bit the body computes of a row's number. -/
abbrev oddBit (k : Fin 16) : BitVec 1 :=
  IntOp.cmpi .eq
    (Scalar.select
      (IntOp.andi
        (IntOp.xori (IntOp.cmpi .slt (IntOp.remsi ArithUnit.vector (BitVec.ofNat 32 k.val) (Scalar.select (Scalar.cmpi .eq 2#32 0#32) 1#32 2#32)) 0#32)
          (Scalar.cmpi .slt (Scalar.select (Scalar.cmpi .eq 2#32 0#32) 1#32 2#32) 0#32))
        (IntOp.cmpi .ne (IntOp.remsi ArithUnit.vector (BitVec.ofNat 32 k.val) (Scalar.select (Scalar.cmpi .eq 2#32 0#32) 1#32 2#32)) 0#32))
      (IntOp.addi (IntOp.remsi ArithUnit.vector (BitVec.ofNat 32 k.val) (Scalar.select (Scalar.cmpi .eq 2#32 0#32) 1#32 2#32)) (Scalar.select (Scalar.cmpi .eq 2#32 0#32) 1#32 2#32))
      (IntOp.remsi ArithUnit.vector (BitVec.ofNat 32 k.val) (Scalar.select (Scalar.cmpi .eq 2#32 0#32) 1#32 2#32)))
    1#32

/-- It says whether the number is odd. -/
theorem odd_bit : ∀ k : Fin 16, oddBit k = if k.val % 2 = 1 then 1#1 else 0#1 := by decide +kernel

/-- The gradients of the odd rows, zero in the even ones. -/
theorem masked_apply (v : Vec Ideal S16x768 .f32) (k : Fin 16) (q : Fin 768) : k0_pay7 (F := Ideal) v (ValueIdx.ix2 k q) = (if k.val % 2 = 1 then v (ValueIdx.ix2 k q) else 0 : EReal) := by
  unfold k0_pay7 k0_pay4
  pointwise []
  show Scalar.select (oddBit k) _ _ = _
  rw [odd_bit]
  split_ifs
  · rfl
  · rfl

theorem weight_apply (x : Vec Ideal S16x1024 .f32) (v : Vec Ideal S16x768 .f32) (i : Fin 1024) (j : Fin 768) : k0_pay5 (F := Ideal) x v (ValueIdx.ix2 i j)
    = (∑ k : Fin 16, x (ValueIdx.ix2 k i) * Ideal.div 1 (1 + Ideal.exp (-x (ValueIdx.ix2 k i))) * v (ValueIdx.ix2 k j) : EReal) := by
  unfold_payloads
  pointwise [Ideal.logistic]
  rfl

theorem bias_apply (v : Vec Ideal S16x6144 .f32) (i : Fin 8) (j : Fin 6144) : k0_pay6 (F := Ideal) v (ValueIdx.ix2 i j) = (∑ k : Fin 16, v (ValueIdx.ix2 k j) : EReal) := by
  unfold_payloads
  pointwise []
  rfl

theorem context_apply (x : Vec Ideal S16x1024 .f32) (u : FVec Ideal S16x768 .f32) (w : Vec Ideal S1024x768 .f32) (i : Fin 8) (j : Fin 1024) :
    k0_pay1 (F := Ideal) (k0_pay2 x) (k0_pay3 x) u w (ValueIdx.ix2 i j)
      = ((∑ q : Fin 768, (∑ k : Fin 16, u (ValueIdx.ix2 k q)) * w (ValueIdx.ix2 j q)) * (Ideal.div 1 (1 + Ideal.exp (-x (ValueIdx.ix2 ⟨1, by decide⟩ j)))
        * (1 + x (ValueIdx.ix2 ⟨1, by decide⟩ j) * (1 - Ideal.div 1 (1 + Ideal.exp (-x (ValueIdx.ix2 ⟨1, by decide⟩ j)))))) : EReal) := by
  unfold_payloads
  pointwise [Ideal.logistic]
  rfl

/-! What the reference computes. -/

theorem v18_apply (x0 x1 x3) (i : Fin 1024) (j : Fin 768) : val_main_v18 (F := Ideal) x0 x1 x3 (ValueIdx.ix2 i j)
    = ((∑ p : Fin 8, x3 (ValueIdx.ix3 p (1 : Fin 2) j)) * (x1 (ValueIdx.ix1 i) * Ideal.div 1 (1 + Ideal.exp (-x1 (ValueIdx.ix1 i))))
      + ∑ p : Fin 8, x3 (ValueIdx.ix3 p (0 : Fin 2) j) * (x0 (ValueIdx.ix2 p i) * Ideal.div 1 (1 + Ideal.exp (-x0 (ValueIdx.ix2 p i)))) : EReal) := by
  pointwise [val_main_call0_v0, val_main_call0_v1, val_main_call0_cst, val_main_call0_v2, val_main_call0_v3, val_main_call0_cst_0, val_main_call0_v4, val_main_call0_v5, val_main_v0, val_main_v1, val_main_v2, val_main_call1_v0, val_main_call1_v1, val_main_call1_cst, val_main_call1_v2, val_main_call1_v3, val_main_call1_cst_0, val_main_call1_v4, val_main_v3_2, val_main_call1_cst_1, val_main_call1_v6, val_main_call1_v7, val_main_v3_1, val_main_v3_0, val_main_v4, val_main_v5, val_main_v6, val_main_v7, val_main_v8, val_main_cst, val_main_v9, val_main_v10, val_main_v11, val_main_v12, val_main_v13, val_main_call2_v0, val_main_call2_v1, val_main_call2_v2, val_main_v14, val_main_cst_0, val_main_v15, val_main_v16, val_main_v17, val_main_v18, val_main_v19, val_main_v20, val_main_cst_1, val_main_v21, val_main_v22, val_main_v23, val_main_cst_2, val_main_v24, val_main_v25, val_main_v26, val_main_v27]
  simp only [Fin.sum_univ_one]
  rfl

theorem v26_apply (x2) (i : Fin 8) (j : Fin 6144) : val_main_v26 (F := Ideal) x2 (ValueIdx.ix2 i j)
    = (∑ p : Fin 8, x2 (ValueIdx.ix3 p (0 : Fin 2) j) + ∑ p : Fin 8, x2 (ValueIdx.ix3 p (1 : Fin 2) j) : EReal) := by
  pointwise [val_main_call0_v0, val_main_call0_v1, val_main_call0_cst, val_main_call0_v2, val_main_call0_v3, val_main_call0_cst_0, val_main_call0_v4, val_main_call0_v5, val_main_v0, val_main_v1, val_main_v2, val_main_call1_v0, val_main_call1_v1, val_main_call1_cst, val_main_call1_v2, val_main_call1_v3, val_main_call1_cst_0, val_main_call1_v4, val_main_v3_2, val_main_call1_cst_1, val_main_call1_v6, val_main_call1_v7, val_main_v3_1, val_main_v3_0, val_main_v4, val_main_v5, val_main_v6, val_main_v7, val_main_v8, val_main_cst, val_main_v9, val_main_v10, val_main_v11, val_main_v12, val_main_v13, val_main_call2_v0, val_main_call2_v1, val_main_call2_v2, val_main_v14, val_main_cst_0, val_main_v15, val_main_v16, val_main_v17, val_main_v18, val_main_v19, val_main_v20, val_main_cst_1, val_main_v21, val_main_v22, val_main_v23, val_main_cst_2, val_main_v24, val_main_v25, val_main_v26, val_main_v27]
  rfl

theorem v27_apply (x1 x3 x4) (i : Fin 8) (j : Fin 1024) : val_main_v27 (F := Ideal) x1 x3 x4 (ValueIdx.ix2 i j)
    = ((∑ q : Fin 768, (∑ p : Fin 8, x3 (ValueIdx.ix3 p (1 : Fin 2) q)) * x4 (ValueIdx.ix2 j q)) * Ideal.div 1 (1 + Ideal.exp (-x1 (ValueIdx.ix1 j)))
      + x1 (ValueIdx.ix1 j) * (∑ q : Fin 768, (∑ p : Fin 8, x3 (ValueIdx.ix3 p (1 : Fin 2) q)) * x4 (ValueIdx.ix2 j q)) * (Ideal.div 1 (1 + Ideal.exp (-x1 (ValueIdx.ix1 j))) * (1 - Ideal.div 1 (1 + Ideal.exp (-x1 (ValueIdx.ix1 j))))) : EReal) := by
  pointwise [val_main_call0_v0, val_main_call0_v1, val_main_call0_cst, val_main_call0_v2, val_main_call0_v3, val_main_call0_cst_0, val_main_call0_v4, val_main_call0_v5, val_main_v0, val_main_v1, val_main_v2, val_main_call1_v0, val_main_call1_v1, val_main_call1_cst, val_main_call1_v2, val_main_call1_v3, val_main_call1_cst_0, val_main_call1_v4, val_main_v3_2, val_main_call1_cst_1, val_main_call1_v6, val_main_call1_v7, val_main_v3_1, val_main_v3_0, val_main_v4, val_main_v5, val_main_v6, val_main_v7, val_main_v8, val_main_cst, val_main_v9, val_main_v10, val_main_v11, val_main_v12, val_main_v13, val_main_call2_v0, val_main_call2_v1, val_main_call2_v2, val_main_v14, val_main_cst_0, val_main_v15, val_main_v16, val_main_v17, val_main_v18, val_main_v19, val_main_v20, val_main_cst_1, val_main_v21, val_main_v22, val_main_v23, val_main_cst_2, val_main_v24, val_main_v25, val_main_v26, val_main_v27]
  simp only [Fin.sum_univ_one]
  rfl

/-! The body's results are the reference's. -/

/-- The gradient of the weight, where the context and the gradients of its rows are real numbers. -/
theorem final_4 (c : Dev nD) (r1 : ∀ i, Finite.Real ((m (c.tc.loc main_arg1)) i)) (r3 : ∀ i, Finite.Real ((m (c.tc.loc main_arg3)) i)) : (dats m 0 c).arrAt 4 cfg0.N = val_main_v18 (F := Ideal) (m (c.tc.loc main_arg0)) (m (c.tc.loc main_arg1)) (m (c.tc.loc main_arg3)) := by
  refine (dats m 0 c).arrAt_eq_of_covers 4 _ (by decide +kernel) fun t hf y => ?_
  blk_simp
  rw [after0_4]
  have e : out0_4 (iblk m c 0 t) (iblk m c 1 t) (iblk m c 2 t) (iblk m c 3 t) = k0_pay5 (iblk m c 0 t) (iblk m c 2 t) := by frame_out
  have h : ((View.whole main_v8_0).slice (win0_4.rect t)).emb y = y := by
    funext a
    apply Fin.ext
    fin_cases a <;> blk_simp [idx4]
  rw [e, h]
  obtain ⟨i, j, rfl⟩ := Sums.pair y
  refine (weight_apply _ _ i j).trans (Eq.trans ?_ (v18_apply _ _ _ i j).symm)
  rw [sum_pairs, add_comm]
  refine congrArg₂ (· + ·) ?_ (Finset.sum_congr rfl fun p _ => ?_)
  · refine Eq.trans (Finset.sum_congr rfl fun p _ => ?_) ((Finite.mul_sum (Finite.silu (r1 (ValueIdx.ix1 i))) fun p => r3 (ValueIdx.ix3 p (1 : Fin 2) j)).symm.trans (mul_comm _ _))
    rw [rows_odd, block2 m c t p 1 j _ rfl]
  · rw [rows_even, block2 m c t p 0 j _ rfl]
    exact mul_comm _ _

/-- The gradient of the bias. -/
theorem final_5 (c : Dev nD) : (dats m 0 c).arrAt 5 cfg0.N = val_main_v26 (F := Ideal) (m (c.tc.loc main_arg2)) := by
  refine (dats m 0 c).arrAt_eq_of_covers 5 _ (by decide +kernel) fun t hf y => ?_
  blk_simp
  rw [after0_5]
  have e : out0_5 (iblk m c 0 t) (iblk m c 1 t) (iblk m c 2 t) (iblk m c 3 t) = k0_pay6 (iblk m c 1 t) := by frame_out
  have h : ((View.whole main_v8_1).slice (win0_5.rect t)).emb y = y := by
    funext a
    apply Fin.ext
    fin_cases a <;> blk_simp [idx5]
  rw [e, h]
  obtain ⟨i, j, rfl⟩ := Sums.pair y
  refine (bias_apply _ i j).trans (Eq.trans ?_ (v26_apply _ i j).symm)
  rw [sum_pairs]
  exact congrArg₂ (· + ·) (Finset.sum_congr rfl fun p _ => block1 m c t p 0 j _ rfl) (Finset.sum_congr rfl fun p _ => block1 m c t p 1 j _ rfl)

/-- A row of the gradients that the context's rows got, and an entry of the weight. -/
abbrev own (c : Dev nD) (p : Fin 8) (q : Fin 768) : EReal := (m (c.tc.loc main_arg3)) (ValueIdx.ix3 p (1 : Fin 2) q)
abbrev weight (c : Dev nD) (j : Fin 1024) (q : Fin 768) : EReal := (m (c.tc.loc main_arg4)) (ValueIdx.ix2 j q)

/-- The sum of the odd rows of the gradients. -/
theorem odd_sum (c : Dev nD) (t : Fin cfg0.N) (q : Fin 768) :
    (∑ k : Fin 16, k0_pay7 (F := Ideal) (iblk m c 2 t) (ValueIdx.ix2 k q) : EReal) = ∑ p : Fin 8, own m c p q := by
  rw [sum_pairs]
  refine Eq.trans (congrArg₂ (· + ·) (Finset.sum_eq_zero fun p _ => ?_) (Finset.sum_congr rfl fun p _ => ?_)) (zero_add _)
  · exact (masked_apply _ _ q).trans (if_neg (by show ¬ 2 * p.val % 2 = 1; omega))
  · exact ((masked_apply _ _ q).trans (if_pos (by show (2 * p.val + 1) % 2 = 1; omega))).trans (block2 m c t p 1 q _ rfl)

/-- The gradient of the context, where the arguments are real numbers. -/
theorem final_6 (c : Dev nD) (r1 : ∀ i, Finite.Real ((m (c.tc.loc main_arg1)) i)) (r3 : ∀ i, Finite.Real ((m (c.tc.loc main_arg3)) i)) (r4 : ∀ i, Finite.Real ((m (c.tc.loc main_arg4)) i)) :
    (dats m 0 c).arrAt 6 cfg0.N = val_main_v27 (F := Ideal) (m (c.tc.loc main_arg1)) (m (c.tc.loc main_arg3)) (m (c.tc.loc main_arg4)) := by
  refine (dats m 0 c).arrAt_eq_of_covers 6 _ (by decide +kernel) fun t hf y => ?_
  blk_simp
  rw [after0_6]
  have e : out0_6 (iblk m c 0 t) (iblk m c 1 t) (iblk m c 2 t) (iblk m c 3 t)
      = k0_pay1 (k0_pay2 (iblk m c 0 t)) (k0_pay3 (iblk m c 0 t)) (k0_pay7 (iblk m c 2 t)) (iblk m c 3 t) := by frame_out
  have h : ((View.whole main_v8_2).slice (win0_6.rect t)).emb y = y := by
    funext a
    apply Fin.ext
    fin_cases a <;> blk_simp [idx6]
  rw [e, h]
  obtain ⟨i, j, rfl⟩ := Sums.pair y
  refine (context_apply _ _ _ i j).trans (Eq.trans ?_ (v27_apply _ _ _ i j).symm)
  have p : (∑ q : Fin 768, (∑ k : Fin 16, k0_pay7 (F := Ideal) (iblk m c 2 t) (ValueIdx.ix2 k q)) * iblk m c 3 t (ValueIdx.ix2 j q) : EReal)
      = ∑ q : Fin 768, (∑ p : Fin 8, own m c p q) * weight m c j q :=
    Sums.sum_same (fun q => odd_sum m c t q) fun q => block3 m c t _
  have o := rows_odd m c t ⟨0, by decide⟩ j
  refine (congrArg₂ (fun d a : EReal => d * (Ideal.div 1 (1 + Ideal.exp (-a)) * (1 + a * (1 - Ideal.div 1 (1 + Ideal.exp (-a)))))) p o).trans ?_
  have g := Finite.gate_gradient (r1 (ValueIdx.ix1 j)) ⟨1, rfl⟩
    (Finite.dot (fun q => Finite.sum fun p : Fin 8 => r3 (ValueIdx.ix3 p (1 : Fin 2) q)) fun q => r4 (ValueIdx.ix2 j q))
  simpa only [EReal.coe_one, mul_one] using g

end Cert.Kernel24Ideal.RefValue

end
-- ==== Proof.AdaBackwardClaim.lean ====
/- The value claim of the gradients of the modulation. -/
module

public import proofs.«01_k».proof.Defs
public import proofs.«01_k».proof.Proof.AdaBackward

@[expose] public section

set_option maxRecDepth 16384

noncomputable section

namespace Cert.Kernel24Ideal.RefValue

open Kernel24Ideal Kernel24Ideal.Gen Idealize.ShloMosaic Idealize.ShloMosaic.TcCoe Idealize.SL.Sem
open Reference24Ideal.Read

/-- The reference runs, keeps its arguments, and leaves every semaphore at zero. -/
theorem reference_quiescent [hR : Reference24Ideal.Facts] : Cert.quiescent_Reference24Ideal (hReference24Ideal := hR) := by
  intro m ρ _
  refine (θ_run Reference24Ideal.defs _ _).mono (fun r h => ⟨fun c => ?_, sem_eq_zero_of_no_sems (by decide) r.2⟩)
    (Reference24Ideal.Value.run (F := Ideal) m ρ)
  exact (h c).2.2.2

/-- The side conditions of the finiteness check. -/
theorem precondition_facts : Pre_finite24.Facts := by
  constructor <;> first | (intro a; exact Fin.elim0 a) | decide

/-- Where the check holds, argument 1 holds real numbers. -/
theorem real1 [Pre_finite24.Facts] {m : (ℓ : Loc nD τ sig) → Buf (Elt Ideal) ℓ} (h : Pre_Kernel24Ideal_finite24 m) (c : Dev nD) (i) :
    Finite.Real (m (c.tc.loc main_arg1) i) :=
  Finite.of_check_bits (congrFun (h c).1 i)

/-- Where the check holds, argument 3 holds real numbers. -/
theorem real3 [Pre_finite24.Facts] {m : (ℓ : Loc nD τ sig) → Buf (Elt Ideal) ℓ} (h : Pre_Kernel24Ideal_finite24 m) (c : Dev nD) (i) :
    Finite.Real (m (c.tc.loc main_arg3) i) :=
  Finite.of_check_bits (congrFun (h c).2.1 i)

/-- Where the check holds, argument 4 holds real numbers. -/
theorem real4 [Pre_finite24.Facts] {m : (ℓ : Loc nD τ sig) → Buf (Elt Ideal) ℓ} (h : Pre_Kernel24Ideal_finite24 m) (c : Dev nD) (i) :
    Finite.Real (m (c.tc.loc main_arg4) i) :=
  Finite.of_check_bits (congrFun (h c).2.2 i)

/-- Both programs, from memories agreeing on the arguments, run and end with equal results. -/
theorem algebraic [hK : Kernel24Ideal.Facts] [hR : Reference24Ideal.Facts] [hPre : Pre_finite24.Facts] :
    Cert.algebraic_Kernel24Ideal_Reference24Ideal_pre_finite24 (hKernel24Ideal := hK) (hReference24Ideal := hR) (hPre_finite24 := hPre) := by
  intro m ρ m' ρ' hpre hagree
  refine ⟨fun c => val_main_v18 (F := Ideal) (m (c.tc.loc main_arg0)) (m (c.tc.loc main_arg1)) (m (c.tc.loc main_arg3)), fun c => val_main_v26 (F := Ideal) (m (c.tc.loc main_arg2)), fun c => val_main_v27 (F := Ideal) (m (c.tc.loc main_arg1)) (m (c.tc.loc main_arg3)) (m (c.tc.loc main_arg4)), ?_, ?_⟩
  · refine (θ_run Kernel24Ideal.defs _ _).mono (fun r h c => ?_) (Kernel24Ideal.Value.run_blocks m ρ)
    obtain ⟨h0, h1, h2, hk⟩ := h c
    exact ⟨h0.trans (final_4 m c (real1 hpre c) (real3 hpre c)), h1.trans (final_5 m c), h2.trans (final_6 m c (real1 hpre c) (real3 hpre c) (real4 hpre c)), hk⟩
  · refine (θ_run Reference24Ideal.defs _ _).mono (fun r h c => ?_) (Reference24Ideal.Value.run (F := Ideal) m' ρ')
    obtain ⟨h0, h1, h2, hk⟩ := h c
    obtain ⟨e0, e1, e2, e3, e4⟩ := hagree c
    refine ⟨h0.trans ?_, h1.trans ?_, h2.trans ?_, hk⟩
    · rw [e0, e1, e3]
      exact val_main_v18_eq _ _ _
    · rw [e2]
      exact val_main_v26_eq _
    · rw [e1, e3, e4]
      exact val_main_v27_eq _ _ _

end Cert.Kernel24Ideal.RefValue

end
-- ==== Proof.DtBackward.lean ====
/- The gradient of the scan's steps: the sum of both directions, and its column sums. -/
module

public import proofs.«01_k».proof.Proof.Gen.Kernel25Ideal.Value
public import proofs.«01_k».proof.Proof.Gen.Reference25Ideal.Run
public import proofs.«01_k».proof.Proof.Gen.Reference25Ideal.Read
public import proofs.«01_k».proof.Proof.Sums
public import proofs.«01_k».proof.Proof.Pieces
public import Idealize.ShloMosaic.Lib.Pipeline.ValueKit
public import Idealize.ShloMosaic.Lib.Pointwise

@[expose] public section

set_option maxRecDepth 16384

noncomputable section

namespace Cert.Kernel25Ideal.RefValue

open Kernel25Ideal Kernel25Ideal.Gen Idealize.ShloMosaic Idealize.ShloMosaic.TcCoe Idealize.SL.Sem
open Idealize.ShloMosaic.Pipeline (Dat)
open Reference25Ideal.Read

variable (m : (ℓ : Loc nD τ sig) → Buf (Elt Ideal) ℓ)

/-! The block each window visits at a grid point. -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 26] := (by decide +kernel : ∀ t : Fin grid0.N, _)

theorem point_lt (t : Fin cfg0.N) : t.val < 17 := t.isLt

/-- What the body computes at point `t`: the reference's sum of both directions at the point's rows. -/
theorem both (c : Dev nD) (t : Fin cfg0.N) (x : S256x128.Idx) :
    k0_pay2 (iblk m c 0 t) (iblk m c 1 t) x
      = val_main_v5 (F := Ideal) (m (c.tc.loc main_arg0)) (m (c.tc.loc main_arg1))
        (ValueIdx.ix2 ⟨t.val * 256 + (x 0).val, by have := point_lt t; have : (x 0).val < 256 := (x 0).isLt; omega⟩ ⟨(x 1).val, (x 1).isLt⟩) := by
  unfold_payloads
  pointwise [val_main_v5]
  blk_point [iblk, V, idx0, idx1]

theorem pay3_apply (v w : Vec Ideal S256x128 .f32) (x) : k0_pay3 v w x = (k0_pay2 v w x : EReal) := rfl

theorem pay4_apply (x : S256x128.Idx) : k0_pay4 (F := Ideal) x = (0 : EReal) := by
  unfold_payloads
  pointwise

theorem pay1_apply (x : S8x128.Idx) : k0_pay1 (F := Ideal) x = (0 : EReal) := by
  unfold_payloads
  pointwise

theorem pay5_apply (v w : Vec Ideal S256x128 .f32) (u : Vec Ideal S1x128 .f32) (x : S1x128.Idx) :
    k0_pay5 v w u x = (u x + ∑ k : Fin 256, k0_pay2 v w (ValueIdx.ix2 k ⟨(x 1).val, (x 1).isLt⟩) : EReal) := by
  unfold_payloads
  pointwise
  rfl

/-- The reference's sum, with as many columns of zeros beside it. -/
theorem v11_apply (x0 x1) (i : Reference25Ideal.S4352x256.Idx) :
    val_main_v11 (F := Ideal) x0 x1 i
      = (if h : (i 1).val < 128 then val_main_v5 (F := Ideal) x0 x1 (ValueIdx.ix2 ⟨(i 0).val, (i 0).isLt⟩ ⟨(i 1).val, h⟩) else 0 : EReal) := by
  pointwise [val_main_v11, val_main_call0_v0, val_main_c, val_main_v10, val_main_v6, val_main_v5]
  by_cases h : (i 1).val < 128
  · have h0 : (i 0).val < 4352 := (i 0).isLt
    rw [dif_pos (by omega), dif_pos h]
    rfl
  · rw [dif_neg (by omega), dif_neg h]
    show ((((0#32 : BitVec 32).toInt : ℤ) : ℝ) : EReal) = 0
    simp

/-- The reference's update of the projection's gradient, at an index: its last 256 columns are replaced. -/
theorem v12_apply (x0 x1 x2) (i : S4352x6912.Idx) :
    val_main_v12 (F := Ideal) x0 x1 x2 i
      = (if h : 6656 ≤ (i 1).val then
          val_main_v11 (F := Ideal) x0 x1 (ValueIdx.ix2 ⟨(i 0).val, (i 0).isLt⟩ ⟨(i 1).val - 6656, by have : (i 1).val < 6912 := (i 1).isLt; omega⟩)
        else x2 i : EReal) := by
  unfold val_main_v12
  rw [Host.dynamicUpdateSlice_apply]
  have s : ∀ a : Fin 2, Host.clampedStart Reference25Ideal.S4352x6912 Reference25Ideal.S4352x256 rfl
      (fun k => (((![val_main_c_3 (F := Ideal), val_main_c_4 (F := Ideal)] : Fin 2 → (⟨Reference25Ideal.S_, .i32⟩ : BufTy).Contents (Elt Ideal))) k (Shape.Idx.first Reference25Ideal.Gen.h_S_)).toInt) a = ![0, 6656] a := by
    intro a; fin_cases a <;> rfl
  have i0 : (i 0).val < 4352 := (i 0).isLt
  have i1 : (i 1).val < 6912 := (i 1).isLt
  by_cases h : 6656 ≤ (i 1).val
  · rw [dif_pos h, dif_pos]
    · refine congrArg (val_main_v11 (F := Ideal) x0 x1) ?_
      funext a
      apply Fin.ext
      fin_cases a
      · show (i 0).val - Host.clampedStart _ _ _ _ 0 = (i 0).val
        rw [s 0]; rfl
      · show (i 1).val - Host.clampedStart _ _ _ _ 1 = (i 1).val - 6656
        rw [s 1]; rfl
    · intro a
      rw [s a]
      fin_cases a
      · exact ⟨Nat.zero_le _, by show (i 0).val < 0 + 4352; omega⟩
      · exact ⟨h, by show (i 1).val < 6656 + 256; omega⟩
  · rw [dif_neg h, dif_neg]
    intro hall
    have h1 := hall 1
    rw [s 1] at h1
    exact h h1.1

theorem final_2 (c : Dev nD) : (dats m 0 c).arrAt 2 cfg0.N = val_main_v12 (F := Ideal) (m (c.tc.loc main_arg0)) (m (c.tc.loc main_arg1)) (m (c.tc.loc main_arg2)) := by
  refine ((dats m 0 c).arrAt_eq_of_coversWhere 2 (val_main_v12 (F := Ideal) (m (c.tc.loc main_arg0)) (m (c.tc.loc main_arg1)) (m (c.tc.loc main_arg2)))
    (fun β => β (0 : Fin _) < 17 ∧ β (1 : Fin _) = 26) (P := fun i => (i 0 : ℕ) / 256 < 17 ∧ (i 1 : ℕ) / 256 = 26)
    (by decide +kernel) (fun t hf y => ?_) (fun j => Iff.rfl)).trans ?_
  · blk_simp
    rw [after0_2, v12_apply]
    have e0 : ((((View.whole main_v0_0).slice (win0_2.rect t)).emb y) 0).val = t.val * 256 + (y 0).val := by
      have e : win0_2.index t 0 = t.val := congrFun (idx2 t) 0
      show win0_2.index t 0 * 256 + 1 * (y 0).val = _
      rw [e]; omega
    have e1 : ((((View.whole main_v0_0).slice (win0_2.rect t)).emb y) 1).val = 6656 + (y 1).val := by
      have e : win0_2.index t 1 = 26 := congrFun (idx2 t) 1
      show win0_2.index t 1 * 256 + 1 * (y 1).val = _
      rw [e]; omega
    generalize ((View.whole main_v0_0).slice (win0_2.rect t)).emb y = i at e0 e1 ⊢
    have ht := point_lt t
    rw [dif_pos (by omega), v11_apply]
    by_cases h0 : t.val % 17 = 0
    · rw [outsAt0_A m c t h0]; frame_out
      canon_tiles x h
      · have hx1 : (y 1).val = 128 + (x 1).val := h1
        refine (pay4_apply _).trans ?_
        symm
        exact dif_neg (show ¬ (i 1).val - 6656 < 128 by omega)
      · have hx0 : (y 0).val = (x 0).val := h0
        have hx1 : (y 1).val = (x 1).val := h1
        have hx : (x 1).val < 128 := (x 1).isLt
        refine (pay3_apply _ _ _).trans ((both m c t x).trans ?_)
        refine Eq.trans ?_ (dif_pos (show (i 1).val - 6656 < 128 by omega)).symm
        refine congrArg (val_main_v5 (F := Ideal) (m (c.tc.loc main_arg0)) (m (c.tc.loc main_arg1))) (funext fun a => Fin.ext ?_)
        fin_cases a
        · show t.val * 256 + (x 0).val = (i 0).val
          omega
        · show (x 1).val = (i 1).val - 6656
          omega
    · rw [outsAt0_B m c t h0]; frame_out
      canon_tiles x h
      · have hx1 : (y 1).val = 128 + (x 1).val := h1
        refine (pay4_apply _).trans ?_
        symm
        exact dif_neg (show ¬ (i 1).val - 6656 < 128 by omega)
      · have hx0 : (y 0).val = (x 0).val := h0
        have hx1 : (y 1).val = (x 1).val := h1
        have hx : (x 1).val < 128 := (x 1).isLt
        refine (pay3_apply _ _ _).trans ((both m c t x).trans ?_)
        refine Eq.trans ?_ (dif_pos (show (i 1).val - 6656 < 128 by omega)).symm
        refine congrArg (val_main_v5 (F := Ideal) (m (c.tc.loc main_arg0)) (m (c.tc.loc main_arg1))) (funext fun a => Fin.ext ?_)
        fin_cases a
        · show t.val * 256 + (x 0).val = (i 0).val
          omega
        · show (x 1).val = (i 1).val - 6656
          omega
  · funext i
    by_cases h : (i 0 : ℕ) / 256 < 17 ∧ (i 1 : ℕ) / 256 = 26
    · exact if_pos h
    · refine (if_neg h).trans ?_
      have i0 : (i 0).val < 4352 := (i 0).isLt
      have i1 : (i 1).val < 6912 := (i 1).isLt
      rw [v12_apply, dif_neg (by omega)]
      exact congrFun (by entry_read; rfl : V m c main_v0_0 = (m (c.tc.loc main_arg2))) i

/-- What point `t` adds to the accumulated column sums: the sum of its rows, in row 0. -/
def term (c : Dev nD) (t : Fin cfg0.N) (i : S8x128.Idx) : EReal :=
  if (i 0).val = 0 then
    ∑ k : Fin 256, val_main_v5 (F := Ideal) (m (c.tc.loc main_arg0)) (m (c.tc.loc main_arg1)) (ValueIdx.ix2 ⟨t.val * 256 + k.val, by have := point_lt t; omega⟩ ⟨(i 1).val, (i 1).isLt⟩)
  else 0

theorem term_of_row (c : Dev nD) (t : Fin cfg0.N) (i : S8x128.Idx) (b : Fin 128) (hi : (i 0).val = 0) (hb : (i 1).val = b.val) :
    (∑ k : Fin 256, k0_pay2 (iblk m c 0 t) (iblk m c 1 t) (ValueIdx.ix2 k b) : EReal) = term m c t i := by
  unfold term
  rw [if_pos hi]
  exact Finset.sum_congr rfl fun k _ => (both m c t (ValueIdx.ix2 k b)).trans (Sums.read_column (val_main_v5 (F := Ideal) (m (c.tc.loc main_arg0)) (m (c.tc.loc main_arg1))) hb.symm)

/-- A row which is not the first lies outside the stored row. -/
theorem row_ne {i : S8x128.Idx} (h : ¬ ∀ a : Fin 2, ![0, 0] a ≤ (i a).val ∧ (i a).val < ![0, 0] a + S1x128.size a) : ¬ (i 0).val = 0 := by
  intro hi
  have b1 : (i 1).val < 128 := (i 1).isLt
  refine h fun a => ?_
  fin_cases a
  · exact ⟨Nat.zero_le _, by show (i 0).val < 0 + 1; omega⟩
  · exact ⟨Nat.zero_le _, by show (i 1).val < 0 + 128; omega⟩

theorem step_first (c : Dev nD) (t : Fin cfg0.N) (h0 : t.val % 17 = 0) (i : S8x128.Idx) :
    (outsAt0 m c t.val t.isLt).2 i = ((0 : S8x128.Idx → EReal) i + term m c t i : EReal) := by
  rw [outsAt0_A m c t h0]; frame_out
  have b0 : (i 0).val < 8 := (i 0).isLt
  have b1 : (i 1).val < 128 := (i 1).isLt
  rw [Pieces.canon_cons_unit]
  split
  next h =>
    have a0 : (i 0).val = 0 := by have : (i 0).val < 0 + 1 := (h 0).2; omega
    refine (pay5_apply _ _ _ _).trans (congrArg₂ (· + ·) ?_ (term_of_row m c t i _ a0 ?_))
    · rw [View.readCov_eq_canon']
      beta_reduce
      rw [Pieces.canon_cons_unit, dif_pos]
      · exact pay1_apply _
      · intro a
        fin_cases a
        · exact ⟨Nat.zero_le _, by show 0 + 1 * ((i 0).val - 0) < 0 + 8; omega⟩
        · exact ⟨Nat.zero_le _, by show 0 + 1 * ((i 1).val - 0) < 0 + 128; omega⟩
    · show (i 1).val = (i 1).val - 0
      omega
  next h =>
    rw [Pieces.canon_cons_unit, dif_pos]
    · refine (pay1_apply _).trans ?_
      unfold term
      rw [if_neg (row_ne h)]
      exact (zero_add _).symm
    · intro a
      fin_cases a
      · exact ⟨Nat.zero_le _, by show (i 0).val < 0 + 8; omega⟩
      · exact ⟨Nat.zero_le _, by show (i 1).val < 0 + 128; omega⟩

theorem step_next (c : Dev nD) (t : Fin cfg0.N) (h0 : ¬ t.val % 17 = 0) (i : S8x128.Idx) :
    (outsAt0 m c t.val t.isLt).2 i
      = ((outsAt0 m c (t.val - 1) (Nat.lt_of_le_of_lt (Nat.sub_le _ _) t.isLt)).2 i + term m c t i : EReal) := by
  rw [outsAt0_B m c t h0]; frame_out
  generalize (outsAt0 m c (t.val - 1) _).2 = prev
  rw [View.read_writes_cons_unit (heq := rfl)]
  split
  next h =>
    have a0 : (i 0).val = 0 := by have : (i 0).val < 0 + 1 := (h 0).2; omega
    refine (pay5_apply _ _ _ _).trans (congrArg₂ (· + ·) ?_ (term_of_row m c t i _ a0 ?_))
    · rw [View.ld_apply]
      refine congrArg prev (funext fun a => Fin.ext ?_)
      fin_cases a
      · show 0 + 1 * ((i 0).val - 0) = (i 0).val
        omega
      · show 0 + 1 * ((i 1).val - 0) = (i 1).val
        omega
    · show (i 1).val = (i 1).val - 0
      omega
  next h =>
    refine (congrFun (Memref.IsWhole.read_unread _ prev) i).trans ?_
    unfold term
    rw [if_neg (row_ne h)]
    exact (add_zero _).symm

theorem v14_apply (x0 x1) (i : S8x128.Idx) :
    val_main_v14 (F := Ideal) x0 x1 i
      = (if (i 0).val = 0 then ∑ l : Fin 4352, val_main_v5 (F := Ideal) x0 x1 (ValueIdx.ix2 l ⟨(i 1).val, (i 1).isLt⟩) else 0 : EReal) := by
  pointwise [val_main_v14, val_main_call1_v0, val_main_c_5, val_main_v13, val_main_v9, val_main_v8, val_main_v7, val_main_cst_1, val_main_cst_2]
  by_cases h : (i 0).val = 0
  · rw [dif_pos (by omega), if_pos h]
    exact Fin.sum_univ_one _
  · rw [dif_neg (by omega), if_neg h]
    show ((((0#32 : BitVec 32).toInt : ℤ) : ℝ) : EReal) = 0
    simp

theorem final_3 (c : Dev nD) : (dats m 0 c).arrAt 3 cfg0.N = val_main_v14 (F := Ideal) (m (c.tc.loc main_arg0)) (m (c.tc.loc main_arg1)) := by
  refine (dats m 0 c).arrAt_eq_of_after_last 3 ⟨16, by decide⟩ (by decide +kernel) _ fun j => ?_
  rw [after0_3]
  have e := Pipeline.eq_sum_fin_of_reset_step_apply_last (fun n h => ((outsAt0 m c n h).2 : S8x128.Idx → EReal)) 17 0
    (term m c) (step_first m c) (step_next m c) (by decide) ⟨16, by decide⟩ (by decide) j
  refine e.trans ?_
  refine (zero_add _).trans ?_
  refine Eq.trans ?_ (v14_apply _ _ _).symm
  have ej : (((cfg0.win 3).arr.view.emb j) : S8x128.Idx) = j := rfl
  rw [ej]
  unfold term
  by_cases h : (j 0).val = 0
  · simp only [if_pos h]
    exact Fin.sum_mul_add_fin 17 256 (fun l : Fin 4352 => val_main_v5 (F := Ideal) (m (c.tc.loc main_arg0)) (m (c.tc.loc main_arg1)) (ValueIdx.ix2 l ⟨(j 1).val, (j 1).isLt⟩))
  · simp only [if_neg h]
    exact Finset.sum_const_zero

end Cert.Kernel25Ideal.RefValue

end
-- ==== Proof.DtBackwardClaim.lean ====
/- The value claim of the gradient of the scan's steps. -/
module

public import proofs.«01_k».proof.Defs
public import proofs.«01_k».proof.Proof.DtBackward

@[expose] public section

set_option maxRecDepth 16384

noncomputable section

namespace Cert.Kernel25Ideal.RefValue

open Kernel25Ideal Kernel25Ideal.Gen Idealize.ShloMosaic Idealize.ShloMosaic.TcCoe Idealize.SL.Sem
open Reference25Ideal.Read

/-- The reference runs, keeps its arguments, and leaves every semaphore at zero. -/
theorem reference_quiescent [hR : Reference25Ideal.Facts] : Cert.quiescent_Reference25Ideal (hReference25Ideal := hR) := by
  intro m ρ _
  refine (θ_run Reference25Ideal.defs _ _).mono (fun r h => ⟨fun c => ?_, sem_eq_zero_of_no_sems (by decide) r.2⟩)
    (Reference25Ideal.Value.run (F := Ideal) m ρ)
  exact (h c).2.2

/-- Both programs, from memories agreeing on the arguments, run and end with equal results. -/
theorem algebraic [hK : Kernel25Ideal.Facts] [hR : Reference25Ideal.Facts] :
    Cert.algebraic_Kernel25Ideal_Reference25Ideal (hKernel25Ideal := hK) (hReference25Ideal := hR) := by
  intro m ρ m' ρ' _ hagree
  refine ⟨fun c => val_main_v12 (F := Ideal) (m (c.tc.loc main_arg0)) (m (c.tc.loc main_arg1)) (m (c.tc.loc main_arg2)), fun c => val_main_v14 (F := Ideal) (m (c.tc.loc main_arg0)) (m (c.tc.loc main_arg1)), ?_, ?_⟩
  · refine (θ_run Kernel25Ideal.defs _ _).mono (fun r h c => ?_) (Kernel25Ideal.Value.run_blocks m ρ)
    obtain ⟨h0, h1, hk⟩ := h c
    exact ⟨h0.trans (final_2 m c), h1.trans (final_3 m c), hk⟩
  · refine (θ_run Reference25Ideal.defs _ _).mono (fun r h c => ?_) (Reference25Ideal.Value.run (F := Ideal) m' ρ')
    obtain ⟨h0, h1, hk⟩ := h c
    obtain ⟨e0, e1, e2⟩ := hagree c
    refine ⟨h0.trans ?_, h1.trans ?_, hk⟩
    · rw [e0, e1, e2]
      exact val_main_v12_eq _ _ _
    · rw [e0, e1]
      exact val_main_v14_eq _ _

end Cert.Kernel25Ideal.RefValue

end
-- ==== Proof.MixForward.lean ====
/- The forward mixing: the gated norm of the scan's rows, and the gated spatial mixing. -/
module

public import proofs.«01_k».proof.Proof.Gen.Kernel26Ideal.Value
public import proofs.«01_k».proof.Proof.Gen.Reference26Ideal.Run
public import proofs.«01_k».proof.Proof.Gen.Reference26Ideal.Read
public import proofs.«01_k».proof.Proof.Sums
public import proofs.«01_k».proof.Proof.LayerNorm
public import Idealize.ShloMosaic.Lib.Pipeline.ValueKit
public import Idealize.ShloMosaic.Lib.Pointwise

@[expose] public section

set_option maxRecDepth 16384

noncomputable section

namespace Cert.Kernel26Ideal.RefValue

open Kernel26Ideal Kernel26Ideal.Gen Idealize.ShloMosaic Idealize.ShloMosaic.TcCoe Idealize.SL.Sem
open Idealize.ShloMosaic.Pipeline (Dat)
open Reference26Ideal.Read

variable (m : (ℓ : Loc nD τ sig) → Buf (Elt Ideal) ℓ)

/-! The arguments of the call, at a device. -/

abbrev arg0 (c : Dev nD) := m (c.tc.loc main_arg0)
abbrev arg1 (c : Dev nD) := m (c.tc.loc main_arg1)
abbrev arg2 (c : Dev nD) := m (c.tc.loc main_arg2)
abbrev arg3 (c : Dev nD) := m (c.tc.loc main_arg3)
abbrev arg4 (c : Dev nD) := m (c.tc.loc main_arg4)
abbrev arg5 (c : Dev nD) := m (c.tc.loc main_arg5)
abbrev arg6 (c : Dev nD) := m (c.tc.loc main_arg6)
abbrev arg7 (c : Dev nD) := m (c.tc.loc main_arg7)
abbrev arg8 (c : Dev nD) := m (c.tc.loc main_arg8)
abbrev arg9 (c : Dev nD) := m (c.tc.loc main_arg9)

/-! The block each window visits at a grid point. -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 1] := (by decide +kernel : ∀ t : Fin grid0.N, _)
theorem idx5 : ∀ t : Fin cfg0.N, win0_5.index t = ![t.val, 2] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)

theorem point_lt (t : Fin cfg0.N) : t.val < 16 := lt_of_lt_of_eq t.isLt N_0

/-- A row of the sequence at a point. -/
abbrev row (t : Fin cfg0.N) (p : Fin 256) : Fin 4096 := ⟨t.val * 256 + p.val, by have := point_lt t; omega⟩
/-- The same row, in an array that also holds the context's rows. -/
abbrev long (p : Fin 4096) : Fin 4352 := ⟨p.val, by omega⟩

/-! What each input window holds at a grid point. -/

theorem block0 (c : Dev nD) (t : Fin cfg0.N) (p : Fin 256) (q : Fin 1024) : iblk m c 0 t (ValueIdx.ix2 p q) = (arg0 m c (ValueIdx.ix2 (long (row t p)) q) : EReal) := by
  blk_ext! [iblk, V, idx0]
theorem block1 (c : Dev nD) (t : Fin cfg0.N) (p : Fin 256) (q : Fin 1024) : iblk m c 1 t (ValueIdx.ix2 p q) = (arg1 m c (ValueIdx.ix2 (long (row t p)) q) : EReal) := by
  blk_ext! [iblk, V, idx1]
theorem block2 (c : Dev nD) (t : Fin cfg0.N) (p : Fin 256) (q : Fin 1024) : X0_2 m c t (ValueIdx.ix2 p q) = (arg2 m c (ValueIdx.ix2 (long (row t p)) ⟨0 + q.val, by omega⟩) : EReal) := by
  unfold X0_2 Pipeline.Window.fill
  refine (dif_pos (moved0_2 t _)).trans ?_
  blk_ext! [iblk, V, idx2]
theorem block3 (c : Dev nD) (t : Fin cfg0.N) (p : Fin 256) (q : Fin 1024) : X0_3 m c t (ValueIdx.ix2 p q) = (arg3 m c (ValueIdx.ix2 (long (row t p)) ⟨0 + q.val, by omega⟩) : EReal) := by
  unfold X0_3 Pipeline.Window.fill
  refine (dif_pos (moved0_3 t _)).trans ?_
  blk_ext! [iblk, V, idx3]
theorem block4 (c : Dev nD) (t : Fin cfg0.N) (p : Fin 256) (q : Fin 1024) : X0_4 m c t (ValueIdx.ix2 p q) = (arg2 m c (ValueIdx.ix2 (long (row t p)) ⟨1024 + q.val, by omega⟩) : EReal) := by
  unfold X0_4 Pipeline.Window.fill
  refine (dif_pos (moved0_4 t _)).trans ?_
  blk_ext! [iblk, V, idx4]
theorem block5 (c : Dev nD) (t : Fin cfg0.N) (p : Fin 256) (q : Fin 1024) : X0_5 m c t (ValueIdx.ix2 p q) = (arg2 m c (ValueIdx.ix2 (long (row t p)) ⟨2048 + q.val, by omega⟩) : EReal) := by
  unfold X0_5 Pipeline.Window.fill
  refine (dif_pos (moved0_5 t _)).trans ?_
  blk_ext! [iblk, V, idx5]

/-- The skip weight of a feature: the sum of its head's two. -/
def skip (x4 : FVec Ideal S2x16 .f32) (q : Fin 1024) : EReal :=
  x4 (ValueIdx.ix2 0 ⟨q.val / 64, by omega⟩) + x4 (ValueIdx.ix2 1 ⟨q.val / 64, by omega⟩)

theorem read_v7 (c : Dev nD) : V m c main_v7 = shapeCast S1x1024 (shapeCast S1024 (broadcastInDim S16x64 ![0] bcast_S16_S16x64_0 (val_main_v37 (F := Ideal) (arg4 m c))) shapeCasts_S16x64_S1024) shapeCasts_S1024_S1x1024 := by
  entry_read; rfl

theorem block6 (c : Dev nD) (t : Fin cfg0.N) (q : Fin 1024) : iblk m c 6 t (ValueIdx.ix2 0 q) = skip (arg4 m c) q := by
  show V m c main_v7 (((cfg0.win 6).blk t).view.emb (ValueIdx.ix2 0 q)) = _
  rw [read_v7]
  have e : ((cfg0.win 6).blk t).view.emb (ValueIdx.ix2 0 q) = ValueIdx.ix2 0 q := by
    blk_ext! [idx6]
  rw [e]
  pointwise [val_main_v33, val_main_v34, val_main_v35, val_main_v36, val_main_v37]
  rfl

theorem read_v8 (c : Dev nD) : V m c main_v8 = shapeCast S1x1024 (arg5 m c) shapeCasts_S1024_S1x1024 := by
  entry_read; rfl

theorem block7 (c : Dev nD) (t : Fin cfg0.N) (j : S1x1024.Idx) : iblk m c 7 t j = (arg5 m c (ValueIdx.ix1 (j 1)) : EReal) := by
  show V m c main_v8 (((cfg0.win 7).blk t).view.emb j) = _
  rw [read_v8]
  pointwise []
  blk_ext! [idx7]

theorem read_v9 (c : Dev nD) : V m c main_v9 = shapeCast S1x1024 (arg6 m c) shapeCasts_S1024_S1x1024 := by
  entry_read; rfl

theorem block8 (c : Dev nD) (t : Fin cfg0.N) (j : S1x1024.Idx) : iblk m c 8 t j = (arg6 m c (ValueIdx.ix1 (j 1)) : EReal) := by
  show V m c main_v9 (((cfg0.win 8).blk t).view.emb j) = _
  rw [read_v9]
  pointwise []
  blk_ext! [idx8]

theorem read_v10 (c : Dev nD) : V m c main_v10 = shapeCast S1x1024 (arg7 m c) shapeCasts_S1024_S1x1024 := by
  entry_read; rfl

theorem block9 (c : Dev nD) (t : Fin cfg0.N) (j : S1x1024.Idx) : iblk m c 9 t j = (arg7 m c (ValueIdx.ix1 (j 1)) : EReal) := by
  show V m c main_v10 (((cfg0.win 9).blk t).view.emb j) = _
  rw [read_v10]
  pointwise []
  blk_ext! [idx9]

theorem read_v11 (c : Dev nD) : V m c main_v11 = (truncf (F := Ideal) (s := S8x128x128) (φ := .f32) .bf16 (arg8 m c) bitsLt_bf16_f32 : FVec Ideal S8x128x128 .bf16) := by
  entry_read; rfl

theorem block10 (c : Dev nD) (t : Fin cfg0.N) (j : S8x128x128.Idx) : iblk m c 10 t j = (arg8 m c j : EReal) := by
  show V m c main_v11 (((cfg0.win 10).blk t).view.emb j) = _
  rw [read_v11]
  blk_ext! [idx10]

theorem read_v13 (c : Dev nD) : V m c main_v13 = pad S128x128 ![0, 0] ![0, 120] ![0, 0] (transpose S128x8 [1, 0] (arg9 m c) transposes_S8x128_S128x8_1_0) (sitofp (F := Ideal) .f32 (constantI S_ 32 0#32) : FVec Ideal S_ .f32) pads_S128x8_S128x128_000_01200 h_S_ := by
  entry_read; rfl

/-- The transposed and padded bias, in a column that the transposed bias has. -/
theorem padded (x : FVec Ideal S8x128 .f32) (v : FVec Ideal S_ .f32) (p : Fin 128) (g : Fin 128) (h : g.val < 8) :
    pad S128x128 ![0, 0] ![0, 120] ![0, 0] (transpose S128x8 [1, 0] x transposes_S8x128_S128x8_1_0) v pads_S128x8_S128x128_000_01200 h_S_ (ValueIdx.ix2 p g)
      = (x (ValueIdx.ix2 ⟨g.val, h⟩ p) : EReal) := by
  pointwise []
  exact dif_pos h

theorem block11 (c : Dev nD) (t : Fin cfg0.N) (p g : Fin 128) (h : g.val < 8) : iblk m c 11 t (ValueIdx.ix2 p g) = (arg9 m c (ValueIdx.ix2 ⟨g.val, h⟩ p) : EReal) := by
  show V m c main_v13 (((cfg0.win 11).blk t).view.emb (ValueIdx.ix2 p g)) = _
  rw [read_v13]
  have e : ((cfg0.win 11).blk t).view.emb (ValueIdx.ix2 p g) = ValueIdx.ix2 p g := by
    blk_ext! [idx11]
  rw [e]
  exact padded _ _ _ _ h

/-! The formulas of one row. -/

/-- The activation, as the call writes its products. -/
def gelu (x : EReal) : EReal := Ideal.ofBits .f32 0x3F000000#32 * x * (1
  + Ideal.tanh (Ideal.ofBits .f32 0x3F4C422A#32 * (x + Ideal.ofBits .f32 0x3D372713#32 * x * x * x)))

theorem gelu_eq (x : EReal) : gelu x = x * (Ideal.ofBits .f32 0x3F000000#32 * (1
    + Ideal.tanh (Ideal.ofBits .f32 0x3F4C422A#32 * (x + Ideal.ofBits .f32 0x3D372713#32 * (x * x * x))))) := by
  unfold gelu
  rw [mul_comm _ x, mul_assoc x, mul_assoc _ x x, mul_assoc _ x (x * x), mul_assoc x x x]

/-- A row divided by the root of its mean square. -/
def rms (r : LayerNorm.Row) : LayerNorm.Row := fun j => r j * Ideal.rsqrt (LayerNorm.mean (fun k => r k * r k) + LayerNorm.eps)

/-! What the body computes of a block's rows. -/

theorem gate_apply (v : FVec Ideal S256x1024 .f32) (z : S256x1024.Idx) : k0_pay5 (F := Ideal) v (k0_pay4 v) z = gelu (v z) := by
  unfold k0_pay5 k0_pay4
  pointwise []
  rfl

theorem hat_apply (v : FVec Ideal S256x1024 .f32) (g b : FVec Ideal S1x1024 .f32) (p : Fin 256) (q : Fin 1024) :
    k0_pay6 (F := Ideal) v (k0_pay1 g) (k0_pay2 b) (ValueIdx.ix2 p q)
      = (LayerNorm.hat (fun k => gelu (v (ValueIdx.ix2 p k))) q * g (ValueIdx.ix2 0 q) + b (ValueIdx.ix2 0 q) : EReal) := by
  unfold k0_pay6 k0_pay1 k0_pay2
  pointwise []
  rfl

theorem rms_apply (a b z x : FVec Ideal S256x1024 .f32) (d g : FVec Ideal S1x1024 .f32) (p : Fin 256) (q : Fin 1024) :
    k0_pay7 (F := Ideal) (k0_pay3 a b z x d) g (ValueIdx.ix2 p q)
      = (rms (fun k => (a (ValueIdx.ix2 p k) + b (ValueIdx.ix2 p k) + x (ValueIdx.ix2 p k) * d (ValueIdx.ix2 0 k)) * z (ValueIdx.ix2 p k) * Ideal.logistic (z (ValueIdx.ix2 p k))) q * g (ValueIdx.ix2 0 q) : EReal) := by
  unfold k0_pay7 k0_pay3
  pointwise []
  rfl

/-! What the reference's arrays hold of a row. -/

theorem v17_apply (x2) (p : Fin 4096) (q : Fin 1024) : val_main_v17 (F := Ideal) x2 (ValueIdx.ix2 p q) = gelu (x2 (ValueIdx.ix2 (long p) ⟨1024 + q.val, by omega⟩)) := by
  rw [gelu_eq]
  pointwise [val_main_v4, val_main_v5, val_main_v6, val_main_cst, val_main_v7, val_main_v8, val_main_v9, val_main_cst_0, val_main_v10, val_main_v11, val_main_v12, val_main_cst_1, val_main_v13, val_main_v14, val_main_cst_2, val_main_v15, val_main_v16, val_main_v17]
  rfl

theorem v31_apply (x2) (p : Fin 4096) (q : Fin 1024) : val_main_v31 (F := Ideal) x2 (ValueIdx.ix2 p q) = gelu (x2 (ValueIdx.ix2 (long p) ⟨2048 + q.val, by omega⟩)) := by
  rw [gelu_eq]
  pointwise [val_main_v18, val_main_v19, val_main_v20, val_main_cst_3, val_main_v21, val_main_v22, val_main_v23, val_main_cst_4, val_main_v24, val_main_v25, val_main_v26, val_main_cst_5, val_main_v27, val_main_v28, val_main_cst_6, val_main_v29, val_main_v30, val_main_v31]
  rfl

theorem v83_apply (x2 x6 x7) (p : Fin 4096) (q : Fin 1024) : val_main_v83 (F := Ideal) x2 x6 x7 (ValueIdx.ix2 p q)
    = (LayerNorm.hat (fun k => val_main_v31 (F := Ideal) x2 (ValueIdx.ix2 p k)) q * x6 (ValueIdx.ix1 q) + x7 (ValueIdx.ix1 q) : EReal) := by
  pointwise [val_main_cst_10, val_main_v60, val_main_v61, val_main_cst_11, val_main_v62, val_main_v63, val_main_v64, val_main_v65, val_main_v66, val_main_cst_12, val_main_v67, val_main_v68, val_main_cst_13, val_main_v69, val_main_v70, val_main_v71, val_main_v72, val_main_cst_14, val_main_v73, val_main_v74, val_main_v75, val_main_v76, val_main_v77, val_main_v78, val_main_v79, val_main_v80, val_main_v81, val_main_v82, val_main_v83]
  rfl

theorem v46_apply (x0 x1 x2 x3 x4) (p : Fin 4096) (q : Fin 1024) : val_main_v46 (F := Ideal) x0 x1 x2 x3 x4 (ValueIdx.ix2 p q)
    = ((x0 (ValueIdx.ix2 (long p) q) + x1 (ValueIdx.ix2 (long p) q) + x3 (ValueIdx.ix2 (long p) ⟨0 + q.val, by omega⟩) * skip x4 q) * x2 (ValueIdx.ix2 (long p) ⟨0 + q.val, by omega⟩) * Ideal.logistic (x2 (ValueIdx.ix2 (long p) ⟨0 + q.val, by omega⟩)) : EReal) := by
  rw [mul_assoc]
  pointwise [Ideal.logistic, skip, val_main_v0, val_main_v1, val_main_v2, val_main_v3, val_main_v32, val_main_v33, val_main_v34, val_main_v35, val_main_v36, val_main_v37, val_main_v38, val_main_v39, val_main_v40, val_main_v41, val_main_v42, val_main_v43, val_main_v44, val_main_call0_v0, val_main_call0_v1, val_main_call0_cst, val_main_call0_v2, val_main_call0_v3, val_main_call0_cst_0, val_main_call0_v4, val_main_call0_v5, val_main_v45, val_main_v46]
  rfl

theorem v59_apply (x0 x1 x2 x3 x4 x5) (p : Fin 4096) (q : Fin 1024) : val_main_v59 (F := Ideal) x0 x1 x2 x3 x4 x5 (ValueIdx.ix2 p q)
    = (rms (fun k => val_main_v46 (F := Ideal) x0 x1 x2 x3 x4 (ValueIdx.ix2 p k)) q * x5 (ValueIdx.ix1 q) : EReal) := by
  pointwise [val_main_v47, val_main_cst_7, val_main_v48, val_main_v49, val_main_cst_8, val_main_v50, val_main_v51, val_main_cst_9, val_main_v52, val_main_v53, val_main_v54, val_main_v55, val_main_v56, val_main_v57, val_main_v58, val_main_v59]
  rfl

/-! The reference's gates, normalised rows and mixed rows. -/

abbrev gates (c : Dev nD) := val_main_v17 (F := Ideal) (arg2 m c)
abbrev norms (c : Dev nD) := val_main_v83 (F := Ideal) (arg2 m c) (arg6 m c) (arg7 m c)
abbrev mixes (c : Dev nD) := val_main_v95 (F := Ideal) (arg2 m c) (arg6 m c) (arg7 m c) (arg8 m c) (arg9 m c)

/-! The gate and the normalised rows that the body computes at a point. -/

abbrev gate (c : Dev nD) (t : Fin cfg0.N) := k0_pay5 (F := Ideal) (X0_4 m c t) (k0_pay4 (X0_4 m c t))
abbrev norm (c : Dev nD) (t : Fin cfg0.N) := k0_pay6 (F := Ideal) (X0_5 m c t) (k0_pay1 (iblk m c 8 t)) (k0_pay2 (iblk m c 9 t))

/-! The spatial mixing of a group of rows and a group of features. -/

/-- One entry of a tile: the gate, times the weighted sum of the group's rows and the bias. -/
def mixed (u : FVec Ideal S256x1024 .f32) (n : FVec Ideal S256x1024 .f32) (w : FVec Ideal S1x128x128 .bf16) (b : FVec Ideal S128x1 .f32) (a : Fin 2) (g : Fin 8) (x : S128x128.Idx) : EReal :=
  u (ValueIdx.ix2 ⟨a.val * 128 + (x 0).val, by have : (x 0).val < 128 := (x 0).isLt; omega⟩ ⟨g.val * 128 + (x 1).val, by have : (x 1).val < 128 := (x 1).isLt; omega⟩)
    * (Sums.dot (fun k : Fin 128 => w (ValueIdx.ix3 0 (x 0) k)) (fun k : Fin 128 => n (ValueIdx.ix2 ⟨a.val * 128 + k.val, by omega⟩ ⟨g.val * 128 + (x 1).val, by have : (x 1).val < 128 := (x 1).isLt; omega⟩))
      + b (ValueIdx.ix2 (x 0) 0))

/-! Each of the sixteen tiles the body computes. -/

theorem tile00 (u n w b) (x) : k0_pay8 (F := Ideal) u n w b x = mixed u n w b 0 0 x := by
  unfold k0_pay8 mixed
  pointwise []
  rfl
theorem tile01 (u n w b) (x) : k0_pay9 (F := Ideal) u n w b x = mixed u n w b 0 1 x := by
  unfold k0_pay9 mixed
  pointwise []
  rfl
theorem tile02 (u n w b) (x) : k0_pay11 (F := Ideal) u (k0_pay10 n w b) x = mixed u n w b 0 2 x := by
  unfold k0_pay10 k0_pay11 mixed
  pointwise []
  rfl
theorem tile03 (u n w b) (x) : k0_pay12 (F := Ideal) u n w b x = mixed u n w b 0 3 x := by
  unfold k0_pay12 mixed
  pointwise []
  rfl
theorem tile04 (u n w b) (x) : k0_pay13 (F := Ideal) u n w b x = mixed u n w b 0 4 x := by
  unfold k0_pay13 mixed
  pointwise []
  rfl
theorem tile05 (u n w b) (x) : k0_pay15 (F := Ideal) u (k0_pay14 n w) b x = mixed u n w b 0 5 x := by
  unfold k0_pay14 k0_pay15 mixed
  pointwise []
  rfl
theorem tile06 (u n w b) (x) : k0_pay16 (F := Ideal) u n w b x = mixed u n w b 0 6 x := by
  unfold k0_pay16 mixed
  pointwise []
  rfl
theorem tile07 (u n w b) (x) : k0_pay17 (F := Ideal) u n w b x = mixed u n w b 0 7 x := by
  unfold k0_pay17 mixed
  pointwise []
  rfl
theorem tile10 (u n w b) (x) : k0_pay18 (F := Ideal) u n w b x = mixed u n w b 1 0 x := by
  unfold k0_pay18 mixed
  pointwise []
  rfl
theorem tile11 (u n w b) (x) : k0_pay19 (F := Ideal) u n w b x = mixed u n w b 1 1 x := by
  unfold k0_pay19 mixed
  pointwise []
  rfl
theorem tile12 (u n w b) (x) : k0_pay20 (F := Ideal) u n w b x = mixed u n w b 1 2 x := by
  unfold k0_pay20 mixed
  pointwise []
  rfl
theorem tile13 (u n w b) (x) : k0_pay21 (F := Ideal) u n w b x = mixed u n w b 1 3 x := by
  unfold k0_pay21 mixed
  pointwise []
  rfl
theorem tile14 (u n w b) (x) : k0_pay22 (F := Ideal) u n w b x = mixed u n w b 1 4 x := by
  unfold k0_pay22 mixed
  pointwise []
  rfl
theorem tile15 (u n w b) (x) : k0_pay25 (F := Ideal) u (k0_pay23 n w) (k0_pay24 b) x = mixed u n w b 1 5 x := by
  unfold k0_pay23 k0_pay24 k0_pay25 mixed
  pointwise []
  rfl
theorem tile16 (u n w b) (x) : k0_pay26 (F := Ideal) u n w b x = mixed u n w b 1 6 x := by
  unfold k0_pay26 mixed
  pointwise []
  rfl
theorem tile17 (u n w b) (x) : k0_pay27 (F := Ideal) u n w b x = mixed u n w b 1 7 x := by
  unfold k0_pay27 mixed
  pointwise []
  rfl

/-- The mixed rows of the reference, in the group of a row and the group of a feature. -/
theorem v92_apply (x2 x6 x7 x8 x9) (p : Fin 4096) (q : Fin 1024) : val_main_v92 (F := Ideal) x2 x6 x7 x8 x9 (ValueIdx.ix2 p q)
    = (Sums.dot (fun k : Fin 128 => val_main_v83 (F := Ideal) x2 x6 x7 (ValueIdx.ix2 ⟨p.val / 128 * 128 + k.val, by omega⟩ q)) (fun k : Fin 128 => x8 (ValueIdx.ix3 ⟨q.val / 128, by omega⟩ ⟨p.val % 128, by omega⟩ k))
      + x9 (ValueIdx.ix2 ⟨q.val / 128, by omega⟩ ⟨p.val % 128, by omega⟩) : EReal) := by
  pointwise [val_main_v84, val_main_v85, val_main_v86, val_main_v87, val_main_v88, val_main_v89, val_main_v90, val_main_v91, val_main_v92]
  rfl

/-- The normed rows are the reference's. -/
theorem final_12 (c : Dev nD) : (dats m 0 c).arrAt 12 cfg0.N = val_main_v94 (F := Ideal) (arg0 m c) (arg1 m c) (arg2 m c) (arg3 m c) (arg4 m c) (arg5 m c) := by
  refine (dats m 0 c).arrAt_eq_of_covers 12 _ (by decide +kernel) fun t hf y => ?_
  blk_simp
  rw [after0_12]
  have e : (outsAt0 m c t).1 = k0_pay7 (k0_pay3 (iblk m c 0 t) (iblk m c 1 t) (X0_2 m c t) (X0_3 m c t) (iblk m c 6 t)) (iblk m c 7 t) := by
    unfold outsAt0
    frame_out
  rw [e]
  obtain ⟨p, q, rfl⟩ := Sums.pair y
  have hi : ((View.whole main_v14_0).slice (win0_12.rect t)).emb (ValueIdx.ix2 p q) = ValueIdx.ix2 (row t p) q := by
    blk_ext! [idx12]
  rw [rms_apply, hi]
  simp only [block0, block1, block2, block3, block6, block7]
  refine Eq.trans ?_ (v59_apply _ _ _ _ _ _ (row t p) q).symm
  simp only [v46_apply]

/-- The gate of a point's rows. -/
theorem gate_eq (c : Dev nD) (t : Fin cfg0.N) (p : Fin 256) (q : Fin 1024) :
    gate m c t (ValueIdx.ix2 p q) = gates m c (ValueIdx.ix2 (row t p) q) := by
  unfold gate gates
  rw [gate_apply, block4, v17_apply]

/-- The normalised rows of a point. -/
theorem norm_eq (c : Dev nD) (t : Fin cfg0.N) (p : Fin 256) (q : Fin 1024) :
    norm m c t (ValueIdx.ix2 p q) = norms m c (ValueIdx.ix2 (row t p) q) := by
  unfold norm norms
  rw [hat_apply, v83_apply]
  simp only [block5, block8, block9, v31_apply]

/-- The weights of a group of features, as the body loads them. -/
theorem weights (c : Dev nD) (t : Fin cfg0.N) (g : Fin 8) (hin) (p k : Fin 128) :
    View.ld (iblk m c 10 t) (Rect.unit ![g.val, 0, 0] ![1, 128, 128] hin) (ValueIdx.ix3 0 p k) = (m (c.tc.loc main_arg8) (ValueIdx.ix3 g p k) : EReal) := by
  rw [View.ld_apply, block10]
  refine congrArg _ (funext fun a => Fin.ext ?_)
  fin_cases a
  · show g.val + 1 * 0 = g.val
    omega
  · show 0 + 1 * p.val = p.val
    omega
  · show 0 + 1 * k.val = k.val
    omega

/-- The bias of a group of features, as the body loads it. -/
theorem bias (c : Dev nD) (t : Fin cfg0.N) (g : Fin 8) (hin) (p : Fin 128) :
    View.ld (iblk m c 11 t) (Rect.unit ![0, g.val] ![128, 1] hin) (ValueIdx.ix2 p 0) = (m (c.tc.loc main_arg9) (ValueIdx.ix2 g p) : EReal) := by
  refine Eq.trans ?_ (block11 m c t p ⟨g.val, by omega⟩ g.isLt)
  rw [View.ld_apply]
  refine congrArg _ (funext fun a => Fin.ext ?_)
  fin_cases a
  · show 0 + 1 * p.val = p.val
    omega
  · show g.val + 1 * 0 = g.val
    omega

/-- A tile of a point is the reference's. -/
theorem tile (c : Dev nD) (t : Fin cfg0.N) (w : FVec Ideal S1x128x128 .bf16) (b : FVec Ideal S128x1 .f32) (a : Fin 2) (g : Fin 8) (x : S128x128.Idx) (i : S4096x1024.Idx)
    (h0 : (i 0).val = t.val * 256 + (a.val * 128 + (x 0).val)) (h1 : (i 1).val = g.val * 128 + (x 1).val)
    (hw : ∀ p k : Fin 128, w (ValueIdx.ix3 0 p k) = (m (c.tc.loc main_arg8) (ValueIdx.ix3 g p k) : EReal)) (hb : ∀ p : Fin 128, b (ValueIdx.ix2 p 0) = (m (c.tc.loc main_arg9) (ValueIdx.ix2 g p) : EReal)) :
    mixed (gate m c t) (norm m c t) w b a g x
      = mixes m c i := by
  have ht := point_lt t
  obtain ⟨p, q, rfl⟩ := Sums.pair x
  obtain ⟨r, s, rfl⟩ := Sums.pair i
  have h0 : r.val = t.val * 256 + (a.val * 128 + p.val) := h0
  have h1 : s.val = g.val * 128 + q.val := h1
  unfold mixed
  rw [gate_eq]
  simp only [norm_eq]
  refine Eq.trans ?_ (congrArg (fun e : EReal => gates m c (ValueIdx.ix2 r s) * e) (v92_apply (arg2 m c) (arg6 m c) (arg7 m c) (arg8 m c) (arg9 m c) r s)).symm
  have eg : (⟨s.val / 128, by omega⟩ : Fin 8) = g := Fin.ext (by dsimp only; omega)
  have ep : (⟨r.val % 128, by omega⟩ : Fin 128) = p := Fin.ext (by dsimp only; omega)
  have er : ∀ k : Fin 128, (⟨r.val / 128 * 128 + k.val, by omega⟩ : Fin 4096) = row t ⟨a.val * 128 + k.val, by omega⟩ := fun k => Fin.ext (by dsimp only; omega)
  have es : (⟨g.val * 128 + q.val, by omega⟩ : Fin 1024) = s := Fin.ext h1.symm
  have er' : row t ⟨a.val * 128 + p.val, by omega⟩ = r := Fin.ext h0.symm
  rw [eg, ep]
  simp only [er]
  refine congrArg₂ (· * ·) ?_ (congrArg₂ (· + ·) (Sums.sum_swap (fun k => hw p k) fun k => ?_) (hb p))
  · exact congrArg₂ (fun e f => gates m c (ValueIdx.ix2 e f)) er' es
  · exact congrArg (fun f => norms m c (ValueIdx.ix2 _ f)) es

/-- The mixed rows are the reference's. -/
theorem final_13 (c : Dev nD) : (dats m 0 c).arrAt 13 cfg0.N = mixes m c := by
  refine (dats m 0 c).arrAt_eq_of_covers 13 _ (by decide +kernel) fun t hf y => ?_
  blk_simp
  rw [after0_13]
  have e0 : ((((View.whole main_v14_1).slice (win0_13.rect t)).emb y) 0).val = t.val * 256 + (y 0).val := by blk_simp [idx13]
  have e1 : ((((View.whole main_v14_1).slice (win0_13.rect t)).emb y) 1).val = (y 1).val := by blk_simp [idx13]
  generalize ((View.whole main_v14_1).slice (win0_13.rect t)).emb y = i at e0 e1 ⊢
  unfold outsAt0
  frame_out
  canon_tiles x h
  · exact (tile17 _ _ _ _ x).trans (tile m c t _ _ 1 7 x i (by show _ = t.val * 256 + (1 * 128 + (x 0).val); omega) (by show _ = 7 * 128 + (x 1).val; omega) (weights m c t 7 _) (bias m c t 7 _))
  · exact (tile16 _ _ _ _ x).trans (tile m c t _ _ 1 6 x i (by show _ = t.val * 256 + (1 * 128 + (x 0).val); omega) (by show _ = 6 * 128 + (x 1).val; omega) (weights m c t 6 _) (bias m c t 6 _))
  · exact (tile15 _ _ _ _ x).trans (tile m c t _ _ 1 5 x i (by show _ = t.val * 256 + (1 * 128 + (x 0).val); omega) (by show _ = 5 * 128 + (x 1).val; omega) (weights m c t 5 _) (bias m c t 5 _))
  · exact (tile14 _ _ _ _ x).trans (tile m c t _ _ 1 4 x i (by show _ = t.val * 256 + (1 * 128 + (x 0).val); omega) (by show _ = 4 * 128 + (x 1).val; omega) (weights m c t 4 _) (bias m c t 4 _))
  · exact (tile13 _ _ _ _ x).trans (tile m c t _ _ 1 3 x i (by show _ = t.val * 256 + (1 * 128 + (x 0).val); omega) (by show _ = 3 * 128 + (x 1).val; omega) (weights m c t 3 _) (bias m c t 3 _))
  · exact (tile12 _ _ _ _ x).trans (tile m c t _ _ 1 2 x i (by show _ = t.val * 256 + (1 * 128 + (x 0).val); omega) (by show _ = 2 * 128 + (x 1).val; omega) (weights m c t 2 _) (bias m c t 2 _))
  · exact (tile11 _ _ _ _ x).trans (tile m c t _ _ 1 1 x i (by show _ = t.val * 256 + (1 * 128 + (x 0).val); omega) (by show _ = 1 * 128 + (x 1).val; omega) (weights m c t 1 _) (bias m c t 1 _))
  · exact (tile10 _ _ _ _ x).trans (tile m c t _ _ 1 0 x i (by show _ = t.val * 256 + (1 * 128 + (x 0).val); omega) (by show _ = 0 * 128 + (x 1).val; omega) (weights m c t 0 _) (bias m c t 0 _))
  · exact (tile07 _ _ _ _ x).trans (tile m c t _ _ 0 7 x i (by show _ = t.val * 256 + (0 * 128 + (x 0).val); omega) (by show _ = 7 * 128 + (x 1).val; omega) (weights m c t 7 _) (bias m c t 7 _))
  · exact (tile06 _ _ _ _ x).trans (tile m c t _ _ 0 6 x i (by show _ = t.val * 256 + (0 * 128 + (x 0).val); omega) (by show _ = 6 * 128 + (x 1).val; omega) (weights m c t 6 _) (bias m c t 6 _))
  · exact (tile05 _ _ _ _ x).trans (tile m c t _ _ 0 5 x i (by show _ = t.val * 256 + (0 * 128 + (x 0).val); omega) (by show _ = 5 * 128 + (x 1).val; omega) (weights m c t 5 _) (bias m c t 5 _))
  · exact (tile04 _ _ _ _ x).trans (tile m c t _ _ 0 4 x i (by show _ = t.val * 256 + (0 * 128 + (x 0).val); omega) (by show _ = 4 * 128 + (x 1).val; omega) (weights m c t 4 _) (bias m c t 4 _))
  · exact (tile03 _ _ _ _ x).trans (tile m c t _ _ 0 3 x i (by show _ = t.val * 256 + (0 * 128 + (x 0).val); omega) (by show _ = 3 * 128 + (x 1).val; omega) (weights m c t 3 _) (bias m c t 3 _))
  · exact (tile02 _ _ _ _ x).trans (tile m c t _ _ 0 2 x i (by show _ = t.val * 256 + (0 * 128 + (x 0).val); omega) (by show _ = 2 * 128 + (x 1).val; omega) (weights m c t 2 _) (bias m c t 2 _))
  · exact (tile01 _ _ _ _ x).trans (tile m c t _ _ 0 1 x i (by show _ = t.val * 256 + (0 * 128 + (x 0).val); omega) (by show _ = 1 * 128 + (x 1).val; omega) (weights m c t 1 _) (bias m c t 1 _))
  · exact (tile00 _ _ _ _ x).trans (tile m c t _ _ 0 0 x i (by show _ = t.val * 256 + (0 * 128 + (x 0).val); omega) (by show _ = 0 * 128 + (x 1).val; omega) (weights m c t 0 _) (bias m c t 0 _))

end Cert.Kernel26Ideal.RefValue

end
-- ==== Proof.MixForwardClaim.lean ====
/- The value claim of the forward mixing. -/
module

public import proofs.«01_k».proof.Defs
public import proofs.«01_k».proof.Proof.MixForward

@[expose] public section

set_option maxRecDepth 16384

noncomputable section

namespace Cert.Kernel26Ideal.RefValue

open Kernel26Ideal Kernel26Ideal.Gen Idealize.ShloMosaic Idealize.ShloMosaic.TcCoe Idealize.SL.Sem
open Reference26Ideal.Read

/-- The reference runs, keeps its arguments, and leaves every semaphore at zero. -/
theorem reference_quiescent [hR : Reference26Ideal.Facts] : Cert.quiescent_Reference26Ideal (hReference26Ideal := hR) := by
  intro m ρ _
  refine (θ_run Reference26Ideal.defs _ _).mono (fun r h => ⟨fun c => ?_, sem_eq_zero_of_no_sems (by decide) r.2⟩)
    (Reference26Ideal.Value.run (F := Ideal) m ρ)
  exact (h c).2.2

/-- Both programs, from memories agreeing on the arguments, run and end with equal results. -/
theorem algebraic [hK : Kernel26Ideal.Facts] [hR : Reference26Ideal.Facts] :
    Cert.algebraic_Kernel26Ideal_Reference26Ideal (hKernel26Ideal := hK) (hReference26Ideal := hR) := by
  intro m ρ m' ρ' _ hagree
  refine ⟨fun c => val_main_v94 (F := Ideal) (m (c.tc.loc main_arg0)) (m (c.tc.loc main_arg1)) (m (c.tc.loc main_arg2)) (m (c.tc.loc main_arg3)) (m (c.tc.loc main_arg4)) (m (c.tc.loc main_arg5)), fun c => val_main_v95 (F := Ideal) (m (c.tc.loc main_arg2)) (m (c.tc.loc main_arg6)) (m (c.tc.loc main_arg7)) (m (c.tc.loc main_arg8)) (m (c.tc.loc main_arg9)), ?_, ?_⟩
  · refine (θ_run Kernel26Ideal.defs _ _).mono (fun r h c => ?_) (Kernel26Ideal.Value.run_blocks m ρ)
    obtain ⟨h0, h1, hk⟩ := h c
    exact ⟨h0.trans (final_12 m c), h1.trans (final_13 m c), hk⟩
  · refine (θ_run Reference26Ideal.defs _ _).mono (fun r h c => ?_) (Reference26Ideal.Value.run (F := Ideal) m' ρ')
    obtain ⟨h0, h1, hk⟩ := h c
    obtain ⟨e0, e1, e2, e3, e4, e5, e6, e7, e8, e9⟩ := hagree c
    refine ⟨h0.trans ?_, h1.trans ?_, hk⟩
    · refine (val_main_v94_eq _ _).trans ?_
      show val_main_v94 (F := Ideal) (m' (c.tc.loc Reference26Ideal.main_arg0)) (m' (c.tc.loc Reference26Ideal.main_arg1)) (m' (c.tc.loc Reference26Ideal.main_arg2)) (m' (c.tc.loc Reference26Ideal.main_arg3)) (m' (c.tc.loc Reference26Ideal.main_arg4)) (m' (c.tc.loc Reference26Ideal.main_arg5)) = _
      rw [e0, e1, e2, e3, e4, e5]
    · refine (val_main_v95_eq _ _).trans ?_
      show val_main_v95 (F := Ideal) (m' (c.tc.loc Reference26Ideal.main_arg2)) (m' (c.tc.loc Reference26Ideal.main_arg6)) (m' (c.tc.loc Reference26Ideal.main_arg7)) (m' (c.tc.loc Reference26Ideal.main_arg8)) (m' (c.tc.loc Reference26Ideal.main_arg9)) = _
      rw [e2, e6, e7, e8, e9]

end Cert.Kernel26Ideal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.LatentSame
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.MergeClaim
public import proofs.«01_k».proof.Proof.GluBackwardClaim
public import proofs.«01_k».proof.Proof.GluForwardClaim
public import proofs.«01_k».proof.Proof.GluWeightsClaim
public import proofs.«01_k».proof.Proof.FfOutWeightClaim
public import proofs.«01_k».proof.Proof.ProjectionWeightClaim
public import proofs.«01_k».proof.Proof.InWeightClaim
public import proofs.«01_k».proof.Proof.InProjectionClaim
public import proofs.«01_k».proof.Proof.MergeForwardClaim
public import proofs.«01_k».proof.Proof.ResidualBackwardClaim
public import proofs.«01_k».proof.Proof.LossBackwardClaim
public import proofs.«01_k».proof.Proof.LatentBackwardClaim
public import proofs.«01_k».proof.Proof.FfOptimiserClaim
public import proofs.«01_k».proof.Proof.InOptimiserClaim
public import proofs.«01_k».proof.Proof.SsdProjectionOptimiserClaim
public import proofs.«01_k».proof.Proof.GmProjectionOptimiserClaim
public import proofs.«01_k».proof.Proof.OutOptimiserClaim
public import proofs.«01_k».proof.Proof.AdaOptimiserClaim
public import proofs.«01_k».proof.Proof.SmallOptimiserClaim
public import proofs.«01_k».proof.Proof.SmallSumClaim
public import proofs.«01_k».proof.Proof.SpatialSumClaim
public import proofs.«01_k».proof.Proof.AdaForwardClaim
public import proofs.«01_k».proof.Proof.EntryNormClaim
public import proofs.«01_k».proof.Proof.AdaBackwardClaim
public import proofs.«01_k».proof.Proof.DtBackwardClaim
public import proofs.«01_k».proof.Proof.MixForwardClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Kernel23.Gen.facts,
    Cert.Kernel23Ideal.Gen.facts,
    Cert.Reference23Ideal.Gen.facts,
    Cert.Kernel24.Gen.facts,
    Cert.Kernel24Ideal.Gen.facts,
    Cert.Reference24Ideal.Gen.facts,
    Cert.Kernel25.Gen.facts,
    Cert.Kernel25Ideal.Gen.facts,
    Cert.Reference25Ideal.Gen.facts,
    Cert.Kernel26.Gen.facts,
    Cert.Kernel26Ideal.Gen.facts,
    Cert.Reference26Ideal.Gen.facts,
    Cert.Kernel2Ideal.RefValue.precondition_facts,
    Cert.Kernel10Ideal.RefValue.precondition_facts,
    Cert.Kernel11Ideal.RefValue.precondition_facts,
    Cert.Kernel12Ideal.RefValue.precondition_facts,
    Cert.Kernel24Ideal.RefValue.precondition_facts,
    fun m ρ _ => Cert.Kernel.Gen.frame m ρ,
    fun m ρ _ => Cert.KernelIdeal.Gen.frame m ρ,
    Cert.KernelIdeal.RefValue.reference_quiescent,
    fun m ρ _ => Cert.Kernel2.Gen.frame m ρ,
    fun m ρ _ => Cert.Kernel2Ideal.Gen.frame m ρ,
    fun m ρ _ => Cert.Kernel2Ideal.Gen.frame m ρ,
    Cert.Kernel2Ideal.RefValue.reference_quiescent,
    fun m ρ _ => Cert.Kernel2Ideal.RefValue.reference_quiescent m ρ trivial,
    fun m ρ _ => Cert.Kernel3.Gen.frame m ρ,
    fun m ρ _ => Cert.Kernel3Ideal.Gen.frame m ρ,
    Cert.Kernel3Ideal.RefValue.reference_quiescent,
    fun m ρ _ => Cert.Kernel4.Gen.frame m ρ,
    fun m ρ _ => Cert.Kernel4Ideal.Gen.frame m ρ,
    Cert.Kernel4Ideal.RefValue.reference_quiescent,
    fun m ρ _ => Cert.Kernel5.Gen.frame m ρ,
    fun m ρ _ => Cert.Kernel5Ideal.Gen.frame m ρ,
    Cert.Kernel5Ideal.RefValue.reference_quiescent,
    fun m ρ _ => Cert.Kernel6.Gen.frame m ρ,
    fun m ρ _ => Cert.Kernel6Ideal.Gen.frame m ρ,
    Cert.Kernel6Ideal.RefValue.reference_quiescent,
    fun m ρ _ => Cert.Kernel7.Gen.frame m ρ,
    fun m ρ _ => Cert.Kernel7Ideal.Gen.frame m ρ,
    Cert.Kernel7Ideal.RefValue.reference_quiescent,
    fun m ρ _ => Cert.Kernel8.Gen.frame m ρ,
    fun m ρ _ => Cert.Kernel8Ideal.Gen.frame m ρ,
    Cert.Kernel8Ideal.RefValue.reference_quiescent,
    fun m ρ _ => Cert.Kernel9.Gen.frame m ρ,
    fun m ρ _ => Cert.Kernel9Ideal.Gen.frame m ρ,
    Cert.Kernel9Ideal.RefValue.reference_quiescent,
    fun m ρ _ => Cert.Kernel10.Gen.frame m ρ,
    fun m ρ _ => Cert.Kernel10Ideal.Gen.frame m ρ,
    fun m ρ _ => Cert.Kernel10Ideal.Gen.frame m ρ,
    Cert.Kernel10Ideal.RefValue.reference_quiescent,
    fun m ρ _ => Cert.Kernel10Ideal.RefValue.reference_quiescent m ρ trivial,
    fun m ρ _ => Cert.Kernel11.Gen.frame m ρ,
    fun m ρ _ => Cert.Kernel11Ideal.Gen.frame m ρ,
    fun m ρ _ => Cert.Kernel11Ideal.Gen.frame m ρ,
    Cert.Kernel11Ideal.RefValue.reference_quiescent,
    fun m ρ _ => Cert.Kernel11Ideal.RefValue.reference_quiescent m ρ trivial,
    Cert.Kernel12.frame_same,
    fun m ρ _ => Cert.Kernel12Ideal.Gen.Latent.frame m ρ,
    fun m ρ _ => Cert.Kernel12Ideal.Gen.Latent.frame m ρ,
    Cert.Kernel12Ideal.RefValue.reference_quiescent,
    fun m ρ _ => Cert.Kernel12Ideal.RefValue.reference_quiescent m ρ trivial,
    fun m ρ _ => Cert.Kernel13.Gen.frame m ρ,
    fun m ρ _ => Cert.Kernel13Ideal.Gen.frame m ρ,
    Cert.Kernel13Ideal.RefValue.reference_quiescent,
    fun m ρ _ => Cert.Kernel14.Gen.frame m ρ,
    fun m ρ _ => Cert.Kernel14Ideal.Gen.frame m ρ,
    Cert.Kernel14Ideal.RefValue.reference_quiescent,
    fun m ρ _ => Cert.Kernel15.Gen.frame m ρ,
    fun m ρ _ => Cert.Kernel15Ideal.Gen.frame m ρ,
    Cert.Kernel15Ideal.RefValue.reference_quiescent,
    fun m ρ _ => Cert.Kernel16.Gen.frame m ρ,
    fun m ρ _ => Cert.Kernel16Ideal.Gen.frame m ρ,
    Cert.Kernel16Ideal.RefValue.reference_quiescent,
    fun m ρ _ => Cert.Kernel17.Gen.frame m ρ,
    fun m ρ _ => Cert.Kernel17Ideal.Gen.frame m ρ,
    Cert.Kernel17Ideal.RefValue.reference_quiescent,
    fun m ρ _ => Cert.Kernel18.Gen.frame m ρ,
    fun m ρ _ => Cert.Kernel18Ideal.Gen.frame m ρ,
    Cert.Kernel18Ideal.RefValue.reference_quiescent,
    fun m ρ _ => Cert.Kernel19.Gen.frame m ρ,
    fun m ρ _ => Cert.Kernel19Ideal.Gen.frame m ρ,
    Cert.Kernel19Ideal.RefValue.reference_quiescent,
    fun m ρ _ => Cert.Kernel20.Gen.frame m ρ,
    fun m ρ _ => Cert.Kernel20Ideal.Gen.frame m ρ,
    Cert.Kernel20Ideal.RefValue.reference_quiescent,
    fun m ρ _ => Cert.Kernel21.Gen.frame m ρ,
    fun m ρ _ => Cert.Kernel21Ideal.Gen.frame m ρ,
    Cert.Kernel21Ideal.RefValue.reference_quiescent,
    fun m ρ _ => Cert.Kernel22.Gen.frame m ρ,
    fun m ρ _ => Cert.Kernel22Ideal.Gen.frame m ρ,
    Cert.Kernel22Ideal.RefValue.reference_quiescent,
    fun m ρ _ => Cert.Kernel23.Gen.frame m ρ,
    fun m ρ _ => Cert.Kernel23Ideal.Gen.frame m ρ,
    Cert.Kernel23Ideal.RefValue.reference_quiescent,
    fun m ρ _ => Cert.Kernel24.Gen.frame m ρ,
    fun m ρ _ => Cert.Kernel24Ideal.Gen.frame m ρ,
    fun m ρ _ => Cert.Kernel24Ideal.Gen.frame m ρ,
    Cert.Kernel24Ideal.RefValue.reference_quiescent,
    fun m ρ _ => Cert.Kernel24Ideal.RefValue.reference_quiescent m ρ trivial,
    fun m ρ _ => Cert.Kernel25.Gen.frame m ρ,
    fun m ρ _ => Cert.Kernel25Ideal.Gen.frame m ρ,
    Cert.Kernel25Ideal.RefValue.reference_quiescent,
    fun m ρ _ => Cert.Kernel26.Gen.frame m ρ,
    fun m ρ _ => Cert.Kernel26Ideal.Gen.frame m ρ,
    Cert.Kernel26Ideal.RefValue.reference_quiescent,
    trivial,
    Cert.KernelIdeal.RefValue.algebraic,
    trivial,
    (haveI := Cert.Kernel2Ideal.RefValue.precondition_facts; Cert.Kernel2Ideal.RefValue.algebraic),
    trivial,
    Cert.Kernel3Ideal.RefValue.algebraic,
    trivial,
    Cert.Kernel4Ideal.RefValue.algebraic,
    trivial,
    Cert.Kernel5Ideal.RefValue.algebraic,
    trivial,
    Cert.Kernel6Ideal.RefValue.algebraic,
    trivial,
    Cert.Kernel7Ideal.RefValue.algebraic,
    trivial,
    Cert.Kernel8Ideal.RefValue.algebraic,
    trivial,
    Cert.Kernel9Ideal.RefValue.algebraic,
    trivial,
    (haveI := Cert.Kernel10Ideal.RefValue.precondition_facts; Cert.Kernel10Ideal.RefValue.algebraic),
    trivial,
    (haveI := Cert.Kernel11Ideal.RefValue.precondition_facts; Cert.Kernel11Ideal.RefValue.algebraic),
    trivial,
    (haveI := Cert.Kernel12Ideal.RefValue.precondition_facts; Cert.Kernel12Ideal.RefValue.algebraic),
    trivial,
    Cert.Kernel13Ideal.RefValue.algebraic,
    trivial,
    Cert.Kernel14Ideal.RefValue.algebraic,
    trivial,
    Cert.Kernel15Ideal.RefValue.algebraic,
    trivial,
    Cert.Kernel16Ideal.RefValue.algebraic,
    trivial,
    Cert.Kernel17Ideal.RefValue.algebraic,
    trivial,
    Cert.Kernel18Ideal.RefValue.algebraic,
    trivial,
    Cert.Kernel19Ideal.RefValue.algebraic,
    trivial,
    Cert.Kernel20Ideal.RefValue.algebraic,
    trivial,
    Cert.Kernel21Ideal.RefValue.algebraic,
    trivial,
    Cert.Kernel22Ideal.RefValue.algebraic,
    trivial,
    Cert.Kernel23Ideal.RefValue.algebraic,
    trivial,
    (haveI := Cert.Kernel24Ideal.RefValue.precondition_facts; Cert.Kernel24Ideal.RefValue.algebraic),
    trivial,
    Cert.Kernel25Ideal.RefValue.algebraic,
    trivial,
    Cert.Kernel26Ideal.RefValue.algebraic⟩

end Cert.Proof

end
